-- ==== Defs.lean ====
def Pre_MlpBlock (m : (ℓ : Loc Cert.MlpBlock.nD Cert.MlpBlock.τ Cert.MlpBlock.sig) → Buf (Elt Bits) ℓ) : Prop :=
  True

def Pre_MlpBlockIdeal (m : (ℓ : Loc Cert.MlpBlockIdeal.nD Cert.MlpBlockIdeal.τ Cert.MlpBlockIdeal.sig) → Buf (Elt Ideal) ℓ) : Prop :=
  True

def Pre_MlpBlockIdeal_finite [hPre_finite : Cert.Pre_finite.Facts] (m : (ℓ : Loc Cert.MlpBlockIdeal.nD Cert.MlpBlockIdeal.τ Cert.MlpBlockIdeal.sig) → Buf (Elt Ideal) ℓ) : Prop :=
  ∀ c : Dev Cert.MlpBlockIdeal.nD,
    (Cert.Pre_finite.fn (F := Ideal) (m ((c.tc : Thread Cert.MlpBlockIdeal.nD Cert.MlpBlockIdeal.τ).loc Cert.MlpBlockIdeal.main_arg0)) (m ((c.tc : Thread Cert.MlpBlockIdeal.nD Cert.MlpBlockIdeal.τ).loc Cert.MlpBlockIdeal.main_arg1)) (m ((c.tc : Thread Cert.MlpBlockIdeal.nD Cert.MlpBlockIdeal.τ).loc Cert.MlpBlockIdeal.main_arg2)) (m ((c.tc : Thread Cert.MlpBlockIdeal.nD Cert.MlpBlockIdeal.τ).loc Cert.MlpBlockIdeal.main_arg3)) (m ((c.tc : Thread Cert.MlpBlockIdeal.nD Cert.MlpBlockIdeal.τ).loc Cert.MlpBlockIdeal.main_arg4)) (m ((c.tc : Thread Cert.MlpBlockIdeal.nD Cert.MlpBlockIdeal.τ).loc Cert.MlpBlockIdeal.main_arg5)) (m ((c.tc : Thread Cert.MlpBlockIdeal.nD Cert.MlpBlockIdeal.τ).loc Cert.MlpBlockIdeal.main_arg6)) (m ((c.tc : Thread Cert.MlpBlockIdeal.nD Cert.MlpBlockIdeal.τ).loc Cert.MlpBlockIdeal.main_arg7)) (m ((c.tc : Thread Cert.MlpBlockIdeal.nD Cert.MlpBlockIdeal.τ).loc Cert.MlpBlockIdeal.main_arg8))) = (fun _ => 1#1)

def Pre_MlpBlockRefIdeal (m : (ℓ : Loc Cert.MlpBlockRefIdeal.nD Cert.MlpBlockRefIdeal.τ Cert.MlpBlockRefIdeal.sig) → Buf (Elt Ideal) ℓ) : Prop :=
  True

def Pre_MlpBlockRefIdeal_finite [hPre_finite : Cert.Pre_finite.Facts] (m : (ℓ : Loc Cert.MlpBlockRefIdeal.nD Cert.MlpBlockRefIdeal.τ Cert.MlpBlockRefIdeal.sig) → Buf (Elt Ideal) ℓ) : Prop :=
  ∀ c : Dev Cert.MlpBlockRefIdeal.nD,
    (Cert.Pre_finite.fn (F := Ideal) (m ((c.tc : Thread Cert.MlpBlockRefIdeal.nD Cert.MlpBlockRefIdeal.τ).loc Cert.MlpBlockRefIdeal.main_arg0)) (m ((c.tc : Thread Cert.MlpBlockRefIdeal.nD Cert.MlpBlockRefIdeal.τ).loc Cert.MlpBlockRefIdeal.main_arg1)) (m ((c.tc : Thread Cert.MlpBlockRefIdeal.nD Cert.MlpBlockRefIdeal.τ).loc Cert.MlpBlockRefIdeal.main_arg2)) (m ((c.tc : Thread Cert.MlpBlockRefIdeal.nD Cert.MlpBlockRefIdeal.τ).loc Cert.MlpBlockRefIdeal.main_arg3)) (m ((c.tc : Thread Cert.MlpBlockRefIdeal.nD Cert.MlpBlockRefIdeal.τ).loc Cert.MlpBlockRefIdeal.main_arg4)) (m ((c.tc : Thread Cert.MlpBlockRefIdeal.nD Cert.MlpBlockRefIdeal.τ).loc Cert.MlpBlockRefIdeal.main_arg5)) (m ((c.tc : Thread Cert.MlpBlockRefIdeal.nD Cert.MlpBlockRefIdeal.τ).loc Cert.MlpBlockRefIdeal.main_arg6)) (m ((c.tc : Thread Cert.MlpBlockRefIdeal.nD Cert.MlpBlockRefIdeal.τ).loc Cert.MlpBlockRefIdeal.main_arg7)) (m ((c.tc : Thread Cert.MlpBlockRefIdeal.nD Cert.MlpBlockRefIdeal.τ).loc Cert.MlpBlockRefIdeal.main_arg8))) = (fun _ => 1#1)

def Pre_GradW2 (m : (ℓ : Loc Cert.GradW2.nD Cert.GradW2.τ Cert.GradW2.sig) → Buf (Elt Bits) ℓ) : Prop :=
  True

def Pre_GradW2Ideal (m : (ℓ : Loc Cert.GradW2Ideal.nD Cert.GradW2Ideal.τ Cert.GradW2Ideal.sig) → Buf (Elt Ideal) ℓ) : Prop :=
  True

def Pre_GradW2RefIdeal (m : (ℓ : Loc Cert.GradW2RefIdeal.nD Cert.GradW2RefIdeal.τ Cert.GradW2RefIdeal.sig) → Buf (Elt Ideal) ℓ) : Prop :=
  True

def Pre_GradW1 (m : (ℓ : Loc Cert.GradW1.nD Cert.GradW1.τ Cert.GradW1.sig) → Buf (Elt Bits) ℓ) : Prop :=
  True

def Pre_GradW1Ideal (m : (ℓ : Loc Cert.GradW1Ideal.nD Cert.GradW1Ideal.τ Cert.GradW1Ideal.sig) → Buf (Elt Ideal) ℓ) : Prop :=
  True

def Pre_GradW1RefIdeal (m : (ℓ : Loc Cert.GradW1RefIdeal.nD Cert.GradW1RefIdeal.τ Cert.GradW1RefIdeal.sig) → Buf (Elt Ideal) ℓ) : Prop :=
  True

def Pre_GradWOut (m : (ℓ : Loc Cert.GradWOut.nD Cert.GradWOut.τ Cert.GradWOut.sig) → Buf (Elt Bits) ℓ) : Prop :=
  True

def Pre_GradWOutIdeal (m : (ℓ : Loc Cert.GradWOutIdeal.nD Cert.GradWOutIdeal.τ Cert.GradWOutIdeal.sig) → Buf (Elt Ideal) ℓ) : Prop :=
  True

def Pre_GradWOutRefIdeal (m : (ℓ : Loc Cert.GradWOutRefIdeal.nD Cert.GradWOutRefIdeal.τ Cert.GradWOutRefIdeal.sig) → Buf (Elt Ideal) ℓ) : Prop :=
  True

def Pre_GradZ (m : (ℓ : Loc Cert.GradZ.nD Cert.GradZ.τ Cert.GradZ.sig) → Buf (Elt Bits) ℓ) : Prop :=
  True

def Pre_GradZIdeal (m : (ℓ : Loc Cert.GradZIdeal.nD Cert.GradZIdeal.τ Cert.GradZIdeal.sig) → Buf (Elt Ideal) ℓ) : Prop :=
  True

def Pre_GradZRefIdeal (m : (ℓ : Loc Cert.GradZRefIdeal.nD Cert.GradZRefIdeal.τ Cert.GradZRefIdeal.sig) → Buf (Elt Ideal) ℓ) : Prop :=
  True

def Pre_GradXbc (m : (ℓ : Loc Cert.GradXbc.nD Cert.GradXbc.τ Cert.GradXbc.sig) → Buf (Elt Bits) ℓ) : Prop :=
  True

def Pre_GradXbcIdeal (m : (ℓ : Loc Cert.GradXbcIdeal.nD Cert.GradXbcIdeal.τ Cert.GradXbcIdeal.sig) → Buf (Elt Ideal) ℓ) : Prop :=
  True

def Pre_GradXbcRefIdeal (m : (ℓ : Loc Cert.GradXbcRefIdeal.nD Cert.GradXbcRefIdeal.τ Cert.GradXbcRefIdeal.sig) → Buf (Elt Ideal) ℓ) : Prop :=
  True

def Pre_GradDt (m : (ℓ : Loc Cert.GradDt.nD Cert.GradDt.τ Cert.GradDt.sig) → Buf (Elt Bits) ℓ) : Prop :=
  True

def Pre_GradDtIdeal (m : (ℓ : Loc Cert.GradDtIdeal.nD Cert.GradDtIdeal.τ Cert.GradDtIdeal.sig) → Buf (Elt Ideal) ℓ) : Prop :=
  True

def Pre_GradDtRefIdeal (m : (ℓ : Loc Cert.GradDtRefIdeal.nD Cert.GradDtRefIdeal.τ Cert.GradDtRefIdeal.sig) → Buf (Elt Ideal) ℓ) : Prop :=
  True

def Pre_GradS5 (m : (ℓ : Loc Cert.GradS5.nD Cert.GradS5.τ Cert.GradS5.sig) → Buf (Elt Bits) ℓ) : Prop :=
  True

def Pre_GradS5Ideal (m : (ℓ : Loc Cert.GradS5Ideal.nD Cert.GradS5Ideal.τ Cert.GradS5Ideal.sig) → Buf (Elt Ideal) ℓ) : Prop :=
  True

def Pre_GradS5RefIdeal (m : (ℓ : Loc Cert.GradS5RefIdeal.nD Cert.GradS5RefIdeal.τ Cert.GradS5RefIdeal.sig) → Buf (Elt Ideal) ℓ) : Prop :=
  True

def Pre_OutNorm (m : (ℓ : Loc Cert.OutNorm.nD Cert.OutNorm.τ Cert.OutNorm.sig) → Buf (Elt Bits) ℓ) : Prop :=
  True

def Pre_OutNormIdeal (m : (ℓ : Loc Cert.OutNormIdeal.nD Cert.OutNormIdeal.τ Cert.OutNormIdeal.sig) → Buf (Elt Ideal) ℓ) : Prop :=
  True

def Pre_OutNormRefIdeal (m : (ℓ : Loc Cert.OutNormRefIdeal.nD Cert.OutNormRefIdeal.τ Cert.OutNormRefIdeal.sig) → Buf (Elt Ideal) ℓ) : Prop :=
  True

def Pre_NormGrad (m : (ℓ : Loc Cert.NormGrad.nD Cert.NormGrad.τ Cert.NormGrad.sig) → Buf (Elt Bits) ℓ) : Prop :=
  True

def Pre_NormGradIdeal (m : (ℓ : Loc Cert.NormGradIdeal.nD Cert.NormGradIdeal.τ Cert.NormGradIdeal.sig) → Buf (Elt Ideal) ℓ) : Prop :=
  True

def Pre_NormGradIdeal_norm_finite [hPre_norm_finite : Cert.Pre_norm_finite.Facts] (m : (ℓ : Loc Cert.NormGradIdeal.nD Cert.NormGradIdeal.τ Cert.NormGradIdeal.sig) → Buf (Elt Ideal) ℓ) : Prop :=
  ∀ c : Dev Cert.NormGradIdeal.nD,
    (Cert.Pre_norm_finite.fn (F := Ideal) (m ((c.tc : Thread Cert.NormGradIdeal.nD Cert.NormGradIdeal.τ).loc Cert.NormGradIdeal.main_arg0)) (m ((c.tc : Thread Cert.NormGradIdeal.nD Cert.NormGradIdeal.τ).loc Cert.NormGradIdeal.main_arg1)) (m ((c.tc : Thread Cert.NormGradIdeal.nD Cert.NormGradIdeal.τ).loc Cert.NormGradIdeal.main_arg2)) (m ((c.tc : Thread Cert.NormGradIdeal.nD Cert.NormGradIdeal.τ).loc Cert.NormGradIdeal.main_arg3)) (m ((c.tc : Thread Cert.NormGradIdeal.nD Cert.NormGradIdeal.τ).loc Cert.NormGradIdeal.main_arg4)) (m ((c.tc : Thread Cert.NormGradIdeal.nD Cert.NormGradIdeal.τ).loc Cert.NormGradIdeal.main_arg5)) (m ((c.tc : Thread Cert.NormGradIdeal.nD Cert.NormGradIdeal.τ).loc Cert.NormGradIdeal.main_arg6))) = (fun _ => 1#1)

def Pre_NormGradRefIdeal (m : (ℓ : Loc Cert.NormGradRefIdeal.nD Cert.NormGradRefIdeal.τ Cert.NormGradRefIdeal.sig) → Buf (Elt Ideal) ℓ) : Prop :=
  True

def Pre_NormGradRefIdeal_norm_finite [hPre_norm_finite : Cert.Pre_norm_finite.Facts] (m : (ℓ : Loc Cert.NormGradRefIdeal.nD Cert.NormGradRefIdeal.τ Cert.NormGradRefIdeal.sig) → Buf (Elt Ideal) ℓ) : Prop :=
  ∀ c : Dev Cert.NormGradRefIdeal.nD,
    (Cert.Pre_norm_finite.fn (F := Ideal) (m ((c.tc : Thread Cert.NormGradRefIdeal.nD Cert.NormGradRefIdeal.τ).loc Cert.NormGradRefIdeal.main_arg0)) (m ((c.tc : Thread Cert.NormGradRefIdeal.nD Cert.NormGradRefIdeal.τ).loc Cert.NormGradRefIdeal.main_arg1)) (m ((c.tc : Thread Cert.NormGradRefIdeal.nD Cert.NormGradRefIdeal.τ).loc Cert.NormGradRefIdeal.main_arg2)) (m ((c.tc : Thread Cert.NormGradRefIdeal.nD Cert.NormGradRefIdeal.τ).loc Cert.NormGradRefIdeal.main_arg3)) (m ((c.tc : Thread Cert.NormGradRefIdeal.nD Cert.NormGradRefIdeal.τ).loc Cert.NormGradRefIdeal.main_arg4)) (m ((c.tc : Thread Cert.NormGradRefIdeal.nD Cert.NormGradRefIdeal.τ).loc Cert.NormGradRefIdeal.main_arg5)) (m ((c.tc : Thread Cert.NormGradRefIdeal.nD Cert.NormGradRefIdeal.τ).loc Cert.NormGradRefIdeal.main_arg6))) = (fun _ => 1#1)

def Pre_ProjConv (m : (ℓ : Loc Cert.ProjConv.nD Cert.ProjConv.τ Cert.ProjConv.sig) → Buf (Elt Bits) ℓ) : Prop :=
  True

def Pre_ProjConvIdeal (m : (ℓ : Loc Cert.ProjConvIdeal.nD Cert.ProjConvIdeal.τ Cert.ProjConvIdeal.sig) → Buf (Elt Ideal) ℓ) : Prop :=
  True

def Pre_ProjConvRefIdeal (m : (ℓ : Loc Cert.ProjConvRefIdeal.nD Cert.ProjConvRefIdeal.τ Cert.ProjConvRefIdeal.sig) → Buf (Elt Ideal) ℓ) : Prop :=
  True

def quiescent_MlpBlock [hMlpBlock : Cert.MlpBlock.Facts] : Prop :=
  ∀ (m : (ℓ : Loc Cert.MlpBlock.nD Cert.MlpBlock.τ Cert.MlpBlock.sig) → Buf (Elt Bits) ℓ) (g : Dev Cert.MlpBlock.nD → PrngReg), Pre_MlpBlock m →
    θ_run (Cert.MlpBlock.defs (F := Bits)) (onTc (τ := Cert.MlpBlock.τ) (Cert.MlpBlock.main (F := Bits))) ⟨m, fun _ => 0, g⟩ (fun r => (∀ c : Dev Cert.MlpBlock.nD,
      r.2.mem ((c.tc : Thread Cert.MlpBlock.nD Cert.MlpBlock.τ).loc Cert.MlpBlock.main_arg0) = m ((c.tc : Thread Cert.MlpBlock.nD Cert.MlpBlock.τ).loc Cert.MlpBlock.main_arg0)
      ∧ r.2.mem ((c.tc : Thread Cert.MlpBlock.nD Cert.MlpBlock.τ).loc Cert.MlpBlock.main_arg1) = m ((c.tc : Thread Cert.MlpBlock.nD Cert.MlpBlock.τ).loc Cert.MlpBlock.main_arg1)
      ∧ r.2.mem ((c.tc : Thread Cert.MlpBlock.nD Cert.MlpBlock.τ).loc Cert.MlpBlock.main_arg2) = m ((c.tc : Thread Cert.MlpBlock.nD Cert.MlpBlock.τ).loc Cert.MlpBlock.main_arg2)
      ∧ r.2.mem ((c.tc : Thread Cert.MlpBlock.nD Cert.MlpBlock.τ).loc Cert.MlpBlock.main_arg3) = m ((c.tc : Thread Cert.MlpBlock.nD Cert.MlpBlock.τ).loc Cert.MlpBlock.main_arg3)
      ∧ r.2.mem ((c.tc : Thread Cert.MlpBlock.nD Cert.MlpBlock.τ).loc Cert.MlpBlock.main_arg4) = m ((c.tc : Thread Cert.MlpBlock.nD Cert.MlpBlock.τ).loc Cert.MlpBlock.main_arg4)
      ∧ r.2.mem ((c.tc : Thread Cert.MlpBlock.nD Cert.MlpBlock.τ).loc Cert.MlpBlock.main_arg5) = m ((c.tc : Thread Cert.MlpBlock.nD Cert.MlpBlock.τ).loc Cert.MlpBlock.main_arg5)
      ∧ r.2.mem ((c.tc : Thread Cert.MlpBlock.nD Cert.MlpBlock.τ).loc Cert.MlpBlock.main_arg6) = m ((c.tc : Thread Cert.MlpBlock.nD Cert.MlpBlock.τ).loc Cert.MlpBlock.main_arg6)
      ∧ r.2.mem ((c.tc : Thread Cert.MlpBlock.nD Cert.MlpBlock.τ).loc Cert.MlpBlock.main_arg7) = m ((c.tc : Thread Cert.MlpBlock.nD Cert.MlpBlock.τ).loc Cert.MlpBlock.main_arg7)
      ∧ r.2.mem ((c.tc : Thread Cert.MlpBlock.nD Cert.MlpBlock.τ).loc Cert.MlpBlock.main_arg8) = m ((c.tc : Thread Cert.MlpBlock.nD Cert.MlpBlock.τ).loc Cert.MlpBlock.main_arg8))
      ∧ r.2.sem = fun _ => 0)

def quiescent_MlpBlockIdeal [hMlpBlockIdeal : Cert.MlpBlockIdeal.Facts] : Prop :=
  ∀ (m : (ℓ : Loc Cert.MlpBlockIdeal.nD Cert.MlpBlockIdeal.τ Cert.MlpBlockIdeal.sig) → Buf (Elt Ideal) ℓ) (g : Dev Cert.MlpBlockIdeal.nD → PrngReg), Pre_MlpBlockIdeal m →
    θ_run (Cert.MlpBlockIdeal.defs (F := Ideal)) (onTc (τ := Cert.MlpBlockIdeal.τ) (Cert.MlpBlockIdeal.main (F := Ideal))) ⟨m, fun _ => 0, g⟩ (fun r => (∀ c : Dev Cert.MlpBlockIdeal.nD,
      r.2.mem ((c.tc : Thread Cert.MlpBlockIdeal.nD Cert.MlpBlockIdeal.τ).loc Cert.MlpBlockIdeal.main_arg0) = m ((c.tc : Thread Cert.MlpBlockIdeal.nD Cert.MlpBlockIdeal.τ).loc Cert.MlpBlockIdeal.main_arg0)
      ∧ r.2.mem ((c.tc : Thread Cert.MlpBlockIdeal.nD Cert.MlpBlockIdeal.τ).loc Cert.MlpBlockIdeal.main_arg1) = m ((c.tc : Thread Cert.MlpBlockIdeal.nD Cert.MlpBlockIdeal.τ).loc Cert.MlpBlockIdeal.main_arg1)
      ∧ r.2.mem ((c.tc : Thread Cert.MlpBlockIdeal.nD Cert.MlpBlockIdeal.τ).loc Cert.MlpBlockIdeal.main_arg2) = m ((c.tc : Thread Cert.MlpBlockIdeal.nD Cert.MlpBlockIdeal.τ).loc Cert.MlpBlockIdeal.main_arg2)
      ∧ r.2.mem ((c.tc : Thread Cert.MlpBlockIdeal.nD Cert.MlpBlockIdeal.τ).loc Cert.MlpBlockIdeal.main_arg3) = m ((c.tc : Thread Cert.MlpBlockIdeal.nD Cert.MlpBlockIdeal.τ).loc Cert.MlpBlockIdeal.main_arg3)
      ∧ r.2.mem ((c.tc : Thread Cert.MlpBlockIdeal.nD Cert.MlpBlockIdeal.τ).loc Cert.MlpBlockIdeal.main_arg4) = m ((c.tc : Thread Cert.MlpBlockIdeal.nD Cert.MlpBlockIdeal.τ).loc Cert.MlpBlockIdeal.main_arg4)
      ∧ r.2.mem ((c.tc : Thread Cert.MlpBlockIdeal.nD Cert.MlpBlockIdeal.τ).loc Cert.MlpBlockIdeal.main_arg5) = m ((c.tc : Thread Cert.MlpBlockIdeal.nD Cert.MlpBlockIdeal.τ).loc Cert.MlpBlockIdeal.main_arg5)
      ∧ r.2.mem ((c.tc : Thread Cert.MlpBlockIdeal.nD Cert.MlpBlockIdeal.τ).loc Cert.MlpBlockIdeal.main_arg6) = m ((c.tc : Thread Cert.MlpBlockIdeal.nD Cert.MlpBlockIdeal.τ).loc Cert.MlpBlockIdeal.main_arg6)
      ∧ r.2.mem ((c.tc : Thread Cert.MlpBlockIdeal.nD Cert.MlpBlockIdeal.τ).loc Cert.MlpBlockIdeal.main_arg7) = m ((c.tc : Thread Cert.MlpBlockIdeal.nD Cert.MlpBlockIdeal.τ).loc Cert.MlpBlockIdeal.main_arg7)
      ∧ r.2.mem ((c.tc : Thread Cert.MlpBlockIdeal.nD Cert.MlpBlockIdeal.τ).loc Cert.MlpBlockIdeal.main_arg8) = m ((c.tc : Thread Cert.MlpBlockIdeal.nD Cert.MlpBlockIdeal.τ).loc Cert.MlpBlockIdeal.main_arg8))
      ∧ r.2.sem = fun _ => 0)

def quiescent_MlpBlockIdeal_pre_finite [hMlpBlockIdeal : Cert.MlpBlockIdeal.Facts] [hPre_finite : Cert.Pre_finite.Facts] : Prop :=
  ∀ (m : (ℓ : Loc Cert.MlpBlockIdeal.nD Cert.MlpBlockIdeal.τ Cert.MlpBlockIdeal.sig) → Buf (Elt Ideal) ℓ) (g : Dev Cert.MlpBlockIdeal.nD → PrngReg), Pre_MlpBlockIdeal_finite m →
    θ_run (Cert.MlpBlockIdeal.defs (F := Ideal)) (onTc (τ := Cert.MlpBlockIdeal.τ) (Cert.MlpBlockIdeal.main (F := Ideal))) ⟨m, fun _ => 0, g⟩ (fun r => (∀ c : Dev Cert.MlpBlockIdeal.nD,
      r.2.mem ((c.tc : Thread Cert.MlpBlockIdeal.nD Cert.MlpBlockIdeal.τ).loc Cert.MlpBlockIdeal.main_arg0) = m ((c.tc : Thread Cert.MlpBlockIdeal.nD Cert.MlpBlockIdeal.τ).loc Cert.MlpBlockIdeal.main_arg0)
      ∧ r.2.mem ((c.tc : Thread Cert.MlpBlockIdeal.nD Cert.MlpBlockIdeal.τ).loc Cert.MlpBlockIdeal.main_arg1) = m ((c.tc : Thread Cert.MlpBlockIdeal.nD Cert.MlpBlockIdeal.τ).loc Cert.MlpBlockIdeal.main_arg1)
      ∧ r.2.mem ((c.tc : Thread Cert.MlpBlockIdeal.nD Cert.MlpBlockIdeal.τ).loc Cert.MlpBlockIdeal.main_arg2) = m ((c.tc : Thread Cert.MlpBlockIdeal.nD Cert.MlpBlockIdeal.τ).loc Cert.MlpBlockIdeal.main_arg2)
      ∧ r.2.mem ((c.tc : Thread Cert.MlpBlockIdeal.nD Cert.MlpBlockIdeal.τ).loc Cert.MlpBlockIdeal.main_arg3) = m ((c.tc : Thread Cert.MlpBlockIdeal.nD Cert.MlpBlockIdeal.τ).loc Cert.MlpBlockIdeal.main_arg3)
      ∧ r.2.mem ((c.tc : Thread Cert.MlpBlockIdeal.nD Cert.MlpBlockIdeal.τ).loc Cert.MlpBlockIdeal.main_arg4) = m ((c.tc : Thread Cert.MlpBlockIdeal.nD Cert.MlpBlockIdeal.τ).loc Cert.MlpBlockIdeal.main_arg4)
      ∧ r.2.mem ((c.tc : Thread Cert.MlpBlockIdeal.nD Cert.MlpBlockIdeal.τ).loc Cert.MlpBlockIdeal.main_arg5) = m ((c.tc : Thread Cert.MlpBlockIdeal.nD Cert.MlpBlockIdeal.τ).loc Cert.MlpBlockIdeal.main_arg5)
      ∧ r.2.mem ((c.tc : Thread Cert.MlpBlockIdeal.nD Cert.MlpBlockIdeal.τ).loc Cert.MlpBlockIdeal.main_arg6) = m ((c.tc : Thread Cert.MlpBlockIdeal.nD Cert.MlpBlockIdeal.τ).loc Cert.MlpBlockIdeal.main_arg6)
      ∧ r.2.mem ((c.tc : Thread Cert.MlpBlockIdeal.nD Cert.MlpBlockIdeal.τ).loc Cert.MlpBlockIdeal.main_arg7) = m ((c.tc : Thread Cert.MlpBlockIdeal.nD Cert.MlpBlockIdeal.τ).loc Cert.MlpBlockIdeal.main_arg7)
      ∧ r.2.mem ((c.tc : Thread Cert.MlpBlockIdeal.nD Cert.MlpBlockIdeal.τ).loc Cert.MlpBlockIdeal.main_arg8) = m ((c.tc : Thread Cert.MlpBlockIdeal.nD Cert.MlpBlockIdeal.τ).loc Cert.MlpBlockIdeal.main_arg8))
      ∧ r.2.sem = fun _ => 0)

def quiescent_MlpBlockRefIdeal [hMlpBlockRefIdeal : Cert.MlpBlockRefIdeal.Facts] : Prop :=
  ∀ (m : (ℓ : Loc Cert.MlpBlockRefIdeal.nD Cert.MlpBlockRefIdeal.τ Cert.MlpBlockRefIdeal.sig) → Buf (Elt Ideal) ℓ) (g : Dev Cert.MlpBlockRefIdeal.nD → PrngReg), Pre_MlpBlockRefIdeal m →
    θ_run (Cert.MlpBlockRefIdeal.defs (F := Ideal)) (onTc (τ := Cert.MlpBlockRefIdeal.τ) (Cert.MlpBlockRefIdeal.main (F := Ideal))) ⟨m, fun _ => 0, g⟩ (fun r => (∀ c : Dev Cert.MlpBlockRefIdeal.nD,
      r.2.mem ((c.tc : Thread Cert.MlpBlockRefIdeal.nD Cert.MlpBlockRefIdeal.τ).loc Cert.MlpBlockRefIdeal.main_arg0) = m ((c.tc : Thread Cert.MlpBlockRefIdeal.nD Cert.MlpBlockRefIdeal.τ).loc Cert.MlpBlockRefIdeal.main_arg0)
      ∧ r.2.mem ((c.tc : Thread Cert.MlpBlockRefIdeal.nD Cert.MlpBlockRefIdeal.τ).loc Cert.MlpBlockRefIdeal.main_arg1) = m ((c.tc : Thread Cert.MlpBlockRefIdeal.nD Cert.MlpBlockRefIdeal.τ).loc Cert.MlpBlockRefIdeal.main_arg1)
      ∧ r.2.mem ((c.tc : Thread Cert.MlpBlockRefIdeal.nD Cert.MlpBlockRefIdeal.τ).loc Cert.MlpBlockRefIdeal.main_arg2) = m ((c.tc : Thread Cert.MlpBlockRefIdeal.nD Cert.MlpBlockRefIdeal.τ).loc Cert.MlpBlockRefIdeal.main_arg2)
      ∧ r.2.mem ((c.tc : Thread Cert.MlpBlockRefIdeal.nD Cert.MlpBlockRefIdeal.τ).loc Cert.MlpBlockRefIdeal.main_arg3) = m ((c.tc : Thread Cert.MlpBlockRefIdeal.nD Cert.MlpBlockRefIdeal.τ).loc Cert.MlpBlockRefIdeal.main_arg3)
      ∧ r.2.mem ((c.tc : Thread Cert.MlpBlockRefIdeal.nD Cert.MlpBlockRefIdeal.τ).loc Cert.MlpBlockRefIdeal.main_arg4) = m ((c.tc : Thread Cert.MlpBlockRefIdeal.nD Cert.MlpBlockRefIdeal.τ).loc Cert.MlpBlockRefIdeal.main_arg4)
      ∧ r.2.mem ((c.tc : Thread Cert.MlpBlockRefIdeal.nD Cert.MlpBlockRefIdeal.τ).loc Cert.MlpBlockRefIdeal.main_arg5) = m ((c.tc : Thread Cert.MlpBlockRefIdeal.nD Cert.MlpBlockRefIdeal.τ).loc Cert.MlpBlockRefIdeal.main_arg5)
      ∧ r.2.mem ((c.tc : Thread Cert.MlpBlockRefIdeal.nD Cert.MlpBlockRefIdeal.τ).loc Cert.MlpBlockRefIdeal.main_arg6) = m ((c.tc : Thread Cert.MlpBlockRefIdeal.nD Cert.MlpBlockRefIdeal.τ).loc Cert.MlpBlockRefIdeal.main_arg6)
      ∧ r.2.mem ((c.tc : Thread Cert.MlpBlockRefIdeal.nD Cert.MlpBlockRefIdeal.τ).loc Cert.MlpBlockRefIdeal.main_arg7) = m ((c.tc : Thread Cert.MlpBlockRefIdeal.nD Cert.MlpBlockRefIdeal.τ).loc Cert.MlpBlockRefIdeal.main_arg7)
      ∧ r.2.mem ((c.tc : Thread Cert.MlpBlockRefIdeal.nD Cert.MlpBlockRefIdeal.τ).loc Cert.MlpBlockRefIdeal.main_arg8) = m ((c.tc : Thread Cert.MlpBlockRefIdeal.nD Cert.MlpBlockRefIdeal.τ).loc Cert.MlpBlockRefIdeal.main_arg8))
      ∧ r.2.sem = fun _ => 0)

def quiescent_MlpBlockRefIdeal_pre_finite [hMlpBlockRefIdeal : Cert.MlpBlockRefIdeal.Facts] [hPre_finite : Cert.Pre_finite.Facts] : Prop :=
  ∀ (m : (ℓ : Loc Cert.MlpBlockRefIdeal.nD Cert.MlpBlockRefIdeal.τ Cert.MlpBlockRefIdeal.sig) → Buf (Elt Ideal) ℓ) (g : Dev Cert.MlpBlockRefIdeal.nD → PrngReg), Pre_MlpBlockRefIdeal_finite m →
    θ_run (Cert.MlpBlockRefIdeal.defs (F := Ideal)) (onTc (τ := Cert.MlpBlockRefIdeal.τ) (Cert.MlpBlockRefIdeal.main (F := Ideal))) ⟨m, fun _ => 0, g⟩ (fun r => (∀ c : Dev Cert.MlpBlockRefIdeal.nD,
      r.2.mem ((c.tc : Thread Cert.MlpBlockRefIdeal.nD Cert.MlpBlockRefIdeal.τ).loc Cert.MlpBlockRefIdeal.main_arg0) = m ((c.tc : Thread Cert.MlpBlockRefIdeal.nD Cert.MlpBlockRefIdeal.τ).loc Cert.MlpBlockRefIdeal.main_arg0)
      ∧ r.2.mem ((c.tc : Thread Cert.MlpBlockRefIdeal.nD Cert.MlpBlockRefIdeal.τ).loc Cert.MlpBlockRefIdeal.main_arg1) = m ((c.tc : Thread Cert.MlpBlockRefIdeal.nD Cert.MlpBlockRefIdeal.τ).loc Cert.MlpBlockRefIdeal.main_arg1)
      ∧ r.2.mem ((c.tc : Thread Cert.MlpBlockRefIdeal.nD Cert.MlpBlockRefIdeal.τ).loc Cert.MlpBlockRefIdeal.main_arg2) = m ((c.tc : Thread Cert.MlpBlockRefIdeal.nD Cert.MlpBlockRefIdeal.τ).loc Cert.MlpBlockRefIdeal.main_arg2)
      ∧ r.2.mem ((c.tc : Thread Cert.MlpBlockRefIdeal.nD Cert.MlpBlockRefIdeal.τ).loc Cert.MlpBlockRefIdeal.main_arg3) = m ((c.tc : Thread Cert.MlpBlockRefIdeal.nD Cert.MlpBlockRefIdeal.τ).loc Cert.MlpBlockRefIdeal.main_arg3)
      ∧ r.2.mem ((c.tc : Thread Cert.MlpBlockRefIdeal.nD Cert.MlpBlockRefIdeal.τ).loc Cert.MlpBlockRefIdeal.main_arg4) = m ((c.tc : Thread Cert.MlpBlockRefIdeal.nD Cert.MlpBlockRefIdeal.τ).loc Cert.MlpBlockRefIdeal.main_arg4)
      ∧ r.2.mem ((c.tc : Thread Cert.MlpBlockRefIdeal.nD Cert.MlpBlockRefIdeal.τ).loc Cert.MlpBlockRefIdeal.main_arg5) = m ((c.tc : Thread Cert.MlpBlockRefIdeal.nD Cert.MlpBlockRefIdeal.τ).loc Cert.MlpBlockRefIdeal.main_arg5)
      ∧ r.2.mem ((c.tc : Thread Cert.MlpBlockRefIdeal.nD Cert.MlpBlockRefIdeal.τ).loc Cert.MlpBlockRefIdeal.main_arg6) = m ((c.tc : Thread Cert.MlpBlockRefIdeal.nD Cert.MlpBlockRefIdeal.τ).loc Cert.MlpBlockRefIdeal.main_arg6)
      ∧ r.2.mem ((c.tc : Thread Cert.MlpBlockRefIdeal.nD Cert.MlpBlockRefIdeal.τ).loc Cert.MlpBlockRefIdeal.main_arg7) = m ((c.tc : Thread Cert.MlpBlockRefIdeal.nD Cert.MlpBlockRefIdeal.τ).loc Cert.MlpBlockRefIdeal.main_arg7)
      ∧ r.2.mem ((c.tc : Thread Cert.MlpBlockRefIdeal.nD Cert.MlpBlockRefIdeal.τ).loc Cert.MlpBlockRefIdeal.main_arg8) = m ((c.tc : Thread Cert.MlpBlockRefIdeal.nD Cert.MlpBlockRefIdeal.τ).loc Cert.MlpBlockRefIdeal.main_arg8))
      ∧ r.2.sem = fun _ => 0)

def quiescent_GradW2 [hGradW2 : Cert.GradW2.Facts] : Prop :=
  ∀ (m : (ℓ : Loc Cert.GradW2.nD Cert.GradW2.τ Cert.GradW2.sig) → Buf (Elt Bits) ℓ) (g : Dev Cert.GradW2.nD → PrngReg), Pre_GradW2 m →
    θ_run (Cert.GradW2.defs (F := Bits)) (onTc (τ := Cert.GradW2.τ) (Cert.GradW2.main (F := Bits))) ⟨m, fun _ => 0, g⟩ (fun r => (∀ c : Dev Cert.GradW2.nD,
      r.2.mem ((c.tc : Thread Cert.GradW2.nD Cert.GradW2.τ).loc Cert.GradW2.main_arg0) = m ((c.tc : Thread Cert.GradW2.nD Cert.GradW2.τ).loc Cert.GradW2.main_arg0)
      ∧ r.2.mem ((c.tc : Thread Cert.GradW2.nD Cert.GradW2.τ).loc Cert.GradW2.main_arg1) = m ((c.tc : Thread Cert.GradW2.nD Cert.GradW2.τ).loc Cert.GradW2.main_arg1))
      ∧ r.2.sem = fun _ => 0)

def quiescent_GradW2Ideal [hGradW2Ideal : Cert.GradW2Ideal.Facts] : Prop :=
  ∀ (m : (ℓ : Loc Cert.GradW2Ideal.nD Cert.GradW2Ideal.τ Cert.GradW2Ideal.sig) → Buf (Elt Ideal) ℓ) (g : Dev Cert.GradW2Ideal.nD → PrngReg), Pre_GradW2Ideal m →
    θ_run (Cert.GradW2Ideal.defs (F := Ideal)) (onTc (τ := Cert.GradW2Ideal.τ) (Cert.GradW2Ideal.main (F := Ideal))) ⟨m, fun _ => 0, g⟩ (fun r => (∀ c : Dev Cert.GradW2Ideal.nD,
      r.2.mem ((c.tc : Thread Cert.GradW2Ideal.nD Cert.GradW2Ideal.τ).loc Cert.GradW2Ideal.main_arg0) = m ((c.tc : Thread Cert.GradW2Ideal.nD Cert.GradW2Ideal.τ).loc Cert.GradW2Ideal.main_arg0)
      ∧ r.2.mem ((c.tc : Thread Cert.GradW2Ideal.nD Cert.GradW2Ideal.τ).loc Cert.GradW2Ideal.main_arg1) = m ((c.tc : Thread Cert.GradW2Ideal.nD Cert.GradW2Ideal.τ).loc Cert.GradW2Ideal.main_arg1))
      ∧ r.2.sem = fun _ => 0)

def quiescent_GradW2RefIdeal [hGradW2RefIdeal : Cert.GradW2RefIdeal.Facts] : Prop :=
  ∀ (m : (ℓ : Loc Cert.GradW2RefIdeal.nD Cert.GradW2RefIdeal.τ Cert.GradW2RefIdeal.sig) → Buf (Elt Ideal) ℓ) (g : Dev Cert.GradW2RefIdeal.nD → PrngReg), Pre_GradW2RefIdeal m →
    θ_run (Cert.GradW2RefIdeal.defs (F := Ideal)) (onTc (τ := Cert.GradW2RefIdeal.τ) (Cert.GradW2RefIdeal.main (F := Ideal))) ⟨m, fun _ => 0, g⟩ (fun r => (∀ c : Dev Cert.GradW2RefIdeal.nD,
      r.2.mem ((c.tc : Thread Cert.GradW2RefIdeal.nD Cert.GradW2RefIdeal.τ).loc Cert.GradW2RefIdeal.main_arg0) = m ((c.tc : Thread Cert.GradW2RefIdeal.nD Cert.GradW2RefIdeal.τ).loc Cert.GradW2RefIdeal.main_arg0)
      ∧ r.2.mem ((c.tc : Thread Cert.GradW2RefIdeal.nD Cert.GradW2RefIdeal.τ).loc Cert.GradW2RefIdeal.main_arg1) = m ((c.tc : Thread Cert.GradW2RefIdeal.nD Cert.GradW2RefIdeal.τ).loc Cert.GradW2RefIdeal.main_arg1))
      ∧ r.2.sem = fun _ => 0)

def quiescent_GradW1 [hGradW1 : Cert.GradW1.Facts] : Prop :=
  ∀ (m : (ℓ : Loc Cert.GradW1.nD Cert.GradW1.τ Cert.GradW1.sig) → Buf (Elt Bits) ℓ) (g : Dev Cert.GradW1.nD → PrngReg), Pre_GradW1 m →
    θ_run (Cert.GradW1.defs (F := Bits)) (onTc (τ := Cert.GradW1.τ) (Cert.GradW1.main (F := Bits))) ⟨m, fun _ => 0, g⟩ (fun r => (∀ c : Dev Cert.GradW1.nD,
      r.2.mem ((c.tc : Thread Cert.GradW1.nD Cert.GradW1.τ).loc Cert.GradW1.main_arg0) = m ((c.tc : Thread Cert.GradW1.nD Cert.GradW1.τ).loc Cert.GradW1.main_arg0)
      ∧ r.2.mem ((c.tc : Thread Cert.GradW1.nD Cert.GradW1.τ).loc Cert.GradW1.main_arg1) = m ((c.tc : Thread Cert.GradW1.nD Cert.GradW1.τ).loc Cert.GradW1.main_arg1))
      ∧ r.2.sem = fun _ => 0)

def quiescent_GradW1Ideal [hGradW1Ideal : Cert.GradW1Ideal.Facts] : Prop :=
  ∀ (m : (ℓ : Loc Cert.GradW1Ideal.nD Cert.GradW1Ideal.τ Cert.GradW1Ideal.sig) → Buf (Elt Ideal) ℓ) (g : Dev Cert.GradW1Ideal.nD → PrngReg), Pre_GradW1Ideal m →
    θ_run (Cert.GradW1Ideal.defs (F := Ideal)) (onTc (τ := Cert.GradW1Ideal.τ) (Cert.GradW1Ideal.main (F := Ideal))) ⟨m, fun _ => 0, g⟩ (fun r => (∀ c : Dev Cert.GradW1Ideal.nD,
      r.2.mem ((c.tc : Thread Cert.GradW1Ideal.nD Cert.GradW1Ideal.τ).loc Cert.GradW1Ideal.main_arg0) = m ((c.tc : Thread Cert.GradW1Ideal.nD Cert.GradW1Ideal.τ).loc Cert.GradW1Ideal.main_arg0)
      ∧ r.2.mem ((c.tc : Thread Cert.GradW1Ideal.nD Cert.GradW1Ideal.τ).loc Cert.GradW1Ideal.main_arg1) = m ((c.tc : Thread Cert.GradW1Ideal.nD Cert.GradW1Ideal.τ).loc Cert.GradW1Ideal.main_arg1))
      ∧ r.2.sem = fun _ => 0)

def quiescent_GradW1RefIdeal [hGradW1RefIdeal : Cert.GradW1RefIdeal.Facts] : Prop :=
  ∀ (m : (ℓ : Loc Cert.GradW1RefIdeal.nD Cert.GradW1RefIdeal.τ Cert.GradW1RefIdeal.sig) → Buf (Elt Ideal) ℓ) (g : Dev Cert.GradW1RefIdeal.nD → PrngReg), Pre_GradW1RefIdeal m →
    θ_run (Cert.GradW1RefIdeal.defs (F := Ideal)) (onTc (τ := Cert.GradW1RefIdeal.τ) (Cert.GradW1RefIdeal.main (F := Ideal))) ⟨m, fun _ => 0, g⟩ (fun r => (∀ c : Dev Cert.GradW1RefIdeal.nD,
      r.2.mem ((c.tc : Thread Cert.GradW1RefIdeal.nD Cert.GradW1RefIdeal.τ).loc Cert.GradW1RefIdeal.main_arg0) = m ((c.tc : Thread Cert.GradW1RefIdeal.nD Cert.GradW1RefIdeal.τ).loc Cert.GradW1RefIdeal.main_arg0)
      ∧ r.2.mem ((c.tc : Thread Cert.GradW1RefIdeal.nD Cert.GradW1RefIdeal.τ).loc Cert.GradW1RefIdeal.main_arg1) = m ((c.tc : Thread Cert.GradW1RefIdeal.nD Cert.GradW1RefIdeal.τ).loc Cert.GradW1RefIdeal.main_arg1))
      ∧ r.2.sem = fun _ => 0)

def quiescent_GradWOut [hGradWOut : Cert.GradWOut.Facts] : Prop :=
  ∀ (m : (ℓ : Loc Cert.GradWOut.nD Cert.GradWOut.τ Cert.GradWOut.sig) → Buf (Elt Bits) ℓ) (g : Dev Cert.GradWOut.nD → PrngReg), Pre_GradWOut m →
    θ_run (Cert.GradWOut.defs (F := Bits)) (onTc (τ := Cert.GradWOut.τ) (Cert.GradWOut.main (F := Bits))) ⟨m, fun _ => 0, g⟩ (fun r => (∀ c : Dev Cert.GradWOut.nD,
      r.2.mem ((c.tc : Thread Cert.GradWOut.nD Cert.GradWOut.τ).loc Cert.GradWOut.main_arg0) = m ((c.tc : Thread Cert.GradWOut.nD Cert.GradWOut.τ).loc Cert.GradWOut.main_arg0)
      ∧ r.2.mem ((c.tc : Thread Cert.GradWOut.nD Cert.GradWOut.τ).loc Cert.GradWOut.main_arg1) = m ((c.tc : Thread Cert.GradWOut.nD Cert.GradWOut.τ).loc Cert.GradWOut.main_arg1))
      ∧ r.2.sem = fun _ => 0)

def quiescent_GradWOutIdeal [hGradWOutIdeal : Cert.GradWOutIdeal.Facts] : Prop :=
  ∀ (m : (ℓ : Loc Cert.GradWOutIdeal.nD Cert.GradWOutIdeal.τ Cert.GradWOutIdeal.sig) → Buf (Elt Ideal) ℓ) (g : Dev Cert.GradWOutIdeal.nD → PrngReg), Pre_GradWOutIdeal m →
    θ_run (Cert.GradWOutIdeal.defs (F := Ideal)) (onTc (τ := Cert.GradWOutIdeal.τ) (Cert.GradWOutIdeal.main (F := Ideal))) ⟨m, fun _ => 0, g⟩ (fun r => (∀ c : Dev Cert.GradWOutIdeal.nD,
      r.2.mem ((c.tc : Thread Cert.GradWOutIdeal.nD Cert.GradWOutIdeal.τ).loc Cert.GradWOutIdeal.main_arg0) = m ((c.tc : Thread Cert.GradWOutIdeal.nD Cert.GradWOutIdeal.τ).loc Cert.GradWOutIdeal.main_arg0)
      ∧ r.2.mem ((c.tc : Thread Cert.GradWOutIdeal.nD Cert.GradWOutIdeal.τ).loc Cert.GradWOutIdeal.main_arg1) = m ((c.tc : Thread Cert.GradWOutIdeal.nD Cert.GradWOutIdeal.τ).loc Cert.GradWOutIdeal.main_arg1))
      ∧ r.2.sem = fun _ => 0)

def quiescent_GradWOutRefIdeal [hGradWOutRefIdeal : Cert.GradWOutRefIdeal.Facts] : Prop :=
  ∀ (m : (ℓ : Loc Cert.GradWOutRefIdeal.nD Cert.GradWOutRefIdeal.τ Cert.GradWOutRefIdeal.sig) → Buf (Elt Ideal) ℓ) (g : Dev Cert.GradWOutRefIdeal.nD → PrngReg), Pre_GradWOutRefIdeal m →
    θ_run (Cert.GradWOutRefIdeal.defs (F := Ideal)) (onTc (τ := Cert.GradWOutRefIdeal.τ) (Cert.GradWOutRefIdeal.main (F := Ideal))) ⟨m, fun _ => 0, g⟩ (fun r => (∀ c : Dev Cert.GradWOutRefIdeal.nD,
      r.2.mem ((c.tc : Thread Cert.GradWOutRefIdeal.nD Cert.GradWOutRefIdeal.τ).loc Cert.GradWOutRefIdeal.main_arg0) = m ((c.tc : Thread Cert.GradWOutRefIdeal.nD Cert.GradWOutRefIdeal.τ).loc Cert.GradWOutRefIdeal.main_arg0)
      ∧ r.2.mem ((c.tc : Thread Cert.GradWOutRefIdeal.nD Cert.GradWOutRefIdeal.τ).loc Cert.GradWOutRefIdeal.main_arg1) = m ((c.tc : Thread Cert.GradWOutRefIdeal.nD Cert.GradWOutRefIdeal.τ).loc Cert.GradWOutRefIdeal.main_arg1))
      ∧ r.2.sem = fun _ => 0)

def quiescent_GradZ [hGradZ : Cert.GradZ.Facts] : Prop :=
  ∀ (m : (ℓ : Loc Cert.GradZ.nD Cert.GradZ.τ Cert.GradZ.sig) → Buf (Elt Bits) ℓ) (g : Dev Cert.GradZ.nD → PrngReg), Pre_GradZ m →
    θ_run (Cert.GradZ.defs (F := Bits)) (onTc (τ := Cert.GradZ.τ) (Cert.GradZ.main (F := Bits))) ⟨m, fun _ => 0, g⟩ (fun r => (∀ c : Dev Cert.GradZ.nD,
      r.2.mem ((c.tc : Thread Cert.GradZ.nD Cert.GradZ.τ).loc Cert.GradZ.main_arg0) = m ((c.tc : Thread Cert.GradZ.nD Cert.GradZ.τ).loc Cert.GradZ.main_arg0)
      ∧ r.2.mem ((c.tc : Thread Cert.GradZ.nD Cert.GradZ.τ).loc Cert.GradZ.main_arg1) = m ((c.tc : Thread Cert.GradZ.nD Cert.GradZ.τ).loc Cert.GradZ.main_arg1))
      ∧ r.2.sem = fun _ => 0)

def quiescent_GradZIdeal [hGradZIdeal : Cert.GradZIdeal.Facts] : Prop :=
  ∀ (m : (ℓ : Loc Cert.GradZIdeal.nD Cert.GradZIdeal.τ Cert.GradZIdeal.sig) → Buf (Elt Ideal) ℓ) (g : Dev Cert.GradZIdeal.nD → PrngReg), Pre_GradZIdeal m →
    θ_run (Cert.GradZIdeal.defs (F := Ideal)) (onTc (τ := Cert.GradZIdeal.τ) (Cert.GradZIdeal.main (F := Ideal))) ⟨m, fun _ => 0, g⟩ (fun r => (∀ c : Dev Cert.GradZIdeal.nD,
      r.2.mem ((c.tc : Thread Cert.GradZIdeal.nD Cert.GradZIdeal.τ).loc Cert.GradZIdeal.main_arg0) = m ((c.tc : Thread Cert.GradZIdeal.nD Cert.GradZIdeal.τ).loc Cert.GradZIdeal.main_arg0)
      ∧ r.2.mem ((c.tc : Thread Cert.GradZIdeal.nD Cert.GradZIdeal.τ).loc Cert.GradZIdeal.main_arg1) = m ((c.tc : Thread Cert.GradZIdeal.nD Cert.GradZIdeal.τ).loc Cert.GradZIdeal.main_arg1))
      ∧ r.2.sem = fun _ => 0)

def quiescent_GradZRefIdeal [hGradZRefIdeal : Cert.GradZRefIdeal.Facts] : Prop :=
  ∀ (m : (ℓ : Loc Cert.GradZRefIdeal.nD Cert.GradZRefIdeal.τ Cert.GradZRefIdeal.sig) → Buf (Elt Ideal) ℓ) (g : Dev Cert.GradZRefIdeal.nD → PrngReg), Pre_GradZRefIdeal m →
    θ_run (Cert.GradZRefIdeal.defs (F := Ideal)) (onTc (τ := Cert.GradZRefIdeal.τ) (Cert.GradZRefIdeal.main (F := Ideal))) ⟨m, fun _ => 0, g⟩ (fun r => (∀ c : Dev Cert.GradZRefIdeal.nD,
      r.2.mem ((c.tc : Thread Cert.GradZRefIdeal.nD Cert.GradZRefIdeal.τ).loc Cert.GradZRefIdeal.main_arg0) = m ((c.tc : Thread Cert.GradZRefIdeal.nD Cert.GradZRefIdeal.τ).loc Cert.GradZRefIdeal.main_arg0)
      ∧ r.2.mem ((c.tc : Thread Cert.GradZRefIdeal.nD Cert.GradZRefIdeal.τ).loc Cert.GradZRefIdeal.main_arg1) = m ((c.tc : Thread Cert.GradZRefIdeal.nD Cert.GradZRefIdeal.τ).loc Cert.GradZRefIdeal.main_arg1))
      ∧ r.2.sem = fun _ => 0)

def quiescent_GradXbc [hGradXbc : Cert.GradXbc.Facts] : Prop :=
  ∀ (m : (ℓ : Loc Cert.GradXbc.nD Cert.GradXbc.τ Cert.GradXbc.sig) → Buf (Elt Bits) ℓ) (g : Dev Cert.GradXbc.nD → PrngReg), Pre_GradXbc m →
    θ_run (Cert.GradXbc.defs (F := Bits)) (onTc (τ := Cert.GradXbc.τ) (Cert.GradXbc.main (F := Bits))) ⟨m, fun _ => 0, g⟩ (fun r => (∀ c : Dev Cert.GradXbc.nD,
      r.2.mem ((c.tc : Thread Cert.GradXbc.nD Cert.GradXbc.τ).loc Cert.GradXbc.main_arg0) = m ((c.tc : Thread Cert.GradXbc.nD Cert.GradXbc.τ).loc Cert.GradXbc.main_arg0)
      ∧ r.2.mem ((c.tc : Thread Cert.GradXbc.nD Cert.GradXbc.τ).loc Cert.GradXbc.main_arg1) = m ((c.tc : Thread Cert.GradXbc.nD Cert.GradXbc.τ).loc Cert.GradXbc.main_arg1))
      ∧ r.2.sem = fun _ => 0)

def quiescent_GradXbcIdeal [hGradXbcIdeal : Cert.GradXbcIdeal.Facts] : Prop :=
  ∀ (m : (ℓ : Loc Cert.GradXbcIdeal.nD Cert.GradXbcIdeal.τ Cert.GradXbcIdeal.sig) → Buf (Elt Ideal) ℓ) (g : Dev Cert.GradXbcIdeal.nD → PrngReg), Pre_GradXbcIdeal m →
    θ_run (Cert.GradXbcIdeal.defs (F := Ideal)) (onTc (τ := Cert.GradXbcIdeal.τ) (Cert.GradXbcIdeal.main (F := Ideal))) ⟨m, fun _ => 0, g⟩ (fun r => (∀ c : Dev Cert.GradXbcIdeal.nD,
      r.2.mem ((c.tc : Thread Cert.GradXbcIdeal.nD Cert.GradXbcIdeal.τ).loc Cert.GradXbcIdeal.main_arg0) = m ((c.tc : Thread Cert.GradXbcIdeal.nD Cert.GradXbcIdeal.τ).loc Cert.GradXbcIdeal.main_arg0)
      ∧ r.2.mem ((c.tc : Thread Cert.GradXbcIdeal.nD Cert.GradXbcIdeal.τ).loc Cert.GradXbcIdeal.main_arg1) = m ((c.tc : Thread Cert.GradXbcIdeal.nD Cert.GradXbcIdeal.τ).loc Cert.GradXbcIdeal.main_arg1))
      ∧ r.2.sem = fun _ => 0)

def quiescent_GradXbcRefIdeal [hGradXbcRefIdeal : Cert.GradXbcRefIdeal.Facts] : Prop :=
  ∀ (m : (ℓ : Loc Cert.GradXbcRefIdeal.nD Cert.GradXbcRefIdeal.τ Cert.GradXbcRefIdeal.sig) → Buf (Elt Ideal) ℓ) (g : Dev Cert.GradXbcRefIdeal.nD → PrngReg), Pre_GradXbcRefIdeal m →
    θ_run (Cert.GradXbcRefIdeal.defs (F := Ideal)) (onTc (τ := Cert.GradXbcRefIdeal.τ) (Cert.GradXbcRefIdeal.main (F := Ideal))) ⟨m, fun _ => 0, g⟩ (fun r => (∀ c : Dev Cert.GradXbcRefIdeal.nD,
      r.2.mem ((c.tc : Thread Cert.GradXbcRefIdeal.nD Cert.GradXbcRefIdeal.τ).loc Cert.GradXbcRefIdeal.main_arg0) = m ((c.tc : Thread Cert.GradXbcRefIdeal.nD Cert.GradXbcRefIdeal.τ).loc Cert.GradXbcRefIdeal.main_arg0)
      ∧ r.2.mem ((c.tc : Thread Cert.GradXbcRefIdeal.nD Cert.GradXbcRefIdeal.τ).loc Cert.GradXbcRefIdeal.main_arg1) = m ((c.tc : Thread Cert.GradXbcRefIdeal.nD Cert.GradXbcRefIdeal.τ).loc Cert.GradXbcRefIdeal.main_arg1))
      ∧ r.2.sem = fun _ => 0)

def quiescent_GradDt [hGradDt : Cert.GradDt.Facts] : Prop :=
  ∀ (m : (ℓ : Loc Cert.GradDt.nD Cert.GradDt.τ Cert.GradDt.sig) → Buf (Elt Bits) ℓ) (g : Dev Cert.GradDt.nD → PrngReg), Pre_GradDt m →
    θ_run (Cert.GradDt.defs (F := Bits)) (onTc (τ := Cert.GradDt.τ) (Cert.GradDt.main (F := Bits))) ⟨m, fun _ => 0, g⟩ (fun r => (∀ c : Dev Cert.GradDt.nD,
      r.2.mem ((c.tc : Thread Cert.GradDt.nD Cert.GradDt.τ).loc Cert.GradDt.main_arg0) = m ((c.tc : Thread Cert.GradDt.nD Cert.GradDt.τ).loc Cert.GradDt.main_arg0)
      ∧ r.2.mem ((c.tc : Thread Cert.GradDt.nD Cert.GradDt.τ).loc Cert.GradDt.main_arg1) = m ((c.tc : Thread Cert.GradDt.nD Cert.GradDt.τ).loc Cert.GradDt.main_arg1))
      ∧ r.2.sem = fun _ => 0)

def quiescent_GradDtIdeal [hGradDtIdeal : Cert.GradDtIdeal.Facts] : Prop :=
  ∀ (m : (ℓ : Loc Cert.GradDtIdeal.nD Cert.GradDtIdeal.τ Cert.GradDtIdeal.sig) → Buf (Elt Ideal) ℓ) (g : Dev Cert.GradDtIdeal.nD → PrngReg), Pre_GradDtIdeal m →
    θ_run (Cert.GradDtIdeal.defs (F := Ideal)) (onTc (τ := Cert.GradDtIdeal.τ) (Cert.GradDtIdeal.main (F := Ideal))) ⟨m, fun _ => 0, g⟩ (fun r => (∀ c : Dev Cert.GradDtIdeal.nD,
      r.2.mem ((c.tc : Thread Cert.GradDtIdeal.nD Cert.GradDtIdeal.τ).loc Cert.GradDtIdeal.main_arg0) = m ((c.tc : Thread Cert.GradDtIdeal.nD Cert.GradDtIdeal.τ).loc Cert.GradDtIdeal.main_arg0)
      ∧ r.2.mem ((c.tc : Thread Cert.GradDtIdeal.nD Cert.GradDtIdeal.τ).loc Cert.GradDtIdeal.main_arg1) = m ((c.tc : Thread Cert.GradDtIdeal.nD Cert.GradDtIdeal.τ).loc Cert.GradDtIdeal.main_arg1))
      ∧ r.2.sem = fun _ => 0)

def quiescent_GradDtRefIdeal [hGradDtRefIdeal : Cert.GradDtRefIdeal.Facts] : Prop :=
  ∀ (m : (ℓ : Loc Cert.GradDtRefIdeal.nD Cert.GradDtRefIdeal.τ Cert.GradDtRefIdeal.sig) → Buf (Elt Ideal) ℓ) (g : Dev Cert.GradDtRefIdeal.nD → PrngReg), Pre_GradDtRefIdeal m →
    θ_run (Cert.GradDtRefIdeal.defs (F := Ideal)) (onTc (τ := Cert.GradDtRefIdeal.τ) (Cert.GradDtRefIdeal.main (F := Ideal))) ⟨m, fun _ => 0, g⟩ (fun r => (∀ c : Dev Cert.GradDtRefIdeal.nD,
      r.2.mem ((c.tc : Thread Cert.GradDtRefIdeal.nD Cert.GradDtRefIdeal.τ).loc Cert.GradDtRefIdeal.main_arg0) = m ((c.tc : Thread Cert.GradDtRefIdeal.nD Cert.GradDtRefIdeal.τ).loc Cert.GradDtRefIdeal.main_arg0)
      ∧ r.2.mem ((c.tc : Thread Cert.GradDtRefIdeal.nD Cert.GradDtRefIdeal.τ).loc Cert.GradDtRefIdeal.main_arg1) = m ((c.tc : Thread Cert.GradDtRefIdeal.nD Cert.GradDtRefIdeal.τ).loc Cert.GradDtRefIdeal.main_arg1))
      ∧ r.2.sem = fun _ => 0)

def quiescent_GradS5 [hGradS5 : Cert.GradS5.Facts] : Prop :=
  ∀ (m : (ℓ : Loc Cert.GradS5.nD Cert.GradS5.τ Cert.GradS5.sig) → Buf (Elt Bits) ℓ) (g : Dev Cert.GradS5.nD → PrngReg), Pre_GradS5 m →
    θ_run (Cert.GradS5.defs (F := Bits)) (onTc (τ := Cert.GradS5.τ) (Cert.GradS5.main (F := Bits))) ⟨m, fun _ => 0, g⟩ (fun r => (∀ c : Dev Cert.GradS5.nD,
      r.2.mem ((c.tc : Thread Cert.GradS5.nD Cert.GradS5.τ).loc Cert.GradS5.main_arg0) = m ((c.tc : Thread Cert.GradS5.nD Cert.GradS5.τ).loc Cert.GradS5.main_arg0)
      ∧ r.2.mem ((c.tc : Thread Cert.GradS5.nD Cert.GradS5.τ).loc Cert.GradS5.main_arg1) = m ((c.tc : Thread Cert.GradS5.nD Cert.GradS5.τ).loc Cert.GradS5.main_arg1))
      ∧ r.2.sem = fun _ => 0)

def quiescent_GradS5Ideal [hGradS5Ideal : Cert.GradS5Ideal.Facts] : Prop :=
  ∀ (m : (ℓ : Loc Cert.GradS5Ideal.nD Cert.GradS5Ideal.τ Cert.GradS5Ideal.sig) → Buf (Elt Ideal) ℓ) (g : Dev Cert.GradS5Ideal.nD → PrngReg), Pre_GradS5Ideal m →
    θ_run (Cert.GradS5Ideal.defs (F := Ideal)) (onTc (τ := Cert.GradS5Ideal.τ) (Cert.GradS5Ideal.main (F := Ideal))) ⟨m, fun _ => 0, g⟩ (fun r => (∀ c : Dev Cert.GradS5Ideal.nD,
      r.2.mem ((c.tc : Thread Cert.GradS5Ideal.nD Cert.GradS5Ideal.τ).loc Cert.GradS5Ideal.main_arg0) = m ((c.tc : Thread Cert.GradS5Ideal.nD Cert.GradS5Ideal.τ).loc Cert.GradS5Ideal.main_arg0)
      ∧ r.2.mem ((c.tc : Thread Cert.GradS5Ideal.nD Cert.GradS5Ideal.τ).loc Cert.GradS5Ideal.main_arg1) = m ((c.tc : Thread Cert.GradS5Ideal.nD Cert.GradS5Ideal.τ).loc Cert.GradS5Ideal.main_arg1))
      ∧ r.2.sem = fun _ => 0)

def quiescent_GradS5RefIdeal [hGradS5RefIdeal : Cert.GradS5RefIdeal.Facts] : Prop :=
  ∀ (m : (ℓ : Loc Cert.GradS5RefIdeal.nD Cert.GradS5RefIdeal.τ Cert.GradS5RefIdeal.sig) → Buf (Elt Ideal) ℓ) (g : Dev Cert.GradS5RefIdeal.nD → PrngReg), Pre_GradS5RefIdeal m →
    θ_run (Cert.GradS5RefIdeal.defs (F := Ideal)) (onTc (τ := Cert.GradS5RefIdeal.τ) (Cert.GradS5RefIdeal.main (F := Ideal))) ⟨m, fun _ => 0, g⟩ (fun r => (∀ c : Dev Cert.GradS5RefIdeal.nD,
      r.2.mem ((c.tc : Thread Cert.GradS5RefIdeal.nD Cert.GradS5RefIdeal.τ).loc Cert.GradS5RefIdeal.main_arg0) = m ((c.tc : Thread Cert.GradS5RefIdeal.nD Cert.GradS5RefIdeal.τ).loc Cert.GradS5RefIdeal.main_arg0)
      ∧ r.2.mem ((c.tc : Thread Cert.GradS5RefIdeal.nD Cert.GradS5RefIdeal.τ).loc Cert.GradS5RefIdeal.main_arg1) = m ((c.tc : Thread Cert.GradS5RefIdeal.nD Cert.GradS5RefIdeal.τ).loc Cert.GradS5RefIdeal.main_arg1))
      ∧ r.2.sem = fun _ => 0)

def quiescent_OutNorm [hOutNorm : Cert.OutNorm.Facts] : Prop :=
  ∀ (m : (ℓ : Loc Cert.OutNorm.nD Cert.OutNorm.τ Cert.OutNorm.sig) → Buf (Elt Bits) ℓ) (g : Dev Cert.OutNorm.nD → PrngReg), Pre_OutNorm m →
    θ_run (Cert.OutNorm.defs (F := Bits)) (onTc (τ := Cert.OutNorm.τ) (Cert.OutNorm.main (F := Bits))) ⟨m, fun _ => 0, g⟩ (fun r => (∀ c : Dev Cert.OutNorm.nD,
      r.2.mem ((c.tc : Thread Cert.OutNorm.nD Cert.OutNorm.τ).loc Cert.OutNorm.main_arg0) = m ((c.tc : Thread Cert.OutNorm.nD Cert.OutNorm.τ).loc Cert.OutNorm.main_arg0)
      ∧ r.2.mem ((c.tc : Thread Cert.OutNorm.nD Cert.OutNorm.τ).loc Cert.OutNorm.main_arg1) = m ((c.tc : Thread Cert.OutNorm.nD Cert.OutNorm.τ).loc Cert.OutNorm.main_arg1)
      ∧ r.2.mem ((c.tc : Thread Cert.OutNorm.nD Cert.OutNorm.τ).loc Cert.OutNorm.main_arg2) = m ((c.tc : Thread Cert.OutNorm.nD Cert.OutNorm.τ).loc Cert.OutNorm.main_arg2)
      ∧ r.2.mem ((c.tc : Thread Cert.OutNorm.nD Cert.OutNorm.τ).loc Cert.OutNorm.main_arg3) = m ((c.tc : Thread Cert.OutNorm.nD Cert.OutNorm.τ).loc Cert.OutNorm.main_arg3)
      ∧ r.2.mem ((c.tc : Thread Cert.OutNorm.nD Cert.OutNorm.τ).loc Cert.OutNorm.main_arg4) = m ((c.tc : Thread Cert.OutNorm.nD Cert.OutNorm.τ).loc Cert.OutNorm.main_arg4)
      ∧ r.2.mem ((c.tc : Thread Cert.OutNorm.nD Cert.OutNorm.τ).loc Cert.OutNorm.main_arg5) = m ((c.tc : Thread Cert.OutNorm.nD Cert.OutNorm.τ).loc Cert.OutNorm.main_arg5))
      ∧ r.2.sem = fun _ => 0)

def quiescent_OutNormIdeal [hOutNormIdeal : Cert.OutNormIdeal.Facts] : Prop :=
  ∀ (m : (ℓ : Loc Cert.OutNormIdeal.nD Cert.OutNormIdeal.τ Cert.OutNormIdeal.sig) → Buf (Elt Ideal) ℓ) (g : Dev Cert.OutNormIdeal.nD → PrngReg), Pre_OutNormIdeal m →
    θ_run (Cert.OutNormIdeal.defs (F := Ideal)) (onTc (τ := Cert.OutNormIdeal.τ) (Cert.OutNormIdeal.main (F := Ideal))) ⟨m, fun _ => 0, g⟩ (fun r => (∀ c : Dev Cert.OutNormIdeal.nD,
      r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
      ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
      ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2)
      ∧ r.2.mem ((c.tc : Thread Cert.OutNormIdeal.nD Cert.OutNormIdeal.τ).loc Cert.OutNormIdeal.main_arg3) = m ((c.tc : Thread Cert.OutNormIdeal.nD Cert.OutNormIdeal.τ).loc Cert.OutNormIdeal.main_arg3)
      ∧ r.2.mem ((c.tc : Thread Cert.OutNormIdeal.nD Cert.OutNormIdeal.τ).loc Cert.OutNormIdeal.main_arg4) = m ((c.tc : Thread Cert.OutNormIdeal.nD Cert.OutNormIdeal.τ).loc Cert.OutNormIdeal.main_arg4)
      ∧ r.2.mem ((c.tc : Thread Cert.OutNormIdeal.nD Cert.OutNormIdeal.τ).loc Cert.OutNormIdeal.main_arg5) = m ((c.tc : Thread Cert.OutNormIdeal.nD Cert.OutNormIdeal.τ).loc Cert.OutNormIdeal.main_arg5))
      ∧ r.2.sem = fun _ => 0)

def quiescent_OutNormRefIdeal [hOutNormRefIdeal : Cert.OutNormRefIdeal.Facts] : Prop :=
  ∀ (m : (ℓ : Loc Cert.OutNormRefIdeal.nD Cert.OutNormRefIdeal.τ Cert.OutNormRefIdeal.sig) → Buf (Elt Ideal) ℓ) (g : Dev Cert.OutNormRefIdeal.nD → PrngReg), Pre_OutNormRefIdeal m →
    θ_run (Cert.OutNormRefIdeal.defs (F := Ideal)) (onTc (τ := Cert.OutNormRefIdeal.τ) (Cert.OutNormRefIdeal.main (F := Ideal))) ⟨m, fun _ => 0, g⟩ (fun r => (∀ c : Dev Cert.OutNormRefIdeal.nD,
      r.2.mem ((c.tc : Thread Cert.OutNormRefIdeal.nD Cert.OutNormRefIdeal.τ).loc Cert.OutNormRefIdeal.main_arg0) = m ((c.tc : Thread Cert.OutNormRefIdeal.nD Cert.OutNormRefIdeal.τ).loc Cert.OutNormRefIdeal.main_arg0)
      ∧ r.2.mem ((c.tc : Thread Cert.OutNormRefIdeal.nD Cert.OutNormRefIdeal.τ).loc Cert.OutNormRefIdeal.main_arg1) = m ((c.tc : Thread Cert.OutNormRefIdeal.nD Cert.OutNormRefIdeal.τ).loc Cert.OutNormRefIdeal.main_arg1)
      ∧ r.2.mem ((c.tc : Thread Cert.OutNormRefIdeal.nD Cert.OutNormRefIdeal.τ).loc Cert.OutNormRefIdeal.main_arg2) = m ((c.tc : Thread Cert.OutNormRefIdeal.nD Cert.OutNormRefIdeal.τ).loc Cert.OutNormRefIdeal.main_arg2)
      ∧ r.2.mem ((c.tc : Thread Cert.OutNormRefIdeal.nD Cert.OutNormRefIdeal.τ).loc Cert.OutNormRefIdeal.main_arg3) = m ((c.tc : Thread Cert.OutNormRefIdeal.nD Cert.OutNormRefIdeal.τ).loc Cert.OutNormRefIdeal.main_arg3)
      ∧ r.2.mem ((c.tc : Thread Cert.OutNormRefIdeal.nD Cert.OutNormRefIdeal.τ).loc Cert.OutNormRefIdeal.main_arg4) = m ((c.tc : Thread Cert.OutNormRefIdeal.nD Cert.OutNormRefIdeal.τ).loc Cert.OutNormRefIdeal.main_arg4)
      ∧ r.2.mem ((c.tc : Thread Cert.OutNormRefIdeal.nD Cert.OutNormRefIdeal.τ).loc Cert.OutNormRefIdeal.main_arg5) = m ((c.tc : Thread Cert.OutNormRefIdeal.nD Cert.OutNormRefIdeal.τ).loc Cert.OutNormRefIdeal.main_arg5))
      ∧ r.2.sem = fun _ => 0)

def quiescent_NormGrad [hNormGrad : Cert.NormGrad.Facts] : Prop :=
  ∀ (m : (ℓ : Loc Cert.NormGrad.nD Cert.NormGrad.τ Cert.NormGrad.sig) → Buf (Elt Bits) ℓ) (g : Dev Cert.NormGrad.nD → PrngReg), Pre_NormGrad m →
    θ_run (Cert.NormGrad.defs (F := Bits)) (onTc (τ := Cert.NormGrad.τ) (Cert.NormGrad.main (F := Bits))) ⟨m, fun _ => 0, g⟩ (fun r => (∀ c : Dev Cert.NormGrad.nD,
      r.2.mem ((c.tc : Thread Cert.NormGrad.nD Cert.NormGrad.τ).loc Cert.NormGrad.main_arg0) = m ((c.tc : Thread Cert.NormGrad.nD Cert.NormGrad.τ).loc Cert.NormGrad.main_arg0)
      ∧ r.2.mem ((c.tc : Thread Cert.NormGrad.nD Cert.NormGrad.τ).loc Cert.NormGrad.main_arg1) = m ((c.tc : Thread Cert.NormGrad.nD Cert.NormGrad.τ).loc Cert.NormGrad.main_arg1)
      ∧ r.2.mem ((c.tc : Thread Cert.NormGrad.nD Cert.NormGrad.τ).loc Cert.NormGrad.main_arg2) = m ((c.tc : Thread Cert.NormGrad.nD Cert.NormGrad.τ).loc Cert.NormGrad.main_arg2)
      ∧ r.2.mem ((c.tc : Thread Cert.NormGrad.nD Cert.NormGrad.τ).loc Cert.NormGrad.main_arg3) = m ((c.tc : Thread Cert.NormGrad.nD Cert.NormGrad.τ).loc Cert.NormGrad.main_arg3)
      ∧ r.2.mem ((c.tc : Thread Cert.NormGrad.nD Cert.NormGrad.τ).loc Cert.NormGrad.main_arg4) = m ((c.tc : Thread Cert.NormGrad.nD Cert.NormGrad.τ).loc Cert.NormGrad.main_arg4)
      ∧ r.2.mem ((c.tc : Thread Cert.NormGrad.nD Cert.NormGrad.τ).loc Cert.NormGrad.main_arg5) = m ((c.tc : Thread Cert.NormGrad.nD Cert.NormGrad.τ).loc Cert.NormGrad.main_arg5)
      ∧ r.2.mem ((c.tc : Thread Cert.NormGrad.nD Cert.NormGrad.τ).loc Cert.NormGrad.main_arg6) = m ((c.tc : Thread Cert.NormGrad.nD Cert.NormGrad.τ).loc Cert.NormGrad.main_arg6))
      ∧ r.2.sem = fun _ => 0)

def quiescent_NormGradIdeal [hNormGradIdeal : Cert.NormGradIdeal.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
      ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4)
      ∧ r.2.mem ((c.tc : Thread Cert.NormGradIdeal.nD Cert.NormGradIdeal.τ).loc Cert.NormGradIdeal.main_arg5) = m ((c.tc : Thread Cert.NormGradIdeal.nD Cert.NormGradIdeal.τ).loc Cert.NormGradIdeal.main_arg5)
      ∧ r.2.mem ((c.tc : Thread Cert.NormGradIdeal.nD Cert.NormGradIdeal.τ).loc Cert.NormGradIdeal.main_arg6) = m ((c.tc : Thread Cert.NormGradIdeal.nD Cert.NormGradIdeal.τ).loc Cert.NormGradIdeal.main_arg6))
      ∧ r.2.sem = fun _ => 0)

def quiescent_NormGradIdeal_pre_norm_finite [hNormGradIdeal : Cert.NormGradIdeal.Facts] [hPre_norm_finite : Cert.Pre_norm_finite.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal_norm_finite m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
      ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4)
      ∧ r.2.mem ((c.tc : Thread Cert.NormGradIdeal.nD Cert.NormGradIdeal.τ).loc Cert.NormGradIdeal.main_arg5) = m ((c.tc : Thread Cert.NormGradIdeal.nD Cert.NormGradIdeal.τ).loc Cert.NormGradIdeal.main_arg5)
      ∧ r.2.mem ((c.tc : Thread Cert.NormGradIdeal.nD Cert.NormGradIdeal.τ).loc Cert.NormGradIdeal.main_arg6) = m ((c.tc : Thread Cert.NormGradIdeal.nD Cert.NormGradIdeal.τ).loc Cert.NormGradIdeal.main_arg6))
      ∧ r.2.sem = fun _ => 0)

def quiescent_NormGradRefIdeal [hNormGradRefIdeal : Cert.NormGradRefIdeal.Facts] : Prop :=
  ∀ (m : (ℓ : Loc Cert.NormGradRefIdeal.nD Cert.NormGradRefIdeal.τ Cert.NormGradRefIdeal.sig) → Buf (Elt Ideal) ℓ) (g : Dev Cert.NormGradRefIdeal.nD → PrngReg), Pre_NormGradRefIdeal m →
    θ_run (Cert.NormGradRefIdeal.defs (F := Ideal)) (onTc (τ := Cert.NormGradRefIdeal.τ) (Cert.NormGradRefIdeal.main (F := Ideal))) ⟨m, fun _ => 0, g⟩ (fun r => (∀ c : Dev Cert.NormGradRefIdeal.nD,
      r.2.mem ((c.tc : Thread Cert.NormGradRefIdeal.nD Cert.NormGradRefIdeal.τ).loc Cert.NormGradRefIdeal.main_arg0) = m ((c.tc : Thread Cert.NormGradRefIdeal.nD Cert.NormGradRefIdeal.τ).loc Cert.NormGradRefIdeal.main_arg0)
      ∧ r.2.mem ((c.tc : Thread Cert.NormGradRefIdeal.nD Cert.NormGradRefIdeal.τ).loc Cert.NormGradRefIdeal.main_arg1) = m ((c.tc : Thread Cert.NormGradRefIdeal.nD Cert.NormGradRefIdeal.τ).loc Cert.NormGradRefIdeal.main_arg1)
      ∧ r.2.mem ((c.tc : Thread Cert.NormGradRefIdeal.nD Cert.NormGradRefIdeal.τ).loc Cert.NormGradRefIdeal.main_arg2) = m ((c.tc : Thread Cert.NormGradRefIdeal.nD Cert.NormGradRefIdeal.τ).loc Cert.NormGradRefIdeal.main_arg2)
      ∧ r.2.mem ((c.tc : Thread Cert.NormGradRefIdeal.nD Cert.NormGradRefIdeal.τ).loc Cert.NormGradRefIdeal.main_arg3) = m ((c.tc : Thread Cert.NormGradRefIdeal.nD Cert.NormGradRefIdeal.τ).loc Cert.NormGradRefIdeal.main_arg3)
      ∧ r.2.mem ((c.tc : Thread Cert.NormGradRefIdeal.nD Cert.NormGradRefIdeal.τ).loc Cert.NormGradRefIdeal.main_arg4) = m ((c.tc : Thread Cert.NormGradRefIdeal.nD Cert.NormGradRefIdeal.τ).loc Cert.NormGradRefIdeal.main_arg4)
      ∧ r.2.mem ((c.tc : Thread Cert.NormGradRefIdeal.nD Cert.NormGradRefIdeal.τ).loc Cert.NormGradRefIdeal.main_arg5) = m ((c.tc : Thread Cert.NormGradRefIdeal.nD Cert.NormGradRefIdeal.τ).loc Cert.NormGradRefIdeal.main_arg5)
      ∧ r.2.mem ((c.tc : Thread Cert.NormGradRefIdeal.nD Cert.NormGradRefIdeal.τ).loc Cert.NormGradRefIdeal.main_arg6) = m ((c.tc : Thread Cert.NormGradRefIdeal.nD Cert.NormGradRefIdeal.τ).loc Cert.NormGradRefIdeal.main_arg6))
      ∧ r.2.sem = fun _ => 0)

def quiescent_NormGradRefIdeal_pre_norm_finite [hNormGradRefIdeal : Cert.NormGradRefIdeal.Facts] [hPre_norm_finite : Cert.Pre_norm_finite.Facts] : Prop :=
  ∀ (m : (ℓ : Loc Cert.NormGradRefIdeal.nD Cert.NormGradRefIdeal.τ Cert.NormGradRefIdeal.sig) → Buf (Elt Ideal) ℓ) (g : Dev Cert.NormGradRefIdeal.nD → PrngReg), Pre_NormGradRefIdeal_norm_finite m →
    θ_run (Cert.NormGradRefIdeal.defs (F := Ideal)) (onTc (τ := Cert.NormGradRefIdeal.τ) (Cert.NormGradRefIdeal.main (F := Ideal))) ⟨m, fun _ => 0, g⟩ (fun r => (∀ c : Dev Cert.NormGradRefIdeal.nD,
      r.2.mem ((c.tc : Thread Cert.NormGradRefIdeal.nD Cert.NormGradRefIdeal.τ).loc Cert.NormGradRefIdeal.main_arg0) = m ((c.tc : Thread Cert.NormGradRefIdeal.nD Cert.NormGradRefIdeal.τ).loc Cert.NormGradRefIdeal.main_arg0)
      ∧ r.2.mem ((c.tc : Thread Cert.NormGradRefIdeal.nD Cert.NormGradRefIdeal.τ).loc Cert.NormGradRefIdeal.main_arg1) = m ((c.tc : Thread Cert.NormGradRefIdeal.nD Cert.NormGradRefIdeal.τ).loc Cert.NormGradRefIdeal.main_arg1)
      ∧ r.2.mem ((c.tc : Thread Cert.NormGradRefIdeal.nD Cert.NormGradRefIdeal.τ).loc Cert.NormGradRefIdeal.main_arg2) = m ((c.tc : Thread Cert.NormGradRefIdeal.nD Cert.NormGradRefIdeal.τ).loc Cert.NormGradRefIdeal.main_arg2)
      ∧ r.2.mem ((c.tc : Thread Cert.NormGradRefIdeal.nD Cert.NormGradRefIdeal.τ).loc Cert.NormGradRefIdeal.main_arg3) = m ((c.tc : Thread Cert.NormGradRefIdeal.nD Cert.NormGradRefIdeal.τ).loc Cert.NormGradRefIdeal.main_arg3)
      ∧ r.2.mem ((c.tc : Thread Cert.NormGradRefIdeal.nD Cert.NormGradRefIdeal.τ).loc Cert.NormGradRefIdeal.main_arg4) = m ((c.tc : Thread Cert.NormGradRefIdeal.nD Cert.NormGradRefIdeal.τ).loc Cert.NormGradRefIdeal.main_arg4)
      ∧ r.2.mem ((c.tc : Thread Cert.NormGradRefIdeal.nD Cert.NormGradRefIdeal.τ).loc Cert.NormGradRefIdeal.main_arg5) = m ((c.tc : Thread Cert.NormGradRefIdeal.nD Cert.NormGradRefIdeal.τ).loc Cert.NormGradRefIdeal.main_arg5)
      ∧ r.2.mem ((c.tc : Thread Cert.NormGradRefIdeal.nD Cert.NormGradRefIdeal.τ).loc Cert.NormGradRefIdeal.main_arg6) = m ((c.tc : Thread Cert.NormGradRefIdeal.nD Cert.NormGradRefIdeal.τ).loc Cert.NormGradRefIdeal.main_arg6))
      ∧ r.2.sem = fun _ => 0)

def quiescent_ProjConv [hProjConv : Cert.ProjConv.Facts] : Prop :=
  ∀ (m : (ℓ : Loc Cert.ProjConv.nD Cert.ProjConv.τ Cert.ProjConv.sig) → Buf (Elt Bits) ℓ) (g : Dev Cert.ProjConv.nD → PrngReg), Pre_ProjConv m →
    θ_run (Cert.ProjConv.defs (F := Bits)) (onTc (τ := Cert.ProjConv.τ) (Cert.ProjConv.main (F := Bits))) ⟨m, fun _ => 0, g⟩ (fun r => (∀ c : Dev Cert.ProjConv.nD,
      r.2.mem ((c.tc : Thread Cert.ProjConv.nD Cert.ProjConv.τ).loc Cert.ProjConv.main_arg0) = m ((c.tc : Thread Cert.ProjConv.nD Cert.ProjConv.τ).loc Cert.ProjConv.main_arg0)
      ∧ r.2.mem ((c.tc : Thread Cert.ProjConv.nD Cert.ProjConv.τ).loc Cert.ProjConv.main_arg1) = m ((c.tc : Thread Cert.ProjConv.nD Cert.ProjConv.τ).loc Cert.ProjConv.main_arg1)
      ∧ r.2.mem ((c.tc : Thread Cert.ProjConv.nD Cert.ProjConv.τ).loc Cert.ProjConv.main_arg2) = m ((c.tc : Thread Cert.ProjConv.nD Cert.ProjConv.τ).loc Cert.ProjConv.main_arg2)
      ∧ r.2.mem ((c.tc : Thread Cert.ProjConv.nD Cert.ProjConv.τ).loc Cert.ProjConv.main_arg3) = m ((c.tc : Thread Cert.ProjConv.nD Cert.ProjConv.τ).loc Cert.ProjConv.main_arg3)
      ∧ r.2.mem ((c.tc : Thread Cert.ProjConv.nD Cert.ProjConv.τ).loc Cert.ProjConv.main_arg4) = m ((c.tc : Thread Cert.ProjConv.nD Cert.ProjConv.τ).loc Cert.ProjConv.main_arg4))
      ∧ r.2.sem = fun _ => 0)

def quiescent_ProjConvIdeal [hProjConvIdeal : Cert.ProjConvIdeal.Facts] : Prop :=
  ∀ (m : (ℓ : Loc Cert.ProjConvIdeal.nD Cert.ProjConvIdeal.τ Cert.ProjConvIdeal.sig) → Buf (Elt Ideal) ℓ) (g : Dev Cert.ProjConvIdeal.nD → PrngReg), Pre_ProjConvIdeal m →
    θ_run (Cert.ProjConvIdeal.defs (F := Ideal)) (onTc (τ := Cert.ProjConvIdeal.τ) (Cert.ProjConvIdeal.main (F := Ideal))) ⟨m, fun _ => 0, g⟩ (fun r => (∀ c : Dev Cert.ProjConvIdeal.nD,
      r.2.mem ((c.tc : Thread Cert.ProjConvIdeal.nD Cert.ProjConvIdeal.τ).loc Cert.ProjConvIdeal.main_arg0) = m ((c.tc : Thread Cert.ProjConvIdeal.nD Cert.ProjConvIdeal.τ).loc Cert.ProjConvIdeal.main_arg0)
      ∧ r.2.mem ((c.tc : Thread Cert.ProjConvIdeal.nD Cert.ProjConvIdeal.τ).loc Cert.ProjConvIdeal.main_arg1) = m ((c.tc : Thread Cert.ProjConvIdeal.nD Cert.ProjConvIdeal.τ).loc Cert.ProjConvIdeal.main_arg1)
      ∧ r.2.mem ((c.tc : Thread Cert.ProjConvIdeal.nD Cert.ProjConvIdeal.τ).loc Cert.ProjConvIdeal.main_arg2) = m ((c.tc : Thread Cert.ProjConvIdeal.nD Cert.ProjConvIdeal.τ).loc Cert.ProjConvIdeal.main_arg2)
      ∧ r.2.mem ((c.tc : Thread Cert.ProjConvIdeal.nD Cert.ProjConvIdeal.τ).loc Cert.ProjConvIdeal.main_arg3) = m ((c.tc : Thread Cert.ProjConvIdeal.nD Cert.ProjConvIdeal.τ).loc Cert.ProjConvIdeal.main_arg3)
      ∧ r.2.mem ((c.tc : Thread Cert.ProjConvIdeal.nD Cert.ProjConvIdeal.τ).loc Cert.ProjConvIdeal.main_arg4) = m ((c.tc : Thread Cert.ProjConvIdeal.nD Cert.ProjConvIdeal.τ).loc Cert.ProjConvIdeal.main_arg4))
      ∧ r.2.sem = fun _ => 0)

def quiescent_ProjConvRefIdeal [hProjConvRefIdeal : Cert.ProjConvRefIdeal.Facts] : Prop :=
  ∀ (m : (ℓ : Loc Cert.ProjConvRefIdeal.nD Cert.ProjConvRefIdeal.τ Cert.ProjConvRefIdeal.sig) → Buf (Elt Ideal) ℓ) (g : Dev Cert.ProjConvRefIdeal.nD → PrngReg), Pre_ProjConvRefIdeal m →
    θ_run (Cert.ProjConvRefIdeal.defs (F := Ideal)) (onTc (τ := Cert.ProjConvRefIdeal.τ) (Cert.ProjConvRefIdeal.main (F := Ideal))) ⟨m, fun _ => 0, g⟩ (fun r => (∀ c : Dev Cert.ProjConvRefIdeal.nD,
      r.2.mem ((c.tc : Thread Cert.ProjConvRefIdeal.nD Cert.ProjConvRefIdeal.τ).loc Cert.ProjConvRefIdeal.main_arg0) = m ((c.tc : Thread Cert.ProjConvRefIdeal.nD Cert.ProjConvRefIdeal.τ).loc Cert.ProjConvRefIdeal.main_arg0)
      ∧ r.2.mem ((c.tc : Thread Cert.ProjConvRefIdeal.nD Cert.ProjConvRefIdeal.τ).loc Cert.ProjConvRefIdeal.main_arg1) = m ((c.tc : Thread Cert.ProjConvRefIdeal.nD Cert.ProjConvRefIdeal.τ).loc Cert.ProjConvRefIdeal.main_arg1)
      ∧ r.2.mem ((c.tc : Thread Cert.ProjConvRefIdeal.nD Cert.ProjConvRefIdeal.τ).loc Cert.ProjConvRefIdeal.main_arg2) = m ((c.tc : Thread Cert.ProjConvRefIdeal.nD Cert.ProjConvRefIdeal.τ).loc Cert.ProjConvRefIdeal.main_arg2)
      ∧ r.2.mem ((c.tc : Thread Cert.ProjConvRefIdeal.nD Cert.ProjConvRefIdeal.τ).loc Cert.ProjConvRefIdeal.main_arg3) = m ((c.tc : Thread Cert.ProjConvRefIdeal.nD Cert.ProjConvRefIdeal.τ).loc Cert.ProjConvRefIdeal.main_arg3)
      ∧ r.2.mem ((c.tc : Thread Cert.ProjConvRefIdeal.nD Cert.ProjConvRefIdeal.τ).loc Cert.ProjConvRefIdeal.main_arg4) = m ((c.tc : Thread Cert.ProjConvRefIdeal.nD Cert.ProjConvRefIdeal.τ).loc Cert.ProjConvRefIdeal.main_arg4))
      ∧ r.2.sem = fun _ => 0)

def preserves_MlpBlock_MlpBlockIdeal : Prop :=
  True

def algebraic_MlpBlockIdeal_MlpBlockRefIdeal_pre_finite [hMlpBlockIdeal : Cert.MlpBlockIdeal.Facts] [hMlpBlockRefIdeal : Cert.MlpBlockRefIdeal.Facts] [hPre_finite : Cert.Pre_finite.Facts] : Prop :=
  ∀ (m : (ℓ : Loc Cert.MlpBlockIdeal.nD Cert.MlpBlockIdeal.τ Cert.MlpBlockIdeal.sig) → Buf (Elt Ideal) ℓ) (g : Dev Cert.MlpBlockIdeal.nD → PrngReg)
    (m' : (ℓ : Loc Cert.MlpBlockRefIdeal.nD Cert.MlpBlockRefIdeal.τ Cert.MlpBlockRefIdeal.sig) → Buf (Elt Ideal) ℓ) (g' : Dev Cert.MlpBlockRefIdeal.nD → PrngReg), Pre_MlpBlockIdeal_finite m →
    (∀ c : Dev Cert.MlpBlockIdeal.nD,
      m' ((c.tc : Thread Cert.MlpBlockRefIdeal.nD Cert.MlpBlockRefIdeal.τ).loc Cert.MlpBlockRefIdeal.main_arg0) = m ((c.tc : Thread Cert.MlpBlockIdeal.nD Cert.MlpBlockIdeal.τ).loc Cert.MlpBlockIdeal.main_arg0)
      ∧ m' ((c.tc : Thread Cert.MlpBlockRefIdeal.nD Cert.MlpBlockRefIdeal.τ).loc Cert.MlpBlockRefIdeal.main_arg1) = m ((c.tc : Thread Cert.MlpBlockIdeal.nD Cert.MlpBlockIdeal.τ).loc Cert.MlpBlockIdeal.main_arg1)
      ∧ m' ((c.tc : Thread Cert.MlpBlockRefIdeal.nD Cert.MlpBlockRefIdeal.τ).loc Cert.MlpBlockRefIdeal.main_arg2) = m ((c.tc : Thread Cert.MlpBlockIdeal.nD Cert.MlpBlockIdeal.τ).loc Cert.MlpBlockIdeal.main_arg2)
      ∧ m' ((c.tc : Thread Cert.MlpBlockRefIdeal.nD Cert.MlpBlockRefIdeal.τ).loc Cert.MlpBlockRefIdeal.main_arg3) = m ((c.tc : Thread Cert.MlpBlockIdeal.nD Cert.MlpBlockIdeal.τ).loc Cert.MlpBlockIdeal.main_arg3)
      ∧ m' ((c.tc : Thread Cert.MlpBlockRefIdeal.nD Cert.MlpBlockRefIdeal.τ).loc Cert.MlpBlockRefIdeal.main_arg4) = m ((c.tc : Thread Cert.MlpBlockIdeal.nD Cert.MlpBlockIdeal.τ).loc Cert.MlpBlockIdeal.main_arg4)
      ∧ m' ((c.tc : Thread Cert.MlpBlockRefIdeal.nD Cert.MlpBlockRefIdeal.τ).loc Cert.MlpBlockRefIdeal.main_arg5) = m ((c.tc : Thread Cert.MlpBlockIdeal.nD Cert.MlpBlockIdeal.τ).loc Cert.MlpBlockIdeal.main_arg5)
      ∧ m' ((c.tc : Thread Cert.MlpBlockRefIdeal.nD Cert.MlpBlockRefIdeal.τ).loc Cert.MlpBlockRefIdeal.main_arg6) = m ((c.tc : Thread Cert.MlpBlockIdeal.nD Cert.MlpBlockIdeal.τ).loc Cert.MlpBlockIdeal.main_arg6)
      ∧ m' ((c.tc : Thread Cert.MlpBlockRefIdeal.nD Cert.MlpBlockRefIdeal.τ).loc Cert.MlpBlockRefIdeal.main_arg7) = m ((c.tc : Thread Cert.MlpBlockIdeal.nD Cert.MlpBlockIdeal.τ).loc Cert.MlpBlockIdeal.main_arg7)
      ∧ m' ((c.tc : Thread Cert.MlpBlockRefIdeal.nD Cert.MlpBlockRefIdeal.τ).loc Cert.MlpBlockRefIdeal.main_arg8) = m ((c.tc : Thread Cert.MlpBlockIdeal.nD Cert.MlpBlockIdeal.τ).loc Cert.MlpBlockIdeal.main_arg8)) →
    ∃ (v0 : (c : Dev Cert.MlpBlockIdeal.nD) → Buf (Elt Ideal) ((c.tc : Thread Cert.MlpBlockIdeal.nD Cert.MlpBlockIdeal.τ).loc Cert.MlpBlockIdeal.main_v10_0)) (v1 : (c : Dev Cert.MlpBlockIdeal.nD) → Buf (Elt Ideal) ((c.tc : Thread Cert.MlpBlockIdeal.nD Cert.MlpBlockIdeal.τ).loc Cert.MlpBlockIdeal.main_v10_1)) (v2 : (c : Dev Cert.MlpBlockIdeal.nD) → Buf (Elt Ideal) ((c.tc : Thread Cert.MlpBlockIdeal.nD Cert.MlpBlockIdeal.τ).loc Cert.MlpBlockIdeal.main_v10_2)) (v3 : (c : Dev Cert.MlpBlockIdeal.nD) → Buf (Elt Ideal) ((c.tc : Thread Cert.MlpBlockIdeal.nD Cert.MlpBlockIdeal.τ).loc Cert.MlpBlockIdeal.main_v10_3)) (v4 : (c : Dev Cert.MlpBlockIdeal.nD) → Buf (Elt Ideal) ((c.tc : Thread Cert.MlpBlockIdeal.nD Cert.MlpBlockIdeal.τ).loc Cert.MlpBlockIdeal.main_v10_4)) (v5 : (c : Dev Cert.MlpBlockIdeal.nD) → Buf (Elt Ideal) ((c.tc : Thread Cert.MlpBlockIdeal.nD Cert.MlpBlockIdeal.τ).loc Cert.MlpBlockIdeal.main_v10_5)) (v6 : (c : Dev Cert.MlpBlockIdeal.nD) → Buf (Elt Ideal) ((c.tc : Thread Cert.MlpBlockIdeal.nD Cert.MlpBlockIdeal.τ).loc Cert.MlpBlockIdeal.main_v10_6)) (v7 : (c : Dev Cert.MlpBlockIdeal.nD) → Buf (Elt Ideal) ((c.tc : Thread Cert.MlpBlockIdeal.nD Cert.MlpBlockIdeal.τ).loc Cert.MlpBlockIdeal.main_v10_7)),
      θ_run (Cert.MlpBlockIdeal.defs (F := Ideal)) (onTc (τ := Cert.MlpBlockIdeal.τ) (Cert.MlpBlockIdeal.main (F := Ideal))) ⟨m, fun _ => 0, g⟩ (fun r => ∀ c : Dev Cert.MlpBlockIdeal.nD,
          r.2.mem ((c.tc : Thread Cert.MlpBlockIdeal.nD Cert.MlpBlockIdeal.τ).loc Cert.MlpBlockIdeal.main_v10_0) = v0 c
          ∧ r.2.mem ((c.tc : Thread Cert.MlpBlockIdeal.nD Cert.MlpBlockIdeal.τ).loc Cert.MlpBlockIdeal.main_v10_1) = v1 c
          ∧ r.2.mem ((c.tc : Thread Cert.MlpBlockIdeal.nD Cert.MlpBlockIdeal.τ).loc Cert.MlpBlockIdeal.main_v10_2) = v2 c
          ∧ r.2.mem ((c.tc : Thread Cert.MlpBlockIdeal.nD Cert.MlpBlockIdeal.τ).loc Cert.MlpBlockIdeal.main_v10_3) = v3 c
          ∧ r.2.mem ((c.tc : Thread Cert.MlpBlockIdeal.nD Cert.MlpBlockIdeal.τ).loc Cert.MlpBlockIdeal.main_v10_4) = v4 c
          ∧ r.2.mem ((c.tc : Thread Cert.MlpBlockIdeal.nD Cert.MlpBlockIdeal.τ).loc Cert.MlpBlockIdeal.main_v10_5) = v5 c
          ∧ r.2.mem ((c.tc : Thread Cert.MlpBlockIdeal.nD Cert.MlpBlockIdeal.τ).loc Cert.MlpBlockIdeal.main_v10_6) = v6 c
          ∧ r.2.mem ((c.tc : Thread Cert.MlpBlockIdeal.nD Cert.MlpBlockIdeal.τ).loc Cert.MlpBlockIdeal.main_v10_7) = v7 c
          ∧ r.2.mem ((c.tc : Thread Cert.MlpBlockIdeal.nD Cert.MlpBlockIdeal.τ).loc Cert.MlpBlockIdeal.main_arg0) = m ((c.tc : Thread Cert.MlpBlockIdeal.nD Cert.MlpBlockIdeal.τ).loc Cert.MlpBlockIdeal.main_arg0)
          ∧ r.2.mem ((c.tc : Thread Cert.MlpBlockIdeal.nD Cert.MlpBlockIdeal.τ).loc Cert.MlpBlockIdeal.main_arg1) = m ((c.tc : Thread Cert.MlpBlockIdeal.nD Cert.MlpBlockIdeal.τ).loc Cert.MlpBlockIdeal.main_arg1)
          ∧ r.2.mem ((c.tc : Thread Cert.MlpBlockIdeal.nD Cert.MlpBlockIdeal.τ).loc Cert.MlpBlockIdeal.main_arg2) = m ((c.tc : Thread Cert.MlpBlockIdeal.nD Cert.MlpBlockIdeal.τ).loc Cert.MlpBlockIdeal.main_arg2)
          ∧ r.2.mem ((c.tc : Thread Cert.MlpBlockIdeal.nD Cert.MlpBlockIdeal.τ).loc Cert.MlpBlockIdeal.main_arg3) = m ((c.tc : Thread Cert.MlpBlockIdeal.nD Cert.MlpBlockIdeal.τ).loc Cert.MlpBlockIdeal.main_arg3)
          ∧ r.2.mem ((c.tc : Thread Cert.MlpBlockIdeal.nD Cert.MlpBlockIdeal.τ).loc Cert.MlpBlockIdeal.main_arg4) = m ((c.tc : Thread Cert.MlpBlockIdeal.nD Cert.MlpBlockIdeal.τ).loc Cert.MlpBlockIdeal.main_arg4)
          ∧ r.2.mem ((c.tc : Thread Cert.MlpBlockIdeal.nD Cert.MlpBlockIdeal.τ).loc Cert.MlpBlockIdeal.main_arg5) = m ((c.tc : Thread Cert.MlpBlockIdeal.nD Cert.MlpBlockIdeal.τ).loc Cert.MlpBlockIdeal.main_arg5)
          ∧ r.2.mem ((c.tc : Thread Cert.MlpBlockIdeal.nD Cert.MlpBlockIdeal.τ).loc Cert.MlpBlockIdeal.main_arg6) = m ((c.tc : Thread Cert.MlpBlockIdeal.nD Cert.MlpBlockIdeal.τ).loc Cert.MlpBlockIdeal.main_arg6)
          ∧ r.2.mem ((c.tc : Thread Cert.MlpBlockIdeal.nD Cert.MlpBlockIdeal.τ).loc Cert.MlpBlockIdeal.main_arg7) = m ((c.tc : Thread Cert.MlpBlockIdeal.nD Cert.MlpBlockIdeal.τ).loc Cert.MlpBlockIdeal.main_arg7)
          ∧ r.2.mem ((c.tc : Thread Cert.MlpBlockIdeal.nD Cert.MlpBlockIdeal.τ).loc Cert.MlpBlockIdeal.main_arg8) = m ((c.tc : Thread Cert.MlpBlockIdeal.nD Cert.MlpBlockIdeal.τ).loc Cert.MlpBlockIdeal.main_arg8))
      ∧ θ_run (Cert.MlpBlockRefIdeal.defs (F := Ideal)) (onTc (τ := Cert.MlpBlockRefIdeal.τ) (Cert.MlpBlockRefIdeal.main (F := Ideal))) ⟨m', fun _ => 0, g'⟩ (fun r => ∀ c : Dev Cert.MlpBlockRefIdeal.nD,
          r.2.mem ((c.tc : Thread Cert.MlpBlockRefIdeal.nD Cert.MlpBlockRefIdeal.τ).loc Cert.MlpBlockRefIdeal.main_v137) = v0 c
          ∧ r.2.mem ((c.tc : Thread Cert.MlpBlockRefIdeal.nD Cert.MlpBlockRefIdeal.τ).loc Cert.MlpBlockRefIdeal.main_v138) = v1 c
          ∧ r.2.mem ((c.tc : Thread Cert.MlpBlockRefIdeal.nD Cert.MlpBlockRefIdeal.τ).loc Cert.MlpBlockRefIdeal.main_v139) = v2 c
          ∧ r.2.mem ((c.tc : Thread Cert.MlpBlockRefIdeal.nD Cert.MlpBlockRefIdeal.τ).loc Cert.MlpBlockRefIdeal.main_v140) = v3 c
          ∧ r.2.mem ((c.tc : Thread Cert.MlpBlockRefIdeal.nD Cert.MlpBlockRefIdeal.τ).loc Cert.MlpBlockRefIdeal.main_v141) = v4 c
          ∧ r.2.mem ((c.tc : Thread Cert.MlpBlockRefIdeal.nD Cert.MlpBlockRefIdeal.τ).loc Cert.MlpBlockRefIdeal.main_v133) = v5 c
          ∧ r.2.mem ((c.tc : Thread Cert.MlpBlockRefIdeal.nD Cert.MlpBlockRefIdeal.τ).loc Cert.MlpBlockRefIdeal.main_v120) = v6 c
          ∧ r.2.mem ((c.tc : Thread Cert.MlpBlockRefIdeal.nD Cert.MlpBlockRefIdeal.τ).loc Cert.MlpBlockRefIdeal.main_v135) = v7 c
          ∧ r.2.mem ((c.tc : Thread Cert.MlpBlockRefIdeal.nD Cert.MlpBlockRefIdeal.τ).loc Cert.MlpBlockRefIdeal.main_arg0) = m' ((c.tc : Thread Cert.MlpBlockRefIdeal.nD Cert.MlpBlockRefIdeal.τ).loc Cert.MlpBlockRefIdeal.main_arg0)
          ∧ r.2.mem ((c.tc : Thread Cert.MlpBlockRefIdeal.nD Cert.MlpBlockRefIdeal.τ).loc Cert.MlpBlockRefIdeal.main_arg1) = m' ((c.tc : Thread Cert.MlpBlockRefIdeal.nD Cert.MlpBlockRefIdeal.τ).loc Cert.MlpBlockRefIdeal.main_arg1)
          ∧ r.2.mem ((c.tc : Thread Cert.MlpBlockRefIdeal.nD Cert.MlpBlockRefIdeal.τ).loc Cert.MlpBlockRefIdeal.main_arg2) = m' ((c.tc : Thread Cert.MlpBlockRefIdeal.nD Cert.MlpBlockRefIdeal.τ).loc Cert.MlpBlockRefIdeal.main_arg2)
          ∧ r.2.mem ((c.tc : Thread Cert.MlpBlockRefIdeal.nD Cert.MlpBlockRefIdeal.τ).loc Cert.MlpBlockRefIdeal.main_arg3) = m' ((c.tc : Thread Cert.MlpBlockRefIdeal.nD Cert.MlpBlockRefIdeal.τ).loc Cert.MlpBlockRefIdeal.main_arg3)
          ∧ r.2.mem ((c.tc : Thread Cert.MlpBlockRefIdeal.nD Cert.MlpBlockRefIdeal.τ).loc Cert.MlpBlockRefIdeal.main_arg4) = m' ((c.tc : Thread Cert.MlpBlockRefIdeal.nD Cert.MlpBlockRefIdeal.τ).loc Cert.MlpBlockRefIdeal.main_arg4)
          ∧ r.2.mem ((c.tc : Thread Cert.MlpBlockRefIdeal.nD Cert.MlpBlockRefIdeal.τ).loc Cert.MlpBlockRefIdeal.main_arg5) = m' ((c.tc : Thread Cert.MlpBlockRefIdeal.nD Cert.MlpBlockRefIdeal.τ).loc Cert.MlpBlockRefIdeal.main_arg5)
          ∧ r.2.mem ((c.tc : Thread Cert.MlpBlockRefIdeal.nD Cert.MlpBlockRefIdeal.τ).loc Cert.MlpBlockRefIdeal.main_arg6) = m' ((c.tc : Thread Cert.MlpBlockRefIdeal.nD Cert.MlpBlockRefIdeal.τ).loc Cert.MlpBlockRefIdeal.main_arg6)
          ∧ r.2.mem ((c.tc : Thread Cert.MlpBlockRefIdeal.nD Cert.MlpBlockRefIdeal.τ).loc Cert.MlpBlockRefIdeal.main_arg7) = m' ((c.tc : Thread Cert.MlpBlockRefIdeal.nD Cert.MlpBlockRefIdeal.τ).loc Cert.MlpBlockRefIdeal.main_arg7)
          ∧ r.2.mem ((c.tc : Thread Cert.MlpBlockRefIdeal.nD Cert.MlpBlockRefIdeal.τ).loc Cert.MlpBlockRefIdeal.main_arg8) = m' ((c.tc : Thread Cert.MlpBlockRefIdeal.nD Cert.MlpBlockRefIdeal.τ).loc Cert.MlpBlockRefIdeal.main_arg8))

def preserves_GradW2_GradW2Ideal : Prop :=
  True

def algebraic_GradW2Ideal_GradW2RefIdeal [hGradW2Ideal : Cert.GradW2Ideal.Facts] [hGradW2RefIdeal : Cert.GradW2RefIdeal.Facts] : Prop :=
  ∀ (m : (ℓ : Loc Cert.GradW2Ideal.nD Cert.GradW2Ideal.τ Cert.GradW2Ideal.sig) → Buf (Elt Ideal) ℓ) (g : Dev Cert.GradW2Ideal.nD → PrngReg)
    (m' : (ℓ : Loc Cert.GradW2RefIdeal.nD Cert.GradW2RefIdeal.τ Cert.GradW2RefIdeal.sig) → Buf (Elt Ideal) ℓ) (g' : Dev Cert.GradW2RefIdeal.nD → PrngReg), Pre_GradW2Ideal m →
    (∀ c : Dev Cert.GradW2Ideal.nD,
      m' ((c.tc : Thread Cert.GradW2RefIdeal.nD Cert.GradW2RefIdeal.τ).loc Cert.GradW2RefIdeal.main_arg0) = m ((c.tc : Thread Cert.GradW2Ideal.nD Cert.GradW2Ideal.τ).loc Cert.GradW2Ideal.main_arg0)
      ∧ m' ((c.tc : Thread Cert.GradW2RefIdeal.nD Cert.GradW2RefIdeal.τ).loc Cert.GradW2RefIdeal.main_arg1) = m ((c.tc : Thread Cert.GradW2Ideal.nD Cert.GradW2Ideal.τ).loc Cert.GradW2Ideal.main_arg1)) →
    ∃ (v0 : (c : Dev Cert.GradW2Ideal.nD) → Buf (Elt Ideal) ((c.tc : Thread Cert.GradW2Ideal.nD Cert.GradW2Ideal.τ).loc Cert.GradW2Ideal.main_v0)),
      θ_run (Cert.GradW2Ideal.defs (F := Ideal)) (onTc (τ := Cert.GradW2Ideal.τ) (Cert.GradW2Ideal.main (F := Ideal))) ⟨m, fun _ => 0, g⟩ (fun r => ∀ c : Dev Cert.GradW2Ideal.nD,
          r.2.mem ((c.tc : Thread Cert.GradW2Ideal.nD Cert.GradW2Ideal.τ).loc Cert.GradW2Ideal.main_v0) = v0 c
          ∧ r.2.mem ((c.tc : Thread Cert.GradW2Ideal.nD Cert.GradW2Ideal.τ).loc Cert.GradW2Ideal.main_arg0) = m ((c.tc : Thread Cert.GradW2Ideal.nD Cert.GradW2Ideal.τ).loc Cert.GradW2Ideal.main_arg0)
          ∧ r.2.mem ((c.tc : Thread Cert.GradW2Ideal.nD Cert.GradW2Ideal.τ).loc Cert.GradW2Ideal.main_arg1) = m ((c.tc : Thread Cert.GradW2Ideal.nD Cert.GradW2Ideal.τ).loc Cert.GradW2Ideal.main_arg1))
      ∧ θ_run (Cert.GradW2RefIdeal.defs (F := Ideal)) (onTc (τ := Cert.GradW2RefIdeal.τ) (Cert.GradW2RefIdeal.main (F := Ideal))) ⟨m', fun _ => 0, g'⟩ (fun r => ∀ c : Dev Cert.GradW2RefIdeal.nD,
          r.2.mem ((c.tc : Thread Cert.GradW2RefIdeal.nD Cert.GradW2RefIdeal.τ).loc Cert.GradW2RefIdeal.main_v5) = v0 c
          ∧ r.2.mem ((c.tc : Thread Cert.GradW2RefIdeal.nD Cert.GradW2RefIdeal.τ).loc Cert.GradW2RefIdeal.main_arg0) = m' ((c.tc : Thread Cert.GradW2RefIdeal.nD Cert.GradW2RefIdeal.τ).loc Cert.GradW2RefIdeal.main_arg0)
          ∧ r.2.mem ((c.tc : Thread Cert.GradW2RefIdeal.nD Cert.GradW2RefIdeal.τ).loc Cert.GradW2RefIdeal.main_arg1) = m' ((c.tc : Thread Cert.GradW2RefIdeal.nD Cert.GradW2RefIdeal.τ).loc Cert.GradW2RefIdeal.main_arg1))

def preserves_GradW1_GradW1Ideal : Prop :=
  True

def algebraic_GradW1Ideal_GradW1RefIdeal [hGradW1Ideal : Cert.GradW1Ideal.Facts] [hGradW1RefIdeal : Cert.GradW1RefIdeal.Facts] : Prop :=
  ∀ (m : (ℓ : Loc Cert.GradW1Ideal.nD Cert.GradW1Ideal.τ Cert.GradW1Ideal.sig) → Buf (Elt Ideal) ℓ) (g : Dev Cert.GradW1Ideal.nD → PrngReg)
    (m' : (ℓ : Loc Cert.GradW1RefIdeal.nD Cert.GradW1RefIdeal.τ Cert.GradW1RefIdeal.sig) → Buf (Elt Ideal) ℓ) (g' : Dev Cert.GradW1RefIdeal.nD → PrngReg), Pre_GradW1Ideal m →
    (∀ c : Dev Cert.GradW1Ideal.nD,
      m' ((c.tc : Thread Cert.GradW1RefIdeal.nD Cert.GradW1RefIdeal.τ).loc Cert.GradW1RefIdeal.main_arg0) = m ((c.tc : Thread Cert.GradW1Ideal.nD Cert.GradW1Ideal.τ).loc Cert.GradW1Ideal.main_arg0)
      ∧ m' ((c.tc : Thread Cert.GradW1RefIdeal.nD Cert.GradW1RefIdeal.τ).loc Cert.GradW1RefIdeal.main_arg1) = m ((c.tc : Thread Cert.GradW1Ideal.nD Cert.GradW1Ideal.τ).loc Cert.GradW1Ideal.main_arg1)) →
    ∃ (v0 : (c : Dev Cert.GradW1Ideal.nD) → Buf (Elt Ideal) ((c.tc : Thread Cert.GradW1Ideal.nD Cert.GradW1Ideal.τ).loc Cert.GradW1Ideal.main_v0)),
      θ_run (Cert.GradW1Ideal.defs (F := Ideal)) (onTc (τ := Cert.GradW1Ideal.τ) (Cert.GradW1Ideal.main (F := Ideal))) ⟨m, fun _ => 0, g⟩ (fun r => ∀ c : Dev Cert.GradW1Ideal.nD,
          r.2.mem ((c.tc : Thread Cert.GradW1Ideal.nD Cert.GradW1Ideal.τ).loc Cert.GradW1Ideal.main_v0) = v0 c
          ∧ r.2.mem ((c.tc : Thread Cert.GradW1Ideal.nD Cert.GradW1Ideal.τ).loc Cert.GradW1Ideal.main_arg0) = m ((c.tc : Thread Cert.GradW1Ideal.nD Cert.GradW1Ideal.τ).loc Cert.GradW1Ideal.main_arg0)
          ∧ r.2.mem ((c.tc : Thread Cert.GradW1Ideal.nD Cert.GradW1Ideal.τ).loc Cert.GradW1Ideal.main_arg1) = m ((c.tc : Thread Cert.GradW1Ideal.nD Cert.GradW1Ideal.τ).loc Cert.GradW1Ideal.main_arg1))
      ∧ θ_run (Cert.GradW1RefIdeal.defs (F := Ideal)) (onTc (τ := Cert.GradW1RefIdeal.τ) (Cert.GradW1RefIdeal.main (F := Ideal))) ⟨m', fun _ => 0, g'⟩ (fun r => ∀ c : Dev Cert.GradW1RefIdeal.nD,
          r.2.mem ((c.tc : Thread Cert.GradW1RefIdeal.nD Cert.GradW1RefIdeal.τ).loc Cert.GradW1RefIdeal.main_v5) = v0 c
          ∧ r.2.mem ((c.tc : Thread Cert.GradW1RefIdeal.nD Cert.GradW1RefIdeal.τ).loc Cert.GradW1RefIdeal.main_arg0) = m' ((c.tc : Thread Cert.GradW1RefIdeal.nD Cert.GradW1RefIdeal.τ).loc Cert.GradW1RefIdeal.main_arg0)
          ∧ r.2.mem ((c.tc : Thread Cert.GradW1RefIdeal.nD Cert.GradW1RefIdeal.τ).loc Cert.GradW1RefIdeal.main_arg1) = m' ((c.tc : Thread Cert.GradW1RefIdeal.nD Cert.GradW1RefIdeal.τ).loc Cert.GradW1RefIdeal.main_arg1))

def preserves_GradWOut_GradWOutIdeal : Prop :=
  True

def algebraic_GradWOutIdeal_GradWOutRefIdeal [hGradWOutIdeal : Cert.GradWOutIdeal.Facts] [hGradWOutRefIdeal : Cert.GradWOutRefIdeal.Facts] : Prop :=
  ∀ (m : (ℓ : Loc Cert.GradWOutIdeal.nD Cert.GradWOutIdeal.τ Cert.GradWOutIdeal.sig) → Buf (Elt Ideal) ℓ) (g : Dev Cert.GradWOutIdeal.nD → PrngReg)
    (m' : (ℓ : Loc Cert.GradWOutRefIdeal.nD Cert.GradWOutRefIdeal.τ Cert.GradWOutRefIdeal.sig) → Buf (Elt Ideal) ℓ) (g' : Dev Cert.GradWOutRefIdeal.nD → PrngReg), Pre_GradWOutIdeal m →
    (∀ c : Dev Cert.GradWOutIdeal.nD,
      m' ((c.tc : Thread Cert.GradWOutRefIdeal.nD Cert.GradWOutRefIdeal.τ).loc Cert.GradWOutRefIdeal.main_arg0) = m ((c.tc : Thread Cert.GradWOutIdeal.nD Cert.GradWOutIdeal.τ).loc Cert.GradWOutIdeal.main_arg0)
      ∧ m' ((c.tc : Thread Cert.GradWOutRefIdeal.nD Cert.GradWOutRefIdeal.τ).loc Cert.GradWOutRefIdeal.main_arg1) = m ((c.tc : Thread Cert.GradWOutIdeal.nD Cert.GradWOutIdeal.τ).loc Cert.GradWOutIdeal.main_arg1)) →
    ∃ (v0 : (c : Dev Cert.GradWOutIdeal.nD) → Buf (Elt Ideal) ((c.tc : Thread Cert.GradWOutIdeal.nD Cert.GradWOutIdeal.τ).loc Cert.GradWOutIdeal.main_v0)),
      θ_run (Cert.GradWOutIdeal.defs (F := Ideal)) (onTc (τ := Cert.GradWOutIdeal.τ) (Cert.GradWOutIdeal.main (F := Ideal))) ⟨m, fun _ => 0, g⟩ (fun r => ∀ c : Dev Cert.GradWOutIdeal.nD,
          r.2.mem ((c.tc : Thread Cert.GradWOutIdeal.nD Cert.GradWOutIdeal.τ).loc Cert.GradWOutIdeal.main_v0) = v0 c
          ∧ r.2.mem ((c.tc : Thread Cert.GradWOutIdeal.nD Cert.GradWOutIdeal.τ).loc Cert.GradWOutIdeal.main_arg0) = m ((c.tc : Thread Cert.GradWOutIdeal.nD Cert.GradWOutIdeal.τ).loc Cert.GradWOutIdeal.main_arg0)
          ∧ r.2.mem ((c.tc : Thread Cert.GradWOutIdeal.nD Cert.GradWOutIdeal.τ).loc Cert.GradWOutIdeal.main_arg1) = m ((c.tc : Thread Cert.GradWOutIdeal.nD Cert.GradWOutIdeal.τ).loc Cert.GradWOutIdeal.main_arg1))
      ∧ θ_run (Cert.GradWOutRefIdeal.defs (F := Ideal)) (onTc (τ := Cert.GradWOutRefIdeal.τ) (Cert.GradWOutRefIdeal.main (F := Ideal))) ⟨m', fun _ => 0, g'⟩ (fun r => ∀ c : Dev Cert.GradWOutRefIdeal.nD,
          r.2.mem ((c.tc : Thread Cert.GradWOutRefIdeal.nD Cert.GradWOutRefIdeal.τ).loc Cert.GradWOutRefIdeal.main_v5) = v0 c
          ∧ r.2.mem ((c.tc : Thread Cert.GradWOutRefIdeal.nD Cert.GradWOutRefIdeal.τ).loc Cert.GradWOutRefIdeal.main_arg0) = m' ((c.tc : Thread Cert.GradWOutRefIdeal.nD Cert.GradWOutRefIdeal.τ).loc Cert.GradWOutRefIdeal.main_arg0)
          ∧ r.2.mem ((c.tc : Thread Cert.GradWOutRefIdeal.nD Cert.GradWOutRefIdeal.τ).loc Cert.GradWOutRefIdeal.main_arg1) = m' ((c.tc : Thread Cert.GradWOutRefIdeal.nD Cert.GradWOutRefIdeal.τ).loc Cert.GradWOutRefIdeal.main_arg1))

def preserves_GradZ_GradZIdeal : Prop :=
  True

def algebraic_GradZIdeal_GradZRefIdeal [hGradZIdeal : Cert.GradZIdeal.Facts] [hGradZRefIdeal : Cert.GradZRefIdeal.Facts] : Prop :=
  ∀ (m : (ℓ : Loc Cert.GradZIdeal.nD Cert.GradZIdeal.τ Cert.GradZIdeal.sig) → Buf (Elt Ideal) ℓ) (g : Dev Cert.GradZIdeal.nD → PrngReg)
    (m' : (ℓ : Loc Cert.GradZRefIdeal.nD Cert.GradZRefIdeal.τ Cert.GradZRefIdeal.sig) → Buf (Elt Ideal) ℓ) (g' : Dev Cert.GradZRefIdeal.nD → PrngReg), Pre_GradZIdeal m →
    (∀ c : Dev Cert.GradZIdeal.nD,
      m' ((c.tc : Thread Cert.GradZRefIdeal.nD Cert.GradZRefIdeal.τ).loc Cert.GradZRefIdeal.main_arg0) = m ((c.tc : Thread Cert.GradZIdeal.nD Cert.GradZIdeal.τ).loc Cert.GradZIdeal.main_arg0)
      ∧ m' ((c.tc : Thread Cert.GradZRefIdeal.nD Cert.GradZRefIdeal.τ).loc Cert.GradZRefIdeal.main_arg1) = m ((c.tc : Thread Cert.GradZIdeal.nD Cert.GradZIdeal.τ).loc Cert.GradZIdeal.main_arg1)) →
    ∃ (v0 : (c : Dev Cert.GradZIdeal.nD) → Buf (Elt Ideal) ((c.tc : Thread Cert.GradZIdeal.nD Cert.GradZIdeal.τ).loc Cert.GradZIdeal.main_v0)),
      θ_run (Cert.GradZIdeal.defs (F := Ideal)) (onTc (τ := Cert.GradZIdeal.τ) (Cert.GradZIdeal.main (F := Ideal))) ⟨m, fun _ => 0, g⟩ (fun r => ∀ c : Dev Cert.GradZIdeal.nD,
          r.2.mem ((c.tc : Thread Cert.GradZIdeal.nD Cert.GradZIdeal.τ).loc Cert.GradZIdeal.main_v0) = v0 c
          ∧ r.2.mem ((c.tc : Thread Cert.GradZIdeal.nD Cert.GradZIdeal.τ).loc Cert.GradZIdeal.main_arg0) = m ((c.tc : Thread Cert.GradZIdeal.nD Cert.GradZIdeal.τ).loc Cert.GradZIdeal.main_arg0)
          ∧ r.2.mem ((c.tc : Thread Cert.GradZIdeal.nD Cert.GradZIdeal.τ).loc Cert.GradZIdeal.main_arg1) = m ((c.tc : Thread Cert.GradZIdeal.nD Cert.GradZIdeal.τ).loc Cert.GradZIdeal.main_arg1))
      ∧ θ_run (Cert.GradZRefIdeal.defs (F := Ideal)) (onTc (τ := Cert.GradZRefIdeal.τ) (Cert.GradZRefIdeal.main (F := Ideal))) ⟨m', fun _ => 0, g'⟩ (fun r => ∀ c : Dev Cert.GradZRefIdeal.nD,
          r.2.mem ((c.tc : Thread Cert.GradZRefIdeal.nD Cert.GradZRefIdeal.τ).loc Cert.GradZRefIdeal.main_v6) = v0 c
          ∧ r.2.mem ((c.tc : Thread Cert.GradZRefIdeal.nD Cert.GradZRefIdeal.τ).loc Cert.GradZRefIdeal.main_arg0) = m' ((c.tc : Thread Cert.GradZRefIdeal.nD Cert.GradZRefIdeal.τ).loc Cert.GradZRefIdeal.main_arg0)
          ∧ r.2.mem ((c.tc : Thread Cert.GradZRefIdeal.nD Cert.GradZRefIdeal.τ).loc Cert.GradZRefIdeal.main_arg1) = m' ((c.tc : Thread Cert.GradZRefIdeal.nD Cert.GradZRefIdeal.τ).loc Cert.GradZRefIdeal.main_arg1))

def preserves_GradXbc_GradXbcIdeal : Prop :=
  True

def algebraic_GradXbcIdeal_GradXbcRefIdeal [hGradXbcIdeal : Cert.GradXbcIdeal.Facts] [hGradXbcRefIdeal : Cert.GradXbcRefIdeal.Facts] : Prop :=
  ∀ (m : (ℓ : Loc Cert.GradXbcIdeal.nD Cert.GradXbcIdeal.τ Cert.GradXbcIdeal.sig) → Buf (Elt Ideal) ℓ) (g : Dev Cert.GradXbcIdeal.nD → PrngReg)
    (m' : (ℓ : Loc Cert.GradXbcRefIdeal.nD Cert.GradXbcRefIdeal.τ Cert.GradXbcRefIdeal.sig) → Buf (Elt Ideal) ℓ) (g' : Dev Cert.GradXbcRefIdeal.nD → PrngReg), Pre_GradXbcIdeal m →
    (∀ c : Dev Cert.GradXbcIdeal.nD,
      m' ((c.tc : Thread Cert.GradXbcRefIdeal.nD Cert.GradXbcRefIdeal.τ).loc Cert.GradXbcRefIdeal.main_arg0) = m ((c.tc : Thread Cert.GradXbcIdeal.nD Cert.GradXbcIdeal.τ).loc Cert.GradXbcIdeal.main_arg0)
      ∧ m' ((c.tc : Thread Cert.GradXbcRefIdeal.nD Cert.GradXbcRefIdeal.τ).loc Cert.GradXbcRefIdeal.main_arg1) = m ((c.tc : Thread Cert.GradXbcIdeal.nD Cert.GradXbcIdeal.τ).loc Cert.GradXbcIdeal.main_arg1)) →
    ∃ (v0 : (c : Dev Cert.GradXbcIdeal.nD) → Buf (Elt Ideal) ((c.tc : Thread Cert.GradXbcIdeal.nD Cert.GradXbcIdeal.τ).loc Cert.GradXbcIdeal.main_v0)),
      θ_run (Cert.GradXbcIdeal.defs (F := Ideal)) (onTc (τ := Cert.GradXbcIdeal.τ) (Cert.GradXbcIdeal.main (F := Ideal))) ⟨m, fun _ => 0, g⟩ (fun r => ∀ c : Dev Cert.GradXbcIdeal.nD,
          r.2.mem ((c.tc : Thread Cert.GradXbcIdeal.nD Cert.GradXbcIdeal.τ).loc Cert.GradXbcIdeal.main_v0) = v0 c
          ∧ r.2.mem ((c.tc : Thread Cert.GradXbcIdeal.nD Cert.GradXbcIdeal.τ).loc Cert.GradXbcIdeal.main_arg0) = m ((c.tc : Thread Cert.GradXbcIdeal.nD Cert.GradXbcIdeal.τ).loc Cert.GradXbcIdeal.main_arg0)
          ∧ r.2.mem ((c.tc : Thread Cert.GradXbcIdeal.nD Cert.GradXbcIdeal.τ).loc Cert.GradXbcIdeal.main_arg1) = m ((c.tc : Thread Cert.GradXbcIdeal.nD Cert.GradXbcIdeal.τ).loc Cert.GradXbcIdeal.main_arg1))
      ∧ θ_run (Cert.GradXbcRefIdeal.defs (F := Ideal)) (onTc (τ := Cert.GradXbcRefIdeal.τ) (Cert.GradXbcRefIdeal.main (F := Ideal))) ⟨m', fun _ => 0, g'⟩ (fun r => ∀ c : Dev Cert.GradXbcRefIdeal.nD,
          r.2.mem ((c.tc : Thread Cert.GradXbcRefIdeal.nD Cert.GradXbcRefIdeal.τ).loc Cert.GradXbcRefIdeal.main_v7) = v0 c
          ∧ r.2.mem ((c.tc : Thread Cert.GradXbcRefIdeal.nD Cert.GradXbcRefIdeal.τ).loc Cert.GradXbcRefIdeal.main_arg0) = m' ((c.tc : Thread Cert.GradXbcRefIdeal.nD Cert.GradXbcRefIdeal.τ).loc Cert.GradXbcRefIdeal.main_arg0)
          ∧ r.2.mem ((c.tc : Thread Cert.GradXbcRefIdeal.nD Cert.GradXbcRefIdeal.τ).loc Cert.GradXbcRefIdeal.main_arg1) = m' ((c.tc : Thread Cert.GradXbcRefIdeal.nD Cert.GradXbcRefIdeal.τ).loc Cert.GradXbcRefIdeal.main_arg1))

def preserves_GradDt_GradDtIdeal : Prop :=
  True

def algebraic_GradDtIdeal_GradDtRefIdeal [hGradDtIdeal : Cert.GradDtIdeal.Facts] [hGradDtRefIdeal : Cert.GradDtRefIdeal.Facts] : Prop :=
  ∀ (m : (ℓ : Loc Cert.GradDtIdeal.nD Cert.GradDtIdeal.τ Cert.GradDtIdeal.sig) → Buf (Elt Ideal) ℓ) (g : Dev Cert.GradDtIdeal.nD → PrngReg)
    (m' : (ℓ : Loc Cert.GradDtRefIdeal.nD Cert.GradDtRefIdeal.τ Cert.GradDtRefIdeal.sig) → Buf (Elt Ideal) ℓ) (g' : Dev Cert.GradDtRefIdeal.nD → PrngReg), Pre_GradDtIdeal m →
    (∀ c : Dev Cert.GradDtIdeal.nD,
      m' ((c.tc : Thread Cert.GradDtRefIdeal.nD Cert.GradDtRefIdeal.τ).loc Cert.GradDtRefIdeal.main_arg0) = m ((c.tc : Thread Cert.GradDtIdeal.nD Cert.GradDtIdeal.τ).loc Cert.GradDtIdeal.main_arg0)
      ∧ m' ((c.tc : Thread Cert.GradDtRefIdeal.nD Cert.GradDtRefIdeal.τ).loc Cert.GradDtRefIdeal.main_arg1) = m ((c.tc : Thread Cert.GradDtIdeal.nD Cert.GradDtIdeal.τ).loc Cert.GradDtIdeal.main_arg1)) →
    ∃ (v0 : (c : Dev Cert.GradDtIdeal.nD) → Buf (Elt Ideal) ((c.tc : Thread Cert.GradDtIdeal.nD Cert.GradDtIdeal.τ).loc Cert.GradDtIdeal.main_v0)),
      θ_run (Cert.GradDtIdeal.defs (F := Ideal)) (onTc (τ := Cert.GradDtIdeal.τ) (Cert.GradDtIdeal.main (F := Ideal))) ⟨m, fun _ => 0, g⟩ (fun r => ∀ c : Dev Cert.GradDtIdeal.nD,
          r.2.mem ((c.tc : Thread Cert.GradDtIdeal.nD Cert.GradDtIdeal.τ).loc Cert.GradDtIdeal.main_v0) = v0 c
          ∧ r.2.mem ((c.tc : Thread Cert.GradDtIdeal.nD Cert.GradDtIdeal.τ).loc Cert.GradDtIdeal.main_arg0) = m ((c.tc : Thread Cert.GradDtIdeal.nD Cert.GradDtIdeal.τ).loc Cert.GradDtIdeal.main_arg0)
          ∧ r.2.mem ((c.tc : Thread Cert.GradDtIdeal.nD Cert.GradDtIdeal.τ).loc Cert.GradDtIdeal.main_arg1) = m ((c.tc : Thread Cert.GradDtIdeal.nD Cert.GradDtIdeal.τ).loc Cert.GradDtIdeal.main_arg1))
      ∧ θ_run (Cert.GradDtRefIdeal.defs (F := Ideal)) (onTc (τ := Cert.GradDtRefIdeal.τ) (Cert.GradDtRefIdeal.main (F := Ideal))) ⟨m', fun _ => 0, g'⟩ (fun r => ∀ c : Dev Cert.GradDtRefIdeal.nD,
          r.2.mem ((c.tc : Thread Cert.GradDtRefIdeal.nD Cert.GradDtRefIdeal.τ).loc Cert.GradDtRefIdeal.main_v6) = v0 c
          ∧ r.2.mem ((c.tc : Thread Cert.GradDtRefIdeal.nD Cert.GradDtRefIdeal.τ).loc Cert.GradDtRefIdeal.main_arg0) = m' ((c.tc : Thread Cert.GradDtRefIdeal.nD Cert.GradDtRefIdeal.τ).loc Cert.GradDtRefIdeal.main_arg0)
          ∧ r.2.mem ((c.tc : Thread Cert.GradDtRefIdeal.nD Cert.GradDtRefIdeal.τ).loc Cert.GradDtRefIdeal.main_arg1) = m' ((c.tc : Thread Cert.GradDtRefIdeal.nD Cert.GradDtRefIdeal.τ).loc Cert.GradDtRefIdeal.main_arg1))

def preserves_GradS5_GradS5Ideal : Prop :=
  True

def algebraic_GradS5Ideal_GradS5RefIdeal [hGradS5Ideal : Cert.GradS5Ideal.Facts] [hGradS5RefIdeal : Cert.GradS5RefIdeal.Facts] : Prop :=
  ∀ (m : (ℓ : Loc Cert.GradS5Ideal.nD Cert.GradS5Ideal.τ Cert.GradS5Ideal.sig) → Buf (Elt Ideal) ℓ) (g : Dev Cert.GradS5Ideal.nD → PrngReg)
    (m' : (ℓ : Loc Cert.GradS5RefIdeal.nD Cert.GradS5RefIdeal.τ Cert.GradS5RefIdeal.sig) → Buf (Elt Ideal) ℓ) (g' : Dev Cert.GradS5RefIdeal.nD → PrngReg), Pre_GradS5Ideal m →
    (∀ c : Dev Cert.GradS5Ideal.nD,
      m' ((c.tc : Thread Cert.GradS5RefIdeal.nD Cert.GradS5RefIdeal.τ).loc Cert.GradS5RefIdeal.main_arg0) = m ((c.tc : Thread Cert.GradS5Ideal.nD Cert.GradS5Ideal.τ).loc Cert.GradS5Ideal.main_arg0)
      ∧ m' ((c.tc : Thread Cert.GradS5RefIdeal.nD Cert.GradS5RefIdeal.τ).loc Cert.GradS5RefIdeal.main_arg1) = m ((c.tc : Thread Cert.GradS5Ideal.nD Cert.GradS5Ideal.τ).loc Cert.GradS5Ideal.main_arg1)) →
    ∃ (v0 : (c : Dev Cert.GradS5Ideal.nD) → Buf (Elt Ideal) ((c.tc : Thread Cert.GradS5Ideal.nD Cert.GradS5Ideal.τ).loc Cert.GradS5Ideal.main_v0)),
      θ_run (Cert.GradS5Ideal.defs (F := Ideal)) (onTc (τ := Cert.GradS5Ideal.τ) (Cert.GradS5Ideal.main (F := Ideal))) ⟨m, fun _ => 0, g⟩ (fun r => ∀ c : Dev Cert.GradS5Ideal.nD,
          r.2.mem ((c.tc : Thread Cert.GradS5Ideal.nD Cert.GradS5Ideal.τ).loc Cert.GradS5Ideal.main_v0) = v0 c
          ∧ r.2.mem ((c.tc : Thread Cert.GradS5Ideal.nD Cert.GradS5Ideal.τ).loc Cert.GradS5Ideal.main_arg0) = m ((c.tc : Thread Cert.GradS5Ideal.nD Cert.GradS5Ideal.τ).loc Cert.GradS5Ideal.main_arg0)
          ∧ r.2.mem ((c.tc : Thread Cert.GradS5Ideal.nD Cert.GradS5Ideal.τ).loc Cert.GradS5Ideal.main_arg1) = m ((c.tc : Thread Cert.GradS5Ideal.nD Cert.GradS5Ideal.τ).loc Cert.GradS5Ideal.main_arg1))
      ∧ θ_run (Cert.GradS5RefIdeal.defs (F := Ideal)) (onTc (τ := Cert.GradS5RefIdeal.τ) (Cert.GradS5RefIdeal.main (F := Ideal))) ⟨m', fun _ => 0, g'⟩ (fun r => ∀ c : Dev Cert.GradS5RefIdeal.nD,
          r.2.mem ((c.tc : Thread Cert.GradS5RefIdeal.nD Cert.GradS5RefIdeal.τ).loc Cert.GradS5RefIdeal.main_v6) = v0 c
          ∧ r.2.mem ((c.tc : Thread Cert.GradS5RefIdeal.nD Cert.GradS5RefIdeal.τ).loc Cert.GradS5RefIdeal.main_arg0) = m' ((c.tc : Thread Cert.GradS5RefIdeal.nD Cert.GradS5RefIdeal.τ).loc Cert.GradS5RefIdeal.main_arg0)
          ∧ r.2.mem ((c.tc : Thread Cert.GradS5RefIdeal.nD Cert.GradS5RefIdeal.τ).loc Cert.GradS5RefIdeal.main_arg1) = m' ((c.tc : Thread Cert.GradS5RefIdeal.nD Cert.GradS5RefIdeal.τ).loc Cert.GradS5RefIdeal.main_arg1))

def preserves_OutNorm_OutNormIdeal : Prop :=
  True

def algebraic_OutNormIdeal_OutNormRefIdeal [hOutNormIdeal : Cert.OutNormIdeal.Facts] [hOutNormRefIdeal : Cert.OutNormRefIdeal.Facts] : Prop :=
  ∀ (m : (ℓ : Loc Cert.OutNormIdeal.nD Cert.OutNormIdeal.τ Cert.OutNormIdeal.sig) → Buf (Elt Ideal) ℓ) (g : Dev Cert.OutNormIdeal.nD → PrngReg)
    (m' : (ℓ : Loc Cert.OutNormRefIdeal.nD Cert.OutNormRefIdeal.τ Cert.OutNormRefIdeal.sig) → Buf (Elt Ideal) ℓ) (g' : Dev Cert.OutNormRefIdeal.nD → PrngReg), Pre_OutNormIdeal m →
    (∀ c : Dev Cert.OutNormIdeal.nD,
      m' ((c.tc : Thread Cert.OutNormRefIdeal.nD Cert.OutNormRefIdeal.τ).loc Cert.OutNormRefIdeal.main_arg0) = m ((c.tc : Thread Cert.OutNormIdeal.nD Cert.OutNormIdeal.τ).loc Cert.OutNormIdeal.main_arg0)
      ∧ m' ((c.tc : Thread Cert.OutNormRefIdeal.nD Cert.OutNormRefIdeal.τ).loc Cert.OutNormRefIdeal.main_arg1) = m ((c.tc : Thread Cert.OutNormIdeal.nD Cert.OutNormIdeal.τ).loc Cert.OutNormIdeal.main_arg1)
      ∧ m' ((c.tc : Thread Cert.OutNormRefIdeal.nD Cert.OutNormRefIdeal.τ).loc Cert.OutNormRefIdeal.main_arg2) = m ((c.tc : Thread Cert.OutNormIdeal.nD Cert.OutNormIdeal.τ).loc Cert.OutNormIdeal.main_arg2)
      ∧ m' ((c.tc : Thread Cert.OutNormRefIdeal.nD Cert.OutNormRefIdeal.τ).loc Cert.OutNormRefIdeal.main_arg3) = m ((c.tc : Thread Cert.OutNormIdeal.nD Cert.OutNormIdeal.τ).loc Cert.OutNormIdeal.main_arg3)
      ∧ m' ((c.tc : Thread Cert.OutNormRefIdeal.nD Cert.OutNormRefIdeal.τ).loc Cert.OutNormRefIdeal.main_arg4) = m ((c.tc : Thread Cert.OutNormIdeal.nD Cert.OutNormIdeal.τ).loc Cert.OutNormIdeal.main_arg4)
      ∧ m' ((c.tc : Thread Cert.OutNormRefIdeal.nD Cert.OutNormRefIdeal.τ).loc Cert.OutNormRefIdeal.main_arg5) = m ((c.tc : Thread Cert.OutNormIdeal.nD Cert.OutNormIdeal.τ).loc Cert.OutNormIdeal.main_arg5)) →
    ∃ (v0 : (c : Dev Cert.OutNormIdeal.nD) → Buf (Elt Ideal) ((c.tc : Thread Cert.OutNormIdeal.nD Cert.OutNormIdeal.τ).loc Cert.OutNormIdeal.main_v6_0)) (v1 : (c : Dev Cert.OutNormIdeal.nD) → Buf (Elt Ideal) ((c.tc : Thread Cert.OutNormIdeal.nD Cert.OutNormIdeal.τ).loc Cert.OutNormIdeal.main_v6_1)),
      θ_run (Cert.OutNormIdeal.defs (F := Ideal)) (onTc (τ := Cert.OutNormIdeal.τ) (Cert.OutNormIdeal.main (F := Ideal))) ⟨m, fun _ => 0, g⟩ (fun r => ∀ c : Dev Cert.OutNormIdeal.nD,
          r.2.mem ((c.tc : Thread Cert.OutNormIdeal.nD Cert.OutNormIdeal.τ).loc Cert.OutNormIdeal.main_v6_0) = v0 c
          ∧ r.2.mem ((c.tc : Thread Cert.OutNormIdeal.nD Cert.OutNormIdeal.τ).loc Cert.OutNormIdeal.main_v6_1) = v1 c
          ∧ r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
          ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
          ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2)
          ∧ r.2.mem ((c.tc : Thread Cert.OutNormIdeal.nD Cert.OutNormIdeal.τ).loc Cert.OutNormIdeal.main_arg3) = m ((c.tc : Thread Cert.OutNormIdeal.nD Cert.OutNormIdeal.τ).loc Cert.OutNormIdeal.main_arg3)
          ∧ r.2.mem ((c.tc : Thread Cert.OutNormIdeal.nD Cert.OutNormIdeal.τ).loc Cert.OutNormIdeal.main_arg4) = m ((c.tc : Thread Cert.OutNormIdeal.nD Cert.OutNormIdeal.τ).loc Cert.OutNormIdeal.main_arg4)
          ∧ r.2.mem ((c.tc : Thread Cert.OutNormIdeal.nD Cert.OutNormIdeal.τ).loc Cert.OutNormIdeal.main_arg5) = m ((c.tc : Thread Cert.OutNormIdeal.nD Cert.OutNormIdeal.τ).loc Cert.OutNormIdeal.main_arg5))
      ∧ θ_run (Cert.OutNormRefIdeal.defs (F := Ideal)) (onTc (τ := Cert.OutNormRefIdeal.τ) (Cert.OutNormRefIdeal.main (F := Ideal))) ⟨m', fun _ => 0, g'⟩ (fun r => ∀ c : Dev Cert.OutNormRefIdeal.nD,
          r.2.mem ((c.tc : Thread Cert.OutNormRefIdeal.nD Cert.OutNormRefIdeal.τ).loc Cert.OutNormRefIdeal.main_v37) = v0 c
          ∧ r.2.mem ((c.tc : Thread Cert.OutNormRefIdeal.nD Cert.OutNormRefIdeal.τ).loc Cert.OutNormRefIdeal.main_v38) = v1 c
          ∧ r.2.mem ((c.tc : Thread Cert.OutNormRefIdeal.nD Cert.OutNormRefIdeal.τ).loc Cert.OutNormRefIdeal.main_arg0) = m' ((c.tc : Thread Cert.OutNormRefIdeal.nD Cert.OutNormRefIdeal.τ).loc Cert.OutNormRefIdeal.main_arg0)
          ∧ r.2.mem ((c.tc : Thread Cert.OutNormRefIdeal.nD Cert.OutNormRefIdeal.τ).loc Cert.OutNormRefIdeal.main_arg1) = m' ((c.tc : Thread Cert.OutNormRefIdeal.nD Cert.OutNormRefIdeal.τ).loc Cert.OutNormRefIdeal.main_arg1)
          ∧ r.2.mem ((c.tc : Thread Cert.OutNormRefIdeal.nD Cert.OutNormRefIdeal.τ).loc Cert.OutNormRefIdeal.main_arg2) = m' ((c.tc : Thread Cert.OutNormRefIdeal.nD Cert.OutNormRefIdeal.τ).loc Cert.OutNormRefIdeal.main_arg2)
          ∧ r.2.mem ((c.tc : Thread Cert.OutNormRefIdeal.nD Cert.OutNormRefIdeal.τ).loc Cert.OutNormRefIdeal.main_arg3) = m' ((c.tc : Thread Cert.OutNormRefIdeal.nD Cert.OutNormRefIdeal.τ).loc Cert.OutNormRefIdeal.main_arg3)
          ∧ r.2.mem ((c.tc : Thread Cert.OutNormRefIdeal.nD Cert.OutNormRefIdeal.τ).loc Cert.OutNormRefIdeal.main_arg4) = m' ((c.tc : Thread Cert.OutNormRefIdeal.nD Cert.OutNormRefIdeal.τ).loc Cert.OutNormRefIdeal.main_arg4)
          ∧ r.2.mem ((c.tc : Thread Cert.OutNormRefIdeal.nD Cert.OutNormRefIdeal.τ).loc Cert.OutNormRefIdeal.main_arg5) = m' ((c.tc : Thread Cert.OutNormRefIdeal.nD Cert.OutNormRefIdeal.τ).loc Cert.OutNormRefIdeal.main_arg5))

def preserves_NormGrad_NormGradIdeal : Prop :=
  True

def algebraic_NormGradIdeal_NormGradRefIdeal_pre_norm_finite [hNormGradIdeal : Cert.NormGradIdeal.Facts] [hNormGradRefIdeal : Cert.NormGradRefIdeal.Facts] [hPre_norm_finite : Cert.Pre_norm_finite.Facts] : Prop :=
  ∀ (m : (ℓ : Loc Cert.NormGradIdeal.nD Cert.NormGradIdeal.τ Cert.NormGradIdeal.sig) → Buf (Elt Ideal) ℓ) (g : Dev Cert.NormGradIdeal.nD → PrngReg)
    (m' : (ℓ : Loc Cert.NormGradRefIdeal.nD Cert.NormGradRefIdeal.τ Cert.NormGradRefIdeal.sig) → Buf (Elt Ideal) ℓ) (g' : Dev Cert.NormGradRefIdeal.nD → PrngReg), Pre_NormGradIdeal_norm_finite m →
    (∀ c : Dev Cert.NormGradIdeal.nD,
      m' ((c.tc : Thread Cert.NormGradRefIdeal.nD Cert.NormGradRefIdeal.τ).loc Cert.NormGradRefIdeal.main_arg0) = m ((c.tc : Thread Cert.NormGradIdeal.nD Cert.NormGradIdeal.τ).loc Cert.NormGradIdeal.main_arg0)
      ∧ m' ((c.tc : Thread Cert.NormGradRefIdeal.nD Cert.NormGradRefIdeal.τ).loc Cert.NormGradRefIdeal.main_arg1) = m ((c.tc : Thread Cert.NormGradIdeal.nD Cert.NormGradIdeal.τ).loc Cert.NormGradIdeal.main_arg1)
      ∧ m' ((c.tc : Thread Cert.NormGradRefIdeal.nD Cert.NormGradRefIdeal.τ).loc Cert.NormGradRefIdeal.main_arg2) = m ((c.tc : Thread Cert.NormGradIdeal.nD Cert.NormGradIdeal.τ).loc Cert.NormGradIdeal.main_arg2)
      ∧ m' ((c.tc : Thread Cert.NormGradRefIdeal.nD Cert.NormGradRefIdeal.τ).loc Cert.NormGradRefIdeal.main_arg3) = m ((c.tc : Thread Cert.NormGradIdeal.nD Cert.NormGradIdeal.τ).loc Cert.NormGradIdeal.main_arg3)
      ∧ m' ((c.tc : Thread Cert.NormGradRefIdeal.nD Cert.NormGradRefIdeal.τ).loc Cert.NormGradRefIdeal.main_arg4) = m ((c.tc : Thread Cert.NormGradIdeal.nD Cert.NormGradIdeal.τ).loc Cert.NormGradIdeal.main_arg4)
      ∧ m' ((c.tc : Thread Cert.NormGradRefIdeal.nD Cert.NormGradRefIdeal.τ).loc Cert.NormGradRefIdeal.main_arg5) = m ((c.tc : Thread Cert.NormGradIdeal.nD Cert.NormGradIdeal.τ).loc Cert.NormGradIdeal.main_arg5)
      ∧ m' ((c.tc : Thread Cert.NormGradRefIdeal.nD Cert.NormGradRefIdeal.τ).loc Cert.NormGradRefIdeal.main_arg6) = m ((c.tc : Thread Cert.NormGradIdeal.nD Cert.NormGradIdeal.τ).loc Cert.NormGradIdeal.main_arg6)) →
    ∃ (v0 : (c : Dev Cert.NormGradIdeal.nD) → Buf (Elt Ideal) ((c.tc : Thread Cert.NormGradIdeal.nD Cert.NormGradIdeal.τ).loc Cert.NormGradIdeal.main_v8_0)) (v1 : (c : Dev Cert.NormGradIdeal.nD) → Buf (Elt Ideal) ((c.tc : Thread Cert.NormGradIdeal.nD Cert.NormGradIdeal.τ).loc Cert.NormGradIdeal.main_v8_1)) (v2 : (c : Dev Cert.NormGradIdeal.nD) → Buf (Elt Ideal) ((c.tc : Thread Cert.NormGradIdeal.nD Cert.NormGradIdeal.τ).loc Cert.NormGradIdeal.main_v8_2)) (v3 : (c : Dev Cert.NormGradIdeal.nD) → Buf (Elt Ideal) ((c.tc : Thread Cert.NormGradIdeal.nD Cert.NormGradIdeal.τ).loc Cert.NormGradIdeal.main_v8_3)) (v4 : (c : Dev Cert.NormGradIdeal.nD) → Buf (Elt Ideal) ((c.tc : Thread Cert.NormGradIdeal.nD Cert.NormGradIdeal.τ).loc Cert.NormGradIdeal.main_v8_4)) (v5 : (c : Dev Cert.NormGradIdeal.nD) → Buf (Elt Ideal) ((c.tc : Thread Cert.NormGradIdeal.nD Cert.NormGradIdeal.τ).loc Cert.NormGradIdeal.main_v8_5)),
      θ_run (Cert.NormGradIdeal.defs (F := Ideal)) (onTc (τ := Cert.NormGradIdeal.τ) (Cert.NormGradIdeal.main (F := Ideal))) ⟨m, fun _ => 0, g⟩ (fun r => ∀ c : Dev Cert.NormGradIdeal.nD,
          r.2.mem ((c.tc : Thread Cert.NormGradIdeal.nD Cert.NormGradIdeal.τ).loc Cert.NormGradIdeal.main_v8_0) = v0 c
          ∧ r.2.mem ((c.tc : Thread Cert.NormGradIdeal.nD Cert.NormGradIdeal.τ).loc Cert.NormGradIdeal.main_v8_1) = v1 c
          ∧ r.2.mem ((c.tc : Thread Cert.NormGradIdeal.nD Cert.NormGradIdeal.τ).loc Cert.NormGradIdeal.main_v8_2) = v2 c
          ∧ r.2.mem ((c.tc : Thread Cert.NormGradIdeal.nD Cert.NormGradIdeal.τ).loc Cert.NormGradIdeal.main_v8_3) = v3 c
          ∧ r.2.mem ((c.tc : Thread Cert.NormGradIdeal.nD Cert.NormGradIdeal.τ).loc Cert.NormGradIdeal.main_v8_4) = v4 c
          ∧ r.2.mem ((c.tc : Thread Cert.NormGradIdeal.nD Cert.NormGradIdeal.τ).loc Cert.NormGradIdeal.main_v8_5) = v5 c
          ∧ r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
          ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
          ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
          ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
          ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4)
          ∧ r.2.mem ((c.tc : Thread Cert.NormGradIdeal.nD Cert.NormGradIdeal.τ).loc Cert.NormGradIdeal.main_arg5) = m ((c.tc : Thread Cert.NormGradIdeal.nD Cert.NormGradIdeal.τ).loc Cert.NormGradIdeal.main_arg5)
          ∧ r.2.mem ((c.tc : Thread Cert.NormGradIdeal.nD Cert.NormGradIdeal.τ).loc Cert.NormGradIdeal.main_arg6) = m ((c.tc : Thread Cert.NormGradIdeal.nD Cert.NormGradIdeal.τ).loc Cert.NormGradIdeal.main_arg6))
      ∧ θ_run (Cert.NormGradRefIdeal.defs (F := Ideal)) (onTc (τ := Cert.NormGradRefIdeal.τ) (Cert.NormGradRefIdeal.main (F := Ideal))) ⟨m', fun _ => 0, g'⟩ (fun r => ∀ c : Dev Cert.NormGradRefIdeal.nD,
          r.2.mem ((c.tc : Thread Cert.NormGradRefIdeal.nD Cert.NormGradRefIdeal.τ).loc Cert.NormGradRefIdeal.main_v84) = v0 c
          ∧ r.2.mem ((c.tc : Thread Cert.NormGradRefIdeal.nD Cert.NormGradRefIdeal.τ).loc Cert.NormGradRefIdeal.main_v85) = v1 c
          ∧ r.2.mem ((c.tc : Thread Cert.NormGradRefIdeal.nD Cert.NormGradRefIdeal.τ).loc Cert.NormGradRefIdeal.main_v86) = v2 c
          ∧ r.2.mem ((c.tc : Thread Cert.NormGradRefIdeal.nD Cert.NormGradRefIdeal.τ).loc Cert.NormGradRefIdeal.main_v87) = v3 c
          ∧ r.2.mem ((c.tc : Thread Cert.NormGradRefIdeal.nD Cert.NormGradRefIdeal.τ).loc Cert.NormGradRefIdeal.main_v80) = v4 c
          ∧ r.2.mem ((c.tc : Thread Cert.NormGradRefIdeal.nD Cert.NormGradRefIdeal.τ).loc Cert.NormGradRefIdeal.main_v82) = v5 c
          ∧ r.2.mem ((c.tc : Thread Cert.NormGradRefIdeal.nD Cert.NormGradRefIdeal.τ).loc Cert.NormGradRefIdeal.main_arg0) = m' ((c.tc : Thread Cert.NormGradRefIdeal.nD Cert.NormGradRefIdeal.τ).loc Cert.NormGradRefIdeal.main_arg0)
          ∧ r.2.mem ((c.tc : Thread Cert.NormGradRefIdeal.nD Cert.NormGradRefIdeal.τ).loc Cert.NormGradRefIdeal.main_arg1) = m' ((c.tc : Thread Cert.NormGradRefIdeal.nD Cert.NormGradRefIdeal.τ).loc Cert.NormGradRefIdeal.main_arg1)
          ∧ r.2.mem ((c.tc : Thread Cert.NormGradRefIdeal.nD Cert.NormGradRefIdeal.τ).loc Cert.NormGradRefIdeal.main_arg2) = m' ((c.tc : Thread Cert.NormGradRefIdeal.nD Cert.NormGradRefIdeal.τ).loc Cert.NormGradRefIdeal.main_arg2)
          ∧ r.2.mem ((c.tc : Thread Cert.NormGradRefIdeal.nD Cert.NormGradRefIdeal.τ).loc Cert.NormGradRefIdeal.main_arg3) = m' ((c.tc : Thread Cert.NormGradRefIdeal.nD Cert.NormGradRefIdeal.τ).loc Cert.NormGradRefIdeal.main_arg3)
          ∧ r.2.mem ((c.tc : Thread Cert.NormGradRefIdeal.nD Cert.NormGradRefIdeal.τ).loc Cert.NormGradRefIdeal.main_arg4) = m' ((c.tc : Thread Cert.NormGradRefIdeal.nD Cert.NormGradRefIdeal.τ).loc Cert.NormGradRefIdeal.main_arg4)
          ∧ r.2.mem ((c.tc : Thread Cert.NormGradRefIdeal.nD Cert.NormGradRefIdeal.τ).loc Cert.NormGradRefIdeal.main_arg5) = m' ((c.tc : Thread Cert.NormGradRefIdeal.nD Cert.NormGradRefIdeal.τ).loc Cert.NormGradRefIdeal.main_arg5)
          ∧ r.2.mem ((c.tc : Thread Cert.NormGradRefIdeal.nD Cert.NormGradRefIdeal.τ).loc Cert.NormGradRefIdeal.main_arg6) = m' ((c.tc : Thread Cert.NormGradRefIdeal.nD Cert.NormGradRefIdeal.τ).loc Cert.NormGradRefIdeal.main_arg6))

def preserves_ProjConv_ProjConvIdeal : Prop :=
  True

def algebraic_ProjConvIdeal_ProjConvRefIdeal [hProjConvIdeal : Cert.ProjConvIdeal.Facts] [hProjConvRefIdeal : Cert.ProjConvRefIdeal.Facts] : Prop :=
  ∀ (m : (ℓ : Loc Cert.ProjConvIdeal.nD Cert.ProjConvIdeal.τ Cert.ProjConvIdeal.sig) → Buf (Elt Ideal) ℓ) (g : Dev Cert.ProjConvIdeal.nD → PrngReg)
    (m' : (ℓ : Loc Cert.ProjConvRefIdeal.nD Cert.ProjConvRefIdeal.τ Cert.ProjConvRefIdeal.sig) → Buf (Elt Ideal) ℓ) (g' : Dev Cert.ProjConvRefIdeal.nD → PrngReg), Pre_ProjConvIdeal m →
    (∀ c : Dev Cert.ProjConvIdeal.nD,
      m' ((c.tc : Thread Cert.ProjConvRefIdeal.nD Cert.ProjConvRefIdeal.τ).loc Cert.ProjConvRefIdeal.main_arg0) = m ((c.tc : Thread Cert.ProjConvIdeal.nD Cert.ProjConvIdeal.τ).loc Cert.ProjConvIdeal.main_arg0)
      ∧ m' ((c.tc : Thread Cert.ProjConvRefIdeal.nD Cert.ProjConvRefIdeal.τ).loc Cert.ProjConvRefIdeal.main_arg1) = m ((c.tc : Thread Cert.ProjConvIdeal.nD Cert.ProjConvIdeal.τ).loc Cert.ProjConvIdeal.main_arg1)
      ∧ m' ((c.tc : Thread Cert.ProjConvRefIdeal.nD Cert.ProjConvRefIdeal.τ).loc Cert.ProjConvRefIdeal.main_arg2) = m ((c.tc : Thread Cert.ProjConvIdeal.nD Cert.ProjConvIdeal.τ).loc Cert.ProjConvIdeal.main_arg2)
      ∧ m' ((c.tc : Thread Cert.ProjConvRefIdeal.nD Cert.ProjConvRefIdeal.τ).loc Cert.ProjConvRefIdeal.main_arg3) = m ((c.tc : Thread Cert.ProjConvIdeal.nD Cert.ProjConvIdeal.τ).loc Cert.ProjConvIdeal.main_arg3)
      ∧ m' ((c.tc : Thread Cert.ProjConvRefIdeal.nD Cert.ProjConvRefIdeal.τ).loc Cert.ProjConvRefIdeal.main_arg4) = m ((c.tc : Thread Cert.ProjConvIdeal.nD Cert.ProjConvIdeal.τ).loc Cert.ProjConvIdeal.main_arg4)) →
    ∃ (v0 : (c : Dev Cert.ProjConvIdeal.nD) → Buf (Elt Ideal) ((c.tc : Thread Cert.ProjConvIdeal.nD Cert.ProjConvIdeal.τ).loc Cert.ProjConvIdeal.main_v8_0)) (v1 : (c : Dev Cert.ProjConvIdeal.nD) → Buf (Elt Ideal) ((c.tc : Thread Cert.ProjConvIdeal.nD Cert.ProjConvIdeal.τ).loc Cert.ProjConvIdeal.main_v8_1)) (v2 : (c : Dev Cert.ProjConvIdeal.nD) → Buf (Elt Ideal) ((c.tc : Thread Cert.ProjConvIdeal.nD Cert.ProjConvIdeal.τ).loc Cert.ProjConvIdeal.main_v8_2)) (v3 : (c : Dev Cert.ProjConvIdeal.nD) → Buf (Elt Ideal) ((c.tc : Thread Cert.ProjConvIdeal.nD Cert.ProjConvIdeal.τ).loc Cert.ProjConvIdeal.main_v8_3)) (v4 : (c : Dev Cert.ProjConvIdeal.nD) → Buf (Elt Ideal) ((c.tc : Thread Cert.ProjConvIdeal.nD Cert.ProjConvIdeal.τ).loc Cert.ProjConvIdeal.main_v8_4)) (v5 : (c : Dev Cert.ProjConvIdeal.nD) → Buf (Elt Ideal) ((c.tc : Thread Cert.ProjConvIdeal.nD Cert.ProjConvIdeal.τ).loc Cert.ProjConvIdeal.main_v8_5)),
      θ_run (Cert.ProjConvIdeal.defs (F := Ideal)) (onTc (τ := Cert.ProjConvIdeal.τ) (Cert.ProjConvIdeal.main (F := Ideal))) ⟨m, fun _ => 0, g⟩ (fun r => ∀ c : Dev Cert.ProjConvIdeal.nD,
          r.2.mem ((c.tc : Thread Cert.ProjConvIdeal.nD Cert.ProjConvIdeal.τ).loc Cert.ProjConvIdeal.main_v8_0) = v0 c
          ∧ r.2.mem ((c.tc : Thread Cert.ProjConvIdeal.nD Cert.ProjConvIdeal.τ).loc Cert.ProjConvIdeal.main_v8_1) = v1 c
          ∧ r.2.mem ((c.tc : Thread Cert.ProjConvIdeal.nD Cert.ProjConvIdeal.τ).loc Cert.ProjConvIdeal.main_v8_2) = v2 c
          ∧ r.2.mem ((c.tc : Thread Cert.ProjConvIdeal.nD Cert.ProjConvIdeal.τ).loc Cert.ProjConvIdeal.main_v8_3) = v3 c
          ∧ r.2.mem ((c.tc : Thread Cert.ProjConvIdeal.nD Cert.ProjConvIdeal.τ).loc Cert.ProjConvIdeal.main_v8_4) = v4 c
          ∧ r.2.mem ((c.tc : Thread Cert.ProjConvIdeal.nD Cert.ProjConvIdeal.τ).loc Cert.ProjConvIdeal.main_v8_5) = v5 c
          ∧ r.2.mem ((c.tc : Thread Cert.ProjConvIdeal.nD Cert.ProjConvIdeal.τ).loc Cert.ProjConvIdeal.main_arg0) = m ((c.tc : Thread Cert.ProjConvIdeal.nD Cert.ProjConvIdeal.τ).loc Cert.ProjConvIdeal.main_arg0)
          ∧ r.2.mem ((c.tc : Thread Cert.ProjConvIdeal.nD Cert.ProjConvIdeal.τ).loc Cert.ProjConvIdeal.main_arg1) = m ((c.tc : Thread Cert.ProjConvIdeal.nD Cert.ProjConvIdeal.τ).loc Cert.ProjConvIdeal.main_arg1)
          ∧ r.2.mem ((c.tc : Thread Cert.ProjConvIdeal.nD Cert.ProjConvIdeal.τ).loc Cert.ProjConvIdeal.main_arg2) = m ((c.tc : Thread Cert.ProjConvIdeal.nD Cert.ProjConvIdeal.τ).loc Cert.ProjConvIdeal.main_arg2)
          ∧ r.2.mem ((c.tc : Thread Cert.ProjConvIdeal.nD Cert.ProjConvIdeal.τ).loc Cert.ProjConvIdeal.main_arg3) = m ((c.tc : Thread Cert.ProjConvIdeal.nD Cert.ProjConvIdeal.τ).loc Cert.ProjConvIdeal.main_arg3)
          ∧ r.2.mem ((c.tc : Thread Cert.ProjConvIdeal.nD Cert.ProjConvIdeal.τ).loc Cert.ProjConvIdeal.main_arg4) = m ((c.tc : Thread Cert.ProjConvIdeal.nD Cert.ProjConvIdeal.τ).loc Cert.ProjConvIdeal.main_arg4))
      ∧ θ_run (Cert.ProjConvRefIdeal.defs (F := Ideal)) (onTc (τ := Cert.ProjConvRefIdeal.τ) (Cert.ProjConvRefIdeal.main (F := Ideal))) ⟨m', fun _ => 0, g'⟩ (fun r => ∀ c : Dev Cert.ProjConvRefIdeal.nD,
          r.2.mem ((c.tc : Thread Cert.ProjConvRefIdeal.nD Cert.ProjConvRefIdeal.τ).loc Cert.ProjConvRefIdeal.main_v55) = v0 c
          ∧ r.2.mem ((c.tc : Thread Cert.ProjConvRefIdeal.nD Cert.ProjConvRefIdeal.τ).loc Cert.ProjConvRefIdeal.main_v56) = v1 c
          ∧ r.2.mem ((c.tc : Thread Cert.ProjConvRefIdeal.nD Cert.ProjConvRefIdeal.τ).loc Cert.ProjConvRefIdeal.main_v57) = v2 c
          ∧ r.2.mem ((c.tc : Thread Cert.ProjConvRefIdeal.nD Cert.ProjConvRefIdeal.τ).loc Cert.ProjConvRefIdeal.main_v58) = v3 c
          ∧ r.2.mem ((c.tc : Thread Cert.ProjConvRefIdeal.nD Cert.ProjConvRefIdeal.τ).loc Cert.ProjConvRefIdeal.main_v59) = v4 c
          ∧ r.2.mem ((c.tc : Thread Cert.ProjConvRefIdeal.nD Cert.ProjConvRefIdeal.τ).loc Cert.ProjConvRefIdeal.main_v60) = v5 c
          ∧ r.2.mem ((c.tc : Thread Cert.ProjConvRefIdeal.nD Cert.ProjConvRefIdeal.τ).loc Cert.ProjConvRefIdeal.main_arg0) = m' ((c.tc : Thread Cert.ProjConvRefIdeal.nD Cert.ProjConvRefIdeal.τ).loc Cert.ProjConvRefIdeal.main_arg0)
          ∧ r.2.mem ((c.tc : Thread Cert.ProjConvRefIdeal.nD Cert.ProjConvRefIdeal.τ).loc Cert.ProjConvRefIdeal.main_arg1) = m' ((c.tc : Thread Cert.ProjConvRefIdeal.nD Cert.ProjConvRefIdeal.τ).loc Cert.ProjConvRefIdeal.main_arg1)
          ∧ r.2.mem ((c.tc : Thread Cert.ProjConvRefIdeal.nD Cert.ProjConvRefIdeal.τ).loc Cert.ProjConvRefIdeal.main_arg2) = m' ((c.tc : Thread Cert.ProjConvRefIdeal.nD Cert.ProjConvRefIdeal.τ).loc Cert.ProjConvRefIdeal.main_arg2)
          ∧ r.2.mem ((c.tc : Thread Cert.ProjConvRefIdeal.nD Cert.ProjConvRefIdeal.τ).loc Cert.ProjConvRefIdeal.main_arg3) = m' ((c.tc : Thread Cert.ProjConvRefIdeal.nD Cert.ProjConvRefIdeal.τ).loc Cert.ProjConvRefIdeal.main_arg3)
          ∧ r.2.mem ((c.tc : Thread Cert.ProjConvRefIdeal.nD Cert.ProjConvRefIdeal.τ).loc Cert.ProjConvRefIdeal.main_arg4) = m' ((c.tc : Thread Cert.ProjConvRefIdeal.nD Cert.ProjConvRefIdeal.τ).loc Cert.ProjConvRefIdeal.main_arg4))

def Claim : Prop :=
  ∃ (hMlpBlock : Cert.MlpBlock.Facts) (hMlpBlockIdeal : Cert.MlpBlockIdeal.Facts) (hMlpBlockRefIdeal : Cert.MlpBlockRefIdeal.Facts) (hGradW2 : Cert.GradW2.Facts) (hGradW2Ideal : Cert.GradW2Ideal.Facts) (hGradW2RefIdeal : Cert.GradW2RefIdeal.Facts) (hGradW1 : Cert.GradW1.Facts) (hGradW1Ideal : Cert.GradW1Ideal.Facts) (hGradW1RefIdeal : Cert.GradW1RefIdeal.Facts) (hGradWOut : Cert.GradWOut.Facts) (hGradWOutIdeal : Cert.GradWOutIdeal.Facts) (hGradWOutRefIdeal : Cert.GradWOutRefIdeal.Facts) (hGradZ : Cert.GradZ.Facts) (hGradZIdeal : Cert.GradZIdeal.Facts) (hGradZRefIdeal : Cert.GradZRefIdeal.Facts) (hGradXbc : Cert.GradXbc.Facts) (hGradXbcIdeal : Cert.GradXbcIdeal.Facts) (hGradXbcRefIdeal : Cert.GradXbcRefIdeal.Facts) (hGradDt : Cert.GradDt.Facts) (hGradDtIdeal : Cert.GradDtIdeal.Facts) (hGradDtRefIdeal : Cert.GradDtRefIdeal.Facts) (hGradS5 : Cert.GradS5.Facts) (hGradS5Ideal : Cert.GradS5Ideal.Facts) (hGradS5RefIdeal : Cert.GradS5RefIdeal.Facts) (hOutNorm : Cert.OutNorm.Facts) (hOutNormIdeal : Cert.OutNormIdeal.Facts) (hOutNormRefIdeal : Cert.OutNormRefIdeal.Facts) (hNormGrad : Cert.NormGrad.Facts) (hNormGradIdeal : Cert.NormGradIdeal.Facts) (hNormGradRefIdeal : Cert.NormGradRefIdeal.Facts) (hProjConv : Cert.ProjConv.Facts) (hProjConvIdeal : Cert.ProjConvIdeal.Facts) (hProjConvRefIdeal : Cert.ProjConvRefIdeal.Facts) (hPre_finite : Cert.Pre_finite.Facts) (hPre_norm_finite : Cert.Pre_norm_finite.Facts),
    quiescent_MlpBlock (hMlpBlock := hMlpBlock)
    ∧ quiescent_MlpBlockIdeal (hMlpBlockIdeal := hMlpBlockIdeal)
    ∧ quiescent_MlpBlockIdeal_pre_finite (hMlpBlockIdeal := hMlpBlockIdeal) (hPre_finite := hPre_finite)
    ∧ quiescent_MlpBlockRefIdeal (hMlpBlockRefIdeal := hMlpBlockRefIdeal)
    ∧ quiescent_MlpBlockRefIdeal_pre_finite (hMlpBlockRefIdeal := hMlpBlockRefIdeal) (hPre_finite := hPre_finite)
    ∧ quiescent_GradW2 (hGradW2 := hGradW2)
    ∧ quiescent_GradW2Ideal (hGradW2Ideal := hGradW2Ideal)
    ∧ quiescent_GradW2RefIdeal (hGradW2RefIdeal := hGradW2RefIdeal)
    ∧ quiescent_GradW1 (hGradW1 := hGradW1)
    ∧ quiescent_GradW1Ideal (hGradW1Ideal := hGradW1Ideal)
    ∧ quiescent_GradW1RefIdeal (hGradW1RefIdeal := hGradW1RefIdeal)
    ∧ quiescent_GradWOut (hGradWOut := hGradWOut)
    ∧ quiescent_GradWOutIdeal (hGradWOutIdeal := hGradWOutIdeal)
    ∧ quiescent_GradWOutRefIdeal (hGradWOutRefIdeal := hGradWOutRefIdeal)
    ∧ quiescent_GradZ (hGradZ := hGradZ)
    ∧ quiescent_GradZIdeal (hGradZIdeal := hGradZIdeal)
    ∧ quiescent_GradZRefIdeal (hGradZRefIdeal := hGradZRefIdeal)
    ∧ quiescent_GradXbc (hGradXbc := hGradXbc)
    ∧ quiescent_GradXbcIdeal (hGradXbcIdeal := hGradXbcIdeal)
    ∧ quiescent_GradXbcRefIdeal (hGradXbcRefIdeal := hGradXbcRefIdeal)
    ∧ quiescent_GradDt (hGradDt := hGradDt)
    ∧ quiescent_GradDtIdeal (hGradDtIdeal := hGradDtIdeal)
    ∧ quiescent_GradDtRefIdeal (hGradDtRefIdeal := hGradDtRefIdeal)
    ∧ quiescent_GradS5 (hGradS5 := hGradS5)
    ∧ quiescent_GradS5Ideal (hGradS5Ideal := hGradS5Ideal)
    ∧ quiescent_GradS5RefIdeal (hGradS5RefIdeal := hGradS5RefIdeal)
    ∧ quiescent_OutNorm (hOutNorm := hOutNorm)
    ∧ quiescent_OutNormIdeal (hOutNormIdeal := hOutNormIdeal)
    ∧ quiescent_OutNormRefIdeal (hOutNormRefIdeal := hOutNormRefIdeal)
    ∧ quiescent_NormGrad (hNormGrad := hNormGrad)
    ∧ quiescent_NormGradIdeal (hNormGradIdeal := hNormGradIdeal)
    ∧ quiescent_NormGradIdeal_pre_norm_finite (hNormGradIdeal := hNormGradIdeal) (hPre_norm_finite := hPre_norm_finite)
    ∧ quiescent_NormGradRefIdeal (hNormGradRefIdeal := hNormGradRefIdeal)
    ∧ quiescent_NormGradRefIdeal_pre_norm_finite (hNormGradRefIdeal := hNormGradRefIdeal) (hPre_norm_finite := hPre_norm_finite)
    ∧ quiescent_ProjConv (hProjConv := hProjConv)
    ∧ quiescent_ProjConvIdeal (hProjConvIdeal := hProjConvIdeal)
    ∧ quiescent_ProjConvRefIdeal (hProjConvRefIdeal := hProjConvRefIdeal)
    ∧ preserves_MlpBlock_MlpBlockIdeal
    ∧ algebraic_MlpBlockIdeal_MlpBlockRefIdeal_pre_finite (hMlpBlockIdeal := hMlpBlockIdeal) (hMlpBlockRefIdeal := hMlpBlockRefIdeal) (hPre_finite := hPre_finite)
    ∧ preserves_GradW2_GradW2Ideal
    ∧ algebraic_GradW2Ideal_GradW2RefIdeal (hGradW2Ideal := hGradW2Ideal) (hGradW2RefIdeal := hGradW2RefIdeal)
    ∧ preserves_GradW1_GradW1Ideal
    ∧ algebraic_GradW1Ideal_GradW1RefIdeal (hGradW1Ideal := hGradW1Ideal) (hGradW1RefIdeal := hGradW1RefIdeal)
    ∧ preserves_GradWOut_GradWOutIdeal
    ∧ algebraic_GradWOutIdeal_GradWOutRefIdeal (hGradWOutIdeal := hGradWOutIdeal) (hGradWOutRefIdeal := hGradWOutRefIdeal)
    ∧ preserves_GradZ_GradZIdeal
    ∧ algebraic_GradZIdeal_GradZRefIdeal (hGradZIdeal := hGradZIdeal) (hGradZRefIdeal := hGradZRefIdeal)
    ∧ preserves_GradXbc_GradXbcIdeal
    ∧ algebraic_GradXbcIdeal_GradXbcRefIdeal (hGradXbcIdeal := hGradXbcIdeal) (hGradXbcRefIdeal := hGradXbcRefIdeal)
    ∧ preserves_GradDt_GradDtIdeal
    ∧ algebraic_GradDtIdeal_GradDtRefIdeal (hGradDtIdeal := hGradDtIdeal) (hGradDtRefIdeal := hGradDtRefIdeal)
    ∧ preserves_GradS5_GradS5Ideal
    ∧ algebraic_GradS5Ideal_GradS5RefIdeal (hGradS5Ideal := hGradS5Ideal) (hGradS5RefIdeal := hGradS5RefIdeal)
    ∧ preserves_OutNorm_OutNormIdeal
    ∧ algebraic_OutNormIdeal_OutNormRefIdeal (hOutNormIdeal := hOutNormIdeal) (hOutNormRefIdeal := hOutNormRefIdeal)
    ∧ preserves_NormGrad_NormGradIdeal
    ∧ algebraic_NormGradIdeal_NormGradRefIdeal_pre_norm_finite (hNormGradIdeal := hNormGradIdeal) (hNormGradRefIdeal := hNormGradRefIdeal) (hPre_norm_finite := hPre_norm_finite)
    ∧ preserves_ProjConv_ProjConvIdeal
    ∧ algebraic_ProjConvIdeal_ProjConvRefIdeal (hProjConvIdeal := hProjConvIdeal) (hProjConvRefIdeal := hProjConvRefIdeal)
-- ==== Pre_finite.lean ====
abbrev S2x4096x1024 : Shape := ⟨3, ![2, 4096, 1024]⟩
abbrev S2x6144 : Shape := ⟨2, ![2, 6144]⟩
abbrev S1024x4096 : Shape := ⟨2, ![1024, 4096]⟩
abbrev S1x4096 : Shape := ⟨2, ![1, 4096]⟩
abbrev S4096x1024 : Shape := ⟨2, ![4096, 1024]⟩
abbrev S1x1024 : Shape := ⟨2, ![1, 1024]⟩
abbrev S_ : Shape := ⟨0, ![]⟩
abbrev S1 : Shape := ⟨1, ![1]⟩
abbrev S9 : Shape := ⟨1, ![9]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S2x6144 : S_.BroadcastsInDim S2x6144 (![] : Fin 0 → Fin S2x6144.rank)
  reducesTo_S2x6144_S_d0_1 : S2x6144.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S1x4096 : S_.BroadcastsInDim S1x4096 (![] : Fin 0 → Fin S1x4096.rank)
  reducesTo_S1x4096_S_d0_1 : S1x4096.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  concatenates_S1_S1_S1_S1_S1_S1_S1_S1_S1_S9_d0 : Shape.Concatenates [S1, S1, S1, S1, S1, S1, S1, S1, S1] S9 0

variable [Facts]

def fn_part2 {F : FTy → Type} [FloatOps F] (main_arg8 : FVec F S1x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S9 1 :=
  let main_v32 : FVec F S1x1024 .f32 := Host.absf main_arg8
  let main_cst_14 : FVec F S_ .f32 := constant S_ .f32 0x7F800000#32
  let main_v33 : FVec F S1x1024 .f32 := broadcastInDim S1x1024 ![] bcast_S_S1x1024 main_cst_14
  let main_v34 : IVec S1x1024 1 := cmpf .olt main_v32 main_v33
  let main_c_15 : IVec S_ 1 := constantI S_ 1 1#1
  let main_v35 : IVec S_ 1 := (fun x v => Host.reduce IntOp.andi x v reducesTo_S1x1024_S_d0_1 h_S_) main_v34 main_c_15
  let main_v36 : IVec S1 1 := broadcastInDim S1 ![] bcast_S_S1 main_v3
  let main_v37 : IVec S1 1 := broadcastInDim S1 ![] bcast_S_S1 main_v7
  let main_v38 : IVec S1 1 := broadcastInDim S1 ![] bcast_S_S1 main_v11
  let main_v39 : IVec S1 1 := broadcastInDim S1 ![] bcast_S_S1 main_v15
  let main_v40 : IVec S1 1 := broadcastInDim S1 ![] bcast_S_S1 main_v19
  let main_v41 : IVec S1 1 := broadcastInDim S1 ![] bcast_S_S1 main_v23
  let main_v42 : IVec S1 1 := broadcastInDim S1 ![] bcast_S_S1 main_v27
  let main_v43 : IVec S1 1 := broadcastInDim S1 ![] bcast_S_S1 main_v31
  let main_v44 : IVec S1 1 := broadcastInDim S1 ![] bcast_S_S1 main_v35
  let main_v45 : IVec S9 1 := concatenate S9 0 [⟨S1, main_v36⟩, ⟨S1, main_v37⟩, ⟨S1, main_v38⟩, ⟨S1, main_v39⟩, ⟨S1, main_v40⟩, ⟨S1, main_v41⟩, ⟨S1, main_v42⟩, ⟨S1, main_v43⟩, ⟨S1, main_v44⟩] concatenates_S1_S1_S1_S1_S1_S1_S1_S1_S1_S9_d0
  main_v45

def fn_part1 {F : FTy → Type} [FloatOps F] (main_arg4 : FVec F S1x4096 .f32) (main_arg5 : FVec F S4096x1024 .f32) (main_arg6 : FVec F S1x1024 .f32) (main_arg7 : FVec F S1x1024 .f32) (main_arg8 : FVec F S1x1024 .f32) (main_v3 : IVec S_ 1) (main_v7 : IVec S_ 1) (main_v11 : IVec S_ 1) (main_v15 : IVec S_ 1) : IVec S9 1 :=
  let main_v16 : FVec F S1x4096 .f32 := Host.absf main_arg4
  let main_cst_6 : FVec F S_ .f32 := constant S_ .f32 0x7F800000#32
  let main_v17 : FVec F S1x4096 .f32 := broadcastInDim S1x4096 ![] bcast_S_S1x4096 main_cst_6
  let main_v18 : IVec S1x4096 1 := cmpf .olt main_v16 main_v17
  let main_c_7 : IVec S_ 1 := constantI S_ 1 1#1
  let main_v19 : IVec S_ 1 := (fun x v => Host.reduce IntOp.andi x v reducesTo_S1x4096_S_d0_1 h_S_) main_v18 main_c_7
  let main_v20 : FVec F S4096x1024 .f32 := Host.absf main_arg5
  let main_cst_8 : FVec F S_ .f32 := constant S_ .f32 0x7F800000#32
  let main_v21 : FVec F S4096x1024 .f32 := broadcastInDim S4096x1024 ![] bcast_S_S4096x1024 main_cst_8
  let main_v22 : IVec S4096x1024 1 := cmpf .olt main_v20 main_v21
  let main_c_9 : IVec S_ 1 := constantI S_ 1 1#1
  let main_v23 : IVec S_ 1 := (fun x v => Host.reduce IntOp.andi x v reducesTo_S4096x1024_S_d0_1 h_S_) main_v22 main_c_9
  let main_v24 : FVec F S1x1024 .f32 := Host.absf main_arg6
  let main_cst_10 : FVec F S_ .f32 := constant S_ .f32 0x7F800000#32
  let main_v25 : FVec F S1x1024 .f32 := broadcastInDim S1x1024 ![] bcast_S_S1x1024 main_cst_10
  let main_v26 : IVec S1x1024 1 := cmpf .olt main_v24 main_v25
  let main_c_11 : IVec S_ 1 := constantI S_ 1 1#1
  let main_v27 : IVec S_ 1 := (fun x v => Host.reduce IntOp.andi x v reducesTo_S1x1024_S_d0_1 h_S_) main_v26 main_c_11
  let main_v28 : FVec F S1x1024 .f32 := Host.absf main_arg7
  let main_cst_12 : FVec F S_ .f32 := constant S_ .f32 0x7F800000#32
  let main_v29 : FVec F S1x1024 .f32 := broadcastInDim S1x1024 ![] bcast_S_S1x1024 main_cst_12
  let main_v30 : IVec S1x1024 1 := cmpf .olt main_v28 main_v29
  let main_c_13 : IVec S_ 1 := constantI S_ 1 1#1
  let main_v31 : IVec S_ 1 := (fun x v => Host.reduce IntOp.andi x v reducesTo_S1x1024_S_d0_1 h_S_) main_v30 main_c_13
  fn_part2 (F := F) main_arg8 main_v3 main_v7 main_v11 main_v15 main_v19 main_v23 main_v27 main_v31

def fn {F : FTy → Type} [FloatOps F] (main_arg0 : FVec F S2x4096x1024 .f32) (main_arg1 : FVec F S2x4096x1024 .f32) (main_arg2 : FVec F S2x6144 .f32) (main_arg3 : FVec F S1024x4096 .f32) (main_arg4 : FVec F S1x4096 .f32) (main_arg5 : FVec F S4096x1024 .f32) (main_arg6 : FVec F S1x1024 .f32) (main_arg7 : FVec F S1x1024 .f32) (main_arg8 : FVec F S1x1024 .f32) : IVec S9 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S2x4096x1024 .f32 := Host.absf main_arg1
  let main_cst_0 : FVec F S_ .f32 := constant S_ .f32 0x7F800000#32
  let main_v5 : FVec F S2x4096x1024 .f32 := broadcastInDim S2x4096x1024 ![] bcast_S_S2x4096x1024 main_cst_0
  let main_v6 : IVec S2x4096x1024 1 := cmpf .olt main_v4 main_v5
  let main_c_1 : IVec S_ 1 := constantI S_ 1 1#1
  let main_v7 : IVec S_ 1 := (fun x v => Host.reduce IntOp.andi x v reducesTo_S2x4096x1024_S_d0_1_2 h_S_) main_v6 main_c_1
  let main_v8 : FVec F S2x6144 .f32 := Host.absf main_arg2
  let main_cst_2 : FVec F S_ .f32 := constant S_ .f32 0x7F800000#32
  let main_v9 : FVec F S2x6144 .f32 := broadcastInDim S2x6144 ![] bcast_S_S2x6144 main_cst_2
  let main_v10 : IVec S2x6144 1 := cmpf .olt main_v8 main_v9
  let main_c_3 : IVec S_ 1 := constantI S_ 1 1#1
  let main_v11 : IVec S_ 1 := (fun x v => Host.reduce IntOp.andi x v reducesTo_S2x6144_S_d0_1 h_S_) main_v10 main_c_3
  let main_v12 : FVec F S1024x4096 .f32 := Host.absf main_arg3
  let main_cst_4 : FVec F S_ .f32 := constant S_ .f32 0x7F800000#32
  let main_v13 : FVec F S1024x4096 .f32 := broadcastInDim S1024x4096 ![] bcast_S_S1024x4096 main_cst_4
  let main_v14 : IVec S1024x4096 1 := cmpf .olt main_v12 main_v13
  let main_c_5 : IVec S_ 1 := constantI S_ 1 1#1
  let main_v15 : IVec S_ 1 := (fun x v => Host.reduce IntOp.andi x v reducesTo_S1024x4096_S_d0_1 h_S_) main_v14 main_c_5
  fn_part1 (F := F) main_arg4 main_arg5 main_arg6 main_arg7 main_arg8 main_v3 main_v7 main_v11 main_v15
-- ==== Pre_norm_finite.lean ====
abbrev S2x4096x2048 : Shape := ⟨3, ![2, 4096, 2048]⟩
abbrev S2x4096x1024 : Shape := ⟨3, ![2, 4096, 1024]⟩
abbrev S2x6144 : Shape := ⟨2, ![2, 6144]⟩
abbrev S2048x1024 : Shape := ⟨2, ![2048, 1024]⟩
abbrev S1x1024 : Shape := ⟨2, ![1, 1024]⟩
abbrev S_ : Shape := ⟨0, ![]⟩
abbrev S1 : Shape := ⟨1, ![1]⟩
abbrev S6 : Shape := ⟨1, ![6]⟩

class Facts : Prop where
  bcast_S_S2x4096x2048 : S_.BroadcastsInDim S2x4096x2048 (![] : Fin 0 → Fin S2x4096x2048.rank)
  reducesTo_S2x4096x2048_S_d0_1_2 : S2x4096x2048.ReducesTo [0, 1, 2] S_
  h_S_ : 0 < S_.numel
  bcast_S_S2x4096x1024 : S_.BroadcastsInDim S2x4096x1024 (![] : Fin 0 → Fin S2x4096x1024.rank)
  reducesTo_S2x4096x1024_S_d0_1_2 : S2x4096x1024.ReducesTo [0, 1, 2] S_
  bcast_S_S2x6144 : S_.BroadcastsInDim S2x6144 (![] : Fin 0 → Fin S2x6144.rank)
  reducesTo_S2x6144_S_d0_1 : S2x6144.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  concatenates_S1_S1_S1_S1_S1_S1_S6_d0 : Shape.Concatenates [S1, S1, S1, S1, S1, S1] S6 0

variable [Facts]

def fn_part1 {F : FTy → Type} [FloatOps F] (main_arg4 : FVec F S1x1024 .f32) (main_arg6 : FVec F S2x4096x1024 .f32) (main_v3 : IVec S_ 1) (main_v7 : IVec S_ 1) (main_v11 : IVec S_ 1) (main_v15 : IVec S_ 1) : IVec S6 1 :=
  let main_v16 : FVec F S1x1024 .f32 := Host.absf main_arg4
  let main_cst_6 : FVec F S_ .f32 := constant S_ .f32 0x7F800000#32
  let main_v17 : FVec F S1x1024 .f32 := broadcastInDim S1x1024 ![] bcast_S_S1x1024 main_cst_6
  let main_v18 : IVec S1x1024 1 := cmpf .olt main_v16 main_v17
  let main_c_7 : IVec S_ 1 := constantI S_ 1 1#1
  let main_v19 : IVec S_ 1 := (fun x v => Host.reduce IntOp.andi x v reducesTo_S1x1024_S_d0_1 h_S_) main_v18 main_c_7
  let main_v20 : FVec F S2x4096x1024 .f32 := Host.absf main_arg6
  let main_cst_8 : FVec F S_ .f32 := constant S_ .f32 0x7F800000#32
  let main_v21 : FVec F S2x4096x1024 .f32 := broadcastInDim S2x4096x1024 ![] bcast_S_S2x4096x1024 main_cst_8
  let main_v22 : IVec S2x4096x1024 1 := cmpf .olt main_v20 main_v21
  let main_c_9 : IVec S_ 1 := constantI S_ 1 1#1
  let main_v23 : IVec S_ 1 := (fun x v => Host.reduce IntOp.andi x v reducesTo_S2x4096x1024_S_d0_1_2 h_S_) main_v22 main_c_9
  let main_v24 : IVec S1 1 := broadcastInDim S1 ![] bcast_S_S1 main_v3
  let main_v25 : IVec S1 1 := broadcastInDim S1 ![] bcast_S_S1 main_v7
  let main_v26 : IVec S1 1 := broadcastInDim S1 ![] bcast_S_S1 main_v11
  let main_v27 : IVec S1 1 := broadcastInDim S1 ![] bcast_S_S1 main_v15
  let main_v28 : IVec S1 1 := broadcastInDim S1 ![] bcast_S_S1 main_v19
  let main_v29 : IVec S1 1 := broadcastInDim S1 ![] bcast_S_S1 main_v23
  let main_v30 : IVec S6 1 := concatenate S6 0 [⟨S1, main_v24⟩, ⟨S1, main_v25⟩, ⟨S1, main_v26⟩, ⟨S1, main_v27⟩, ⟨S1, main_v28⟩, ⟨S1, main_v29⟩] concatenates_S1_S1_S1_S1_S1_S1_S6_d0
  main_v30

def fn {F : FTy → Type} [FloatOps F] (main_arg0 : FVec F S2x4096x2048 .f32) (main_arg1 : FVec F S2x4096x1024 .f32) (main_arg2 : FVec F S2x6144 .f32) (main_arg3 : FVec F S2048x1024 .f32) (main_arg4 : FVec F S1x1024 .f32) (main_arg5 : FVec F S1x1024 .f32) (main_arg6 : FVec F S2x4096x1024 .f32) : IVec S6 1 :=
  let main_v0 : FVec F S2x4096x2048 .f32 := Host.absf main_arg0
  let main_cst : FVec F S_ .f32 := constant S_ .f32 0x7F800000#32
  let main_v1 : FVec F S2x4096x2048 .f32 := broadcastInDim S2x4096x2048 ![] bcast_S_S2x4096x2048 main_cst
  let main_v2 : IVec S2x4096x2048 1 := cmpf .olt main_v0 main_v1
  let main_c : IVec S_ 1 := constantI S_ 1 1#1
  let main_v3 : IVec S_ 1 := (fun x v => Host.reduce IntOp.andi x v reducesTo_S2x4096x2048_S_d0_1_2 h_S_) main_v2 main_c
  let main_v4 : FVec F S2x4096x1024 .f32 := Host.absf main_arg1
  let main_cst_0 : FVec F S_ .f32 := constant S_ .f32 0x7F800000#32
  let main_v5 : FVec F S2x4096x1024 .f32 := broadcastInDim S2x4096x1024 ![] bcast_S_S2x4096x1024 main_cst_0
  let main_v6 : IVec S2x4096x1024 1 := cmpf .olt main_v4 main_v5
  let main_c_1 : IVec S_ 1 := constantI S_ 1 1#1
  let main_v7 : IVec S_ 1 := (fun x v => Host.reduce IntOp.andi x v reducesTo_S2x4096x1024_S_d0_1_2 h_S_) main_v6 main_c_1
  let main_v8 : FVec F S2x6144 .f32 := Host.absf main_arg2
  let main_cst_2 : FVec F S_ .f32 := constant S_ .f32 0x7F800000#32
  let main_v9 : FVec F S2x6144 .f32 := broadcastInDim S2x6144 ![] bcast_S_S2x6144 main_cst_2
  let main_v10 : IVec S2x6144 1 := cmpf .olt main_v8 main_v9
  let main_c_3 : IVec S_ 1 := constantI S_ 1 1#1
  let main_v11 : IVec S_ 1 := (fun x v => Host.reduce IntOp.andi x v reducesTo_S2x6144_S_d0_1 h_S_) main_v10 main_c_3
  let main_v12 : FVec F S2048x1024 .f32 := Host.absf main_arg3
  let main_cst_4 : FVec F S_ .f32 := constant S_ .f32 0x7F800000#32
  let main_v13 : FVec F S2048x1024 .f32 := broadcastInDim S2048x1024 ![] bcast_S_S2048x1024 main_cst_4
  let main_v14 : IVec S2048x1024 1 := cmpf .olt main_v12 main_v13
  let main_c_5 : IVec S_ 1 := constantI S_ 1 1#1
  let main_v15 : IVec S_ 1 := (fun x v => Host.reduce IntOp.andi x v reducesTo_S2048x1024_S_d0_1 h_S_) main_v14 main_c_5
  fn_part1 (F := F) main_arg4 main_arg6 main_v3 main_v7 main_v11 main_v15
-- ==== MlpBlock.lean ====
abbrev S2x4096x1024 : Shape := ⟨3, ![2, 4096, 1024]⟩
abbrev S2x6144 : Shape := ⟨2, ![2, 6144]⟩
abbrev S1024x4096 : Shape := ⟨2, ![1024, 4096]⟩
abbrev S1x4096 : Shape := ⟨2, ![1, 4096]⟩
abbrev S4096x1024 : Shape := ⟨2, ![4096, 1024]⟩
abbrev S1x1024 : Shape := ⟨2, ![1, 1024]⟩
abbrev S2x6x1024 : Shape := ⟨3, ![2, 6, 1024]⟩
abbrev S1024x8x512 : Shape := ⟨3, ![1024, 8, 512]⟩
abbrev S8x1024x512 : Shape := ⟨3, ![8, 1024, 512]⟩
abbrev S3x1024 : Shape := ⟨2, ![3, 1024]⟩
abbrev S_ : Shape := ⟨0, ![]⟩
abbrev S5x1024 : Shape := ⟨2, ![5, 1024]⟩
abbrev S8x1024 : Shape := ⟨2, ![8, 1024]⟩
abbrev S8192x1024 : Shape := ⟨2, ![8192, 1024]⟩
abbrev S8192x4096 : Shape := ⟨2, ![8192, 4096]⟩
abbrev S2x8x1024 : Shape := ⟨3, ![2, 8, 1024]⟩
abbrev S256x1024 : Shape := ⟨2, ![256, 1024]⟩
abbrev S1x6x1024 : Shape := ⟨3, ![1, 6, 1024]⟩
abbrev S256x4096 : Shape := ⟨2, ![256, 4096]⟩
abbrev S1x8x1024 : Shape := ⟨3, ![1, 8, 1024]⟩
abbrev S8 : Shape := ⟨1, ![8]⟩
abbrev S1 : Shape := ⟨1, ![1]⟩
abbrev S1024x512 : Shape := ⟨2, ![1024, 512]⟩
abbrev S1x1024x512 : Shape := ⟨3, ![1, 1024, 512]⟩
abbrev S6x1024 : Shape := ⟨2, ![6, 1024]⟩
abbrev S256 : Shape := ⟨1, ![256]⟩
abbrev S256x1 : Shape := ⟨2, ![256, 1]⟩
abbrev S1024 : Shape := ⟨1, ![1024]⟩
abbrev S4096 : Shape := ⟨1, ![4096]⟩
abbrev S1x1x1024 : Shape := ⟨3, ![1, 1, 1024]⟩

abbrev nBuf : Space → Nat
  | .hbm => 28
  | .vmem => 24
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x6144, .f32⟩
  | .hbm, ⟨3, _⟩ => ⟨S1024x4096, .f32⟩
  | .hbm, ⟨4, _⟩ => ⟨S1x4096, .f32⟩
  | .hbm, ⟨5, _⟩ => ⟨S4096x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S2x6x1024, .f32⟩
  | .hbm, ⟨10, _⟩ => ⟨S1024x8x512, .f32⟩
  | .hbm, ⟨11, _⟩ => ⟨S8x1024x512, .f32⟩
  | .hbm, ⟨12, _⟩ => ⟨S8x1024x512, .bf16⟩
  | .hbm, ⟨13, _⟩ => ⟨S3x1024, .f32⟩
  | .hbm, ⟨14, _⟩ => ⟨S_, .f32⟩
  | .hbm, ⟨15, _⟩ => ⟨S5x1024, .f32⟩
  | .hbm, ⟨16, _⟩ => ⟨S8x1024, .f32⟩
  | .hbm, ⟨17, _⟩ => ⟨S8192x1024, .f32⟩
  | .hbm, ⟨18, _⟩ => ⟨S8192x1024, .f32⟩
  | .hbm, ⟨19, _⟩ => ⟨S4096x1024, .bf16⟩
  | .hbm, ⟨20, _⟩ => ⟨S8192x1024, .f32⟩
  | .hbm, ⟨21, _⟩ => ⟨S8192x1024, .bf16⟩
  | .hbm, ⟨22, _⟩ => ⟨S8192x4096, .bf16⟩
  | .hbm, ⟨23, _⟩ => ⟨S8192x4096, .bf16⟩
  | .hbm, ⟨24, _⟩ => ⟨S8192x1024, .bf16⟩
  | .hbm, ⟨25, _⟩ => ⟨S8x1024, .f32⟩
  | .hbm, ⟨26, _⟩ => ⟨S1x4096, .f32⟩
  | .hbm, ⟨27, _⟩ => ⟨S2x8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x6x1024, .f32⟩
  | .local _ .vmem, ⟨5, _⟩ => ⟨S1x6x1024, .f32⟩
  | .local _ .vmem, ⟨6, _⟩ => ⟨S8x1024, .f32⟩
  | .local _ .vmem, ⟨7, _⟩ => ⟨S1x4096, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x4096, .bf16⟩
  | .local _ .vmem, ⟨13, _⟩ => ⟨S256x4096, .bf16⟩
  | .local _ .vmem, ⟨14, _⟩ => ⟨S256x4096, .bf16⟩
  | .local _ .vmem, ⟨15, _⟩ => ⟨S256x4096, .bf16⟩
  | .local _ .vmem, ⟨16, _⟩ => ⟨S256x1024, .bf16⟩
  | .local _ .vmem, ⟨17, _⟩ => ⟨S256x1024, .bf16⟩
  | .local _ .vmem, ⟨18, _⟩ => ⟨S8x1024, .f32⟩
  | .local _ .vmem, ⟨19, _⟩ => ⟨S1x4096, .f32⟩
  | .local _ .vmem, ⟨20, _⟩ => ⟨S1x8x1024, .f32⟩
  | .local _ .vmem, ⟨21, _⟩ => ⟨S1x8x1024, .f32⟩
  | .local _ .vmem, ⟨22, _⟩ => ⟨S1024x4096, .bf16⟩
  | .local _ .vmem, ⟨23, _⟩ => ⟨S4096x1024, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v10_3 : Ref sig .tc := ⟨.hbm, 23, rfl⟩
abbrev main_v10_4 : Ref sig .tc := ⟨.hbm, 24, rfl⟩
abbrev main_v10_5 : Ref sig .tc := ⟨.hbm, 25, rfl⟩
abbrev main_v10_6 : Ref sig .tc := ⟨.hbm, 26, rfl⟩
abbrev main_v10_7 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MlpBlockRefIdeal.lean ====
abbrev S2x4096x1024 : Shape := ⟨3, ![2, 4096, 1024]⟩
abbrev S2x6144 : Shape := ⟨2, ![2, 6144]⟩
abbrev S1024x4096 : Shape := ⟨2, ![1024, 4096]⟩
abbrev S1x4096 : Shape := ⟨2, ![1, 4096]⟩
abbrev S4096x1024 : Shape := ⟨2, ![4096, 1024]⟩
abbrev S1x1024 : Shape := ⟨2, ![1, 1024]⟩
abbrev S2x1x6144 : Shape := ⟨3, ![2, 1, 6144]⟩
abbrev S2x1x1024 : Shape := ⟨3, ![2, 1, 1024]⟩
abbrev S8192x1024 : Shape := ⟨2, ![8192, 1024]⟩
abbrev S_ : Shape := ⟨0, ![]⟩
abbrev S8192x4096 : Shape := ⟨2, ![8192, 4096]⟩
abbrev S8192 : Shape := ⟨1, ![8192]⟩
abbrev S8192x1 : Shape := ⟨2, ![8192, 1]⟩
abbrev S1024 : Shape := ⟨1, ![1024]⟩
abbrev S2x1024 : Shape := ⟨2, ![2, 1024]⟩
abbrev S4096 : Shape := ⟨1, ![4096]⟩
abbrev S4x1024 : Shape := ⟨2, ![4, 1024]⟩
abbrev S8x1024 : Shape := ⟨2, ![8, 1024]⟩
abbrev S2x5x1024 : Shape := ⟨3, ![2, 5, 1024]⟩
abbrev S2x8x1024 : Shape := ⟨3, ![2, 8, 1024]⟩

abbrev nBuf : Space → Nat
  | .hbm => 191
  | .vmem => 0
  | .smem => 0
  | _ => 0

abbrev hbmTy0_0 (i : Nat) : BufTy := match i % 128 with
  | 0 => ⟨S2x4096x1024, .f32⟩
  | 1 => ⟨S2x4096x1024, .f32⟩
  | 2 => ⟨S2x6144, .f32⟩
  | 3 => ⟨S1024x4096, .f32⟩
  | 4 => ⟨S1x4096, .f32⟩
  | 5 => ⟨S4096x1024, .f32⟩
  | 6 => ⟨S1x1024, .f32⟩
  | 7 => ⟨S1x1024, .f32⟩
  | 8 => ⟨S1x1024, .f32⟩
  | 9 => ⟨S2x1x6144, .f32⟩
  | 10 => ⟨S2x1x1024, .f32⟩
  | 11 => ⟨S2x1x1024, .f32⟩
  | 12 => ⟨S2x1x1024, .f32⟩
  | 13 => ⟨S2x1x1024, .f32⟩
  | 14 => ⟨S2x1x1024, .f32⟩
  | 15 => ⟨S2x1x1024, .f32⟩
  | 16 => ⟨S8192x1024, .f32⟩
  | 17 => ⟨S_, .f32⟩
  | 18 => ⟨S2x1x1024, .f32⟩
  | 19 => ⟨S2x1x1024, .f32⟩
  | 20 => ⟨S2x4096x1024, .f32⟩
  | 21 => ⟨S2x4096x1024, .f32⟩
  | 22 => ⟨S2x4096x1024, .f32⟩
  | 23 => ⟨S2x4096x1024, .f32⟩
  | 24 => ⟨S8192x1024, .f32⟩
  | 25 => ⟨S8192x4096, .f32⟩
  | 26 => ⟨S8192x4096, .f32⟩
  | 27 => ⟨S8192x4096, .f32⟩
  | 28 => ⟨S_, .f32⟩
  | 29 => ⟨S8192x4096, .f32⟩
  | 30 => ⟨S8192x4096, .f32⟩
  | 31 => ⟨S_, .f32⟩
  | 32 => ⟨S8192x4096, .f32⟩
  | 33 => ⟨S8192x4096, .i1⟩
  | 34 => ⟨S_, .f32⟩
  | 35 => ⟨S8192x4096, .f32⟩
  | 36 => ⟨S8192x4096, .f32⟩
  | 37 => ⟨S_, .f32⟩
  | 38 => ⟨S8192x4096, .f32⟩
  | 39 => ⟨S8192x4096, .f32⟩
  | 40 => ⟨S8192x1024, .f32⟩
  | 41 => ⟨S8192x1024, .f32⟩
  | 42 => ⟨S8192x1024, .f32⟩
  | 43 => ⟨S2x4096x1024, .f32⟩
  | 44 => ⟨S_, .f32⟩
  | 45 => ⟨S2x4096x1024, .f32⟩
  | 46 => ⟨S2x4096x1024, .f32⟩
  | 47 => ⟨S_, .f32⟩
  | 48 => ⟨S2x1x1024, .f32⟩
  | 49 => ⟨S2x1x1024, .f32⟩
  | 50 => ⟨S2x4096x1024, .f32⟩
  | 51 => ⟨S2x4096x1024, .f32⟩
  | 52 => ⟨S2x4096x1024, .f32⟩
  | 53 => ⟨S8192x1024, .f32⟩
  | 54 => ⟨S_, .f32⟩
  | 55 => ⟨S8192, .f32⟩
  | 56 => ⟨S8192x1, .f32⟩
  | 57 => ⟨S_, .f32⟩
  | 58 => ⟨S8192x1, .f32⟩
  | 59 => ⟨S8192x1, .f32⟩
  | 60 => ⟨S8192x1024, .f32⟩
  | 61 => ⟨S8192x1024, .f32⟩
  | 62 => ⟨S8192x1024, .f32⟩
  | 63 => ⟨S_, .f32⟩
  | 64 => ⟨S8192, .f32⟩
  | 65 => ⟨S8192x1, .f32⟩
  | 66 => ⟨S_, .f32⟩
  | 67 => ⟨S8192x1, .f32⟩
  | 68 => ⟨S8192x1, .f32⟩
  | 69 => ⟨S_, .f32⟩
  | 70 => ⟨S8192x1, .f32⟩
  | 71 => ⟨S8192x1, .f32⟩
  | 72 => ⟨S8192x1, .f32⟩
  | 73 => ⟨S8192x1, .f32⟩
  | 74 => ⟨S_, .f32⟩
  | 75 => ⟨S8192x1, .f32⟩
  | 76 => ⟨S8192x1, .f32⟩
  | 77 => ⟨S8192x1024, .f32⟩
  | 78 => ⟨S8192x1024, .f32⟩
  | 79 => ⟨S8192x1024, .f32⟩
  | 80 => ⟨S8192x1024, .f32⟩
  | 81 => ⟨S8192x1024, .f32⟩
  | 82 => ⟨S8192x1024, .f32⟩
  | 83 => ⟨S8192x1024, .f32⟩
  | 84 => ⟨S8192x1024, .f32⟩
  | 85 => ⟨S_, .f32⟩
  | 86 => ⟨S8192x1024, .f32⟩
  | 87 => ⟨S8192x1024, .f32⟩
  | 88 => ⟨S_, .f32⟩
  | 89 => ⟨S8192, .f32⟩
  | 90 => ⟨S_, .f32⟩
  | 91 => ⟨S8192, .f32⟩
  | 92 => ⟨S8192, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S8192, .f32⟩
  | 101 => ⟨S_, .f32⟩
  | 102 => ⟨S8192, .f32⟩
  | 103 => ⟨S8192, .f32⟩
  | 104 => ⟨S8192x1024, .f32⟩
  | 105 => ⟨S8192x1024, .f32⟩
  | 106 => ⟨S_, .f32⟩
  | 107 => ⟨S1024, .f32⟩
  | 108 => ⟨S1x1024, .f32⟩
  | 109 => ⟨S8192x1024, .f32⟩
  | 110 => ⟨S_, .f32⟩
  | 111 => ⟨S1024, .f32⟩
  | 112 => ⟨S1x1024, .f32⟩
  | 113 => ⟨S8192x1024, .f32⟩
  | 114 => ⟨S8192x1024, .f32⟩
  | 115 => ⟨S8192x1024, .f32⟩
  | 116 => ⟨S_, .f32⟩
  | 117 => ⟨S8192, .f32⟩
  | 118 => ⟨S8192x1, .f32⟩
  | 119 => ⟨S8192x1024, .f32⟩
  | 120 => ⟨S8192x1024, .f32⟩
  | 121 => ⟨S8192x1, .f32⟩
  | 122 => ⟨S_, .f32⟩
  | 123 => ⟨S8192x1, .f32⟩
  | 124 => ⟨S8192x1, .f32⟩
  | 125 => ⟨S_, .f32⟩
  | 126 => ⟨S8192, .f32⟩
  | 127 => ⟨S8192x1024, .f32⟩
  | _ => ⟨S2x4096x1024, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S8192x1024, .f32⟩
  | 5 => ⟨S_, .f32⟩
  | 6 => ⟨S8192, .f32⟩
  | 7 => ⟨S8192x1, .f32⟩
  | 8 => ⟨S_, .f32⟩
  | 9 => ⟨S8192x1, .f32⟩
  | 10 => ⟨S8192x1, .f32⟩
  | 11 => ⟨S_, .f32⟩
  | 12 => ⟨S8192, .f32⟩
  | 13 => ⟨S8192x1024, .f32⟩
  | 14 => ⟨S8192x1024, .f32⟩
  | 15 => ⟨S2x4096x1024, .f32⟩
  | 16 => ⟨S2x4096x1024, .f32⟩
  | 17 => ⟨S2x4096x1024, .f32⟩
  | 18 => ⟨S2x4096x1024, .f32⟩
  | 19 => ⟨S_, .f32⟩
  | 20 => ⟨S2x1024, .f32⟩
  | 21 => ⟨S2x1x1024, .f32⟩
  | 22 => ⟨S_, .f32⟩
  | 23 => ⟨S2x4096x1024, .f32⟩
  | 24 => ⟨S2x4096x1024, .f32⟩
  | 25 => ⟨S8192x1024, .f32⟩
  | 26 => ⟨S_, .f32⟩
  | 27 => ⟨S1024, .f32⟩
  | 28 => ⟨S1x1024, .f32⟩
  | 29 => ⟨S8192x4096, .f32⟩
  | 30 => ⟨S8192x4096, .f32⟩
  | 31 => ⟨S_, .f32⟩
  | 32 => ⟨S8192x4096, .f32⟩
  | 33 => ⟨S8192x4096, .f32⟩
  | 34 => ⟨S_, .f32⟩
  | 35 => ⟨S4096, .f32⟩
  | 36 => ⟨S1x4096, .f32⟩
  | 37 => ⟨S8192x1024, .f32⟩
  | 38 => ⟨S2x4096x1024, .f32⟩
  | 39 => ⟨S_, .f32⟩
  | 40 => ⟨S2x1024, .f32⟩
  | 41 => ⟨S2x1x1024, .f32⟩
  | 42 => ⟨S2x4096x1024, .f32⟩
  | 43 => ⟨S_, .f32⟩
  | 44 => ⟨S2x1024, .f32⟩
  | 45 => ⟨S2x1x1024, .f32⟩
  | 46 => ⟨S2x4096x1024, .f32⟩
  | 47 => ⟨S2x4096x1024, .f32⟩
  | 48 => ⟨S_, .f32⟩
  | 49 => ⟨S1024, .f32⟩
  | 50 => ⟨S1x1024, .f32⟩
  | 51 => ⟨S_, .f32⟩
  | 52 => ⟨S4x1024, .f32⟩
  | 53 => ⟨S8x1024, .f32⟩
  | 54 => ⟨S_, .f32⟩
  | 55 => ⟨S2x5x1024, .f32⟩
  | 56 => ⟨S2x8x1024, .f32⟩
  | 57 => ⟨S2x4096x1024, .f32⟩
  | 58 => ⟨S8192x1024, .f32⟩
  | 59 => ⟨S8192x1024, .bf16⟩
  | 60 => ⟨S8192x4096, .bf16⟩
  | 61 => ⟨S8192x4096, .bf16⟩
  | 62 => ⟨S8192x1024, .bf16⟩
  | _ => ⟨S2x4096x1024, .f32⟩

abbrev hbmTy (i : Nat) : BufTy := match i / 128 with
  | 0 => hbmTy0_0 i
  | 1 => hbmTy0_1 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_v18 : Ref sig .tc := ⟨.hbm, 30, rfl⟩
abbrev main_cst_0 : Ref sig .tc := ⟨.hbm, 31, rfl⟩
abbrev main_v19 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_11 : Ref sig .tc := ⟨.hbm, 85, rfl⟩
abbrev main_v62 : Ref sig .tc := ⟨.hbm, 86, rfl⟩
abbrev main_v63 : Ref sig .tc := ⟨.hbm, 87, rfl⟩
abbrev main_cst_12 : Ref sig .tc := ⟨.hbm, 88, rfl⟩
abbrev main_v64 : Ref sig .tc := ⟨.hbm, 89, rfl⟩
abbrev main_cst_13 : Ref sig .tc := ⟨.hbm, 90, rfl⟩
abbrev main_v65 : Ref sig .tc := ⟨.hbm, 91, rfl⟩
abbrev main_v66 : Ref sig .tc := ⟨.hbm, 92, rfl⟩
abbrev main_cst_14 : Ref sig .tc := ⟨.hbm, 93, rfl⟩
abbrev main_v67 : Ref sig .tc := ⟨.hbm, 94, rfl⟩
abbrev main_cst_15 : Ref sig .tc := ⟨.hbm, 95, rfl⟩
abbrev main_v68 : Ref sig .tc := ⟨.hbm, 96, rfl⟩
abbrev main_cst_16 : Ref sig .tc := ⟨.hbm, 97, rfl⟩
abbrev main_cst_17 : Ref sig .tc := ⟨.hbm, 98, rfl⟩
abbrev main_v69 : Ref sig .tc := ⟨.hbm, 99, rfl⟩
abbrev main_v70 : Ref sig .tc := ⟨.hbm, 100, rfl⟩
abbrev main_cst_18 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_19 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_20 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_21 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_22 : Ref sig .tc := ⟨.hbm, 122, rfl⟩
abbrev main_v88 : Ref sig .tc := ⟨.hbm, 123, rfl⟩
abbrev main_v89 : Ref sig .tc := ⟨.hbm, 124, rfl⟩
abbrev main_cst_23 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_24 : Ref sig .tc := ⟨.hbm, 133, rfl⟩
abbrev main_v97 : Ref sig .tc := ⟨.hbm, 134, rfl⟩
abbrev main_v98 : Ref sig .tc := ⟨.hbm, 135, rfl⟩
abbrev main_cst_25 : Ref sig .tc := ⟨.hbm, 136, rfl⟩
abbrev main_v99 : Ref sig .tc := ⟨.hbm, 137, rfl⟩
abbrev main_v100 : Ref sig .tc := ⟨.hbm, 138, rfl⟩
abbrev main_cst_26 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_27 : Ref sig .tc := ⟨.hbm, 147, rfl⟩
abbrev main_v108 : Ref sig .tc := ⟨.hbm, 148, rfl⟩
abbrev main_v109 : Ref sig .tc := ⟨.hbm, 149, rfl⟩
abbrev main_cst_28 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_cst_29 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_cst_30 : Ref sig .tc := ⟨.hbm, 159, rfl⟩
abbrev main_v117 : Ref sig .tc := ⟨.hbm, 160, rfl⟩
abbrev main_v118 : Ref sig .tc := ⟨.hbm, 161, rfl⟩
abbrev main_cst_31 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_cst_32 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_cst_33 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_cst_34 : Ref sig .tc := ⟨.hbm, 176, rfl⟩
abbrev main_v130 : Ref sig .tc := ⟨.hbm, 177, rfl⟩
abbrev main_v131 : Ref sig .tc := ⟨.hbm, 178, rfl⟩
abbrev main_cst_35 : Ref sig .tc := ⟨.hbm, 179, rfl⟩
abbrev main_v132 : Ref sig .tc := ⟨.hbm, 180, rfl⟩
abbrev main_v133 : Ref sig .tc := ⟨.hbm, 181, rfl⟩
abbrev main_cst_36 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩

abbrev nD : Nat := 1
abbrev τ : Topo := Topo.v7x

variable {F : FTy → Type} [FloatOps F]
-- ==== GradW2.lean ====
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradW2RefIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S_, .f32⟩
  | .hbm, ⟨3, _⟩ => ⟨S4096x1024, .f32⟩
  | .hbm, ⟨4, _⟩ => ⟨S8192x4096, .f32⟩
  | .hbm, ⟨5, _⟩ => ⟨S8192x1024, .f32⟩
  | .hbm, ⟨6, _⟩ => ⟨S8192x1024, .f32⟩
  | .hbm, ⟨7, _⟩ => ⟨S1024x4096, .f32⟩
  | .hbm, ⟨8, _⟩ => ⟨S4096x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GradW1.lean ====
abbrev S8192x1024 : Shape := ⟨2, ![8192, 1024]⟩
abbrev S8192x4096 : Shape := ⟨2, ![8192, 4096]⟩
abbrev S1024x4096 : Shape := ⟨2, ![1024, 4096]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradW1RefIdeal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GradWOut.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradWOutRefIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S_, .f32⟩
  | .hbm, ⟨3, _⟩ => ⟨S2048x1024, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S1024x2048, .f32⟩
  | .hbm, ⟨8, _⟩ => ⟨S2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GradZ.lean ====
abbrev S8192x1536 : Shape := ⟨2, ![8192, 1536]⟩
abbrev S8192x1024 : Shape := ⟨2, ![8192, 1024]⟩
abbrev S1536x1024 : Shape := ⟨2, ![1536, 1024]⟩
abbrev S2048x768 : Shape := ⟨2, ![2048, 768]⟩
abbrev S2048x1024 : Shape := ⟨2, ![2048, 1024]⟩
abbrev S768x1024 : Shape := ⟨2, ![768, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1536, .f32⟩
  | .hbm, ⟨1, _⟩ => ⟨S8192x1024, .bf16⟩
  | .hbm, ⟨2, _⟩ => ⟨S1536x1024, .f32⟩
  | .local _ .vmem, ⟨0, _⟩ => ⟨S2048x768, .f32⟩
  | .local _ .vmem, ⟨1, _⟩ => ⟨S2048x768, .f32⟩
  | .local _ .vmem, ⟨2, _⟩ => ⟨S2048x1024, .bf16⟩
  | .local _ .vmem, ⟨3, _⟩ => ⟨S2048x1024, .bf16⟩
  | .local _ .vmem, ⟨4, _⟩ => ⟨S768x1024, .f32⟩
  | .local _ .vmem, ⟨5, _⟩ => ⟨S768x1024, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradZRefIdeal.lean ====
abbrev S8192x1536 : Shape := ⟨2, ![8192, 1536]⟩
abbrev S8192x1024 : Shape := ⟨2, ![8192, 1024]⟩
abbrev S_ : Shape := ⟨0, ![]⟩
abbrev S1536x1024 : Shape := ⟨2, ![1536, 1024]⟩
abbrev S1024x1536 : Shape := ⟨2, ![1024, 1536]⟩

abbrev nBuf : Space → Nat
  | .hbm => 10
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8192x1024, .bf16⟩
  | .hbm, ⟨2, _⟩ => ⟨S_, .f32⟩
  | .hbm, ⟨3, _⟩ => ⟨S1536x1024, .f32⟩
  | .hbm, ⟨4, _⟩ => ⟨S8192x1024, .f32⟩
  | .hbm, ⟨5, _⟩ => ⟨S1024x1536, .f32⟩
  | .hbm, ⟨6, _⟩ => ⟨S8192x1536, .f32⟩
  | .hbm, ⟨7, _⟩ => ⟨S1536x1024, .f32⟩
  | .hbm, ⟨8, _⟩ => ⟨S1024x1536, .f32⟩
  | .hbm, ⟨9, _⟩ => ⟨S1536x1024, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GradXbc.lean ====
abbrev S8192x2560 : Shape := ⟨2, ![8192, 2560]⟩
abbrev S8192x1024 : Shape := ⟨2, ![8192, 1024]⟩
abbrev S2560x1024 : Shape := ⟨2, ![2560, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2560, .bf16⟩
  | .hbm, ⟨1, _⟩ => ⟨S8192x1024, .bf16⟩
  | .hbm, ⟨2, _⟩ => ⟨S2560x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradXbcRefIdeal.lean ====
abbrev S8192x2560 : Shape := ⟨2, ![8192, 2560]⟩
abbrev S8192x1024 : Shape := ⟨2, ![8192, 1024]⟩
abbrev S_ : Shape := ⟨0, ![]⟩
abbrev S2560x1024 : Shape := ⟨2, ![2560, 1024]⟩
abbrev S1024x2560 : Shape := ⟨2, ![1024, 2560]⟩

abbrev nBuf : Space → Nat
  | .hbm => 11
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S8192x1024, .bf16⟩
  | .hbm, ⟨2, _⟩ => ⟨S_, .f32⟩
  | .hbm, ⟨3, _⟩ => ⟨S2560x1024, .f32⟩
  | .hbm, ⟨4, _⟩ => ⟨S8192x1024, .f32⟩
  | .hbm, ⟨5, _⟩ => ⟨S1024x2560, .f32⟩
  | .hbm, ⟨6, _⟩ => ⟨S8192x2560, .f32⟩
  | .hbm, ⟨7, _⟩ => ⟨S8192x2560, .f32⟩
  | .hbm, ⟨8, _⟩ => ⟨S2560x1024, .f32⟩
  | .hbm, ⟨9, _⟩ => ⟨S1024x2560, .f32⟩
  | .hbm, ⟨10, _⟩ => ⟨S2560x1024, .f32⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GradDt.lean ====
abbrev S8192x128 : Shape := ⟨2, ![8192, 128]⟩
abbrev S8192x1024 : Shape := ⟨2, ![8192, 1024]⟩
abbrev S128x1024 : Shape := ⟨2, ![128, 1024]⟩
abbrev S2048x128 : Shape := ⟨2, ![2048, 128]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x128, .f32⟩
  | .hbm, ⟨1, _⟩ => ⟨S8192x1024, .bf16⟩
  | .hbm, ⟨2, _⟩ => ⟨S128x1024, .f32⟩
  | .local _ .vmem, ⟨0, _⟩ => ⟨S2048x128, .f32⟩
  | .local _ .vmem, ⟨1, _⟩ => ⟨S2048x128, .f32⟩
  | .local _ .vmem, ⟨2, _⟩ => ⟨S2048x1024, .bf16⟩
  | .local _ .vmem, ⟨3, _⟩ => ⟨S2048x1024, .bf16⟩
  | .local _ .vmem, ⟨4, _⟩ => ⟨S128x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradDtRefIdeal.lean ====
abbrev S8192x128 : Shape := ⟨2, ![8192, 128]⟩
abbrev S8192x1024 : Shape := ⟨2, ![8192, 1024]⟩
abbrev S_ : Shape := ⟨0, ![]⟩
abbrev S128x1024 : Shape := ⟨2, ![128, 1024]⟩
abbrev S1024x128 : Shape := ⟨2, ![1024, 128]⟩

abbrev nBuf : Space → Nat
  | .hbm => 10
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x1024, .bf16⟩
  | .hbm, ⟨2, _⟩ => ⟨S_, .f32⟩
  | .hbm, ⟨3, _⟩ => ⟨S128x1024, .f32⟩
  | .hbm, ⟨4, _⟩ => ⟨S8192x1024, .f32⟩
  | .hbm, ⟨5, _⟩ => ⟨S1024x128, .f32⟩
  | .hbm, ⟨6, _⟩ => ⟨S8192x128, .f32⟩
  | .hbm, ⟨7, _⟩ => ⟨S128x1024, .f32⟩
  | .hbm, ⟨8, _⟩ => ⟨S1024x128, .f32⟩
  | .hbm, ⟨9, _⟩ => ⟨S128x1024, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GradS5.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S8192x1024, .bf16⟩
  | .hbm, ⟨2, _⟩ => ⟨S512x1024, .f32⟩
  | .local _ .vmem, ⟨0, _⟩ => ⟨S2048x512, .f32⟩
  | .local _ .vmem, ⟨1, _⟩ => ⟨S2048x512, .f32⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradS5RefIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x1024, .f32⟩
  | .hbm, ⟨5, _⟩ => ⟨S1024x512, .f32⟩
  | .hbm, ⟨6, _⟩ => ⟨S8192x512, .f32⟩
  | .hbm, ⟨7, _⟩ => ⟨S512x1024, .f32⟩
  | .hbm, ⟨8, _⟩ => ⟨S1024x512, .f32⟩
  | .hbm, ⟨9, _⟩ => ⟨S512x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutNorm.lean ====
abbrev S2x4096x2048 : Shape := ⟨3, ![2, 4096, 2048]⟩
abbrev S2x4096x1024 : Shape := ⟨3, ![2, 4096, 1024]⟩
abbrev S2x6144 : Shape := ⟨2, ![2, 6144]⟩
abbrev S2048x1024 : Shape := ⟨2, ![2048, 1024]⟩
abbrev S1x1024 : Shape := ⟨2, ![1, 1024]⟩
abbrev S2x6x1024 : Shape := ⟨3, ![2, 6, 1024]⟩
abbrev S2x1024 : Shape := ⟨2, ![2, 1024]⟩
abbrev S8192x2048 : Shape := ⟨2, ![8192, 2048]⟩
abbrev S8192x1024 : Shape := ⟨2, ![8192, 1024]⟩
abbrev S512x2048 : Shape := ⟨2, ![512, 2048]⟩
abbrev S512x1024 : Shape := ⟨2, ![512, 1024]⟩
abbrev S1x6x1024 : Shape := ⟨3, ![1, 6, 1024]⟩
abbrev S6x1024 : Shape := ⟨2, ![6, 1024]⟩
abbrev S512 : Shape := ⟨1, ![512]⟩
abbrev S512x1 : Shape := ⟨2, ![512, 1]⟩

abbrev nBuf : Space → Nat
  | .hbm => 14
  | .vmem => 12
  | .smem => 0
  | _ => 0

abbrev bufTy : (tb : Table) → Fin (tcTables nBuf tb) → BufTy
  | .hbm, ⟨0, _⟩ => ⟨S2x4096x2048, .f32⟩
  | .hbm, ⟨1, _⟩ => ⟨S2x4096x1024, .f32⟩
  | .hbm, ⟨2, _⟩ => ⟨S2x6144, .f32⟩
  | .hbm, ⟨3, _⟩ => ⟨S2048x1024, .f32⟩
  | .hbm, ⟨4, _⟩ => ⟨S1x1024, .f32⟩
  | .hbm, ⟨5, _⟩ => ⟨S1x1024, .f32⟩
  | .hbm, ⟨6, _⟩ => ⟨S2x6x1024, .f32⟩
  | .hbm, ⟨7, _⟩ => ⟨S2x1024, .f32⟩
  | .hbm, ⟨8, _⟩ => ⟨S8192x2048, .f32⟩
  | .hbm, ⟨9, _⟩ => ⟨S8192x2048, .bf16⟩
  | .hbm, ⟨10, _⟩ => ⟨S8192x1024, .f32⟩
  | .hbm, ⟨11, _⟩ => ⟨S2048x1024, .bf16⟩
  | .hbm, ⟨12, _⟩ => ⟨S8192x1024, .f32⟩
  | .hbm, ⟨13, _⟩ => ⟨S8192x1024, .f32⟩
  | .local _ .vmem, ⟨0, _⟩ => ⟨S512x2048, .bf16⟩
  | .local _ .vmem, ⟨1, _⟩ => ⟨S512x2048, .bf16⟩
  | .local _ .vmem, ⟨2, _⟩ => ⟨S512x1024, .f32⟩
  | .local _ .vmem, ⟨3, _⟩ => ⟨S512x1024, .f32⟩
  | .local _ .vmem, ⟨4, _⟩ => ⟨S1x6x1024, .f32⟩
  | .local _ .vmem, ⟨5, _⟩ => ⟨S1x6x1024, .f32⟩
  | .local _ .vmem, ⟨6, _⟩ => ⟨S2048x1024, .bf16⟩
  | .local _ .vmem, ⟨7, _⟩ => ⟨S2x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutNormRefIdeal.lean ====
abbrev S2x4096x2048 : Shape := ⟨3, ![2, 4096, 2048]⟩
abbrev S2x4096x1024 : Shape := ⟨3, ![2, 4096, 1024]⟩
abbrev S2x6144 : Shape := ⟨2, ![2, 6144]⟩
abbrev S2048x1024 : Shape := ⟨2, ![2048, 1024]⟩
abbrev S1x1024 : Shape := ⟨2, ![1, 1024]⟩
abbrev S2x1x6144 : Shape := ⟨3, ![2, 1, 6144]⟩
abbrev S2x1x1024 : Shape := ⟨3, ![2, 1, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S8192x1024 : Shape := ⟨2, ![8192, 1024]⟩

abbrev nBuf : Space → Nat
  | .hbm => 52
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096x1024, .f32⟩
  | .hbm, ⟨2, _⟩ => ⟨S2x6144, .f32⟩
  | .hbm, ⟨3, _⟩ => ⟨S2048x1024, .f32⟩
  | .hbm, ⟨4, _⟩ => ⟨S1x1024, .f32⟩
  | .hbm, ⟨5, _⟩ => ⟨S1x1024, .f32⟩
  | .hbm, ⟨6, _⟩ => ⟨S2x1x6144, .f32⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x4096x1024, .f32⟩
  | .hbm, ⟨14, _⟩ => ⟨S_, .f32⟩
  | .hbm, ⟨15, _⟩ => ⟨S2x4096x1024, .f32⟩
  | .hbm, ⟨16, _⟩ => ⟨S2x4096x1024, .f32⟩
  | .hbm, ⟨17, _⟩ => ⟨S_, .f32⟩
  | .hbm, ⟨18, _⟩ => ⟨S2x1x1024, .f32⟩
  | .hbm, ⟨19, _⟩ => ⟨S2x1x1024, .f32⟩
  | .hbm, ⟨20, _⟩ => ⟨S2x4096x1024, .f32⟩
  | .hbm, ⟨21, _⟩ => ⟨S2x4096x1024, .f32⟩
  | .hbm, ⟨22, _⟩ => ⟨S2x4096x1024, .f32⟩
  | .hbm, ⟨23, _⟩ => ⟨S_, .f32⟩
  | .hbm, ⟨24, _⟩ => ⟨S2x4096, .f32⟩
  | .hbm, ⟨25, _⟩ => ⟨S2x4096x1, .f32⟩
  | .hbm, ⟨26, _⟩ => ⟨S_, .f32⟩
  | .hbm, ⟨27, _⟩ => ⟨S2x4096x1, .f32⟩
  | .hbm, ⟨28, _⟩ => ⟨S2x4096x1, .f32⟩
  | .hbm, ⟨29, _⟩ => ⟨S2x4096x1024, .f32⟩
  | .hbm, ⟨30, _⟩ => ⟨S2x4096x1024, .f32⟩
  | .hbm, ⟨31, _⟩ => ⟨S2x4096x1024, .f32⟩
  | .hbm, ⟨32, _⟩ => ⟨S_, .f32⟩
  | .hbm, ⟨33, _⟩ => ⟨S2x4096, .f32⟩
  | .hbm, ⟨34, _⟩ => ⟨S2x4096x1, .f32⟩
  | .hbm, ⟨35, _⟩ => ⟨S_, .f32⟩
  | .hbm, ⟨36, _⟩ => ⟨S2x4096x1, .f32⟩
  | .hbm, ⟨37, _⟩ => ⟨S2x4096x1, .f32⟩
  | .hbm, ⟨38, _⟩ => ⟨S_, .f32⟩
  | .hbm, ⟨39, _⟩ => ⟨S2x4096x1, .f32⟩
  | .hbm, ⟨40, _⟩ => ⟨S2x4096x1, .f32⟩
  | .hbm, ⟨41, _⟩ => ⟨S2x4096x1, .f32⟩
  | .hbm, ⟨42, _⟩ => ⟨S2x4096x1024, .f32⟩
  | .hbm, ⟨43, _⟩ => ⟨S2x4096x1024, .f32⟩
  | .hbm, ⟨44, _⟩ => ⟨S1x1x1024, .f32⟩
  | .hbm, ⟨45, _⟩ => ⟨S2x4096x1024, .f32⟩
  | .hbm, ⟨46, _⟩ => ⟨S2x4096x1024, .f32⟩
  | .hbm, ⟨47, _⟩ => ⟨S1x1x1024, .f32⟩
  | .hbm, ⟨48, _⟩ => ⟨S2x4096x1024, .f32⟩
  | .hbm, ⟨49, _⟩ => ⟨S2x4096x1024, .f32⟩
  | .hbm, ⟨50, _⟩ => ⟨S8192x1024, .f32⟩
  | .hbm, ⟨51, _⟩ => ⟨S8192x1024, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== NormGrad.lean ====
abbrev S2x4096x2048 : Shape := ⟨3, ![2, 4096, 2048]⟩
abbrev S2x4096x1024 : Shape := ⟨3, ![2, 4096, 1024]⟩
abbrev S2x6144 : Shape := ⟨2, ![2, 6144]⟩
abbrev S2048x1024 : Shape := ⟨2, ![2048, 1024]⟩
abbrev S1x1024 : Shape := ⟨2, ![1, 1024]⟩
abbrev S2x6x1024 : Shape := ⟨3, ![2, 6, 1024]⟩
abbrev S2x1024 : Shape := ⟨2, ![2, 1024]⟩
abbrev S8192x2048 : Shape := ⟨2, ![8192, 2048]⟩
abbrev S8192x1024 : Shape := ⟨2, ![8192, 1024]⟩
abbrev S512x2048 : Shape := ⟨2, ![512, 2048]⟩
abbrev S512x1024 : Shape := ⟨2, ![512, 1024]⟩
abbrev S1x6x1024 : Shape := ⟨3, ![1, 6, 1024]⟩
abbrev S6x1024 : Shape := ⟨2, ![6, 1024]⟩
abbrev S512 : Shape := ⟨1, ![512]⟩
abbrev S512x1 : Shape := ⟨2, ![512, 1]⟩
abbrev S8192x1536 : Shape := ⟨2, ![8192, 1536]⟩
abbrev S8192x512 : Shape := ⟨2, ![8192, 512]⟩
abbrev S8x1024 : Shape := ⟨2, ![8, 1024]⟩
abbrev S2x8x1024 : Shape := ⟨3, ![2, 8, 1024]⟩
abbrev S512x1536 : Shape := ⟨2, ![512, 1536]⟩
abbrev S512x512 : Shape := ⟨2, ![512, 512]⟩
abbrev S1x8x1024 : Shape := ⟨3, ![1, 8, 1024]⟩
abbrev S1024 : Shape := ⟨1, ![1024]⟩
abbrev S1x1x1024 : Shape := ⟨3, ![1, 1, 1024]⟩
abbrev S1536x1024 : Shape := ⟨2, ![1536, 1024]⟩

abbrev nBuf : Space → Nat
  | .hbm => 22
  | .vmem => 33
  | .smem => 0
  | _ => 0

abbrev bufTy : (tb : Table) → Fin (tcTables nBuf tb) → BufTy
  | .hbm, ⟨0, _⟩ => ⟨S2x4096x2048, .f32⟩
  | .hbm, ⟨1, _⟩ => ⟨S2x4096x1024, .f32⟩
  | .hbm, ⟨2, _⟩ => ⟨S2x6144, .f32⟩
  | .hbm, ⟨3, _⟩ => ⟨S2048x1024, .f32⟩
  | .hbm, ⟨4, _⟩ => ⟨S1x1024, .f32⟩
  | .hbm, ⟨5, _⟩ => ⟨S1x1024, .f32⟩
  | .hbm, ⟨6, _⟩ => ⟨S2x4096x1024, .f32⟩
  | .hbm, ⟨7, _⟩ => ⟨S2x6x1024, .f32⟩
  | .hbm, ⟨8, _⟩ => ⟨S2x1024, .f32⟩
  | .hbm, ⟨9, _⟩ => ⟨S8192x2048, .f32⟩
  | .hbm, ⟨10, _⟩ => ⟨S8192x2048, .bf16⟩
  | .hbm, ⟨11, _⟩ => ⟨S8192x1024, .f32⟩
  | .hbm, ⟨12, _⟩ => ⟨S2048x1024, .bf16⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .bf16⟩
  | .hbm, ⟨17, _⟩ => ⟨S8192x1024, .f32⟩
  | .hbm, ⟨18, _⟩ => ⟨S8192x1536, .f32⟩
  | .hbm, ⟨19, _⟩ => ⟨S8192x512, .f32⟩
  | .hbm, ⟨20, _⟩ => ⟨S8x1024, .f32⟩
  | .hbm, ⟨21, _⟩ => ⟨S2x8x1024, .f32⟩
  | .local _ .vmem, ⟨0, _⟩ => ⟨S512x2048, .bf16⟩
  | .local _ .vmem, ⟨1, _⟩ => ⟨S512x2048, .bf16⟩
  | .local _ .vmem, ⟨2, _⟩ => ⟨S512x1024, .f32⟩
  | .local _ .vmem, ⟨3, _⟩ => ⟨S512x1024, .f32⟩
  | .local _ .vmem, ⟨4, _⟩ => ⟨S1x6x1024, .f32⟩
  | .local _ .vmem, ⟨5, _⟩ => ⟨S1x6x1024, .f32⟩
  | .local _ .vmem, ⟨6, _⟩ => ⟨S2048x1024, .bf16⟩
  | .local _ .vmem, ⟨7, _⟩ => ⟨S2x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1x6x1024, .f32⟩
  | .local _ .vmem, ⟨19, _⟩ => ⟨S1x6x1024, .f32⟩
  | .local _ .vmem, ⟨20, _⟩ => ⟨S2048x1024, .bf16⟩
  | .local _ .vmem, ⟨21, _⟩ => ⟨S2x1024, .f32⟩
  | .local _ .vmem, ⟨22, _⟩ => ⟨S512x1024, .bf16⟩
  | .local _ .vmem, ⟨23, _⟩ => ⟨S512x1024, .bf16⟩
  | .local _ .vmem, ⟨24, _⟩ => ⟨S512x1024, .f32⟩
  | .local _ .vmem, ⟨25, _⟩ => ⟨S512x1024, .f32⟩
  | .local _ .vmem, ⟨26, _⟩ => ⟨S512x1536, .f32⟩
  | .local _ .vmem, ⟨27, _⟩ => ⟨S512x1536, .f32⟩
  | .local _ .vmem, ⟨28, _⟩ => ⟨S512x512, .f32⟩
  | .local _ .vmem, ⟨29, _⟩ => ⟨S512x512, .f32⟩
  | .local _ .vmem, ⟨30, _⟩ => ⟨S8x1024, .f32⟩
  | .local _ .vmem, ⟨31, _⟩ => ⟨S1x8x1024, .f32⟩
  | .local _ .vmem, ⟨32, _⟩ => ⟨S1x8x1024, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v8_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc1_stg10_0 : Ref sig .tc := ⟨.vmem, 30, rfl⟩
abbrev cc1_stg11_0 : Ref sig .tc := ⟨.vmem, 31, rfl⟩
abbrev cc1_stg11_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem9_1 : DmaSem sig := 29
abbrev cc1_sem10_0 : DmaSem sig := 30
abbrev cc1_sem11_0 : DmaSem sig := 31
abbrev cc1_sem11_1 : DmaSem sig := 32

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x6x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S2048x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x1536 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S8x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S1x8x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]
-- ==== NormGradRefIdeal.lean ====
abbrev S2x4096x2048 : Shape := ⟨3, ![2, 4096, 2048]⟩
abbrev S2x4096x1024 : Shape := ⟨3, ![2, 4096, 1024]⟩
abbrev S2x6144 : Shape := ⟨2, ![2, 6144]⟩
abbrev S2048x1024 : Shape := ⟨2, ![2048, 1024]⟩
abbrev S1x1024 : Shape := ⟨2, ![1, 1024]⟩
abbrev S2x1x6144 : Shape := ⟨3, ![2, 1, 6144]⟩
abbrev S2x1x1024 : Shape := ⟨3, ![2, 1, 1024]⟩
abbrev S_ : Shape := ⟨0, ![]⟩
abbrev S8192x1024 : Shape := ⟨2, ![8192, 1024]⟩
abbrev S8192 : Shape := ⟨1, ![8192]⟩
abbrev S8192x1 : Shape := ⟨2, ![8192, 1]⟩
abbrev S1024 : Shape := ⟨1, ![1024]⟩
abbrev S2x1024 : Shape := ⟨2, ![2, 1024]⟩
abbrev S8192x2048 : Shape := ⟨2, ![8192, 2048]⟩
abbrev S6x1024 : Shape := ⟨2, ![6, 1024]⟩
abbrev S8x1024 : Shape := ⟨2, ![8, 1024]⟩
abbrev S2x7x1024 : Shape := ⟨3, ![2, 7, 1024]⟩
abbrev S2x8x1024 : Shape := ⟨3, ![2, 8, 1024]⟩
abbrev S8192x1536 : Shape := ⟨2, ![8192, 1536]⟩
abbrev S8192x512 : Shape := ⟨2, ![8192, 512]⟩

abbrev nBuf : Space → Nat
  | .hbm => 115
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096x1024, .f32⟩
  | .hbm, ⟨2, _⟩ => ⟨S2x6144, .f32⟩
  | .hbm, ⟨3, _⟩ => ⟨S2048x1024, .f32⟩
  | .hbm, ⟨4, _⟩ => ⟨S1x1024, .f32⟩
  | .hbm, ⟨5, _⟩ => ⟨S1x1024, .f32⟩
  | .hbm, ⟨6, _⟩ => ⟨S2x4096x1024, .f32⟩
  | .hbm, ⟨7, _⟩ => ⟨S2x1x6144, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S2x4096x1024, .f32⟩
  | .hbm, ⟨15, _⟩ => ⟨S_, .f32⟩
  | .hbm, ⟨16, _⟩ => ⟨S2x4096x1024, .f32⟩
  | .hbm, ⟨17, _⟩ => ⟨S2x4096x1024, .f32⟩
  | .hbm, ⟨18, _⟩ => ⟨S_, .f32⟩
  | .hbm, ⟨19, _⟩ => ⟨S2x1x1024, .f32⟩
  | .hbm, ⟨20, _⟩ => ⟨S2x1x1024, .f32⟩
  | .hbm, ⟨21, _⟩ => ⟨S2x4096x1024, .f32⟩
  | .hbm, ⟨22, _⟩ => ⟨S2x4096x1024, .f32⟩
  | .hbm, ⟨23, _⟩ => ⟨S2x4096x1024, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S8192x1024, .f32⟩
  | .hbm, ⟨69, _⟩ => ⟨S8192x1024, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S_, .f32⟩
  | .hbm, ⟨75, _⟩ => ⟨S8192, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S_, .f32⟩
  | .hbm, ⟨83, _⟩ => ⟨S8192, .f32⟩
  | .hbm, ⟨84, _⟩ => ⟨S8192x1, .f32⟩
  | .hbm, ⟨85, _⟩ => ⟨S_, .f32⟩
  | .hbm, ⟨86, _⟩ => ⟨S8192x1, .f32⟩
  | .hbm, ⟨87, _⟩ => ⟨S8192x1, .f32⟩
  | .hbm, ⟨88, _⟩ => ⟨S_, .f32⟩
  | .hbm, ⟨89, _⟩ => ⟨S8192, .f32⟩
  | .hbm, ⟨90, _⟩ => ⟨S8192x1024, .f32⟩
  | .hbm, ⟨91, _⟩ => ⟨S8192x1024, .f32⟩
  | .hbm, ⟨92, _⟩ => ⟨S2x4096x1024, .f32⟩
  | .hbm, ⟨93, _⟩ => ⟨S2x4096x1024, .f32⟩
  | .hbm, ⟨94, _⟩ => ⟨S2x4096x1024, .f32⟩
  | .hbm, ⟨95, _⟩ => ⟨S2x4096x1024, .f32⟩
  | .hbm, ⟨96, _⟩ => ⟨S_, .f32⟩
  | .hbm, ⟨97, _⟩ => ⟨S2x1024, .f32⟩
  | .hbm, ⟨98, _⟩ => ⟨S2x1x1024, .f32⟩
  | .hbm, ⟨99, _⟩ => ⟨S_, .f32⟩
  | .hbm, ⟨100, _⟩ => ⟨S2x4096x1024, .f32⟩
  | .hbm, ⟨101, _⟩ => ⟨S2x4096x1024, .f32⟩
  | .hbm, ⟨102, _⟩ => ⟨S2x4096x2048, .f32⟩
  | .hbm, ⟨103, _⟩ => ⟨S8192x2048, .f32⟩
  | .hbm, ⟨104, _⟩ => ⟨S_, .f32⟩
  | .hbm, ⟨105, _⟩ => ⟨S6x1024, .f32⟩
  | .hbm, ⟨106, _⟩ => ⟨S8x1024, .f32⟩
  | .hbm, ⟨107, _⟩ => ⟨S_, .f32⟩
  | .hbm, ⟨108, _⟩ => ⟨S2x7x1024, .f32⟩
  | .hbm, ⟨109, _⟩ => ⟨S2x8x1024, .f32⟩
  | .hbm, ⟨110, _⟩ => ⟨S8192x1024, .f32⟩
  | .hbm, ⟨111, _⟩ => ⟨S8192x1024, .bf16⟩
  | .hbm, ⟨112, _⟩ => ⟨S8192x1024, .f32⟩
  | .hbm, ⟨113, _⟩ => ⟨S8192x1536, .f32⟩
  | .hbm, ⟨114, _⟩ => ⟨S8192x512, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_12 : Ref sig .tc := ⟨.hbm, 82, rfl⟩
abbrev main_v62 : Ref sig .tc := ⟨.hbm, 83, rfl⟩
abbrev main_v63 : Ref sig .tc := ⟨.hbm, 84, rfl⟩
abbrev main_cst_13 : Ref sig .tc := ⟨.hbm, 85, rfl⟩
abbrev main_v64 : Ref sig .tc := ⟨.hbm, 86, rfl⟩
abbrev main_v65 : Ref sig .tc := ⟨.hbm, 87, rfl⟩
abbrev main_cst_14 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_15 : Ref sig .tc := ⟨.hbm, 96, rfl⟩
abbrev main_v73 : Ref sig .tc := ⟨.hbm, 97, rfl⟩
abbrev main_v74 : Ref sig .tc := ⟨.hbm, 98, rfl⟩
abbrev main_cst_16 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_17 : Ref sig .tc := ⟨.hbm, 104, rfl⟩
abbrev main_v79 : Ref sig .tc := ⟨.hbm, 105, rfl⟩
abbrev main_v80 : Ref sig .tc := ⟨.hbm, 106, rfl⟩
abbrev main_cst_18 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩

abbrev nD : Nat := 1
abbrev τ : Topo := Topo.v7x

variable {F : FTy → Type} [FloatOps F]
-- ==== ProjConv.lean ====
abbrev S2x4096x1024 : Shape := ⟨3, ![2, 4096, 1024]⟩
abbrev S2x6144 : Shape := ⟨2, ![2, 6144]⟩
abbrev S1024x4632 : Shape := ⟨2, ![1024, 4632]⟩
abbrev S4x2560 : Shape := ⟨2, ![4, 2560]⟩
abbrev S1x2560 : Shape := ⟨2, ![1, 2560]⟩
abbrev S2x6x1024 : Shape := ⟨3, ![2, 6, 1024]⟩
abbrev S4632x1024 : Shape := ⟨2, ![4632, 1024]⟩
abbrev S4120x1024 : Shape := ⟨2, ![4120, 1024]⟩
abbrev S_ : Shape := ⟨0, ![]⟩
abbrev S104x1024 : Shape := ⟨2, ![104, 1024]⟩
abbrev S512x1024 : Shape := ⟨2, ![512, 1024]⟩
abbrev S4736x1024 : Shape := ⟨2, ![4736, 1024]⟩
abbrev S8192x1024 : Shape := ⟨2, ![8192, 1024]⟩
abbrev S8192x1536 : Shape := ⟨2, ![8192, 1536]⟩
abbrev S8192x2560 : Shape := ⟨2, ![8192, 2560]⟩
abbrev S8192x128 : Shape := ⟨2, ![8192, 128]⟩
abbrev S8192x512 : Shape := ⟨2, ![8192, 512]⟩
abbrev S256x1024 : Shape := ⟨2, ![256, 1024]⟩
abbrev S1x6x1024 : Shape := ⟨3, ![1, 6, 1024]⟩
abbrev S256x1536 : Shape := ⟨2, ![256, 1536]⟩
abbrev S256x2560 : Shape := ⟨2, ![256, 2560]⟩
abbrev S256x128 : Shape := ⟨2, ![256, 128]⟩
abbrev S256x512 : Shape := ⟨2, ![256, 512]⟩
abbrev S264x2560 : Shape := ⟨2, ![264, 2560]⟩
abbrev S8x2560 : Shape := ⟨2, ![8, 2560]⟩
abbrev S6x1024 : Shape := ⟨2, ![6, 1024]⟩
abbrev S1x1024 : Shape := ⟨2, ![1, 1024]⟩
abbrev S1536x1024 : Shape := ⟨2, ![1536, 1024]⟩
abbrev S128x1024 : Shape := ⟨2, ![128, 1024]⟩
abbrev S4x512 : Shape := ⟨2, ![4, 512]⟩
abbrev S1x512 : Shape := ⟨2, ![1, 512]⟩

abbrev nBuf : Space → Nat
  | .hbm => 20
  | .vmem => 20
  | .smem => 0
  | _ => 0

abbrev bufTy : (tb : Table) → Fin (tcTables nBuf tb) → BufTy
  | .hbm, ⟨0, _⟩ => ⟨S2x4096x1024, .f32⟩
  | .hbm, ⟨1, _⟩ => ⟨S2x6144, .f32⟩
  | .hbm, ⟨2, _⟩ => ⟨S1024x4632, .f32⟩
  | .hbm, ⟨3, _⟩ => ⟨S4x2560, .f32⟩
  | .hbm, ⟨4, _⟩ => ⟨S1x2560, .f32⟩
  | .hbm, ⟨5, _⟩ => ⟨S2x6x1024, .f32⟩
  | .hbm, ⟨6, _⟩ => ⟨S4632x1024, .f32⟩
  | .hbm, ⟨7, _⟩ => ⟨S4632x1024, .bf16⟩
  | .hbm, ⟨8, _⟩ => ⟨S4120x1024, .bf16⟩
  | .hbm, ⟨9, _⟩ => ⟨S_, .bf16⟩
  | .hbm, ⟨10, _⟩ => ⟨S104x1024, .bf16⟩
  | .hbm, ⟨11, _⟩ => ⟨S512x1024, .bf16⟩
  | .hbm, ⟨12, _⟩ => ⟨S4736x1024, .bf16⟩
  | .hbm, ⟨13, _⟩ => ⟨S8192x1024, .f32⟩
  | .hbm, ⟨14, _⟩ => ⟨S8192x1536, .f32⟩
  | .hbm, ⟨15, _⟩ => ⟨S8192x2560, .f32⟩
  | .hbm, ⟨16, _⟩ => ⟨S8192x2560, .f32⟩
  | .hbm, ⟨17, _⟩ => ⟨S8192x2560, .f32⟩
  | .hbm, ⟨18, _⟩ => ⟨S8192x128, .f32⟩
  | .hbm, ⟨19, _⟩ => ⟨S8192x512, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S4x2560, .f32⟩
  | .local _ .vmem, ⟨5, _⟩ => ⟨S1x2560, .f32⟩
  | .local _ .vmem, ⟨6, _⟩ => ⟨S256x1536, .f32⟩
  | .local _ .vmem, ⟨7, _⟩ => ⟨S256x1536, .f32⟩
  | .local _ .vmem, ⟨8, _⟩ => ⟨S256x2560, .f32⟩
  | .local _ .vmem, ⟨9, _⟩ => ⟨S256x2560, .f32⟩
  | .local _ .vmem, ⟨10, _⟩ => ⟨S256x2560, .f32⟩
  | .local _ .vmem, ⟨11, _⟩ => ⟨S256x2560, .f32⟩
  | .local _ .vmem, ⟨12, _⟩ => ⟨S256x2560, .f32⟩
  | .local _ .vmem, ⟨13, _⟩ => ⟨S256x2560, .f32⟩
  | .local _ .vmem, ⟨14, _⟩ => ⟨S256x128, .f32⟩
  | .local _ .vmem, ⟨15, _⟩ => ⟨S256x128, .f32⟩
  | .local _ .vmem, ⟨16, _⟩ => ⟨S256x512, .f32⟩
  | .local _ .vmem, ⟨17, _⟩ => ⟨S256x512, .f32⟩
  | .local _ .vmem, ⟨18, _⟩ => ⟨S4736x1024, .bf16⟩
  | .local _ .vmem, ⟨19, _⟩ => ⟨S264x2560, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v8_4 : Ref sig .tc := ⟨.hbm, 18, rfl⟩
abbrev main_v8_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2560 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ProjConvRefIdeal.lean ====
abbrev S2x4096x1024 : Shape := ⟨3, ![2, 4096, 1024]⟩
abbrev S2x6144 : Shape := ⟨2, ![2, 6144]⟩
abbrev S1024x4632 : Shape := ⟨2, ![1024, 4632]⟩
abbrev S4x2560 : Shape := ⟨2, ![4, 2560]⟩
abbrev S1x2560 : Shape := ⟨2, ![1, 2560]⟩
abbrev S2x1x6144 : Shape := ⟨3, ![2, 1, 6144]⟩
abbrev S2x1x1024 : Shape := ⟨3, ![2, 1, 1024]⟩
abbrev S_ : Shape := ⟨0, ![]⟩
abbrev S2x4096x4632 : Shape := ⟨3, ![2, 4096, 4632]⟩
abbrev S2x4096x1536 : Shape := ⟨3, ![2, 4096, 1536]⟩
abbrev S2x4096x2560 : Shape := ⟨3, ![2, 4096, 2560]⟩
abbrev S2x4096x24 : Shape := ⟨3, ![2, 4096, 24]⟩
abbrev S2x4096x512 : Shape := ⟨3, ![2, 4096, 512]⟩
abbrev S2x4099x2560 : Shape := ⟨3, ![2, 4099, 2560]⟩
abbrev S2560 : Shape := ⟨1, ![2560]⟩
abbrev S1x1x2560 : Shape := ⟨3, ![1, 1, 2560]⟩
abbrev S2x4096x128 : Shape := ⟨3, ![2, 4096, 128]⟩
abbrev S8192x1536 : Shape := ⟨2, ![8192, 1536]⟩
abbrev S8192x2560 : Shape := ⟨2, ![8192, 2560]⟩
abbrev S8192x128 : Shape := ⟨2, ![8192, 128]⟩
abbrev S8192x512 : Shape := ⟨2, ![8192, 512]⟩

abbrev nBuf : Space → Nat
  | .hbm => 88
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x6144, .f32⟩
  | .hbm, ⟨2, _⟩ => ⟨S1024x4632, .f32⟩
  | .hbm, ⟨3, _⟩ => ⟨S4x2560, .f32⟩
  | .hbm, ⟨4, _⟩ => ⟨S1x2560, .f32⟩
  | .hbm, ⟨5, _⟩ => ⟨S2x1x6144, .f32⟩
  | .hbm, ⟨6, _⟩ => ⟨S2x1x1024, .f32⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S_, .f32⟩
  | .hbm, ⟨13, _⟩ => ⟨S2x1x1024, .f32⟩
  | .hbm, ⟨14, _⟩ => ⟨S2x1x1024, .f32⟩
  | .hbm, ⟨15, _⟩ => ⟨S2x4096x1024, .f32⟩
  | .hbm, ⟨16, _⟩ => ⟨S2x4096x1024, .f32⟩
  | .hbm, ⟨17, _⟩ => ⟨S2x4096x1024, .f32⟩
  | .hbm, ⟨18, _⟩ => ⟨S2x4096x1024, .f32⟩
  | .hbm, ⟨19, _⟩ => ⟨S2x4096x4632, .f32⟩
  | .hbm, ⟨20, _⟩ => ⟨S2x4096x1536, .f32⟩
  | .hbm, ⟨21, _⟩ => ⟨S2x4096x2560, .f32⟩
  | .hbm, ⟨22, _⟩ => ⟨S2x4096x24, .f32⟩
  | .hbm, ⟨23, _⟩ => ⟨S2x4096x512, .f32⟩
  | .hbm, ⟨24, _⟩ => ⟨S_, .i32⟩
  | .hbm, ⟨25, _⟩ => ⟨S_, .f32⟩
  | .hbm, ⟨26, _⟩ => ⟨S2x4099x2560, .f32⟩
  | .hbm, ⟨27, _⟩ => ⟨S1x2560, .f32⟩
  | .hbm, ⟨28, _⟩ => ⟨S2560, .f32⟩
  | .hbm, ⟨29, _⟩ => ⟨S2x4096x2560, .f32⟩
  | .hbm, ⟨30, _⟩ => ⟨S1x1x2560, .f32⟩
  | .hbm, ⟨31, _⟩ => ⟨S2x4096x2560, .f32⟩
  | .hbm, ⟨32, _⟩ => ⟨S2x4096x2560, .f32⟩
  | .hbm, ⟨33, _⟩ => ⟨S_, .f32⟩
  | .hbm, ⟨34, _⟩ => ⟨S2x4096x2560, .f32⟩
  | .hbm, ⟨35, _⟩ => ⟨S2x4096x2560, .f32⟩
  | .hbm, ⟨36, _⟩ => ⟨S1x2560, .f32⟩
  | .hbm, ⟨37, _⟩ => ⟨S2560, .f32⟩
  | .hbm, ⟨38, _⟩ => ⟨S2x4096x2560, .f32⟩
  | .hbm, ⟨39, _⟩ => ⟨S1x1x2560, .f32⟩
  | .hbm, ⟨40, _⟩ => ⟨S2x4096x2560, .f32⟩
  | .hbm, ⟨41, _⟩ => ⟨S2x4096x2560, .f32⟩
  | .hbm, ⟨42, _⟩ => ⟨S2x4096x2560, .f32⟩
  | .hbm, ⟨43, _⟩ => ⟨S1x2560, .f32⟩
  | .hbm, ⟨44, _⟩ => ⟨S2560, .f32⟩
  | .hbm, ⟨45, _⟩ => ⟨S2x4096x2560, .f32⟩
  | .hbm, ⟨46, _⟩ => ⟨S1x1x2560, .f32⟩
  | .hbm, ⟨47, _⟩ => ⟨S2x4096x2560, .f32⟩
  | .hbm, ⟨48, _⟩ => ⟨S2x4096x2560, .f32⟩
  | .hbm, ⟨49, _⟩ => ⟨S2x4096x2560, .f32⟩
  | .hbm, ⟨50, _⟩ => ⟨S1x2560, .f32⟩
  | .hbm, ⟨51, _⟩ => ⟨S2560, .f32⟩
  | .hbm, ⟨52, _⟩ => ⟨S2x4096x2560, .f32⟩
  | .hbm, ⟨53, _⟩ => ⟨S1x1x2560, .f32⟩
  | .hbm, ⟨54, _⟩ => ⟨S2x4096x2560, .f32⟩
  | .hbm, ⟨55, _⟩ => ⟨S2x4096x2560, .f32⟩
  | .hbm, ⟨56, _⟩ => ⟨S2x4096x2560, .f32⟩
  | .hbm, ⟨57, _⟩ => ⟨S1x1x2560, .f32⟩
  | .hbm, ⟨58, _⟩ => ⟨S2x4096x2560, .f32⟩
  | .hbm, ⟨59, _⟩ => ⟨S2x4096x2560, .f32⟩
  | .hbm, ⟨60, _⟩ => ⟨S2x4096x2560, .f32⟩
  | .hbm, ⟨61, _⟩ => ⟨S2x4096x2560, .f32⟩
  | .hbm, ⟨62, _⟩ => ⟨S_, .f32⟩
  | .hbm, ⟨63, _⟩ => ⟨S2x4096x2560, .f32⟩
  | .hbm, ⟨64, _⟩ => ⟨S2x4096x2560, .f32⟩
  | .hbm, ⟨65, _⟩ => ⟨S_, .f32⟩
  | .hbm, ⟨66, _⟩ => ⟨S2x4096x2560, .f32⟩
  | .hbm, ⟨67, _⟩ => ⟨S2x4096x2560, .f32⟩
  | .hbm, ⟨68, _⟩ => ⟨S_, .f32⟩
  | .hbm, ⟨69, _⟩ => ⟨S2x4096x2560, .f32⟩
  | .hbm, ⟨70, _⟩ => ⟨S2x4096x2560, .f32⟩
  | .hbm, ⟨71, _⟩ => ⟨S2x4096x2560, .f32⟩
  | .hbm, ⟨72, _⟩ => ⟨S2x4096x2560, .f32⟩
  | .hbm, ⟨73, _⟩ => ⟨S_, .f32⟩
  | .hbm, ⟨74, _⟩ => ⟨S2x4096x2560, .f32⟩
  | .hbm, ⟨75, _⟩ => ⟨S2x4096x2560, .f32⟩
  | .hbm, ⟨76, _⟩ => ⟨S2x4096x2560, .f32⟩
  | .hbm, ⟨77, _⟩ => ⟨S2x4096x2560, .f32⟩
  | .hbm, ⟨78, _⟩ => ⟨S2x4096x2560, .f32⟩
  | .hbm, ⟨79, _⟩ => ⟨S_, .i32⟩
  | .hbm, ⟨80, _⟩ => ⟨S_, .f32⟩
  | .hbm, ⟨81, _⟩ => ⟨S2x4096x128, .f32⟩
  | .hbm, ⟨82, _⟩ => ⟨S8192x1536, .f32⟩
  | .hbm, ⟨83, _⟩ => ⟨S8192x2560, .f32⟩
  | .hbm, ⟨84, _⟩ => ⟨S8192x2560, .f32⟩
  | .hbm, ⟨85, _⟩ => ⟨S8192x2560, .f32⟩
  | .hbm, ⟨86, _⟩ => ⟨S8192x128, .f32⟩
  | .hbm, ⟨87, _⟩ => ⟨S8192x512, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_call0_v0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_0 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_call1_v0 : Ref sig .tc := ⟨.hbm, 60, rfl⟩
abbrev main_call1_v1 : Ref sig .tc := ⟨.hbm, 61, rfl⟩
abbrev main_call1_cst : Ref sig .tc := ⟨.hbm, 62, rfl⟩
abbrev main_call1_v2 : Ref sig .tc := ⟨.hbm, 63, rfl⟩
abbrev main_call1_v3 : Ref sig .tc := ⟨.hbm, 64, rfl⟩
abbrev main_call1_cst_0 : Ref sig .tc := ⟨.hbm, 65, rfl⟩
abbrev main_call1_v4 : Ref sig .tc := ⟨.hbm, 66, rfl⟩
abbrev main_v51_2 : Ref sig .tc := ⟨.hbm, 67, rfl⟩
abbrev main_call1_cst_1 : Ref sig .tc := ⟨.hbm, 68, rfl⟩
abbrev main_call1_v6 : Ref sig .tc := ⟨.hbm, 69, rfl⟩
abbrev main_call1_v7 : Ref sig .tc := ⟨.hbm, 70, rfl⟩
abbrev main_v51_1 : Ref sig .tc := ⟨.hbm, 71, rfl⟩
abbrev main_v51_0 : Ref sig .tc := ⟨.hbm, 72, rfl⟩
abbrev main_cst_1 : Ref sig .tc := ⟨.hbm, 73, rfl⟩
abbrev main_v52 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_v53 : Ref sig .tc := ⟨.hbm, 78, rfl⟩
abbrev main_c_2 : Ref sig .tc := ⟨.hbm, 79, rfl⟩
abbrev main_call3_v0 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩

abbrev nD : Nat := 1
abbrev τ : Topo := Topo.v7x

variable {F : FTy → Type} [FloatOps F]
-- ==== Proof.Mlp.RunA.lean ====
/- The body of the MLP kernel at the first grid point: the weights are copied to on-chip memory piece by piece, and all three
   accumulators are cleared before anything is added to them. -/
module

public import proofs.«01_k».proof.Proof.Gen.MlpBlockIdeal.Frame.Runs

@[expose] public section

set_option maxRecDepth 16384

noncomputable section

namespace Cert.MlpBlockIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option sl_exec.dmaWindow true in set_option sl_exec.dmaWindowSet true in set_option maxHeartbeats 1000000 in
/-- The pieces the body leaves in each output block (last first) at the first grid point, where all four conditions hold, with
    the run that leaves them: from whole blocks, the weights where the launch put them and idle copies, to the blocks as read,
    the output blocks with their pieces, the two weight buffers with theirs, and the copies idle again. -/
noncomputable def kernelRun0_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x6x1024 .f32) (harg3 : arg3.IsWhole) (arg6 : Memref sig .tc .vmem S8x1024 .f32) (harg6 : arg6.IsWhole) (arg7 : Memref sig .tc .vmem S1x4096 .f32) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x4096 .bf16) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S1x4096 .f32) (harg14 : arg14.IsWhole) (arg15 : Memref sig .tc .vmem S1x8x1024 .f32) (harg15 : arg15.IsWhole) (arg16 : Memref sig .tc .vmem S1024x4096 .bf16) (harg16 : arg16.IsWhole) (arg17 : Memref sig .tc .vmem S4096x1024 .bf16) (harg17 : arg17.IsWhole) (hc0 : cond0_0 i) (hc1 : cond0_1 i) (hc2 : cond0_2 i) (hc3 : cond0_3 i)
    (x0 : Vec F S256x1024 .f32) (x1 : Vec F S256x1024 .f32) (x2 : Vec F S1x6x1024 .f32) (x3 : Vec F S8x1024 .f32) (x4 : Vec F S1x4096 .f32) (fh0 : HbBuf0 (F := F) c hbM0_0) (fh1 : HbBuf0 (F := F) c hbM0_1) :
    Σ' (L5 : List (View.Piece (Elt F) S256x1024 .f32)), Σ' (L6 : List (View.Piece (Elt F) S256x1024 .bf16)), Σ' (L7 : List (View.Piece (Elt F) S256x4096 .bf16)), Σ' (L8 : List (View.Piece (Elt F) S256x4096 .bf16)), Σ' (L9 : List (View.Piece (Elt F) S256x1024 .bf16)), Σ' (L10 : List (View.Piece (Elt F) S8x1024 .f32)), Σ' (L11 : List (View.Piece (Elt F) S1x4096 .f32)), Σ' (L12 : List (View.Piece (Elt F) S1x8x1024 .f32)), Σ' (LS0 : List (View.Piece (Elt F) S1024x4096 .bf16)), { LS1 : List (View.Piece (Elt F) S4096x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ (∃ f, arg15.view.loc (c : Thread nD τ) ↦[arg15.view.set]{fullShare} arg15.view.writes (Elt F) f L12) ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1) ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_mlp_fwd_bwd i arg1 harg1 arg2 harg2 arg3 harg3 (Memref.whole main_v3) (Memref.isWhole_whole _) (Memref.whole main_v9) (Memref.isWhole_whole _) arg6 harg6 arg7 harg7 arg8 harg8 arg9 harg9 arg10 harg10 arg11 harg11 arg12 harg12 arg13 harg13 arg14 harg14 arg15 harg15 arg16 harg16 arg17 harg17 cc0_scratch2 cc0_scratch3) K } := by
  refine ⟨?_, ?_, ?_, ?_, ?_, ?_, ?_, ?_, ?_, ?_, fun W K => ?run⟩
  case run =>
    simp only [cc0_mlp_fwd_bwd_eq_skeleton]; unfold cc0_mlp_fwd_bwd_skel
    simp only [k0_part4_eq_skeleton, k0_part1_eq_skeleton, k0_part2_eq_skeleton, k0_part3_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%ds0, %fs0, -, HS0⟩, ⟨%ds1, %fs1, -, HS1⟩, Hq0, Hq1, Hq2, Hq3, Hq4, Hq5, Hq6, Hq7, Hq8, Hh0, Hh1, HW, Hk⟩
    obtain rfl := harg1.eq_unread hf0; obtain rfl := harg2.eq_unread hf1; obtain rfl := harg3.eq_unread hf2; obtain rfl := harg6.eq_unread hf3; obtain rfl := harg7.eq_unread hf4
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]; · iexists _; iexact HS0
    isplitl [HS1]; · iexists _; iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hh0]; · iexact Hh0
    isplitl [Hh1]; · iexact Hh1
    iexists _; iexact HW

end Cert.MlpBlockIdeal.Gen

end
-- ==== Proof.Mlp.RunB.lean ====
/- The body of the MLP kernel at a grid point within a sequence: the weights are there already, and the three accumulators
   are added to. -/
module

public import proofs.«01_k».proof.Proof.Mlp.RunA

@[expose] public section

set_option maxRecDepth 16384

noncomputable section

namespace Cert.MlpBlockIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The pieces the body leaves in each output block (last first) where none of the four conditions holds, with the run that
    leaves them: the weight buffers are read as the point before left them (`xs·`), and the accumulators start from what they
    held (`xo·`). -/
noncomputable def kernelRun0_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x6x1024 .f32) (harg3 : arg3.IsWhole) (arg6 : Memref sig .tc .vmem S8x1024 .f32) (harg6 : arg6.IsWhole) (arg7 : Memref sig .tc .vmem S1x4096 .f32) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x4096 .bf16) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S1x4096 .f32) (harg14 : arg14.IsWhole) (arg15 : Memref sig .tc .vmem S1x8x1024 .f32) (harg15 : arg15.IsWhole) (arg16 : Memref sig .tc .vmem S1024x4096 .bf16) (harg16 : arg16.IsWhole) (arg17 : Memref sig .tc .vmem S4096x1024 .bf16) (harg17 : arg17.IsWhole) (hc0 : ¬cond0_0 i) (hc1 : ¬cond0_1 i) (hc2 : ¬cond0_2 i) (hc3 : ¬cond0_3 i)
    (x0 : Vec F S256x1024 .f32) (x1 : Vec F S256x1024 .f32) (x2 : Vec F S1x6x1024 .f32) (x3 : Vec F S8x1024 .f32) (x4 : Vec F S1x4096 .f32) (xo10 : Vec F S8x1024 .f32) (xo11 : Vec F S1x4096 .f32) (xo12 : Vec F S1x8x1024 .f32) (xs0 : Vec F S1024x4096 .bf16) (xs1 : Vec F S4096x1024 .bf16) (fh0 : HbBuf0 (F := F) c hbM0_0) (fh1 : HbBuf0 (F := F) c hbM0_1) :
    Σ' (L5 : List (View.Piece (Elt F) S256x1024 .f32)), Σ' (L6 : List (View.Piece (Elt F) S256x1024 .bf16)), Σ' (L7 : List (View.Piece (Elt F) S256x4096 .bf16)), Σ' (L8 : List (View.Piece (Elt F) S256x4096 .bf16)), Σ' (L9 : List (View.Piece (Elt F) S256x1024 .bf16)), Σ' (L10 : List (View.Piece (Elt F) S8x1024 .f32)), Σ' (L11 : List (View.Piece (Elt F) S1x4096 .f32)), Σ' (L12 : List (View.Piece (Elt F) S1x8x1024 .f32)), Σ' (LS0 : List (View.Piece (Elt F) S1024x4096 .bf16)), { LS1 : List (View.Piece (Elt F) S4096x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xo10 ∗ owns (c : Thread nD τ) arg14 fullShare xo11 ∗ owns (c : Thread nD τ) arg15 fullShare xo12 ∗ owns (c : Thread nD τ) arg16 fullShare xs0 ∗ owns (c : Thread nD τ) arg17 fullShare xs1 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (arg13.view.loc (c : Thread nD τ) ↦[arg13.view.set]{fullShare} arg13.view.writes (Elt F) (harg13.unread xo10) L10) ∗ (∃ f, arg14.view.loc (c : Thread nD τ) ↦[arg14.view.set]{fullShare} arg14.view.writes (Elt F) f L11) ∗ (arg15.view.loc (c : Thread nD τ) ↦[arg15.view.set]{fullShare} arg15.view.writes (Elt F) (harg15.unread xo12) L12) ∗ owns (c : Thread nD τ) arg16 fullShare xs0 ∗ owns (c : Thread nD τ) arg17 fullShare xs1 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_mlp_fwd_bwd i arg1 harg1 arg2 harg2 arg3 harg3 (Memref.whole main_v3) (Memref.isWhole_whole _) (Memref.whole main_v9) (Memref.isWhole_whole _) arg6 harg6 arg7 harg7 arg8 harg8 arg9 harg9 arg10 harg10 arg11 harg11 arg12 harg12 arg13 harg13 arg14 harg14 arg15 harg15 arg16 harg16 arg17 harg17 cc0_scratch2 cc0_scratch3) K } := by
  refine ⟨?_, ?_, ?_, ?_, ?_, ?_, ?_, ?_, [], [], fun W K => ?run⟩
  case run =>
    simp only [cc0_mlp_fwd_bwd_eq_skeleton]; unfold cc0_mlp_fwd_bwd_skel
    simp only [k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%f10, %hf10, H10⟩, ⟨%f11, %hf11, H11⟩, ⟨%f12, %hf12, H12⟩, ⟨%fs0, %hfs0, HS0⟩, ⟨%fs1, %hfs1, HS1⟩, Hq0, Hq1, Hq2, Hq3, Hq4, Hq5, Hq6, Hq7, Hq8, Hh0, Hh1, HW, Hk⟩
    obtain rfl := harg1.eq_unread hf0; obtain rfl := harg2.eq_unread hf1; obtain rfl := harg3.eq_unread hf2; obtain rfl := harg6.eq_unread hf3; obtain rfl := harg7.eq_unread hf4; obtain rfl := harg13.eq_unread hf10; obtain rfl := harg14.eq_unread hf11; obtain rfl := harg15.eq_unread hf12; obtain rfl := harg16.eq_unread hfs0; obtain rfl := harg17.eq_unread hfs1
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexact H10
    isplitl [H11]; · iexists _; iexact H11
    isplitl [H12]; · iexact H12
    isplitl [HS0]
    · iexists _; isplitr; · ipureintro; exact harg16.read_unread _
      iexact HS0
    isplitl [HS1]
    · iexists _; isplitr; · ipureintro; exact harg17.read_unread _
      iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hh0]; · iexact Hh0
    isplitl [Hh1]; · iexact Hh1
    iexists _; iexact HW

end Cert.MlpBlockIdeal.Gen

end
-- ==== Proof.Mlp.RunC.lean ====
/- The body of the MLP kernel at the first grid point of the second sequence: the weights are there already, the accumulator
   of the modulation is cleared, and the other two are added to. -/
module

public import proofs.«01_k».proof.Proof.Mlp.RunB

@[expose] public section

set_option maxRecDepth 16384

noncomputable section

namespace Cert.MlpBlockIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The pieces the body leaves in each output block (last first) where only the last condition holds, with the run that leaves
    them: as within a sequence, but the accumulator of the modulation may hold anything. -/
noncomputable def kernelRun0_C (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x6x1024 .f32) (harg3 : arg3.IsWhole) (arg6 : Memref sig .tc .vmem S8x1024 .f32) (harg6 : arg6.IsWhole) (arg7 : Memref sig .tc .vmem S1x4096 .f32) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x4096 .bf16) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S1x4096 .f32) (harg14 : arg14.IsWhole) (arg15 : Memref sig .tc .vmem S1x8x1024 .f32) (harg15 : arg15.IsWhole) (arg16 : Memref sig .tc .vmem S1024x4096 .bf16) (harg16 : arg16.IsWhole) (arg17 : Memref sig .tc .vmem S4096x1024 .bf16) (harg17 : arg17.IsWhole) (hc0 : ¬cond0_0 i) (hc1 : ¬cond0_1 i) (hc2 : ¬cond0_2 i) (hc3 : cond0_3 i)
    (x0 : Vec F S256x1024 .f32) (x1 : Vec F S256x1024 .f32) (x2 : Vec F S1x6x1024 .f32) (x3 : Vec F S8x1024 .f32) (x4 : Vec F S1x4096 .f32) (xo10 : Vec F S8x1024 .f32) (xo11 : Vec F S1x4096 .f32) (xs0 : Vec F S1024x4096 .bf16) (xs1 : Vec F S4096x1024 .bf16) (fh0 : HbBuf0 (F := F) c hbM0_0) (fh1 : HbBuf0 (F := F) c hbM0_1) :
    Σ' (L5 : List (View.Piece (Elt F) S256x1024 .f32)), Σ' (L6 : List (View.Piece (Elt F) S256x1024 .bf16)), Σ' (L7 : List (View.Piece (Elt F) S256x4096 .bf16)), Σ' (L8 : List (View.Piece (Elt F) S256x4096 .bf16)), Σ' (L9 : List (View.Piece (Elt F) S256x1024 .bf16)), Σ' (L10 : List (View.Piece (Elt F) S8x1024 .f32)), Σ' (L11 : List (View.Piece (Elt F) S1x4096 .f32)), Σ' (L12 : List (View.Piece (Elt F) S1x8x1024 .f32)), Σ' (LS0 : List (View.Piece (Elt F) S1024x4096 .bf16)), { LS1 : List (View.Piece (Elt F) S4096x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xo10 ∗ owns (c : Thread nD τ) arg14 fullShare xo11 ∗ (∃ d, owns (c : Thread nD τ) arg15 fullShare d) ∗ owns (c : Thread nD τ) arg16 fullShare xs0 ∗ owns (c : Thread nD τ) arg17 fullShare xs1 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (arg13.view.loc (c : Thread nD τ) ↦[arg13.view.set]{fullShare} arg13.view.writes (Elt F) (harg13.unread xo10) L10) ∗ (∃ f, arg14.view.loc (c : Thread nD τ) ↦[arg14.view.set]{fullShare} arg14.view.writes (Elt F) f L11) ∗ (∃ f, arg15.view.loc (c : Thread nD τ) ↦[arg15.view.set]{fullShare} arg15.view.writes (Elt F) f L12) ∗ owns (c : Thread nD τ) arg16 fullShare xs0 ∗ owns (c : Thread nD τ) arg17 fullShare xs1 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_mlp_fwd_bwd i arg1 harg1 arg2 harg2 arg3 harg3 (Memref.whole main_v3) (Memref.isWhole_whole _) (Memref.whole main_v9) (Memref.isWhole_whole _) arg6 harg6 arg7 harg7 arg8 harg8 arg9 harg9 arg10 harg10 arg11 harg11 arg12 harg12 arg13 harg13 arg14 harg14 arg15 harg15 arg16 harg16 arg17 harg17 cc0_scratch2 cc0_scratch3) K } := by
  refine ⟨?_, ?_, ?_, ?_, ?_, ?_, ?_, ?_, [], [], fun W K => ?run⟩
  case run =>
    simp only [cc0_mlp_fwd_bwd_eq_skeleton]; unfold cc0_mlp_fwd_bwd_skel
    simp only [k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%f10, %hf10, H10⟩, ⟨%f11, %hf11, H11⟩, ⟨%d12, %f12, -, H12⟩, ⟨%fs0, %hfs0, HS0⟩, ⟨%fs1, %hfs1, HS1⟩, Hq0, Hq1, Hq2, Hq3, Hq4, Hq5, Hq6, Hq7, Hq8, Hh0, Hh1, HW, Hk⟩
    obtain rfl := harg1.eq_unread hf0; obtain rfl := harg2.eq_unread hf1; obtain rfl := harg3.eq_unread hf2; obtain rfl := harg6.eq_unread hf3; obtain rfl := harg7.eq_unread hf4; obtain rfl := harg13.eq_unread hf10; obtain rfl := harg14.eq_unread hf11; obtain rfl := harg16.eq_unread hfs0; obtain rfl := harg17.eq_unread hfs1
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexact H10
    isplitl [H11]; · iexists _; iexact H11
    isplitl [H12]; · iexists _; iexact H12
    isplitl [HS0]
    · iexists _; isplitr; · ipureintro; exact harg16.read_unread _
      iexact HS0
    isplitl [HS1]
    · iexists _; isplitr; · ipureintro; exact harg17.read_unread _
      iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hh0]; · iexact Hh0
    isplitl [Hh1]; · iexact Hh1
    iexists _; iexact HW

end Cert.MlpBlockIdeal.Gen

end
-- ==== Proof.Mlp.Place.lean ====
/- The rows of the two sequences under each other: a row's sequence and its place there, an array by sequences laid out as one of
    rows, and indices by their coordinates. -/
module

public import Idealize.ShloMosaic.Lib.ValueIdx
public import Idealize.ShloMosaic.Lib.Pipeline.ValueKit.Geometry

@[expose] public section

set_option maxRecDepth 16384

noncomputable section

namespace Cert.Mlp

open Idealize.ShloMosaic Idealize.ShloMosaic.ValueIdx
open scoped BigOperators

/-- A row's sequence, and its place there. -/
def seq (R : Fin 8192) : Fin 2 := ⟨R.val / 4096, by omega⟩
def pos (R : Fin 8192) : Fin 4096 := ⟨R.val % 4096, by omega⟩
/-- The row at a place of a sequence. -/
def rowAt (s : Fin 2) (p : Fin 4096) : Fin 8192 := ⟨s.val * 4096 + p.val, by omega⟩

theorem seq_rowAt (s : Fin 2) (p : Fin 4096) : seq (rowAt s p) = s := Fin.ext (by show (s.val * 4096 + p.val) / 4096 = s.val; omega)
theorem pos_rowAt (s : Fin 2) (p : Fin 4096) : pos (rowAt s p) = p := Fin.ext (by show (s.val * 4096 + p.val) % 4096 = p.val; omega)
theorem rowAt_seq (R : Fin 8192) : rowAt (seq R) (pos R) = R := Fin.ext (by show R.val / 4096 * 4096 + R.val % 4096 = R.val; omega)

/-- An array of rows by sequences, laid out as one. -/
theorem rows_apply {n : ℕ} (v : FVec Ideal ⟨3, ![2, 4096, n]⟩ .f32) (h : Shape.ShapeCasts ⟨3, ![2, 4096, n]⟩ ⟨2, ![8192, n]⟩) (R : Fin 8192)
    (k : Fin n) : shapeCast ⟨2, ![8192, n]⟩ v h (ix2 R k) = v (ix3 (seq R) (pos R) k) :=
  shapeCast_apply v _ _ _ (by
    rw [Shape.rowMajor_val_three, Shape.rowMajor_val_two]
    show (R.val / 4096 * 4096 + R.val % 4096) * n + k.val = R.val * n + k.val
    rw [show R.val / 4096 * 4096 + R.val % 4096 = R.val by omega])

theorem pair {a b : ℕ} {f : Shape.Idx ⟨2, ![a, b]⟩} (i : Fin a) (j : Fin b) (h0 : f 0 = i) (h1 : f 1 = j) : f = ix2 i j := by
  funext d
  match d with
  | ⟨0, _⟩ => exact h0
  | ⟨1, _⟩ => exact h1

/-- Arrays equal at every entry. -/
theorem ext_rows {a b : ℕ} {f g : Shape.Idx ⟨2, ![a, b]⟩ → EReal} (h : ∀ i j, f (ix2 i j) = g (ix2 i j)) : f = g :=
  funext fun x => by rw [show x = ix2 (x 0) (x 1) from pair _ _ rfl rfl]; exact h _ _

theorem single {a : ℕ} {f : Shape.Idx ⟨1, ![a]⟩} (i : Fin a) (h0 : f 0 = i) : f = ix1 i := by
  funext d
  match d with
  | ⟨0, _⟩ => exact h0

theorem triple {a b c : ℕ} {f : Shape.Idx ⟨3, ![a, b, c]⟩} (i : Fin a) (j : Fin b) (k : Fin c) (h0 : f 0 = i) (h1 : f 1 = j) (h2 : f 2 = k) :
    f = ix3 i j k := by
  funext d
  match d with
  | ⟨0, _⟩ => exact h0
  | ⟨1, _⟩ => exact h1
  | ⟨2, _⟩ => exact h2

theorem zero2 : (![0, 0] : Fin 2 → ℕ) = fun _ => 0 := by
  funext a
  match a with
  | ⟨0, _⟩ => rfl
  | ⟨1, _⟩ => rfl

theorem zero3 : (![0, 0, 0] : Fin 3 → ℕ) = fun _ => 0 := by
  funext a
  match a with
  | ⟨0, _⟩ => rfl
  | ⟨1, _⟩ => rfl
  | ⟨2, _⟩ => rfl

theorem sum_from {n : ℕ} {z : EReal} (hz : z = 0) {f g : Fin n → EReal} (h : ∀ k, f k = g k) : z + ∑ k, f k = ∑ k, g k := by
  rw [hz, zero_add]
  exact Finset.sum_congr rfl fun k _ => h k

/-- A sum of one. -/
theorem sum_one {z a : EReal} (hz : z = 0) {f : Fin 1 → EReal} (h : f 0 = a) : z + ∑ k, f k = a := by
  rw [hz, zero_add, Fin.sum_univ_one]
  exact h

end Cert.Mlp

end
-- ==== Proof.Mlp.Step.lean ====
/- What one grid point of the MLP kernel computes from its blocks, and the pieces that a run of its body writes, read back
    as those values. -/
module

public import proofs.«01_k».proof.Proof.Mlp.RunC
public import proofs.«01_k».proof.Proof.Mlp.Place
public import Idealize.ShloMosaic.Lib.Pipeline.Value
public import Idealize.ShloMosaic.Lib.Pipeline.ReadBack
public import Idealize.ShloMosaic.Lib.ValueIdx
public import Idealize.ShloMosaic.Lib.WritesUnit
public import Idealize.ShloMosaic.Lib.VecWindow

@[expose] public section

set_option maxRecDepth 16384

noncomputable section

namespace Cert.Mlp

open Idealize.ShloMosaic Idealize.ShloMosaic.TcCoe Idealize.ShloMosaic.Tactic Idealize.ShloMosaic.ValueIdx
open Cert.MlpBlockIdeal Cert.MlpBlockIdeal.Gen

variable {F : FTy → Type} [FloatOps F]

/-- A grid point's blocks of the staged operands, and the two weight matrices as the scratch holds them. -/
structure In (F : FTy → Type) [FloatOps F] where
  x : Vec F S256x1024 .f32
  target : Vec F S256x1024 .f32
  mod : Vec F S1x6x1024 .f32
  vec : Vec F S8x1024 .f32
  b1 : Vec F S1x4096 .f32
  w1 : Vec F S1024x4096 .bf16
  w2 : Vec F S4096x1024 .bf16

namespace In

variable (I : In F)

def bias : Vec F S1x1024 .f32 := View.ld I.vec (Rect.unit ![0, 0] ![1, 1024] inb_S8x1024_S1x1024_0_0)
def gain : Vec F S1x1024 .f32 := View.ld I.vec (Rect.unit ![1, 0] ![1, 1024] inb_S8x1024_S1x1024_1_0)
def shift : Vec F S1x1024 .f32 := View.ld I.vec (Rect.unit ![2, 0] ![1, 1024] inb_S8x1024_S1x1024_2_0)
/-- The modulated rows. -/
def u : FVec F S256x1024 .f32 := k0_pay10 I.mod I.x
def relu : FVec F S256x4096 .f32 := k0_pay12 I.u I.w1 I.b1
def o : FVec F S256x1024 .f32 := k0_pay14 I.u I.w1 I.b1 I.w2 I.bias
/-- The residual rows less their means. -/
def centred : FVec F S256x1024 .f32 := k0_pay17 (k0_pay8 I.mod) (k0_pay9 I.x) I.u I.w1 I.b1 I.w2 I.bias
def err : FVec F S256x1024 .f32 := k0_pay20 (k0_pay15 I.gain) (k0_pay16 I.shift) I.centred I.target
def dy : FVec F S256x1024 .f32 := k0_pay21 (k0_pay15 I.gain) (k0_pay16 I.shift) I.centred I.target
/-- The gradient of the residual rows. -/
def dr : FVec F S256x1024 .f32 := k0_pay22 (k0_pay15 I.gain) (k0_pay16 I.shift) I.centred I.target I.gain
def dout : FVec F S256x1024 .f32 := k0_pay23 (k0_pay8 I.mod) (k0_pay15 I.gain) (k0_pay16 I.shift) I.centred I.target I.gain
def doutB : FVec F S256x1024 .bf16 := k0_pay24 (k0_pay8 I.mod) (k0_pay15 I.gain) (k0_pay16 I.shift) I.centred I.target I.gain
def dhp : FVec F S256x4096 .f32 := k0_pay29 I.relu I.doutB I.w2
def dx : FVec F S256x1024 .f32 := k0_pay33 (k0_pay7 I.mod) I.dr I.dhp I.w1
def uB : FVec F S256x1024 .bf16 := k0_pay11 I.u
def hB : FVec F S256x4096 .bf16 := k0_pay13 I.u I.w1 I.b1
def dhpB : FVec F S256x4096 .bf16 := k0_pay30 I.dhp

/-- The four sums over the rows, added to what the first four rows of the accumulator held. -/
def gacc (G : Vec F S8x1024 .f32) : Vec F S8x1024 .f32 := fun y =>
  if (y 0).val = 0 then
    k0_pay25 (k0_pay19 I.centred) I.dy (View.ld G (Rect.unit ![0, 0] ![1, 1024] inb_S8x1024_S1x1024_0_0)) (ix2 (0 : Fin 1) (y 1))
  else if (y 0).val = 1 then
    k0_pay26 I.dy (View.ld G (Rect.unit ![1, 0] ![1, 1024] inb_S8x1024_S1x1024_1_0)) (ix2 (0 : Fin 1) (y 1))
  else if (y 0).val = 2 then
    k0_pay27 I.dout (View.ld G (Rect.unit ![2, 0] ![1, 1024] inb_S8x1024_S1x1024_2_0)) (ix2 (0 : Fin 1) (y 1))
  else if (y 0).val = 3 then
    k0_pay28 I.err (View.ld G (Rect.unit ![3, 0] ![1, 1024] inb_S8x1024_S1x1024_3_0)) (ix2 (0 : Fin 1) (y 1))
  else G y

def db1 (B : Vec F S1x4096 .f32) : Vec F S1x4096 .f32 := k0_pay31 I.dhp B

/-- The three sums over the rows of a sequence, added to what the first three rows of the accumulator held. -/
def bacc (B : Vec F S1x8x1024 .f32) : Vec F S1x8x1024 .f32 := fun y =>
  if (y 1).val = 0 then
    k0_pay34 I.dhp I.w1 (View.ld B (Rect.unit ![0, 0, 0] ![1, 1, 1024] inb_S1x8x1024_S1x1x1024_0_0_0)) (ix3 (0 : Fin 1) (0 : Fin 1) (y 2))
  else if (y 1).val = 1 then
    k0_pay1 (k0_pay35 (View.ld B (Rect.unit ![0, 1, 0] ![1, 1, 1024] inb_S1x8x1024_S1x1x1024_0_1_0))) (k0_pay36 (k0_pay9 I.x) I.dhp I.w1)
      (ix3 (0 : Fin 1) (0 : Fin 1) (y 2))
  else if (y 1).val = 2 then
    k0_pay2 I.o I.dr (View.ld B (Rect.unit ![0, 2, 0] ![1, 1, 1024] inb_S1x8x1024_S1x1x1024_0_2_0)) (ix3 (0 : Fin 1) (0 : Fin 1) (y 2))
  else B y

end In

/-! ## Loads of whole buffers -/

theorem ld_rows (x : Vec F S256x1024 .f32) : View.ld x (Rect.unit ![0, 0] ![256, 1024] inb_S256x1024_S256x1024_0_0) = x :=
  View.ld_unit_zero (S := S256x1024) zero2 _ _
theorem ld_w1 (x : Vec F S1024x4096 .bf16) : View.ld x (Rect.unit ![0, 0] ![1024, 4096] inb_S1024x4096_S1024x4096_0_0) = x :=
  View.ld_unit_zero (S := S1024x4096) zero2 _ _
theorem ld_w2 (x : Vec F S4096x1024 .bf16) : View.ld x (Rect.unit ![0, 0] ![4096, 1024] inb_S4096x1024_S4096x1024_0_0) = x :=
  View.ld_unit_zero (S := S4096x1024) zero2 _ _
theorem ld_b1 (x : Vec F S1x4096 .f32) : View.ld x (Rect.unit ![0, 0] ![1, 4096] inb_S1x4096_S1x4096_0_0) = x :=
  View.ld_unit_zero (S := S1x4096) zero2 _ _
theorem ld_mod (x : Vec F S1x6x1024 .f32) : View.ld x (Rect.unit ![0, 0, 0] ![1, 6, 1024] inb_S1x6x1024_S1x6x1024_0_0_0) = x :=
  View.ld_unit_zero (S := S1x6x1024) zero3 _ _

/-! ## Pieces read back -/

section Pieces

variable {κ : Kind} {sp : Space}

/-- Four rows written over a buffer of eight. -/
theorem read_rows (v : View sig κ sp S8x1024 .f32) (f : v.ty.Contents (Elt F)) (I : In F) (G : Vec F S8x1024 .f32)
    (L : List (View.Piece (Elt F) S8x1024 .f32)) (hf : v.read (Elt F) (v.writes (Elt F) f L) = G) :
    v.read (Elt F) (v.writes (Elt F) f (
      ⟨Rect.unit ![3, 0] ![1, 1024] inb_S8x1024_S1x1024_3_0, k0_pay28 I.err (View.ld G (Rect.unit ![3, 0] ![1, 1024] inb_S8x1024_S1x1024_3_0))⟩ ::
      ⟨Rect.unit ![2, 0] ![1, 1024] inb_S8x1024_S1x1024_2_0, k0_pay27 I.dout (View.ld G (Rect.unit ![2, 0] ![1, 1024] inb_S8x1024_S1x1024_2_0))⟩ ::
      ⟨Rect.unit ![1, 0] ![1, 1024] inb_S8x1024_S1x1024_1_0, k0_pay26 I.dy (View.ld G (Rect.unit ![1, 0] ![1, 1024] inb_S8x1024_S1x1024_1_0))⟩ ::
      ⟨Rect.unit ![0, 0] ![1, 1024] inb_S8x1024_S1x1024_0_0,
        k0_pay25 (k0_pay19 I.centred) I.dy (View.ld G (Rect.unit ![0, 0] ![1, 1024] inb_S8x1024_S1x1024_0_0))⟩ :: L)) = I.gacc G := by
  funext y
  unfold In.gacc
  by_cases e3 : (y 0).val = 3
  · rw [if_neg (by omega), if_neg (by omega), if_neg (by omega), if_pos e3]
    exact View.read_writes_cons_rows_of_mem (d := S8x1024.size) v f _ _ _ y (ix2 (0 : Fin 1) (y 1)) rfl (by rw [e3]; rfl) rfl
  rw [View.read_writes_cons_rows_of_not_mem (d := S8x1024.size) (W := 1) v f _ _ _ y rfl rfl (by omega)]
  by_cases e2 : (y 0).val = 2
  · rw [if_neg (by omega), if_neg (by omega), if_pos e2]
    exact View.read_writes_cons_rows_of_mem (d := S8x1024.size) v f _ _ _ y (ix2 (0 : Fin 1) (y 1)) rfl (by rw [e2]; rfl) rfl
  rw [View.read_writes_cons_rows_of_not_mem (d := S8x1024.size) (W := 1) v f _ _ _ y rfl rfl (by omega)]
  by_cases e1 : (y 0).val = 1
  · rw [if_neg (by omega), if_pos e1]
    exact View.read_writes_cons_rows_of_mem (d := S8x1024.size) v f _ _ _ y (ix2 (0 : Fin 1) (y 1)) rfl (by rw [e1]; rfl) rfl
  rw [View.read_writes_cons_rows_of_not_mem (d := S8x1024.size) (W := 1) v f _ _ _ y rfl rfl (by omega)]
  by_cases e0 : (y 0).val = 0
  · rw [if_pos e0]
    exact View.read_writes_cons_rows_of_mem (d := S8x1024.size) v f _ _ _ y (ix2 (0 : Fin 1) (y 1)) rfl (by rw [e0]; rfl) rfl
  rw [View.read_writes_cons_rows_of_not_mem (d := S8x1024.size) (W := 1) v f _ _ _ y rfl rfl (by omega), hf, if_neg e0, if_neg e1,
    if_neg e2, if_neg e3]

/-- One row of a sequence's accumulator, hit and missed. -/
theorem read_row3_hit (v : View sig κ sp S1x8x1024 .f32) (f : v.ty.Contents (Elt F)) (k : Nat)
    (inb : ∀ a, (![0, k, 0] : Fin 3 → Nat) a + (![1, 1, 1024] : Fin 3 → Nat) a ≤ S1x8x1024.size a)
    (w : Vec F S1x1x1024 .f32) (L : List (View.Piece (Elt F) S1x8x1024 .f32)) (y : S1x8x1024.Idx) (h : (y 1).val = k) :
    v.read (Elt F) (v.writes (Elt F) f (⟨Rect.unit ![0, k, 0] ![1, 1, 1024] inb, w⟩ :: L)) y = w (ix3 (0 : Fin 1) (0 : Fin 1) (y 2)) :=
  View.read_writes_cons_unit_of_mem v f inb w L y (ix3 (0 : Fin 1) (0 : Fin 1) (y 2)) rfl fun a => by
    match a with
    | ⟨0, _⟩ => have : (y 0).val < 1 := (y 0).isLt; show (y 0).val = 0 + 0; omega
    | ⟨1, _⟩ => show (y 1).val = k + 0; omega
    | ⟨2, _⟩ => exact (Nat.zero_add _).symm

theorem read_row3_miss (v : View sig κ sp S1x8x1024 .f32) (f : v.ty.Contents (Elt F)) (k : Nat)
    (inb : ∀ a, (![0, k, 0] : Fin 3 → Nat) a + (![1, 1, 1024] : Fin 3 → Nat) a ≤ S1x8x1024.size a)
    (w : Vec F S1x1x1024 .f32) (L : List (View.Piece (Elt F) S1x8x1024 .f32)) (y : S1x8x1024.Idx) (h : (y 1).val ≠ k) :
    v.read (Elt F) (v.writes (Elt F) f (⟨Rect.unit ![0, k, 0] ![1, 1, 1024] inb, w⟩ :: L)) y = v.read (Elt F) (v.writes (Elt F) f L) y :=
  View.read_writes_cons_unit_of_not_mem v f inb w L y rfl (1 : Fin 3) (by
    show (y 1).val < k ∨ k + 1 ≤ (y 1).val; omega)

/-- Three rows written over a sequence's accumulator. -/
theorem read_rows3 (v : View sig κ sp S1x8x1024 .f32) (f : v.ty.Contents (Elt F)) (I : In F) (B : Vec F S1x8x1024 .f32)
    (L : List (View.Piece (Elt F) S1x8x1024 .f32)) (hf : v.read (Elt F) (v.writes (Elt F) f L) = B) :
    v.read (Elt F) (v.writes (Elt F) f (
      ⟨Rect.unit ![0, 2, 0] ![1, 1, 1024] inb_S1x8x1024_S1x1x1024_0_2_0,
        k0_pay2 I.o I.dr (View.ld B (Rect.unit ![0, 2, 0] ![1, 1, 1024] inb_S1x8x1024_S1x1x1024_0_2_0))⟩ ::
      ⟨Rect.unit ![0, 1, 0] ![1, 1, 1024] inb_S1x8x1024_S1x1x1024_0_1_0,
        k0_pay1 (k0_pay35 (View.ld B (Rect.unit ![0, 1, 0] ![1, 1, 1024] inb_S1x8x1024_S1x1x1024_0_1_0))) (k0_pay36 (k0_pay9 I.x) I.dhp I.w1)⟩ ::
      ⟨Rect.unit ![0, 0, 0] ![1, 1, 1024] inb_S1x8x1024_S1x1x1024_0_0_0,
        k0_pay34 I.dhp I.w1 (View.ld B (Rect.unit ![0, 0, 0] ![1, 1, 1024] inb_S1x8x1024_S1x1x1024_0_0_0))⟩ :: L)) = I.bacc B := by
  funext y
  unfold In.bacc
  by_cases e2 : (y 1).val = 2
  · rw [if_neg (by omega), if_neg (by omega), if_pos e2]
    exact read_row3_hit v f 2 _ _ _ y e2
  rw [read_row3_miss v f 2 _ _ _ y e2]
  by_cases e1 : (y 1).val = 1
  · rw [if_neg (by omega), if_pos e1]
    exact read_row3_hit v f 1 _ _ _ y e1
  rw [read_row3_miss v f 1 _ _ _ y e1]
  by_cases e0 : (y 1).val = 0
  · rw [if_pos e0]
    exact read_row3_hit v f 0 _ _ _ y e0
  rw [read_row3_miss v f 0 _ _ _ y e0, hf, if_neg e0, if_neg e1, if_neg e2]

end Pieces

end Cert.Mlp

end
-- ==== Proof.Mlp.Weights.lean ====
/- The two weight matrices in the scratch: the first arrives as eight blocks of columns. -/
module

public import proofs.«01_k».proof.Proof.Mlp.Step
public import Idealize.ShloMosaic.Lib.ValueLayout

@[expose] public section

set_option maxRecDepth 16384

noncomputable section

namespace Cert.Mlp

open Idealize.ShloMosaic Idealize.ShloMosaic.TcCoe Idealize.ShloMosaic.Tactic Idealize.ShloMosaic.ValueIdx
open Cert.MlpBlockIdeal Cert.MlpBlockIdeal.Gen

variable {F : FTy → Type} [FloatOps F]

/-- Eight blocks of 512 columns, side by side. -/
def columns (f : Vec F S8x1024x512 .bf16) : Vec F S1024x4096 .bf16 := fun y =>
  f (ix3 (⟨(y 1).val / 512, by have : (y 1).val < 4096 := (y 1).isLt; omega⟩ : Fin 8) (y 0)
    (⟨(y 1).val % 512, Nat.mod_lt _ (by norm_num)⟩ : Fin 512))

/-- A block copied into its columns. -/
theorem column_piece (c : Dev nD) (fh : HbBuf0 (F := F) c hbM0_0) (k o : Nat) (hk : k < 8) (ho : o = 512 * k)
    (inb : ∀ a, (![k, 0, 0] : Fin 3 → Nat) a + (![1, 1024, 512] : Fin 3 → Nat) a ≤ S8x1024x512.size a)
    (inb' : ∀ a, (![0, o] : Fin 2 → Nat) a + (![1024, 512] : Fin 2 → Nat) a ≤ S1024x4096.size a)
    (hn : S1024x512.numel = (Rect.unit (s := S8x1024x512) ![k, 0, 0] ![1, 1024, 512] inb).shape.numel) (x : S1024x512.Idx) :
    (ReadAs.same (Val := Elt F)).apply
        (View.read (Elt F) (((View.whole main_v3).slice (Rect.unit (s := S8x1024x512) ![k, 0, 0] ![1, 1024, 512] inb)).reshape S1024x512 hn) fh) x
      = columns fh ((Rect.unit (s := S1024x4096) ![0, o] ![1024, 512] inb').emb x) := by
  subst ho
  obtain ⟨r, j, rfl⟩ : ∃ (r : Fin 1024) (j : Fin 512), x = ix2 r j := ⟨x 0, x 1, funext fun a => by
    match a with
    | ⟨0, _⟩ => rfl
    | ⟨1, _⟩ => rfl⟩
  show fh ((Rect.unit (s := S8x1024x512) ![k, 0, 0] ![1, 1024, 512] inb).emb (Shape.reshapeEquiv hn (ix2 r j))) = _
  rw [show Shape.reshapeEquiv hn (ix2 r j) = ix3 (⟨0, Nat.one_pos⟩ : Fin 1) r j from reshapeEquiv_ix2_1ab hn r j]
  refine congrArg fh (funext fun a => Fin.ext ?_)
  have hj : j.val < 512 := j.isLt
  match a with
  | ⟨0, _⟩ => show k + 1 * 0 = (512 * k + 1 * j.val) / 512; omega
  | ⟨1, _⟩ => show 0 + 1 * r.val = 0 + 1 * r.val; rfl
  | ⟨2, _⟩ => show 0 + 1 * j.val = (512 * k + 1 * j.val) % 512; omega

/-- The piece that a block's copy writes. -/
abbrev columnPiece (c : Dev nD) (fh : HbBuf0 (F := F) c hbM0_0) (k o : Nat)
    (inb : ∀ a, (![k, 0, 0] : Fin 3 → Nat) a + (![1, 1024, 512] : Fin 3 → Nat) a ≤ S8x1024x512.size a)
    (inb' : ∀ a, (![0, o] : Fin 2 → Nat) a + (![1024, 512] : Fin 2 → Nat) a ≤ S1024x4096.size a)
    (hn : S1024x512.numel = (Rect.unit (s := S8x1024x512) ![k, 0, 0] ![1, 1024, 512] inb).shape.numel) :
    View.Piece (Elt F) S1024x4096 .bf16 :=
  ⟨Rect.unit (s := S1024x4096) ![0, o] ![1024, 512] inb', (ReadAs.same (Val := Elt F)).apply
    (View.read (Elt F) (((View.whole main_v3).slice (Rect.unit (s := S8x1024x512) ![k, 0, 0] ![1, 1024, 512] inb)).reshape S1024x512 hn) fh)⟩

theorem columnPiece_block (c : Dev nD) (fh : HbBuf0 (F := F) c hbM0_0) (k o : Nat) (hk : k < 8) (ho : o = 512 * k) (inb inb' hn) (x) :
    (columnPiece c fh k o inb inb' hn).2 x = columns fh ((columnPiece c fh k o inb inb' hn).1.emb x) := by
  have h := column_piece c fh k o hk ho inb inb' hn x
  exact h

/-- The eight of them are blocks of the matrix. -/
theorem column_pieces (c : Dev nD) (fh : HbBuf0 (F := F) c hbM0_0) : View.PiecesOf (columns fh) [
    columnPiece c fh 7 3584 (by decide) (by decide) (by decide), columnPiece c fh 6 3072 (by decide) (by decide) (by decide),
    columnPiece c fh 5 2560 (by decide) (by decide) (by decide), columnPiece c fh 4 2048 (by decide) (by decide) (by decide),
    columnPiece c fh 3 1536 (by decide) (by decide) (by decide), columnPiece c fh 2 1024 (by decide) (by decide) (by decide),
    columnPiece c fh 1 512 (by decide) (by decide) (by decide), columnPiece c fh 0 0 (by decide) (by decide) (by decide)] :=
  ⟨columnPiece_block c fh 7 3584 (by norm_num) (by norm_num) _ _ _, columnPiece_block c fh 6 3072 (by norm_num) (by norm_num) _ _ _,
    columnPiece_block c fh 5 2560 (by norm_num) (by norm_num) _ _ _, columnPiece_block c fh 4 2048 (by norm_num) (by norm_num) _ _ _,
    columnPiece_block c fh 3 1536 (by norm_num) (by norm_num) _ _ _, columnPiece_block c fh 2 1024 (by norm_num) (by norm_num) _ _ _,
    columnPiece_block c fh 1 512 (by norm_num) (by norm_num) _ _ _, columnPiece_block c fh 0 0 (by norm_num) (by norm_num) _ _ _, trivial⟩

section

variable {κ : Kind} {sp : Space}

/-- Pieces that are blocks of `X` and together cover the buffer leave `X`, -/
theorem read_of_pieces {s : Shape} {e : EltTy} (v : View sig κ sp s e) (f : v.ty.Contents (Elt F)) (X : s.Idx → Elt F e)
    (L : List (View.Piece (Elt F) s e)) (size : Fin s.rank → ℕ) (h : View.PiecesOf X L) (ht : View.Piece.tiledL L size = true) :
    v.read (Elt F) (v.writes (Elt F) f L) = X :=
  funext fun y => View.read_writes_apply_of_pieces v f X L h.mem y (View.cover_of_tiledL L size ht y)

/-- which a load of the whole buffer then reads. -/
theorem readCov_columns (v : View sig κ sp S1024x4096 .bf16) (X : Vec F S1024x4096 .bf16) (L : List (View.Piece (Elt F) S1024x4096 .bf16))
    (h : View.PiecesOf X L) (ht : View.Piece.tiledL L ![1024, 512] = true) :
    v.readCov L (Rect.unit ![0, 0] ![1024, 4096] inb_S1024x4096_S1024x4096_0_0).toLoadRect = X :=
  (View.readCov_eq_canon_ld v L _ (View.cover_of_tiledL L _ ht)).trans
    ((congrArg (View.ld · _) (funext fun y => View.canon_apply_of_pieces X L h.mem y (View.cover_of_tiledL L _ ht y))).trans (ld_w1 X))

/-- A buffer stored whole by a copy, -/
theorem read_rows_whole (v : View sig κ sp S4096x1024 .bf16) (f : v.ty.Contents (Elt F)) (X : Vec F S4096x1024 .bf16) :
    v.read (Elt F) (v.writes (Elt F) f [⟨Rect.whole S4096x1024, X⟩]) = X :=
  funext fun y => View.read_writes_apply_of_pieces v f X [⟨Rect.whole S4096x1024, X⟩]
    (View.PiecesOf.mem (L := [⟨Rect.whole S4096x1024, X⟩]) ⟨fun x => congrArg X (Rect.emb_whole_apply _ x).symm, trivial⟩) y
    ⟨_, List.mem_singleton_self _, by
      rw [← Rect.map_emb_univ]
      exact Finset.mem_map.mpr ⟨y, Finset.mem_univ _, Rect.emb_whole_apply S4096x1024 y⟩⟩

theorem readCov_whole (v : View sig κ sp S4096x1024 .bf16) (X : Vec F S4096x1024 .bf16) :
    v.readCov [⟨Rect.whole S4096x1024, X⟩] (Rect.unit ![0, 0] ![4096, 1024] inb_S4096x1024_S4096x1024_0_0).toLoadRect = X :=
  (View.readAt_eq_ld v _ _).trans ((congrArg (View.ld · _) (read_rows_whole v v.junk X)).trans (ld_w2 X))

end

end Cert.Mlp

end
-- ==== Proof.Mlp.Reads.lean ====
/- The pieces each case of the body's run writes, read back as the functions of the point's blocks. -/
module

public import proofs.«01_k».proof.Proof.Mlp.Weights

@[expose] public section

set_option maxRecDepth 16384

noncomputable section

namespace Cert.Mlp

open Idealize.ShloMosaic Idealize.ShloMosaic.TcCoe Idealize.ShloMosaic.Tactic Idealize.ShloMosaic.ValueIdx
open Cert.MlpBlockIdeal Cert.MlpBlockIdeal.Gen

variable {F : FTy → Type} [FloatOps F]

/-- The pieces leave `X` in the buffer, whatever it held. -/
abbrev Leaves {κ : Kind} {sp : Space} {s : Shape} {e : EltTy} (v : View sig κ sp s e) (L : List (View.Piece (Elt F) s e))
    (X : s.Idx → Elt F e) : Prop := ∀ f, v.read (Elt F) (v.writes (Elt F) f L) = X

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x6x1024 .f32) (harg3 : arg3.IsWhole) (arg6 : Memref sig .tc .vmem S8x1024 .f32) (harg6 : arg6.IsWhole) (arg7 : Memref sig .tc .vmem S1x4096 .f32) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x4096 .bf16) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S1x4096 .f32) (harg14 : arg14.IsWhole) (arg15 : Memref sig .tc .vmem S1x8x1024 .f32) (harg15 : arg15.IsWhole) (arg16 : Memref sig .tc .vmem S1024x4096 .bf16) (harg16 : arg16.IsWhole) (arg17 : Memref sig .tc .vmem S4096x1024 .bf16) (harg17 : arg17.IsWhole)
  (x0 : Vec F S256x1024 .f32) (x1 : Vec F S256x1024 .f32) (x2 : Vec F S1x6x1024 .f32) (x3 : Vec F S8x1024 .f32)
  (x4 : Vec F S1x4096 .f32)
  (xo10 : Vec F S8x1024 .f32) (xo11 : Vec F S1x4096 .f32) (xo12 : Vec F S1x8x1024 .f32) (xs0 : Vec F S1024x4096 .bf16)
  (xs1 : Vec F S4096x1024 .bf16) (fh0 : HbBuf0 (F := F) c hbM0_0) (fh1 : HbBuf0 (F := F) c hbM0_1)

theorem reads_A (hc0 : cond0_0 i) (hc1 : cond0_1 i) (hc2 : cond0_2 i) (hc3 : cond0_3 i) :
    ∀ R, R = kernelRun0_A c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 fh0 fh1 →
      Leaves arg8.view R.1 ((⟨x0, x1, x2, x3, x4, columns fh0, fh1⟩ : In F)).dx ∧ Leaves arg9.view R.2.1 ((⟨x0, x1, x2, x3, x4, columns fh0, fh1⟩ : In F)).uB ∧ Leaves arg10.view R.2.2.1 ((⟨x0, x1, x2, x3, x4, columns fh0, fh1⟩ : In F)).hB
      ∧ Leaves arg11.view R.2.2.2.1 ((⟨x0, x1, x2, x3, x4, columns fh0, fh1⟩ : In F)).dhpB ∧ Leaves arg12.view R.2.2.2.2.1 ((⟨x0, x1, x2, x3, x4, columns fh0, fh1⟩ : In F)).doutB
      ∧ Leaves arg13.view R.2.2.2.2.2.1 (((⟨x0, x1, x2, x3, x4, columns fh0, fh1⟩ : In F)).gacc k0_pay3)
      ∧ Leaves arg14.view R.2.2.2.2.2.2.1 (((⟨x0, x1, x2, x3, x4, columns fh0, fh1⟩ : In F)).db1 k0_pay4)
      ∧ Leaves arg15.view R.2.2.2.2.2.2.2.1 (((⟨x0, x1, x2, x3, x4, columns fh0, fh1⟩ : In F)).bacc k0_pay5)
      ∧ Leaves arg16.view R.2.2.2.2.2.2.2.2.1 (columns fh0) ∧ Leaves arg17.view R.2.2.2.2.2.2.2.2.2.1 (fh1 : Vec F S4096x1024 .bf16) := by
  rintro _ rfl
  unfold kernelRun0_A; dsimp only
  try sl_unfold_words
  simp only [View.readAt_eq_ld, harg1.read_unread, harg2.read_unread, harg3.read_unread, harg6.read_unread, harg7.read_unread, harg13.read_unread, harg14.read_unread, harg15.read_unread, harg16.read_unread, harg17.read_unread, ld_rows, ld_w1, ld_w2, ld_b1, ld_mod]
  rw [readCov_columns _ (columns fh0) _ ?hp ?ht, readCov_whole]
  case ht => rfl
  case hp =>
    exact column_pieces c fh0
  simp (disch := decide) only [↓View.readCov_skip, ↓View.readCov_fill]
  refine ⟨fun f => ?_, fun f => ?_, fun f => ?_, fun f => ?_, fun f => ?_, fun f => ?_, fun f => ?_, fun f => ?_, fun f => ?_, fun f => ?_⟩
  · exact View.read_writes_full _ f _ _ _
  · exact View.read_writes_full _ f _ _ _
  · exact View.read_writes_full _ f _ _ _
  · exact View.read_writes_full _ f _ _ _
  · exact View.read_writes_full _ f _ _ _
  · exact read_rows _ f (⟨x0, x1, x2, x3, x4, columns fh0, fh1⟩ : In F) k0_pay3 _ (View.read_writes_full _ f _ _ _)
  · exact View.read_writes_full _ f _ _ _
  · exact read_rows3 _ f (⟨x0, x1, x2, x3, x4, columns fh0, fh1⟩ : In F) k0_pay5 _ (View.read_writes_full _ f _ _ _)
  · refine read_of_pieces _ f _ _ ![1024, 512] ?_ rfl
    exact column_pieces c fh0
  · exact read_rows_whole _ f _

theorem reads_B (hc0 : ¬cond0_0 i) (hc1 : ¬cond0_1 i) (hc2 : ¬cond0_2 i) (hc3 : ¬cond0_3 i) :
    ∀ R, R = kernelRun0_B c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 xo10 xo11 xo12 xs0 xs1 fh0 fh1 →
      Leaves arg8.view R.1 ((⟨x0, x1, x2, x3, x4, xs0, xs1⟩ : In F)).dx ∧ Leaves arg9.view R.2.1 ((⟨x0, x1, x2, x3, x4, xs0, xs1⟩ : In F)).uB ∧ Leaves arg10.view R.2.2.1 ((⟨x0, x1, x2, x3, x4, xs0, xs1⟩ : In F)).hB
      ∧ Leaves arg11.view R.2.2.2.1 ((⟨x0, x1, x2, x3, x4, xs0, xs1⟩ : In F)).dhpB ∧ Leaves arg12.view R.2.2.2.2.1 ((⟨x0, x1, x2, x3, x4, xs0, xs1⟩ : In F)).doutB
      ∧ arg13.view.read (Elt F) (arg13.view.writes (Elt F) (harg13.unread xo10) R.2.2.2.2.2.1) = ((⟨x0, x1, x2, x3, x4, xs0, xs1⟩ : In F)).gacc xo10
      ∧ Leaves arg14.view R.2.2.2.2.2.2.1 (((⟨x0, x1, x2, x3, x4, xs0, xs1⟩ : In F)).db1 xo11)
      ∧ arg15.view.read (Elt F) (arg15.view.writes (Elt F) (harg15.unread xo12) R.2.2.2.2.2.2.2.1) = ((⟨x0, x1, x2, x3, x4, xs0, xs1⟩ : In F)).bacc xo12 := by
  rintro _ rfl
  unfold kernelRun0_B; dsimp only
  try sl_unfold_words
  simp only [View.readAt_eq_ld, harg1.read_unread, harg2.read_unread, harg3.read_unread, harg6.read_unread, harg7.read_unread, harg13.read_unread, harg14.read_unread, harg15.read_unread, harg16.read_unread, harg17.read_unread, ld_rows, ld_w1, ld_w2, ld_b1, ld_mod]
  refine ⟨fun f => ?_, fun f => ?_, fun f => ?_, fun f => ?_, fun f => ?_, ?_, fun f => ?_, ?_⟩
  · exact View.read_writes_full _ f _ _ _
  · exact View.read_writes_full _ f _ _ _
  · exact View.read_writes_full _ f _ _ _
  · exact View.read_writes_full _ f _ _ _
  · exact View.read_writes_full _ f _ _ _
  · exact read_rows _ _ (⟨x0, x1, x2, x3, x4, xs0, xs1⟩ : In F) xo10 [] (harg13.read_unread xo10)
  · exact View.read_writes_full _ f _ _ _
  · exact read_rows3 _ _ (⟨x0, x1, x2, x3, x4, xs0, xs1⟩ : In F) xo12 [] (harg15.read_unread xo12)

theorem reads_C (hc0 : ¬cond0_0 i) (hc1 : ¬cond0_1 i) (hc2 : ¬cond0_2 i) (hc3 : cond0_3 i) :
    ∀ R, R = kernelRun0_C c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 xo10 xo11 xs0 xs1 fh0 fh1 →
      Leaves arg8.view R.1 ((⟨x0, x1, x2, x3, x4, xs0, xs1⟩ : In F)).dx ∧ Leaves arg9.view R.2.1 ((⟨x0, x1, x2, x3, x4, xs0, xs1⟩ : In F)).uB ∧ Leaves arg10.view R.2.2.1 ((⟨x0, x1, x2, x3, x4, xs0, xs1⟩ : In F)).hB
      ∧ Leaves arg11.view R.2.2.2.1 ((⟨x0, x1, x2, x3, x4, xs0, xs1⟩ : In F)).dhpB ∧ Leaves arg12.view R.2.2.2.2.1 ((⟨x0, x1, x2, x3, x4, xs0, xs1⟩ : In F)).doutB
      ∧ arg13.view.read (Elt F) (arg13.view.writes (Elt F) (harg13.unread xo10) R.2.2.2.2.2.1) = ((⟨x0, x1, x2, x3, x4, xs0, xs1⟩ : In F)).gacc xo10
      ∧ Leaves arg14.view R.2.2.2.2.2.2.1 (((⟨x0, x1, x2, x3, x4, xs0, xs1⟩ : In F)).db1 xo11)
      ∧ Leaves arg15.view R.2.2.2.2.2.2.2.1 (((⟨x0, x1, x2, x3, x4, xs0, xs1⟩ : In F)).bacc k0_pay5) := by
  rintro _ rfl
  unfold kernelRun0_C; dsimp only
  try sl_unfold_words
  simp only [View.readAt_eq_ld, harg1.read_unread, harg2.read_unread, harg3.read_unread, harg6.read_unread, harg7.read_unread, harg13.read_unread, harg14.read_unread, harg15.read_unread, harg16.read_unread, harg17.read_unread, ld_rows, ld_w1, ld_w2, ld_b1, ld_mod]
  refine ⟨fun f => ?_, fun f => ?_, fun f => ?_, fun f => ?_, fun f => ?_, ?_, fun f => ?_, fun f => ?_⟩
  · exact View.read_writes_full _ f _ _ _
  · exact View.read_writes_full _ f _ _ _
  · exact View.read_writes_full _ f _ _ _
  · exact View.read_writes_full _ f _ _ _
  · exact View.read_writes_full _ f _ _ _
  · exact read_rows _ _ (⟨x0, x1, x2, x3, x4, xs0, xs1⟩ : In F) xo10 [] (harg13.read_unread xo10)
  · exact View.read_writes_full _ f _ _ _
  · simp (disch := decide) only [↓View.readCov_skip, ↓View.readCov_fill]
    exact read_rows3 _ f (⟨x0, x1, x2, x3, x4, xs0, xs1⟩ : In F) k0_pay5 _ (View.read_writes_full _ f _ _ _)

end Cert.Mlp

end
-- ==== Proof.Mlp.Point.lean ====
/- One grid point of the MLP kernel, from owned blocks to owned results: the three cases of the body's run put together. -/
module

public import proofs.«01_k».proof.Proof.Mlp.Reads

@[expose] public section

set_option maxRecDepth 16384
set_option maxHeartbeats 2000000

noncomputable section

namespace Cert.Mlp

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MlpBlockIdeal Cert.MlpBlockIdeal.Gen

variable {F : FTy → Type} [FloatOps F]

local notation "𝕄" => MT nD τ sig Unit (Elt F) ℕ (Pipeline.UD sig nD τ) ℕ

section

variable {c : Dev nD} {sp : Space} {s : Shape} {e : EltTy} {M : Memref sig .tc sp s e}

/-- Pieces that leave `X` in a buffer make it owned at `X`, whatever it held, -/
theorem owns_of_leaves {L : List (View.Piece (Elt F) s e)} {X : s.Idx → Elt F e} (h : Leaves M.view L X) :
    (iprop(∃ f, M.view.loc (c : Thread nD τ) ↦[M.view.set]{fullShare} M.view.writes (Elt F) f L) : sProp 𝕄)
      ⊢ owns (c : Thread nD τ) M fullShare X := by
  unfold owns
  iintro ⟨%f, H⟩
  iexists _; isplitr
  swap; · iexact H
  ipureintro; exact h f

/-- or over the contents it held. -/
theorem owns_of_read {f : M.view.ty.Contents (Elt F)} {X : s.Idx → Elt F e} (h : M.view.read (Elt F) f = X) :
    (M.view.loc (c : Thread nD τ) ↦[M.view.set]{fullShare} f : sProp 𝕄) ⊢ owns (c : Thread nD τ) M fullShare X := by
  unfold owns
  iintro H
  iexists _; isplitr
  swap; · iexact H
  ipureintro; exact h

/-- Known contents forgotten. -/
theorem owns_some {X : s.Idx → Elt F e} :
    (owns (c : Thread nD τ) M fullShare X : sProp 𝕄) ⊢ iprop(∃ d, owns (c : Thread nD τ) M fullShare d) := by
  iintro H
  iexists _; iexact H

end

variable (c : Dev nD) (arg1 : Memref sig .tc .vmem S256x1024 .f32) (arg2 : Memref sig .tc .vmem S256x1024 .f32) (arg3 : Memref sig .tc .vmem S1x6x1024 .f32) (arg6 : Memref sig .tc .vmem S8x1024 .f32) (arg7 : Memref sig .tc .vmem S1x4096 .f32) (arg8 : Memref sig .tc .vmem S256x1024 .f32) (arg9 : Memref sig .tc .vmem S256x1024 .bf16) (arg10 : Memref sig .tc .vmem S256x4096 .bf16) (arg11 : Memref sig .tc .vmem S256x4096 .bf16) (arg12 : Memref sig .tc .vmem S256x1024 .bf16) (arg13 : Memref sig .tc .vmem S8x1024 .f32) (arg14 : Memref sig .tc .vmem S1x4096 .f32) (arg15 : Memref sig .tc .vmem S1x8x1024 .f32) (arg16 : Memref sig .tc .vmem S1024x4096 .bf16) (arg17 : Memref sig .tc .vmem S4096x1024 .bf16)

/-- What a point starts from: its operands, the outputs' buffers at anything, the accumulators and the scratch at what
    they hold, the copies' semaphores at zero, the two weight operands. -/
abbrev Start (I : In F) (G : Vec F S8x1024 .f32) (D : Vec F S1x4096 .f32) (B : Vec F S1x8x1024 .f32)
    (s0 : Vec F S1024x4096 .bf16) (s1 : Vec F S4096x1024 .bf16) (fh0 : HbBuf0 (F := F) c hbM0_0) (fh1 : HbBuf0 (F := F) c hbM0_1)
    (W : Waits sig Unit) (P : sProp 𝕄) : sProp 𝕄 :=
  iprop(owns (c : Thread nD τ) arg1 fullShare I.x ∗ owns (c : Thread nD τ) arg2 fullShare I.target ∗ owns (c : Thread nD τ) arg3 fullShare I.mod ∗ owns (c : Thread nD τ) arg6 fullShare I.vec ∗ owns (c : Thread nD τ) arg7 fullShare I.b1 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare G ∗ owns (c : Thread nD τ) arg14 fullShare D ∗ owns (c : Thread nD τ) arg15 fullShare B
    ∗ owns (c : Thread nD τ) arg16 fullShare s0 ∗ owns (c : Thread nD τ) arg17 fullShare s1 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ hbPt0 c hbM0_0 fh0 ∗ hbPt0 c hbM0_1 fh1 ∗ owes (c : Thread nD τ) 0 W ∗ P)

/-- What it ends with: its results from its operands and from the accumulators' values. -/
abbrev Finish (I : In F) (G : Vec F S8x1024 .f32) (D : Vec F S1x4096 .f32) (B : Vec F S1x8x1024 .f32)
    (fh0 : HbBuf0 (F := F) c hbM0_0) (fh1 : HbBuf0 (F := F) c hbM0_1) : sProp 𝕄 :=
  iprop(owns (c : Thread nD τ) arg1 fullShare I.x ∗ owns (c : Thread nD τ) arg2 fullShare I.target ∗ owns (c : Thread nD τ) arg3 fullShare I.mod ∗ owns (c : Thread nD τ) arg6 fullShare I.vec ∗ owns (c : Thread nD τ) arg7 fullShare I.b1 ∗ owns (c : Thread nD τ) arg8 fullShare I.dx ∗ owns (c : Thread nD τ) arg9 fullShare I.uB ∗ owns (c : Thread nD τ) arg10 fullShare I.hB ∗ owns (c : Thread nD τ) arg11 fullShare I.dhpB ∗ owns (c : Thread nD τ) arg12 fullShare I.doutB ∗ owns (c : Thread nD τ) arg13 fullShare (I.gacc G) ∗ owns (c : Thread nD τ) arg14 fullShare (I.db1 D) ∗ owns (c : Thread nD τ) arg15 fullShare (I.bacc B)
    ∗ owns (c : Thread nD τ) arg16 fullShare I.w1 ∗ owns (c : Thread nD τ) arg17 fullShare I.w2 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ hbPt0 c hbM0_0 fh0 ∗ hbPt0 c hbM0_1 fh1 ∗ (∃ W', owes (c : Thread nD τ) 0 W'))

variable (i : grid0.Coords) (harg1 : arg1.IsWhole) (harg2 : arg2.IsWhole) (harg3 : arg3.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole)
  (I : In F) (G : Vec F S8x1024 .f32) (D : Vec F S1x4096 .f32) (B : Vec F S1x8x1024 .f32)
  (s0 : Vec F S1024x4096 .bf16) (s1 : Vec F S4096x1024 .bf16) (fh0 : HbBuf0 (F := F) c hbM0_0) (fh1 : HbBuf0 (F := F) c hbM0_1)
  (W : Waits sig Unit)

/-- The first point: the weights are copied in and every accumulator starts at zero. -/
theorem point_A (hc0 : cond0_0 i) (hc1 : cond0_1 i) (hc2 : cond0_2 i) (hc3 : cond0_3 i) (e1 : columns fh0 = I.w1) (e2 : fh1 = I.w2) (K : PUnit → sProp 𝕄) :
    Start c arg1 arg2 arg3 arg6 arg7 arg8 arg9 arg10 arg11 arg12 arg13 arg14 arg15 arg16 arg17 I G D B s0 s1 fh0 fh1 W iprop(Finish c arg1 arg2 arg3 arg6 arg7 arg8 arg9 arg10 arg11 arg12 arg13 arg14 arg15 arg16 arg17 I k0_pay3 k0_pay4 k0_pay5 fh0 fh1 -∗ K ⟨⟩)
      ⊢ wp frame (wpE (defs₀ (F := F)) Variants.none c none) Set.univ (cc0_mlp_fwd_bwd i arg1 harg1 arg2 harg2 arg3 harg3
        (Memref.whole main_v3) (Memref.isWhole_whole _) (Memref.whole main_v9) (Memref.isWhole_whole _) arg6 harg6 arg7 harg7 arg8 harg8
        arg9 harg9 arg10 harg10 arg11 harg11 arg12 harg12 arg13 harg13 arg14 harg14 arg15 harg15 arg16 harg16 arg17 harg17
        cc0_scratch2 cc0_scratch3) K := by
  obtain ⟨x, target, mod, vec, b1, w1, w2⟩ := I
  dsimp only at e1 e2
  subst e1 e2
  obtain ⟨r5, r6, r7, r8, r9, r10, r11, r12, rs0, rs1⟩ := reads_A c i arg1 harg1 arg2 harg2 arg3 harg3 arg6 harg6 arg7 harg7 arg8 harg8 arg9 harg9 arg10 harg10 arg11 harg11 arg12 harg12 arg13 harg13 arg14 harg14 arg15 harg15 arg16 harg16 arg17 harg17 x target mod vec b1 fh0 fh1 hc0 hc1 hc2 hc3 _ rfl
  refine .trans ?_ ((kernelRun0_A c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 x target mod vec b1 fh0 fh1).2.2.2.2.2.2.2.2.2.2 W K)
  unfold Start Finish
  repeat' first
    | apply BIClass.sep_mono
    | apply Laws.wand_mono
    | exact .rfl
    | exact owns_some
    | exact owns_of_leaves r5
    | exact owns_of_leaves r6
    | exact owns_of_leaves r7
    | exact owns_of_leaves r8
    | exact owns_of_leaves r9
    | exact owns_of_leaves r10
    | exact owns_of_leaves r11
    | exact owns_of_leaves r12
    | exact owns_of_leaves rs0
    | exact owns_of_leaves rs1

/-- A point inside a sequence. -/
theorem point_B (hc0 : ¬cond0_0 i) (hc1 : ¬cond0_1 i) (hc2 : ¬cond0_2 i) (hc3 : ¬cond0_3 i) (K : PUnit → sProp 𝕄) :
    Start c arg1 arg2 arg3 arg6 arg7 arg8 arg9 arg10 arg11 arg12 arg13 arg14 arg15 arg16 arg17 I G D B I.w1 I.w2 fh0 fh1 W iprop(Finish c arg1 arg2 arg3 arg6 arg7 arg8 arg9 arg10 arg11 arg12 arg13 arg14 arg15 arg16 arg17 I G D B fh0 fh1 -∗ K ⟨⟩)
      ⊢ wp frame (wpE (defs₀ (F := F)) Variants.none c none) Set.univ (cc0_mlp_fwd_bwd i arg1 harg1 arg2 harg2 arg3 harg3
        (Memref.whole main_v3) (Memref.isWhole_whole _) (Memref.whole main_v9) (Memref.isWhole_whole _) arg6 harg6 arg7 harg7 arg8 harg8
        arg9 harg9 arg10 harg10 arg11 harg11 arg12 harg12 arg13 harg13 arg14 harg14 arg15 harg15 arg16 harg16 arg17 harg17
        cc0_scratch2 cc0_scratch3) K := by
  obtain ⟨r5, r6, r7, r8, r9, r10, r11, r12⟩ := reads_B c i arg1 harg1 arg2 harg2 arg3 harg3 arg6 harg6 arg7 harg7 arg8 harg8 arg9 harg9 arg10 harg10 arg11 harg11 arg12 harg12 arg13 harg13 arg14 harg14 arg15 harg15 arg16 harg16 arg17 harg17 I.x I.target I.mod I.vec I.b1 G D B I.w1 I.w2 fh0 fh1 hc0 hc1 hc2 hc3 _ rfl
  refine .trans ?_ ((kernelRun0_B c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 I.x I.target I.mod I.vec I.b1 G D B I.w1 I.w2 fh0 fh1).2.2.2.2.2.2.2.2.2.2 W K)
  unfold Start Finish
  repeat' first
    | apply BIClass.sep_mono
    | apply Laws.wand_mono
    | exact .rfl
    | exact owns_some
    | exact owns_of_leaves r5
    | exact owns_of_leaves r6
    | exact owns_of_leaves r7
    | exact owns_of_leaves r8
    | exact owns_of_leaves r9
    | exact owns_of_leaves r11
    | exact owns_of_read r10
    | exact owns_of_read r12

/-- The first point of a later sequence: the sequence's accumulator starts at zero. -/
theorem point_C (hc0 : ¬cond0_0 i) (hc1 : ¬cond0_1 i) (hc2 : ¬cond0_2 i) (hc3 : cond0_3 i) (K : PUnit → sProp 𝕄) :
    Start c arg1 arg2 arg3 arg6 arg7 arg8 arg9 arg10 arg11 arg12 arg13 arg14 arg15 arg16 arg17 I G D B I.w1 I.w2 fh0 fh1 W iprop(Finish c arg1 arg2 arg3 arg6 arg7 arg8 arg9 arg10 arg11 arg12 arg13 arg14 arg15 arg16 arg17 I G D k0_pay5 fh0 fh1 -∗ K ⟨⟩)
      ⊢ wp frame (wpE (defs₀ (F := F)) Variants.none c none) Set.univ (cc0_mlp_fwd_bwd i arg1 harg1 arg2 harg2 arg3 harg3
        (Memref.whole main_v3) (Memref.isWhole_whole _) (Memref.whole main_v9) (Memref.isWhole_whole _) arg6 harg6 arg7 harg7 arg8 harg8
        arg9 harg9 arg10 harg10 arg11 harg11 arg12 harg12 arg13 harg13 arg14 harg14 arg15 harg15 arg16 harg16 arg17 harg17
        cc0_scratch2 cc0_scratch3) K := by
  obtain ⟨r5, r6, r7, r8, r9, r10, r11, r12⟩ := reads_C c i arg1 harg1 arg2 harg2 arg3 harg3 arg6 harg6 arg7 harg7 arg8 harg8 arg9 harg9 arg10 harg10 arg11 harg11 arg12 harg12 arg13 harg13 arg14 harg14 arg15 harg15 arg16 harg16 arg17 harg17 I.x I.target I.mod I.vec I.b1 G D I.w1 I.w2 fh0 fh1 hc0 hc1 hc2 hc3 _ rfl
  refine .trans ?_ ((kernelRun0_C c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 I.x I.target I.mod I.vec I.b1 G D I.w1 I.w2 fh0 fh1).2.2.2.2.2.2.2.2.2.2 W K)
  unfold Start Finish
  repeat' first
    | apply BIClass.sep_mono
    | apply Laws.wand_mono
    | exact .rfl
    | exact owns_some
    | exact owns_of_leaves r5
    | exact owns_of_leaves r6
    | exact owns_of_leaves r7
    | exact owns_of_leaves r8
    | exact owns_of_leaves r9
    | exact owns_of_leaves r11
    | exact owns_of_leaves r12
    | exact owns_of_read r10

end Cert.Mlp

end
-- ==== Proof.Mlp.Frame.lean ====
/- The MLP kernel's grid: what every point leaves, the accumulators point by point, the run of the whole program and its frame. -/
module

public import proofs.«01_k».proof.Proof.Mlp.Point
public import Idealize.ShloMosaic.Lib.Claim

@[expose] public section

set_option maxRecDepth 16384

noncomputable section

namespace Cert.Mlp

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MlpBlockIdeal Cert.MlpBlockIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A point's blocks, with the weights as the first point copied them. -/
def blocks (c : Dev nD) (t : Fin cfg0.N) : In F :=
  ⟨iblk m c 0 t, iblk m c 1 t, iblk m c 2 t, iblk m c 3 t, iblk m c 4 t, columns (V m c main_v3), V m c main_v9⟩

/-- The three accumulators. -/
structure Sums (F : FTy → Type) [FloatOps F] where
  g : Vec F S8x1024 .f32
  d : Vec F S1x4096 .f32
  b : Vec F S1x8x1024 .f32

/-- One point added: the first point starts all three at zero, the first of a sequence the sequence's. -/
def Sums.step (n : ℕ) (I : In F) (s : Sums F) : Sums F :=
  ⟨I.gacc (if n = 0 then k0_pay3 else s.g), I.db1 (if n = 0 then k0_pay4 else s.d), I.bacc (if n % 16 = 0 then k0_pay5 else s.b)⟩

/-- The accumulators after point `n`. -/
def sums (c : Dev nD) : (n : ℕ) → n < cfg0.N → Sums F
  | 0, h => Sums.step 0 (blocks m c ⟨0, h⟩) ⟨k0_pay3, k0_pay4, k0_pay5⟩
  | n + 1, h => Sums.step (n + 1) (blocks m c ⟨n + 1, h⟩) (sums c n (Nat.lt_of_succ_lt h))

/-- A point's sums are a step from anything that holds the sums of the point before wherever the step reads them. -/
theorem sums_eq (c : Dev nD) (t : Fin cfg0.N) (G : Vec F S8x1024 .f32) (D : Vec F S1x4096 .f32) (B : Vec F S1x8x1024 .f32)
    (hG : t.val ≠ 0 → G = (sums m c (t.val - 1) (Nat.lt_of_le_of_lt (Nat.sub_le _ _) t.isLt)).g)
    (hD : t.val ≠ 0 → D = (sums m c (t.val - 1) (Nat.lt_of_le_of_lt (Nat.sub_le _ _) t.isLt)).d)
    (hB : t.val % 16 ≠ 0 → B = (sums m c (t.val - 1) (Nat.lt_of_le_of_lt (Nat.sub_le _ _) t.isLt)).b) :
    Sums.step t.val (blocks m c t) ⟨G, D, B⟩ = sums m c t.val t.isLt := by
  obtain ⟨n, hn⟩ := t
  cases n with
  | zero => rfl
  | succ n =>
    have eG := hG (Nat.succ_ne_zero n)
    have eD := hD (Nat.succ_ne_zero n)
    show Sums.step (n + 1) (blocks m c ⟨n + 1, hn⟩) ⟨G, D, B⟩ = Sums.step (n + 1) (blocks m c ⟨n + 1, hn⟩) (sums m c n (Nat.lt_of_succ_lt hn))
    unfold Sums.step
    rw [eG, eD]
    by_cases hz : (n + 1) % 16 = 0
    · rw [if_pos hz, if_pos hz]; rfl
    · rw [hB hz]; rfl

/-- What lies beside the scratch between points: the generator's register, the copies' semaphores at zero, the weights. -/
def beside (c : Dev nD) : sProp 𝕄 :=
  iprop((∃ r, prngReg c r) ∗ iprop(semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0) ∗ iprop(hbPt0 c hbM0_0 (V m c main_v3) ∗ hbPt0 c hbM0_1 (V m c main_v9)))

/-- The invariant: before the first point the scratch holds anything, afterwards the weights. -/
def kept (c : Dev nD) : ℕ → sProp 𝕄
  | 0 => Pipeline.ΦD osem0 spec0 H0 (V m) c
  | _ + 1 => iprop(iprop(owns (c : Thread nD τ) scM0_0 fullShare (columns (V m c main_v3))
      ∗ owns (c : Thread nD τ) scM0_1 fullShare (V m c main_v9)) ∗ beside m c)

theorem kept_open (c : Dev nD) (n : ℕ) : kept m c n
    ⊢ iprop(∃ s0 s1, ⌜n ≠ 0 → s0 = columns (V m c main_v3) ∧ s1 = V m c main_v9⌝ ∗ owns (c : Thread nD τ) scM0_0 fullShare s0
      ∗ owns (c : Thread nD τ) scM0_1 fullShare s1 ∗ beside m c) := by
  cases n with
  | zero =>
    show Pipeline.ΦD osem0 spec0 H0 (V m) c ⊢ _
    rw [PhiD0_eq]
    unfold beside
    iintro ⟨⟨⟨%d0, H0⟩, ⟨%d1, H1⟩⟩, HB⟩
    iexists d0; iexists d1
    isplitr; · ipureintro; exact fun h => absurd rfl h
    isplitl [H0]; · iexact H0
    isplitl [H1]; · iexact H1
    iexact HB
  | succ n =>
    unfold kept
    iintro ⟨⟨H0, H1⟩, HB⟩
    iexists _; iexists _
    isplitr; · ipureintro; exact fun _ => ⟨rfl, rfl⟩
    isplitl [H0]; · iexact H0
    isplitl [H1]; · iexact H1
    iexact HB

theorem kept_close (c : Dev nD) (n : ℕ) : kept m c n ⊢ Pipeline.ΦD osem0 spec0 H0 (V m) c := by
  cases n with
  | zero => exact .rfl
  | succ n =>
    rw [PhiD0_eq]
    unfold kept beside
    iintro ⟨⟨H0, H1⟩, HB⟩
    isplitl [H0 H1]
    · isplitl [H0]
      · iexists _; iexact H0
      iexists _; iexact H1
    iexact HB

/-- The pipeline's data: every input's buffer keeps its block, every output's holds what its point computes. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (blocks m c t).dx
    | ⟨6, _⟩ => (blocks m c t).uB
    | ⟨7, _⟩ => (blocks m c t).hB
    | ⟨8, _⟩ => (blocks m c t).dhpB
    | ⟨9, _⟩ => (blocks m c t).doutB
    | ⟨10, _⟩ => (sums m c t.val t.isLt).g
    | ⟨11, _⟩ => (sums m c t.val t.isLt).d
    | ⟨12, _⟩ => (sums m c t.val t.isLt).b
  Φ t := kept m c t.val
  q _ := fullShare
  owed _ := 0

theorem A_eq (c : Dev nD) (w : Fin cfg0.W) : (dats m 0 c).A w = V m c (Pipeline.arrRef spec0 w) := by dsimp only [dats]
theorem left_0 (c : Dev nD) (t : Fin cfg0.N) : (dats m 0 c).after 0 t = iblk m c 0 t := by dsimp only [dats]
theorem left_1 (c : Dev nD) (t : Fin cfg0.N) : (dats m 0 c).after 1 t = iblk m c 1 t := by dsimp only [dats]
theorem left_2 (c : Dev nD) (t : Fin cfg0.N) : (dats m 0 c).after 2 t = iblk m c 2 t := by dsimp only [dats]
theorem left_3 (c : Dev nD) (t : Fin cfg0.N) : (dats m 0 c).after 3 t = iblk m c 3 t := by dsimp only [dats]
theorem left_4 (c : Dev nD) (t : Fin cfg0.N) : (dats m 0 c).after 4 t = iblk m c 4 t := by dsimp only [dats]
theorem left_5 (c : Dev nD) (t : Fin cfg0.N) : (dats m 0 c).after 5 t = (blocks m c t).dx := by dsimp only [dats]
theorem left_6 (c : Dev nD) (t : Fin cfg0.N) : (dats m 0 c).after 6 t = (blocks m c t).uB := by dsimp only [dats]
theorem left_7 (c : Dev nD) (t : Fin cfg0.N) : (dats m 0 c).after 7 t = (blocks m c t).hB := by dsimp only [dats]
theorem left_8 (c : Dev nD) (t : Fin cfg0.N) : (dats m 0 c).after 8 t = (blocks m c t).dhpB := by dsimp only [dats]
theorem left_9 (c : Dev nD) (t : Fin cfg0.N) : (dats m 0 c).after 9 t = (blocks m c t).doutB := by dsimp only [dats]
theorem left_10 (c : Dev nD) (t : Fin cfg0.N) : (dats m 0 c).after 10 t = (sums m c t.val t.isLt).g := by dsimp only [dats]
theorem left_11 (c : Dev nD) (t : Fin cfg0.N) : (dats m 0 c).after 11 t = (sums m c t.val t.isLt).d := by dsimp only [dats]
theorem left_12 (c : Dev nD) (t : Fin cfg0.N) : (dats m 0 c).after 12 t = (sums m c t.val t.isLt).b := by dsimp only [dats]
theorem found_0 (c : Dev nD) (t : Fin cfg0.N) (d) : (dats m 0 c).before 0 t d = iblk m c 0 t :=
  before0_0_of m (dats m 0 c) (A_eq m c 0) (left_0 m c) t d
theorem found_1 (c : Dev nD) (t : Fin cfg0.N) (d) : (dats m 0 c).before 1 t d = iblk m c 1 t :=
  before0_1_of m (dats m 0 c) (A_eq m c 1) (left_1 m c) t d
theorem found_2 (c : Dev nD) (t : Fin cfg0.N) (d) : (dats m 0 c).before 2 t d = iblk m c 2 t :=
  before0_2_of m (dats m 0 c) (A_eq m c 2) (left_2 m c) t d
theorem found_3 (c : Dev nD) (t : Fin cfg0.N) (d) : (dats m 0 c).before 3 t d = iblk m c 3 t :=
  before0_3_of m (dats m 0 c) (A_eq m c 3) (left_3 m c) t d
theorem found_4 (c : Dev nD) (t : Fin cfg0.N) (d) : (dats m 0 c).before 4 t d = iblk m c 4 t :=
  before0_4_of m (dats m 0 c) (A_eq m c 4) (left_4 m c) t d

/-- Accumulator 1 of 3 is found as the point before left it. -/
theorem found_10 (c : Dev nD) (t : Fin cfg0.N) (d) (h : t.val ≠ 0) :
    (dats m 0 c).before 10 t d = (sums m c (t.val - 1) (Nat.lt_of_le_of_lt (Nat.sub_le _ _) t.isLt)).g := by
  have hN : t.val < 32 := lt_of_lt_of_eq t.isLt (show cfg0.N = 32 from N_0)
  rw [Dat.before_out_kept _ 10 rfl t (by omega) (Bool.eq_false_iff.mpr fun e => by have := (flush0_10 _).mp e; dsimp only at this; omega)
    (fun _ => rfl) (fun _ _ => rfl)]
  dsimp only [dats]

/-- Accumulator 2 of 3 is found as the point before left it. -/
theorem found_11 (c : Dev nD) (t : Fin cfg0.N) (d) (h : t.val ≠ 0) :
    (dats m 0 c).before 11 t d = (sums m c (t.val - 1) (Nat.lt_of_le_of_lt (Nat.sub_le _ _) t.isLt)).d := by
  have hN : t.val < 32 := lt_of_lt_of_eq t.isLt (show cfg0.N = 32 from N_0)
  rw [Dat.before_out_kept _ 11 rfl t (by omega) (Bool.eq_false_iff.mpr fun e => by have := (flush0_11 _).mp e; dsimp only at this; omega)
    (fun _ => rfl) (fun _ _ => rfl)]
  dsimp only [dats]

/-- Accumulator 3 of 3 is found as the point before left it. -/
theorem found_12 (c : Dev nD) (t : Fin cfg0.N) (d) (h : t.val % 16 ≠ 0) :
    (dats m 0 c).before 12 t d = (sums m c (t.val - 1) (Nat.lt_of_le_of_lt (Nat.sub_le _ _) t.isLt)).b := by
  have hN : t.val < 32 := lt_of_lt_of_eq t.isLt (show cfg0.N = 32 from N_0)
  rw [Dat.before_out_kept _ 12 rfl t (by omega) (Bool.eq_false_iff.mpr fun e => by have := (flush0_12 _).mp e; dsimp only at this; omega)
    (fun _ => rfl) (fun _ _ => rfl)]
  dsimp only [dats]

set_option maxHeartbeats 2000000 in
/-- One point, whichever of the three cases it is. -/
theorem point (c : Dev nD) (t : Fin cfg0.N) (G : Vec F S8x1024 .f32) (D : Vec F S1x4096 .f32) (B : Vec F S1x8x1024 .f32)
    (s0 : Vec F S1024x4096 .bf16) (s1 : Vec F S4096x1024 .bf16) (W : Waits sig Unit) (K : PUnit → sProp 𝕄)
    (hs : t.val ≠ 0 → s0 = columns (V m c main_v3) ∧ s1 = V m c main_v9) :
    Start c (ms0_0 t) (ms0_1 t) (ms0_2 t) (ms0_3 t) (ms0_4 t) (ms0_5 t) (ms0_6 t) (ms0_7 t) (ms0_8 t) (ms0_9 t) (ms0_10 t) (ms0_11 t) (ms0_12 t) scM0_0 scM0_1 (blocks m c t) G D B s0 s1 (V m c main_v3) (V m c main_v9) W
      iprop(Finish c (ms0_0 t) (ms0_1 t) (ms0_2 t) (ms0_3 t) (ms0_4 t) (ms0_5 t) (ms0_6 t) (ms0_7 t) (ms0_8 t) (ms0_9 t) (ms0_10 t) (ms0_11 t) (ms0_12 t) scM0_0 scM0_1 (blocks m c t) (if t.val = 0 then k0_pay3 else G) (if t.val = 0 then k0_pay4 else D)
        (if t.val % 16 = 0 then k0_pay5 else B) (V m c main_v3) (V m c main_v9) -∗ K ⟨⟩)
      ⊢ wp frame (wpE (defs₀ (F := F)) Variants.none c none) Set.univ (bodyAt0 t) K := by
  have hN : t.val < 32 := lt_of_lt_of_eq t.isLt (show cfg0.N = 32 from N_0)
  by_cases h0 : t.val = 0
  · rw [if_pos h0, if_pos h0, if_pos (by omega)]
    exact point_A c (ms0_0 t) (ms0_1 t) (ms0_2 t) (ms0_3 t) (ms0_4 t) (ms0_5 t) (ms0_6 t) (ms0_7 t) (ms0_8 t) (ms0_9 t) (ms0_10 t) (ms0_11 t) (ms0_12 t) scM0_0 scM0_1 (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (Memref.isWhole_whole _) (Memref.isWhole_whole _) (blocks m c t) G D B s0 s1 (V m c main_v3) (V m c main_v9) W
      ((hcond0_0 t).mpr (by omega)) ((hcond0_1 t).mpr (by omega)) ((hcond0_2 t).mpr (by omega)) ((hcond0_3 t).mpr (by omega)) rfl rfl K
  obtain ⟨rfl, rfl⟩ := hs h0
  rw [if_neg h0, if_neg h0]
  have n0 : ¬cond0_0 (grid0.coords t) := fun h => absurd ((hcond0_0 t).mp h) (by omega)
  have n1 : ¬cond0_1 (grid0.coords t) := fun h => absurd ((hcond0_1 t).mp h) (by omega)
  have n2 : ¬cond0_2 (grid0.coords t) := fun h => absurd ((hcond0_2 t).mp h) (by omega)
  by_cases h3 : t.val % 16 = 0
  · rw [if_pos h3]
    exact point_C c (ms0_0 t) (ms0_1 t) (ms0_2 t) (ms0_3 t) (ms0_4 t) (ms0_5 t) (ms0_6 t) (ms0_7 t) (ms0_8 t) (ms0_9 t) (ms0_10 t) (ms0_11 t) (ms0_12 t) scM0_0 scM0_1 (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (Memref.isWhole_whole _) (Memref.isWhole_whole _) (blocks m c t) G D B (V m c main_v3) (V m c main_v9) W n0 n1 n2 ((hcond0_3 t).mpr h3) K
  · rw [if_neg h3]
    exact point_B c (ms0_0 t) (ms0_1 t) (ms0_2 t) (ms0_3 t) (ms0_4 t) (ms0_5 t) (ms0_6 t) (ms0_7 t) (ms0_8 t) (ms0_9 t) (ms0_10 t) (ms0_11 t) (ms0_12 t) scM0_0 scM0_1 (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (Memref.isWhole_whole _) (Memref.isWhole_whole _) (blocks m c t) G D B (V m c main_v3) (V m c main_v9) W n0 n1 n2 (fun h => h3 ((hcond0_3 t).mp h)) K

/-- What the pipeline hands the body at point `t`, -/
def given (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it takes back. -/
def returned (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 4000000 in
theorem body_at (c : Dev nD) (t : Fin cfg0.N) :
    given m c t ⊢ wp frame (wpE (defs₀ (F := F)) Variants.none c none) Set.univ (bodyAt0 t) (fun _ => returned m c t) := by
  unfold given
  simp only [found_0, found_1, found_2, found_3, found_4]
  rw [show (dats m 0 c).Φ t.castSucc = kept m c t.val by dsimp only [dats]; rfl]
  unfold Dat.owesAt Pipeline.owesWithin
  rw [show (dats m 0 c).owed t.castSucc = 0 from rfl]
  refine (sep_mono_left (kept_open m c t.val)).trans ?_
  unfold beside
  iintro ⟨⟨%s0, %s1, %hs, S0, S1, Hg, ⟨Q0, Q1, Q2, Q3, Q4, Q5, Q6, Q7, Q8⟩, ⟨E0, E1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  have P := point m c t ((dats m 0 c).before 10 t d10) ((dats m 0 c).before 11 t d11) ((dats m 0 c).before 12 t d12) s0 s1 W
    (fun _ => returned m c t) hs
  have e := sums_eq m c t _ _ _ (found_10 m c t d10) (found_11 m c t d11) (found_12 m c t d12)
  unfold Start Finish at P
  rw [show (blocks m c t).gacc (if t.val = 0 then k0_pay3 else (dats m 0 c).before 10 t d10) = _ from congrArg Sums.g e,
    show (blocks m c t).db1 (if t.val = 0 then k0_pay4 else (dats m 0 c).before 11 t d11) = _ from congrArg Sums.d e,
    show (blocks m c t).bacc (if t.val % 16 = 0 then k0_pay5 else (dats m 0 c).before 12 t d12) = _ from congrArg Sums.b e] at P
  iapply P
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexact H10
  isplitl [H11]; · iexact H11
  isplitl [H12]; · iexact H12
  isplitl [S0]; · iexact S0
  isplitl [S1]; · iexact S1
  isplitl [Q0]; · iexact Q0
  isplitl [Q1]; · iexact Q1
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [E0]; · iexact E0
  isplitl [E1]; · iexact E1
  isplitl [HW]; · iexact HW
  iintro ⟨H0, H1, H2, H3, H4, H5, H6, H7, H8, H9, H10, H11, H12, S0, S1, Q0, Q1, Q2, Q3, Q4, Q5, Q6, Q7, Q8, E0, E1, ⟨%W', HW'⟩⟩
  unfold returned
  rw [show (dats m 0 c).Φ t.succ = kept m c (t.val + 1) by dsimp only [dats]; rfl,
    left_0, left_1, left_2, left_3, left_4, left_5, left_6, left_7, left_8, left_9, left_10, left_11, left_12]
  unfold Dat.owesAt Pipeline.owesWithin
  rw [show (dats m 0 c).owed t.succ = 0 from rfl]
  isplitl [S0 S1 Hg Q0 Q1 Q2 Q3 Q4 Q5 Q6 Q7 Q8 E0 E1]
  · unfold kept beside
    isplitl [S0 S1]
    · isplitl [S0]; · iexact S0
      iexact S1
    isplitl [Hg]; · iexact Hg
    isplitl [Q0 Q1 Q2 Q3 Q4 Q5 Q6 Q7 Q8]
    ·
      isplitl [Q0]; · iexact Q0
      isplitl [Q1]; · iexact Q1
      isplitl [Q2]; · iexact Q2
      isplitl [Q3]; · iexact Q3
      isplitl [Q4]; · iexact Q4
      isplitl [Q5]; · iexact Q5
      isplitl [Q6]; · iexact Q6
      isplitl [Q7]; · iexact Q7
      iexact Q8
    isplitl [E0]; · iexact E0
    iexact E1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body at every point, as the pipeline asks for it. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  exact triple_restated (body_at m c t) rfl .rfl fun _ => .rfl

set_option backward.isDefEq.respectTransparency.types false in
/-- The whole program's run: it ends, with the arrays at what the points wrote and every counter at zero. -/
theorem run : θ_run defs (onTc (τ := τ) (main (F := F))) (s₀ m ρ)
    (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun c => by rw [show (dats m 0 c).Φ 0 = kept m c 0 from rfl]; exact .rfl)
    (hout := fun c => by rw [show (dats m 0 c).Φ (Fin.last cfg0.N) = kept m c cfg0.N from rfl]; exact kept_close m c _)

/-- The run without the counters. -/
theorem run_arrays : θ_run defs (onTc (τ := τ) (main (F := F))) (s₀ m ρ) (Pipeline.FramePost cfgs (dats m) 0 (V m)) :=
  (θ_run defs _ _).mono (fun _ h => h.1) (run m ρ)

/-- The frame: the program ends, its arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_arrays m ρ)) ((θ_run defs _ _).mono (fun _ h => h.2) (run m ρ))

end Cert.Mlp

end
-- ==== Proof.Mlp.Row.lean ====
/- The MLP of one row, forward and backward, over the extended reals: what the kernel computes of it, what differentiating the
    layer normalisation gives, and that on finite rows the two are one. -/
module

public import Idealize.ShloMosaic.PureOps.Ideal.Laws

@[expose] public section

set_option maxRecDepth 16384

noncomputable section

namespace Cert.Mlp

open Idealize.ShloMosaic

/-- A row's operands: the row and its target, its sequence's modulation, the weights. -/
structure Row where
  x : Fin 1024 → EReal
  target : Fin 1024 → EReal
  sh : Fin 1024 → EReal
  sc : Fin 1024 → EReal
  gate : Fin 1024 → EReal
  w1 : Fin 1024 → Fin 4096 → EReal
  b1 : Fin 4096 → EReal
  w2 : Fin 4096 → Fin 1024 → EReal
  b2 : Fin 1024 → EReal
  g : Fin 1024 → EReal
  b : Fin 1024 → EReal

/-- The literals of the two programs. -/
abbrev one : EReal := Ideal.ofBits .f32 0x3F800000#32
abbrev two : EReal := Ideal.ofBits .f32 0x40000000#32
abbrev half : EReal := Ideal.ofBits .f32 0x3F000000#32
abbrev minusHalf : EReal := Ideal.ofBits .f32 0xBF000000#32
abbrev alpha : EReal := Ideal.ofBits .f32 0x3F9837F0#32
abbrev width : EReal := Ideal.ofBits .f32 0x44800000#32
abbrev eps : EReal := Ideal.ofBits .f32 0x3727C5AC#32
abbrev perWidth : EReal := Ideal.ofBits .f32 0x3A800000#32

def mean (f : Fin 1024 → EReal) : EReal := Ideal.div (∑ k, f k) width

/-! The layer normalisation of a row `r` and its gradients: gain `g`, shift `b`, target `t`. -/

namespace Norm

variable (r g b t : Fin 1024 → EReal)

def xc (j : Fin 1024) : EReal := r j - mean r
def var : EReal := mean (fun j => xc r j * xc r j) + eps
def rstd : EReal := Ideal.rsqrt (var r)
def xhat (j : Fin 1024) : EReal := xc r j * rstd r

/-! A gradient `w` of the normalised row taken back to the row: as the kernels have it, -/

def back (w : Fin 1024 → EReal) (j : Fin 1024) : EReal :=
  rstd r * (w j - mean w - xhat r j * mean (fun k => w k * xhat r k))

/-! and as reverse differentiation has it: the gradients of the scaling, of the variance and of the mean added up. -/

def varBack (w : Fin 1024 → EReal) : EReal :=
  Ideal.div ((∑ k, xc r k * w k) * (minusHalf * Ideal.div (rstd r) (var r))) width
def rowBack (w : Fin 1024 → EReal) (j : Fin 1024) : EReal := w j * rstd r + xc r j * varBack r w + varBack r w * xc r j
def backSum (w : Fin 1024 → EReal) (j : Fin 1024) : EReal := rowBack r w j + Ideal.div (∑ k, -rowBack r w k) width

/-! The gradients of the loss of the normalised row against its target, as the two have them. -/

def err (j : Fin 1024) : EReal := xhat r j * g j + b j - t j
def dy (j : Fin 1024) : EReal := err r g b t j * perWidth
def dyg (j : Fin 1024) : EReal := dy r g b t j * g j
def dr : Fin 1024 → EReal := back r (dyg r g b t)
def dySq (j : Fin 1024) : EReal := Ideal.div (half * one) width * (two * err r g b t j)
def toVar : EReal := varBack r fun k => dySq r g b t k * g k
def toRow : Fin 1024 → EReal := rowBack r fun k => dySq r g b t k * g k
def drSum : Fin 1024 → EReal := backSum r fun k => dySq r g b t k * g k

theorem one_eq : one = ((1 : ℝ) : EReal) := by simp [Ideal.ofBits, Ideal.ieee, -EReal.coe_mul]; try norm_num
theorem two_eq : two = ((2 : ℝ) : EReal) := by simp [Ideal.ofBits, Ideal.ieee, -EReal.coe_mul]; try norm_num
theorem half_eq : half = ((1 / 2 : ℝ) : EReal) := by simp [Ideal.ofBits, Ideal.ieee, -EReal.coe_mul]; try norm_num
theorem minusHalf_eq : minusHalf = ((-(1 / 2) : ℝ) : EReal) := by simp [Ideal.ofBits, Ideal.ieee, -EReal.coe_mul]; try norm_num
theorem width_eq : width = ((1024 : ℝ) : EReal) := by simp [Ideal.ofBits, Ideal.ieee, -EReal.coe_mul]; try norm_num
theorem perWidth_eq : perWidth = ((1 / 1024 : ℝ) : EReal) := by simp [Ideal.ofBits, Ideal.ieee, -EReal.coe_mul]; try norm_num
theorem alpha_real : ∃ a : ℝ, alpha = (a : EReal) := by simp [Ideal.ofBits, Ideal.ieee, -EReal.coe_mul]
theorem eps_real : ∃ e : ℝ, 0 < e ∧ eps = (e : EReal) := by
  simp [Ideal.ofBits, Ideal.ieee, -EReal.coe_mul]

theorem coe_sum {ι : Type} (s : Finset ι) (f : ι → ℝ) : ∑ k ∈ s, (f k : EReal) = ((∑ k ∈ s, f k : ℝ) : EReal) := by
  classical
  induction s using Finset.induction_on with
  | empty => rfl
  | insert a s ha ih => rw [Finset.sum_insert ha, Finset.sum_insert ha, ih, EReal.coe_add]

theorem mean_coe (f : Fin 1024 → ℝ) : mean (fun k => (f k : EReal)) = (((∑ k, f k) / 1024 : ℝ) : EReal) := by
  unfold mean
  rw [width_eq, Ideal.div_coe (by norm_num), coe_sum, ← EReal.coe_mul]
  congr 1; ring

/-- A quotient by the width of a finite number. -/
theorem div_width (a : ℝ) : Ideal.div (a : EReal) width = ((a / 1024 : ℝ) : EReal) := by
  rw [width_eq, Ideal.div_coe (by norm_num), ← EReal.coe_mul]
  congr 1; ring

/-- A finite row normalises to a finite one. -/
theorem xhat_real (hr : ∀ j, ∃ a : ℝ, r j = a) (j : Fin 1024) : ∃ a : ℝ, xhat r j = a := by
  choose r' er using hr
  obtain rfl : r = fun j => (r' j : EReal) := funext er
  obtain ⟨e, he, ee⟩ := eps_real
  set x : Fin 1024 → ℝ := fun j => r' j - (∑ k, r' k) / 1024
  have exc : xc (fun j => (r' j : EReal)) = fun j => (x j : EReal) := by
    funext j; unfold xc; rw [mean_coe, ← EReal.coe_sub]
  have evar : var (fun j => (r' j : EReal)) = (((∑ k, x k * x k) / 1024 + e : ℝ) : EReal) := by
    unfold var; rw [exc, ee]; simp only [← EReal.coe_mul]; rw [mean_coe, ← EReal.coe_add]
  have hvpos : 0 < (∑ k, x k * x k) / 1024 + e := by
    have : 0 ≤ ∑ k, x k * x k := Finset.sum_nonneg fun k _ => mul_self_nonneg _
    positivity
  exact ⟨_, by unfold xhat rstd; rw [exc, evar, Ideal.rsqrt_coe, if_neg (not_lt.mpr hvpos.le), if_neg hvpos.ne', ← EReal.coe_mul]⟩

/-- On finite rows the two gradients are one. -/
theorem backSum_eq (w : Fin 1024 → EReal) (hr : ∀ j, ∃ a : ℝ, r j = a) (hw : ∀ j, ∃ a : ℝ, w j = a) (j : Fin 1024) :
    backSum r w j = back r w j := by
  choose r' er using hr
  choose d ed using hw
  obtain rfl : r = fun j => (r' j : EReal) := funext er
  obtain rfl : w = fun j => (d j : EReal) := funext ed
  obtain ⟨e, he, ee⟩ := eps_real
  set x : Fin 1024 → ℝ := fun j => r' j - (∑ k, r' k) / 1024 with hx
  have exc : xc (fun j => (r' j : EReal)) = fun j => (x j : EReal) := by
    funext j; unfold xc; rw [mean_coe, ← EReal.coe_sub]
  set v : ℝ := (∑ k, x k * x k) / 1024 + e with hv
  have evar : var (fun j => (r' j : EReal)) = (v : EReal) := by
    unfold var; rw [exc, ee]; simp only [← EReal.coe_mul]; rw [mean_coe, ← EReal.coe_add]
  have hvpos : 0 < v := by
    have : 0 ≤ ∑ k, x k * x k := Finset.sum_nonneg fun k _ => mul_self_nonneg _
    positivity
  set q : ℝ := (Real.sqrt v)⁻¹ with hq
  have erstd : rstd (fun j => (r' j : EReal)) = (q : EReal) := by
    unfold rstd; rw [evar, Ideal.rsqrt_coe, if_neg (not_lt.mpr hvpos.le), if_neg hvpos.ne']
  have hq2 : q * q = 1 / v := by
    rw [hq, ← mul_inv, Real.mul_self_sqrt hvpos.le, one_div]
  have exhat : xhat (fun j => (r' j : EReal)) = fun j => ((x j * q : ℝ) : EReal) := by
    funext j; unfold xhat; rw [exc, erstd, ← EReal.coe_mul]
  set S : ℝ := ∑ k, x k * d k with hS
  have evarBack : varBack (fun j => (r' j : EReal)) (fun j => (d j : EReal)) = ((S * (-(1 / 2) * (q * (1 / v))) / 1024 : ℝ) : EReal) := by
    unfold varBack
    simp only [exc, erstd, evar]
    rw [Ideal.div_coe hvpos.ne', minusHalf_eq]
    simp only [← EReal.coe_mul]
    rw [coe_sum, ← EReal.coe_mul, div_width]
  set w : ℝ := S * (-(1 / 2) * (q * (1 / v))) / 1024 with hw
  set R : Fin 1024 → ℝ := fun j => d j * q + x j * w + w * x j with hR
  have erowBack : rowBack (fun j => (r' j : EReal)) (fun j => (d j : EReal)) = fun j => (R j : EReal) := by
    funext j; unfold rowBack; rw [evarBack, exc, erstd]; simp only [← EReal.coe_mul, ← EReal.coe_add]; rfl
  unfold backSum back
  simp only [erowBack, exhat, erstd, mean_coe, ← EReal.coe_neg, ← EReal.coe_mul]
  rw [coe_sum, div_width, ← EReal.coe_add]
  simp only [← EReal.coe_mul, ← EReal.coe_sub]
  congr 1
  have hx0 : ∑ k, x k = 0 := by
    simp only [hx, Finset.sum_sub_distrib, Finset.sum_const, Finset.card_univ, Fintype.card_fin, nsmul_eq_mul]
    push_cast; ring
  have s1 : ∑ k, -R k = -(q * ∑ k, d k) := by
    have : ∑ k, R k = q * ∑ k, d k + 2 * w * ∑ k, x k := by
      rw [Finset.mul_sum, Finset.mul_sum, ← Finset.sum_add_distrib]
      exact Finset.sum_congr rfl fun k _ => by simp only [hR]; ring
    rw [Finset.sum_neg_distrib, this, hx0]; ring
  have s2 : ∑ k, d k * (x k * q) = q * S := by
    rw [hS, Finset.mul_sum]
    exact Finset.sum_congr rfl fun k _ => by ring
  rw [s1, s2]
  simp only [hR, hw, ← hq2]
  ring

/-- So are those of the loss. -/
theorem drSum_eq (hr : ∀ j, ∃ a : ℝ, r j = a) (hg : ∀ j, ∃ a : ℝ, g j = a) (hb : ∀ j, ∃ a : ℝ, b j = a) (ht : ∀ j, ∃ a : ℝ, t j = a)
    (j : Fin 1024) : drSum r g b t j = dr r g b t j := by
  choose x ex using xhat_real r hr
  choose g' eg using hg
  choose b' eb using hb
  choose t' et using ht
  have eerr : ∀ k, err r g b t k = ((x k * g' k + b' k - t' k : ℝ) : EReal) := fun k => by
    unfold err; rw [ex, eg, eb, et]; simp only [← EReal.coe_mul, ← EReal.coe_add, ← EReal.coe_sub]
  have edyg : dyg r g b t = fun k => (((x k * g' k + b' k - t' k) * (1 / 1024) * g' k : ℝ) : EReal) := by
    funext k; unfold dyg dy; rw [eerr, perWidth_eq, eg]; simp only [← EReal.coe_mul]
  have edySq : (fun k => dySq r g b t k * g k) = dyg r g b t := by
    funext k
    rw [edyg]; unfold dySq; rw [eerr, half_eq, one_eq, two_eq, ← EReal.coe_mul, div_width, eg]; simp only [← EReal.coe_mul]
    congr 1; ring
  unfold drSum dr
  rw [edySq]
  exact backSum_eq r _ hr (fun k => ⟨_, congrFun edyg k⟩) j

end Norm

/-! The row's values. -/

namespace Row

variable (C : Row)

def u (k : Fin 1024) : EReal := C.x k * (one + C.sc k) + C.sh k
def pre (j : Fin 4096) : EReal := (∑ k, C.u k * C.w1 k j) + C.b1 j
def relu (j : Fin 4096) : EReal := max (C.pre j) 0
def h (j : Fin 4096) : EReal := C.relu j * C.relu j
def o (j : Fin 1024) : EReal := (∑ k, C.h k * C.w2 k j) + C.b2 j
def r (j : Fin 1024) : EReal := alpha * C.x j + (one + C.gate j) * C.o j
def dr (j : Fin 1024) : EReal := Norm.dr C.r C.g C.b C.target j
def dout (j : Fin 1024) : EReal := (one + C.gate j) * C.dr j
def dhp (j : Fin 4096) : EReal := (∑ k, C.dout k * C.w2 j k) * (two * C.relu j)
def du (k : Fin 1024) : EReal := ∑ j, C.dhp j * C.w1 k j
def dx (k : Fin 1024) : EReal := alpha * C.dr k + C.du k * (one + C.sc k)

/-- A row all of whose operands are finite. -/
structure Finite : Prop where
  x : ∀ k, ∃ a : ℝ, C.x k = a
  target : ∀ k, ∃ a : ℝ, C.target k = a
  sh : ∀ k, ∃ a : ℝ, C.sh k = a
  sc : ∀ k, ∃ a : ℝ, C.sc k = a
  gate : ∀ k, ∃ a : ℝ, C.gate k = a
  w1 : ∀ k j, ∃ a : ℝ, C.w1 k j = a
  b1 : ∀ k, ∃ a : ℝ, C.b1 k = a
  w2 : ∀ k j, ∃ a : ℝ, C.w2 k j = a
  b2 : ∀ k, ∃ a : ℝ, C.b2 k = a
  g : ∀ k, ∃ a : ℝ, C.g k = a
  b : ∀ k, ∃ a : ℝ, C.b k = a

section

variable {a b : EReal} {n : ℕ} {f : Fin n → EReal}

theorem real_add (ha : ∃ x : ℝ, a = x) (hb : ∃ x : ℝ, b = x) : ∃ x : ℝ, a + b = x := by
  obtain ⟨x, rfl⟩ := ha; obtain ⟨y, rfl⟩ := hb; exact ⟨x + y, (EReal.coe_add x y).symm⟩
theorem real_mul (ha : ∃ x : ℝ, a = x) (hb : ∃ x : ℝ, b = x) : ∃ x : ℝ, a * b = x := by
  obtain ⟨x, rfl⟩ := ha; obtain ⟨y, rfl⟩ := hb; exact ⟨x * y, (EReal.coe_mul x y).symm⟩
theorem real_relu (ha : ∃ x : ℝ, a = x) : ∃ x : ℝ, max a 0 = x := by
  rcases max_choice a 0 with h | h
  · rw [h]; exact ha
  · rw [h]; exact ⟨0, rfl⟩
theorem real_sum (hf : ∀ k, ∃ x : ℝ, f k = x) : ∃ x : ℝ, ∑ k, f k = x := by
  choose g hg using hf
  exact ⟨∑ k, g k, by rw [← Norm.coe_sum]; exact Finset.sum_congr rfl fun k _ => hg k⟩

end

/-- A finite row's residual row is finite. -/
theorem r_real {C : Row} (H : C.Finite) (j : Fin 1024) : ∃ a : ℝ, C.r j = a := by
  have h1 : ∃ a : ℝ, one = a := ⟨1, Norm.one_eq⟩
  have hu : ∀ k, ∃ a : ℝ, C.u k = a := fun k => real_add (real_mul (H.x k) (real_add h1 (H.sc k))) (H.sh k)
  have hrelu : ∀ k, ∃ a : ℝ, C.relu k = a := fun k =>
    real_relu (real_add (real_sum fun i => real_mul (hu i) (H.w1 i k)) (H.b1 k))
  exact real_add (real_mul Norm.alpha_real (H.x j)) (real_mul (real_add h1 (H.gate j))
    (real_add (real_sum fun k => real_mul (real_mul (hrelu k) (hrelu k)) (H.w2 k j)) (H.b2 j)))

theorem drSum_eq {C : Row} (H : C.Finite) (j : Fin 1024) : Norm.drSum C.r C.g C.b C.target j = C.dr j :=
  Norm.drSum_eq _ _ _ _ (r_real H) H.g H.b H.target j

/-- The gradient through the squared rectifier, chosen by the sign of its argument, is the product with it. -/
theorem select_relu (p s : EReal) : (if 0 < p then s * (two * max p 0) else 0) = s * (two * max p 0) := by
  by_cases h : 0 < p
  · rw [if_pos h]
  · rw [if_neg h, max_eq_right (not_lt.mp h), mul_zero, mul_zero]

end Row

end Cert.Mlp

end
-- ==== Proof.Mlp.Layout.lean ====
/- Layouts at an entry: rows and columns laid over a block, the sums of a block's rows and columns, a row of the modulation, a row of
    a stack of vectors. -/
module

public import proofs.«01_k».proof.Proof.Mlp.Row
public import Idealize.ShloMosaic.Lib.MatmulPlain
public import Idealize.ShloMosaic.Lib.Pipeline.ValueKit.Geometry

@[expose] public section

set_option maxRecDepth 16384

noncomputable section

namespace Cert.Mlp

open Idealize.ShloMosaic Idealize.ShloMosaic.ValueIdx Idealize.ShloMosaic.TcCoe
open scoped BigOperators

variable {m n : ℕ}

/-- A vector laid under every row. -/
theorem row_bcast (v : FVec Ideal ⟨2, ![1, n]⟩ .f32) (h : Shape.Broadcasts ⟨2, ![1, n]⟩ ⟨2, ![m, n]⟩) (hn : n ≠ 1) (i : Fin m) (j : Fin n) :
    broadcastTo ⟨2, ![m, n]⟩ v h (ix2 i j) = v (ix2 0 j) := by
  refine broadcastTo_apply v h (ix2 i j) (ix2 0 j) fun a => ?_
  match a with
  | ⟨0, _⟩ => rfl
  | ⟨1, _⟩ => exact (if_neg hn).symm

/-- One plus a vector, under every row. -/
theorem one_add (i : Fin m) (v : FVec Ideal ⟨2, ![1, n]⟩ .f32) (h : Shape.Broadcasts ⟨2, ![1, n]⟩ ⟨2, ![m, n]⟩) (hn : n ≠ 1) (j : Fin n) :
    broadcastTo ⟨2, ![m, n]⟩ (addf (broadcast ⟨2, ![1, n]⟩ (Scalar.ofBits (F := Ideal) .f32 0x3F800000#32)) v) h (ix2 i j) = one + v (ix2 0 j) :=
  row_bcast _ h hn i j

/-- A column laid beside itself. -/
theorem col_bcast (v : FVec Ideal ⟨2, ![m, 1]⟩ .f32) (h : Shape.Broadcasts ⟨2, ![m, 1]⟩ ⟨2, ![m, 1024]⟩) (i : Fin m) (j : Fin 1024)
    (hm : m ≠ 1 := by omega) : broadcastTo ⟨2, ![m, 1024]⟩ v h (ix2 i j) = v (ix2 i 0) := by
  refine broadcastTo_apply v h (ix2 i j) (ix2 i 0) fun a => ?_
  match a with
  | ⟨0, _⟩ => exact (if_neg hm).symm
  | ⟨1, _⟩ => rfl

/-- The sums of the rows, as a column. -/
theorem row_sum (f : FVec Ideal ⟨2, ![m, 1024]⟩ .f32) (h : Shape.Reduces ⟨2, ![m, 1024]⟩ [1] ⟨1, ![m]⟩) (hφ : FKind.Formats .f32)
    (ha : (0x00000000#32 : BitVec 32) = FKind.add.neutral .f32 hφ) (hc : Shape.ShapeCasts ⟨1, ![m]⟩ ⟨2, ![m, 1]⟩) (i : Fin m) :
    shapeCast ⟨2, ![m, 1]⟩ (multiReduction .add [1] ⟨1, ![m]⟩ f 0x00000000#32 h hφ ha) hc (ix2 i 0) = ∑ k : Fin 1024, f (ix2 i k) := by
  refine (shapeCast_apply _ hc (ix2 i 0) (ix1 i) (by
    show (Shape.rowMajor _ (ix1 i)).val = (Shape.rowMajor _ (ix2 i (0 : Fin 1))).val
    rw [Shape.rowMajor_val_one, Shape.rowMajor_val_two]; show i.val = i.val * 1 + 0; omega)).trans ?_
  refine (Ideal.multiReduction_add_single f _ h hφ ha (ix1 i)).trans (Finset.sum_congr rfl fun k _ => congrArg f (funext fun d => ?_))
  match d with
  | ⟨0, _⟩ => rfl
  | ⟨1, _⟩ => rfl

/-- The means of the rows, laid over the rows. -/
theorem row_mean (f : FVec Ideal ⟨2, ![m, 1024]⟩ .f32) (h : Shape.Reduces ⟨2, ![m, 1024]⟩ [1] ⟨1, ![m]⟩) (hφ : FKind.Formats .f32)
    (ha : (0x00000000#32 : BitVec 32) = FKind.add.neutral .f32 hφ) (hc : Shape.ShapeCasts ⟨1, ![m]⟩ ⟨2, ![m, 1]⟩)
    (hb : Shape.Broadcasts ⟨2, ![m, 1]⟩ ⟨2, ![m, 1024]⟩) (i : Fin m) (j : Fin 1024) (hm : m ≠ 1 := by omega) :
    broadcastTo ⟨2, ![m, 1024]⟩ (divf (shapeCast ⟨2, ![m, 1]⟩ (multiReduction .add [1] ⟨1, ![m]⟩ f 0x00000000#32 h hφ ha) hc)
      (broadcast ⟨2, ![m, 1]⟩ (Scalar.ofBits (F := Ideal) .f32 0x44800000#32))) hb (ix2 i j) = mean fun k => f (ix2 i k) :=
  (col_bcast _ hb i j hm).trans (congrArg (Ideal.div · width) (row_sum f h hφ ha hc i))

/-- The sums of the columns, as a row. -/
theorem col_sum (f : FVec Ideal ⟨2, ![m, n]⟩ .f32) (h : Shape.Reduces ⟨2, ![m, n]⟩ [0] ⟨1, ![n]⟩) (hφ : FKind.Formats .f32)
    (ha : (0x00000000#32 : BitVec 32) = FKind.add.neutral .f32 hφ) (hc : Shape.ShapeCasts ⟨1, ![n]⟩ ⟨2, ![1, n]⟩) (j : Fin n) :
    shapeCast ⟨2, ![1, n]⟩ (multiReduction .add [0] ⟨1, ![n]⟩ f 0x00000000#32 h hφ ha) hc (ix2 0 j) = ∑ i : Fin m, f (ix2 i j) := by
  refine (shapeCast_addUnit_apply (n := 1) ![n] _ hc (ix2 0 j)).trans ?_
  refine (Ideal.multiReduction_add_single f _ h hφ ha _).trans (Finset.sum_congr rfl fun k _ => congrArg f (funext fun d => ?_))
  match d with
  | ⟨0, _⟩ => rfl
  | ⟨1, _⟩ => rfl

/-- A row of the modulation. -/
theorem mod_row (M : Vec Ideal ⟨3, ![1, 6, 1024]⟩ .f32) (hc : Shape.ShapeCasts ⟨3, ![1, 6, 1024]⟩ ⟨2, ![6, 1024]⟩) (q : ℕ) (p : Fin 6)
    (hp : p.val = q) (h : Shape.Slices ⟨2, ![6, 1024]⟩ ![q, 0] ⟨2, ![1, 1024]⟩) (j : Fin 1024) :
    extractStridedSlice ⟨2, ![1, 1024]⟩ ![q, 0] (shapeCast ⟨2, ![6, 1024]⟩ M hc) h (ix2 0 j) = M (ix3 0 p j) := by
  refine (extractStridedSlice_apply ![q, 0] _ h (ix2 0 j) (ix2 p j) fun a => ?_).trans ?_
  · match a with
    | ⟨0, _⟩ => exact hp
    | ⟨1, _⟩ => exact (Nat.zero_add _).symm
  · refine (shapeCast_dropUnit_apply (n := 2) ![6, 1024] M hc (ix2 p j)).trans (congrArg M (funext fun d => ?_))
    match d with
    | ⟨0, _⟩ => rfl
    | ⟨1, _⟩ => rfl
    | ⟨2, _⟩ => rfl

/-- A row of a stack of vectors. -/
theorem vec_row (V : Vec Ideal ⟨2, ![m, 1024]⟩ .f32) (q : ℕ) (p : Fin m) (hp : p.val = q)
    (h : ∀ a : Fin 2, (![q, 0] : Fin 2 → ℕ) a + (![1, 1024] : Fin 2 → ℕ) a ≤ (⟨2, ![m, 1024]⟩ : Shape).size a) (j : Fin 1024) :
    View.ld V (Rect.unit (s := ⟨2, ![m, 1024]⟩) ![q, 0] ![1, 1024] h) (ix2 0 j) = V (ix2 p j) := by
  refine congrArg V (funext fun d => Fin.ext ?_)
  match d with
  | ⟨0, _⟩ => show q + 1 * 0 = p.val; omega
  | ⟨1, _⟩ => show 0 + 1 * j.val = j.val; omega

theorem zero_acc {s : Shape} (y : s.Idx) : constant (F := Ideal) s .f32 0x00000000#32 y = (0 : EReal) := Ideal.ofBits_zero_f32

end Cert.Mlp

end
-- ==== Proof.Mlp.Pay.lean ====
/- The kernel's values at the entries of a block of rows: each is the row mathematics of the block's row. -/
module

public import proofs.«01_k».proof.Proof.Mlp.Step
public import proofs.«01_k».proof.Proof.Mlp.Layout

@[expose] public section

set_option maxRecDepth 16384

noncomputable section

namespace Cert.Mlp

open Idealize.ShloMosaic Idealize.ShloMosaic.ValueIdx Idealize.ShloMosaic.TcCoe
open Cert.MlpBlockIdeal Cert.MlpBlockIdeal.Gen
open scoped BigOperators

/-! ## The rows of a block -/

variable (I : In Ideal)

/-- A row of a block with what belongs to it. -/
def rowOf (i : Fin 256) : Row where
  x k := I.x (ix2 i k)
  target k := I.target (ix2 i k)
  sh k := I.mod (ix3 0 3 k)
  sc k := I.mod (ix3 0 4 k)
  gate k := I.mod (ix3 0 5 k)
  w1 k j := I.w1 (ix2 k j)
  b1 j := I.b1 (ix2 0 j)
  w2 k j := I.w2 (ix2 k j)
  b2 k := I.vec (ix2 0 k)
  g k := I.vec (ix2 1 k)
  b k := I.vec (ix2 2 k)

variable (i : Fin 256)

theorem bias_apply (j : Fin 1024) : I.bias (ix2 0 j) = (rowOf I i).b2 j := vec_row I.vec 0 0 rfl _ j
theorem gain_apply (j : Fin 1024) : I.gain (ix2 0 j) = (rowOf I i).g j := vec_row I.vec 1 1 rfl _ j
theorem shift_apply (j : Fin 1024) : I.shift (ix2 0 j) = (rowOf I i).b j := vec_row I.vec 2 2 rfl _ j
theorem sc_apply (j : Fin 1024) : k0_pay7 I.mod (ix2 0 j) = (rowOf I i).sc j := mod_row I.mod _ 4 4 rfl slices_S6x1024_o4_0_S1x1024 j
theorem gate_apply (j : Fin 1024) : k0_pay8 I.mod (ix2 0 j) = (rowOf I i).gate j := mod_row I.mod _ 5 5 rfl slices_S6x1024_o5_0_S1x1024 j

theorem u_apply (k : Fin 1024) : I.u (ix2 i k) = (rowOf I i).u k := by
  unfold In.u k0_pay10
  exact congrArg₂ (fun a b : EReal => a + b)
    (congrArg₂ (fun a b : EReal => a * b) (congrFun (shapeCast_self I.x _) (ix2 i k))
      ((one_add i _ _ (by omega) k).trans (congrArg (one + ·) (sc_apply I i k))))
    ((row_bcast _ _ (by omega) i k).trans (mod_row I.mod _ 3 3 rfl _ k))

theorem relu_apply (j : Fin 4096) : I.relu (ix2 i j) = (rowOf I i).relu j := by
  unfold In.relu k0_pay12
  refine congrArg₂ (fun a b : EReal => max a b) (congrArg₂ (fun a b : EReal => a + b) ?_ (row_bcast _ _ (by omega) i j)) Ideal.ofBits_zero_f32
  refine (Ideal.matmul_plain_apply (M := 256) (K := 1024) (N := 4096) none (k0_pay11 I.u) I.w1 _ i j).trans ?_
  rw [zero_acc, zero_add]
  exact Finset.sum_congr rfl fun k _ => congrArg (fun a : EReal => a * I.w1 (ix2 k j)) (u_apply I i k)

theorem h_apply (j : Fin 4096) : I.hB (ix2 i j) = (rowOf I i).h j :=
  congrArg₂ (fun a b : EReal => a * b) (relu_apply I i j) (relu_apply I i j)

theorem o_apply (j : Fin 1024) : I.o (ix2 i j) = (rowOf I i).o j := by
  unfold In.o k0_pay14
  refine congrArg₂ (fun a b : EReal => a + b) ?_ ((row_bcast _ _ (by omega) i j).trans
    ((congrFun (shapeCast_self I.bias _) (ix2 0 j)).trans (bias_apply I i j)))
  refine (Ideal.matmul_plain_apply (M := 256) (K := 4096) (N := 1024) none I.hB I.w2 _ i j).trans ?_
  rw [zero_acc, zero_add]
  exact Finset.sum_congr rfl fun k _ => congrArg (fun a : EReal => a * I.w2 (ix2 k j)) (h_apply I i k)

theorem centred_apply (j : Fin 1024) : I.centred (ix2 i j) = Norm.xc (rowOf I i).r j := by
  unfold In.centred k0_pay17
  have hr : ∀ k : Fin 1024, addf (mulf (broadcast S256x1024 (Scalar.ofBits (F := Ideal) .f32 0x3F9837F0#32)) (k0_pay9 I.x))
      (mulf (broadcastTo S256x1024 (addf (broadcast S1x1024 (Scalar.ofBits (F := Ideal) .f32 0x3F800000#32)) (k0_pay8 I.mod))
        broadcasts_S1x1024_S256x1024) (k0_pay14 I.u I.w1 I.b1 I.w2 I.bias)) (ix2 i k) = (rowOf I i).r k := fun k =>
    congrArg₂ (fun a b : EReal => a + b) (congrArg (alpha * ·) (congrFun (shapeCast_self I.x _) (ix2 i k)))
      (congrArg₂ (fun a b : EReal => a * b) ((one_add i _ _ (by omega) k).trans (congrArg (one + ·) (gate_apply I i k))) (o_apply I i k))
  exact congrArg₂ (fun a b : EReal => a - b) (hr j) ((row_mean _ _ _ _ _ _ i j).trans (congrArg mean (funext hr)))

theorem rstd_apply : k0_pay18 I.centred (ix2 i 0) = Norm.rstd (rowOf I i).r := by
  unfold k0_pay18
  refine congrArg (fun a : EReal => Ideal.rsqrt (Ideal.div a width + eps)) ((row_sum _ _ _ _ _ i).trans ?_)
  exact Finset.sum_congr rfl fun k _ => congrArg₂ (fun a b : EReal => a * b) (centred_apply I i k) (centred_apply I i k)

theorem xhat_apply (j : Fin 1024) : k0_pay19 I.centred (ix2 i j) = Norm.xhat (rowOf I i).r j := by
  unfold k0_pay19
  exact congrArg₂ (fun a b : EReal => a * b) (centred_apply I i j) ((col_bcast _ _ i j).trans (rstd_apply I i))

theorem err_apply (j : Fin 1024) : I.err (ix2 i j) = Norm.err (rowOf I i).r (rowOf I i).g (rowOf I i).b (rowOf I i).target j := by
  unfold In.err k0_pay20
  refine congrArg₂ (fun a b : EReal => a - b) (congrArg₂ (fun a b : EReal => a + b) (congrArg₂ (fun a b : EReal => a * b) (xhat_apply I i j) ?_) ?_)
    (congrFun (shapeCast_self I.target _) (ix2 i j))
  · exact (row_bcast _ _ (by omega) i j).trans ((congrFun (shapeCast_self I.gain _) (ix2 0 j)).trans (gain_apply I i j))
  · exact (row_bcast _ _ (by omega) i j).trans ((congrFun (shapeCast_self I.shift _) (ix2 0 j)).trans (shift_apply I i j))

theorem dy_apply (j : Fin 1024) : I.dy (ix2 i j) = Norm.dy (rowOf I i).r (rowOf I i).g (rowOf I i).b (rowOf I i).target j :=
  congrArg (fun a : EReal => a * perWidth) (err_apply I i j)

theorem dr_apply (j : Fin 1024) : I.dr (ix2 i j) = (rowOf I i).dr j := by
  unfold In.dr k0_pay22
  have hd : ∀ k : Fin 1024, mulf (k0_pay21 (k0_pay15 I.gain) (k0_pay16 I.shift) I.centred I.target)
      (broadcastTo S256x1024 (shapeCast S1x1024 I.gain shapeCasts_S1x1024_S1x1024) broadcasts_S1x1024_S256x1024) (ix2 i k)
      = Norm.dyg (rowOf I i).r (rowOf I i).g (rowOf I i).b (rowOf I i).target k := fun k =>
    congrArg₂ (fun a b : EReal => a * b) (dy_apply I i k)
      ((row_bcast _ _ (by omega) i k).trans ((congrFun (shapeCast_self I.gain _) (ix2 0 k)).trans (gain_apply I i k)))
  refine congrArg₂ (fun a b : EReal => a * b) ((col_bcast _ _ i j).trans (rstd_apply I i)) (congrArg₂ (fun a b : EReal => a - b)
    (congrArg₂ (fun a b : EReal => a - b) (hd j) ((row_mean _ _ _ _ _ _ i j).trans (congrArg mean (funext hd)))) ?_)
  exact congrArg₂ (fun a b : EReal => a * b) (xhat_apply I i j) ((row_mean _ _ _ _ _ _ i j).trans
    (congrArg mean (funext fun k => congrArg₂ (fun a b : EReal => a * b) (hd k) (xhat_apply I i k))))

theorem dout_apply (j : Fin 1024) : I.dout (ix2 i j) = (rowOf I i).dout j := by
  unfold In.dout k0_pay23
  exact congrArg₂ (fun a b : EReal => a * b) ((one_add i _ _ (by omega) j).trans (congrArg (one + ·) (gate_apply I i j))) (dr_apply I i j)

theorem dhp_apply (j : Fin 4096) : I.dhp (ix2 i j) = (rowOf I i).dhp j := by
  unfold In.dhp k0_pay29
  refine congrArg₂ (fun a b : EReal => a * b) ?_ (congrArg (two * ·) (relu_apply I i j))
  refine (Ideal.matmul_transposedRhs_apply (M := 256) (K := 1024) (N := 4096) none I.doutB I.w2 _ i j).trans ?_
  rw [zero_acc, zero_add]
  exact Finset.sum_congr rfl fun k _ => congrArg (fun a : EReal => a * I.w2 (ix2 j k)) (dout_apply I i k)

theorem du_apply (j : Fin 1024) : k0_pay32 I.dhp I.w1 (ix2 i j) = (rowOf I i).du j := by
  unfold k0_pay32
  refine (Ideal.matmul_transposedRhs_apply (M := 256) (K := 4096) (N := 1024) none I.dhpB I.w1 _ i j).trans ?_
  rw [zero_acc, zero_add]
  exact Finset.sum_congr rfl fun k _ => congrArg (fun a : EReal => a * I.w1 (ix2 j k)) (dhp_apply I i k)

theorem dx_apply (j : Fin 1024) : I.dx (ix2 i j) = (rowOf I i).dx j := by
  unfold In.dx k0_pay33
  exact congrArg₂ (fun a b : EReal => a + b) (congrArg (alpha * ·) (dr_apply I i j))
    (congrArg₂ (fun a b : EReal => a * b) (du_apply I i j) ((one_add i _ _ (by omega) j).trans (congrArg (one + ·) (sc_apply I i j))))

end Cert.Mlp

end
-- ==== Proof.Mlp.Ref.lean ====
/- The reference's values at the entries of a row: each is the row mathematics of the row, the layer normalisation's gradient in
    the form that reverse differentiation gives it. -/
module

public import proofs.«01_k».proof.Proof.Gen.MlpBlockRefIdeal.Read
public import proofs.«01_k».proof.Proof.Mlp.Row
public import proofs.«01_k».proof.Proof.Mlp.Place

@[expose] public section

set_option maxRecDepth 16384

noncomputable section

namespace Cert.Mlp

open Idealize.ShloMosaic Idealize.ShloMosaic.ValueIdx
open Cert.MlpBlockRefIdeal Cert.MlpBlockRefIdeal.Gen Cert.MlpBlockRefIdeal.Read
open scoped BigOperators

/-- The arguments. -/
structure Args where
  x : FVec Ideal S2x4096x1024 .f32
  target : FVec Ideal S2x4096x1024 .f32
  mod : FVec Ideal S2x6144 .f32
  w1 : FVec Ideal S1024x4096 .f32
  b1 : FVec Ideal S1x4096 .f32
  w2 : FVec Ideal S4096x1024 .f32
  b2 : FVec Ideal S1x1024 .f32
  g : FVec Ideal S1x1024 .f32
  b : FVec Ideal S1x1024 .f32

namespace Args

variable (A : Args)

/-- A row with what belongs to it. -/
def row (R : Fin 8192) : Row where
  x k := A.x (ix3 (seq R) (pos R) k)
  target k := A.target (ix3 (seq R) (pos R) k)
  sh k := A.mod (ix2 (seq R) ⟨3072 + k.val, by omega⟩)
  sc k := A.mod (ix2 (seq R) ⟨4096 + k.val, by omega⟩)
  gate k := A.mod (ix2 (seq R) ⟨5120 + k.val, by omega⟩)
  w1 k j := A.w1 (ix2 k j)
  b1 j := A.b1 (ix2 0 j)
  w2 k j := A.w2 (ix2 k j)
  b2 k := A.b2 (ix2 0 k)
  g k := A.g (ix2 0 k)
  b k := A.b (ix2 0 k)

/-! The reference's arrays. -/

abbrev u := val_main_v14 (F := Ideal) A.x A.mod
abbrev pre := val_main_v17 (F := Ideal) A.x A.mod A.w1 A.b1
abbrev relu := val_main_v18 (F := Ideal) A.x A.mod A.w1 A.b1
abbrev h := val_main_v22 (F := Ideal) A.x A.mod A.w1 A.b1
abbrev o := val_main_v27 (F := Ideal) A.x A.mod A.w1 A.b1 A.w2 A.b2
abbrev r := val_main_v36 (F := Ideal) A.x A.mod A.w1 A.b1 A.w2 A.b2
abbrev xc := val_main_v42 (F := Ideal) A.x A.mod A.w1 A.b1 A.w2 A.b2
abbrev var := val_main_v49 (F := Ideal) A.x A.mod A.w1 A.b1 A.w2 A.b2
abbrev rstd := val_main_v50 (F := Ideal) A.x A.mod A.w1 A.b1 A.w2 A.b2
abbrev xhat := val_main_v55 (F := Ideal) A.x A.mod A.w1 A.b1 A.w2 A.b2
abbrev err := val_main_v60 (F := Ideal) A.x A.target A.mod A.w1 A.b1 A.w2 A.b2 A.g A.b
abbrev dySq := val_main_v74 (F := Ideal) A.x A.target A.mod A.w1 A.b1 A.w2 A.b2 A.g A.b
abbrev toVar := val_main_v91 (F := Ideal) A.x A.target A.mod A.w1 A.b1 A.w2 A.b2 A.g A.b
abbrev toRow := val_main_v95 (F := Ideal) A.x A.target A.mod A.w1 A.b1 A.w2 A.b2 A.g A.b
abbrev dr := val_main_v103 (F := Ideal) A.x A.target A.mod A.w1 A.b1 A.w2 A.b2 A.g A.b
abbrev dout := val_main_v112 (F := Ideal) A.x A.target A.mod A.w1 A.b1 A.w2 A.b2 A.g A.b
abbrev dhp := val_main_v118 (F := Ideal) A.x A.target A.mod A.w1 A.b1 A.w2 A.b2 A.g A.b
abbrev du := val_main_v121 (F := Ideal) A.x A.target A.mod A.w1 A.b1 A.w2 A.b2 A.g A.b
abbrev dx := val_main_v137 (F := Ideal) A.x A.target A.mod A.w1 A.b1 A.w2 A.b2 A.g A.b

/-! ## Places -/

/-- A row's place in the array by sequences, -/
theorem by_seq (R : Fin 8192) (k : Fin 1024) : idx_main_v14 (ix2 R k) = ix3 (seq R) (pos R) k := by
  funext d
  match d with
  | ⟨0, _⟩ => exact Fin.ext (by show (R.val * 1024 + k.val) / 4194304 = R.val / 4096; omega)
  | ⟨1, _⟩ => exact Fin.ext (by show (R.val * 1024 + k.val) / 1024 % 4096 = R.val % 4096; omega)
  | ⟨2, _⟩ => exact Fin.ext (by show (R.val * 1024 + k.val) % 1024 = k.val; omega)

/-- and back. -/
theorem by_row (s : Fin 2) (p : Fin 4096) (k : Fin 1024) : idx_main_v28 (ix3 s p k) = ix2 (rowAt s p) k := by
  funext d
  match d with
  | ⟨0, _⟩ => exact Fin.ext (by show ((s.val * 4096 + p.val) * 1024 + k.val) / 1024 = s.val * 4096 + p.val; omega)
  | ⟨1, _⟩ => exact Fin.ext (by show ((s.val * 4096 + p.val) * 1024 + k.val) % 1024 = k.val; omega)

theorem by_row_seq (R : Fin 8192) (k : Fin 1024) : idx_main_v28 (ix3 (seq R) (pos R) k) = ix2 R k :=
  (by_row (seq R) (pos R) k).trans (by rw [rowAt_seq])

/-! ## Forward -/

section

variable (s : Fin 2) (p : Fin 4096) (k : Fin 1024)

theorem sh_apply : val_main_v12 (F := Ideal) A.mod (ix3 s p k) = A.mod (ix2 s ⟨3072 + k.val, by omega⟩) := by
  rw [val_main_v12_apply, val_main_v4_apply, val_main_v0_apply]
  exact congrArg A.mod (pair _ _ rfl rfl)

theorem sc_apply : val_main_v10 (F := Ideal) A.mod (ix3 s p k) = one + A.mod (ix2 s ⟨4096 + k.val, by omega⟩) := by
  rw [val_main_v10_apply, val_main_v9_apply, val_main_v5_apply, val_main_v0_apply, val_main_v8_apply]
  exact congrArg (fun a : EReal => one + a) (congrArg A.mod (pair _ _ rfl rfl))

theorem gate_apply : val_main_v33 (F := Ideal) A.mod (ix3 s p k) = one + A.mod (ix2 s ⟨5120 + k.val, by omega⟩) := by
  rw [val_main_v33_apply, val_main_v32_apply, val_main_v6_apply, val_main_v0_apply, val_main_v31_apply]
  exact congrArg (fun a : EReal => one + a) (congrArg A.mod (pair _ _ rfl rfl))

end

variable (R : Fin 8192)

theorem u_apply (k : Fin 1024) : A.u (ix2 R k) = (A.row R).u k := by
  rw [u, val_main_v14_apply, by_seq, val_main_v13_apply, val_main_v11_apply, sc_apply, sh_apply]
  rfl

theorem pre_apply (j : Fin 4096) : A.pre (ix2 R j) = (A.row R).pre j := by
  rw [pre, val_main_v17_apply, val_main_v15_apply, val_main_v16_apply]
  refine congrArg₂ (fun a b : EReal => a + b) (Finset.sum_congr rfl fun k _ => ?_) (congrArg A.b1 (pair _ _ rfl rfl))
  exact congrArg₂ (fun a b : EReal => a * b) ((congrArg A.u (pair R k rfl rfl)).trans (u_apply A R k)) (congrArg A.w1 (pair k j rfl rfl))

theorem relu_apply (j : Fin 4096) : A.relu (ix2 R j) = (A.row R).relu j := by
  rw [relu, val_main_v18_apply]
  exact congrArg₂ (fun a b : EReal => max a b) (pre_apply A R j) Ideal.ofBits_zero_f32

theorem h_apply (j : Fin 4096) : A.h (ix2 R j) = (A.row R).h j := by
  rw [h, val_main_v22_apply]
  exact congrArg₂ (fun a b : EReal => a * b) (relu_apply A R j) (relu_apply A R j)

theorem o_apply (j : Fin 1024) : A.o (ix2 R j) = (A.row R).o j := by
  rw [o, val_main_v27_apply, val_main_v25_apply, val_main_v26_apply]
  refine congrArg₂ (fun a b : EReal => a + b) (Finset.sum_congr rfl fun k _ => ?_) (congrArg A.b2 (pair _ _ rfl rfl))
  exact congrArg₂ (fun a b : EReal => a * b) ((congrArg A.h (pair R k rfl rfl)).trans (h_apply A R k)) (congrArg A.w2 (pair k j rfl rfl))

theorem r_apply (j : Fin 1024) : A.r (ix2 R j) = (A.row R).r j := by
  rw [r, val_main_v36_apply, show idx_main_v36 (ix2 R j) = ix3 (seq R) (pos R) j from by_seq R j, val_main_v35_apply, val_main_v34_apply,
    val_main_v30_apply, val_main_v28_apply, by_row_seq, gate_apply]
  exact congrArg (fun a : EReal => alpha * A.x (ix3 (seq R) (pos R) j) + (one + (A.row R).gate j) * a) (o_apply A R j)

/-! ## The layer normalisation -/

theorem xc_apply (j : Fin 1024) : A.xc (ix2 R j) = Norm.xc (A.row R).r j := by
  rw [xc, val_main_v42_apply, val_main_v41_apply, val_main_v40_apply, val_main_v38_apply, val_main_v37_apply]
  exact congrArg₂ (fun a b : EReal => a - b) (r_apply A R j) (congrArg (fun a : EReal => Ideal.div a width)
    (sum_from Ideal.ofBits_zero_f32 fun k => (congrArg A.r (pair R k rfl rfl)).trans (r_apply A R k)))

theorem var_apply : A.var (ix2 R 0) = Norm.var (A.row R).r := by
  rw [var, val_main_v49_apply, val_main_v47_apply, val_main_v45_apply, val_main_v44_apply]
  refine congrArg (fun a : EReal => Ideal.div a width + eps) (sum_from Ideal.ofBits_zero_f32 fun k => ?_)
  rw [show idx_main_v44 (idx_main_v45 (ix2 R 0)) k = ix2 R k from pair R k rfl rfl, val_main_v43_apply]
  exact congrArg₂ (fun a b : EReal => a * b) (xc_apply A R k) (xc_apply A R k)

theorem rstd_apply : A.rstd (ix2 R 0) = Norm.rstd (A.row R).r := by
  rw [rstd, val_main_v50_apply]
  exact congrArg Ideal.rsqrt (var_apply A R)

theorem xhat_apply (j : Fin 1024) : A.xhat (ix2 R j) = Norm.xhat (A.row R).r j := by
  rw [xhat, val_main_v55_apply, val_main_v54_apply]
  exact congrArg₂ (fun a b : EReal => a * b) (xc_apply A R j) ((congrArg A.rstd (pair R 0 rfl rfl)).trans (rstd_apply A R))

theorem err_apply (j : Fin 1024) : A.err (ix2 R j) = Norm.err (A.row R).r (A.row R).g (A.row R).b (A.row R).target j := by
  rw [err, val_main_v60_apply, val_main_v59_apply, val_main_v57_apply, val_main_v56_apply, val_main_v58_apply, val_main_v7_apply,
    show idx_main_v7 (ix2 R j) = ix3 (seq R) (pos R) j from by_seq R j]
  exact congrArg (fun a : EReal => a - A.target (ix3 (seq R) (pos R) j)) (congrArg₂ (fun a b : EReal => a + b)
    (congrArg₂ (fun a b : EReal => a * b) (xhat_apply A R j) (congrArg A.g (pair 0 j rfl rfl))) (congrArg A.b (pair 0 j rfl rfl)))

theorem dySq_apply (j : Fin 1024) : A.dySq (ix2 R j) = Norm.dySq (A.row R).r (A.row R).g (A.row R).b (A.row R).target j := by
  rw [dySq, val_main_v74_apply, val_main_v73_apply, val_main_v72_apply, val_main_v70_apply, val_main_v69_apply, val_main_v63_apply]
  exact congrArg (fun a : EReal => Ideal.div (half * one) width * (two * a)) (err_apply A R j)

theorem dySq_g_apply (j : Fin 1024) : val_main_v81 (F := Ideal) A.x A.target A.mod A.w1 A.b1 A.w2 A.b2 A.g A.b (ix2 R j)
    = Norm.dySq (A.row R).r (A.row R).g (A.row R).b (A.row R).target j * (A.row R).g j := by
  rw [val_main_v81_apply, val_main_v80_apply]
  exact congrArg₂ (fun a b : EReal => a * b) (dySq_apply A R j) (congrArg A.g (pair 0 j rfl rfl))

theorem toVar_apply (j : Fin 1024) : A.toVar (ix2 R j) = Norm.toVar (A.row R).r (A.row R).g (A.row R).b (A.row R).target := by
  rw [toVar, val_main_v91_apply, val_main_v90_apply]
  refine sum_one Ideal.ofBits_zero_f32 ?_
  rw [val_main_v89_apply, val_main_v87_apply, val_main_v84_apply, val_main_v83_apply, val_main_v53_apply, val_main_v51_apply]
  have ei : idx_main_v90 (idx_main_v91 (ix2 R j)) 0 = ix2 R 0 := pair R 0 rfl rfl
  rw [ei]
  refine congrArg (fun a : EReal => Ideal.div a width) (congrArg₂ (fun a b : EReal => a * b) (sum_from Ideal.ofBits_zero_f32 fun k => ?_)
    (congrArg₂ (fun a b : EReal => minusHalf * Ideal.div a b) (rstd_apply A R) (var_apply A R)))
  rw [show idx_main_v83 (idx_main_v84 (ix2 R 0)) k = ix2 R k from pair R k (Fin.ext (by show R.val * 1 + 0 = R.val; omega)) rfl, val_main_v82_apply]
  exact congrArg₂ (fun a b : EReal => a * b) (xc_apply A R k) (dySq_g_apply A R k)

theorem toRow_apply (j : Fin 1024) : A.toRow (ix2 R j) = Norm.toRow (A.row R).r (A.row R).g (A.row R).b (A.row R).target j := by
  rw [toRow, val_main_v95_apply, val_main_v93_apply, val_main_v86_apply, val_main_v85_apply, val_main_v92_apply, val_main_v94_apply]
  exact congrArg₂ (fun a b : EReal => a + b) (congrArg₂ (fun a b : EReal => a + b)
    (congrArg₂ (fun a b : EReal => a * b) (dySq_g_apply A R j) ((congrArg A.rstd (pair R 0 rfl rfl)).trans (rstd_apply A R)))
    (congrArg₂ (fun a b : EReal => a * b) (xc_apply A R j) (toVar_apply A R j)))
    (congrArg₂ (fun a b : EReal => a * b) (toVar_apply A R j) (xc_apply A R j))

theorem drSum_apply (j : Fin 1024) : A.dr (ix2 R j) = Norm.drSum (A.row R).r (A.row R).g (A.row R).b (A.row R).target j := by
  rw [dr, val_main_v103_apply, val_main_v102_apply, val_main_v101_apply]
  refine congrArg₂ (fun a b : EReal => a + b) (toRow_apply A R j) (sum_one Ideal.ofBits_zero_f32 ?_)
  rw [val_main_v100_apply, val_main_v98_apply, val_main_v97_apply]
  refine congrArg (fun a : EReal => Ideal.div a width) (sum_from Ideal.ofBits_zero_f32 fun k => ?_)
  rw [show idx_main_v97 (idx_main_v98 (idx_main_v101 (idx_main_v102 (ix2 R j)) 0)) k = ix2 R k from
    pair R k (Fin.ext (by show R.val * 1 + 0 = R.val; omega)) rfl, val_main_v96_apply]
  exact congrArg (fun a : EReal => -a) (toRow_apply A R k)

/-! ## Backward, on finite rows -/

variable (H : ∀ R, (A.row R).Finite)
include H

theorem dr_apply (j : Fin 1024) : A.dr (ix2 R j) = (A.row R).dr j := (drSum_apply A R j).trans (Row.drSum_eq (H R) j)

theorem dr_seq_apply (j : Fin 1024) : val_main_v104 (F := Ideal) A.x A.target A.mod A.w1 A.b1 A.w2 A.b2 A.g A.b (ix3 (seq R) (pos R) j)
    = (A.row R).dr j := by
  rw [val_main_v104_apply, show idx_main_v104 (ix3 (seq R) (pos R) j) = ix2 R j from by_row_seq R j]
  exact dr_apply A R H j

theorem dout_apply (j : Fin 1024) : A.dout (ix2 R j) = (A.row R).dout j := by
  rw [dout, val_main_v112_apply, show idx_main_v112 (ix2 R j) = ix3 (seq R) (pos R) j from by_seq R j, val_main_v106_apply]
  exact congrArg₂ (fun a b : EReal => a * b) (gate_apply A (seq R) (pos R) j) (dr_seq_apply A R H j)

theorem dhp_apply (j : Fin 4096) : A.dhp (ix2 R j) = (A.row R).dhp j := by
  have e : val_main_v116 (F := Ideal) A.x A.target A.mod A.w1 A.b1 A.w2 A.b2 A.g A.b (ix2 R j) = (A.row R).dhp j := by
    rw [val_main_v116_apply, val_main_v115_apply, val_main_v24_apply]
    refine congrArg₂ (fun a b : EReal => a * b) (Finset.sum_congr rfl fun k _ => ?_) (congrArg (fun a : EReal => two * a) (relu_apply A R j))
    exact congrArg₂ (fun a b : EReal => a * b) ((congrArg A.dout (pair R k rfl rfl)).trans (dout_apply A R H k)) (congrArg A.w2 (pair j k rfl rfl))
  rw [dhp, val_main_v118_apply, e, val_main_v20_apply, show val_main_v17 (F := Ideal) A.x A.mod A.w1 A.b1 (ix2 R j) = (A.row R).pre j from pre_apply A R j]
  have ez : val_main_v19 (F := Ideal) (ix2 R j) = (0 : EReal) := Ideal.ofBits_zero_f32
  have ez' : val_main_v117 (F := Ideal) (ix2 R j) = (0 : EReal) := Ideal.ofBits_zero_f32
  rw [ez, ez']
  refine Eq.trans ?_ (Row.select_relu ((A.row R).pre j) (∑ k, (A.row R).dout k * (A.row R).w2 j k))
  show Scalar.select (BitVec.ofBool (decide (0 < (A.row R).pre j))) ((A.row R).dhp j) 0 = _
  by_cases hp : 0 < (A.row R).pre j
  · rw [if_pos hp, decide_eq_true hp]; rfl
  · rw [if_neg hp, decide_eq_false hp]; rfl

theorem du_apply (j : Fin 1024) : A.du (ix2 R j) = (A.row R).du j := by
  rw [du, val_main_v121_apply]
  refine Finset.sum_congr rfl fun k _ => ?_
  exact congrArg₂ (fun a b : EReal => a * b) ((congrArg A.dhp (pair R k rfl rfl)).trans (dhp_apply A R H k)) (congrArg A.w1 (pair j k rfl rfl))

theorem du_seq_apply (j : Fin 1024) : val_main_v122 (F := Ideal) A.x A.target A.mod A.w1 A.b1 A.w2 A.b2 A.g A.b (ix3 (seq R) (pos R) j)
    = (A.row R).du j := by
  rw [val_main_v122_apply, show idx_main_v122 (ix3 (seq R) (pos R) j) = ix2 R j from by_row_seq R j]
  exact du_apply A R H j

theorem dx_apply (j : Fin 1024) : A.dx (ix2 R j) = (A.row R).dx j := by
  rw [dx, val_main_v137_apply, show idx_main_v137 (ix2 R j) = ix3 (seq R) (pos R) j from by_seq R j, val_main_v136_apply, val_main_v111_apply,
    val_main_v129_apply]
  exact congrArg₂ (fun a b : EReal => a + b) (congrArg (fun a : EReal => alpha * a) (dr_seq_apply A R H j))
    (congrArg₂ (fun a b : EReal => a * b) (du_seq_apply A R H j) (sc_apply A (seq R) (pos R) j))

end Args

end Cert.Mlp

end
-- ==== Proof.Mlp.Host.lean ====
/- What the kernel's region finds in the arrays that the host made of the arguments, and a point's rows as rows of the arguments. -/
module

public import proofs.«01_k».proof.Proof.Mlp.Frame
public import proofs.«01_k».proof.Proof.Mlp.Pay
public import proofs.«01_k».proof.Proof.Mlp.Ref
public import Idealize.ShloMosaic.Lib.StableHlo.Run

@[expose] public section

set_option maxRecDepth 16384

noncomputable section

namespace Cert.Mlp

open Idealize.ShloMosaic Idealize.ShloMosaic.ValueIdx Idealize.ShloMosaic.TcCoe
open Cert.MlpBlockIdeal Cert.MlpBlockIdeal.Gen

section

variable {F : FTy → Type} [FloatOps F] (m : (ℓ : Loc nD τ sig) → Buf (Elt F) ℓ) (c : Dev nD)

theorem V_mod : V m c main_v0 = shapeCast S2x6x1024 (m ((c : Thread nD τ).loc main_arg2) : FVec F S2x6144 .f32) shapeCasts_S2x6144_S2x6x1024 := by
  show StableHlo.after hostOps0 _ (Proc.devRef .tc main_v0) = _
  after_results
  rfl

theorem V_w1 : V m c main_v3 = truncf .bf16 (transpose S8x1024x512 [1, 0, 2]
    (shapeCast S1024x8x512 (m ((c : Thread nD τ).loc main_arg3) : FVec F S1024x4096 .f32) shapeCasts_S1024x4096_S1024x8x512)
      transposes_S1024x8x512_S8x1024x512_1_0_2) bitsLt_bf16_f32 := by
  show StableHlo.after hostOps0 _ (Proc.devRef .tc main_v3) = _
  after_results
  rfl

theorem V_w2 : V m c main_v9 = truncf .bf16 (m ((c : Thread nD τ).loc main_arg5) : FVec F S4096x1024 .f32) bitsLt_bf16_f32 := by
  show StableHlo.after hostOps0 _ (Proc.devRef .tc main_v9) = _
  after_results

theorem V_x : V m c main_v7 = shapeCast S8192x1024 (m ((c : Thread nD τ).loc main_arg0) : FVec F S2x4096x1024 .f32) shapeCasts_S2x4096x1024_S8192x1024 := by
  show StableHlo.after hostOps0 _ (Proc.devRef .tc main_v7) = _
  after_results
  rfl

theorem V_target : V m c main_v8 = shapeCast S8192x1024 (m ((c : Thread nD τ).loc main_arg1) : FVec F S2x4096x1024 .f32) shapeCasts_S2x4096x1024_S8192x1024 := by
  show StableHlo.after hostOps0 _ (Proc.devRef .tc main_v8) = _
  after_results
  rfl

theorem V_vec : V m c main_v6 = concatenate S8x1024 0 [⟨S3x1024, concatenate S3x1024 0
      [⟨S1x1024, (m ((c : Thread nD τ).loc main_arg6) : FVec F S1x1024 .f32)⟩, ⟨S1x1024, (m ((c : Thread nD τ).loc main_arg7) : FVec F S1x1024 .f32)⟩,
        ⟨S1x1024, (m ((c : Thread nD τ).loc main_arg8) : FVec F S1x1024 .f32)⟩] concatenates_S1x1024_S1x1024_S1x1024_S3x1024_d0⟩,
    ⟨S5x1024, broadcastInDim S5x1024 ![] bcast_S_S5x1024 (constant (F := F) S_ .f32 0x00000000#32)⟩] concatenates_S3x1024_S5x1024_S8x1024_d0 := by
  show StableHlo.after hostOps0 _ (Proc.devRef .tc main_v6) = _
  after_results
  rfl

end

end Cert.Mlp

end
-- ==== Proof.Mlp.Blocks.lean ====
/- A point's blocks hold rows of the arguments: row `i` of point `t` is row `256 t + i`, in the second sequence from point 16 on. -/
module

public import proofs.«01_k».proof.Proof.Mlp.Host

@[expose] public section

set_option maxRecDepth 16384

noncomputable section

namespace Cert.Mlp

open Idealize.ShloMosaic Idealize.ShloMosaic.ValueIdx Idealize.ShloMosaic.TcCoe
open Cert.MlpBlockIdeal Cert.MlpBlockIdeal.Gen

variable (m : (ℓ : Loc nD τ sig) → Buf (Elt Ideal) ℓ) (c : Dev nD)

/-- The device's arguments. -/
def args : Args where
  x := m ((c : Thread nD τ).loc main_arg0)
  target := m ((c : Thread nD τ).loc main_arg1)
  mod := m ((c : Thread nD τ).loc main_arg2)
  w1 := m ((c : Thread nD τ).loc main_arg3)
  b1 := m ((c : Thread nD τ).loc main_arg4)
  w2 := m ((c : Thread nD τ).loc main_arg5)
  b2 := m ((c : Thread nD τ).loc main_arg6)
  g := m ((c : Thread nD τ).loc main_arg7)
  b := m ((c : Thread nD τ).loc main_arg8)

/-- The row of the whole that is row `i` of block `t`. -/
def rowIn (t : Fin cfg0.N) (i : Fin 256) : Fin 8192 :=
  ⟨256 * t.val + i.val, by have : t.val < 32 := lt_of_lt_of_eq t.isLt (show cfg0.N = 32 from N_0); omega⟩

theorem index_facts : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 3) = t.val / 16 ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)

theorem x_apply (t : Fin cfg0.N) (i : Fin 256) (k : Fin 1024) :
    (blocks m c t).x (ix2 i k) = (args m c).x (ix3 (seq (rowIn t i)) (pos (rowIn t i)) k) := by
  obtain ⟨⟨e0, e1⟩, -⟩ := index_facts t
  show V m c main_v7 (((cfg0.win 0).blk t).view.emb (ix2 i k)) = _
  rw [V_x, show ((cfg0.win 0).blk t).view.emb (ix2 i k) = ix2 (rowIn t i) k from funext fun d => Fin.ext (match d with
    | ⟨0, _⟩ => by show win0_0.index t (0 : Fin 2) * 256 + 1 * i.val = 256 * t.val + i.val; omega
    | ⟨1, _⟩ => by show win0_0.index t (1 : Fin 2) * 1024 + 1 * k.val = k.val; omega)]
  exact rows_apply (args m c).x _ (rowIn t i) k

theorem target_apply (t : Fin cfg0.N) (i : Fin 256) (k : Fin 1024) :
    (blocks m c t).target (ix2 i k) = (args m c).target (ix3 (seq (rowIn t i)) (pos (rowIn t i)) k) := by
  obtain ⟨-, ⟨e0, e1⟩, -⟩ := index_facts t
  show V m c main_v8 (((cfg0.win 1).blk t).view.emb (ix2 i k)) = _
  rw [V_target, show ((cfg0.win 1).blk t).view.emb (ix2 i k) = ix2 (rowIn t i) k from funext fun d => Fin.ext (match d with
    | ⟨0, _⟩ => by show win0_1.index t (0 : Fin 2) * 256 + 1 * i.val = 256 * t.val + i.val; omega
    | ⟨1, _⟩ => by show win0_1.index t (1 : Fin 2) * 1024 + 1 * k.val = k.val; omega)]
  exact rows_apply (args m c).target _ (rowIn t i) k

theorem mod_apply (t : Fin cfg0.N) (i : Fin 256) (q : Fin 6) (k : Fin 1024) (l : Fin 6144) (hl : l.val = 1024 * q.val + k.val) :
    (blocks m c t).mod (ix3 0 q k) = (args m c).mod (ix2 (seq (rowIn t i)) l) := by
  have hN : t.val < 32 := lt_of_lt_of_eq t.isLt (show cfg0.N = 32 from N_0)
  obtain ⟨-, -, ⟨e0, e1, e2⟩, -⟩ := index_facts t
  show V m c main_v0 (((cfg0.win 2).blk t).view.emb (ix3 0 q k)) = _
  rw [V_mod, show ((cfg0.win 2).blk t).view.emb (ix3 0 q k) = ix3 (seq (rowIn t i)) q k from funext fun d => Fin.ext (match d with
    | ⟨0, _⟩ => by show win0_2.index t (0 : Fin 3) * 1 + 1 * 0 = (256 * t.val + i.val) / 4096; omega
    | ⟨1, _⟩ => by show win0_2.index t (1 : Fin 3) * 6 + 1 * q.val = q.val; omega
    | ⟨2, _⟩ => by show win0_2.index t (2 : Fin 3) * 1024 + 1 * k.val = k.val; omega)]
  exact shapeCast_apply (args m c).mod _ _ _ (by
    rw [Shape.rowMajor_val_three, Shape.rowMajor_val_two]
    show (seq (rowIn t i)).val * 6144 + l.val = ((seq (rowIn t i)).val * 6 + q.val) * 1024 + k.val
    omega)

theorem b1_apply (t : Fin cfg0.N) (j : Fin 4096) : (blocks m c t).b1 (ix2 0 j) = (args m c).b1 (ix2 0 j) := by
  obtain ⟨-, -, -, -, e0, e1⟩ := index_facts t
  show V m c main_arg4 (((cfg0.win 4).blk t).view.emb (ix2 0 j)) = _
  rw [V_main_arg4]
  refine congrArg (args m c).b1 (funext fun d => Fin.ext ?_)
  match d with
  | ⟨0, _⟩ => show win0_4.index t (0 : Fin 2) * 1 + 1 * 0 = 0; omega
  | ⟨1, _⟩ => show win0_4.index t (1 : Fin 2) * 4096 + 1 * j.val = j.val; omega

/-- The three vectors, one under the other. -/
theorem vec_apply (t : Fin cfg0.N) (q : Fin 8) (k : Fin 1024) (e : FVec Ideal S1x1024 .f32) (hq : q.val < 3)
    (he : [(args m c).b2, (args m c).g, (args m c).b][q.val]? = some e) : (blocks m c t).vec (ix2 q k) = e (ix2 0 k) := by
  obtain ⟨-, -, -, ⟨e0, e1⟩, -⟩ := index_facts t
  show V m c main_v6 (((cfg0.win 3).blk t).view.emb (ix2 q k)) = _
  rw [V_vec, show ((cfg0.win 3).blk t).view.emb (ix2 q k) = ix2 q k from funext fun d => Fin.ext (match d with
    | ⟨0, _⟩ => by show win0_3.index t (0 : Fin 2) * 8 + 1 * q.val = q.val; omega
    | ⟨1, _⟩ => by show win0_3.index t (1 : Fin 2) * 1024 + 1 * k.val = k.val; omega)]
  refine (concatenate_pair_apply_left (t := S8x1024) (s₁ := S3x1024) (s₂ := S5x1024) 0 _ _ _ (ix2 q k) rfl (ix2 (⟨q.val, hq⟩ : Fin 3) k) (fun d => ?_)).trans ?_
  · match d with
    | ⟨0, _⟩ => rfl
    | ⟨1, _⟩ => rfl
  refine concatenate_apply_piece (t := S3x1024) 0 _ _ (ix2 (⟨q.val, hq⟩ : Fin 3) k) q.val (by show q.val < 3; exact hq) S1x1024 e ?_ rfl q.val ?_
    (ix2 0 k) (fun d hd => ?_) (by show q.val + 0 = q.val; rfl)
  · obtain ⟨q, hq8⟩ := q
    dsimp only at hq he
    have : q = 0 ∨ q = 1 ∨ q = 2 := by omega
    rcases this with rfl | rfl | rfl <;> (have := Option.some.inj he; subst this; rfl)
  · obtain ⟨q, hq8⟩ := q
    dsimp only at hq he
    have : q = 0 ∨ q = 1 ∨ q = 2 := by omega
    rcases this with rfl | rfl | rfl <;> rfl
  · match d with
    | ⟨0, _⟩ => exact absurd rfl hd
    | ⟨1, _⟩ => rfl

theorem w1_apply (t : Fin cfg0.N) (k : Fin 1024) (j : Fin 4096) : (blocks m c t).w1 (ix2 k j) = (args m c).w1 (ix2 k j) := by
  show V m c main_v3 (ix3 (⟨j.val / 512, by omega⟩ : Fin 8) k (⟨j.val % 512, by omega⟩ : Fin 512)) = _
  rw [V_w1]
  show transpose S8x1024x512 [1, 0, 2] (shapeCast S1024x8x512 (args m c).w1 shapeCasts_S1024x4096_S1024x8x512) _ _ = _
  refine (transpose_apply _ _ _ _ (ix3 k (⟨j.val / 512, by omega⟩ : Fin 8) (⟨j.val % 512, by omega⟩ : Fin 512)) (fun d => ?_)).trans ?_
  · match d with
    | ⟨0, _⟩ => rfl
    | ⟨1, _⟩ => rfl
    | ⟨2, _⟩ => rfl
  · exact shapeCast_apply (args m c).w1 _ _ _ (by
      rw [Shape.rowMajor_val_three, Shape.rowMajor_val_two]
      show k.val * 4096 + j.val = (k.val * 8 + j.val / 512) * 512 + j.val % 512
      omega)

theorem w2_apply (t : Fin cfg0.N) (k : Fin 4096) (j : Fin 1024) : (blocks m c t).w2 (ix2 k j) = (args m c).w2 (ix2 k j) := by
  show V m c main_v9 (ix2 k j) = _
  rw [V_w2]
  rfl

/-- A row of a point's blocks is that row of the arguments. -/
theorem row_eq (t : Fin cfg0.N) (i : Fin 256) : rowOf (blocks m c t) i = (args m c).row (rowIn t i) := by
  unfold rowOf Args.row
  rw [Row.mk.injEq]
  exact ⟨funext fun k => x_apply m c t i k, funext fun k => target_apply m c t i k,
    funext fun k => mod_apply m c t i 3 k _ rfl, funext fun k => mod_apply m c t i 4 k _ rfl, funext fun k => mod_apply m c t i 5 k _ rfl,
    funext fun k => funext fun j => w1_apply m c t k j, funext fun j => b1_apply m c t j, funext fun k => funext fun j => w2_apply m c t k j,
    funext fun k => vec_apply m c t 0 k _ (by decide) rfl, funext fun k => vec_apply m c t 1 k _ (by decide) rfl,
    funext fun k => vec_apply m c t 2 k _ (by decide) rfl⟩

end Cert.Mlp

end
-- ==== Proof.Mlp.Rows.lean ====
/- The five arrays that the kernel writes block by block: at every row they hold the row mathematics of the arguments' row. -/
module

public import proofs.«01_k».proof.Proof.Mlp.Blocks
public import Idealize.ShloMosaic.Lib.Pipeline.ValueKit.Geometry

@[expose] public section

set_option maxRecDepth 16384

noncomputable section

namespace Cert.Mlp

open Idealize.ShloMosaic Idealize.ShloMosaic.ValueIdx Idealize.ShloMosaic.TcCoe
open Idealize.ShloMosaic.Pipeline (Dat)
open Cert.MlpBlockIdeal Cert.MlpBlockIdeal.Gen

variable (m : (ℓ : Loc nD τ sig) → Buf (Elt Ideal) ℓ) (c : Dev nD)

/-- A function of the rows as an array. -/
def Args.rows (A : Args) {n : ℕ} (f : Row → Fin n → EReal) : Shape.Idx ⟨2, ![8192, n]⟩ → EReal := fun y => f (A.row (y 0)) (y 1)

theorem out_facts : ∀ t : Fin cfg0.N, (win0_5.index t (0 : Fin 2) = t.val ∧ win0_5.index t (1 : Fin 2) = 0)
    ∧ (win0_6.index t (0 : Fin 2) = t.val ∧ win0_6.index t (1 : Fin 2) = 0) ∧ (win0_7.index t (0 : Fin 2) = t.val ∧ win0_7.index t (1 : Fin 2) = 0)
    ∧ (win0_8.index t (0 : Fin 2) = t.val ∧ win0_8.index t (1 : Fin 2) = 0) ∧ (win0_9.index t (0 : Fin 2) = t.val ∧ win0_9.index t (1 : Fin 2) = 0) :=
  (by decide +kernel : ∀ t : Fin grid0.N, _)

/-- A block of rows at an entry is the array's block there. -/
theorem block_rows {n : ℕ} (t : Fin cfg0.N) (f : Row → Fin n → EReal) (B : Shape.Idx ⟨2, ![256, n]⟩ → EReal)
    (hB : ∀ i j, B (ix2 i j) = f (rowOf (blocks m c t) i) j) (z : Shape.Idx ⟨2, ![256, n]⟩) (y : Shape.Idx ⟨2, ![8192, n]⟩)
    (h0 : (y 0).val = 256 * t.val + (z 0).val) (h1 : (y 1).val = (z 1).val) : B z = (args m c).rows f y := by
  have ez : z = ix2 (z 0) (z 1) := funext fun d => by
    match d with
    | ⟨0, _⟩ => rfl
    | ⟨1, _⟩ => rfl
  have e0 : y 0 = rowIn t (z 0) := Fin.ext h0
  have e1 : y 1 = z 1 := Fin.ext h1
  exact (congrArg B ez).trans ((hB (z 0) (z 1)).trans
    (congrArg₂ (fun R j => f R j) ((row_eq m c t (z 0)).trans (congrArg (args m c).row e0.symm)) e1.symm))

theorem final_dx : (dats m 0 c).arrAt 5 cfg0.N = (args m c).rows Row.dx := by
  refine (dats m 0 c).arrAt_eq_of_covers 5 _ (by decide +kernel) fun t hf y => ?_
  obtain ⟨e0, e1⟩ := (out_facts t).1
  blk_simp
  rw [left_5]
  exact block_rows m c t Row.dx (blocks m c t).dx (fun i j => dx_apply _ i j) y _
    (by show win0_5.index t (0 : Fin 2) * 256 + 1 * (y 0).val = 256 * t.val + (y 0).val; omega)
    (by show win0_5.index t (1 : Fin 2) * 1024 + 1 * (y 1).val = (y 1).val; omega)

theorem final_u : (dats m 0 c).arrAt 6 cfg0.N = (args m c).rows Row.u := by
  refine (dats m 0 c).arrAt_eq_of_covers 6 _ (by decide +kernel) fun t hf y => ?_
  obtain ⟨e0, e1⟩ := (out_facts t).2.1
  blk_simp
  rw [left_6]
  exact block_rows m c t Row.u (blocks m c t).uB (fun i j => u_apply _ i j) y _
    (by show win0_6.index t (0 : Fin 2) * 256 + 1 * (y 0).val = 256 * t.val + (y 0).val; omega)
    (by show win0_6.index t (1 : Fin 2) * 1024 + 1 * (y 1).val = (y 1).val; omega)

theorem final_h : (dats m 0 c).arrAt 7 cfg0.N = (args m c).rows Row.h := by
  refine (dats m 0 c).arrAt_eq_of_covers 7 _ (by decide +kernel) fun t hf y => ?_
  obtain ⟨e0, e1⟩ := (out_facts t).2.2.1
  blk_simp
  rw [left_7]
  exact block_rows m c t Row.h (blocks m c t).hB (fun i j => h_apply _ i j) y _
    (by show win0_7.index t (0 : Fin 2) * 256 + 1 * (y 0).val = 256 * t.val + (y 0).val; omega)
    (by show win0_7.index t (1 : Fin 2) * 4096 + 1 * (y 1).val = (y 1).val; omega)

theorem final_dhp : (dats m 0 c).arrAt 8 cfg0.N = (args m c).rows Row.dhp := by
  refine (dats m 0 c).arrAt_eq_of_covers 8 _ (by decide +kernel) fun t hf y => ?_
  obtain ⟨e0, e1⟩ := (out_facts t).2.2.2.1
  blk_simp
  rw [left_8]
  exact block_rows m c t Row.dhp (blocks m c t).dhpB (fun i j => dhp_apply _ i j) y _
    (by show win0_8.index t (0 : Fin 2) * 256 + 1 * (y 0).val = 256 * t.val + (y 0).val; omega)
    (by show win0_8.index t (1 : Fin 2) * 4096 + 1 * (y 1).val = (y 1).val; omega)

theorem final_dout : (dats m 0 c).arrAt 9 cfg0.N = (args m c).rows Row.dout := by
  refine (dats m 0 c).arrAt_eq_of_covers 9 _ (by decide +kernel) fun t hf y => ?_
  obtain ⟨e0, e1⟩ := (out_facts t).2.2.2.2
  blk_simp
  rw [left_9]
  exact block_rows m c t Row.dout (blocks m c t).doutB (fun i j => dout_apply _ i j) y _
    (by show win0_9.index t (0 : Fin 2) * 256 + 1 * (y 0).val = 256 * t.val + (y 0).val; omega)
    (by show win0_9.index t (1 : Fin 2) * 1024 + 1 * (y 1).val = (y 1).val; omega)

end Cert.Mlp

end
-- ==== Proof.Mlp.Totals.lean ====
/- The kernel's three accumulators: after all points each entry is a sum over all rows, or over the rows of a sequence. -/
module

public import proofs.«01_k».proof.Proof.Mlp.Blocks
public import Idealize.ShloMosaic.Lib.Pipeline.ValueKit.Geometry

@[expose] public section

set_option maxRecDepth 16384

noncomputable section

namespace Cert.Mlp

open Idealize.ShloMosaic Idealize.ShloMosaic.ValueIdx Idealize.ShloMosaic.TcCoe
open Idealize.ShloMosaic.Pipeline (Dat)
open Cert.MlpBlockIdeal Cert.MlpBlockIdeal.Gen
open scoped BigOperators

namespace Row

variable (C : Row)

/-- What a row adds to row `q` of the first accumulator: to the gradients of the gain, of the shift and of the second bias, and to
    the squares of the errors, -/
def toG (q : ℕ) (j : Fin 1024) : EReal :=
  if q = 0 then Norm.dy C.r C.g C.b C.target j * Norm.xhat C.r j
  else if q = 1 then Norm.dy C.r C.g C.b C.target j
  else if q = 2 then C.dout j
  else if q = 3 then Norm.err C.r C.g C.b C.target j * Norm.err C.r C.g C.b C.target j
  else 0

/-- and to row `q` of its sequence's: to the gradients of the shift, the scale and the gate. -/
def toB (q : ℕ) (k : Fin 1024) : EReal :=
  if q = 0 then C.du k else if q = 1 then C.du k * C.x k else if q = 2 then C.dr k * C.o k else 0

end Row

/-! ## One point -/

section

variable (I : In Ideal)

/-- A row of an accumulator, loaded. -/
theorem row_load (G : Vec Ideal S8x1024 .f32) (q : ℕ) (p : Fin 8) (hp : p.val = q)
    (h : ∀ a, (![q, 0] : Fin 2 → ℕ) a + (![1, 1024] : Fin 2 → ℕ) a ≤ S8x1024.size a) (j : Fin 1024) :
    shapeCast S1x1024 (View.ld G (Rect.unit ![q, 0] ![1, 1024] h)) shapeCasts_S1x1024_S1x1024 (ix2 0 j) = G (ix2 p j) := by
  exact (congrFun (shapeCast_self _ _) (ix2 0 j)).trans (vec_row G q p hp h j)

theorem gacc_apply (G : Vec Ideal S8x1024 .f32) (q : Fin 8) (j : Fin 1024) :
    I.gacc G (ix2 q j) = (G (ix2 q j) : EReal) + ∑ i, (rowOf I i).toG q.val j := by
  unfold In.gacc Row.toG
  show (if q.val = 0 then _ else if q.val = 1 then _ else if q.val = 2 then _ else if q.val = 3 then _ else G (ix2 q j)) = _
  by_cases h0 : q.val = 0
  · simp only [if_pos h0]
    exact congrArg₂ (fun a b : EReal => a + b) (row_load G 0 q h0 _ j) ((col_sum _ _ _ _ _ j).trans
      (Finset.sum_congr rfl fun i _ => congrArg₂ (fun a b : EReal => a * b) (dy_apply I i j) (xhat_apply I i j)))
  simp only [if_neg h0]
  by_cases h1 : q.val = 1
  · simp only [if_pos h1]
    exact congrArg₂ (fun a b : EReal => a + b) (row_load G 1 q h1 _ j) ((col_sum _ _ _ _ _ j).trans
      (Finset.sum_congr rfl fun i _ => dy_apply I i j))
  simp only [if_neg h1]
  by_cases h2 : q.val = 2
  · simp only [if_pos h2]
    exact congrArg₂ (fun a b : EReal => a + b) (row_load G 2 q h2 _ j) ((col_sum _ _ _ _ _ j).trans
      (Finset.sum_congr rfl fun i _ => dout_apply I i j))
  simp only [if_neg h2]
  by_cases h3 : q.val = 3
  · simp only [if_pos h3]
    exact congrArg₂ (fun a b : EReal => a + b) (row_load G 3 q h3 _ j) ((col_sum _ _ _ _ _ j).trans
      (Finset.sum_congr rfl fun i _ => congrArg₂ (fun a b : EReal => a * b) (err_apply I i j) (err_apply I i j)))
  simp only [if_neg h3, Finset.sum_const_zero, add_zero]

theorem db1_apply (D : Vec Ideal S1x4096 .f32) (j : Fin 4096) :
    I.db1 D (ix2 0 j) = (D (ix2 0 j) : EReal) + ∑ i, (rowOf I i).dhp j := by
  unfold In.db1 k0_pay31
  exact congrArg₂ (fun a b : EReal => a + b) (congrFun (shapeCast_self D _) (ix2 0 j)) ((col_sum _ _ _ _ _ j).trans
    (Finset.sum_congr rfl fun i _ => dhp_apply I i j))

/-- A row of a sequence's accumulator, loaded. -/
theorem row_load3 (B : Vec Ideal S1x8x1024 .f32) (q : ℕ) (p : Fin 8) (hp : p.val = q)
    (h : ∀ a, (![0, q, 0] : Fin 3 → ℕ) a + (![1, 1, 1024] : Fin 3 → ℕ) a ≤ S1x8x1024.size a) (k : Fin 1024) :
    shapeCast S1x1024 (View.ld B (Rect.unit ![0, q, 0] ![1, 1, 1024] h)) shapeCasts_S1x1x1024_S1x1024 (ix2 0 k) = B (ix3 0 p k) := by
  refine (shapeCast_apply _ _ _ (ix3 (0 : Fin 1) (0 : Fin 1) k) ?_).trans ?_
  · rw [Shape.rowMajor_val_three, Shape.rowMajor_val_two]
    show (0 * 1 + 0) * 1024 + k.val = 0 * 1024 + k.val
    omega
  · refine congrArg B (funext fun d => Fin.ext ?_)
    match d with
    | ⟨0, _⟩ => rfl
    | ⟨1, _⟩ => show q + 1 * 0 = p.val; omega
    | ⟨2, _⟩ => show 0 + 1 * k.val = k.val; omega

theorem row_store3 (f : FVec Ideal S1x1024 .f32) (k : Fin 1024) :
    shapeCast S1x1x1024 f shapeCasts_S1x1024_S1x1x1024 (ix3 (0 : Fin 1) (0 : Fin 1) k) = f (ix2 0 k) :=
  shapeCast_apply f _ _ _ (by
    rw [Shape.rowMajor_val_three, Shape.rowMajor_val_two]
    show 0 * 1024 + k.val = (0 * 1 + 0) * 1024 + k.val
    omega)

theorem bacc_apply (B : Vec Ideal S1x8x1024 .f32) (q : Fin 8) (k : Fin 1024) :
    I.bacc B (ix3 0 q k) = (B (ix3 0 q k) : EReal) + ∑ i, (rowOf I i).toB q.val k := by
  unfold In.bacc Row.toB
  show (if q.val = 0 then _ else if q.val = 1 then _ else if q.val = 2 then _ else B (ix3 0 q k)) = _
  by_cases h0 : q.val = 0
  · simp only [if_pos h0]
    unfold k0_pay34
    exact (row_store3 _ k).trans (congrArg₂ (fun a b : EReal => a + b) (row_load3 B 0 q h0 _ k) ((col_sum _ _ _ _ _ k).trans
      (Finset.sum_congr rfl fun i _ => du_apply I i k)))
  simp only [if_neg h0]
  by_cases h1 : q.val = 1
  · simp only [if_pos h1]
    unfold k0_pay1 k0_pay35 k0_pay36
    exact (row_store3 _ k).trans (congrArg₂ (fun a b : EReal => a + b) (row_load3 B 1 q h1 _ k) ((col_sum _ _ _ _ _ k).trans
      (Finset.sum_congr rfl fun i _ => congrArg₂ (fun a b : EReal => a * b) (du_apply I i k) (congrFun (shapeCast_self I.x _) (ix2 i k)))))
  simp only [if_neg h1]
  by_cases h2 : q.val = 2
  · simp only [if_pos h2]
    unfold k0_pay2
    exact (row_store3 _ k).trans (congrArg₂ (fun a b : EReal => a + b) (row_load3 B 2 q h2 _ k) ((col_sum _ _ _ _ _ k).trans
      (Finset.sum_congr rfl fun i _ => congrArg₂ (fun a b : EReal => a * b) (dr_apply I i k) (o_apply I i k))))
  simp only [if_neg h2, Finset.sum_const_zero, add_zero]

end

/-! ## All points -/

variable (m : (ℓ : Loc nD τ sig) → Buf (Elt Ideal) ℓ) (c : Dev nD)

/-- A function of the rows, by number. -/
def Args.at (A : Args) (f : Row → EReal) (R : ℕ) : EReal := if h : R < 8192 then f (A.row ⟨R, h⟩) else 0

/-- A point's rows among all. -/
theorem point_sum (f : Row → EReal) (t : Fin cfg0.N) :
    ∑ i, f (rowOf (blocks m c t) i) = ∑ r ∈ Finset.range 256, (args m c).at f (256 * t.val + r) := by
  have hN : t.val < 32 := lt_of_lt_of_eq t.isLt (show cfg0.N = 32 from N_0)
  rw [Finset.sum_range]
  refine Finset.sum_congr rfl fun i _ => ?_
  unfold Args.at
  rw [dif_pos (by have := i.isLt; omega), row_eq]
  rfl

/-- The rows of the points up to one. -/
theorem g_apply (q : Fin 8) (j : Fin 1024) : ∀ (n : ℕ) (hn : n < cfg0.N),
    (sums m c n hn).g (ix2 q j) = ∑ r ∈ Finset.range (256 * (n + 1)), (args m c).at (fun C => C.toG q.val j) r
  | 0, hn => by
    refine (gacc_apply (blocks m c ⟨0, hn⟩) _ q j).trans ?_
    rw [point_sum m c (fun C => C.toG q.val j) ⟨0, hn⟩, show (if (0 : ℕ) = 0 then k0_pay3 (F := Ideal) else k0_pay3) (ix2 q j) = (0 : EReal) from Ideal.ofBits_zero_f32, zero_add]
    simp only [Nat.mul_zero, Nat.zero_add, Nat.mul_one]
  | n + 1, hn => by
    refine (gacc_apply (blocks m c ⟨n + 1, hn⟩) _ q j).trans ?_
    rw [if_neg (Nat.succ_ne_zero n), g_apply q j n (Nat.lt_of_succ_lt hn), point_sum m c (fun C => C.toG q.val j) ⟨n + 1, hn⟩,
      show 256 * (n + 1 + 1) = 256 * (n + 1) + 256 by omega, Finset.sum_range_add]

theorem d_apply (j : Fin 4096) : ∀ (n : ℕ) (hn : n < cfg0.N),
    (sums m c n hn).d (ix2 0 j) = ∑ r ∈ Finset.range (256 * (n + 1)), (args m c).at (fun C => C.dhp j) r
  | 0, hn => by
    refine (db1_apply (blocks m c ⟨0, hn⟩) _ j).trans ?_
    rw [point_sum m c (fun C => C.dhp j) ⟨0, hn⟩, show (if (0 : ℕ) = 0 then k0_pay4 (F := Ideal) else k0_pay4) (ix2 0 j) = (0 : EReal) from Ideal.ofBits_zero_f32, zero_add]
    simp only [Nat.mul_zero, Nat.zero_add, Nat.mul_one]
  | n + 1, hn => by
    refine (db1_apply (blocks m c ⟨n + 1, hn⟩) _ j).trans ?_
    rw [if_neg (Nat.succ_ne_zero n), d_apply j n (Nat.lt_of_succ_lt hn), point_sum m c (fun C => C.dhp j) ⟨n + 1, hn⟩,
      show 256 * (n + 1 + 1) = 256 * (n + 1) + 256 by omega, Finset.sum_range_add]

theorem b_apply (q : Fin 8) (k : Fin 1024) : ∀ (n : ℕ) (hn : n < cfg0.N),
    (sums m c n hn).b (ix3 0 q k) = ∑ r ∈ Finset.range (256 * (n % 16 + 1)), (args m c).at (fun C => C.toB q.val k) (4096 * (n / 16) + r)
  | 0, hn => by
    refine (bacc_apply (blocks m c ⟨0, hn⟩) _ q k).trans ?_
    rw [point_sum m c (fun C => C.toB q.val k) ⟨0, hn⟩, show (if (0 : ℕ) % 16 = 0 then k0_pay5 (F := Ideal) else k0_pay5) (ix3 0 q k) = (0 : EReal) from Ideal.ofBits_zero_f32, zero_add]
    simp only [Nat.mul_zero, Nat.zero_add, Nat.mul_one, Nat.zero_div, Nat.zero_mod]
  | n + 1, hn => by
    refine (bacc_apply (blocks m c ⟨n + 1, hn⟩) _ q k).trans ?_
    rw [point_sum m c (fun C => C.toB q.val k) ⟨n + 1, hn⟩]
    by_cases h : (n + 1) % 16 = 0
    · rw [if_pos h, show k0_pay5 (F := Ideal) (ix3 0 q k) = (0 : EReal) from Ideal.ofBits_zero_f32, zero_add, h]
      exact Finset.sum_congr rfl fun r _ => congrArg _ (by dsimp only; omega)
    · rw [if_neg h, b_apply q k n (Nat.lt_of_succ_lt hn), show 256 * ((n + 1) % 16 + 1) = 256 * (n % 16 + 1) + 256 by omega, Finset.sum_range_add,
        show (n + 1) / 16 = n / 16 by omega]
      exact congrArg _ (Finset.sum_congr rfl fun r _ => congrArg _ (by dsimp only; omega))

/-- All rows. -/
theorem sum_rows (A : Args) (f : Row → EReal) : ∑ r ∈ Finset.range 8192, A.at f r = ∑ R, f (A.row R) := by
  rw [Finset.sum_range]
  exact Finset.sum_congr rfl fun R _ => dif_pos R.isLt

/-- The rows of a sequence. -/
theorem sum_places (A : Args) (f : Row → EReal) (s : Fin 2) :
    ∑ r ∈ Finset.range 4096, A.at f (4096 * s.val + r) = ∑ p, f (A.row (rowAt s p)) := by
  rw [Finset.sum_range]
  refine Finset.sum_congr rfl fun p _ => ?_
  unfold Args.at
  rw [dif_pos (by have := p.isLt; have := s.isLt; omega)]
  exact congrArg (fun R => f (A.row R)) (Fin.ext (by show 4096 * s.val + p.val = s.val * 4096 + p.val; omega))

/-- The three arrays. -/
def Args.gsum (A : Args) : Shape.Idx ⟨2, ![8, 1024]⟩ → EReal := fun y => ∑ R, (A.row R).toG (y 0).val (y 1)
def Args.dsum (A : Args) : Shape.Idx ⟨2, ![1, 4096]⟩ → EReal := fun y => ∑ R, (A.row R).dhp (y 1)
def Args.bsum (A : Args) : Shape.Idx ⟨3, ![2, 8, 1024]⟩ → EReal := fun y => ∑ p, (A.row (rowAt (y 0) p)).toB (y 1).val (y 2)

theorem acc_facts : ∀ t : Fin cfg0.N, (win0_10.index t (0 : Fin 2) = 0 ∧ win0_10.index t (1 : Fin 2) = 0)
    ∧ (win0_11.index t (0 : Fin 2) = 0 ∧ win0_11.index t (1 : Fin 2) = 0)
    ∧ (win0_12.index t (0 : Fin 3) = t.val / 16 ∧ win0_12.index t (1 : Fin 3) = 0 ∧ win0_12.index t (2 : Fin 3) = 0) :=
  (by decide +kernel : ∀ t : Fin grid0.N, _)

theorem final_g : (dats m 0 c).arrAt 10 cfg0.N = (args m c).gsum := by
  refine (dats m 0 c).arrAt_eq_of_covers 10 _ (by decide +kernel) fun t hf y => ?_
  have hN : t.val < 32 := lt_of_lt_of_eq t.isLt (show cfg0.N = 32 from N_0)
  have ht : t.val = 31 := by have := (flush0_10 t).mp hf; omega
  obtain ⟨e0, e1⟩ := (acc_facts t).1
  blk_simp
  rw [left_10]
  have key : ∀ (z : Shape.Idx ⟨2, ![8, 1024]⟩) (x : Shape.Idx ⟨2, ![8, 1024]⟩), (x 0).val = (z 0).val → (x 1).val = (z 1).val →
      (sums m c t.val t.isLt).g z = (args m c).gsum x := fun z x h0 h1 => by
    have ez : z = ix2 (x 0) (x 1) := funext fun d => Fin.ext (by
      match d with
      | ⟨0, _⟩ => exact h0.symm
      | ⟨1, _⟩ => exact h1.symm)
    refine (congrArg _ ez).trans ((g_apply m c (x 0) (x 1) t.val t.isLt).trans ?_)
    rw [show 256 * (t.val + 1) = 8192 by omega, sum_rows]
    rfl
  exact key y _
    (by show win0_10.index t (0 : Fin 2) * 8 + 1 * (y 0).val = (y 0).val; omega)
    (by show win0_10.index t (1 : Fin 2) * 1024 + 1 * (y 1).val = (y 1).val; omega)

theorem final_d : (dats m 0 c).arrAt 11 cfg0.N = (args m c).dsum := by
  refine (dats m 0 c).arrAt_eq_of_covers 11 _ (by decide +kernel) fun t hf y => ?_
  have hN : t.val < 32 := lt_of_lt_of_eq t.isLt (show cfg0.N = 32 from N_0)
  have ht : t.val = 31 := by have := (flush0_11 t).mp hf; omega
  obtain ⟨e0, e1⟩ := (acc_facts t).2.1
  blk_simp
  rw [left_11]
  have key : ∀ (z : Shape.Idx ⟨2, ![1, 4096]⟩) (x : Shape.Idx ⟨2, ![1, 4096]⟩), (x 1).val = (z 1).val →
      (sums m c t.val t.isLt).d z = (args m c).dsum x := fun z x h1 => by
    have ez : z = ix2 0 (x 1) := funext fun d => Fin.ext (by
      match d with
      | ⟨0, _⟩ => have : (z 0).val < 1 := (z 0).isLt; show (z 0).val = 0; omega
      | ⟨1, _⟩ => exact h1.symm)
    refine (congrArg _ ez).trans ((d_apply m c (x 1) t.val t.isLt).trans ?_)
    rw [show 256 * (t.val + 1) = 8192 by omega, sum_rows]
    rfl
  exact key y _
    (by show win0_11.index t (1 : Fin 2) * 4096 + 1 * (y 1).val = (y 1).val; omega)

theorem final_b : (dats m 0 c).arrAt 12 cfg0.N = (args m c).bsum := by
  refine (dats m 0 c).arrAt_eq_of_covers 12 _ (by decide +kernel) fun t hf y => ?_
  have hN : t.val < 32 := lt_of_lt_of_eq t.isLt (show cfg0.N = 32 from N_0)
  have ht : t.val % 16 = 15 := (flush0_12 t).mp hf
  obtain ⟨e0, e1, e2⟩ := (acc_facts t).2.2
  blk_simp
  rw [left_12]
  have key : ∀ (z : Shape.Idx ⟨3, ![1, 8, 1024]⟩) (x : Shape.Idx ⟨3, ![2, 8, 1024]⟩), (x 0).val = t.val / 16 → (x 1).val = (z 1).val →
      (x 2).val = (z 2).val → (sums m c t.val t.isLt).b z = (args m c).bsum x := fun z x h0 h1 h2 => by
    have ez : z = ix3 0 (x 1) (x 2) := funext fun d => Fin.ext (by
      match d with
      | ⟨0, _⟩ => have : (z 0).val < 1 := (z 0).isLt; show (z 0).val = 0; omega
      | ⟨1, _⟩ => exact h1.symm
      | ⟨2, _⟩ => exact h2.symm)
    refine (congrArg _ ez).trans ((b_apply m c (x 1) (x 2) t.val t.isLt).trans ?_)
    rw [ht, ← h0]
    exact sum_places (args m c) (fun C => C.toB (x 1).val (x 2)) (x 0)
  exact key y _
    (by have : (y 0).val < 1 := (y 0).isLt
        show win0_12.index t (0 : Fin 3) * 1 + 1 * (y 0).val = t.val / 16; omega)
    (by show win0_12.index t (1 : Fin 3) * 8 + 1 * (y 1).val = (y 1).val; omega)
    (by show win0_12.index t (2 : Fin 3) * 1024 + 1 * (y 2).val = (y 2).val; omega)

end Cert.Mlp

end
-- ==== Proof.Mlp.KernelRun.lean ====
/- The kernel's run, with its eight results. -/
module

public import proofs.«01_k».proof.Proof.Mlp.Rows
public import proofs.«01_k».proof.Proof.Mlp.Totals

@[expose] public section

set_option maxRecDepth 16384

noncomputable section

namespace Cert.Mlp

open Idealize.ShloMosaic Idealize.ShloMosaic.TcCoe Idealize.SL.Sem
open Cert.MlpBlockIdeal Cert.MlpBlockIdeal.Gen

variable (m : (ℓ : Loc nD τ sig) → Buf (Elt Ideal) ℓ) (ρ : Dev nD → PrngReg)

/-- The kernel's results, and its arguments unchanged. -/
theorem kernel_run : θ_run (defs (F := Ideal)) (onTc (τ := τ) (main (F := Ideal))) ⟨m, fun _ => 0, ρ⟩ (fun r => ∀ c : Dev nD,
      r.2.mem ((c.tc : Thread nD τ).loc main_v10_0) = (args m c).rows Row.dx
      ∧ r.2.mem ((c.tc : Thread nD τ).loc main_v10_1) = (args m c).rows Row.u
      ∧ r.2.mem ((c.tc : Thread nD τ).loc main_v10_2) = (args m c).rows Row.h
      ∧ r.2.mem ((c.tc : Thread nD τ).loc main_v10_3) = (args m c).rows Row.dhp
      ∧ r.2.mem ((c.tc : Thread nD τ).loc main_v10_4) = (args m c).rows Row.dout
      ∧ r.2.mem ((c.tc : Thread nD τ).loc main_v10_5) = (args m c).gsum
      ∧ r.2.mem ((c.tc : Thread nD τ).loc main_v10_6) = (args m c).dsum
      ∧ r.2.mem ((c.tc : Thread nD τ).loc main_v10_7) = (args m c).bsum
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h.1 c).1 5).trans (final_dx m c), ((h.1 c).1 6).trans (final_u m c), ((h.1 c).1 7).trans (final_h m c),
      ((h.1 c).1 8).trans (final_dhp m c), ((h.1 c).1 9).trans (final_dout m c), ((h.1 c).1 10).trans (final_g m c),
      ((h.1 c).1 11).trans (final_d m c), ((h.1 c).1 12).trans (final_b m c), h.2.1 c⟩)
    (θ_run_and (run_arrays m ρ) (frame m ρ))

end Cert.Mlp

end
-- ==== Proof.Mlp.RefTotals.lean ====
/- The reference's three arrays of sums over rows, entry by entry. -/
module

public import proofs.«01_k».proof.Proof.Mlp.Ref
public import proofs.«01_k».proof.Proof.Mlp.Totals
public import proofs.«01_k».proof.Proof.Mlp.Rows

@[expose] public section

set_option maxRecDepth 16384

noncomputable section

namespace Cert.Mlp

open Idealize.ShloMosaic Idealize.ShloMosaic.ValueIdx
open Cert.MlpBlockRefIdeal Cert.MlpBlockRefIdeal.Gen Cert.MlpBlockRefIdeal.Read
open scoped BigOperators

/-- The gradient of the mean of the squares is the error over the width. -/
theorem Norm.dySq_eq (r g b t : Fin 1024 → EReal) (j : Fin 1024) : Norm.dySq r g b t j = Norm.dy r g b t j := by
  unfold Norm.dySq Norm.dy
  rw [Norm.half_eq, Norm.one_eq, ← EReal.coe_mul, Norm.div_width, Norm.two_eq, Norm.perWidth_eq, ← mul_assoc, ← EReal.coe_mul, mul_comm]
  norm_num

/-! ## Arrays put together -/

section

variable (e0 e1 e2 e3 : FVec Ideal S1x1024 .f32) (z : FVec Ideal S4x1024 .f32)
  (hc : Shape.Concatenates [S1x1024, S1x1024, S1x1024, S1x1024, S4x1024] S8x1024 0)

theorem four_apply (q : Fin 8) (j : Fin 1024) (e : FVec Ideal S1x1024 .f32) (hq : q.val < 4) (he : [e0, e1, e2, e3][q.val]? = some e) :
    concatenate S8x1024 0 [⟨S1x1024, e0⟩, ⟨S1x1024, e1⟩, ⟨S1x1024, e2⟩, ⟨S1x1024, e3⟩, ⟨S4x1024, z⟩] hc (ix2 q j) = e (ix2 0 j) := by
  refine concatenate_apply_piece (t := S8x1024) 0 _ _ (ix2 q j) q.val (by show q.val < 5; omega) S1x1024 e ?_ rfl q.val ?_
    (ix2 0 j) (fun d hd => ?_) (by show q.val + 0 = q.val; rfl)
  · obtain ⟨q, hq8⟩ := q
    dsimp only at hq he
    have : q = 0 ∨ q = 1 ∨ q = 2 ∨ q = 3 := by omega
    rcases this with rfl | rfl | rfl | rfl <;> (have := Option.some.inj he; subst this; rfl)
  · obtain ⟨q, hq8⟩ := q
    dsimp only at hq he
    have : q = 0 ∨ q = 1 ∨ q = 2 ∨ q = 3 := by omega
    rcases this with rfl | rfl | rfl | rfl <;> rfl
  · match d with
    | ⟨0, _⟩ => exact absurd rfl hd
    | ⟨1, _⟩ => rfl

theorem rest_apply (q : Fin 8) (j : Fin 1024) (hq : 4 ≤ q.val) :
    concatenate S8x1024 0 [⟨S1x1024, e0⟩, ⟨S1x1024, e1⟩, ⟨S1x1024, e2⟩, ⟨S1x1024, e3⟩, ⟨S4x1024, z⟩] hc (ix2 q j)
      = z (ix2 ⟨q.val - 4, by omega⟩ j) := by
  refine concatenate_apply_piece (t := S8x1024) 0 _ _ (ix2 q j) 4 (by show 4 < 5; decide) S4x1024 z rfl rfl 4 rfl
    (ix2 (⟨q.val - 4, by omega⟩ : Fin 4) j) (fun d hd => ?_) (by show 4 + (q.val - 4) = q.val; omega)
  match d with
  | ⟨0, _⟩ => exact absurd rfl hd
  | ⟨1, _⟩ => rfl

end

section

variable (e0 e1 e2 : FVec Ideal S2x1x1024 .f32) (z : FVec Ideal S2x5x1024 .f32)
  (hc : Shape.Concatenates [S2x1x1024, S2x1x1024, S2x1x1024, S2x5x1024] S2x8x1024 1)

theorem three_apply (s : Fin 2) (q : Fin 8) (k : Fin 1024) (e : FVec Ideal S2x1x1024 .f32) (hq : q.val < 3) (he : [e0, e1, e2][q.val]? = some e) :
    concatenate S2x8x1024 1 [⟨S2x1x1024, e0⟩, ⟨S2x1x1024, e1⟩, ⟨S2x1x1024, e2⟩, ⟨S2x5x1024, z⟩] hc (ix3 s q k) = e (ix3 s 0 k) := by
  refine concatenate_apply_piece (t := S2x8x1024) 1 _ _ (ix3 s q k) q.val (by show q.val < 4; omega) S2x1x1024 e ?_ rfl q.val ?_
    (ix3 s 0 k) (fun d hd => ?_) (by show q.val + 0 = q.val; rfl)
  · obtain ⟨q, hq8⟩ := q
    dsimp only at hq he
    have : q = 0 ∨ q = 1 ∨ q = 2 := by omega
    rcases this with rfl | rfl | rfl <;> (have := Option.some.inj he; subst this; rfl)
  · obtain ⟨q, hq8⟩ := q
    dsimp only at hq he
    have : q = 0 ∨ q = 1 ∨ q = 2 := by omega
    rcases this with rfl | rfl | rfl <;> rfl
  · match d with
    | ⟨0, _⟩ => rfl
    | ⟨1, _⟩ => exact absurd rfl hd
    | ⟨2, _⟩ => rfl

theorem rest3_apply (s : Fin 2) (q : Fin 8) (k : Fin 1024) (hq : 3 ≤ q.val) :
    concatenate S2x8x1024 1 [⟨S2x1x1024, e0⟩, ⟨S2x1x1024, e1⟩, ⟨S2x1x1024, e2⟩, ⟨S2x5x1024, z⟩] hc (ix3 s q k)
      = z (ix3 s ⟨q.val - 3, by omega⟩ k) := by
  refine concatenate_apply_piece (t := S2x8x1024) 1 _ _ (ix3 s q k) 3 (by show 3 < 4; decide) S2x5x1024 z rfl rfl 3 rfl
    (ix3 s (⟨q.val - 3, by omega⟩ : Fin 5) k) (fun d hd => ?_) (by show 3 + (q.val - 3) = q.val; omega)
  match d with
  | ⟨0, _⟩ => rfl
  | ⟨1, _⟩ => exact absurd rfl hd
  | ⟨2, _⟩ => rfl

end

namespace Args

variable (A : Args) (H : ∀ R, (A.row R).Finite)

include H

/-! ## Sums over all rows -/

theorem gain_apply (j : Fin 1024) : val_main_v79 (F := Ideal) A.x A.target A.mod A.w1 A.b1 A.w2 A.b2 A.g A.b (ix2 0 j)
    = ∑ R, (A.row R).toG 0 j := by
  rw [val_main_v79_apply, val_main_v78_apply]
  refine sum_from Ideal.ofBits_zero_f32 fun R => ?_
  rw [pair (f := idx_main_v78 (idx_main_v79 (ix2 0 j)) R) R j rfl (Fin.ext (by show 0 * 1024 + j.val = j.val; omega)), val_main_v77_apply]
  refine (congrArg₂ (fun a b : EReal => a * b) (xhat_apply A R j) ((dySq_apply A R j).trans (Norm.dySq_eq _ _ _ _ j))).trans ?_
  exact mul_comm _ _

theorem shift_apply (j : Fin 1024) : val_main_v76 (F := Ideal) A.x A.target A.mod A.w1 A.b1 A.w2 A.b2 A.g A.b (ix2 0 j)
    = ∑ R, (A.row R).toG 1 j := by
  rw [val_main_v76_apply, val_main_v75_apply]
  refine sum_from Ideal.ofBits_zero_f32 fun R => ?_
  rw [pair (f := idx_main_v75 (idx_main_v76 (ix2 0 j)) R) R j rfl (Fin.ext (by show 0 * 1024 + j.val = j.val; omega))]
  exact (dySq_apply A R j).trans (Norm.dySq_eq _ _ _ _ j)

theorem bias_apply (j : Fin 1024) : val_main_v114 (F := Ideal) A.x A.target A.mod A.w1 A.b1 A.w2 A.b2 A.g A.b (ix2 0 j)
    = ∑ R, (A.row R).toG 2 j := by
  rw [val_main_v114_apply, val_main_v113_apply]
  refine sum_from Ideal.ofBits_zero_f32 fun R => ?_
  rw [pair (f := idx_main_v113 (idx_main_v114 (ix2 0 j)) R) R j rfl (Fin.ext (by show 0 * 1024 + j.val = j.val; omega))]
  exact dout_apply A R H j

theorem squares_apply (j : Fin 1024) : val_main_v131 (F := Ideal) A.x A.target A.mod A.w1 A.b1 A.w2 A.b2 A.g A.b (ix2 0 j)
    = ∑ R, (A.row R).toG 3 j := by
  rw [val_main_v131_apply, val_main_v130_apply]
  refine sum_from Ideal.ofBits_zero_f32 fun R => ?_
  rw [pair (f := idx_main_v130 (idx_main_v131 (ix2 0 j)) R) R j rfl rfl, val_main_v61_apply]
  exact congrArg₂ (fun a b : EReal => a * b) (err_apply A R j) (err_apply A R j)

theorem gsum_eq : val_main_v133 (F := Ideal) A.x A.target A.mod A.w1 A.b1 A.w2 A.b2 A.g A.b = A.gsum := by
  have key : ∀ (q : Fin 8) (j : Fin 1024), val_main_v133 (F := Ideal) A.x A.target A.mod A.w1 A.b1 A.w2 A.b2 A.g A.b (ix2 q j)
      = ∑ R, (A.row R).toG q.val j := fun q j => by
    unfold val_main_v133
    by_cases hq : 4 ≤ q.val
    · refine (rest_apply _ _ _ _ _ _ q j hq).trans (Eq.trans (b := (0 : EReal)) ?_ ?_)
      · rw [val_main_v132_apply]
        exact Ideal.ofBits_zero_f32
      · refine (Finset.sum_eq_zero fun R _ => ?_).symm
        unfold Row.toG
        rw [if_neg (by omega), if_neg (by omega), if_neg (by omega), if_neg (by omega)]
    · obtain ⟨q, hq8⟩ := q
      have : q = 0 ∨ q = 1 ∨ q = 2 ∨ q = 3 := by dsimp only at hq; omega
      rcases this with rfl | rfl | rfl | rfl
      · exact (four_apply _ _ _ _ _ _ _ j _ (by show 0 < 4; decide) rfl).trans (gain_apply A H j)
      · exact (four_apply _ _ _ _ _ _ _ j _ (by show 1 < 4; decide) rfl).trans (shift_apply A H j)
      · exact (four_apply _ _ _ _ _ _ _ j _ (by show 2 < 4; decide) rfl).trans (bias_apply A H j)
      · exact (four_apply _ _ _ _ _ _ _ j _ (by show 3 < 4; decide) rfl).trans (squares_apply A H j)
  exact funext fun y => (congrArg _ (pair (y 0) (y 1) rfl rfl)).trans (key (y 0) (y 1))

theorem dsum_eq : val_main_v120 (F := Ideal) A.x A.target A.mod A.w1 A.b1 A.w2 A.b2 A.g A.b = A.dsum := by
  funext y
  rw [val_main_v120_apply, val_main_v119_apply]
  refine sum_from Ideal.ofBits_zero_f32 fun R => ?_
  have h0 : (y 0).val < 1 := (y 0).isLt
  rw [pair (f := idx_main_v119 (idx_main_v120 y) R) R (y 1) rfl (Fin.ext (by show (y 0).val * 4096 + (y 1).val = (y 1).val; omega))]
  exact dhp_apply A R H (y 1)

/-! ## Sums over the rows of a sequence -/

theorem at_place (s : Fin 2) (p : Fin 4096) (f : Row → EReal) (g : Shape.Idx ⟨3, ![2, 4096, 1024]⟩ → EReal) (k : Fin 1024)
    (h : ∀ R, g (ix3 (seq R) (pos R) k) = f (A.row R)) : g (ix3 s p k) = f (A.row (rowAt s p)) := by
  have e := h (rowAt s p)
  rwa [seq_rowAt, pos_rowAt] at e

theorem toShift_apply (s : Fin 2) (k : Fin 1024) : val_main_v124 (F := Ideal) A.x A.target A.mod A.w1 A.b1 A.w2 A.b2 A.g A.b (ix3 s 0 k)
    = ∑ p, (A.row (rowAt s p)).toB 0 k := by
  rw [val_main_v124_apply, val_main_v123_apply]
  refine sum_from Ideal.ofBits_zero_f32 fun p => ?_
  rw [triple (f := idx_main_v123 (idx_main_v124 (ix3 s 0 k)) p) s p k (Fin.ext (by show ((s.val * 1 + 0) * 1024 + k.val) / 1024 = s.val; omega)) rfl
    (Fin.ext (by show ((s.val * 1 + 0) * 1024 + k.val) % 1024 = k.val; omega))]
  exact at_place A H s p (fun C => C.du k) _ k fun R => du_seq_apply A R H k

theorem toScale_apply (s : Fin 2) (k : Fin 1024) : val_main_v127 (F := Ideal) A.x A.target A.mod A.w1 A.b1 A.w2 A.b2 A.g A.b (ix3 s 0 k)
    = ∑ p, (A.row (rowAt s p)).toB 1 k := by
  rw [val_main_v127_apply, val_main_v126_apply]
  refine sum_from Ideal.ofBits_zero_f32 fun p => ?_
  rw [triple (f := idx_main_v126 (idx_main_v127 (ix3 s 0 k)) p) s p k (Fin.ext (by show ((s.val * 1 + 0) * 1024 + k.val) / 1024 = s.val; omega)) rfl
    (Fin.ext (by show ((s.val * 1 + 0) * 1024 + k.val) % 1024 = k.val; omega))]
  refine at_place A H s p (fun C => C.du k * C.x k) _ k fun R => ?_
  rw [val_main_v125_apply]
  exact (congrArg (fun b : EReal => A.x (ix3 (seq R) (pos R) k) * b) (du_seq_apply A R H k)).trans (mul_comm _ _)

theorem toGate_apply (s : Fin 2) (k : Fin 1024) : val_main_v109 (F := Ideal) A.x A.target A.mod A.w1 A.b1 A.w2 A.b2 A.g A.b (ix3 s 0 k)
    = ∑ p, (A.row (rowAt s p)).toB 2 k := by
  rw [val_main_v109_apply, val_main_v108_apply]
  refine sum_from Ideal.ofBits_zero_f32 fun p => ?_
  rw [triple (f := idx_main_v108 (idx_main_v109 (ix3 s 0 k)) p) s p k (Fin.ext (by show ((s.val * 1 + 0) * 1024 + k.val) / 1024 = s.val; omega)) rfl
    (Fin.ext (by show ((s.val * 1 + 0) * 1024 + k.val) % 1024 = k.val; omega))]
  refine at_place A H s p (fun C => C.dr k * C.o k) _ k fun R => ?_
  rw [val_main_v107_apply]
  refine congrArg₂ (fun a b : EReal => a * b) (dr_seq_apply A R H k) ?_
  rw [val_main_v28_apply, by_row_seq R k]
  exact o_apply A R k

theorem bsum_eq : val_main_v135 (F := Ideal) A.x A.target A.mod A.w1 A.b1 A.w2 A.b2 A.g A.b = A.bsum := by
  have key : ∀ (s : Fin 2) (q : Fin 8) (k : Fin 1024), val_main_v135 (F := Ideal) A.x A.target A.mod A.w1 A.b1 A.w2 A.b2 A.g A.b (ix3 s q k)
      = ∑ p, (A.row (rowAt s p)).toB q.val k := fun s q k => by
    unfold val_main_v135
    by_cases hq : 3 ≤ q.val
    · refine (rest3_apply _ _ _ _ _ s q k hq).trans (Eq.trans (b := (0 : EReal)) ?_ ?_)
      · rw [val_main_v134_apply]
        exact Ideal.ofBits_zero_f32
      · refine (Finset.sum_eq_zero fun p _ => ?_).symm
        unfold Row.toB
        rw [if_neg (by omega), if_neg (by omega), if_neg (by omega)]
    · obtain ⟨q, hq8⟩ := q
      have : q = 0 ∨ q = 1 ∨ q = 2 := by dsimp only at hq; omega
      rcases this with rfl | rfl | rfl
      · exact (three_apply _ _ _ _ _ s _ k _ (by show 0 < 3; decide) rfl).trans (toShift_apply A H s k)
      · exact (three_apply _ _ _ _ _ s _ k _ (by show 1 < 3; decide) rfl).trans (toScale_apply A H s k)
      · exact (three_apply _ _ _ _ _ s _ k _ (by show 2 < 3; decide) rfl).trans (toGate_apply A H s k)
  exact funext fun y => (congrArg _ (triple (y 0) (y 1) (y 2) rfl rfl rfl)).trans (key (y 0) (y 1) (y 2))

/-! ## The arrays by rows -/

theorem dx_eq : val_main_v137 (F := Ideal) A.x A.target A.mod A.w1 A.b1 A.w2 A.b2 A.g A.b = A.rows Row.dx :=
  funext fun y => (congrArg _ (pair (y 0) (y 1) rfl rfl)).trans (dx_apply A (y 0) H (y 1))

theorem dhp_eq : val_main_v140 (F := Ideal) A.x A.target A.mod A.w1 A.b1 A.w2 A.b2 A.g A.b = A.rows Row.dhp :=
  funext fun y => (congrArg _ (pair (y 0) (y 1) rfl rfl)).trans (dhp_apply A (y 0) H (y 1))

theorem dout_eq : val_main_v141 (F := Ideal) A.x A.target A.mod A.w1 A.b1 A.w2 A.b2 A.g A.b = A.rows Row.dout :=
  funext fun y => (congrArg _ (pair (y 0) (y 1) rfl rfl)).trans (dout_apply A (y 0) H (y 1))

omit H

theorem u_eq : val_main_v138 (F := Ideal) A.x A.mod = A.rows Row.u :=
  funext fun y => (congrArg _ (pair (y 0) (y 1) rfl rfl)).trans (u_apply A (y 0) (y 1))

theorem h_eq : val_main_v139 (F := Ideal) A.x A.mod A.w1 A.b1 = A.rows Row.h :=
  funext fun y => (congrArg _ (pair (y 0) (y 1) rfl rfl)).trans (h_apply A (y 0) (y 1))

end Args

end Cert.Mlp

end
-- ==== Proof.Mlp.RefRun.lean ====
/- The reference's run, with its eight results on finite arguments. -/
module

public import proofs.«01_k».proof.Proof.Gen.MlpBlockRefIdeal.Run
public import proofs.«01_k».proof.Proof.Mlp.RefTotals

@[expose] public section

set_option maxRecDepth 16384

noncomputable section

namespace Cert.Mlp

open Idealize.ShloMosaic Idealize.ShloMosaic.TcCoe Idealize.SL.Sem
open Cert.MlpBlockRefIdeal Cert.MlpBlockRefIdeal.Gen Cert.MlpBlockRefIdeal.Read Cert.MlpBlockRefIdeal.Value

variable (m : (ℓ : Loc nD τ sig) → Buf (Elt Ideal) ℓ) (ρ : Dev nD → PrngReg)

/-- The reference's arguments. -/
def refArgs (c : Dev nD) : Args where
  x := m ((c.tc : Thread nD τ).loc main_arg0)
  target := m ((c.tc : Thread nD τ).loc main_arg1)
  mod := m ((c.tc : Thread nD τ).loc main_arg2)
  w1 := m ((c.tc : Thread nD τ).loc main_arg3)
  b1 := m ((c.tc : Thread nD τ).loc main_arg4)
  w2 := m ((c.tc : Thread nD τ).loc main_arg5)
  b2 := m ((c.tc : Thread nD τ).loc main_arg6)
  g := m ((c.tc : Thread nD τ).loc main_arg7)
  b := m ((c.tc : Thread nD τ).loc main_arg8)

/-- The reference's results, and its arguments unchanged. -/
theorem reference_run (H : ∀ c R, ((refArgs m c).row R).Finite) :
    θ_run (defs (F := Ideal)) (onTc (τ := τ) (main (F := Ideal))) ⟨m, fun _ => 0, ρ⟩ (fun r => ∀ c : Dev nD,
      r.2.mem ((c.tc : Thread nD τ).loc main_v137) = (refArgs m c).rows Row.dx
      ∧ r.2.mem ((c.tc : Thread nD τ).loc main_v138) = (refArgs m c).rows Row.u
      ∧ r.2.mem ((c.tc : Thread nD τ).loc main_v139) = (refArgs m c).rows Row.h
      ∧ r.2.mem ((c.tc : Thread nD τ).loc main_v140) = (refArgs m c).rows Row.dhp
      ∧ r.2.mem ((c.tc : Thread nD τ).loc main_v141) = (refArgs m c).rows Row.dout
      ∧ r.2.mem ((c.tc : Thread nD τ).loc main_v133) = (refArgs m c).gsum
      ∧ r.2.mem ((c.tc : Thread nD τ).loc main_v120) = (refArgs m c).dsum
      ∧ r.2.mem ((c.tc : Thread nD τ).loc main_v135) = (refArgs m c).bsum
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => by
      obtain ⟨h0, h1, h2, h3, h4, h5, h6, h7, h8⟩ := h c
      exact ⟨(h0.trans (val_main_v137_eq (StableHlo.launchContents m c))).trans ((refArgs m c).dx_eq (H c)),
        (h1.trans (val_main_v138_eq (StableHlo.launchContents m c))).trans (refArgs m c).u_eq,
        (h2.trans (val_main_v139_eq (StableHlo.launchContents m c))).trans (refArgs m c).h_eq,
        (h3.trans (val_main_v140_eq (StableHlo.launchContents m c))).trans ((refArgs m c).dhp_eq (H c)),
        (h4.trans (val_main_v141_eq (StableHlo.launchContents m c))).trans ((refArgs m c).dout_eq (H c)),
        (h5.trans (val_main_v133_eq (StableHlo.launchContents m c))).trans ((refArgs m c).gsum_eq (H c)),
        (h6.trans (val_main_v120_eq (StableHlo.launchContents m c))).trans ((refArgs m c).dsum_eq (H c)),
        (h7.trans (val_main_v135_eq (StableHlo.launchContents m c))).trans ((refArgs m c).bsum_eq (H c)), h8⟩)
    (Cert.MlpBlockRefIdeal.Value.run (F := Ideal) m ρ)

end Cert.Mlp

end
-- ==== Proof.Mlp.Finite.lean ====
/- What the precondition says: every element of every argument is finite, so every row is. -/
module

public import proofs.«01_k».proof.Proof.Mlp.Ref
public import proofs.«01_k».proof.Proof.Gen.Pre_finite
public import Idealize.ShloMosaic.Lib.ReduceAll

@[expose] public section

set_option maxRecDepth 16384

noncomputable section

namespace Cert.Mlp

open Idealize.ShloMosaic Idealize.ShloMosaic.ValueIdx
open Cert.Pre_finite Cert.Pre_finite.Gen

theorem infinity_eq : Ideal.ofBits .f32 0x7F800000#32 = (⊤ : EReal) := by simp [Ideal.ofBits, Ideal.ieee]

/-- Below infinity in absolute value is real. -/
theorem real_of_abs (a : EReal) (h : max a (-a) < ⊤) : ∃ r : ℝ, a = r := by
  refine ⟨a.toReal, (EReal.coe_toReal (ne_of_lt (lt_of_le_of_lt (le_max_left _ _) h)) fun hb => ?_).symm⟩
  subst hb
  exact absurd h (by simp)

/-- An array that passes the test has real elements only. -/
theorem real_of_test {s : Shape} {axes : List (Fin s.rank)} (h : s.ReducesTo axes S_) (hb : S_.BroadcastsInDim s (![] : Fin 0 → Fin s.rank))
    (hu : 0 < S_.numel) (a : FVec Ideal s .f32) (j : S_.Idx)
    (e : Host.reduce IntOp.andi (cmpf .olt (Host.absf a) (broadcastInDim s ![] hb (constant S_ .f32 0x7F800000#32))) (constantI S_ 1 1#1) h hu j = 1#1)
    (i : s.Idx) : ∃ r : ℝ, (a i : EReal) = r := by
  have : Subsingleton S_.Idx := ⟨fun x y => funext fun d => d.elim0⟩
  have e' := Host.reduce_andi_all _ _ h hu j e i
  have e'' : BitVec.ofBool (decide (max (a i : EReal) (-(a i : EReal)) < Ideal.ofBits .f32 0x7F800000#32)) = 1#1 := e'
  rw [infinity_eq] at e''
  refine real_of_abs _ ?_
  by_contra hn
  rw [decide_eq_false hn] at e''
  exact absurd e'' (by decide)

/-- One of nine tests. -/
theorem nine_apply (b0 b1 b2 b3 b4 b5 b6 b7 b8 : IVec S_ 1) (hb : S_.BroadcastsInDim S1 (![] : Fin 0 → Fin S1.rank))
    (hc : Shape.Concatenates [S1, S1, S1, S1, S1, S1, S1, S1, S1] S9 0) (q : Fin 9) (b : IVec S_ 1) (j : S_.Idx)
    (he : [b0, b1, b2, b3, b4, b5, b6, b7, b8][q.val]? = some b) :
    concatenate S9 0 [⟨S1, broadcastInDim S1 ![] hb b0⟩, ⟨S1, broadcastInDim S1 ![] hb b1⟩, ⟨S1, broadcastInDim S1 ![] hb b2⟩,
      ⟨S1, broadcastInDim S1 ![] hb b3⟩, ⟨S1, broadcastInDim S1 ![] hb b4⟩, ⟨S1, broadcastInDim S1 ![] hb b5⟩,
      ⟨S1, broadcastInDim S1 ![] hb b6⟩, ⟨S1, broadcastInDim S1 ![] hb b7⟩, ⟨S1, broadcastInDim S1 ![] hb b8⟩] hc (ix1 q) = b j := by
  have cases : q.val = 0 ∨ q.val = 1 ∨ q.val = 2 ∨ q.val = 3 ∨ q.val = 4 ∨ q.val = 5 ∨ q.val = 6 ∨ q.val = 7 ∨ q.val = 8 := by
    have := q.isLt
    omega
  refine (concatenate_apply_piece (t := S9) 0 _ _ (ix1 q) q.val (by show q.val < 9; exact q.isLt) S1 (broadcastInDim S1 ![] hb b) ?_ rfl q.val ?_
    (ix1 0) (fun d hd => ?_) (by show q.val + 0 = q.val; rfl)).trans (broadcastInDim_apply _ hb b _ j fun a => a.elim0)
  · obtain ⟨q, hq⟩ := q
    dsimp only at he cases
    rcases cases with rfl | rfl | rfl | rfl | rfl | rfl | rfl | rfl | rfl <;> (have := Option.some.inj he; subst this; rfl)
  · obtain ⟨q, hq⟩ := q
    dsimp only at cases
    rcases cases with rfl | rfl | rfl | rfl | rfl | rfl | rfl | rfl | rfl <;> rfl
  · match d with
    | ⟨0, _⟩ => exact absurd rfl hd

/-- All nine. -/
theorem nine_tests (b0 b1 b2 b3 b4 b5 b6 b7 b8 : IVec S_ 1) (hb : S_.BroadcastsInDim S1 (![] : Fin 0 → Fin S1.rank))
    (hc : Shape.Concatenates [S1, S1, S1, S1, S1, S1, S1, S1, S1] S9 0) (j : S_.Idx)
    (h : concatenate S9 0 [⟨S1, broadcastInDim S1 ![] hb b0⟩, ⟨S1, broadcastInDim S1 ![] hb b1⟩, ⟨S1, broadcastInDim S1 ![] hb b2⟩,
      ⟨S1, broadcastInDim S1 ![] hb b3⟩, ⟨S1, broadcastInDim S1 ![] hb b4⟩, ⟨S1, broadcastInDim S1 ![] hb b5⟩,
      ⟨S1, broadcastInDim S1 ![] hb b6⟩, ⟨S1, broadcastInDim S1 ![] hb b7⟩, ⟨S1, broadcastInDim S1 ![] hb b8⟩] hc = fun _ => 1#1) :
    b0 j = 1#1 ∧ b1 j = 1#1 ∧ b2 j = 1#1 ∧ b3 j = 1#1 ∧ b4 j = 1#1 ∧ b5 j = 1#1 ∧ b6 j = 1#1 ∧ b7 j = 1#1 ∧ b8 j = 1#1 := by
  have key := fun (q : Fin 9) (b : IVec S_ 1) (he : [b0, b1, b2, b3, b4, b5, b6, b7, b8][q.val]? = some b) =>
    (nine_apply b0 b1 b2 b3 b4 b5 b6 b7 b8 hb hc q b j he).symm.trans (congrFun h (ix1 q))
  exact ⟨key 0 _ rfl, key 1 _ rfl, key 2 _ rfl, key 3 _ rfl, key 4 _ rfl, key 5 _ rfl, key 6 _ rfl, key 7 _ rfl, key 8 _ rfl⟩

theorem Args.finite (A : Args) (h : Cert.Pre_finite.fn (F := Ideal) A.x A.target A.mod A.w1 A.b1 A.w2 A.b2 A.g A.b = fun _ => 1#1)
    (R : Fin 8192) : (A.row R).Finite := by
  obtain ⟨e0, e1, e2, e3, e4, e5, e6, e7, e8⟩ := nine_tests _ _ _ _ _ _ _ _ _ _ Facts.concatenates_S1_S1_S1_S1_S1_S1_S1_S1_S1_S9_d0
    (fun d => d.elim0) h
  have hx := real_of_test _ _ _ A.x _ e0
  have ht := real_of_test _ _ _ A.target _ e1
  have hm := real_of_test _ _ _ A.mod _ e2
  have hw1 := real_of_test _ _ _ A.w1 _ e3
  have hb1 := real_of_test _ _ _ A.b1 _ e4
  have hw2 := real_of_test _ _ _ A.w2 _ e5
  have hb2 := real_of_test _ _ _ A.b2 _ e6
  have hg := real_of_test _ _ _ A.g _ e7
  have hb := real_of_test _ _ _ A.b _ e8
  exact ⟨fun k => hx _, fun k => ht _, fun k => hm _, fun k => hm _, fun k => hm _, fun k j => hw1 _, fun j => hb1 _, fun k j => hw2 _,
    fun k => hb2 _, fun k => hg _, fun k => hb _⟩

end Cert.Mlp

end
-- ==== Proof.Mlp.Same.lean ====
/- The MLP kernel as printed and the one read at the extended reals are the same text: their body tables are equal, and the
   frame of the one is the frame of the other. -/
module

public import proofs.«01_k».proof.Proof.Gen.MlpBlock
public import proofs.«01_k».proof.Proof.Mlp.Frame

@[expose] public section

set_option maxRecDepth 16384

noncomputable section

namespace Cert.Mlp

open Idealize.ShloMosaic Idealize.ShloMosaic.TcCoe Idealize.SL.Sem

variable {F : FTy → Type} [FloatOps F]

theorem body_same : Cert.MlpBlock.cc0_mlp_fwd_bwd (F := F) = Cert.MlpBlockIdeal.cc0_mlp_fwd_bwd (F := F) := rfl

set_option maxHeartbeats 1000000 in
theorem kernels_same : Cert.MlpBlock.defs₀ (F := F) = Cert.MlpBlockIdeal.defs₀ (F := F) := by
  refine congrArg Defs.onTc (funext fun l => funext fun x => ?_)
  match l, x with
  | 0, (t, s) =>
    dsimp only
    have e := body_same (F := F)
    generalize Cert.MlpBlock.cc0_mlp_fwd_bwd (F := F) = f at e ⊢
    subst e
    congr 1
  | ⟨_ + 1, h⟩, _ => exact absurd h (Nat.not_lt.2 (Nat.le_add_left _ _))

theorem defs_same : Cert.MlpBlock.defs (F := F) = Cert.MlpBlockIdeal.defs (F := F) :=
  congrArg (Pipeline.defs (Cert.MlpBlock.pcfgs (F := F))) kernels_same

end Cert.Mlp

end
-- ==== Proof.Blocked.lean ====
/- The product of a transposed matrix with another one, both cut into blocks of 2048 rows: a product that contracts the
   rows, read at an index, and the sum of four such products, which is the sum over all 8192 rows. -/
module

public import Idealize.ShloMosaic.PureOps.Ideal.Laws
public import Idealize.ShloMosaic.Lib.ValueIdx
public import Idealize.ShloMosaic.Lib.Pipeline.Value

@[expose] public section

noncomputable section

namespace Cert.Blocked

open Idealize.ShloMosaic Idealize.ShloMosaic.ValueIdx
open scoped BigOperators

/-- The dimension numbers of `aᵀ b`: the first axis of each operand is contracted. -/
def rows (n a b : ℕ) (wf : DotDims.WF ⟨2, ![n, a]⟩ ⟨2, ![n, b]⟩ ⟨2, ![a, b]⟩ [0] [0] [1] [1] [] []) :
    DotDims ⟨2, ![n, a]⟩ ⟨2, ![n, b]⟩ ⟨2, ![a, b]⟩ where
  lhsContracting := [0]
  rhsContracting := [0]
  lhsNonContracting := [1]
  rhsNonContracting := [1]
  lhsBatch := []
  rhsBatch := []
  wf := wf

variable {n a b : ℕ} (wf : DotDims.WF ⟨2, ![n, a]⟩ ⟨2, ![n, b]⟩ ⟨2, ![a, b]⟩ [0] [0] [1] [1] [] [])

/-- A sum over the contraction's indices is a sum over the rows. -/
theorem sum_rows (L : (⟨2, ![n, a]⟩ : Shape).Idx → EReal) (R : (⟨2, ![n, b]⟩ : Shape).Idx → EReal) (i : Fin a) (j : Fin b) :
    ∑ k : (rows n a b wf).contr.Idx, L ((rows n a b wf).lhsIdx (ix2 i j) k) * R ((rows n a b wf).rhsIdx (ix2 i j) k)
      = ∑ r : Fin n, L (ix2 r i) * R (ix2 r j) := by
  rw [← Equiv.sum_comp (contrEquiv1 (rows n a b wf) n rfl rfl).symm]
  refine Finset.sum_congr rfl fun r _ => ?_
  have hk := contrEquiv1_symm_val (rows n a b wf) n rfl rfl r
  congr 2
  · funext d; apply Fin.ext
    match d with
    | ⟨0, _⟩ => exact hk
    | ⟨1, _⟩ => rfl
  · funext d; apply Fin.ext
    match d with
    | ⟨0, _⟩ => exact hk
    | ⟨1, _⟩ => rfl

/-- The kernel's product into a zero accumulator, read at `(i, j)`. -/
theorem matmul_rows {φ₁ φ₂ : FTy} (prec : Option ContractPrecision) (L : FVec Ideal ⟨2, ![n, a]⟩ φ₁)
    (R : FVec Ideal ⟨2, ![n, b]⟩ φ₂) (i : Fin a) (j : Fin b) :
    FloatOps.matmul (rows n a b wf) prec L R (constant ⟨2, ![a, b]⟩ .f32 0x00000000#32) (ix2 i j)
      = ∑ r : Fin n, L (ix2 r i) * R (ix2 r j) := by
  rw [Ideal.matmul_constant_zero_apply]
  exact sum_rows wf L R i j

/-- The host's product, read at `(i, j)`. -/
theorem dotGeneral_rows {φ₁ φ₂ : FTy} (prec : Option ContractPrecision) (s : HostSchedule) (L : FVec Ideal ⟨2, ![n, a]⟩ φ₁)
    (R : FVec Ideal ⟨2, ![n, b]⟩ φ₂) (i : Fin a) (j : Fin b) :
    FloatOps.dotGeneral (rows n a b wf) prec s L R (ix2 i j) = ∑ r : Fin n, L (ix2 r i) * R (ix2 r j) := by
  rw [Ideal.dotGeneral_apply]
  exact sum_rows wf L R i j

/-- The host's product of `ctᵀ` with `x`, transposed, read at `(i, j)`: the gradient of `x w` with respect to `w`. -/
theorem gradient_apply {φ₁ φ₂ : FTy} (prec : Option ContractPrecision) (s : HostSchedule) (ct : FVec Ideal ⟨2, ![n, a]⟩ φ₁)
    (x : FVec Ideal ⟨2, ![n, b]⟩ φ₂) (h : (⟨2, ![a, b]⟩ : Shape).Transposes [1, 0] ⟨2, ![b, a]⟩) (i : Fin b) (j : Fin a) :
    transpose ⟨2, ![b, a]⟩ [1, 0] (FloatOps.dotGeneral (rows n a b wf) prec s ct x) h (ix2 i j)
      = ∑ r : Fin n, x (ix2 r i) * ct (ix2 r j) := by
  rw [transpose_apply [1, 0] _ h (ix2 i j) (ix2 j i) (fun d => by match d with | ⟨0, _⟩ => rfl | ⟨1, _⟩ => rfl), dotGeneral_rows]
  exact Finset.sum_congr rfl fun r _ => mul_comm _ _

/-- The same product transposed twice: the gradient of `x wᵀ` with respect to `w`. -/
theorem gradient_t_apply {φ₁ φ₂ : FTy} (prec : Option ContractPrecision) (s : HostSchedule) (ct : FVec Ideal ⟨2, ![n, a]⟩ φ₁)
    (x : FVec Ideal ⟨2, ![n, b]⟩ φ₂) (h : (⟨2, ![a, b]⟩ : Shape).Transposes [1, 0] ⟨2, ![b, a]⟩)
    (h' : (⟨2, ![b, a]⟩ : Shape).Transposes [1, 0] ⟨2, ![a, b]⟩) (i : Fin a) (j : Fin b) :
    transpose ⟨2, ![a, b]⟩ [1, 0] (transpose ⟨2, ![b, a]⟩ [1, 0] (FloatOps.dotGeneral (rows n a b wf) prec s ct x) h) h' (ix2 i j)
      = ∑ r : Fin n, ct (ix2 r i) * x (ix2 r j) := by
  rw [transpose_apply [1, 0] _ h' (ix2 i j) (ix2 j i) (fun d => by match d with | ⟨0, _⟩ => rfl | ⟨1, _⟩ => rfl), gradient_apply]
  exact Finset.sum_congr rfl fun r _ => mul_comm _ _

/-- Two arrays of rank two that agree at every pair are equal. -/
theorem ext2 {α : Type} {f g : (⟨2, ![a, b]⟩ : Shape).Idx → α} (h : ∀ i j, f (ix2 i j) = g (ix2 i j)) : f = g := by
  funext y
  have e : y = ix2 (n0 := a) (n1 := b) (y 0) (y 1) := by
    funext d
    match d with
    | ⟨0, _⟩ => rfl
    | ⟨1, _⟩ => rfl
  rw [e]
  exact h _ _

/-- Four sums over 2048 rows are the sum over the 8192 rows. -/
theorem sum_blocks {M : Type*} [AddCommMonoid M] (f : Fin 8192 → M) (g : ℕ → Fin 2048 → M)
    (h : ∀ s, (hs : s < 4) → ∀ r : Fin 2048, g s r = f ⟨2048 * s + r.val, by omega⟩) :
    ∑ s ∈ Finset.range 4, ∑ r : Fin 2048, g s r = ∑ k : Fin 8192, f k := by
  rw [← Fin.sum_univ_eq_sum_range (fun s => ∑ r : Fin 2048, g s r) 4, ← Fintype.sum_prod_type',
    ← Equiv.sum_comp (finProdFinEquiv : Fin 4 × Fin 2048 ≃ Fin 8192) f]
  refine Finset.sum_congr rfl fun p _ => ?_
  rw [h p.1.val p.1.isLt p.2]
  exact congrArg f (Fin.ext (by show 2048 * p.1.val + p.2.val = p.2.val + 2048 * p.1.val; omega))

/-- THE FOLD OF FOUR BLOCKS. Where the first point of a run leaves its own product of row blocks and each later point
    adds its own, the run's last point leaves the sum over all rows. -/
theorem fold_blocks {N : ℕ} (reset : (t : ℕ) → t < N → (⟨2, ![a, b]⟩ : Shape).Idx → EReal)
    (step : (t : ℕ) → t < N → ((⟨2, ![a, b]⟩ : Shape).Idx → EReal) → (⟨2, ![a, b]⟩ : Shape).Idx → EReal)
    (L : (t : ℕ) → t < N → (⟨2, ![2048, a]⟩ : Shape).Idx → EReal) (R : (t : ℕ) → t < N → (⟨2, ![2048, b]⟩ : Shape).Idx → EReal)
    (hreset : ∀ t h i j, reset t h (ix2 i j) = ∑ r : Fin 2048, L t h (ix2 r i) * R t h (ix2 r j))
    (hstep : ∀ t h acc i j, step t h acc (ix2 i j) = acc (ix2 i j) + ∑ r : Fin 2048, L t h (ix2 r i) * R t h (ix2 r j))
    (p q : ℕ) (hp : p + 3 < N) (e : p = 4 * q) (y : (⟨2, ![a, b]⟩ : Shape).Idx) (hq : 4 * q + 3 < N) (i : Fin a) (j : Fin b) (hy : y = ix2 i j) (u v : Fin 8192 → EReal)
    (hL : ∀ s, (hs : s < 4) → ∀ r : Fin 2048, L (4 * q + s) (by omega) (ix2 r i) = u ⟨2048 * s + r.val, by omega⟩)
    (hR : ∀ s, (hs : s < 4) → ∀ r : Fin 2048, R (4 * q + s) (by omega) (ix2 r j) = v ⟨2048 * s + r.val, by omega⟩) :
    Pipeline.accAt reset step p 3 hp y = ∑ k : Fin 8192, u k * v k := by
  subst e hy
  have e : ∀ y : (⟨2, ![a, b]⟩ : Shape).Idx, ∃ i j, y = ix2 i j := fun y => ⟨y 0, y 1, by
    funext d
    match d with
    | ⟨0, _⟩ => rfl
    | ⟨1, _⟩ => rfl⟩
  have ha : ∀ (h : 4 * q < N) (y : (⟨2, ![a, b]⟩ : Shape).Idx), reset (4 * q) h y
      = 0 + if h : 4 * q < N then ∑ r : Fin 2048, L (4 * q) h (ix2 r (y 0)) * R (4 * q) h (ix2 r (y 1)) else 0 := by
    intro h y
    obtain ⟨i, j, rfl⟩ := e y
    rw [dif_pos h, zero_add]
    exact hreset _ h i j
  have hg : ∀ (t : ℕ) (h : t < N) (acc : (⟨2, ![a, b]⟩ : Shape).Idx → EReal) (y : (⟨2, ![a, b]⟩ : Shape).Idx), step t h acc y
      = acc y + if h : t < N then ∑ r : Fin 2048, L t h (ix2 r (y 0)) * R t h (ix2 r (y 1)) else 0 := by
    intro t h acc y
    obtain ⟨i, j, rfl⟩ := e y
    rw [dif_pos h]
    exact hstep t h acc i j
  rw [Pipeline.accAt_add_apply reset step (fun _ => 0)
    (fun t y => if h : t < N then ∑ r : Fin 2048, L t h (ix2 r (y 0)) * R t h (ix2 r (y 1)) else 0) (4 * q) 3
    ha (fun t h acc y _ _ => hg t h acc y) 3 le_rfl hq]
  rw [zero_add]
  refine (Finset.sum_congr rfl fun s hs => ?_).trans
    (sum_blocks (fun k => u k * v k) (fun s r => if hs : s < 4 then u ⟨2048 * s + r.val, by omega⟩ * v ⟨2048 * s + r.val, by omega⟩ else 0)
      (fun s hs r => by rw [dif_pos hs]))
  have hs4 : s < 4 := Finset.mem_range.mp hs
  rw [dif_pos (by omega : 4 * q + s < N)]
  refine Finset.sum_congr rfl fun r _ => ?_
  rw [dif_pos hs4]
  exact congrArg₂ (· * ·) (hL s hs4 r) (hR s hs4 r)

end Cert.Blocked

end
-- ==== Proof.W2.lean ====
/- The gradient of the second feed-forward weight: the array that the kernel leaves is `hᵀ ct`, summed over all rows. -/
module

public import proofs.«01_k».proof.Proof.Blocked
public import proofs.«01_k».proof.Proof.Gen.GradW2Ideal.Value
public import proofs.«01_k».proof.Proof.Gen.GradW2RefIdeal.Run

@[expose] public section

set_option maxRecDepth 16384

noncomputable section

namespace Cert.W2

open Idealize.ShloMosaic Idealize.ShloMosaic.ValueIdx Idealize.ShloMosaic.TcCoe
open Cert.GradW2Ideal Cert.GradW2Ideal.Gen Cert.GradW2Ideal.Value Cert.Blocked
open scoped BigOperators

variable (m : (ℓ : Loc nD τ sig) → Buf (Elt Ideal) ℓ)

/-- One point's step at an entry: what was there plus the product of the point's row blocks. -/
theorem pay_apply (acc : Vec Ideal S1024x1024 .f32) (x0 : Vec Ideal S2048x1024 .bf16) (x1 : Vec Ideal S2048x1024 .bf16)
    (i : Fin 1024) (j : Fin 1024) :
    k0_pay2 acc x0 x1 (ix2 i j) = acc (ix2 i j) + ∑ r : Fin 2048, x0 (ix2 r i) * x1 (ix2 r j) := by
  unfold k0_pay2
  rw [shapeCast_self]
  exact congrArg (acc (ix2 i j) + ·) (matmul_rows Facts₀.dot_S2048x1024_S2048x1024_S1024x1024_0_0_1_1_n_n_wf none x0 x1 i j)

/-- The accumulator's first contents are zero. -/
theorem zero_apply (y : S1024x1024.Idx) : k0_pay1 (F := Ideal) y = (0 : EReal) := Ideal.ofBits_zero_f32

/-- The blocks' places: the rows go by the last grid axis, the columns of the two operands by the others. -/
theorem index_facts : ∀ t : Fin cfg0.N, (win0_0.index t (0 : Fin 2) = t.val % 4 ∧ win0_0.index t (1 : Fin 2) = t.val / 4)
    ∧ (win0_1.index t (0 : Fin 2) = t.val % 4 ∧ win0_1.index t (1 : Fin 2) = 0) :=
  (by decide +kernel : ∀ t : Fin grid0.N, _)

/-- An entry of the left operand's block at a point. -/
theorem left_apply (c : Dev nD) (t : Fin cfg0.N) (r : Fin 2048) (i : Fin 1024) (k : Fin 8192) (x : Fin 4096)
    (hk : k.val = 2048 * (t.val % 4) + r.val) (hx : x.val = 1024 * (t.val / 4) + i.val) :
    iblk m c 0 t (ix2 r i) = m ((c : Thread nD τ).loc main_arg0) (ix2 k x) := by
  obtain ⟨⟨e0, e1⟩, -⟩ := index_facts t
  show m ((c : Thread nD τ).loc main_arg0) (((cfg0.win 0).blk t).view.emb (ix2 r i)) = _
  refine congrArg _ (funext fun d => Fin.ext ?_)
  match d with
  | ⟨0, _⟩ => show win0_0.index t (0 : Fin 2) * 2048 + 1 * r.val = k.val; omega
  | ⟨1, _⟩ => show win0_0.index t (1 : Fin 2) * 1024 + 1 * i.val = x.val; omega

/-- An entry of the right operand's block at a point. -/
theorem right_apply (c : Dev nD) (t : Fin cfg0.N) (r : Fin 2048) (j : Fin 1024) (k : Fin 8192) (y : Fin 1024)
    (hk : k.val = 2048 * (t.val % 4) + r.val) (hy : y.val = j.val) :
    iblk m c 1 t (ix2 r j) = m ((c : Thread nD τ).loc main_arg1) (ix2 k y) := by
  obtain ⟨-, e0, e1⟩ := index_facts t
  show m ((c : Thread nD τ).loc main_arg1) (((cfg0.win 1).blk t).view.emb (ix2 r j)) = _
  refine congrArg _ (funext fun d => Fin.ext ?_)
  match d with
  | ⟨0, _⟩ => show win0_1.index t (0 : Fin 2) * 2048 + 1 * r.val = k.val; omega
  | ⟨1, _⟩ => show win0_1.index t (1 : Fin 2) * 1024 + 1 * j.val = y.val; omega

/-- What the kernel leaves at an entry. -/
theorem kernel_apply (c : Dev nD) (A : FVec Ideal S8192x4096 .bf16) (B : FVec Ideal S8192x1024 .bf16)
    (hA : m ((c : Thread nD τ).loc main_arg0) = A) (hB : m ((c : Thread nD τ).loc main_arg1) = B) (x : Fin 4096) (y : Fin 1024) :
    G2 m c (ix2 x y) = ∑ k : Fin 8192, A (ix2 k x) * B (ix2 k y) := by
  have hN : cfg0.N = 16 := N_0
  have hq : run2Of (ix2 x y) = x.val / 1024 := by
    show 1 * (x.val / 1024 - 0) + 1 * (y.val / 1024 - 0) = _
    have := y.isLt; omega
  have h3 : 4 * (x.val / 1024) + 3 < cfg0.N := by have := x.isLt; omega
  have hl : loc2Of (ix2 x y) = ix2 ⟨x.val % 1024, Nat.mod_lt _ (by omega)⟩ ⟨y.val % 1024, Nat.mod_lt _ (by omega)⟩ := by
    funext d
    match d with
    | ⟨0, _⟩ => rfl
    | ⟨1, _⟩ => rfl
  have hp : 4 * run2Of (ix2 x y) + 3 < cfg0.N := by rw [hq]; exact h3
  unfold G2
  rw [dif_pos hp]
  refine fold_blocks (reset2 m c) (step2 m c) (fun t h => iblk m c 0 ⟨t, h⟩) (fun t h => iblk m c 1 ⟨t, h⟩)
    (fun t h i j => ?_) (fun t h acc i j => pay_apply _ _ _ i j) _ (x.val / 1024) hp (congrArg (4 * ·) hq) _ h3 _ _ hl (fun k => A (ix2 k x)) (fun k => B (ix2 k y)) (fun s hs r => ?_) (fun s hs r => ?_)
  · exact (pay_apply _ _ _ i j).trans (by rw [zero_apply, zero_add])
  · exact (left_apply m c _ r _ _ _ (by show _ = 2048 * ((4 * (x.val / 1024) + s) % 4) + r.val; dsimp only; omega)
      (by show _ = 1024 * ((4 * (x.val / 1024) + s) / 4) + x.val % 1024; omega)).trans (congrFun hA _)
  · exact (right_apply m c _ r _ _ _ (by show _ = 2048 * ((4 * (x.val / 1024) + s) % 4) + r.val; dsimp only; omega)
      (by show y.val = y.val % 1024; have := y.isLt; omega)).trans (congrFun hB _)

/-- The kernel's array is the reference's. -/
theorem value (c : Dev nD) (A : FVec Ideal S8192x4096 .bf16) (B : FVec Ideal S8192x1024 .bf16)
    (hA : m ((c : Thread nD τ).loc main_arg0) = A) (hB : m ((c : Thread nD τ).loc main_arg1) = B) :
    G2 m c = transpose Cert.GradW2RefIdeal.S4096x1024 [1, 0]
      (Host.dotGeneral Cert.GradW2RefIdeal.dot_S8192x1024_S8192x4096_S1024x4096_0_0_1_1_n_n none
        (extf .f32 B Cert.GradW2RefIdeal.Facts₀.bitsLt_bf16_f32) (extf .f32 A Cert.GradW2RefIdeal.Facts₀.bitsLt_bf16_f32))
      Cert.GradW2RefIdeal.Facts₀.transposes_S1024x4096_S4096x1024_1_0 :=
  ext2 (a := 4096) (b := 1024) fun x y => (kernel_apply m c A B hA hB x y).trans (gradient_apply Cert.GradW2RefIdeal.Facts₀.dot_S8192x1024_S8192x4096_S1024x4096_0_0_1_1_n_n_wf none .single B A _ x y).symm

end Cert.W2

end
-- ==== Proof.W1.lean ====
/- The gradient of the first feed-forward weight: the array that the kernel leaves is `uᵀ ct`, summed over all rows. -/
module

public import proofs.«01_k».proof.Proof.Blocked
public import proofs.«01_k».proof.Proof.Gen.GradW1Ideal.Value
public import proofs.«01_k».proof.Proof.Gen.GradW1RefIdeal.Run

@[expose] public section

set_option maxRecDepth 16384

noncomputable section

namespace Cert.W1

open Idealize.ShloMosaic Idealize.ShloMosaic.ValueIdx Idealize.ShloMosaic.TcCoe
open Cert.GradW1Ideal Cert.GradW1Ideal.Gen Cert.GradW1Ideal.Value Cert.Blocked
open scoped BigOperators

variable (m : (ℓ : Loc nD τ sig) → Buf (Elt Ideal) ℓ)

/-- One point's step at an entry: what was there plus the product of the point's row blocks. -/
theorem pay_apply (acc : Vec Ideal S1024x1024 .f32) (x0 : Vec Ideal S2048x1024 .bf16) (x1 : Vec Ideal S2048x1024 .bf16)
    (i : Fin 1024) (j : Fin 1024) :
    k0_pay2 acc x0 x1 (ix2 i j) = acc (ix2 i j) + ∑ r : Fin 2048, x0 (ix2 r i) * x1 (ix2 r j) := by
  unfold k0_pay2
  rw [shapeCast_self]
  exact congrArg (acc (ix2 i j) + ·) (matmul_rows Facts₀.dot_S2048x1024_S2048x1024_S1024x1024_0_0_1_1_n_n_wf none x0 x1 i j)

/-- The accumulator's first contents are zero. -/
theorem zero_apply (y : S1024x1024.Idx) : k0_pay1 (F := Ideal) y = (0 : EReal) := Ideal.ofBits_zero_f32

/-- The blocks' places: the rows go by the last grid axis, the columns of the two operands by the others. -/
theorem index_facts : ∀ t : Fin cfg0.N, (win0_0.index t (0 : Fin 2) = t.val % 4 ∧ win0_0.index t (1 : Fin 2) = 0)
    ∧ (win0_1.index t (0 : Fin 2) = t.val % 4 ∧ win0_1.index t (1 : Fin 2) = t.val / 4) :=
  (by decide +kernel : ∀ t : Fin grid0.N, _)

/-- An entry of the left operand's block at a point. -/
theorem left_apply (c : Dev nD) (t : Fin cfg0.N) (r : Fin 2048) (i : Fin 1024) (k : Fin 8192) (x : Fin 1024)
    (hk : k.val = 2048 * (t.val % 4) + r.val) (hx : x.val = i.val) :
    iblk m c 0 t (ix2 r i) = m ((c : Thread nD τ).loc main_arg0) (ix2 k x) := by
  obtain ⟨⟨e0, e1⟩, -⟩ := index_facts t
  show m ((c : Thread nD τ).loc main_arg0) (((cfg0.win 0).blk t).view.emb (ix2 r i)) = _
  refine congrArg _ (funext fun d => Fin.ext ?_)
  match d with
  | ⟨0, _⟩ => show win0_0.index t (0 : Fin 2) * 2048 + 1 * r.val = k.val; omega
  | ⟨1, _⟩ => show win0_0.index t (1 : Fin 2) * 1024 + 1 * i.val = x.val; omega

/-- An entry of the right operand's block at a point. -/
theorem right_apply (c : Dev nD) (t : Fin cfg0.N) (r : Fin 2048) (j : Fin 1024) (k : Fin 8192) (y : Fin 4096)
    (hk : k.val = 2048 * (t.val % 4) + r.val) (hy : y.val = 1024 * (t.val / 4) + j.val) :
    iblk m c 1 t (ix2 r j) = m ((c : Thread nD τ).loc main_arg1) (ix2 k y) := by
  obtain ⟨-, e0, e1⟩ := index_facts t
  show m ((c : Thread nD τ).loc main_arg1) (((cfg0.win 1).blk t).view.emb (ix2 r j)) = _
  refine congrArg _ (funext fun d => Fin.ext ?_)
  match d with
  | ⟨0, _⟩ => show win0_1.index t (0 : Fin 2) * 2048 + 1 * r.val = k.val; omega
  | ⟨1, _⟩ => show win0_1.index t (1 : Fin 2) * 1024 + 1 * j.val = y.val; omega

/-- What the kernel leaves at an entry. -/
theorem kernel_apply (c : Dev nD) (A : FVec Ideal S8192x1024 .bf16) (B : FVec Ideal S8192x4096 .bf16)
    (hA : m ((c : Thread nD τ).loc main_arg0) = A) (hB : m ((c : Thread nD τ).loc main_arg1) = B) (x : Fin 1024) (y : Fin 4096) :
    G2 m c (ix2 x y) = ∑ k : Fin 8192, A (ix2 k x) * B (ix2 k y) := by
  have hN : cfg0.N = 16 := N_0
  have hq : run2Of (ix2 x y) = y.val / 1024 := by
    show 4 * (x.val / 1024 - 0) + 1 * (y.val / 1024 - 0) = _
    have := x.isLt; omega
  have h3 : 4 * (y.val / 1024) + 3 < cfg0.N := by have := y.isLt; omega
  have hl : loc2Of (ix2 x y) = ix2 ⟨x.val % 1024, Nat.mod_lt _ (by omega)⟩ ⟨y.val % 1024, Nat.mod_lt _ (by omega)⟩ := by
    funext d
    match d with
    | ⟨0, _⟩ => rfl
    | ⟨1, _⟩ => rfl
  have hp : 4 * run2Of (ix2 x y) + 3 < cfg0.N := by rw [hq]; exact h3
  unfold G2
  rw [dif_pos hp]
  refine fold_blocks (reset2 m c) (step2 m c) (fun t h => iblk m c 0 ⟨t, h⟩) (fun t h => iblk m c 1 ⟨t, h⟩)
    (fun t h i j => ?_) (fun t h acc i j => pay_apply _ _ _ i j) _ (y.val / 1024) hp (congrArg (4 * ·) hq) _ h3 _ _ hl (fun k => A (ix2 k x)) (fun k => B (ix2 k y)) (fun s hs r => ?_) (fun s hs r => ?_)
  · exact (pay_apply _ _ _ i j).trans (by rw [zero_apply, zero_add])
  · exact (left_apply m c _ r _ _ _ (by show _ = 2048 * ((4 * (y.val / 1024) + s) % 4) + r.val; dsimp only; omega)
      (by show x.val = x.val % 1024; have := x.isLt; omega)).trans (congrFun hA _)
  · exact (right_apply m c _ r _ _ _ (by show _ = 2048 * ((4 * (y.val / 1024) + s) % 4) + r.val; dsimp only; omega)
      (by show _ = 1024 * ((4 * (y.val / 1024) + s) / 4) + y.val % 1024; omega)).trans (congrFun hB _)

/-- The kernel's array is the reference's. -/
theorem value (c : Dev nD) (A : FVec Ideal S8192x1024 .bf16) (B : FVec Ideal S8192x4096 .bf16)
    (hA : m ((c : Thread nD τ).loc main_arg0) = A) (hB : m ((c : Thread nD τ).loc main_arg1) = B) :
    G2 m c = transpose Cert.GradW1RefIdeal.S1024x4096 [1, 0]
      (Host.dotGeneral Cert.GradW1RefIdeal.dot_S8192x4096_S8192x1024_S4096x1024_0_0_1_1_n_n none
        (extf .f32 B Cert.GradW1RefIdeal.Facts₀.bitsLt_bf16_f32) (extf .f32 A Cert.GradW1RefIdeal.Facts₀.bitsLt_bf16_f32))
      Cert.GradW1RefIdeal.Facts₀.transposes_S4096x1024_S1024x4096_1_0 :=
  ext2 (a := 1024) (b := 4096) fun x y => (kernel_apply m c A B hA hB x y).trans (gradient_apply Cert.GradW1RefIdeal.Facts₀.dot_S8192x4096_S8192x1024_S4096x1024_0_0_1_1_n_n_wf none .single B A _ x y).symm

end Cert.W1

end
-- ==== Proof.WOut.lean ====
/- The gradient of the output projection's weight: the array that the kernel leaves is `yᵀ ct`, summed over all rows. -/
module

public import proofs.«01_k».proof.Proof.Blocked
public import proofs.«01_k».proof.Proof.Gen.GradWOutIdeal.Value
public import proofs.«01_k».proof.Proof.Gen.GradWOutRefIdeal.Run

@[expose] public section

set_option maxRecDepth 16384

noncomputable section

namespace Cert.WOut

open Idealize.ShloMosaic Idealize.ShloMosaic.ValueIdx Idealize.ShloMosaic.TcCoe
open Cert.GradWOutIdeal Cert.GradWOutIdeal.Gen Cert.GradWOutIdeal.Value Cert.Blocked
open scoped BigOperators

variable (m : (ℓ : Loc nD τ sig) → Buf (Elt Ideal) ℓ)

/-- One point's step at an entry: what was there plus the product of the point's row blocks. -/
theorem pay_apply (acc : Vec Ideal S1024x1024 .f32) (x0 : Vec Ideal S2048x1024 .bf16) (x1 : Vec Ideal S2048x1024 .bf16)
    (i : Fin 1024) (j : Fin 1024) :
    k0_pay2 acc x0 x1 (ix2 i j) = acc (ix2 i j) + ∑ r : Fin 2048, x0 (ix2 r i) * x1 (ix2 r j) := by
  unfold k0_pay2
  rw [shapeCast_self]
  exact congrArg (acc (ix2 i j) + ·) (matmul_rows Facts₀.dot_S2048x1024_S2048x1024_S1024x1024_0_0_1_1_n_n_wf none x0 x1 i j)

/-- The accumulator's first contents are zero. -/
theorem zero_apply (y : S1024x1024.Idx) : k0_pay1 (F := Ideal) y = (0 : EReal) := Ideal.ofBits_zero_f32

/-- The blocks' places: the rows go by the last grid axis, the columns of the two operands by the others. -/
theorem index_facts : ∀ t : Fin cfg0.N, (win0_0.index t (0 : Fin 2) = t.val % 4 ∧ win0_0.index t (1 : Fin 2) = t.val / 4)
    ∧ (win0_1.index t (0 : Fin 2) = t.val % 4 ∧ win0_1.index t (1 : Fin 2) = 0) :=
  (by decide +kernel : ∀ t : Fin grid0.N, _)

/-- An entry of the left operand's block at a point. -/
theorem left_apply (c : Dev nD) (t : Fin cfg0.N) (r : Fin 2048) (i : Fin 1024) (k : Fin 8192) (x : Fin 2048)
    (hk : k.val = 2048 * (t.val % 4) + r.val) (hx : x.val = 1024 * (t.val / 4) + i.val) :
    iblk m c 0 t (ix2 r i) = m ((c : Thread nD τ).loc main_arg0) (ix2 k x) := by
  obtain ⟨⟨e0, e1⟩, -⟩ := index_facts t
  show m ((c : Thread nD τ).loc main_arg0) (((cfg0.win 0).blk t).view.emb (ix2 r i)) = _
  refine congrArg _ (funext fun d => Fin.ext ?_)
  match d with
  | ⟨0, _⟩ => show win0_0.index t (0 : Fin 2) * 2048 + 1 * r.val = k.val; omega
  | ⟨1, _⟩ => show win0_0.index t (1 : Fin 2) * 1024 + 1 * i.val = x.val; omega

/-- An entry of the right operand's block at a point. -/
theorem right_apply (c : Dev nD) (t : Fin cfg0.N) (r : Fin 2048) (j : Fin 1024) (k : Fin 8192) (y : Fin 1024)
    (hk : k.val = 2048 * (t.val % 4) + r.val) (hy : y.val = j.val) :
    iblk m c 1 t (ix2 r j) = m ((c : Thread nD τ).loc main_arg1) (ix2 k y) := by
  obtain ⟨-, e0, e1⟩ := index_facts t
  show m ((c : Thread nD τ).loc main_arg1) (((cfg0.win 1).blk t).view.emb (ix2 r j)) = _
  refine congrArg _ (funext fun d => Fin.ext ?_)
  match d with
  | ⟨0, _⟩ => show win0_1.index t (0 : Fin 2) * 2048 + 1 * r.val = k.val; omega
  | ⟨1, _⟩ => show win0_1.index t (1 : Fin 2) * 1024 + 1 * j.val = y.val; omega

/-- What the kernel leaves at an entry. -/
theorem kernel_apply (c : Dev nD) (A : FVec Ideal S8192x2048 .bf16) (B : FVec Ideal S8192x1024 .bf16)
    (hA : m ((c : Thread nD τ).loc main_arg0) = A) (hB : m ((c : Thread nD τ).loc main_arg1) = B) (x : Fin 2048) (y : Fin 1024) :
    G2 m c (ix2 x y) = ∑ k : Fin 8192, A (ix2 k x) * B (ix2 k y) := by
  have hN : cfg0.N = 8 := N_0
  have hq : run2Of (ix2 x y) = x.val / 1024 := by
    show 1 * (x.val / 1024 - 0) + 1 * (y.val / 1024 - 0) = _
    have := y.isLt; omega
  have h3 : 4 * (x.val / 1024) + 3 < cfg0.N := by have := x.isLt; omega
  have hl : loc2Of (ix2 x y) = ix2 ⟨x.val % 1024, Nat.mod_lt _ (by omega)⟩ ⟨y.val % 1024, Nat.mod_lt _ (by omega)⟩ := by
    funext d
    match d with
    | ⟨0, _⟩ => rfl
    | ⟨1, _⟩ => rfl
  have hp : 4 * run2Of (ix2 x y) + 3 < cfg0.N := by rw [hq]; exact h3
  unfold G2
  rw [dif_pos hp]
  refine fold_blocks (reset2 m c) (step2 m c) (fun t h => iblk m c 0 ⟨t, h⟩) (fun t h => iblk m c 1 ⟨t, h⟩)
    (fun t h i j => ?_) (fun t h acc i j => pay_apply _ _ _ i j) _ (x.val / 1024) hp (congrArg (4 * ·) hq) _ h3 _ _ hl (fun k => A (ix2 k x)) (fun k => B (ix2 k y)) (fun s hs r => ?_) (fun s hs r => ?_)
  · exact (pay_apply _ _ _ i j).trans (by rw [zero_apply, zero_add])
  · exact (left_apply m c _ r _ _ _ (by show _ = 2048 * ((4 * (x.val / 1024) + s) % 4) + r.val; dsimp only; omega)
      (by show _ = 1024 * ((4 * (x.val / 1024) + s) / 4) + x.val % 1024; omega)).trans (congrFun hA _)
  · exact (right_apply m c _ r _ _ _ (by show _ = 2048 * ((4 * (x.val / 1024) + s) % 4) + r.val; dsimp only; omega)
      (by show y.val = y.val % 1024; have := y.isLt; omega)).trans (congrFun hB _)

/-- The kernel's array is the reference's. -/
theorem value (c : Dev nD) (A : FVec Ideal S8192x2048 .bf16) (B : FVec Ideal S8192x1024 .bf16)
    (hA : m ((c : Thread nD τ).loc main_arg0) = A) (hB : m ((c : Thread nD τ).loc main_arg1) = B) :
    G2 m c = transpose Cert.GradWOutRefIdeal.S2048x1024 [1, 0]
      (Host.dotGeneral Cert.GradWOutRefIdeal.dot_S8192x1024_S8192x2048_S1024x2048_0_0_1_1_n_n none
        (extf .f32 B Cert.GradWOutRefIdeal.Facts₀.bitsLt_bf16_f32) (extf .f32 A Cert.GradWOutRefIdeal.Facts₀.bitsLt_bf16_f32))
      Cert.GradWOutRefIdeal.Facts₀.transposes_S1024x2048_S2048x1024_1_0 :=
  ext2 (a := 2048) (b := 1024) fun x y => (kernel_apply m c A B hA hB x y).trans (gradient_apply Cert.GradWOutRefIdeal.Facts₀.dot_S8192x1024_S8192x2048_S1024x2048_0_0_1_1_n_n_wf none .single B A _ x y).symm

end Cert.WOut

end
-- ==== Proof.Z.lean ====
/- The gradient of the input projection's rows for the gate z: the array that the kernel leaves is `ctᵀ u`, summed over all rows. -/
module

public import proofs.«01_k».proof.Proof.Blocked
public import proofs.«01_k».proof.Proof.Gen.GradZIdeal.Value
public import proofs.«01_k».proof.Proof.Gen.GradZRefIdeal.Run

@[expose] public section

set_option maxRecDepth 16384

noncomputable section

namespace Cert.Z

open Idealize.ShloMosaic Idealize.ShloMosaic.ValueIdx Idealize.ShloMosaic.TcCoe
open Cert.GradZIdeal Cert.GradZIdeal.Gen Cert.GradZIdeal.Value Cert.Blocked
open scoped BigOperators

variable (m : (ℓ : Loc nD τ sig) → Buf (Elt Ideal) ℓ)

/-- One point's step at an entry: what was there plus the product of the point's row blocks. -/
theorem pay_apply (acc : Vec Ideal S768x1024 .f32) (x0 : Vec Ideal S2048x768 .f32) (x1 : Vec Ideal S2048x1024 .bf16)
    (i : Fin 768) (j : Fin 1024) :
    k0_pay2 acc x0 x1 (ix2 i j) = acc (ix2 i j) + ∑ r : Fin 2048, x0 (ix2 r i) * x1 (ix2 r j) := by
  unfold k0_pay2
  rw [shapeCast_self]
  exact congrArg (acc (ix2 i j) + ·) (matmul_rows Facts₀.dot_S2048x768_S2048x1024_S768x1024_0_0_1_1_n_n_wf none (truncf .bf16 x0 Facts₀.bitsLt_bf16_f32) x1 i j)

/-- The accumulator's first contents are zero. -/
theorem zero_apply (y : S768x1024.Idx) : k0_pay1 (F := Ideal) y = (0 : EReal) := Ideal.ofBits_zero_f32

/-- The blocks' places: the rows go by the last grid axis, the columns of the two operands by the others. -/
theorem index_facts : ∀ t : Fin cfg0.N, (win0_0.index t (0 : Fin 2) = t.val % 4 ∧ win0_0.index t (1 : Fin 2) = t.val / 4)
    ∧ (win0_1.index t (0 : Fin 2) = t.val % 4 ∧ win0_1.index t (1 : Fin 2) = 0) :=
  (by decide +kernel : ∀ t : Fin grid0.N, _)

/-- An entry of the left operand's block at a point. -/
theorem left_apply (c : Dev nD) (t : Fin cfg0.N) (r : Fin 2048) (i : Fin 768) (k : Fin 8192) (x : Fin 1536)
    (hk : k.val = 2048 * (t.val % 4) + r.val) (hx : x.val = 768 * (t.val / 4) + i.val) :
    iblk m c 0 t (ix2 r i) = m ((c : Thread nD τ).loc main_arg0) (ix2 k x) := by
  obtain ⟨⟨e0, e1⟩, -⟩ := index_facts t
  show m ((c : Thread nD τ).loc main_arg0) (((cfg0.win 0).blk t).view.emb (ix2 r i)) = _
  refine congrArg _ (funext fun d => Fin.ext ?_)
  match d with
  | ⟨0, _⟩ => show win0_0.index t (0 : Fin 2) * 2048 + 1 * r.val = k.val; omega
  | ⟨1, _⟩ => show win0_0.index t (1 : Fin 2) * 768 + 1 * i.val = x.val; omega

/-- An entry of the right operand's block at a point. -/
theorem right_apply (c : Dev nD) (t : Fin cfg0.N) (r : Fin 2048) (j : Fin 1024) (k : Fin 8192) (y : Fin 1024)
    (hk : k.val = 2048 * (t.val % 4) + r.val) (hy : y.val = j.val) :
    iblk m c 1 t (ix2 r j) = m ((c : Thread nD τ).loc main_arg1) (ix2 k y) := by
  obtain ⟨-, e0, e1⟩ := index_facts t
  show m ((c : Thread nD τ).loc main_arg1) (((cfg0.win 1).blk t).view.emb (ix2 r j)) = _
  refine congrArg _ (funext fun d => Fin.ext ?_)
  match d with
  | ⟨0, _⟩ => show win0_1.index t (0 : Fin 2) * 2048 + 1 * r.val = k.val; omega
  | ⟨1, _⟩ => show win0_1.index t (1 : Fin 2) * 1024 + 1 * j.val = y.val; omega

/-- What the kernel leaves at an entry. -/
theorem kernel_apply (c : Dev nD) (A : FVec Ideal S8192x1536 .f32) (B : FVec Ideal S8192x1024 .bf16)
    (hA : m ((c : Thread nD τ).loc main_arg0) = A) (hB : m ((c : Thread nD τ).loc main_arg1) = B) (x : Fin 1536) (y : Fin 1024) :
    G2 m c (ix2 x y) = ∑ k : Fin 8192, A (ix2 k x) * B (ix2 k y) := by
  have hN : cfg0.N = 8 := N_0
  have hq : run2Of (ix2 x y) = x.val / 768 := by
    show 1 * (x.val / 768 - 0) + 1 * (y.val / 1024 - 0) = _
    have := y.isLt; omega
  have h3 : 4 * (x.val / 768) + 3 < cfg0.N := by have := x.isLt; omega
  have hl : loc2Of (ix2 x y) = ix2 ⟨x.val % 768, Nat.mod_lt _ (by omega)⟩ ⟨y.val % 1024, Nat.mod_lt _ (by omega)⟩ := by
    funext d
    match d with
    | ⟨0, _⟩ => rfl
    | ⟨1, _⟩ => rfl
  have hp : 4 * run2Of (ix2 x y) + 3 < cfg0.N := by rw [hq]; exact h3
  unfold G2
  rw [dif_pos hp]
  refine fold_blocks (reset2 m c) (step2 m c) (fun t h => iblk m c 0 ⟨t, h⟩) (fun t h => iblk m c 1 ⟨t, h⟩)
    (fun t h i j => ?_) (fun t h acc i j => pay_apply _ _ _ i j) _ (x.val / 768) hp (congrArg (4 * ·) hq) _ h3 _ _ hl (fun k => A (ix2 k x)) (fun k => B (ix2 k y)) (fun s hs r => ?_) (fun s hs r => ?_)
  · exact (pay_apply _ _ _ i j).trans (by rw [zero_apply, zero_add])
  · exact (left_apply m c _ r _ _ _ (by show _ = 2048 * ((4 * (x.val / 768) + s) % 4) + r.val; dsimp only; omega)
      (by show _ = 768 * ((4 * (x.val / 768) + s) / 4) + x.val % 768; omega)).trans (congrFun hA _)
  · exact (right_apply m c _ r _ _ _ (by show _ = 2048 * ((4 * (x.val / 768) + s) % 4) + r.val; dsimp only; omega)
      (by show y.val = y.val % 1024; have := y.isLt; omega)).trans (congrFun hB _)

/-- The kernel's array is the reference's. -/
theorem value (c : Dev nD) (A : FVec Ideal S8192x1536 .f32) (B : FVec Ideal S8192x1024 .bf16)
    (hA : m ((c : Thread nD τ).loc main_arg0) = A) (hB : m ((c : Thread nD τ).loc main_arg1) = B) :
    G2 m c = transpose Cert.GradZRefIdeal.S1536x1024 [1, 0] (transpose Cert.GradZRefIdeal.S1024x1536 [1, 0]
      (Host.dotGeneral Cert.GradZRefIdeal.dot_S8192x1536_S8192x1024_S1536x1024_0_0_1_1_n_n none
        A (extf .f32 B Cert.GradZRefIdeal.Facts₀.bitsLt_bf16_f32))
      Cert.GradZRefIdeal.Facts₀.transposes_S1536x1024_S1024x1536_1_0) Cert.GradZRefIdeal.Facts₀.transposes_S1024x1536_S1536x1024_1_0 :=
  ext2 (a := 1536) (b := 1024) fun x y => (kernel_apply m c A B hA hB x y).trans (gradient_t_apply Cert.GradZRefIdeal.Facts₀.dot_S8192x1536_S8192x1024_S1536x1024_0_0_1_1_n_n_wf none .single A B _ _ x y).symm

end Cert.Z

end
-- ==== Proof.Xbc.lean ====
/- The gradient of the input projection's rows for the convolution: the array that the kernel leaves is `ctᵀ u`, summed over
   all rows. -/
module

public import proofs.«01_k».proof.Proof.Blocked
public import proofs.«01_k».proof.Proof.Gen.GradXbcIdeal.Value
public import proofs.«01_k».proof.Proof.Gen.GradXbcRefIdeal.Run

@[expose] public section

set_option maxRecDepth 16384

noncomputable section

namespace Cert.Xbc

open Idealize.ShloMosaic Idealize.ShloMosaic.ValueIdx Idealize.ShloMosaic.TcCoe
open Cert.GradXbcIdeal Cert.GradXbcIdeal.Gen Cert.GradXbcIdeal.Value Cert.Blocked
open scoped BigOperators

variable (m : (ℓ : Loc nD τ sig) → Buf (Elt Ideal) ℓ)

/-- One point's step at an entry: what was there plus the product of the point's row blocks. -/
theorem pay_apply (acc : Vec Ideal S512x1024 .f32) (x0 : Vec Ideal S2048x512 .bf16) (x1 : Vec Ideal S2048x1024 .bf16)
    (i : Fin 512) (j : Fin 1024) :
    k0_pay2 acc x0 x1 (ix2 i j) = acc (ix2 i j) + ∑ r : Fin 2048, x0 (ix2 r i) * x1 (ix2 r j) := by
  unfold k0_pay2
  rw [shapeCast_self]
  exact congrArg (acc (ix2 i j) + ·) (matmul_rows Facts₀.dot_S2048x512_S2048x1024_S512x1024_0_0_1_1_n_n_wf none x0 x1 i j)

/-- The accumulator's first contents are zero. -/
theorem zero_apply (y : S512x1024.Idx) : k0_pay1 (F := Ideal) y = (0 : EReal) := Ideal.ofBits_zero_f32

/-- The blocks' places: the rows go by the last grid axis, the columns of the two operands by the others. -/
theorem index_facts : ∀ t : Fin cfg0.N, (win0_0.index t (0 : Fin 2) = t.val % 4 ∧ win0_0.index t (1 : Fin 2) = t.val / 4)
    ∧ (win0_1.index t (0 : Fin 2) = t.val % 4 ∧ win0_1.index t (1 : Fin 2) = 0) :=
  (by decide +kernel : ∀ t : Fin grid0.N, _)

/-- An entry of the left operand's block at a point. -/
theorem left_apply (c : Dev nD) (t : Fin cfg0.N) (r : Fin 2048) (i : Fin 512) (k : Fin 8192) (x : Fin 2560)
    (hk : k.val = 2048 * (t.val % 4) + r.val) (hx : x.val = 512 * (t.val / 4) + i.val) :
    iblk m c 0 t (ix2 r i) = m ((c : Thread nD τ).loc main_arg0) (ix2 k x) := by
  obtain ⟨⟨e0, e1⟩, -⟩ := index_facts t
  show m ((c : Thread nD τ).loc main_arg0) (((cfg0.win 0).blk t).view.emb (ix2 r i)) = _
  refine congrArg _ (funext fun d => Fin.ext ?_)
  match d with
  | ⟨0, _⟩ => show win0_0.index t (0 : Fin 2) * 2048 + 1 * r.val = k.val; omega
  | ⟨1, _⟩ => show win0_0.index t (1 : Fin 2) * 512 + 1 * i.val = x.val; omega

/-- An entry of the right operand's block at a point. -/
theorem right_apply (c : Dev nD) (t : Fin cfg0.N) (r : Fin 2048) (j : Fin 1024) (k : Fin 8192) (y : Fin 1024)
    (hk : k.val = 2048 * (t.val % 4) + r.val) (hy : y.val = j.val) :
    iblk m c 1 t (ix2 r j) = m ((c : Thread nD τ).loc main_arg1) (ix2 k y) := by
  obtain ⟨-, e0, e1⟩ := index_facts t
  show m ((c : Thread nD τ).loc main_arg1) (((cfg0.win 1).blk t).view.emb (ix2 r j)) = _
  refine congrArg _ (funext fun d => Fin.ext ?_)
  match d with
  | ⟨0, _⟩ => show win0_1.index t (0 : Fin 2) * 2048 + 1 * r.val = k.val; omega
  | ⟨1, _⟩ => show win0_1.index t (1 : Fin 2) * 1024 + 1 * j.val = y.val; omega

/-- What the kernel leaves at an entry. -/
theorem kernel_apply (c : Dev nD) (A : FVec Ideal S8192x2560 .bf16) (B : FVec Ideal S8192x1024 .bf16)
    (hA : m ((c : Thread nD τ).loc main_arg0) = A) (hB : m ((c : Thread nD τ).loc main_arg1) = B) (x : Fin 2560) (y : Fin 1024) :
    G2 m c (ix2 x y) = ∑ k : Fin 8192, A (ix2 k x) * B (ix2 k y) := by
  have hN : cfg0.N = 20 := N_0
  have hq : run2Of (ix2 x y) = x.val / 512 := by
    show 1 * (x.val / 512 - 0) + 1 * (y.val / 1024 - 0) = _
    have := y.isLt; omega
  have h3 : 4 * (x.val / 512) + 3 < cfg0.N := by have := x.isLt; omega
  have hl : loc2Of (ix2 x y) = ix2 ⟨x.val % 512, Nat.mod_lt _ (by omega)⟩ ⟨y.val % 1024, Nat.mod_lt _ (by omega)⟩ := by
    funext d
    match d with
    | ⟨0, _⟩ => rfl
    | ⟨1, _⟩ => rfl
  have hp : 4 * run2Of (ix2 x y) + 3 < cfg0.N := by rw [hq]; exact h3
  unfold G2
  rw [dif_pos hp]
  refine fold_blocks (reset2 m c) (step2 m c) (fun t h => iblk m c 0 ⟨t, h⟩) (fun t h => iblk m c 1 ⟨t, h⟩)
    (fun t h i j => ?_) (fun t h acc i j => pay_apply _ _ _ i j) _ (x.val / 512) hp (congrArg (4 * ·) hq) _ h3 _ _ hl (fun k => A (ix2 k x)) (fun k => B (ix2 k y)) (fun s hs r => ?_) (fun s hs r => ?_)
  · exact (pay_apply _ _ _ i j).trans (by rw [zero_apply, zero_add])
  · exact (left_apply m c _ r _ _ _ (by show _ = 2048 * ((4 * (x.val / 512) + s) % 4) + r.val; dsimp only; omega)
      (by show _ = 512 * ((4 * (x.val / 512) + s) / 4) + x.val % 512; omega)).trans (congrFun hA _)
  · exact (right_apply m c _ r _ _ _ (by show _ = 2048 * ((4 * (x.val / 512) + s) % 4) + r.val; dsimp only; omega)
      (by show y.val = y.val % 1024; have := y.isLt; omega)).trans (congrFun hB _)

/-- The kernel's array is the reference's. -/
theorem value (c : Dev nD) (A : FVec Ideal S8192x2560 .bf16) (B : FVec Ideal S8192x1024 .bf16)
    (hA : m ((c : Thread nD τ).loc main_arg0) = A) (hB : m ((c : Thread nD τ).loc main_arg1) = B) :
    G2 m c = transpose Cert.GradXbcRefIdeal.S2560x1024 [1, 0] (transpose Cert.GradXbcRefIdeal.S1024x2560 [1, 0]
      (Host.dotGeneral Cert.GradXbcRefIdeal.dot_S8192x2560_S8192x1024_S2560x1024_0_0_1_1_n_n none
        (extf .f32 A Cert.GradXbcRefIdeal.Facts₀.bitsLt_bf16_f32) (extf .f32 B Cert.GradXbcRefIdeal.Facts₀.bitsLt_bf16_f32))
      Cert.GradXbcRefIdeal.Facts₀.transposes_S2560x1024_S1024x2560_1_0) Cert.GradXbcRefIdeal.Facts₀.transposes_S1024x2560_S2560x1024_1_0 :=
  ext2 (a := 2560) (b := 1024) fun x y => (kernel_apply m c A B hA hB x y).trans (gradient_t_apply Cert.GradXbcRefIdeal.Facts₀.dot_S8192x2560_S8192x1024_S2560x1024_0_0_1_1_n_n_wf none .single A B _ _ x y).symm

end Cert.Xbc

end
-- ==== Proof.Dt.lean ====
/- The gradient of the input projection's rows for the step sizes: the array that the kernel leaves is `ctᵀ u`, summed over
   all rows. -/
module

public import proofs.«01_k».proof.Proof.Blocked
public import proofs.«01_k».proof.Proof.Gen.GradDtIdeal.Value
public import proofs.«01_k».proof.Proof.Gen.GradDtRefIdeal.Run

@[expose] public section

set_option maxRecDepth 16384

noncomputable section

namespace Cert.Dt

open Idealize.ShloMosaic Idealize.ShloMosaic.ValueIdx Idealize.ShloMosaic.TcCoe
open Cert.GradDtIdeal Cert.GradDtIdeal.Gen Cert.GradDtIdeal.Value Cert.Blocked
open scoped BigOperators

variable (m : (ℓ : Loc nD τ sig) → Buf (Elt Ideal) ℓ)

/-- One point's step at an entry: what was there plus the product of the point's row blocks. -/
theorem pay_apply (acc : Vec Ideal S128x1024 .f32) (x0 : Vec Ideal S2048x128 .f32) (x1 : Vec Ideal S2048x1024 .bf16)
    (i : Fin 128) (j : Fin 1024) :
    k0_pay2 acc x0 x1 (ix2 i j) = acc (ix2 i j) + ∑ r : Fin 2048, x0 (ix2 r i) * x1 (ix2 r j) := by
  unfold k0_pay2
  rw [shapeCast_self]
  exact congrArg (acc (ix2 i j) + ·) (matmul_rows Facts₀.dot_S2048x128_S2048x1024_S128x1024_0_0_1_1_n_n_wf none (truncf .bf16 x0 Facts₀.bitsLt_bf16_f32) x1 i j)

/-- The accumulator's first contents are zero. -/
theorem zero_apply (y : S128x1024.Idx) : k0_pay1 (F := Ideal) y = (0 : EReal) := Ideal.ofBits_zero_f32

/-- The blocks' places: the rows go by the last grid axis, the columns of the two operands by the others. -/
theorem index_facts : ∀ t : Fin cfg0.N, (win0_0.index t (0 : Fin 2) = t.val % 4 ∧ win0_0.index t (1 : Fin 2) = t.val / 4)
    ∧ (win0_1.index t (0 : Fin 2) = t.val % 4 ∧ win0_1.index t (1 : Fin 2) = 0) :=
  (by decide +kernel : ∀ t : Fin grid0.N, _)

/-- An entry of the left operand's block at a point. -/
theorem left_apply (c : Dev nD) (t : Fin cfg0.N) (r : Fin 2048) (i : Fin 128) (k : Fin 8192) (x : Fin 128)
    (hk : k.val = 2048 * (t.val % 4) + r.val) (hx : x.val = 128 * (t.val / 4) + i.val) :
    iblk m c 0 t (ix2 r i) = m ((c : Thread nD τ).loc main_arg0) (ix2 k x) := by
  obtain ⟨⟨e0, e1⟩, -⟩ := index_facts t
  show m ((c : Thread nD τ).loc main_arg0) (((cfg0.win 0).blk t).view.emb (ix2 r i)) = _
  refine congrArg _ (funext fun d => Fin.ext ?_)
  match d with
  | ⟨0, _⟩ => show win0_0.index t (0 : Fin 2) * 2048 + 1 * r.val = k.val; omega
  | ⟨1, _⟩ => show win0_0.index t (1 : Fin 2) * 128 + 1 * i.val = x.val; omega

/-- An entry of the right operand's block at a point. -/
theorem right_apply (c : Dev nD) (t : Fin cfg0.N) (r : Fin 2048) (j : Fin 1024) (k : Fin 8192) (y : Fin 1024)
    (hk : k.val = 2048 * (t.val % 4) + r.val) (hy : y.val = j.val) :
    iblk m c 1 t (ix2 r j) = m ((c : Thread nD τ).loc main_arg1) (ix2 k y) := by
  obtain ⟨-, e0, e1⟩ := index_facts t
  show m ((c : Thread nD τ).loc main_arg1) (((cfg0.win 1).blk t).view.emb (ix2 r j)) = _
  refine congrArg _ (funext fun d => Fin.ext ?_)
  match d with
  | ⟨0, _⟩ => show win0_1.index t (0 : Fin 2) * 2048 + 1 * r.val = k.val; omega
  | ⟨1, _⟩ => show win0_1.index t (1 : Fin 2) * 1024 + 1 * j.val = y.val; omega

/-- What the kernel leaves at an entry. -/
theorem kernel_apply (c : Dev nD) (A : FVec Ideal S8192x128 .f32) (B : FVec Ideal S8192x1024 .bf16)
    (hA : m ((c : Thread nD τ).loc main_arg0) = A) (hB : m ((c : Thread nD τ).loc main_arg1) = B) (x : Fin 128) (y : Fin 1024) :
    G2 m c (ix2 x y) = ∑ k : Fin 8192, A (ix2 k x) * B (ix2 k y) := by
  have hN : cfg0.N = 4 := N_0
  have hq : run2Of (ix2 x y) = x.val / 128 := by
    show 1 * (x.val / 128 - 0) + 1 * (y.val / 1024 - 0) = _
    have := y.isLt; omega
  have h3 : 4 * (x.val / 128) + 3 < cfg0.N := by have := x.isLt; omega
  have hl : loc2Of (ix2 x y) = ix2 ⟨x.val % 128, Nat.mod_lt _ (by omega)⟩ ⟨y.val % 1024, Nat.mod_lt _ (by omega)⟩ := by
    funext d
    match d with
    | ⟨0, _⟩ => rfl
    | ⟨1, _⟩ => rfl
  have hp : 4 * run2Of (ix2 x y) + 3 < cfg0.N := by rw [hq]; exact h3
  unfold G2
  rw [dif_pos hp]
  refine fold_blocks (reset2 m c) (step2 m c) (fun t h => iblk m c 0 ⟨t, h⟩) (fun t h => iblk m c 1 ⟨t, h⟩)
    (fun t h i j => ?_) (fun t h acc i j => pay_apply _ _ _ i j) _ (x.val / 128) hp (congrArg (4 * ·) hq) _ h3 _ _ hl (fun k => A (ix2 k x)) (fun k => B (ix2 k y)) (fun s hs r => ?_) (fun s hs r => ?_)
  · exact (pay_apply _ _ _ i j).trans (by rw [zero_apply, zero_add])
  · exact (left_apply m c _ r _ _ _ (by show _ = 2048 * ((4 * (x.val / 128) + s) % 4) + r.val; dsimp only; omega)
      (by show _ = 128 * ((4 * (x.val / 128) + s) / 4) + x.val % 128; omega)).trans (congrFun hA _)
  · exact (right_apply m c _ r _ _ _ (by show _ = 2048 * ((4 * (x.val / 128) + s) % 4) + r.val; dsimp only; omega)
      (by show y.val = y.val % 1024; have := y.isLt; omega)).trans (congrFun hB _)

/-- The kernel's array is the reference's. -/
theorem value (c : Dev nD) (A : FVec Ideal S8192x128 .f32) (B : FVec Ideal S8192x1024 .bf16)
    (hA : m ((c : Thread nD τ).loc main_arg0) = A) (hB : m ((c : Thread nD τ).loc main_arg1) = B) :
    G2 m c = transpose Cert.GradDtRefIdeal.S128x1024 [1, 0] (transpose Cert.GradDtRefIdeal.S1024x128 [1, 0]
      (Host.dotGeneral Cert.GradDtRefIdeal.dot_S8192x128_S8192x1024_S128x1024_0_0_1_1_n_n none
        A (extf .f32 B Cert.GradDtRefIdeal.Facts₀.bitsLt_bf16_f32))
      Cert.GradDtRefIdeal.Facts₀.transposes_S128x1024_S1024x128_1_0) Cert.GradDtRefIdeal.Facts₀.transposes_S1024x128_S128x1024_1_0 :=
  ext2 (a := 128) (b := 1024) fun x y => (kernel_apply m c A B hA hB x y).trans (gradient_t_apply Cert.GradDtRefIdeal.Facts₀.dot_S8192x128_S8192x1024_S128x1024_0_0_1_1_n_n_wf none .single A B _ _ x y).symm

end Cert.Dt

end
-- ==== Proof.S5.lean ====
/- The gradient of the input projection's rows for the diagonal recurrence: the array that the kernel leaves is `ctᵀ u`,
   summed over all rows. -/
module

public import proofs.«01_k».proof.Proof.Blocked
public import proofs.«01_k».proof.Proof.Gen.GradS5Ideal.Value
public import proofs.«01_k».proof.Proof.Gen.GradS5RefIdeal.Run

@[expose] public section

set_option maxRecDepth 16384

noncomputable section

namespace Cert.S5

open Idealize.ShloMosaic Idealize.ShloMosaic.ValueIdx Idealize.ShloMosaic.TcCoe
open Cert.GradS5Ideal Cert.GradS5Ideal.Gen Cert.GradS5Ideal.Value Cert.Blocked
open scoped BigOperators

variable (m : (ℓ : Loc nD τ sig) → Buf (Elt Ideal) ℓ)

/-- One point's step at an entry: what was there plus the product of the point's row blocks. -/
theorem pay_apply (acc : Vec Ideal S512x1024 .f32) (x0 : Vec Ideal S2048x512 .f32) (x1 : Vec Ideal S2048x1024 .bf16)
    (i : Fin 512) (j : Fin 1024) :
    k0_pay2 acc x0 x1 (ix2 i j) = acc (ix2 i j) + ∑ r : Fin 2048, x0 (ix2 r i) * x1 (ix2 r j) := by
  unfold k0_pay2
  rw [shapeCast_self]
  exact congrArg (acc (ix2 i j) + ·) (matmul_rows Facts₀.dot_S2048x512_S2048x1024_S512x1024_0_0_1_1_n_n_wf none (truncf .bf16 x0 Facts₀.bitsLt_bf16_f32) x1 i j)

/-- The accumulator's first contents are zero. -/
theorem zero_apply (y : S512x1024.Idx) : k0_pay1 (F := Ideal) y = (0 : EReal) := Ideal.ofBits_zero_f32

/-- The blocks' places: the rows go by the last grid axis, the columns of the two operands by the others. -/
theorem index_facts : ∀ t : Fin cfg0.N, (win0_0.index t (0 : Fin 2) = t.val % 4 ∧ win0_0.index t (1 : Fin 2) = t.val / 4)
    ∧ (win0_1.index t (0 : Fin 2) = t.val % 4 ∧ win0_1.index t (1 : Fin 2) = 0) :=
  (by decide +kernel : ∀ t : Fin grid0.N, _)

/-- An entry of the left operand's block at a point. -/
theorem left_apply (c : Dev nD) (t : Fin cfg0.N) (r : Fin 2048) (i : Fin 512) (k : Fin 8192) (x : Fin 512)
    (hk : k.val = 2048 * (t.val % 4) + r.val) (hx : x.val = 512 * (t.val / 4) + i.val) :
    iblk m c 0 t (ix2 r i) = m ((c : Thread nD τ).loc main_arg0) (ix2 k x) := by
  obtain ⟨⟨e0, e1⟩, -⟩ := index_facts t
  show m ((c : Thread nD τ).loc main_arg0) (((cfg0.win 0).blk t).view.emb (ix2 r i)) = _
  refine congrArg _ (funext fun d => Fin.ext ?_)
  match d with
  | ⟨0, _⟩ => show win0_0.index t (0 : Fin 2) * 2048 + 1 * r.val = k.val; omega
  | ⟨1, _⟩ => show win0_0.index t (1 : Fin 2) * 512 + 1 * i.val = x.val; omega

/-- An entry of the right operand's block at a point. -/
theorem right_apply (c : Dev nD) (t : Fin cfg0.N) (r : Fin 2048) (j : Fin 1024) (k : Fin 8192) (y : Fin 1024)
    (hk : k.val = 2048 * (t.val % 4) + r.val) (hy : y.val = j.val) :
    iblk m c 1 t (ix2 r j) = m ((c : Thread nD τ).loc main_arg1) (ix2 k y) := by
  obtain ⟨-, e0, e1⟩ := index_facts t
  show m ((c : Thread nD τ).loc main_arg1) (((cfg0.win 1).blk t).view.emb (ix2 r j)) = _
  refine congrArg _ (funext fun d => Fin.ext ?_)
  match d with
  | ⟨0, _⟩ => show win0_1.index t (0 : Fin 2) * 2048 + 1 * r.val = k.val; omega
  | ⟨1, _⟩ => show win0_1.index t (1 : Fin 2) * 1024 + 1 * j.val = y.val; omega

/-- What the kernel leaves at an entry. -/
theorem kernel_apply (c : Dev nD) (A : FVec Ideal S8192x512 .f32) (B : FVec Ideal S8192x1024 .bf16)
    (hA : m ((c : Thread nD τ).loc main_arg0) = A) (hB : m ((c : Thread nD τ).loc main_arg1) = B) (x : Fin 512) (y : Fin 1024) :
    G2 m c (ix2 x y) = ∑ k : Fin 8192, A (ix2 k x) * B (ix2 k y) := by
  have hN : cfg0.N = 4 := N_0
  have hq : run2Of (ix2 x y) = x.val / 512 := by
    show 1 * (x.val / 512 - 0) + 1 * (y.val / 1024 - 0) = _
    have := y.isLt; omega
  have h3 : 4 * (x.val / 512) + 3 < cfg0.N := by have := x.isLt; omega
  have hl : loc2Of (ix2 x y) = ix2 ⟨x.val % 512, Nat.mod_lt _ (by omega)⟩ ⟨y.val % 1024, Nat.mod_lt _ (by omega)⟩ := by
    funext d
    match d with
    | ⟨0, _⟩ => rfl
    | ⟨1, _⟩ => rfl
  have hp : 4 * run2Of (ix2 x y) + 3 < cfg0.N := by rw [hq]; exact h3
  unfold G2
  rw [dif_pos hp]
  refine fold_blocks (reset2 m c) (step2 m c) (fun t h => iblk m c 0 ⟨t, h⟩) (fun t h => iblk m c 1 ⟨t, h⟩)
    (fun t h i j => ?_) (fun t h acc i j => pay_apply _ _ _ i j) _ (x.val / 512) hp (congrArg (4 * ·) hq) _ h3 _ _ hl (fun k => A (ix2 k x)) (fun k => B (ix2 k y)) (fun s hs r => ?_) (fun s hs r => ?_)
  · exact (pay_apply _ _ _ i j).trans (by rw [zero_apply, zero_add])
  · exact (left_apply m c _ r _ _ _ (by show _ = 2048 * ((4 * (x.val / 512) + s) % 4) + r.val; dsimp only; omega)
      (by show _ = 512 * ((4 * (x.val / 512) + s) / 4) + x.val % 512; omega)).trans (congrFun hA _)
  · exact (right_apply m c _ r _ _ _ (by show _ = 2048 * ((4 * (x.val / 512) + s) % 4) + r.val; dsimp only; omega)
      (by show y.val = y.val % 1024; have := y.isLt; omega)).trans (congrFun hB _)

/-- The kernel's array is the reference's. -/
theorem value (c : Dev nD) (A : FVec Ideal S8192x512 .f32) (B : FVec Ideal S8192x1024 .bf16)
    (hA : m ((c : Thread nD τ).loc main_arg0) = A) (hB : m ((c : Thread nD τ).loc main_arg1) = B) :
    G2 m c = transpose Cert.GradS5RefIdeal.S512x1024 [1, 0] (transpose Cert.GradS5RefIdeal.S1024x512 [1, 0]
      (Host.dotGeneral Cert.GradS5RefIdeal.dot_S8192x512_S8192x1024_S512x1024_0_0_1_1_n_n none
        A (extf .f32 B Cert.GradS5RefIdeal.Facts₀.bitsLt_bf16_f32))
      Cert.GradS5RefIdeal.Facts₀.transposes_S512x1024_S1024x512_1_0) Cert.GradS5RefIdeal.Facts₀.transposes_S1024x512_S512x1024_1_0 :=
  ext2 (a := 512) (b := 1024) fun x y => (kernel_apply m c A B hA hB x y).trans (gradient_t_apply Cert.GradS5RefIdeal.Facts₀.dot_S8192x512_S8192x1024_S512x1024_0_0_1_1_n_n_wf none .single A B _ _ x y).symm

end Cert.S5

end
-- ==== Proof.Out.Row.lean ====
/- The output projection, the residual and its layer normalisation of one row, forward and backward, over the extended reals, and
   the arguments' rows. -/
module

public import proofs.«01_k».proof.Proof.Mlp.Row
public import proofs.«01_k».proof.Proof.Mlp.Place

@[expose] public section

set_option maxRecDepth 16384

noncomputable section

namespace Cert.Out

open Idealize.ShloMosaic Idealize.ShloMosaic.ValueIdx
open Cert.Mlp
open scoped BigOperators

/-- A row with what belongs to it: its projection's operand, the row itself, its gate and the weights. -/
structure Row where
  y : Fin 2048 → EReal
  x : Fin 1024 → EReal
  gate : Fin 1024 → EReal
  w : Fin 2048 → Fin 1024 → EReal
  g : Fin 1024 → EReal
  b : Fin 1024 → EReal

namespace Row

variable (ρ : Row)

def mix (j : Fin 1024) : EReal := ∑ k, ρ.y k * ρ.w k j
def r (j : Fin 1024) : EReal := alpha * ρ.x j + (one + ρ.gate j) * ρ.mix j
def x1 (j : Fin 1024) : EReal := Norm.xhat ρ.r j * ρ.g j + ρ.b j

/-! The gradients of the row whose normalised row has the gradient `d`; `dr` is the gradient of the residual. -/

def dmix (dr : Fin 1024 → EReal) (j : Fin 1024) : EReal := (one + ρ.gate j) * dr j
def dx (dr : Fin 1024 → EReal) (j : Fin 1024) : EReal := alpha * dr j
def dy (dr : Fin 1024 → EReal) (k : Fin 2048) : EReal := ∑ j, ρ.dmix dr j * ρ.w k j
def dr (d : Fin 1024 → EReal) : Fin 1024 → EReal := Norm.back ρ.r fun j => d j * ρ.g j
def drSum (d : Fin 1024 → EReal) : Fin 1024 → EReal := Norm.backSum ρ.r fun j => d j * ρ.g j
/-- What the row adds to the gradient of the gain, -/
def toG (d : Fin 1024 → EReal) (j : Fin 1024) : EReal := d j * Norm.xhat ρ.r j
/-- and to that of its gate. -/
def toGate (dr : Fin 1024 → EReal) (j : Fin 1024) : EReal := dr j * ρ.mix j

/-- What a row adds to row `q` of the first sum: to the gradients of the gain and of the shift, -/
def toSum (q : ℕ) (d : Fin 1024 → EReal) (j : Fin 1024) : EReal := if q = 0 then ρ.toG d j else if q = 1 then d j else 0
/-- and to row `q` of its sequence's: to the gradient of the gate. -/
def toSeq (q : ℕ) (dr : Fin 1024 → EReal) (j : Fin 1024) : EReal := if q = 0 then ρ.toGate dr j else 0

/-- What the row reads besides the shift, and the gradient, are finite. -/
structure Finite (d : Fin 1024 → EReal) : Prop where
  y : ∀ k, ∃ a : ℝ, ρ.y k = a
  x : ∀ k, ∃ a : ℝ, ρ.x k = a
  gate : ∀ k, ∃ a : ℝ, ρ.gate k = a
  w : ∀ k j, ∃ a : ℝ, ρ.w k j = a
  g : ∀ k, ∃ a : ℝ, ρ.g k = a
  d : ∀ k, ∃ a : ℝ, d k = a

/-- On a finite row the two gradients are one. -/
theorem drSum_eq {d : Fin 1024 → EReal} (h : ρ.Finite d) : ρ.drSum d = ρ.dr d := by
  have hmix : ∀ j, ∃ a : ℝ, ρ.mix j = a := fun j => Row.real_sum fun k => Row.real_mul (h.y k) (h.w k j)
  have hr : ∀ j, ∃ a : ℝ, ρ.r j = a := fun j => Row.real_add (Row.real_mul Norm.alpha_real (h.x j))
    (Row.real_mul (Row.real_add ⟨1, Norm.one_eq⟩ (h.gate j)) (hmix j))
  exact funext (Norm.backSum_eq ρ.r _ hr fun j => Row.real_mul (h.d j) (h.g j))

end Row

/-- The arguments. -/
structure Args where
  y : FVec Ideal ⟨3, ![2, 4096, 2048]⟩ .f32
  x : FVec Ideal ⟨3, ![2, 4096, 1024]⟩ .f32
  mod : FVec Ideal ⟨2, ![2, 6144]⟩ .f32
  w : FVec Ideal ⟨2, ![2048, 1024]⟩ .f32
  g : FVec Ideal ⟨2, ![1, 1024]⟩ .f32
  b : FVec Ideal ⟨2, ![1, 1024]⟩ .f32

namespace Args

variable (A : Args)

/-- A row with what belongs to it. -/
def row (R : Fin 8192) : Row where
  y k := A.y (ix3 (seq R) (pos R) k)
  x k := A.x (ix3 (seq R) (pos R) k)
  gate k := A.mod (ix2 (seq R) ⟨2048 + k.val, by omega⟩)
  w k j := A.w (ix2 k j)
  g k := A.g (ix2 0 k)
  b k := A.b (ix2 0 k)

/-- A function of the rows as an array. -/
def rows {n : ℕ} (f : Row → Fin n → EReal) : Shape.Idx ⟨2, ![8192, n]⟩ → EReal := fun y => f (A.row (y 0)) (y 1)

end Args

end Cert.Out

end
-- ==== Proof.Out.Forward.lean ====
/- The forward kernel's two arrays: at every row they hold the row mathematics of the arguments' row. -/
module

public import proofs.«01_k».proof.Proof.Gen.OutNormIdeal.Value
public import proofs.«01_k».proof.Proof.Mlp.Layout
public import proofs.«01_k».proof.Proof.Out.Row
public import Idealize.ShloMosaic.Lib.StableHlo.Run

@[expose] public section

set_option maxRecDepth 16384

noncomputable section

namespace Cert.Out.Forward

open Idealize.ShloMosaic Idealize.ShloMosaic.ValueIdx Idealize.ShloMosaic.TcCoe Idealize.SL.Sem
open Idealize.ShloMosaic.Pipeline (Dat)
open Cert.OutNormIdeal Cert.OutNormIdeal.Gen Cert.OutNormIdeal.Value
open Cert.Mlp Cert.Out
open scoped BigOperators

/-! ## A block's values -/

section

variable (Y : Vec Ideal S512x2048 .bf16) (X : Vec Ideal S512x1024 .f32) (M : Vec Ideal S1x6x1024 .f32) (W : Vec Ideal S2048x1024 .bf16)
  (L : Vec Ideal S2x1024 .f32) (i : Fin 512)

/-- A row of a block with what belongs to it. -/
def rowOf : Row where
  y k := Y (ix2 i k)
  x k := X (ix2 i k)
  gate k := M (ix3 0 2 k)
  w k j := W (ix2 k j)
  g k := L (ix2 0 k)
  b k := L (ix2 1 k)

theorem mix_apply (j : Fin 1024) : k0_pay2 Y W (ix2 i j) = (rowOf Y X M W L i).mix j := by
  unfold k0_pay2
  refine (Ideal.matmul_plain_apply (M := 512) (K := 2048) (N := 1024) none _ _ _ i j).trans ?_
  rw [zero_acc, zero_add, shapeCast_self, shapeCast_self]
  rfl

theorem centred_apply (j : Fin 1024) : k0_pay5 M Y W X (ix2 i j) = Norm.xc (rowOf Y X M W L i).r j := by
  unfold k0_pay5
  have hr : ∀ k : Fin 1024, addf (mulf (broadcast S512x1024 (Scalar.ofBits (F := Ideal) .f32 0x3F9837F0#32)) (shapeCast S512x1024 X shapeCasts_S512x1024_S512x1024))
      (mulf (broadcastTo S512x1024 (addf (broadcast S1x1024 (Scalar.ofBits (F := Ideal) .f32 0x3F800000#32))
        (extractStridedSlice S1x1024 ![2, 0] (shapeCast S6x1024 M shapeCasts_S1x6x1024_S6x1024) slices_S6x1024_o2_0_S1x1024))
        broadcasts_S1x1024_S512x1024) (k0_pay2 Y W)) (ix2 i k) = (rowOf Y X M W L i).r k := fun k =>
    congrArg₂ (fun a b : EReal => a + b) (congrArg (alpha * ·) (congrFun (shapeCast_self X _) (ix2 i k)))
      (congrArg₂ (fun a b : EReal => a * b) ((one_add i _ _ (by omega) k).trans (congrArg (one + ·) (mod_row M _ 2 2 rfl _ k)))
        (mix_apply Y X M W L i k))
  exact congrArg₂ (fun a b : EReal => a - b) (hr j) ((row_mean _ _ _ _ _ _ i j).trans (congrArg mean (funext hr)))

theorem var_apply : k0_pay6 M Y W X (ix2 i 0) = Norm.var (rowOf Y X M W L i).r := by
  unfold k0_pay6
  refine congrArg (fun a : EReal => Ideal.div a width + eps) ((row_sum _ _ _ _ _ i).trans ?_)
  exact Finset.sum_congr rfl fun k _ => congrArg₂ (fun a b : EReal => a * b) (centred_apply Y X M W L i k) (centred_apply Y X M W L i k)

/-- The layer normalisation's result. -/
theorem x1_apply (j : Fin 1024) : k0_pay1 (k0_pay3 (View.ld L r0_4)) (k0_pay4 (View.ld L r0_5)) (k0_pay5 M Y W X) (k0_pay6 M Y W X) (ix2 i j)
    = (rowOf Y X M W L i).x1 j := by
  unfold k0_pay1 k0_pay3 k0_pay4
  refine congrArg₂ (fun a b : EReal => a + b) (congrArg₂ (fun a b : EReal => a * b) (congrArg₂ (fun a b : EReal => a * b)
    (centred_apply Y X M W L i j) ((col_bcast _ _ i j).trans (congrArg Ideal.rsqrt (var_apply Y X M W L i)))) ?_) ?_
  · exact (row_bcast _ _ (by omega) i j).trans ((congrFun (shapeCast_self _ _) (ix2 0 j)).trans (vec_row L 0 0 rfl _ j))
  · exact (row_bcast _ _ (by omega) i j).trans ((congrFun (shapeCast_self _ _) (ix2 0 j)).trans (vec_row L 1 1 rfl _ j))

theorem out_mix : out0_5 Y X M W L = k0_pay2 Y W := by
  unfold out0_5
  rw [View.canon_cons_unit_zero zero2, View.ld_unit_zero (S := S512x2048) zero2, View.ld_unit_zero (S := S2048x1024) zero2]

theorem out_x1 : out0_6 Y X M W L = k0_pay1 (k0_pay3 (View.ld L r0_4)) (k0_pay4 (View.ld L r0_5)) (k0_pay5 M Y W X) (k0_pay6 M Y W X) := by
  unfold out0_6
  rw [View.canon_cons_unit_zero zero2, View.ld_unit_zero (S := S512x2048) zero2, View.ld_unit_zero (S := S2048x1024) zero2,
    View.ld_unit_zero (S := S512x1024) zero2, View.ld_unit_zero (S := S1x6x1024) zero3]

end

/-! ## A point's blocks are rows of the arguments -/

section

variable {F : FTy → Type} [FloatOps F] (m : (ℓ : Loc nD τ sig) → Buf (Elt F) ℓ) (c : Dev nD)

theorem V_y : V m c main_v3 = truncf .bf16 (shapeCast S8192x2048 (m ((c : Thread nD τ).loc main_arg0) : FVec F S2x4096x2048 .f32)
    shapeCasts_S2x4096x2048_S8192x2048) bitsLt_bf16_f32 := by
  show StableHlo.after hostOps0 _ (Proc.devRef .tc main_v3) = _
  after_results
  rfl

theorem V_x : V m c main_v4 = shapeCast S8192x1024 (m ((c : Thread nD τ).loc main_arg1) : FVec F S2x4096x1024 .f32) shapeCasts_S2x4096x1024_S8192x1024 := by
  show StableHlo.after hostOps0 _ (Proc.devRef .tc main_v4) = _
  after_results
  rfl

theorem V_mod : V m c main_v0 = shapeCast S2x6x1024 (m ((c : Thread nD τ).loc main_arg2) : FVec F S2x6144 .f32) shapeCasts_S2x6144_S2x6x1024 := by
  show StableHlo.after hostOps0 _ (Proc.devRef .tc main_v0) = _
  after_results
  rfl

theorem V_w : V m c main_v5 = truncf .bf16 (m ((c : Thread nD τ).loc main_arg3) : FVec F S2048x1024 .f32) bitsLt_bf16_f32 := by
  show StableHlo.after hostOps0 _ (Proc.devRef .tc main_v5) = _
  after_results

theorem V_ln : V m c main_v1 = concatenate S2x1024 0 [⟨S1x1024, (m ((c : Thread nD τ).loc main_arg4) : FVec F S1x1024 .f32)⟩,
    ⟨S1x1024, (m ((c : Thread nD τ).loc main_arg5) : FVec F S1x1024 .f32)⟩] concatenates_S1x1024_S1x1024_S2x1024_d0 := by
  show StableHlo.after hostOps0 _ (Proc.devRef .tc main_v1) = _
  after_results

end

variable (m : (ℓ : Loc nD τ sig) → Buf (Elt Ideal) ℓ) (c : Dev nD)

/-- The device's arguments. -/
def args : Args where
  y := m ((c : Thread nD τ).loc main_arg0)
  x := m ((c : Thread nD τ).loc main_arg1)
  mod := m ((c : Thread nD τ).loc main_arg2)
  w := m ((c : Thread nD τ).loc main_arg3)
  g := m ((c : Thread nD τ).loc main_arg4)
  b := m ((c : Thread nD τ).loc main_arg5)

theorem index_facts : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 3) = t.val / 8 ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

variable (t : Fin cfg0.N)

/-- The row of the whole that is row `i` of block `t`. -/
def rowIn (i : Fin 512) : Fin 8192 := ⟨512 * t.val + i.val, by have : t.val < 16 := lt_of_lt_of_eq t.isLt (show cfg0.N = 16 from N_0); omega⟩

theorem y_apply (i : Fin 512) (k : Fin 2048) : iblk m c 0 t (ix2 i k) = (args m c).y (ix3 (seq (rowIn t i)) (pos (rowIn t i)) k) := by
  obtain ⟨⟨e0, e1⟩, -⟩ := index_facts t
  show V m c main_v3 (((cfg0.win 0).blk t).view.emb (ix2 i k)) = _
  rw [V_y, show ((cfg0.win 0).blk t).view.emb (ix2 i k) = ix2 (rowIn t i) k from funext fun d => Fin.ext (match d with
    | ⟨0, _⟩ => by show win0_0.index t (0 : Fin 2) * 512 + 1 * i.val = 512 * t.val + i.val; omega
    | ⟨1, _⟩ => by show win0_0.index t (1 : Fin 2) * 2048 + 1 * k.val = k.val; omega)]
  exact rows_apply (args m c).y _ (rowIn t i) k

theorem x_apply (i : Fin 512) (k : Fin 1024) : iblk m c 1 t (ix2 i k) = (args m c).x (ix3 (seq (rowIn t i)) (pos (rowIn t i)) k) := by
  obtain ⟨-, ⟨e0, e1⟩, -⟩ := index_facts t
  show V m c main_v4 (((cfg0.win 1).blk t).view.emb (ix2 i k)) = _
  rw [V_x, show ((cfg0.win 1).blk t).view.emb (ix2 i k) = ix2 (rowIn t i) k from funext fun d => Fin.ext (match d with
    | ⟨0, _⟩ => by show win0_1.index t (0 : Fin 2) * 512 + 1 * i.val = 512 * t.val + i.val; omega
    | ⟨1, _⟩ => by show win0_1.index t (1 : Fin 2) * 1024 + 1 * k.val = k.val; omega)]
  exact rows_apply (args m c).x _ (rowIn t i) k

theorem gate_apply (i : Fin 512) (k : Fin 1024) : iblk m c 2 t (ix3 0 2 k) = (args m c).mod (ix2 (seq (rowIn t i)) ⟨2048 + k.val, by omega⟩) := by
  have hN : t.val < 16 := lt_of_lt_of_eq t.isLt (show cfg0.N = 16 from N_0)
  obtain ⟨-, -, ⟨e0, e1, e2⟩, -⟩ := index_facts t
  show V m c main_v0 (((cfg0.win 2).blk t).view.emb (ix3 0 2 k)) = _
  rw [V_mod, show ((cfg0.win 2).blk t).view.emb (ix3 0 2 k) = ix3 (seq (rowIn t i)) 2 k from funext fun d => Fin.ext (match d with
    | ⟨0, _⟩ => by show win0_2.index t (0 : Fin 3) * 1 + 1 * 0 = (512 * t.val + i.val) / 4096; omega
    | ⟨1, _⟩ => by show win0_2.index t (1 : Fin 3) * 6 + 1 * 2 = 2; omega
    | ⟨2, _⟩ => by show win0_2.index t (2 : Fin 3) * 1024 + 1 * k.val = k.val; omega)]
  exact shapeCast_apply (args m c).mod _ _ _ (by
    rw [Shape.rowMajor_val_three, Shape.rowMajor_val_two]
    show (seq (rowIn t i)).val * 6144 + (2048 + k.val) = ((seq (rowIn t i)).val * 6 + 2) * 1024 + k.val
    omega)

theorem w_apply (k : Fin 2048) (j : Fin 1024) : iblk m c 3 t (ix2 k j) = (args m c).w (ix2 k j) := by
  obtain ⟨-, -, -, ⟨e0, e1⟩, -⟩ := index_facts t
  show V m c main_v5 (((cfg0.win 3).blk t).view.emb (ix2 k j)) = _
  rw [V_w, show ((cfg0.win 3).blk t).view.emb (ix2 k j) = ix2 k j from funext fun d => Fin.ext (match d with
    | ⟨0, _⟩ => by show win0_3.index t (0 : Fin 2) * 2048 + 1 * k.val = k.val; omega
    | ⟨1, _⟩ => by show win0_3.index t (1 : Fin 2) * 1024 + 1 * j.val = j.val; omega)]
  rfl

theorem ln_at (q : Fin 2) (k : Fin 1024) : iblk m c 4 t (ix2 q k)
    = concatenate S2x1024 0 [⟨S1x1024, (args m c).g⟩, ⟨S1x1024, (args m c).b⟩] concatenates_S1x1024_S1x1024_S2x1024_d0 (ix2 q k) := by
  obtain ⟨-, -, -, -, ⟨e0, e1⟩, -⟩ := index_facts t
  show V m c main_v1 (((cfg0.win 4).blk t).view.emb (ix2 q k)) = _
  rw [V_ln, show ((cfg0.win 4).blk t).view.emb (ix2 q k) = ix2 q k from funext fun d => Fin.ext (match d with
    | ⟨0, _⟩ => by show win0_4.index t (0 : Fin 2) * 2 + 1 * q.val = q.val; omega
    | ⟨1, _⟩ => by show win0_4.index t (1 : Fin 2) * 1024 + 1 * k.val = k.val; omega)]
  rfl

theorem g_apply (k : Fin 1024) : iblk m c 4 t (ix2 0 k) = (args m c).g (ix2 0 k) :=
  (ln_at m c t 0 k).trans (concatenate_pair_apply_left (t := S2x1024) (s₁ := S1x1024) (s₂ := S1x1024) 0 _ _ _ (ix2 0 k) rfl (ix2 0 k) (fun d => by
    match d with
    | ⟨0, _⟩ => rfl
    | ⟨1, _⟩ => rfl))

theorem b_apply (k : Fin 1024) : iblk m c 4 t (ix2 1 k) = (args m c).b (ix2 0 k) :=
  (ln_at m c t 1 k).trans (concatenate_apply_piece (t := S2x1024) 0 _ _ (ix2 1 k) 1 (by show 1 < 2; decide) S1x1024 (args m c).b rfl rfl 1 rfl
    (ix2 0 k) (fun d hd => by
      match d with
      | ⟨0, _⟩ => exact absurd rfl hd
      | ⟨1, _⟩ => rfl) rfl)

/-- A row of a point's blocks. -/
abbrev blockRow (i : Fin 512) : Row := rowOf (iblk m c 0 t) (iblk m c 1 t) (iblk m c 2 t) (iblk m c 3 t) (iblk m c 4 t) i

/-- A row of a point's blocks is that row of the arguments. -/
theorem row_eq (i : Fin 512) : blockRow m c t i = (args m c).row (rowIn t i) := by
  unfold blockRow rowOf Args.row
  rw [Row.mk.injEq]
  exact ⟨funext fun k => y_apply m c t i k, funext fun k => x_apply m c t i k, funext fun k => gate_apply m c t i k,
    funext fun k => funext fun j => w_apply m c t k j, funext fun k => g_apply m c t k, funext fun k => b_apply m c t k⟩

/-! ## The whole arrays -/

/-- A block of rows at an entry is the array's block there. -/
theorem block_rows (f : Row → Fin 1024 → EReal) (B : Shape.Idx ⟨2, ![512, 1024]⟩ → EReal)
    (hB : ∀ i j, B (ix2 i j) = f (blockRow m c t i) j) (z : Shape.Idx ⟨2, ![512, 1024]⟩) (y : Shape.Idx ⟨2, ![8192, 1024]⟩)
    (h0 : (y 0).val = 512 * t.val + (z 0).val) (h1 : (y 1).val = (z 1).val) : B z = (args m c).rows f y := by
  have ez : z = ix2 (z 0) (z 1) := pair _ _ rfl rfl
  have e0 : y 0 = rowIn t (z 0) := Fin.ext h0
  have e1 : y 1 = z 1 := Fin.ext h1
  exact (congrArg B ez).trans ((hB (z 0) (z 1)).trans
    (congrArg₂ (fun R j => f R j) ((row_eq m c t (z 0)).trans (congrArg (args m c).row e0.symm)) e1.symm))

theorem final_mix : (dats m 0 c).arrAt 5 cfg0.N = (args m c).rows Row.mix := by
  refine (dats m 0 c).arrAt_eq_of_covers 5 _ (by decide +kernel) fun t hf y => ?_
  obtain ⟨-, -, -, -, -, ⟨e0, e1⟩, -⟩ := index_facts t
  blk_simp
  rw [after0_5, out_mix]
  exact block_rows m c t Row.mix _ (fun i j => mix_apply _ _ _ _ _ i j) y _
    (by show win0_5.index t (0 : Fin 2) * 512 + 1 * (y 0).val = 512 * t.val + (y 0).val; omega)
    (by show win0_5.index t (1 : Fin 2) * 1024 + 1 * (y 1).val = (y 1).val; omega)

theorem final_x1 : (dats m 0 c).arrAt 6 cfg0.N = (args m c).rows Row.x1 := by
  refine (dats m 0 c).arrAt_eq_of_covers 6 _ (by decide +kernel) fun t hf y => ?_
  obtain ⟨-, -, -, -, -, -, e0, e1⟩ := index_facts t
  blk_simp
  rw [after0_6, out_x1]
  exact block_rows m c t Row.x1 _ (fun i j => x1_apply _ _ _ _ _ i j) y _
    (by show win0_6.index t (0 : Fin 2) * 512 + 1 * (y 0).val = 512 * t.val + (y 0).val; omega)
    (by show win0_6.index t (1 : Fin 2) * 1024 + 1 * (y 1).val = (y 1).val; omega)

/-- The kernel's results, and its arguments unchanged. -/
theorem kernel_run (ρ : Dev nD → PrngReg) : θ_run (defs (F := Ideal)) (onTc (τ := τ) (main (F := Ideal))) ⟨m, fun _ => 0, ρ⟩ (fun r => ∀ c : Dev nD,
      r.2.mem ((c.tc : Thread nD τ).loc main_v6_0) = (args m c).rows Row.mix
      ∧ r.2.mem ((c.tc : Thread nD τ).loc main_v6_1) = (args m c).rows Row.x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (final_mix m c), (h c).2.1.trans (final_x1 m c), (h c).2.2⟩) (run_blocks m ρ)

end Cert.Out.Forward

end
-- ==== Proof.Out.ForwardRef.lean ====
/- The forward reference's two arrays at the entries of a row: the row mathematics of the row. -/
module

public import proofs.«01_k».proof.Proof.Gen.OutNormRefIdeal.Read
public import proofs.«01_k».proof.Proof.Out.Row

@[expose] public section

set_option maxRecDepth 16384

noncomputable section

namespace Cert.Out.ForwardRef

open Idealize.ShloMosaic Idealize.ShloMosaic.ValueIdx Idealize.ShloMosaic.TcCoe Idealize.SL.Sem
open Cert.OutNormRefIdeal Cert.OutNormRefIdeal.Gen Cert.OutNormRefIdeal.Read
open Cert.Mlp Cert.Out
open scoped BigOperators

variable (A : Args) (R : Fin 8192)

abbrev mix := val_main_v7 (F := Ideal) A.y A.w
abbrev r := val_main_v14 (F := Ideal) A.y A.x A.mod A.w
abbrev xc := val_main_v20 (F := Ideal) A.y A.x A.mod A.w
abbrev var := val_main_v27 (F := Ideal) A.y A.x A.mod A.w
abbrev xhat := val_main_v30 (F := Ideal) A.y A.x A.mod A.w
abbrev x1 := val_main_v36 (F := Ideal) A.y A.x A.mod A.w A.g A.b

/-- A row's place in the array by sequences. -/
theorem by_seq (k : Fin 1024) : idx_main_v37 (ix2 R k) = ix3 (seq R) (pos R) k := by
  funext d
  match d with
  | ⟨0, _⟩ => exact Fin.ext (by show (R.val * 1024 + k.val) / 4194304 = R.val / 4096; omega)
  | ⟨1, _⟩ => exact Fin.ext (by show (R.val * 1024 + k.val) / 1024 % 4096 = R.val % 4096; omega)
  | ⟨2, _⟩ => exact Fin.ext (by show (R.val * 1024 + k.val) % 1024 = k.val; omega)

theorem mix_apply (j : Fin 1024) : mix A (ix3 (seq R) (pos R) j) = (A.row R).mix j := by
  rw [mix, val_main_v7_apply]
  exact Finset.sum_congr rfl fun k _ => congrArg₂ (fun a b : EReal => a * b)
    (congrArg A.y (triple (seq R) (pos R) k rfl rfl rfl)) (congrArg A.w (pair k j rfl rfl))

theorem gate_apply (j : Fin 1024) : val_main_v12 (F := Ideal) A.mod (ix3 (seq R) (pos R) j) = one + (A.row R).gate j := by
  rw [val_main_v12_apply, val_main_v11_apply, val_main_v3_apply, val_main_v0_apply, val_main_v10_apply]
  exact congrArg (fun a : EReal => one + a) (congrArg A.mod (pair _ _ rfl rfl))

theorem r_apply (j : Fin 1024) : r A (ix3 (seq R) (pos R) j) = (A.row R).r j := by
  rw [r, val_main_v14_apply, val_main_v13_apply, val_main_v9_apply, gate_apply]
  exact congrArg (fun a : EReal => alpha * A.x (ix3 (seq R) (pos R) j) + (one + (A.row R).gate j) * a) (mix_apply A R j)

theorem xc_apply (j : Fin 1024) : xc A (ix3 (seq R) (pos R) j) = Norm.xc (A.row R).r j := by
  rw [xc, val_main_v20_apply, val_main_v19_apply, val_main_v18_apply, val_main_v16_apply, val_main_v15_apply]
  exact congrArg₂ (fun a b : EReal => a - b) (r_apply A R j) (congrArg (fun a : EReal => Ideal.div a width)
    (sum_from Ideal.ofBits_zero_f32 fun k => (congrArg (r A) (triple (seq R) (pos R) k rfl rfl rfl)).trans (r_apply A R k)))

theorem var_apply : var A (ix3 (seq R) (pos R) 0) = Norm.var (A.row R).r := by
  rw [var, val_main_v27_apply, val_main_v25_apply, val_main_v23_apply, val_main_v22_apply]
  refine congrArg (fun a : EReal => Ideal.div a width + eps) (sum_from Ideal.ofBits_zero_f32 fun k => ?_)
  rw [show idx_main_v22 (idx_main_v23 (ix3 (seq R) (pos R) 0)) k = ix3 (seq R) (pos R) k from triple _ _ k rfl rfl rfl, val_main_v21_apply]
  exact congrArg₂ (fun a b : EReal => a * b) (xc_apply A R k) (xc_apply A R k)

theorem xhat_apply (j : Fin 1024) : xhat A (ix3 (seq R) (pos R) j) = Norm.xhat (A.row R).r j := by
  rw [xhat, val_main_v30_apply, val_main_v29_apply, val_main_v28_apply]
  exact congrArg₂ (fun a b : EReal => a * b) (xc_apply A R j)
    (congrArg Ideal.rsqrt ((congrArg (var A) (triple (seq R) (pos R) 0 rfl rfl rfl)).trans (var_apply A R)))

theorem x1_apply (j : Fin 1024) : x1 A (ix3 (seq R) (pos R) j) = (A.row R).x1 j := by
  rw [x1, val_main_v36_apply, val_main_v33_apply, val_main_v32_apply, val_main_v31_apply, val_main_v35_apply, val_main_v34_apply]
  exact congrArg₂ (fun a b : EReal => a + b) (congrArg₂ (fun a b : EReal => a * b) (xhat_apply A R j) (congrArg A.g (pair 0 j rfl rfl)))
    (congrArg A.b (pair 0 j rfl rfl))

/-! ## The two results -/

theorem mix_eq : val_main_v37 (F := Ideal) A.y A.w = A.rows Row.mix :=
  ext_rows fun R k => (val_main_v37_apply (F := Ideal) A.y A.w _).trans ((congrArg (mix A) (by_seq R k)).trans (mix_apply A R k))

theorem x1_eq : val_main_v38 (F := Ideal) A.y A.x A.mod A.w A.g A.b = A.rows Row.x1 :=
  ext_rows fun R k => (val_main_v38_apply (F := Ideal) A.y A.x A.mod A.w A.g A.b _).trans ((congrArg (x1 A) (by_seq R k)).trans (x1_apply A R k))

variable (m : (ℓ : Loc nD τ sig) → Buf (Elt Ideal) ℓ)

/-- The reference's arguments. -/
def args (c : Dev nD) : Args where
  y := m ((c.tc : Thread nD τ).loc main_arg0)
  x := m ((c.tc : Thread nD τ).loc main_arg1)
  mod := m ((c.tc : Thread nD τ).loc main_arg2)
  w := m ((c.tc : Thread nD τ).loc main_arg3)
  g := m ((c.tc : Thread nD τ).loc main_arg4)
  b := m ((c.tc : Thread nD τ).loc main_arg5)

/-- The reference's results, and its arguments unchanged. -/
theorem reference_run (ρ : Dev nD → PrngReg) : θ_run (defs (F := Ideal)) (onTc (τ := τ) (main (F := Ideal))) ⟨m, fun _ => 0, ρ⟩ (fun r => ∀ c : Dev nD,
      r.2.mem ((c.tc : Thread nD τ).loc main_v37) = (args m c).rows Row.mix
      ∧ r.2.mem ((c.tc : Thread nD τ).loc main_v38) = (args m c).rows Row.x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1.trans (val_main_v37_eq _ _)).trans (mix_eq (args m c)),
      ((h c).2.1.trans (val_main_v38_eq m c)).trans (x1_eq (args m c)), (h c).2.2⟩) (Cert.OutNormRefIdeal.Value.run (F := Ideal) m ρ)

end Cert.Out.ForwardRef

end
-- ==== Proof.Out.Back.lean ====
/- The backward kernel's point: its results as functions of its operands, and what each case of the body's run writes, read back as them. -/
module

public import proofs.«01_k».proof.Proof.Gen.NormGradIdeal.Frame
public import proofs.«01_k».proof.Proof.Mlp.Place
public import Idealize.ShloMosaic.Lib.Pipeline.Value
public import Idealize.ShloMosaic.Lib.Pipeline.ReadBack
public import Idealize.ShloMosaic.Lib.WritesUnit
public import Idealize.ShloMosaic.Lib.VecWindow

@[expose] public section

set_option maxRecDepth 16384

noncomputable section

namespace Cert.Out.Back

open Idealize.ShloMosaic Idealize.ShloMosaic.TcCoe Idealize.ShloMosaic.Tactic Idealize.ShloMosaic.ValueIdx
open Cert.NormGradIdeal Cert.NormGradIdeal.Gen
open Cert.Mlp (zero2 zero3)

variable {F : FTy → Type} [FloatOps F]

/-- A point's operands. -/
structure In (F : FTy → Type) [FloatOps F] where
  d : Vec F S512x1024 .f32
  x : Vec F S512x1024 .f32
  mix : Vec F S512x1024 .f32
  mod : Vec F S1x6x1024 .f32
  w : Vec F S2048x1024 .bf16
  ln : Vec F S2x1024 .f32

namespace In

variable (I : In F)

def gain : Vec F S1x1024 .f32 := View.ld I.ln (Rect.unit ![0, 0] ![1, 1024] inb_S2x1024_S1x1024_0_0)
def wHead : Vec F S1536x1024 .bf16 := View.ld I.w (Rect.unit ![0, 0] ![1536, 1024] inb_S2048x1024_S1536x1024_0_0)
def wTail : Vec F S512x1024 .bf16 := View.ld I.w (Rect.unit ![1536, 0] ![512, 1024] inb_S2048x1024_S512x1024_1536_0)
/-- The residual less its mean, and the residual's gradient. -/
def centred : FVec F S512x1024 .f32 := k1_pay5 I.mod I.mix I.x
def dr : FVec F S512x1024 .f32 := k1_pay9 I.centred I.d I.gain
def dmixB : FVec F S512x1024 .bf16 := k1_pay14 (k1_pay3 I.mod) I.dr
def dx : FVec F S512x1024 .f32 := k1_pay15 I.dr
def dys : FVec F S512x1536 .f32 := k1_pay16 (k1_pay3 I.mod) I.dr I.wHead
def dy5 : FVec F S512x512 .f32 := k1_pay17 (k1_pay3 I.mod) I.dr I.wTail

/-- Added to the gradients of the gain and of the shift, -/
def gacc (G : Vec F S8x1024 .f32) : Vec F S8x1024 .f32 := fun y =>
  if (y 0).val = 0 then k1_pay10 I.centred I.d (View.ld G (Rect.unit ![0, 0] ![1, 1024] inb_S8x1024_S1x1024_0_0)) (ix2 (0 : Fin 1) (y 1))
  else if (y 0).val = 1 then
    k1_pay12 (k1_pay8 I.d) (k1_pay11 (View.ld G (Rect.unit ![1, 0] ![1, 1024] inb_S8x1024_S1x1024_1_0))) (ix2 (0 : Fin 1) (y 1))
  else G y

/-- and to that of the sequence's gate. -/
def bacc (B : Vec F S1x8x1024 .f32) : Vec F S1x8x1024 .f32 := fun y =>
  if (y 1).val = 0 then
    k1_pay13 (k1_pay4 I.mix) I.dr (View.ld B (Rect.unit ![0, 0, 0] ![1, 1, 1024] inb_S1x8x1024_S1x1x1024_0_0_0)) (ix3 (0 : Fin 1) (0 : Fin 1) (y 2))
  else B y

end In

theorem ld_rows (x : Vec F S512x1024 .f32) : View.ld x (Rect.unit ![0, 0] ![512, 1024] inb_S512x1024_S512x1024_0_0) = x :=
  View.ld_unit_zero (S := S512x1024) zero2 _ x
theorem ld_mod (x : Vec F S1x6x1024 .f32) : View.ld x (Rect.unit ![0, 0, 0] ![1, 6, 1024] inb_S1x6x1024_S1x6x1024_0_0_0) = x :=
  View.ld_unit_zero (S := S1x6x1024) zero3 _ x

/-- The pieces leave `X` in whatever buffer they are written to. -/
abbrev Leaves {s : Shape} {e : EltTy} (L : List (View.Piece (Elt F) s e)) (X : s.Idx → Elt F e) : Prop :=
  ∀ (v : View sig .tc .vmem s e) (f : v.ty.Contents (Elt F)), v.read (Elt F) (v.writes (Elt F) f L) = X

section

variable {κ : Kind} {sp : Space} (I : In F)

/-- Two rows written over a buffer of eight, -/
theorem read_rows (v : View sig κ sp S8x1024 .f32) (f : v.ty.Contents (Elt F)) (G : Vec F S8x1024 .f32)
    (L : List (View.Piece (Elt F) S8x1024 .f32)) (hf : v.read (Elt F) (v.writes (Elt F) f L) = G) :
    v.read (Elt F) (v.writes (Elt F) f (
      ⟨Rect.unit ![1, 0] ![1, 1024] inb_S8x1024_S1x1024_1_0,
        k1_pay12 (k1_pay8 I.d) (k1_pay11 (View.ld G (Rect.unit ![1, 0] ![1, 1024] inb_S8x1024_S1x1024_1_0)))⟩ ::
      ⟨Rect.unit ![0, 0] ![1, 1024] inb_S8x1024_S1x1024_0_0,
        k1_pay10 I.centred I.d (View.ld G (Rect.unit ![0, 0] ![1, 1024] inb_S8x1024_S1x1024_0_0))⟩ :: L)) = I.gacc G := by
  funext y
  unfold In.gacc
  by_cases e1 : (y 0).val = 1
  · rw [if_neg (by omega), if_pos e1]
    exact View.read_writes_cons_rows_of_mem (d := S8x1024.size) v f _ _ _ y (ix2 (0 : Fin 1) (y 1)) rfl (by rw [e1]; rfl) rfl
  rw [View.read_writes_cons_rows_of_not_mem (d := S8x1024.size) (W := 1) v f _ _ _ y rfl rfl (by omega)]
  by_cases e0 : (y 0).val = 0
  · rw [if_pos e0]
    exact View.read_writes_cons_rows_of_mem (d := S8x1024.size) v f _ _ _ y (ix2 (0 : Fin 1) (y 1)) rfl (by rw [e0]; rfl) rfl
  rw [View.read_writes_cons_rows_of_not_mem (d := S8x1024.size) (W := 1) v f _ _ _ y rfl rfl (by omega), hf, if_neg e0, if_neg e1]

/-- and one over a sequence's. -/
theorem read_rows3 (v : View sig κ sp S1x8x1024 .f32) (f : v.ty.Contents (Elt F)) (B : Vec F S1x8x1024 .f32)
    (L : List (View.Piece (Elt F) S1x8x1024 .f32)) (hf : v.read (Elt F) (v.writes (Elt F) f L) = B) :
    v.read (Elt F) (v.writes (Elt F) f (
      ⟨Rect.unit ![0, 0, 0] ![1, 1, 1024] inb_S1x8x1024_S1x1x1024_0_0_0,
        k1_pay13 (k1_pay4 I.mix) I.dr (View.ld B (Rect.unit ![0, 0, 0] ![1, 1, 1024] inb_S1x8x1024_S1x1x1024_0_0_0))⟩ :: L)) = I.bacc B := by
  funext y
  unfold In.bacc
  by_cases e : (y 1).val = 0
  · rw [if_pos e]
    exact View.read_writes_cons_unit_of_mem v f _ _ L y (ix3 (0 : Fin 1) (0 : Fin 1) (y 2)) rfl fun a => by
      match a with
      | ⟨0, _⟩ => have : (y 0).val < 1 := (y 0).isLt; show (y 0).val = 0 + 0; omega
      | ⟨1, _⟩ => show (y 1).val = 0 + 0; omega
      | ⟨2, _⟩ => exact (Nat.zero_add _).symm
  rw [View.read_writes_cons_unit_of_not_mem v f _ _ L y rfl (1 : Fin 3) (by show (y 1).val < 0 ∨ 0 + 1 ≤ (y 1).val; omega), hf, if_neg e]

end

variable (c : Dev nD) (i : grid1.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x6x1024 .f32) (harg4 : arg4.IsWhole) (arg5 : Memref sig .tc .vmem S2048x1024 .bf16) (harg5 : arg5.IsWhole) (arg6 : Memref sig .tc .vmem S2x1024 .f32) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S512x1536 .f32) (harg9 : arg9.IsWhole) (arg10 : Memref sig .tc .vmem S512x512 .f32) (harg10 : arg10.IsWhole) (arg11 : Memref sig .tc .vmem S8x1024 .f32) (harg11 : arg11.IsWhole) (arg12 : Memref sig .tc .vmem S1x8x1024 .f32) (harg12 : arg12.IsWhole)
  (I : In F) (xo10 : Vec F S8x1024 .f32) (xo11 : Vec F S1x8x1024 .f32)

/-- At the first point every accumulator starts at zero. -/
theorem reads_A (hc0 : cond1_0 i) (hc1 : cond1_1 i) : ∀ R, R = kernelRun1_A c i arg1 harg1 arg2 harg2 arg3 harg3 arg4 harg4 arg5 harg5 arg6 harg6 arg7 harg7 arg8 harg8 arg9 harg9 arg10 harg10 arg11 harg11 arg12 harg12 hc0 hc1 I.d I.x I.mix I.mod I.w I.ln →
    Leaves R.1 I.dmixB ∧ Leaves R.2.1 I.dx ∧ Leaves R.2.2.1 I.dys ∧ Leaves R.2.2.2.1 I.dy5
      ∧ Leaves R.2.2.2.2.1 (I.gacc k1_pay1)
      ∧ Leaves R.2.2.2.2.2.1 (I.bacc k1_pay2) := by
  rintro _ rfl
  unfold kernelRun1_A; dsimp only
  try sl_unfold_words
  simp only [View.readAt_eq_ld, harg1.read_unread, harg2.read_unread, harg3.read_unread, harg4.read_unread, harg5.read_unread, harg6.read_unread, harg11.read_unread, harg12.read_unread, ld_rows, ld_mod]
  simp (disch := decide) only [↓View.readCov_skip, ↓View.readCov_fill]
  refine ⟨fun v f => ?_, fun v f => ?_, fun v f => ?_, fun v f => ?_, fun v f => ?_, fun v f => ?_⟩
  · exact View.read_writes_full _ f _ _ _
  · exact View.read_writes_full _ f _ _ _
  · exact View.read_writes_full _ f _ _ _
  · exact View.read_writes_full _ f _ _ _
  · exact read_rows I _ _ k1_pay1 _ (View.read_writes_full _ _ _ _ _)
  · exact read_rows3 I _ _ k1_pay2 _ (View.read_writes_full _ _ _ _ _)

/-- Within a sequence every accumulator is added to. -/
theorem reads_B (hc0 : ¬cond1_0 i) (hc1 : ¬cond1_1 i) : ∀ R, R = kernelRun1_B c i arg1 harg1 arg2 harg2 arg3 harg3 arg4 harg4 arg5 harg5 arg6 harg6 arg7 harg7 arg8 harg8 arg9 harg9 arg10 harg10 arg11 harg11 arg12 harg12 hc0 hc1 I.d I.x I.mix I.mod I.w I.ln xo10 xo11 →
    Leaves R.1 I.dmixB ∧ Leaves R.2.1 I.dx ∧ Leaves R.2.2.1 I.dys ∧ Leaves R.2.2.2.1 I.dy5
      ∧ arg11.view.read (Elt F) (arg11.view.writes (Elt F) (harg11.unread xo10) R.2.2.2.2.1) = I.gacc xo10
      ∧ arg12.view.read (Elt F) (arg12.view.writes (Elt F) (harg12.unread xo11) R.2.2.2.2.2.1) = I.bacc xo11 := by
  rintro _ rfl
  unfold kernelRun1_B; dsimp only
  try sl_unfold_words
  simp only [View.readAt_eq_ld, harg1.read_unread, harg2.read_unread, harg3.read_unread, harg4.read_unread, harg5.read_unread, harg6.read_unread, harg11.read_unread, harg12.read_unread, ld_rows, ld_mod]
  refine ⟨fun v f => ?_, fun v f => ?_, fun v f => ?_, fun v f => ?_, ?_, ?_⟩
  · exact View.read_writes_full _ f _ _ _
  · exact View.read_writes_full _ f _ _ _
  · exact View.read_writes_full _ f _ _ _
  · exact View.read_writes_full _ f _ _ _
  · exact read_rows I _ _ xo10 [] (harg11.read_unread xo10)
  · exact read_rows3 I _ _ xo11 [] (harg12.read_unread xo11)

/-- At the first point of the second sequence its own accumulator starts at zero. -/
theorem reads_C (hc0 : ¬cond1_0 i) (hc1 : cond1_1 i) : ∀ R, R = kernelRun1_C c i arg1 harg1 arg2 harg2 arg3 harg3 arg4 harg4 arg5 harg5 arg6 harg6 arg7 harg7 arg8 harg8 arg9 harg9 arg10 harg10 arg11 harg11 arg12 harg12 hc0 hc1 I.d I.x I.mix I.mod I.w I.ln xo10 →
    Leaves R.1 I.dmixB ∧ Leaves R.2.1 I.dx ∧ Leaves R.2.2.1 I.dys ∧ Leaves R.2.2.2.1 I.dy5
      ∧ arg11.view.read (Elt F) (arg11.view.writes (Elt F) (harg11.unread xo10) R.2.2.2.2.1) = I.gacc xo10
      ∧ Leaves R.2.2.2.2.2.1 (I.bacc k1_pay2) := by
  rintro _ rfl
  unfold kernelRun1_C; dsimp only
  try sl_unfold_words
  simp only [View.readAt_eq_ld, harg1.read_unread, harg2.read_unread, harg3.read_unread, harg4.read_unread, harg5.read_unread, harg6.read_unread, harg11.read_unread, harg12.read_unread, ld_rows, ld_mod]
  simp (disch := decide) only [↓View.readCov_skip, ↓View.readCov_fill]
  refine ⟨fun v f => ?_, fun v f => ?_, fun v f => ?_, fun v f => ?_, ?_, fun v f => ?_⟩
  · exact View.read_writes_full _ f _ _ _
  · exact View.read_writes_full _ f _ _ _
  · exact View.read_writes_full _ f _ _ _
  · exact View.read_writes_full _ f _ _ _
  · exact read_rows I _ _ xo10 [] (harg11.read_unread xo10)
  · exact read_rows3 I _ _ k1_pay2 _ (View.read_writes_full _ _ _ _ _)

/-! ## What each case leaves -/

theorem out_A (hc0 : cond1_0 i) (hc1 : cond1_1 i) :
    out1_A_6 c i arg1 harg1 arg2 harg2 arg3 harg3 arg4 harg4 arg5 harg5 arg6 harg6 arg7 harg7 arg8 harg8 arg9 harg9 arg10 harg10 arg11 harg11 arg12 harg12 hc0 hc1 I.d I.x I.mix I.mod I.w I.ln = I.dmixB
      ∧ out1_A_7 c i arg1 harg1 arg2 harg2 arg3 harg3 arg4 harg4 arg5 harg5 arg6 harg6 arg7 harg7 arg8 harg8 arg9 harg9 arg10 harg10 arg11 harg11 arg12 harg12 hc0 hc1 I.d I.x I.mix I.mod I.w I.ln = I.dx
      ∧ out1_A_8 c i arg1 harg1 arg2 harg2 arg3 harg3 arg4 harg4 arg5 harg5 arg6 harg6 arg7 harg7 arg8 harg8 arg9 harg9 arg10 harg10 arg11 harg11 arg12 harg12 hc0 hc1 I.d I.x I.mix I.mod I.w I.ln = I.dys
      ∧ out1_A_9 c i arg1 harg1 arg2 harg2 arg3 harg3 arg4 harg4 arg5 harg5 arg6 harg6 arg7 harg7 arg8 harg8 arg9 harg9 arg10 harg10 arg11 harg11 arg12 harg12 hc0 hc1 I.d I.x I.mix I.mod I.w I.ln = I.dy5
      ∧ out1_A_10 c i arg1 harg1 arg2 harg2 arg3 harg3 arg4 harg4 arg5 harg5 arg6 harg6 arg7 harg7 arg8 harg8 arg9 harg9 arg10 harg10 arg11 harg11 arg12 harg12 hc0 hc1 I.d I.x I.mix I.mod I.w I.ln = I.gacc k1_pay1
      ∧ out1_A_11 c i arg1 harg1 arg2 harg2 arg3 harg3 arg4 harg4 arg5 harg5 arg6 harg6 arg7 harg7 arg8 harg8 arg9 harg9 arg10 harg10 arg11 harg11 arg12 harg12 hc0 hc1 I.d I.x I.mix I.mod I.w I.ln = I.bacc k1_pay2 := by
  obtain ⟨e6, e7, e8, e9, e10, e11⟩ := reads_A c i arg1 harg1 arg2 harg2 arg3 harg3 arg4 harg4 arg5 harg5 arg6 harg6 arg7 harg7 arg8 harg8 arg9 harg9 arg10 harg10 arg11 harg11 arg12 harg12 I hc0 hc1 _ rfl
  unfold out1_A_6 out1_A_7 out1_A_8 out1_A_9 out1_A_10 out1_A_11
  exact ⟨e6 _ _, e7 _ _, e8 _ _, e9 _ _, e10 _ _, e11 _ _⟩

theorem out_B (hc0 : ¬cond1_0 i) (hc1 : ¬cond1_1 i) :
    out1_B_6 c i arg1 harg1 arg2 harg2 arg3 harg3 arg4 harg4 arg5 harg5 arg6 harg6 arg7 harg7 arg8 harg8 arg9 harg9 arg10 harg10 arg11 harg11 arg12 harg12 hc0 hc1 I.d I.x I.mix I.mod I.w I.ln xo10 xo11 = I.dmixB
      ∧ out1_B_7 c i arg1 harg1 arg2 harg2 arg3 harg3 arg4 harg4 arg5 harg5 arg6 harg6 arg7 harg7 arg8 harg8 arg9 harg9 arg10 harg10 arg11 harg11 arg12 harg12 hc0 hc1 I.d I.x I.mix I.mod I.w I.ln xo10 xo11 = I.dx
      ∧ out1_B_8 c i arg1 harg1 arg2 harg2 arg3 harg3 arg4 harg4 arg5 harg5 arg6 harg6 arg7 harg7 arg8 harg8 arg9 harg9 arg10 harg10 arg11 harg11 arg12 harg12 hc0 hc1 I.d I.x I.mix I.mod I.w I.ln xo10 xo11 = I.dys
      ∧ out1_B_9 c i arg1 harg1 arg2 harg2 arg3 harg3 arg4 harg4 arg5 harg5 arg6 harg6 arg7 harg7 arg8 harg8 arg9 harg9 arg10 harg10 arg11 harg11 arg12 harg12 hc0 hc1 I.d I.x I.mix I.mod I.w I.ln xo10 xo11 = I.dy5
      ∧ out1_B_10 c i arg1 harg1 arg2 harg2 arg3 harg3 arg4 harg4 arg5 harg5 arg6 harg6 arg7 harg7 arg8 harg8 arg9 harg9 arg10 harg10 arg11 harg11 arg12 harg12 hc0 hc1 I.d I.x I.mix I.mod I.w I.ln xo10 xo11 = I.gacc xo10
      ∧ out1_B_11 c i arg1 harg1 arg2 harg2 arg3 harg3 arg4 harg4 arg5 harg5 arg6 harg6 arg7 harg7 arg8 harg8 arg9 harg9 arg10 harg10 arg11 harg11 arg12 harg12 hc0 hc1 I.d I.x I.mix I.mod I.w I.ln xo10 xo11 = I.bacc xo11 := by
  obtain ⟨e6, e7, e8, e9, e10, e11⟩ := reads_B c i arg1 harg1 arg2 harg2 arg3 harg3 arg4 harg4 arg5 harg5 arg6 harg6 arg7 harg7 arg8 harg8 arg9 harg9 arg10 harg10 arg11 harg11 arg12 harg12 I xo10 xo11 hc0 hc1 _ rfl
  unfold out1_B_6 out1_B_7 out1_B_8 out1_B_9 out1_B_10 out1_B_11
  exact ⟨e6 _ _, e7 _ _, e8 _ _, e9 _ _, e10, e11⟩

theorem out_C (hc0 : ¬cond1_0 i) (hc1 : cond1_1 i) :
    out1_C_6 c i arg1 harg1 arg2 harg2 arg3 harg3 arg4 harg4 arg5 harg5 arg6 harg6 arg7 harg7 arg8 harg8 arg9 harg9 arg10 harg10 arg11 harg11 arg12 harg12 hc0 hc1 I.d I.x I.mix I.mod I.w I.ln xo10 = I.dmixB
      ∧ out1_C_7 c i arg1 harg1 arg2 harg2 arg3 harg3 arg4 harg4 arg5 harg5 arg6 harg6 arg7 harg7 arg8 harg8 arg9 harg9 arg10 harg10 arg11 harg11 arg12 harg12 hc0 hc1 I.d I.x I.mix I.mod I.w I.ln xo10 = I.dx
      ∧ out1_C_8 c i arg1 harg1 arg2 harg2 arg3 harg3 arg4 harg4 arg5 harg5 arg6 harg6 arg7 harg7 arg8 harg8 arg9 harg9 arg10 harg10 arg11 harg11 arg12 harg12 hc0 hc1 I.d I.x I.mix I.mod I.w I.ln xo10 = I.dys
      ∧ out1_C_9 c i arg1 harg1 arg2 harg2 arg3 harg3 arg4 harg4 arg5 harg5 arg6 harg6 arg7 harg7 arg8 harg8 arg9 harg9 arg10 harg10 arg11 harg11 arg12 harg12 hc0 hc1 I.d I.x I.mix I.mod I.w I.ln xo10 = I.dy5
      ∧ out1_C_10 c i arg1 harg1 arg2 harg2 arg3 harg3 arg4 harg4 arg5 harg5 arg6 harg6 arg7 harg7 arg8 harg8 arg9 harg9 arg10 harg10 arg11 harg11 arg12 harg12 hc0 hc1 I.d I.x I.mix I.mod I.w I.ln xo10 = I.gacc xo10
      ∧ out1_C_11 c i arg1 harg1 arg2 harg2 arg3 harg3 arg4 harg4 arg5 harg5 arg6 harg6 arg7 harg7 arg8 harg8 arg9 harg9 arg10 harg10 arg11 harg11 arg12 harg12 hc0 hc1 I.d I.x I.mix I.mod I.w I.ln xo10 = I.bacc k1_pay2 := by
  obtain ⟨e6, e7, e8, e9, e10, e11⟩ := reads_C c i arg1 harg1 arg2 harg2 arg3 harg3 arg4 harg4 arg5 harg5 arg6 harg6 arg7 harg7 arg8 harg8 arg9 harg9 arg10 harg10 arg11 harg11 arg12 harg12 I xo10 hc0 hc1 _ rfl
  unfold out1_C_6 out1_C_7 out1_C_8 out1_C_9 out1_C_10 out1_C_11
  exact ⟨e6 _ _, e7 _ _, e8 _ _, e9 _ _, e10, e11 _ _⟩

/-! ## What each point leaves -/

section

variable (V : (c : Dev nD) → (b : Ref sig .tc) → Buf (Elt F) ((c : Thread nD τ).loc b))

/-- A point's blocks. -/
abbrev blocks (t : Fin cfg1.N) : In F := ⟨iblk1 V c 0 t, iblk1 V c 1 t, iblk1 V c 2 t, iblk1 V c 3 t, iblk1 V c 4 t, iblk1 V c 5 t⟩

variable (t : Fin cfg1.N)

theorem outs_A (h0 : t.val % 16 = 0) : outsAt1 V c t.val t.isLt = ((blocks c V t).dmixB, (blocks c V t).dx, (blocks c V t).dys, (blocks c V t).dy5,
    (blocks c V t).gacc k1_pay1, (blocks c V t).bacc k1_pay2) := by
  have h1 : t.val % 8 = 0 := by omega
  obtain ⟨e6, e7, e8, e9, e10, e11⟩ := out_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (blocks c V t) ((hcond1_0 t).mpr h0) ((hcond1_1 t).mpr h1)
  rw [outsAt1_A V c t h0 h1, e6, e7, e8, e9, e10, e11]

variable (h0 : ¬t.val % 16 = 0)

include h0

theorem outs_B (h1 : ¬t.val % 8 = 0) : outsAt1 V c t.val t.isLt = ((blocks c V t).dmixB, (blocks c V t).dx, (blocks c V t).dys, (blocks c V t).dy5,
    (blocks c V t).gacc (outsAt1 V c (t.val - 1) (Nat.lt_of_le_of_lt (Nat.sub_le _ _) t.isLt)).2.2.2.2.1,
    (blocks c V t).bacc (outsAt1 V c (t.val - 1) (Nat.lt_of_le_of_lt (Nat.sub_le _ _) t.isLt)).2.2.2.2.2) := by
  obtain ⟨e6, e7, e8, e9, e10, e11⟩ := out_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (blocks c V t)
    (outsAt1 V c (t.val - 1) (Nat.lt_of_le_of_lt (Nat.sub_le _ _) t.isLt)).2.2.2.2.1
    (outsAt1 V c (t.val - 1) (Nat.lt_of_le_of_lt (Nat.sub_le _ _) t.isLt)).2.2.2.2.2 (fun h => h0 ((hcond1_0 t).mp h)) (fun h => h1 ((hcond1_1 t).mp h))
  rw [outsAt1_B V c t h0 h1, e6, e7, e8, e9, e10, e11]

theorem outs_C (h1 : t.val % 8 = 0) : outsAt1 V c t.val t.isLt = ((blocks c V t).dmixB, (blocks c V t).dx, (blocks c V t).dys, (blocks c V t).dy5,
    (blocks c V t).gacc (outsAt1 V c (t.val - 1) (Nat.lt_of_le_of_lt (Nat.sub_le _ _) t.isLt)).2.2.2.2.1, (blocks c V t).bacc k1_pay2) := by
  obtain ⟨e6, e7, e8, e9, e10, e11⟩ := out_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (blocks c V t)
    (outsAt1 V c (t.val - 1) (Nat.lt_of_le_of_lt (Nat.sub_le _ _) t.isLt)).2.2.2.2.1 (fun h => h0 ((hcond1_0 t).mp h)) ((hcond1_1 t).mpr h1)
  rw [outsAt1_C V c t h0 h1, e6, e7, e8, e9, e10, e11]

omit h0

/-- The four blocks of rows. -/
theorem outs_rows : (dat1 V c).after 6 t = (blocks c V t).dmixB ∧ (dat1 V c).after 7 t = (blocks c V t).dx
    ∧ (dat1 V c).after 8 t = (blocks c V t).dys ∧ (dat1 V c).after 9 t = (blocks c V t).dy5 := by
  rw [after1_6, after1_7, after1_8, after1_9]
  by_cases h0 : t.val % 16 = 0
  · rw [outs_A c V t h0]; exact ⟨rfl, rfl, rfl, rfl⟩
  by_cases h1 : t.val % 8 = 0
  · rw [outs_C c V t h0 h1]; exact ⟨rfl, rfl, rfl, rfl⟩
  · rw [outs_B c V t h0 h1]; exact ⟨rfl, rfl, rfl, rfl⟩

/-- The accumulators after point `n`. -/
def gsumAt (n : ℕ) (hn : n < cfg1.N) : Vec F S8x1024 .f32 := (outsAt1 V c n hn).2.2.2.2.1
def bsumAt (n : ℕ) (hn : n < cfg1.N) : Vec F S1x8x1024 .f32 := (outsAt1 V c n hn).2.2.2.2.2

theorem gsumAt_zero (hn : 0 < cfg1.N) : gsumAt c V 0 hn = (blocks c V ⟨0, hn⟩).gacc k1_pay1 :=
  congrArg (fun p => p.2.2.2.2.1) (outs_A c V ⟨0, hn⟩ rfl)

theorem gsumAt_succ (n : ℕ) (hn : n + 1 < cfg1.N) :
    gsumAt c V (n + 1) hn = (blocks c V ⟨n + 1, hn⟩).gacc (gsumAt c V n (Nat.lt_of_succ_lt hn)) := by
  have hN : n + 1 < 16 := lt_of_lt_of_eq hn (show cfg1.N = 16 from N_1)
  have h0 : ¬(n + 1) % 16 = 0 := by omega
  by_cases h1 : (n + 1) % 8 = 0
  · exact congrArg (fun p => p.2.2.2.2.1) (outs_C c V ⟨n + 1, hn⟩ h0 h1)
  · exact congrArg (fun p => p.2.2.2.2.1) (outs_B c V ⟨n + 1, hn⟩ h0 h1)

theorem bsumAt_zero (hn : 0 < cfg1.N) : bsumAt c V 0 hn = (blocks c V ⟨0, hn⟩).bacc k1_pay2 :=
  congrArg (fun p => p.2.2.2.2.2) (outs_A c V ⟨0, hn⟩ rfl)

theorem bsumAt_start (n : ℕ) (hn : n + 1 < cfg1.N) (h1 : (n + 1) % 8 = 0) : bsumAt c V (n + 1) hn = (blocks c V ⟨n + 1, hn⟩).bacc k1_pay2 := by
  have hN : n + 1 < 16 := lt_of_lt_of_eq hn (show cfg1.N = 16 from N_1)
  exact congrArg (fun p => p.2.2.2.2.2) (outs_C c V ⟨n + 1, hn⟩ (by show ¬(n + 1) % 16 = 0; omega) h1)

theorem bsumAt_succ (n : ℕ) (hn : n + 1 < cfg1.N) (h1 : ¬(n + 1) % 8 = 0) :
    bsumAt c V (n + 1) hn = (blocks c V ⟨n + 1, hn⟩).bacc (bsumAt c V n (Nat.lt_of_succ_lt hn)) := by
  have hN : n + 1 < 16 := lt_of_lt_of_eq hn (show cfg1.N = 16 from N_1)
  exact congrArg (fun p => p.2.2.2.2.2) (outs_B c V ⟨n + 1, hn⟩ (by show ¬(n + 1) % 16 = 0; omega) h1)

end

end Cert.Out.Back

end
-- ==== Proof.Out.BackPay.lean ====
/- The backward kernel's values at the entries of a block of rows: each is the row mathematics of the block's row. -/
module

public import proofs.«01_k».proof.Proof.Out.Back
public import proofs.«01_k».proof.Proof.Out.Row
public import proofs.«01_k».proof.Proof.Mlp.Layout

@[expose] public section

set_option maxRecDepth 16384

noncomputable section

namespace Cert.Out.Back

open Idealize.ShloMosaic Idealize.ShloMosaic.ValueIdx Idealize.ShloMosaic.TcCoe
open Cert.NormGradIdeal Cert.NormGradIdeal.Gen
open Cert.Mlp Cert.Out
open scoped BigOperators

/-- Row `i` of a point's operands is `ρ`. -/
structure Holds (I : In Ideal) (i : Fin 512) (ρ : Row) : Prop where
  mix : ∀ j : Fin 1024, I.mix (ix2 i j) = ρ.mix j
  x : ∀ j : Fin 1024, I.x (ix2 i j) = ρ.x j
  gate : ∀ j : Fin 1024, I.mod (ix3 0 2 j) = ρ.gate j
  w : ∀ (k : Fin 2048) (j : Fin 1024), I.w (ix2 k j) = ρ.w k j
  g : ∀ j : Fin 1024, I.ln (ix2 0 j) = ρ.g j

/-- The gradient of a row's normalised row. -/
def In.dRow (I : In Ideal) (i : Fin 512) (k : Fin 1024) : EReal := I.d (ix2 i k)

section

variable {I : In Ideal} {i : Fin 512} {ρ : Row} (h : Holds I i ρ)

include h

theorem gain_apply (j : Fin 1024) : I.gain (ix2 0 j) = ρ.g j := (vec_row I.ln 0 0 rfl _ j).trans (h.g j)

theorem gate_apply (j : Fin 1024) : extractStridedSlice S1x1024 ![2, 0] (k1_pay3 I.mod) slices_S6x1024_o2_0_S1x1024 (ix2 0 j) = ρ.gate j :=
  (mod_row I.mod _ 2 2 rfl slices_S6x1024_o2_0_S1x1024 j).trans (h.gate j)

theorem centred_apply (j : Fin 1024) : I.centred (ix2 i j) = Norm.xc ρ.r j := by
  unfold In.centred k1_pay5
  have hr : ∀ k : Fin 1024, addf (mulf (broadcast S512x1024 (Scalar.ofBits (F := Ideal) .f32 0x3F9837F0#32)) (shapeCast S512x1024 I.x shapeCasts_S512x1024_S512x1024))
      (mulf (broadcastTo S512x1024 (addf (broadcast S1x1024 (Scalar.ofBits (F := Ideal) .f32 0x3F800000#32))
        (extractStridedSlice S1x1024 ![2, 0] (k1_pay3 I.mod) slices_S6x1024_o2_0_S1x1024)) broadcasts_S1x1024_S512x1024) (k1_pay4 I.mix)) (ix2 i k)
      = ρ.r k := fun k =>
    congrArg₂ (fun a b : EReal => a + b) (congrArg (alpha * ·) ((congrFun (shapeCast_self I.x _) (ix2 i k)).trans (h.x k)))
      (congrArg₂ (fun a b : EReal => a * b) ((one_add i _ _ (by omega) k).trans (congrArg (one + ·) (gate_apply h k)))
        ((congrFun (shapeCast_self I.mix _) (ix2 i k)).trans (h.mix k)))
  exact congrArg₂ (fun a b : EReal => a - b) (hr j) ((row_mean _ _ _ _ _ _ i j).trans (congrArg mean (funext hr)))

theorem rstd_apply : k1_pay6 I.centred (ix2 i 0) = Norm.rstd ρ.r := by
  unfold k1_pay6
  refine congrArg (fun a : EReal => Ideal.rsqrt (Ideal.div a width + eps)) ((row_sum _ _ _ _ _ i).trans ?_)
  exact Finset.sum_congr rfl fun k _ => congrArg₂ (fun a b : EReal => a * b) (centred_apply h k) (centred_apply h k)

theorem xhat_apply (j : Fin 1024) : k1_pay7 I.centred (ix2 i j) = Norm.xhat ρ.r j := by
  unfold k1_pay7
  exact congrArg₂ (fun a b : EReal => a * b) (centred_apply h j) ((col_bcast _ _ i j).trans (rstd_apply h))

theorem d_apply (j : Fin 1024) : k1_pay8 I.d (ix2 i j) = I.dRow i j := congrFun (shapeCast_self I.d _) (ix2 i j)

theorem dr_apply (j : Fin 1024) : I.dr (ix2 i j) = ρ.dr (I.dRow i) j := by
  unfold In.dr k1_pay9
  have hd : ∀ k : Fin 1024, mulf (k1_pay8 I.d)
      (broadcastTo S512x1024 (shapeCast S1x1024 I.gain shapeCasts_S1x1024_S1x1024) broadcasts_S1x1024_S512x1024) (ix2 i k) = I.dRow i k * ρ.g k := fun k =>
    congrArg₂ (fun a b : EReal => a * b) (d_apply h k)
      ((row_bcast _ _ (by omega) i k).trans ((congrFun (shapeCast_self I.gain _) (ix2 0 k)).trans (gain_apply h k)))
  refine congrArg₂ (fun a b : EReal => a * b) ((col_bcast _ _ i j).trans (rstd_apply h)) (congrArg₂ (fun a b : EReal => a - b)
    (congrArg₂ (fun a b : EReal => a - b) (hd j) ((row_mean _ _ _ _ _ _ i j).trans (congrArg mean (funext hd)))) ?_)
  exact congrArg₂ (fun a b : EReal => a * b) (xhat_apply h j) ((row_mean _ _ _ _ _ _ i j).trans
    (congrArg mean (funext fun k => congrArg₂ (fun a b : EReal => a * b) (hd k) (xhat_apply h k))))

theorem dmix_apply (j : Fin 1024) : I.dmixB (ix2 i j) = ρ.dmix (ρ.dr (I.dRow i)) j := by
  unfold In.dmixB k1_pay14
  exact congrArg₂ (fun a b : EReal => a * b) ((one_add i _ _ (by omega) j).trans (congrArg (one + ·) (gate_apply h j))) (dr_apply h j)

theorem dx_apply (j : Fin 1024) : I.dx (ix2 i j) = Row.dx (ρ.dr (I.dRow i)) j := congrArg (fun a : EReal => alpha * a) (dr_apply h j)

theorem dys_apply (k : Fin 1536) : I.dys (ix2 i k) = ρ.dy (ρ.dr (I.dRow i)) ⟨k.val, by omega⟩ := by
  unfold In.dys k1_pay16
  refine (Ideal.matmul_transposedRhs_apply (M := 512) (K := 1024) (N := 1536) none I.dmixB _ _ i k).trans ?_
  rw [zero_acc, zero_add]
  refine Finset.sum_congr rfl fun j _ => congrArg₂ (fun a b : EReal => a * b) (dmix_apply h j) ?_
  refine (congrFun (shapeCast_self I.wHead _) (ix2 k j)).trans ((congrArg I.w (funext fun d => Fin.ext ?_)).trans (h.w ⟨k.val, by omega⟩ j))
  match d with
  | ⟨0, _⟩ => show 0 + 1 * k.val = k.val; omega
  | ⟨1, _⟩ => show 0 + 1 * j.val = j.val; omega

theorem dy5_apply (k : Fin 512) : I.dy5 (ix2 i k) = ρ.dy (ρ.dr (I.dRow i)) ⟨1536 + k.val, by omega⟩ := by
  unfold In.dy5 k1_pay17
  refine (Ideal.matmul_transposedRhs_apply (M := 512) (K := 1024) (N := 512) none I.dmixB _ _ i k).trans ?_
  rw [zero_acc, zero_add]
  refine Finset.sum_congr rfl fun j _ => congrArg₂ (fun a b : EReal => a * b) (dmix_apply h j) ?_
  refine (congrFun (shapeCast_self I.wTail _) (ix2 k j)).trans ((congrArg I.w (funext fun d => Fin.ext ?_)).trans (h.w ⟨1536 + k.val, by omega⟩ j))
  match d with
  | ⟨0, _⟩ => show 1536 + 1 * k.val = 1536 + k.val; omega
  | ⟨1, _⟩ => show 0 + 1 * j.val = j.val; omega

end

/-! ## A point's rows, added -/

section

variable {I : In Ideal} {ρ : Fin 512 → Row} (h : ∀ i, Holds I i (ρ i))

include h

theorem gacc_apply (G : Vec Ideal S8x1024 .f32) (q : Fin 8) (j : Fin 1024) :
    I.gacc G (ix2 q j) = (G (ix2 q j) : EReal) + ∑ i, (ρ i).toSum q.val (I.dRow i) j := by
  unfold In.gacc Row.toSum
  show (if q.val = 0 then _ else if q.val = 1 then _ else G (ix2 q j)) = _
  by_cases h0 : q.val = 0
  · simp only [if_pos h0]
    exact congrArg₂ (fun a b : EReal => a + b) ((congrFun (shapeCast_self _ _) (ix2 0 j)).trans (vec_row G 0 q h0 _ j)) ((col_sum _ _ _ _ _ j).trans
      (Finset.sum_congr rfl fun i _ => congrArg₂ (fun a b : EReal => a * b) (d_apply (h i) j) (xhat_apply (h i) j)))
  simp only [if_neg h0]
  by_cases h1 : q.val = 1
  · simp only [if_pos h1]
    exact congrArg₂ (fun a b : EReal => a + b) ((congrFun (shapeCast_self _ _) (ix2 0 j)).trans (vec_row G 1 q h1 _ j)) ((col_sum _ _ _ _ _ j).trans
      (Finset.sum_congr rfl fun i _ => d_apply (h i) j))
  simp only [if_neg h1, Finset.sum_const_zero, add_zero]

theorem bacc_apply (B : Vec Ideal S1x8x1024 .f32) (q : Fin 8) (k : Fin 1024) :
    I.bacc B (ix3 0 q k) = (B (ix3 0 q k) : EReal) + ∑ i, (ρ i).toSeq q.val ((ρ i).dr (I.dRow i)) k := by
  unfold In.bacc Row.toSeq
  show (if q.val = 0 then _ else B (ix3 0 q k)) = _
  by_cases h0 : q.val = 0
  · simp only [if_pos h0]
    unfold k1_pay13
    refine (shapeCast_apply _ _ _ (ix2 (0 : Fin 1) k) ?_).trans (congrArg₂ (fun a b : EReal => a + b)
      ((shapeCast_apply _ _ _ (ix3 (0 : Fin 1) (0 : Fin 1) k) ?_).trans (congrArg B (funext fun d => Fin.ext ?_))) ((col_sum _ _ _ _ _ k).trans
        (Finset.sum_congr rfl fun i _ => congrArg₂ (fun a b : EReal => a * b) (dr_apply (h i) k)
          ((congrFun (shapeCast_self I.mix _) (ix2 i k)).trans ((h i).mix k)))))
    · rw [Shape.rowMajor_val_three, Shape.rowMajor_val_two]
      show 0 * 1024 + k.val = (0 * 1 + 0) * 1024 + k.val
      omega
    · rw [Shape.rowMajor_val_three, Shape.rowMajor_val_two]
      show (0 * 1 + 0) * 1024 + k.val = 0 * 1024 + k.val
      omega
    · match d with
      | ⟨0, _⟩ => rfl
      | ⟨1, _⟩ => show 0 + 1 * 0 = q.val; omega
      | ⟨2, _⟩ => show 0 + 1 * k.val = k.val; omega
  simp only [if_neg h0, Finset.sum_const_zero, add_zero]

end

end Cert.Out.Back

end
-- ==== Proof.Out.Grad.lean ====
/- The arrays of the backward kernel: every row's gradients, and the sums over the rows. -/
module

public import proofs.«01_k».proof.Proof.Out.Row

@[expose] public section

set_option maxRecDepth 16384

noncomputable section

namespace Cert.Out

open Idealize.ShloMosaic Idealize.ShloMosaic.ValueIdx
open Cert.Mlp
open scoped BigOperators

namespace Row

/-- The operand's gradient, its first part -/
def head (ρ : Row) (dr : Fin 1024 → EReal) (k : Fin 1536) : EReal := ρ.dy dr ⟨k.val, by omega⟩
/-- and its last. -/
def tail (ρ : Row) (dr : Fin 1024 → EReal) (k : Fin 512) : EReal := ρ.dy dr ⟨1536 + k.val, by omega⟩

end Row

/-- The gradient of a row's normalised row. -/
def gradRow (D : FVec Ideal ⟨3, ![2, 4096, 1024]⟩ .f32) (R : Fin 8192) (k : Fin 1024) : EReal := D (ix3 (seq R) (pos R) k)

namespace Args

variable (A : Args) (D : FVec Ideal ⟨3, ![2, 4096, 1024]⟩ .f32)

/-- The gradient of a row's residual, in closed form -/
def resid (R : Fin 8192) : Fin 1024 → EReal := (A.row R).dr (gradRow D R)
/-- and as reverse differentiation has it. -/
def residSum (R : Fin 8192) : Fin 1024 → EReal := (A.row R).drSum (gradRow D R)

variable (e : Fin 8192 → Fin 1024 → EReal)

/-- A function of the rows and their residuals' gradients as an array. -/
def back {n : ℕ} (f : Row → (Fin 1024 → EReal) → Fin n → EReal) : Shape.Idx ⟨2, ![8192, n]⟩ → EReal := fun y => f (A.row (y 0)) (e (y 0)) (y 1)
/-- The sums over all rows -/
def gsum : Shape.Idx ⟨2, ![8, 1024]⟩ → EReal := fun y => ∑ R, (A.row R).toSum (y 0).val (gradRow D R) (y 1)
/-- and over the rows of a sequence. -/
def bsum : Shape.Idx ⟨3, ![2, 8, 1024]⟩ → EReal := fun y => ∑ q, (A.row (rowAt (y 0) q)).toSeq (y 1).val (e (rowAt (y 0) q)) (y 2)

end Args

/-- On finite arguments the residuals' two gradients are one. -/
theorem Args.resid_eq (A : Args) (D : FVec Ideal ⟨3, ![2, 4096, 1024]⟩ .f32) (h : ∀ R, (A.row R).Finite (gradRow D R)) : A.residSum D = A.resid D :=
  funext fun R => Row.drSum_eq _ (h R)

end Cert.Out

end
-- ==== Proof.Out.BackBlocks.lean ====
/- The backward kernel's first region leaves the projections of the arguments' rows; a point's blocks of its second region are rows of the
   arguments, and the arrays it writes block by block hold the row mathematics of every row. -/
module

public import proofs.«01_k».proof.Proof.Out.BackPay
public import proofs.«01_k».proof.Proof.Out.Grad
public import Idealize.ShloMosaic.Lib.StableHlo.Run
public import Idealize.ShloMosaic.Lib.Pipeline.ValueKit.Geometry

@[expose] public section

set_option maxRecDepth 16384

noncomputable section

namespace Cert.Out.Back

open Idealize.ShloMosaic Idealize.ShloMosaic.ValueIdx Idealize.ShloMosaic.TcCoe
open Idealize.ShloMosaic.Pipeline (Dat)
open Cert.NormGradIdeal Cert.NormGradIdeal.Gen
open Cert.Mlp Cert.Out
open scoped BigOperators

/-! ## The arrays before the regions -/

section

variable {F : FTy → Type} [FloatOps F] (m : (ℓ : Loc nD τ sig) → Buf (Elt F) ℓ) (p : Dev nD → PrngReg) (c : Dev nD)

theorem V_y : V1 m p c main_v3 = truncf .bf16 (shapeCast S8192x2048 (m ((c : Thread nD τ).loc main_arg0) : FVec F S2x4096x2048 .f32)
    shapeCasts_S2x4096x2048_S8192x2048) bitsLt_bf16_f32 := by
  show StableHlo.after hostOps0 _ (Proc.devRef .tc main_v3) = _
  after_results
  rfl

theorem V_x : V1 m p c main_v4 = shapeCast S8192x1024 (m ((c : Thread nD τ).loc main_arg1) : FVec F S2x4096x1024 .f32) shapeCasts_S2x4096x1024_S8192x1024 := by
  show StableHlo.after hostOps0 _ (Proc.devRef .tc main_v4) = _
  after_results
  rfl

theorem V_mod : V1 m p c main_v0 = shapeCast S2x6x1024 (m ((c : Thread nD τ).loc main_arg2) : FVec F S2x6144 .f32) shapeCasts_S2x6144_S2x6x1024 := by
  show StableHlo.after hostOps0 _ (Proc.devRef .tc main_v0) = _
  after_results
  rfl

theorem V_w : V1 m p c main_v5 = truncf .bf16 (m ((c : Thread nD τ).loc main_arg3) : FVec F S2048x1024 .f32) bitsLt_bf16_f32 := by
  show StableHlo.after hostOps0 _ (Proc.devRef .tc main_v5) = _
  after_results

theorem V_ln : V1 m p c main_v1 = concatenate S2x1024 0 [⟨S1x1024, (m ((c : Thread nD τ).loc main_arg4) : FVec F S1x1024 .f32)⟩,
    ⟨S1x1024, (m ((c : Thread nD τ).loc main_arg5) : FVec F S1x1024 .f32)⟩] concatenates_S1x1024_S1x1024_S2x1024_d0 := by
  show StableHlo.after hostOps0 _ (Proc.devRef .tc main_v1) = _
  after_results

/-- What neither region 0 nor the operation after it writes is as it was. -/
theorem V3_of (r : Ref sig .tc) (h1 : r ∉ hostOps1_W) (h0 : ∀ w : Fin cfg0.W, Pipeline.arrRef spec0 w = r → (cfg0.win w).isOut = false) :
    V3 m p c r = V1 m p c r :=
  (W3_of m p c r h1).trans (W2_of m p c r h0)

theorem V3_d : V3 m p c main_v7 = shapeCast S8192x1024 (m ((c : Thread nD τ).loc main_arg6) : FVec F S2x4096x1024 .f32) shapeCasts_S2x4096x1024_S8192x1024 := by
  have e : V3 m p c main_v7 = shapeCast S8192x1024 (W2 m p c (Proc.devRef .tc main_arg6) : FVec F S2x4096x1024 .f32) shapeCasts_S2x4096x1024_S8192x1024 := by
    show StableHlo.after hostOps1 _ (Proc.devRef .tc main_v7) = _
    after_results
    rfl
  rw [e, W2_args m p c main_arg6 (by decide)]

theorem V3_mix : V3 m p c main_v6_0 = (dat0 (V1 m p) c).arrAt 5 cfg0.N :=
  (W3_of m p c main_v6_0 (by decide)).trans (W2_arr m p c 5)

end

variable (m : (ℓ : Loc nD τ sig) → Buf (Elt Ideal) ℓ) (p : Dev nD → PrngReg) (c : Dev nD)

/-- The device's arguments, -/
def args : Args where
  y := m ((c : Thread nD τ).loc main_arg0)
  x := m ((c : Thread nD τ).loc main_arg1)
  mod := m ((c : Thread nD τ).loc main_arg2)
  w := m ((c : Thread nD τ).loc main_arg3)
  g := m ((c : Thread nD τ).loc main_arg4)
  b := m ((c : Thread nD τ).loc main_arg5)

/-- and the gradient of the normalised rows. -/
def grad : FVec Ideal ⟨3, ![2, 4096, 1024]⟩ .f32 := m ((c : Thread nD τ).loc main_arg6)

/-! ## The first region -/

theorem index0 : ∀ t : Fin cfg0.N, (win0_0.index t (0 : Fin 2) = t.val ∧ win0_0.index t (1 : Fin 2) = 0)
    ∧ (win0_3.index t (0 : Fin 2) = 0 ∧ win0_3.index t (1 : Fin 2) = 0)
    ∧ (win0_5.index t (0 : Fin 2) = t.val ∧ win0_5.index t (1 : Fin 2) = 0) :=
  (by decide +kernel : ∀ t : Fin grid0.N, _)

section

variable (t : Fin cfg0.N)

/-- The row of the whole that is row `i` of block `t`. -/
def rowIn0 (i : Fin 512) : Fin 8192 := ⟨512 * t.val + i.val, by have : t.val < 16 := lt_of_lt_of_eq t.isLt (show cfg0.N = 16 from N_0); omega⟩

theorem y_apply (i : Fin 512) (k : Fin 2048) : iblk0 (V1 m p) c 0 t (ix2 i k) = (args m c).y (ix3 (seq (rowIn0 t i)) (pos (rowIn0 t i)) k) := by
  obtain ⟨⟨e0, e1⟩, -⟩ := index0 t
  show V1 m p c main_v3 (((cfg0.win 0).blk t).view.emb (ix2 i k)) = _
  rw [V_y, show ((cfg0.win 0).blk t).view.emb (ix2 i k) = ix2 (rowIn0 t i) k from funext fun d => Fin.ext (match d with
    | ⟨0, _⟩ => by show win0_0.index t (0 : Fin 2) * 512 + 1 * i.val = 512 * t.val + i.val; omega
    | ⟨1, _⟩ => by show win0_0.index t (1 : Fin 2) * 2048 + 1 * k.val = k.val; omega)]
  exact rows_apply (args m c).y _ (rowIn0 t i) k

theorem w0_apply (k : Fin 2048) (j : Fin 1024) : iblk0 (V1 m p) c 3 t (ix2 k j) = (args m c).w (ix2 k j) := by
  obtain ⟨-, ⟨e0, e1⟩, -⟩ := index0 t
  show V1 m p c main_v5 (((cfg0.win 3).blk t).view.emb (ix2 k j)) = _
  rw [V_w, show ((cfg0.win 3).blk t).view.emb (ix2 k j) = ix2 k j from funext fun d => Fin.ext (match d with
    | ⟨0, _⟩ => by show win0_3.index t (0 : Fin 2) * 2048 + 1 * k.val = k.val; omega
    | ⟨1, _⟩ => by show win0_3.index t (1 : Fin 2) * 1024 + 1 * j.val = j.val; omega)]
  rfl

theorem out0_mix {F : FTy → Type} [FloatOps F] (Y : Vec F S512x2048 .bf16) (X : Vec F S512x1024 .f32) (M : Vec F S1x6x1024 .f32)
    (W : Vec F S2048x1024 .bf16) (L : Vec F S2x1024 .f32) : out0_5 Y X M W L = k0_pay2 Y W := by
  unfold out0_5
  rw [View.canon_cons_unit_zero zero2, View.ld_unit_zero (S := S512x2048) zero2, View.ld_unit_zero (S := S2048x1024) zero2]

theorem proj_apply (i : Fin 512) (j : Fin 1024) :
    k0_pay2 (iblk0 (V1 m p) c 0 t) (iblk0 (V1 m p) c 3 t) (ix2 i j) = ((args m c).row (rowIn0 t i)).mix j := by
  unfold k0_pay2
  refine (Ideal.matmul_plain_apply (M := 512) (K := 2048) (N := 1024) none _ _ _ i j).trans ?_
  rw [zero_acc, zero_add, shapeCast_self, shapeCast_self]
  exact Finset.sum_congr rfl fun k _ => congrArg₂ (fun a b : EReal => a * b) (y_apply m p c t i k) (w0_apply m p c t k j)

end

theorem final_mix : (dat0 (V1 m p) c).arrAt 5 cfg0.N = (args m c).rows Row.mix := by
  refine (dat0 (V1 m p) c).arrAt_eq_of_covers 5 _ (by decide +kernel) fun t hf y => ?_
  obtain ⟨-, -, e0, e1⟩ := index0 t
  blk_simp
  rw [after0_5, out0_mix]
  have key : ∀ (z : Shape.Idx ⟨2, ![512, 1024]⟩) (x : Shape.Idx ⟨2, ![8192, 1024]⟩), (x 0).val = 512 * t.val + (z 0).val → (x 1).val = (z 1).val →
      k0_pay2 (iblk0 (V1 m p) c 0 t) (iblk0 (V1 m p) c 3 t) z = (args m c).rows Row.mix x := fun z x h0 h1 => by
    have ez : z = ix2 (z 0) (z 1) := pair _ _ rfl rfl
    have e0 : x 0 = rowIn0 t (z 0) := Fin.ext h0
    have e1 : x 1 = z 1 := Fin.ext h1
    exact (congrArg _ ez).trans ((proj_apply m p c t (z 0) (z 1)).trans
      (congrArg₂ (fun R j => Row.mix R j) (congrArg (args m c).row e0.symm) e1.symm))
  exact key y _
    (by show win0_5.index t (0 : Fin 2) * 512 + 1 * (y 0).val = 512 * t.val + (y 0).val; omega)
    (by show win0_5.index t (1 : Fin 2) * 1024 + 1 * (y 1).val = (y 1).val; omega)

/-! ## The second region's blocks -/

theorem index1 : ∀ t : Fin cfg1.N, (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 3) = t.val / 8 ∧ win1_3.index t (1 : Fin 3) = 0 ∧ win1_3.index t (2 : Fin 3) = 0)
    ∧ (win1_4.index t (0 : Fin 2) = 0 ∧ win1_4.index t (1 : Fin 2) = 0)
    ∧ (win1_5.index t (0 : Fin 2) = 0 ∧ win1_5.index t (1 : Fin 2) = 0) :=
  (by decide +kernel : ∀ t : Fin grid1.N, _)

theorem index_out : ∀ t : Fin cfg1.N, (win1_6.index t (0 : Fin 2) = t.val ∧ win1_6.index t (1 : Fin 2) = 0)
    ∧ (win1_7.index t (0 : Fin 2) = t.val ∧ win1_7.index t (1 : Fin 2) = 0)
    ∧ (win1_8.index t (0 : Fin 2) = t.val ∧ win1_8.index t (1 : Fin 2) = 0)
    ∧ (win1_9.index t (0 : Fin 2) = t.val ∧ win1_9.index t (1 : Fin 2) = 0)
    ∧ (win1_10.index t (0 : Fin 2) = 0 ∧ win1_10.index t (1 : Fin 2) = 0)
    ∧ (win1_11.index t (0 : Fin 3) = t.val / 8 ∧ win1_11.index t (1 : Fin 3) = 0 ∧ win1_11.index t (2 : Fin 3) = 0) :=
  (by decide +kernel : ∀ t : Fin grid1.N, _)

section

variable (t : Fin cfg1.N)

def rowIn (i : Fin 512) : Fin 8192 := ⟨512 * t.val + i.val, by have : t.val < 16 := lt_of_lt_of_eq t.isLt (show cfg1.N = 16 from N_1); omega⟩

theorem d_in (i : Fin 512) (k : Fin 1024) : iblk1 (V3 m p) c 0 t (ix2 i k) = grad m c (ix3 (seq (rowIn t i)) (pos (rowIn t i)) k) := by
  obtain ⟨⟨e0, e1⟩, -⟩ := index1 t
  show V3 m p c main_v7 (((cfg1.win 0).blk t).view.emb (ix2 i k)) = _
  rw [V3_d, show ((cfg1.win 0).blk t).view.emb (ix2 i k) = ix2 (rowIn t i) k from funext fun d => Fin.ext (match d with
    | ⟨0, _⟩ => by show win1_0.index t (0 : Fin 2) * 512 + 1 * i.val = 512 * t.val + i.val; omega
    | ⟨1, _⟩ => by show win1_0.index t (1 : Fin 2) * 1024 + 1 * k.val = k.val; omega)]
  exact rows_apply (grad m c) _ (rowIn t i) k

theorem x_in (i : Fin 512) (k : Fin 1024) : iblk1 (V3 m p) c 1 t (ix2 i k) = (args m c).x (ix3 (seq (rowIn t i)) (pos (rowIn t i)) k) := by
  obtain ⟨-, ⟨e0, e1⟩, -⟩ := index1 t
  show V3 m p c main_v4 (((cfg1.win 1).blk t).view.emb (ix2 i k)) = _
  rw [V3_of m p c main_v4 (by decide) (by decide +kernel), V_x, show ((cfg1.win 1).blk t).view.emb (ix2 i k) = ix2 (rowIn t i) k from funext fun d => Fin.ext (match d with
    | ⟨0, _⟩ => by show win1_1.index t (0 : Fin 2) * 512 + 1 * i.val = 512 * t.val + i.val; omega
    | ⟨1, _⟩ => by show win1_1.index t (1 : Fin 2) * 1024 + 1 * k.val = k.val; omega)]
  exact rows_apply (args m c).x _ (rowIn t i) k

theorem mix_in (i : Fin 512) (k : Fin 1024) : iblk1 (V3 m p) c 2 t (ix2 i k) = ((args m c).row (rowIn t i)).mix k := by
  obtain ⟨-, -, ⟨e0, e1⟩, -⟩ := index1 t
  show V3 m p c main_v6_0 (((cfg1.win 2).blk t).view.emb (ix2 i k)) = _
  rw [V3_mix, final_mix, show ((cfg1.win 2).blk t).view.emb (ix2 i k) = ix2 (rowIn t i) k from funext fun d => Fin.ext (match d with
    | ⟨0, _⟩ => by show win1_2.index t (0 : Fin 2) * 512 + 1 * i.val = 512 * t.val + i.val; omega
    | ⟨1, _⟩ => by show win1_2.index t (1 : Fin 2) * 1024 + 1 * k.val = k.val; omega)]
  rfl

theorem gate_in (i : Fin 512) (k : Fin 1024) : iblk1 (V3 m p) c 3 t (ix3 0 2 k) = (args m c).mod (ix2 (seq (rowIn t i)) ⟨2048 + k.val, by omega⟩) := by
  have hN : t.val < 16 := lt_of_lt_of_eq t.isLt (show cfg1.N = 16 from N_1)
  obtain ⟨-, -, -, ⟨e0, e1, e2⟩, -⟩ := index1 t
  show V3 m p c main_v0 (((cfg1.win 3).blk t).view.emb (ix3 0 2 k)) = _
  rw [V3_of m p c main_v0 (by decide) (by decide +kernel), V_mod, show ((cfg1.win 3).blk t).view.emb (ix3 0 2 k) = ix3 (seq (rowIn t i)) 2 k from funext fun d => Fin.ext (match d with
    | ⟨0, _⟩ => by show win1_3.index t (0 : Fin 3) * 1 + 1 * 0 = (512 * t.val + i.val) / 4096; omega
    | ⟨1, _⟩ => by show win1_3.index t (1 : Fin 3) * 6 + 1 * 2 = 2; omega
    | ⟨2, _⟩ => by show win1_3.index t (2 : Fin 3) * 1024 + 1 * k.val = k.val; omega)]
  exact shapeCast_apply (args m c).mod _ _ _ (by
    rw [Shape.rowMajor_val_three, Shape.rowMajor_val_two]
    show (seq (rowIn t i)).val * 6144 + (2048 + k.val) = ((seq (rowIn t i)).val * 6 + 2) * 1024 + k.val
    omega)

theorem w_in (k : Fin 2048) (j : Fin 1024) : iblk1 (V3 m p) c 4 t (ix2 k j) = (args m c).w (ix2 k j) := by
  obtain ⟨-, -, -, -, ⟨e0, e1⟩, -⟩ := index1 t
  show V3 m p c main_v5 (((cfg1.win 4).blk t).view.emb (ix2 k j)) = _
  rw [V3_of m p c main_v5 (by decide) (by decide +kernel), V_w, show ((cfg1.win 4).blk t).view.emb (ix2 k j) = ix2 k j from funext fun d => Fin.ext (match d with
    | ⟨0, _⟩ => by show win1_4.index t (0 : Fin 2) * 2048 + 1 * k.val = k.val; omega
    | ⟨1, _⟩ => by show win1_4.index t (1 : Fin 2) * 1024 + 1 * j.val = j.val; omega)]
  rfl

theorem g_in (k : Fin 1024) : iblk1 (V3 m p) c 5 t (ix2 0 k) = (args m c).g (ix2 0 k) := by
  obtain ⟨-, -, -, -, -, e0, e1⟩ := index1 t
  show V3 m p c main_v1 (((cfg1.win 5).blk t).view.emb (ix2 0 k)) = _
  rw [V3_of m p c main_v1 (by decide) (by decide +kernel), V_ln, show ((cfg1.win 5).blk t).view.emb (ix2 0 k) = ix2 0 k from funext fun d => Fin.ext (match d with
    | ⟨0, _⟩ => by show win1_5.index t (0 : Fin 2) * 2 + 1 * 0 = 0; omega
    | ⟨1, _⟩ => by show win1_5.index t (1 : Fin 2) * 1024 + 1 * k.val = k.val; omega)]
  exact concatenate_pair_apply_left (t := S2x1024) (s₁ := S1x1024) (s₂ := S1x1024) 0 _ _ _ (ix2 0 k) rfl (ix2 0 k) (fun d => by
    match d with
    | ⟨0, _⟩ => rfl
    | ⟨1, _⟩ => rfl)

/-- A row of a point's blocks is that row of the arguments, -/
theorem holds (i : Fin 512) : Holds (blocks c (V3 m p) t) i ((args m c).row (rowIn t i)) :=
  ⟨fun j => mix_in m p c t i j, fun j => x_in m p c t i j, fun j => gate_in m p c t i j, fun k j => w_in m p c t k j, fun j => g_in m p c t j⟩

end

/-- and so is the gradient's. -/
theorem dRow_eq (t : Fin cfg1.N) (i : Fin 512) : In.dRow (blocks c (V3 m p) t) i = gradRow (grad m c) (rowIn t i) := funext fun k => d_in m p c t i k

/-! ## The arrays written block by block -/

theorem block_rows {n : ℕ} (t : Fin cfg1.N) (f : Row → (Fin 1024 → EReal) → Fin n → EReal) (B : Shape.Idx ⟨2, ![512, n]⟩ → EReal)
    (hB : ∀ (i : Fin 512) (j : Fin n), B (ix2 i j) = f ((args m c).row (rowIn t i)) (((args m c).row (rowIn t i)).dr (In.dRow (blocks c (V3 m p) t) i)) j)
    (z : Shape.Idx ⟨2, ![512, n]⟩) (y : Shape.Idx ⟨2, ![8192, n]⟩)
    (h0 : (y 0).val = 512 * t.val + (z 0).val) (h1 : (y 1).val = (z 1).val) : B z = (args m c).back ((args m c).resid (grad m c)) f y := by
  have ez : z = ix2 (z 0) (z 1) := pair _ _ rfl rfl
  have e0 : y 0 = rowIn t (z 0) := Fin.ext h0
  have e1 : y 1 = z 1 := Fin.ext h1
  refine (congrArg B ez).trans ((hB (z 0) (z 1)).trans ?_)
  refine (congrArg (fun d => f ((args m c).row (rowIn t (z 0))) (((args m c).row (rowIn t (z 0))).dr d) (z 1)) (dRow_eq m p c t (z 0))).trans ?_
  exact (congrArg₂ (fun R j => f ((args m c).row R) ((args m c).resid (grad m c) R) j) e0 e1).symm

theorem final_dmix : (dat1 (V3 m p) c).arrAt 6 cfg1.N = (args m c).back ((args m c).resid (grad m c)) Row.dmix := by
  refine (dat1 (V3 m p) c).arrAt_eq_of_covers 6 _ (by decide +kernel) fun t hf y => ?_
  obtain ⟨⟨e0, e1⟩, -⟩ := index_out t
  blk_simp
  rw [(outs_rows c (V3 m p) t).1]
  exact block_rows m p c t Row.dmix _ (fun i j => dmix_apply (holds m p c t i) j) y _
    (by show win1_6.index t (0 : Fin 2) * 512 + 1 * (y 0).val = 512 * t.val + (y 0).val; omega)
    (by show win1_6.index t (1 : Fin 2) * 1024 + 1 * (y 1).val = (y 1).val; omega)

theorem final_dx : (dat1 (V3 m p) c).arrAt 7 cfg1.N = (args m c).back ((args m c).resid (grad m c)) fun _ dr => Row.dx dr := by
  refine (dat1 (V3 m p) c).arrAt_eq_of_covers 7 _ (by decide +kernel) fun t hf y => ?_
  obtain ⟨-, ⟨e0, e1⟩, -⟩ := index_out t
  blk_simp
  rw [(outs_rows c (V3 m p) t).2.1]
  exact block_rows m p c t (fun _ dr => Row.dx dr) _ (fun i j => dx_apply (holds m p c t i) j) y _
    (by show win1_7.index t (0 : Fin 2) * 512 + 1 * (y 0).val = 512 * t.val + (y 0).val; omega)
    (by show win1_7.index t (1 : Fin 2) * 1024 + 1 * (y 1).val = (y 1).val; omega)

theorem final_head : (dat1 (V3 m p) c).arrAt 8 cfg1.N = (args m c).back ((args m c).resid (grad m c)) Row.head := by
  refine (dat1 (V3 m p) c).arrAt_eq_of_covers 8 _ (by decide +kernel) fun t hf y => ?_
  obtain ⟨-, -, ⟨e0, e1⟩, -⟩ := index_out t
  blk_simp
  rw [(outs_rows c (V3 m p) t).2.2.1]
  exact block_rows m p c t Row.head _ (fun i j => dys_apply (holds m p c t i) j) y _
    (by show win1_8.index t (0 : Fin 2) * 512 + 1 * (y 0).val = 512 * t.val + (y 0).val; omega)
    (by show win1_8.index t (1 : Fin 2) * 1536 + 1 * (y 1).val = (y 1).val; omega)

theorem final_tail : (dat1 (V3 m p) c).arrAt 9 cfg1.N = (args m c).back ((args m c).resid (grad m c)) Row.tail := by
  refine (dat1 (V3 m p) c).arrAt_eq_of_covers 9 _ (by decide +kernel) fun t hf y => ?_
  obtain ⟨-, -, -, ⟨e0, e1⟩, -⟩ := index_out t
  blk_simp
  rw [(outs_rows c (V3 m p) t).2.2.2]
  exact block_rows m p c t Row.tail _ (fun i j => dy5_apply (holds m p c t i) j) y _
    (by show win1_9.index t (0 : Fin 2) * 512 + 1 * (y 0).val = 512 * t.val + (y 0).val; omega)
    (by show win1_9.index t (1 : Fin 2) * 512 + 1 * (y 1).val = (y 1).val; omega)

end Cert.Out.Back

end
-- ==== Proof.Out.BackTotals.lean ====
/- The backward kernel's two accumulators: after all points each entry is a sum over all rows, or over the rows of a sequence. -/
module

public import proofs.«01_k».proof.Proof.Out.BackBlocks

@[expose] public section

set_option maxRecDepth 16384

noncomputable section

namespace Cert.Out.Back

open Idealize.ShloMosaic Idealize.ShloMosaic.ValueIdx Idealize.ShloMosaic.TcCoe
open Idealize.ShloMosaic.Pipeline (Dat)
open Cert.NormGradIdeal Cert.NormGradIdeal.Gen
open Cert.Mlp Cert.Out
open scoped BigOperators

/-- A function of the rows, by number. -/
def nth (f : Fin 8192 → EReal) (R : ℕ) : EReal := if h : R < 8192 then f ⟨R, h⟩ else 0

/-- A point's rows among all. -/
theorem point_sum (f : Fin 8192 → EReal) (t : Fin cfg1.N) : ∑ i, f (rowIn t i) = ∑ r ∈ Finset.range 512, nth f (512 * t.val + r) := by
  have hN : t.val < 16 := lt_of_lt_of_eq t.isLt (show cfg1.N = 16 from N_1)
  rw [Finset.sum_range]
  refine Finset.sum_congr rfl fun i _ => ?_
  unfold nth
  rw [dif_pos (by have := i.isLt; omega)]
  rfl

/-- All rows. -/
theorem sum_rows (f : Fin 8192 → EReal) : ∑ r ∈ Finset.range 8192, nth f r = ∑ R, f R := by
  rw [Finset.sum_range]
  exact Finset.sum_congr rfl fun R _ => dif_pos R.isLt

/-- The rows of a sequence. -/
theorem sum_places (f : Fin 8192 → EReal) (s : Fin 2) : ∑ r ∈ Finset.range 4096, nth f (4096 * s.val + r) = ∑ q, f (rowAt s q) := by
  rw [Finset.sum_range]
  refine Finset.sum_congr rfl fun q _ => ?_
  unfold nth
  rw [dif_pos (by have := q.isLt; have := s.isLt; omega)]
  exact congrArg f (Fin.ext (by show 4096 * s.val + q.val = s.val * 4096 + q.val; omega))

variable (m : (ℓ : Loc nD τ sig) → Buf (Elt Ideal) ℓ) (p : Dev nD → PrngReg) (c : Dev nD)

/-- What a row adds to the first accumulator -/
def addG (q : Fin 8) (j : Fin 1024) (R : Fin 8192) : EReal := ((args m c).row R).toSum q.val (gradRow (grad m c) R) j
/-- and to its sequence's. -/
def addB (q : Fin 8) (k : Fin 1024) (R : Fin 8192) : EReal := ((args m c).row R).toSeq q.val ((args m c).resid (grad m c) R) k

theorem gacc_point (G : Vec Ideal S8x1024 .f32) (t : Fin cfg1.N) (q : Fin 8) (j : Fin 1024) : (blocks c (V3 m p) t).gacc G (ix2 q j)
    = G (ix2 q j) + ∑ r ∈ Finset.range 512, nth (addG m c q j) (512 * t.val + r) := by
  refine (gacc_apply (fun i => holds m p c t i) G q j).trans (congrArg (fun a : EReal => G (ix2 q j) + a) ?_)
  rw [← point_sum]
  exact Finset.sum_congr rfl fun i _ => congrArg (fun d => ((args m c).row (rowIn t i)).toSum q.val d j) (dRow_eq m p c t i)

theorem bacc_point (B : Vec Ideal S1x8x1024 .f32) (t : Fin cfg1.N) (q : Fin 8) (k : Fin 1024) : (blocks c (V3 m p) t).bacc B (ix3 0 q k)
    = B (ix3 0 q k) + ∑ r ∈ Finset.range 512, nth (addB m c q k) (512 * t.val + r) := by
  refine (bacc_apply (fun i => holds m p c t i) B q k).trans (congrArg (fun a : EReal => B (ix3 0 q k) + a) ?_)
  rw [← point_sum]
  exact Finset.sum_congr rfl fun i _ => congrArg (fun d => ((args m c).row (rowIn t i)).toSeq q.val (((args m c).row (rowIn t i)).dr d) k)
    (dRow_eq m p c t i)

theorem start_g (q : Fin 8) (j : Fin 1024) : k1_pay1 (F := Ideal) (ix2 q j) = (0 : EReal) := Ideal.ofBits_zero_f32
theorem start_b (q : Fin 8) (k : Fin 1024) : k1_pay2 (F := Ideal) (ix3 0 q k) = (0 : EReal) := Ideal.ofBits_zero_f32

/-- The rows of the points up to one. -/
theorem gsumAt_apply (q : Fin 8) (j : Fin 1024) : ∀ (n : ℕ) (hn : n < cfg1.N),
    gsumAt c (V3 m p) n hn (ix2 q j) = ∑ r ∈ Finset.range (512 * (n + 1)), nth (addG m c q j) r
  | 0, hn => by
    rw [gsumAt_zero, gacc_point, start_g, zero_add]
    simp only [Nat.mul_zero, Nat.zero_add, Nat.mul_one]
  | n + 1, hn => by
    rw [gsumAt_succ, gacc_point, gsumAt_apply q j n (Nat.lt_of_succ_lt hn), show 512 * (n + 1 + 1) = 512 * (n + 1) + 512 by omega, Finset.sum_range_add]

theorem bsumAt_apply (q : Fin 8) (k : Fin 1024) : ∀ (n : ℕ) (hn : n < cfg1.N),
    bsumAt c (V3 m p) n hn (ix3 0 q k) = ∑ r ∈ Finset.range (512 * (n % 8 + 1)), nth (addB m c q k) (4096 * (n / 8) + r)
  | 0, hn => by
    rw [bsumAt_zero, bacc_point, start_b, zero_add]
    simp only [Nat.mul_zero, Nat.zero_add, Nat.mul_one, Nat.zero_div, Nat.zero_mod]
  | n + 1, hn => by
    by_cases h : (n + 1) % 8 = 0
    · rw [bsumAt_start c _ n hn h, bacc_point, start_b, zero_add, h]
      exact Finset.sum_congr rfl fun r _ => congrArg _ (by dsimp only; omega)
    · rw [bsumAt_succ c _ n hn h, bacc_point, bsumAt_apply q k n (Nat.lt_of_succ_lt hn), show 512 * ((n + 1) % 8 + 1) = 512 * (n % 8 + 1) + 512 by omega,
        Finset.sum_range_add, show (n + 1) / 8 = n / 8 by omega]
      exact congrArg _ (Finset.sum_congr rfl fun r _ => congrArg _ (by dsimp only; omega))

theorem left_10 (t : Fin cfg1.N) : (dat1 (V3 m p) c).after 10 t = gsumAt c (V3 m p) t.val t.isLt := after1_10 (V3 m p) c t
theorem left_11 (t : Fin cfg1.N) : (dat1 (V3 m p) c).after 11 t = bsumAt c (V3 m p) t.val t.isLt := after1_11 (V3 m p) c t

theorem final_g : (dat1 (V3 m p) c).arrAt 10 cfg1.N = (args m c).gsum (grad m c) := by
  refine (dat1 (V3 m p) c).arrAt_eq_of_covers 10 _ (by decide +kernel) fun t hf y => ?_
  have hN : t.val < 16 := lt_of_lt_of_eq t.isLt (show cfg1.N = 16 from N_1)
  have ht : t.val = 15 := by have := (flush1_10 t).mp hf; omega
  obtain ⟨-, -, -, -, ⟨e0, e1⟩, -⟩ := index_out t
  blk_simp
  rw [left_10]
  have key : ∀ (z : Shape.Idx ⟨2, ![8, 1024]⟩) (x : Shape.Idx ⟨2, ![8, 1024]⟩), (x 0).val = (z 0).val → (x 1).val = (z 1).val →
      gsumAt c (V3 m p) t.val t.isLt z = (args m c).gsum (grad m c) x := fun z x h0 h1 => by
    have ez : z = ix2 (x 0) (x 1) := funext fun d => Fin.ext (by
      match d with
      | ⟨0, _⟩ => exact h0.symm
      | ⟨1, _⟩ => exact h1.symm)
    refine (congrArg _ ez).trans ((gsumAt_apply m p c (x 0) (x 1) t.val t.isLt).trans ?_)
    rw [show 512 * (t.val + 1) = 8192 by omega, sum_rows]
    rfl
  exact key y _
    (by show win1_10.index t (0 : Fin 2) * 8 + 1 * (y 0).val = (y 0).val; omega)
    (by show win1_10.index t (1 : Fin 2) * 1024 + 1 * (y 1).val = (y 1).val; omega)

theorem final_b : (dat1 (V3 m p) c).arrAt 11 cfg1.N = (args m c).bsum ((args m c).resid (grad m c)) := by
  refine (dat1 (V3 m p) c).arrAt_eq_of_covers 11 _ (by decide +kernel) fun t hf y => ?_
  have hN : t.val < 16 := lt_of_lt_of_eq t.isLt (show cfg1.N = 16 from N_1)
  have ht : t.val % 8 = 7 := (flush1_11 t).mp hf
  obtain ⟨-, -, -, -, -, e0, e1, e2⟩ := index_out t
  blk_simp
  rw [left_11]
  have key : ∀ (z : Shape.Idx ⟨3, ![1, 8, 1024]⟩) (x : Shape.Idx ⟨3, ![2, 8, 1024]⟩), (x 0).val = t.val / 8 → (x 1).val = (z 1).val →
      (x 2).val = (z 2).val → bsumAt c (V3 m p) t.val t.isLt z = (args m c).bsum ((args m c).resid (grad m c)) x := fun z x h0 h1 h2 => by
    have ez : z = ix3 0 (x 1) (x 2) := funext fun d => Fin.ext (by
      match d with
      | ⟨0, _⟩ => have : (z 0).val < 1 := (z 0).isLt; show (z 0).val = 0; omega
      | ⟨1, _⟩ => exact h1.symm
      | ⟨2, _⟩ => exact h2.symm)
    refine (congrArg _ ez).trans ((bsumAt_apply m p c (x 1) (x 2) t.val t.isLt).trans ?_)
    rw [ht, ← h0]
    exact sum_places (addB m c (x 1) (x 2)) (x 0)
  exact key y _
    (by have : (y 0).val < 1 := (y 0).isLt
        show win1_11.index t (0 : Fin 3) * 1 + 1 * (y 0).val = t.val / 8; omega)
    (by show win1_11.index t (1 : Fin 3) * 8 + 1 * (y 1).val = (y 1).val; omega)
    (by show win1_11.index t (2 : Fin 3) * 1024 + 1 * (y 2).val = (y 2).val; omega)

end Cert.Out.Back

end
-- ==== Proof.Out.BackRun.lean ====
/- The backward kernel's run: what it leaves in its six arrays. -/
module

public import proofs.«01_k».proof.Proof.Out.BackTotals

@[expose] public section

set_option maxRecDepth 16384

noncomputable section

namespace Cert.Out.Back

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.NormGradIdeal Cert.NormGradIdeal.Gen
open Cert.Mlp Cert.Out

section

variable {F : FTy → Type} [FloatOps F] (m : (ℓ : Loc nD τ sig) → Buf (Elt F) ℓ) (ρ : Dev nD → PrngReg)

local notation "𝕄" => MT nD τ sig Unit (Elt F) ℕ (UR sig nD τ) ℕ

set_option backward.isDefEq.respectTransparency.types false in
/-- Every buffer outside the kernels ends at what the program's segments leave in it. -/
theorem run_all : θ_run defs (onTc (τ := τ) (main (F := F))) ⟨m, fun _ => 0, ρ⟩ (fun r => ∀ c : Dev nD,
    ∀ b ∈ Pipeline.ucRefs τ sig, r.2.mem ((c : Thread nD τ).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => h)

end

variable (m : (ℓ : Loc nD τ sig) → Buf (Elt Ideal) ℓ)

/-- The kernel's results, and its arguments unchanged. -/
theorem kernel_run (ρ : Dev nD → PrngReg) : θ_run (defs (F := Ideal)) (onTc (τ := τ) (main (F := Ideal))) ⟨m, fun _ => 0, ρ⟩ (fun r => ∀ c : Dev nD,
      r.2.mem ((c.tc : Thread nD τ).loc main_v8_0) = (args m c).back ((args m c).resid (grad m c)) Row.dmix
      ∧ r.2.mem ((c.tc : Thread nD τ).loc main_v8_1) = (args m c).back ((args m c).resid (grad m c)) (fun _ dr => Row.dx dr)
      ∧ r.2.mem ((c.tc : Thread nD τ).loc main_v8_2) = (args m c).back ((args m c).resid (grad m c)) Row.head
      ∧ r.2.mem ((c.tc : Thread nD τ).loc main_v8_3) = (args m c).back ((args m c).resid (grad m c)) Row.tail
      ∧ r.2.mem ((c.tc : Thread nD τ).loc main_v8_4) = (args m c).gsum (grad m c)
      ∧ r.2.mem ((c.tc : Thread nD τ).loc main_v8_5) = (args m c).bsum ((args m c).resid (grad m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c _ (mem_uc main_v8_0 (by decide))).trans (W4_arr m ρ c 6)).trans (final_dmix m ρ c),
     ((h c _ (mem_uc main_v8_1 (by decide))).trans (W4_arr m ρ c 7)).trans (final_dx m ρ c),
     ((h c _ (mem_uc main_v8_2 (by decide))).trans (W4_arr m ρ c 8)).trans (final_head m ρ c),
     ((h c _ (mem_uc main_v8_3 (by decide))).trans (W4_arr m ρ c 9)).trans (final_tail m ρ c),
     ((h c _ (mem_uc main_v8_4 (by decide))).trans (W4_arr m ρ c 10)).trans (final_g m ρ c),
     ((h c _ (mem_uc main_v8_5 (by decide))).trans (W4_arr m ρ c 11)).trans (final_b m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

end Cert.Out.Back

end
-- ==== Proof.Out.BackRef.lean ====
/- The backward reference's arrays, entry by entry: every row's gradients as reverse differentiation has them, and their sums. -/
module

public import proofs.«01_k».proof.Proof.Gen.NormGradRefIdeal.Read
public import proofs.«01_k».proof.Proof.Out.Grad

@[expose] public section

set_option maxRecDepth 16384

noncomputable section

namespace Cert.Out.BackRef

open Idealize.ShloMosaic Idealize.ShloMosaic.ValueIdx Idealize.ShloMosaic.TcCoe Idealize.SL.Sem
open Cert.NormGradRefIdeal Cert.NormGradRefIdeal.Gen Cert.NormGradRefIdeal.Read
open Cert.Mlp Cert.Out
open scoped BigOperators

variable (A : Args) (D : FVec Ideal ⟨3, ![2, 4096, 1024]⟩ .f32) (R : Fin 8192)

abbrev mix := val_main_v7 (F := Ideal) A.y A.w
abbrev rSeq := val_main_v14 (F := Ideal) A.y A.x A.mod A.w
abbrev r := val_main_v15 (F := Ideal) A.y A.x A.mod A.w
abbrev xc := val_main_v21 (F := Ideal) A.y A.x A.mod A.w
abbrev var := val_main_v28 (F := Ideal) A.y A.x A.mod A.w
abbrev rstd := val_main_v29 (F := Ideal) A.y A.x A.mod A.w
abbrev xhat := val_main_v34 (F := Ideal) A.y A.x A.mod A.w
abbrev grad := val_main_v39 (F := Ideal) D
abbrev toVar := val_main_v56 (F := Ideal) A.y A.x A.mod A.w A.g D
abbrev toRow := val_main_v60 (F := Ideal) A.y A.x A.mod A.w A.g D
abbrev dr := val_main_v68 (F := Ideal) A.y A.x A.mod A.w A.g D
abbrev drSeq := val_main_v69 (F := Ideal) A.y A.x A.mod A.w A.g D
abbrev dmix := val_main_v71 (F := Ideal) A.y A.x A.mod A.w A.g D
abbrev dy := val_main_v78 (F := Ideal) A.y A.x A.mod A.w A.g D

/-! ## Places -/

/-- A row's place in the array by sequences, -/
theorem by_seq (k : Fin 1024) : idx_main_v15 (ix2 R k) = ix3 (seq R) (pos R) k := by
  funext d
  match d with
  | ⟨0, _⟩ => exact Fin.ext (by show (R.val * 1024 + k.val) / 4194304 = R.val / 4096; omega)
  | ⟨1, _⟩ => exact Fin.ext (by show (R.val * 1024 + k.val) / 1024 % 4096 = R.val % 4096; omega)
  | ⟨2, _⟩ => exact Fin.ext (by show (R.val * 1024 + k.val) % 1024 = k.val; omega)

/-- that of an operand's row, -/
theorem by_seq_wide (k : Fin 2048) : idx_main_v78 (ix2 R k) = ix3 (seq R) (pos R) k := by
  funext d
  match d with
  | ⟨0, _⟩ => exact Fin.ext (by show (R.val * 2048 + k.val) / 8388608 = R.val / 4096; omega)
  | ⟨1, _⟩ => exact Fin.ext (by show (R.val * 2048 + k.val) / 2048 % 4096 = R.val % 4096; omega)
  | ⟨2, _⟩ => exact Fin.ext (by show (R.val * 2048 + k.val) % 2048 = k.val; omega)

/-- and back. -/
theorem by_row (s : Fin 2) (q : Fin 4096) (k : Fin 1024) : idx_main_v69 (ix3 s q k) = ix2 (rowAt s q) k := by
  funext d
  match d with
  | ⟨0, _⟩ => exact Fin.ext (by show ((s.val * 4096 + q.val) * 1024 + k.val) / 1024 = s.val * 4096 + q.val; omega)
  | ⟨1, _⟩ => exact Fin.ext (by show ((s.val * 4096 + q.val) * 1024 + k.val) % 1024 = k.val; omega)

/-! ## Forward -/

theorem mix_apply (s : Fin 2) (q : Fin 4096) (j : Fin 1024) : mix A (ix3 s q j) = (A.row (rowAt s q)).mix j := by
  rw [mix, val_main_v7_apply]
  refine Finset.sum_congr rfl fun k _ => congrArg₂ (fun a b : EReal => a * b) ?_ (congrArg A.w (pair k j rfl rfl))
  show A.y _ = A.y (ix3 (seq (rowAt s q)) (pos (rowAt s q)) k)
  rw [seq_rowAt, pos_rowAt]
  exact congrArg A.y (triple s q k rfl rfl rfl)

theorem gate_apply (s : Fin 2) (q : Fin 4096) (j : Fin 1024) : val_main_v11 (F := Ideal) A.mod (ix3 s 0 j) = one + (A.row (rowAt s q)).gate j := by
  rw [val_main_v11_apply, val_main_v3_apply, val_main_v0_apply, val_main_v10_apply]
  refine congrArg (fun a : EReal => one + a) ?_
  show A.mod _ = A.mod (ix2 (seq (rowAt s q)) ⟨2048 + j.val, by omega⟩)
  rw [seq_rowAt]
  exact congrArg A.mod (pair _ _ rfl rfl)

theorem r_apply (j : Fin 1024) : r A (ix2 R j) = (A.row R).r j := by
  rw [r, val_main_v15_apply, by_seq, val_main_v14_apply, val_main_v13_apply, val_main_v9_apply, val_main_v12_apply,
    show idx_main_v12 (ix3 (seq R) (pos R) j) = ix3 (seq R) 0 j from triple _ _ _ rfl rfl rfl, gate_apply A (seq R) (pos R), rowAt_seq]
  refine congrArg (fun a : EReal => alpha * A.x (ix3 (seq R) (pos R) j) + (one + (A.row R).gate j) * a) ((mix_apply A (seq R) (pos R) j).trans ?_)
  rw [rowAt_seq]

theorem xc_apply (j : Fin 1024) : xc A (ix2 R j) = Norm.xc (A.row R).r j := by
  rw [xc, val_main_v21_apply, val_main_v20_apply, val_main_v19_apply, val_main_v17_apply, val_main_v16_apply]
  exact congrArg₂ (fun a b : EReal => a - b) (r_apply A R j) (congrArg (fun a : EReal => Ideal.div a width)
    (sum_from Ideal.ofBits_zero_f32 fun k => (congrArg (r A) (pair R k rfl rfl)).trans (r_apply A R k)))

theorem var_apply : var A (ix2 R 0) = Norm.var (A.row R).r := by
  rw [var, val_main_v28_apply, val_main_v26_apply, val_main_v24_apply, val_main_v23_apply]
  refine congrArg (fun a : EReal => Ideal.div a width + eps) (sum_from Ideal.ofBits_zero_f32 fun k => ?_)
  rw [show idx_main_v23 (idx_main_v24 (ix2 R 0)) k = ix2 R k from pair R k rfl rfl, val_main_v22_apply]
  exact congrArg₂ (fun a b : EReal => a * b) (xc_apply A R k) (xc_apply A R k)

theorem rstd_apply : rstd A (ix2 R 0) = Norm.rstd (A.row R).r := by
  rw [rstd, val_main_v29_apply]
  exact congrArg Ideal.rsqrt (var_apply A R)

theorem xhat_apply (j : Fin 1024) : xhat A (ix2 R j) = Norm.xhat (A.row R).r j := by
  rw [xhat, val_main_v34_apply, val_main_v33_apply]
  exact congrArg₂ (fun a b : EReal => a * b) (xc_apply A R j) ((congrArg (rstd A) (pair R 0 rfl rfl)).trans (rstd_apply A R))

/-! ## Backward -/

theorem grad_apply (j : Fin 1024) : grad D (ix2 R j) = gradRow D R j := by
  rw [grad, val_main_v39_apply, show idx_main_v39 (ix2 R j) = ix3 (seq R) (pos R) j from by_seq R j]
  rfl

theorem grad_g_apply (j : Fin 1024) : val_main_v46 (F := Ideal) A.g D (ix2 R j) = gradRow D R j * (A.row R).g j := by
  rw [val_main_v46_apply, val_main_v45_apply]
  exact congrArg₂ (fun a b : EReal => a * b) (grad_apply D R j) (congrArg A.g (pair 0 j rfl rfl))

theorem toVar_apply (j : Fin 1024) : toVar A D (ix2 R j) = Norm.varBack (A.row R).r fun k => gradRow D R k * (A.row R).g k := by
  rw [toVar, val_main_v56_apply, val_main_v55_apply]
  refine sum_one Ideal.ofBits_zero_f32 ?_
  rw [val_main_v54_apply, val_main_v52_apply, val_main_v49_apply, val_main_v48_apply, val_main_v32_apply, val_main_v30_apply]
  have ei : idx_main_v55 (idx_main_v56 (ix2 R j)) 0 = ix2 R 0 := pair R 0 rfl rfl
  rw [ei]
  refine congrArg (fun a : EReal => Ideal.div a width) (congrArg₂ (fun a b : EReal => a * b) (sum_from Ideal.ofBits_zero_f32 fun k => ?_)
    (congrArg₂ (fun a b : EReal => minusHalf * Ideal.div a b) (rstd_apply A R) (var_apply A R)))
  rw [show idx_main_v48 (idx_main_v49 (ix2 R 0)) k = ix2 R k from pair R k (Fin.ext (by show R.val * 1 + 0 = R.val; omega)) rfl, val_main_v47_apply]
  exact congrArg₂ (fun a b : EReal => a * b) (xc_apply A R k) (grad_g_apply A D R k)

theorem toRow_apply (j : Fin 1024) : toRow A D (ix2 R j) = Norm.rowBack (A.row R).r (fun k => gradRow D R k * (A.row R).g k) j := by
  rw [toRow, val_main_v60_apply, val_main_v58_apply, val_main_v51_apply, val_main_v50_apply, val_main_v57_apply, val_main_v59_apply]
  exact congrArg₂ (fun a b : EReal => a + b) (congrArg₂ (fun a b : EReal => a + b)
    (congrArg₂ (fun a b : EReal => a * b) (grad_g_apply A D R j) ((congrArg (rstd A) (pair R 0 rfl rfl)).trans (rstd_apply A R)))
    (congrArg₂ (fun a b : EReal => a * b) (xc_apply A R j) (toVar_apply A D R j)))
    (congrArg₂ (fun a b : EReal => a * b) (toVar_apply A D R j) (xc_apply A R j))

theorem dr_apply (j : Fin 1024) : dr A D (ix2 R j) = A.residSum D R j := by
  rw [dr, val_main_v68_apply, val_main_v67_apply, val_main_v66_apply]
  refine congrArg₂ (fun a b : EReal => a + b) (toRow_apply A D R j) (sum_one Ideal.ofBits_zero_f32 ?_)
  rw [val_main_v65_apply, val_main_v63_apply, val_main_v62_apply]
  refine congrArg (fun a : EReal => Ideal.div a width) (sum_from Ideal.ofBits_zero_f32 fun k => ?_)
  rw [show idx_main_v62 (idx_main_v63 (idx_main_v66 (idx_main_v67 (ix2 R j)) 0)) k = ix2 R k from
    pair R k (Fin.ext (by show R.val * 1 + 0 = R.val; omega)) rfl, val_main_v61_apply]
  exact congrArg (fun a : EReal => -a) (toRow_apply A D R k)

theorem drSeq_apply (s : Fin 2) (q : Fin 4096) (j : Fin 1024) : drSeq A D (ix3 s q j) = A.residSum D (rowAt s q) j := by
  rw [drSeq, val_main_v69_apply, by_row]
  exact dr_apply A D _ j

theorem dmix_apply (s : Fin 2) (q : Fin 4096) (j : Fin 1024) : dmix A D (ix3 s q j) = (A.row (rowAt s q)).dmix (A.residSum D (rowAt s q)) j := by
  rw [dmix, val_main_v71_apply, val_main_v70_apply, show idx_main_v70 (ix3 s q j) = ix3 s 0 j from triple _ _ _ rfl rfl rfl]
  exact congrArg₂ (fun a b : EReal => a * b) (gate_apply A s q j) (drSeq_apply A D s q j)

theorem dy_apply (k : Fin 2048) : dy A D (ix2 R k) = (A.row R).dy (A.residSum D R) k := by
  rw [dy, val_main_v78_apply, by_seq_wide, val_main_v77_apply]
  refine Finset.sum_congr rfl fun j _ => congrArg₂ (fun a b : EReal => a * b) ?_ (congrArg A.w (pair k j rfl rfl))
  refine (congrArg (dmix A D) (triple (seq R) (pos R) j rfl rfl rfl)).trans ((dmix_apply A D _ _ j).trans ?_)
  rw [rowAt_seq]

/-! ## The six results -/

theorem dmix_eq : val_main_v84 (F := Ideal) A.y A.x A.mod A.w A.g D = A.back (A.residSum D) Row.dmix :=
  ext_rows fun R k => by
    show val_main_v83 (F := Ideal) A.y A.x A.mod A.w A.g D (ix2 R k) = _
    rw [val_main_v83_apply, show idx_main_v83 (ix2 R k) = ix3 (seq R) (pos R) k from by_seq R k]
    refine (dmix_apply A D _ _ k).trans ?_
    rw [rowAt_seq]
    rfl

theorem dx_eq : val_main_v85 (F := Ideal) A.y A.x A.mod A.w A.g D = A.back (A.residSum D) (fun _ dr => Row.dx dr) :=
  ext_rows fun R k => by
    rw [val_main_v85_apply, show idx_main_v85 (ix2 R k) = ix3 (seq R) (pos R) k from by_seq R k, val_main_v76_apply]
    refine congrArg (fun a : EReal => alpha * a) ((drSeq_apply A D _ _ k).trans ?_)
    rw [rowAt_seq]

theorem head_eq : val_main_v86 (F := Ideal) A.y A.x A.mod A.w A.g D = A.back (A.residSum D) Row.head :=
  ext_rows fun R k => by
    rw [val_main_v86_apply]
    exact (congrArg (dy A D) (pair R ⟨k.val, by omega⟩ rfl rfl)).trans (dy_apply A D R _)

theorem tail_eq : val_main_v87 (F := Ideal) A.y A.x A.mod A.w A.g D = A.back (A.residSum D) Row.tail :=
  ext_rows fun R k => by
    rw [val_main_v87_apply]
    exact (congrArg (dy A D) (pair R ⟨1536 + k.val, by omega⟩ rfl rfl)).trans (dy_apply A D R _)

theorem gain_apply (j : Fin 1024) : val_main_v44 (F := Ideal) A.y A.x A.mod A.w D (ix2 0 j) = ∑ R, (A.row R).toSum 0 (gradRow D R) j := by
  rw [val_main_v44_apply, val_main_v43_apply]
  refine sum_from Ideal.ofBits_zero_f32 fun R => ?_
  rw [pair (f := idx_main_v43 (idx_main_v44 (ix2 0 j)) R) R j rfl (Fin.ext (by show 0 * 1024 + j.val = j.val; omega)), val_main_v42_apply]
  exact (congrArg₂ (fun a b : EReal => a * b) (xhat_apply A R j) (grad_apply D R j)).trans (mul_comm _ _)

theorem shift_apply (j : Fin 1024) : val_main_v41 (F := Ideal) D (ix2 0 j) = ∑ R, (A.row R).toSum 1 (gradRow D R) j := by
  rw [val_main_v41_apply, val_main_v40_apply]
  refine sum_from Ideal.ofBits_zero_f32 fun R => ?_
  rw [pair (f := idx_main_v40 (idx_main_v41 (ix2 0 j)) R) R j rfl (Fin.ext (by show 0 * 1024 + j.val = j.val; omega))]
  exact grad_apply D R j

theorem gsum_eq : val_main_v80 (F := Ideal) A.y A.x A.mod A.w D = A.gsum D := by
  refine ext_rows fun q j => ?_
  show val_main_v80 (F := Ideal) A.y A.x A.mod A.w D (ix2 q j) = ∑ R, (A.row R).toSum q.val (gradRow D R) j
  unfold val_main_v80
  by_cases h0 : q.val = 0
  · rw [show q = 0 from Fin.ext h0]
    exact (concatenate_apply_piece (t := S8x1024) 0 _ _ (ix2 0 j) 0 (by show 0 < 3; decide) S1x1024 _ rfl rfl 0 rfl (ix2 0 j) (fun d hd => by
      match d with
      | ⟨0, _⟩ => exact absurd rfl hd
      | ⟨1, _⟩ => rfl) rfl).trans (gain_apply A D j)
  by_cases h1 : q.val = 1
  · rw [show q = 1 from Fin.ext h1]
    exact (concatenate_apply_piece (t := S8x1024) 0 _ _ (ix2 1 j) 1 (by show 1 < 3; decide) S1x1024 _ rfl rfl 1 rfl (ix2 0 j) (fun d hd => by
      match d with
      | ⟨0, _⟩ => exact absurd rfl hd
      | ⟨1, _⟩ => rfl) rfl).trans (shift_apply A D j)
  refine (concatenate_apply_piece (t := S8x1024) 0 _ _ (ix2 q j) 2 (by show 2 < 3; decide) S6x1024 (val_main_v79 (F := Ideal)) rfl rfl 2 rfl
    (ix2 (⟨q.val - 2, by omega⟩ : Fin 6) j) (fun d hd => by
      match d with
      | ⟨0, _⟩ => exact absurd rfl hd
      | ⟨1, _⟩ => rfl) (by show 2 + (q.val - 2) = q.val; omega)).trans (Eq.trans (b := (0 : EReal)) ?_ ?_)
  · rw [val_main_v79_apply]
    exact Ideal.ofBits_zero_f32
  · refine (Finset.sum_eq_zero fun R _ => ?_).symm
    unfold Row.toSum
    rw [if_neg h0, if_neg h1]

theorem toGate_apply (s : Fin 2) (k : Fin 1024) : val_main_v74 (F := Ideal) A.y A.x A.mod A.w A.g D (ix3 s 0 k)
    = ∑ q, (A.row (rowAt s q)).toSeq 0 (A.residSum D (rowAt s q)) k := by
  rw [val_main_v74_apply, val_main_v73_apply]
  refine sum_from Ideal.ofBits_zero_f32 fun q => ?_
  rw [triple (f := idx_main_v73 (idx_main_v74 (ix3 s 0 k)) q) s q k (Fin.ext (by show ((s.val * 1 + 0) * 1024 + k.val) / 1024 = s.val; omega)) rfl
    (Fin.ext (by show ((s.val * 1 + 0) * 1024 + k.val) % 1024 = k.val; omega)), val_main_v72_apply]
  exact congrArg₂ (fun a b : EReal => a * b) (drSeq_apply A D s q k) (mix_apply A s q k)

theorem bsum_eq : val_main_v82 (F := Ideal) A.y A.x A.mod A.w A.g D = A.bsum (A.residSum D) := by
  have key : ∀ (s : Fin 2) (q : Fin 8) (k : Fin 1024), val_main_v82 (F := Ideal) A.y A.x A.mod A.w A.g D (ix3 s q k)
      = ∑ i, (A.row (rowAt s i)).toSeq q.val (A.residSum D (rowAt s i)) k := fun s q k => by
    unfold val_main_v82
    by_cases h0 : q.val = 0
    · rw [show q = 0 from Fin.ext h0]
      exact (concatenate_apply_piece (t := S2x8x1024) 1 _ _ (ix3 s 0 k) 0 (by show 0 < 2; decide) S2x1x1024 _ rfl rfl 0 rfl (ix3 s 0 k) (fun d hd => by
        match d with
        | ⟨0, _⟩ => rfl
        | ⟨1, _⟩ => exact absurd rfl hd
        | ⟨2, _⟩ => rfl) rfl).trans (toGate_apply A D s k)
    refine (concatenate_apply_piece (t := S2x8x1024) 1 _ _ (ix3 s q k) 1 (by show 1 < 2; decide) S2x7x1024 (val_main_v81 (F := Ideal)) rfl rfl 1 rfl
      (ix3 s (⟨q.val - 1, by omega⟩ : Fin 7) k) (fun d hd => by
        match d with
        | ⟨0, _⟩ => rfl
        | ⟨1, _⟩ => exact absurd rfl hd
        | ⟨2, _⟩ => rfl) (by show 1 + (q.val - 1) = q.val; omega)).trans (Eq.trans (b := (0 : EReal)) ?_ ?_)
    · rw [val_main_v81_apply]
      exact Ideal.ofBits_zero_f32
    · refine (Finset.sum_eq_zero fun i _ => ?_).symm
      unfold Row.toSeq
      rw [if_neg h0]
  exact funext fun y => (congrArg _ (triple (y 0) (y 1) (y 2) rfl rfl rfl)).trans (key (y 0) (y 1) (y 2))

/-! ## The run -/

variable (m : (ℓ : Loc nD τ sig) → Buf (Elt Ideal) ℓ)

/-- The reference's arguments, -/
def args (c : Dev nD) : Args where
  y := m ((c.tc : Thread nD τ).loc main_arg0)
  x := m ((c.tc : Thread nD τ).loc main_arg1)
  mod := m ((c.tc : Thread nD τ).loc main_arg2)
  w := m ((c.tc : Thread nD τ).loc main_arg3)
  g := m ((c.tc : Thread nD τ).loc main_arg4)
  b := m ((c.tc : Thread nD τ).loc main_arg5)

/-- and the gradient of the normalised rows. -/
def gradOf (c : Dev nD) : FVec Ideal ⟨3, ![2, 4096, 1024]⟩ .f32 := m ((c.tc : Thread nD τ).loc main_arg6)

/-- The reference's results, and its arguments unchanged. -/
theorem reference_run (ρ : Dev nD → PrngReg) : θ_run (defs (F := Ideal)) (onTc (τ := τ) (main (F := Ideal))) ⟨m, fun _ => 0, ρ⟩ (fun r => ∀ c : Dev nD,
      r.2.mem ((c.tc : Thread nD τ).loc main_v84) = (args m c).back ((args m c).residSum (gradOf m c)) Row.dmix
      ∧ r.2.mem ((c.tc : Thread nD τ).loc main_v85) = (args m c).back ((args m c).residSum (gradOf m c)) (fun _ dr => Row.dx dr)
      ∧ r.2.mem ((c.tc : Thread nD τ).loc main_v86) = (args m c).back ((args m c).residSum (gradOf m c)) Row.head
      ∧ r.2.mem ((c.tc : Thread nD τ).loc main_v87) = (args m c).back ((args m c).residSum (gradOf m c)) Row.tail
      ∧ r.2.mem ((c.tc : Thread nD τ).loc main_v80) = (args m c).gsum (gradOf m c)
      ∧ r.2.mem ((c.tc : Thread nD τ).loc main_v82) = (args m c).bsum ((args m c).residSum (gradOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1.trans (val_main_v84_eq m c)).trans (dmix_eq (args m c) (gradOf m c)),
      ((h c).2.1.trans (val_main_v85_eq m c)).trans (dx_eq (args m c) (gradOf m c)),
      ((h c).2.2.1.trans (val_main_v86_eq m c)).trans (head_eq (args m c) (gradOf m c)),
      ((h c).2.2.2.1.trans (val_main_v87_eq m c)).trans (tail_eq (args m c) (gradOf m c)),
      ((h c).2.2.2.2.1.trans (val_main_v80_eq m c)).trans (gsum_eq (args m c) (gradOf m c)),
      ((h c).2.2.2.2.2.1.trans (val_main_v82_eq m c)).trans (bsum_eq (args m c) (gradOf m c)),
      (h c).2.2.2.2.2.2⟩) (Cert.NormGradRefIdeal.Value.run (F := Ideal) m ρ)

end Cert.Out.BackRef

end
-- ==== Proof.Out.Finite.lean ====
/- What the backward kernel's precondition says: every element of every argument but the shift is finite, so every row is. -/
module

public import proofs.«01_k».proof.Proof.Mlp.Finite
public import proofs.«01_k».proof.Proof.Out.Grad
public import proofs.«01_k».proof.Proof.Gen.Pre_norm_finite

@[expose] public section

set_option maxRecDepth 16384

noncomputable section

namespace Cert.Out

open Idealize.ShloMosaic Idealize.ShloMosaic.ValueIdx
open Cert.Pre_norm_finite Cert.Pre_norm_finite.Gen
open Cert.Mlp

section

variable (b0 b1 b2 b3 b4 b5 : IVec S_ 1) (hb : S_.BroadcastsInDim S1 (![] : Fin 0 → Fin S1.rank)) (hc : Shape.Concatenates [S1, S1, S1, S1, S1, S1] S6 0)

/-- One of six tests. -/
theorem six_apply (q : Fin 6) (b : IVec S_ 1) (j : S_.Idx) (he : [b0, b1, b2, b3, b4, b5][q.val]? = some b) :
    concatenate S6 0 [⟨S1, broadcastInDim S1 ![] hb b0⟩, ⟨S1, broadcastInDim S1 ![] hb b1⟩, ⟨S1, broadcastInDim S1 ![] hb b2⟩,
      ⟨S1, broadcastInDim S1 ![] hb b3⟩, ⟨S1, broadcastInDim S1 ![] hb b4⟩, ⟨S1, broadcastInDim S1 ![] hb b5⟩] hc (ix1 q) = b j := by
  have cases : q.val = 0 ∨ q.val = 1 ∨ q.val = 2 ∨ q.val = 3 ∨ q.val = 4 ∨ q.val = 5 := by
    have := q.isLt
    omega
  refine (concatenate_apply_piece (t := S6) 0 _ _ (ix1 q) q.val (by show q.val < 6; exact q.isLt) S1 (broadcastInDim S1 ![] hb b) ?_ rfl q.val ?_
    (ix1 0) (fun d hd => ?_) (by show q.val + 0 = q.val; rfl)).trans (broadcastInDim_apply _ hb b _ j fun a => a.elim0)
  · obtain ⟨q, hq⟩ := q
    dsimp only at he cases
    rcases cases with rfl | rfl | rfl | rfl | rfl | rfl <;> (have := Option.some.inj he; subst this; rfl)
  · obtain ⟨q, hq⟩ := q
    dsimp only at cases
    rcases cases with rfl | rfl | rfl | rfl | rfl | rfl <;> rfl
  · match d with
    | ⟨0, _⟩ => exact absurd rfl hd

/-- All six. -/
theorem six_tests (j : S_.Idx)
    (h : concatenate S6 0 [⟨S1, broadcastInDim S1 ![] hb b0⟩, ⟨S1, broadcastInDim S1 ![] hb b1⟩, ⟨S1, broadcastInDim S1 ![] hb b2⟩,
      ⟨S1, broadcastInDim S1 ![] hb b3⟩, ⟨S1, broadcastInDim S1 ![] hb b4⟩, ⟨S1, broadcastInDim S1 ![] hb b5⟩] hc = fun _ => 1#1) :
    b0 j = 1#1 ∧ b1 j = 1#1 ∧ b2 j = 1#1 ∧ b3 j = 1#1 ∧ b4 j = 1#1 ∧ b5 j = 1#1 := by
  have key := fun (q : Fin 6) (b : IVec S_ 1) (he : [b0, b1, b2, b3, b4, b5][q.val]? = some b) =>
    (six_apply b0 b1 b2 b3 b4 b5 hb hc q b j he).symm.trans (congrFun h (ix1 q))
  exact ⟨key 0 _ rfl, key 1 _ rfl, key 2 _ rfl, key 3 _ rfl, key 4 _ rfl, key 5 _ rfl⟩

end

theorem Args.finite (A : Args) (D : FVec Ideal ⟨3, ![2, 4096, 1024]⟩ .f32)
    (h : Cert.Pre_norm_finite.fn (F := Ideal) A.y A.x A.mod A.w A.g A.b D = fun _ => 1#1) (R : Fin 8192) : (A.row R).Finite (gradRow D R) := by
  obtain ⟨e0, e1, e2, e3, e4, e5⟩ := six_tests _ _ _ _ _ _ _ Facts.concatenates_S1_S1_S1_S1_S1_S1_S6_d0 (fun d => d.elim0) h
  have hy := real_of_test _ _ _ A.y _ e0
  have hx := real_of_test _ _ _ A.x _ e1
  have hm := real_of_test _ _ _ A.mod _ e2
  have hw := real_of_test _ _ _ A.w _ e3
  have hg := real_of_test _ _ _ A.g _ e4
  have hd := real_of_test _ _ _ D _ e5
  exact ⟨fun k => hy _, fun k => hx _, fun k => hm _, fun k j => hw _, fun k => hg _, fun k => hd _⟩

end Cert.Out

end
-- ==== Proof.Conv.Lists.lean ====
/- What a block of 256 rows of `_proj_conv_fwd` stores, as lists of column blocks of its inputs, the weights it holds and
   the eight rows it keeps in front of the block for the convolution. -/

module

public import proofs.«01_k».proof.Proof.Gen.ProjConvIdeal.Frame
public import Idealize.ShloMosaic.Lib.Pipeline.ValueKit.Geometry
public import Idealize.ShloMosaic.Lib.Pipeline.ReadBack

@[expose] public section

set_option maxRecDepth 16384

noncomputable section

namespace Cert.Conv

open Idealize.ShloMosaic Idealize.ShloMosaic.TcCoe Idealize.ShloMosaic.Tactic
open Cert.ProjConvIdeal Cert.ProjConvIdeal.Gen

variable {F : FTy → Type} [FloatOps F]

/-- What a block computes with: its rows of the input, the modulation of its sequence, the taps and the bias of the
    convolution, the weights, and the eight rows in front of the block. -/
structure In (F : FTy → Type) where
  x : Vec F S256x1024 .f32
  mod : Vec F S1x6x1024 .f32
  taps : Vec F S4x2560 .f32
  bias : Vec F S1x2560 .f32
  w : Vec F S4736x1024 .bf16
  head : Vec F S8x2560 .f32

namespace In

variable (I : In F)

/-- The modulated rows. -/
abbrev u : FVec F S256x1024 .bf16 :=
  k0_pay7 (View.ld I.mod (Rect.unit ![0, 0, 0] S1x6x1024.size inb_S1x6x1024_S1x6x1024_0_0_0))
    (View.ld I.x (Rect.unit ![0, 0] S256x1024.size inb_S256x1024_S256x1024_0_0))

/-- The projection's 512 columns from `1536 + o`, as the block keeps them for the convolution, -/
abbrev kept (o p : ℕ) (inb : ∀ d, (![8, o] : Fin 2 → ℕ) d + S256x512.size d ≤ S264x2560.size d)
    (inb' : ∀ d, (![p, 0] : Fin 2 → ℕ) d + S512x1024.size d ≤ S4736x1024.size d) : View.Piece (Elt F) S264x2560 .f32 :=
  ⟨Rect.unit ![8, o] S256x512.size inb, k0_pay39 I.u (View.ld I.w (Rect.unit ![p, 0] S512x1024.size inb'))⟩

/-- and as it stores them. -/
abbrev pre (o p : ℕ) (inb : ∀ d, (![0, o] : Fin 2 → ℕ) d + S256x512.size d ≤ S256x2560.size d)
    (inb' : ∀ d, (![p, 0] : Fin 2 → ℕ) d + S512x1024.size d ≤ S4736x1024.size d) : View.Piece (Elt F) S256x2560 .f32 :=
  ⟨Rect.unit ![0, o] S256x512.size inb, k0_pay38 I.u (View.ld I.w (Rect.unit ![p, 0] S512x1024.size inb'))⟩

/-- The rows kept once the columns of `k` blocks are there. -/
def rows0 : List (View.Piece (Elt F) S264x2560 .f32) := [⟨Rect.unit ![0, 0] S8x2560.size inb_S264x2560_S8x2560_0_0, I.head⟩]
def rows1 : List (View.Piece (Elt F) S264x2560 .f32) :=
  I.kept 0 1536 inb_S264x2560_S256x512_8_0 inb_S4736x1024_S512x1024_1536_0 :: I.rows0
def rows2 : List (View.Piece (Elt F) S264x2560 .f32) :=
  I.kept 512 2048 inb_S264x2560_S256x512_8_512 inb_S4736x1024_S512x1024_2048_0 :: I.rows1
def rows3 : List (View.Piece (Elt F) S264x2560 .f32) :=
  I.kept 1024 2560 inb_S264x2560_S256x512_8_1024 inb_S4736x1024_S512x1024_2560_0 :: I.rows2
def rows4 : List (View.Piece (Elt F) S264x2560 .f32) :=
  I.kept 1536 3072 inb_S264x2560_S256x512_8_1536 inb_S4736x1024_S512x1024_3072_0 :: I.rows3
def rows5 : List (View.Piece (Elt F) S264x2560 .f32) :=
  I.kept 2048 3584 inb_S264x2560_S256x512_8_2048 inb_S4736x1024_S512x1024_3584_0 :: I.rows4

/-- 256 of the rows kept, from row `q`, in 512 columns. -/
abbrev shift (L : List (View.Piece (Elt F) S264x2560 .f32)) (q o : ℕ)
    (inb : ∀ d, (![q, o] : Fin 2 → ℕ) d + S256x512.size d ≤ S264x2560.size d) : Vec F S256x512 .f32 :=
  fun j => View.canon L ((Rect.unit (s := S264x2560) ![q, o] S256x512.size inb).toLoadRect.idx j)

variable (L : List (View.Piece (Elt F) S264x2560 .f32)) (o : ℕ)
  (i8 : ∀ d, (![8, o] : Fin 2 → ℕ) d + S256x512.size d ≤ S264x2560.size d)
  (i7 : ∀ d, (![7, o] : Fin 2 → ℕ) d + S256x512.size d ≤ S264x2560.size d)
  (i6 : ∀ d, (![6, o] : Fin 2 → ℕ) d + S256x512.size d ≤ S264x2560.size d)
  (i5 : ∀ d, (![5, o] : Fin 2 → ℕ) d + S256x512.size d ≤ S264x2560.size d)
  (it : ∀ d, (![0, o] : Fin 2 → ℕ) d + S4x512.size d ≤ S4x2560.size d)
  (ib : ∀ d, (![0, o] : Fin 2 → ℕ) d + S1x512.size d ≤ S1x2560.size d)
  (io : ∀ d, (![0, o] : Fin 2 → ℕ) d + S256x512.size d ≤ S256x2560.size d)

/-- The taps of 512 columns. -/
abbrev tap : Vec F S4x512 .f32 := View.ld I.taps (Rect.unit ![0, o] S4x512.size it)

/-- 512 columns of the activated convolution, -/
abbrev xbc : View.Piece (Elt F) S256x2560 .f32 :=
  ⟨Rect.unit ![0, o] S256x512.size io, k0_pay3 (I.tap o it) (shift L 8 o i8) (shift L 7 o i7) (shift L 6 o i6) (shift L 5 o i5)
    (k0_pay40 (I.tap o it)) (View.ld I.bias (Rect.unit ![0, o] S1x512.size ib))⟩

/-- and of the activation's derivative. -/
abbrev dsilu : View.Piece (Elt F) S256x2560 .f32 :=
  ⟨Rect.unit ![0, o] S256x512.size io, k0_pay4 (I.tap o it) (shift L 8 o i8) (shift L 7 o i7) (shift L 6 o i6) (shift L 5 o i5)
    (k0_pay40 (I.tap o it)) (View.ld I.bias (Rect.unit ![0, o] S1x512.size ib))⟩

end In

variable (I : In F)

def zs : List (View.Piece (Elt F) S256x1536 .f32) :=
  [⟨Rect.unit ![0, 0] S256x1536.size inb_S256x1536_S256x1536_0_0,
    k0_pay8 (View.ld I.mod (Rect.unit ![0, 0, 0] S1x6x1024.size inb_S1x6x1024_S1x6x1024_0_0_0))
      (View.ld I.x (Rect.unit ![0, 0] S256x1024.size inb_S256x1024_S256x1024_0_0))
      (View.ld I.w (Rect.unit ![0, 0] S1536x1024.size inb_S4736x1024_S1536x1024_0_0))⟩]

def dts : List (View.Piece (Elt F) S256x128 .f32) :=
  [⟨Rect.unit ![0, 0] S256x128.size inb_S256x128_S256x128_0_0,
    k0_pay9 I.u (View.ld I.w (Rect.unit ![4096, 0] S128x1024.size inb_S4736x1024_S128x1024_4096_0))⟩]

def us : List (View.Piece (Elt F) S256x512 .f32) :=
  [⟨Rect.unit ![0, 0] S256x512.size inb_S256x512_S256x512_0_0,
    k0_pay10 I.u (View.ld I.w (Rect.unit ![4224, 0] S512x1024.size inb_S4736x1024_S512x1024_4224_0))⟩]

def pres : List (View.Piece (Elt F) S256x2560 .f32) :=
  [I.pre 2048 3584 inb_S256x2560_S256x512_0_2048 inb_S4736x1024_S512x1024_3584_0,
    I.pre 1536 3072 inb_S256x2560_S256x512_0_1536 inb_S4736x1024_S512x1024_3072_0,
    I.pre 1024 2560 inb_S256x2560_S256x512_0_1024 inb_S4736x1024_S512x1024_2560_0,
    I.pre 512 2048 inb_S256x2560_S256x512_0_512 inb_S4736x1024_S512x1024_2048_0,
    I.pre 0 1536 inb_S256x2560_S256x512_0_0 inb_S4736x1024_S512x1024_1536_0]

def xbcs : List (View.Piece (Elt F) S256x2560 .f32) :=
  [I.xbc I.rows5 2048 (by decide) (by decide) (by decide) (by decide) (by decide) (by decide) (by decide),
    I.xbc I.rows4 1536 (by decide) (by decide) (by decide) (by decide) (by decide) (by decide) (by decide),
    I.xbc I.rows3 1024 (by decide) (by decide) (by decide) (by decide) (by decide) (by decide) (by decide),
    I.xbc I.rows2 512 (by decide) (by decide) (by decide) (by decide) (by decide) (by decide) (by decide),
    I.xbc I.rows1 0 (by decide) (by decide) (by decide) (by decide) (by decide) (by decide) (by decide)]

def dsilus : List (View.Piece (Elt F) S256x2560 .f32) :=
  [I.dsilu I.rows5 2048 (by decide) (by decide) (by decide) (by decide) (by decide) (by decide) (by decide),
    I.dsilu I.rows4 1536 (by decide) (by decide) (by decide) (by decide) (by decide) (by decide) (by decide),
    I.dsilu I.rows3 1024 (by decide) (by decide) (by decide) (by decide) (by decide) (by decide) (by decide),
    I.dsilu I.rows2 512 (by decide) (by decide) (by decide) (by decide) (by decide) (by decide) (by decide),
    I.dsilu I.rows1 0 (by decide) (by decide) (by decide) (by decide) (by decide) (by decide) (by decide)]

/-- The lists a point leaves are those of its block. -/
abbrev Stores (R1 : List (View.Piece (Elt F) S256x1536 .f32)) (R2 R3 R4 : List (View.Piece (Elt F) S256x2560 .f32))
    (R5 : List (View.Piece (Elt F) S256x128 .f32)) (R6 : List (View.Piece (Elt F) S256x512 .f32))
    (R8 : List (View.Piece (Elt F) S264x2560 .f32)) : Prop :=
  R1 = zs I ∧ R2 = pres I ∧ R3 = xbcs I ∧ R4 = dsilus I ∧ R5 = dts I ∧ R6 = us I ∧ R8 = I.rows5

section

variable {κ : Kind} {sp : Space}

/-- What a copy of the whole weights leaves, -/
theorem canon_weights (X : Vec F S4736x1024 .bf16) : View.canon [⟨Rect.whole S4736x1024, X⟩] = X := funext fun y =>
  View.canon_apply_of_pieces X [⟨Rect.whole S4736x1024, X⟩]
    (View.PiecesOf.mem (L := [⟨Rect.whole S4736x1024, X⟩]) ⟨fun x => congrArg X (Rect.emb_whole_apply _ x).symm, trivial⟩) y
    ⟨_, List.mem_singleton_self _, by
      rw [← Rect.map_emb_univ]
      exact Finset.mem_map.mpr ⟨y, Finset.mem_univ _, Rect.emb_whole_apply S4736x1024 y⟩⟩

/-- and a load of it. -/
theorem readCov_weights (v : View sig κ sp S4736x1024 .bf16) (X : Vec F S4736x1024 .bf16) (r : Rect S4736x1024) :
    v.readCov [⟨Rect.whole S4736x1024, X⟩] r.toLoadRect = View.ld X r := by
  rw [View.readCov_eq_canon', canon_weights]

end

variable (c : Dev nD) (i : grid0.Coords) (arg1 : Memref sig .tc .vmem S256x1024 .f32) (harg1 : arg1.IsWhole) (arg2 : Memref sig .tc .vmem
  S1x6x1024 .f32) (harg2 : arg2.IsWhole) (arg4 : Memref sig .tc .vmem S4x2560 .f32) (harg4 : arg4.IsWhole) (arg5 : Memref sig .tc
  .vmem S1x2560 .f32) (harg5 : arg5.IsWhole) (arg6 : Memref sig .tc .vmem S256x1536 .f32) (harg6 : arg6.IsWhole) (arg7 : Memref sig
  .tc .vmem S256x2560 .f32) (harg7 : arg7.IsWhole) (arg8 : Memref sig .tc .vmem S256x2560 .f32) (harg8 : arg8.IsWhole) (arg9 :
  Memref sig .tc .vmem S256x2560 .f32) (harg9 : arg9.IsWhole) (arg10 : Memref sig .tc .vmem S256x128 .f32) (harg10 : arg10.IsWhole)
  (arg11 : Memref sig .tc .vmem S256x512 .f32) (harg11 : arg11.IsWhole) (arg12 : Memref sig .tc .vmem S4736x1024 .bf16) (harg12 :
  arg12.IsWhole) (arg13 : Memref sig .tc .vmem S264x2560 .f32) (harg13 : arg13.IsWhole)
  (x0 : Vec F S256x1024 .f32) (x1 : Vec F S1x6x1024 .f32) (x2 : Vec F S4x2560 .f32) (x3 : Vec F S1x2560 .f32) (xs0 : Vec F S4736x1024 .bf16)
  (xs1 : Vec F S264x2560 .f32) (fh0 : HbBuf0 (F := F) c hbM0_0)

/-- The first block copies the weights and starts from zero rows; -/
theorem stores_A (hc0 : cond0_0 i) (hc1 : cond0_1 i) (hc2 : ¬cond0_2 i) :
    ∀ R, R = kernelRun0_A c i arg1 harg1 arg2 harg2 arg4 harg4 arg5 harg5 arg6 harg6 arg7 harg7 arg8 harg8 arg9 harg9 arg10 harg10 arg11 harg11
      arg12 harg12 arg13 harg13 hc0 hc1 hc2 x0 x1 x2 x3 fh0 →
      Stores (⟨x0, x1, x2, x3, fh0, k0_pay5⟩ : In F) R.1 R.2.1 R.2.2.1 R.2.2.2.1 R.2.2.2.2.1 R.2.2.2.2.2.1
        R.2.2.2.2.2.2.2.1 ∧ R.2.2.2.2.2.2.1 = [⟨Rect.whole S4736x1024, fh0⟩] := by
  rintro _ rfl
  unfold kernelRun0_A; dsimp only
  try sl_unfold_words
  simp only [View.readAt_eq_ld, harg1.read_unread, harg2.read_unread, harg4.read_unread, harg5.read_unread, harg12.read_unread,
    harg13.read_unread]
  simp only [readCov_weights]
  simp only [View.readCov_eq_canon']
  exact ⟨⟨rfl, rfl, rfl, rfl, rfl, rfl, rfl⟩, rfl⟩

/-- the first block of a sequence starts from zero rows; -/
theorem stores_C (hc0 : ¬cond0_0 i) (hc1 : cond0_1 i) (hc2 : ¬cond0_2 i) :
    ∀ R, R = kernelRun0_C c i arg1 harg1 arg2 harg2 arg4 harg4 arg5 harg5 arg6 harg6 arg7 harg7 arg8 harg8 arg9 harg9 arg10 harg10 arg11 harg11
      arg12 harg12 arg13 harg13 hc0 hc1 hc2 x0 x1 x2 x3 xs0 fh0 →
      Stores (⟨x0, x1, x2, x3, xs0, k0_pay5⟩ : In F) R.1 R.2.1 R.2.2.1 R.2.2.2.1 R.2.2.2.2.1 R.2.2.2.2.2.1
        R.2.2.2.2.2.2.2.1 := by
  rintro _ rfl
  unfold kernelRun0_C; dsimp only
  try sl_unfold_words
  simp only [View.readAt_eq_ld, harg1.read_unread, harg2.read_unread, harg4.read_unread, harg5.read_unread, harg12.read_unread,
    harg13.read_unread]
  simp only [View.readCov_eq_canon']
  exact ⟨rfl, rfl, rfl, rfl, rfl, rfl, rfl⟩

/-- any other from the last rows of the block before it. -/
theorem stores_B (hc0 : ¬cond0_0 i) (hc1 : ¬cond0_1 i) (hc2 : cond0_2 i) :
    ∀ R, R = kernelRun0_B c i arg1 harg1 arg2 harg2 arg4 harg4 arg5 harg5 arg6 harg6 arg7 harg7 arg8 harg8 arg9 harg9 arg10 harg10 arg11 harg11
      arg12 harg12 arg13 harg13 hc0 hc1 hc2 x0 x1 x2 x3 xs0 xs1 fh0 →
      Stores (⟨x0, x1, x2, x3, xs0, k0_pay6 (View.ld xs1 (Rect.unit ![256, 0] S8x2560.size inb_S264x2560_S8x2560_256_0))⟩ : In F) R.1 R.2.1 R.2.2.1 R.2.2.2.1 R.2.2.2.2.1 R.2.2.2.2.2.1
        R.2.2.2.2.2.2.2.1 := by
  rintro _ rfl
  unfold kernelRun0_B; dsimp only
  try sl_unfold_words
  simp only [View.readAt_eq_ld, harg1.read_unread, harg2.read_unread, harg4.read_unread, harg5.read_unread, harg12.read_unread,
    harg13.read_unread]
  simp only [View.readCov_eq_canon']
  exact ⟨rfl, rfl, rfl, rfl, rfl, rfl, rfl⟩

end Cert.Conv

end
-- ==== Proof.Conv.Row.lean ====
/- The projection and its causal convolution, row by row: the arguments, an entry of the projection with the weights padded
   as the kernel takes them, the convolution, the activation and its derivative — as the kernel writes them and as the
   reference does —, and that the two are the same extended reals. -/
module

public import proofs.«01_k».proof.Proof.Mlp.Row
public import proofs.«01_k».proof.Proof.Mlp.Place
public import Idealize.ShloMosaic.Lib.IdealHost

@[expose] public section

set_option maxRecDepth 16384

noncomputable section

namespace Cert.Conv

open Idealize.ShloMosaic Idealize.ShloMosaic.ValueIdx
open Cert.Mlp
open scoped BigOperators

/-- The sigmoid as the kernel has it, -/
def sgm (x : EReal) : EReal := half * (Ideal.tanh (half * x) + one)
/-- the activation, -/
def silu (x : EReal) : EReal := x * sgm x
/-- and its derivative. -/
def slope (x : EReal) : EReal := sgm x * (one + x * (one - sgm x))

/-- The sigmoid as the reference has it. -/
def sigR (x : EReal) : EReal := Ideal.div one (one + Ideal.exp (-x))
/-- Its derivative of the activation. -/
def slopeR (x : EReal) : EReal := one * sigR x + x * one * (sigR x * (one - sigR x))

theorem one_one : one = 1 := Ideal.ofBits_one_f32

theorem half_half : half = ((1 / 2 : ℝ) : EReal) := by simp [Ideal.ofBits, Ideal.ieee, -EReal.coe_mul]; try norm_num

theorem sgm_eq (x : EReal) : sgm x = Ideal.logistic x := by
  unfold sgm
  rw [one_one, half_half]
  induction x using EReal.rec with
  | bot =>
    rw [EReal.coe_mul_bot_of_pos (by norm_num), Ideal.tanh_bot, Ideal.logistic_bot, show (-1 : EReal) + 1 = 0 from by
      rw [← EReal.coe_one, ← EReal.coe_neg, ← EReal.coe_add]; norm_num, mul_zero]
  | top =>
    rw [EReal.coe_mul_top_of_pos (by norm_num), Ideal.tanh_top, Ideal.logistic_top, ← EReal.coe_one, ← EReal.coe_add, ← EReal.coe_mul]
    norm_num
  | coe r =>
    rw [← EReal.coe_mul, Ideal.tanh_coe, Ideal.logistic_coe, ← EReal.coe_one, ← EReal.coe_add, ← EReal.coe_mul]
    refine congrArg _ ?_
    rw [Real.tanh_eq_sinh_div_cosh, Real.sinh_eq, Real.cosh_eq, show -r = -(1 / 2 * r) + -(1 / 2 * r) from by ring, Real.exp_add, Real.exp_neg]
    have h : 0 < Real.exp (1 / 2 * r) := Real.exp_pos _
    generalize Real.exp (1 / 2 * r) = a at h
    have h2 : a ≠ 0 := h.ne'
    have h3 : a ^ 2 + 1 ≠ 0 := by positivity
    field_simp
    ring

theorem sigR_eq (x : EReal) : sigR x = Ideal.logistic x := by
  unfold sigR Ideal.logistic
  rw [one_one]

theorem slope_eq (x : EReal) : slopeR x = slope x := by
  unfold slope slopeR
  rw [sgm_eq, sigR_eq, one_one]
  induction x using EReal.rec with
  | bot => rw [Ideal.logistic_bot]; simp
  | top =>
    rw [Ideal.logistic_top, show (1 : EReal) - 1 = 0 from by rw [← EReal.coe_one, ← EReal.coe_sub]; norm_num]
    simp
  | coe r =>
    rw [Ideal.logistic_coe, ← EReal.coe_one]
    simp only [← EReal.coe_mul, ← EReal.coe_add, ← EReal.coe_sub]
    refine congrArg _ ?_
    ring

/-! ## The arguments and the results -/

structure Args where
  x : FVec Ideal ⟨3, ![2, 4096, 1024]⟩ .f32
  mod : FVec Ideal ⟨2, ![2, 6144]⟩ .f32
  w : FVec Ideal ⟨2, ![1024, 4632]⟩ .f32
  taps : FVec Ideal ⟨2, ![4, 2560]⟩ .f32
  bias : FVec Ideal ⟨2, ![1, 2560]⟩ .f32

namespace Args

variable (A : Args) (R : Fin 8192)

/-- A modulated entry. -/
def u (k : Fin 1024) : EReal :=
  A.x (ix3 (seq R) (pos R) k) * (one + A.mod (ix2 (seq R) ⟨1024 + k.val, by omega⟩)) + A.mod (ix2 (seq R) ⟨k.val, by omega⟩)

/-- A column of the weights. -/
def col (r : ℕ) (hr : r < 4632) : EReal := ∑ k, A.u R k * A.w (ix2 k ⟨r, hr⟩)

/-- The weights with 104 columns of zeros after the first 4120. -/
def padded (k : Fin 1024) (r : Fin 4736) : EReal :=
  if h : r.val < 4120 then A.w (ix2 k ⟨r.val, by omega⟩) else if h' : r.val < 4224 then 0 else A.w (ix2 k ⟨r.val - 104, by omega⟩)

/-- An entry of the projection by them. -/
def proj (r : Fin 4736) : EReal := ∑ k, A.u R k * A.padded k r

theorem proj_first (r : ℕ) (h : r < 4120) : A.proj R ⟨r, by omega⟩ = A.col R r (by omega) :=
  Finset.sum_congr rfl fun k _ => congrArg (A.u R k * ·) (dif_pos h)

theorem proj_pad (r : ℕ) (h : 4120 ≤ r) (h' : r < 4224) : A.proj R ⟨r, by omega⟩ = 0 :=
  Finset.sum_eq_zero fun k _ => (congrArg (A.u R k * ·) ((dif_neg (show ¬ r < 4120 by omega)).trans (dif_pos h'))).trans (mul_zero _)

theorem proj_last (r : ℕ) (h : r < 4632) (h' : 4120 ≤ r) : A.proj R ⟨r + 104, by omega⟩ = A.col R r h :=
  Finset.sum_congr rfl fun k _ => congrArg (A.u R k * ·) ((dif_neg (show ¬ r + 104 < 4120 by omega)).trans
    ((dif_neg (show ¬ r + 104 < 4224 by omega)).trans (congrArg (fun q => A.w (ix2 k q)) (Fin.ext (by show r + 104 - 104 = r; omega)))))

/-- The entry the convolution reads `j` rows back: zero before the start of the sequence. -/
def back (j : ℕ) (k : Fin 2560) : EReal :=
  if (pos R).val < j then 0 else A.col ⟨R.val - j, by omega⟩ (1536 + k.val) (by omega)

/-- The convolution as the kernel adds it up, -/
def conv (k : Fin 2560) : EReal :=
  A.taps (ix2 3 k) * A.back R 0 k + A.taps (ix2 2 k) * A.back R 1 k + A.taps (ix2 1 k) * A.back R 2 k + A.taps (ix2 0 k) * A.back R 3 k
    + A.bias (ix2 0 k)

/-- and as the reference does, from zero. -/
def convR (z : EReal) (k : Fin 2560) : EReal :=
  z + A.taps (ix2 0 k) * A.back R 3 k + A.taps (ix2 1 k) * A.back R 2 k + A.taps (ix2 2 k) * A.back R 1 k + A.taps (ix2 3 k) * A.back R 0 k
    + A.bias (ix2 0 k)

theorem convR_eq (z : EReal) (hz : z = 0) (k : Fin 2560) : A.convR R z k = A.conv R k := by
  unfold convR conv
  rw [hz, zero_add]
  refine congrArg (· + A.bias (ix2 0 k)) ?_
  generalize A.taps (ix2 0 k) * A.back R 3 k = a
  generalize A.taps (ix2 1 k) * A.back R 2 k = b
  generalize A.taps (ix2 2 k) * A.back R 1 k = c
  generalize A.taps (ix2 3 k) * A.back R 0 k = d
  rw [add_comm d c, add_right_comm c d b, add_comm c b, add_right_comm (b + c) d a, add_comm (b + c) a, add_assoc a b c]

/-! The six arrays. -/

def z : Shape.Idx ⟨2, ![8192, 1536]⟩ → EReal := fun y => A.col (y 0) (y 1).val (by have : (y 1).val < 1536 := (y 1).isLt; omega)
def pre : Shape.Idx ⟨2, ![8192, 2560]⟩ → EReal := fun y => A.col (y 0) (1536 + (y 1).val) (by have : (y 1).val < 2560 := (y 1).isLt; omega)
def xbc : Shape.Idx ⟨2, ![8192, 2560]⟩ → EReal := fun y => silu (A.conv (y 0) (y 1))
def dsilu : Shape.Idx ⟨2, ![8192, 2560]⟩ → EReal := fun y => slope (A.conv (y 0) (y 1))
def dt : Shape.Idx ⟨2, ![8192, 128]⟩ → EReal := fun y =>
  if h : (y 1).val < 24 then A.col (y 0) (4096 + (y 1).val) (by omega) else 0
def u5 : Shape.Idx ⟨2, ![8192, 512]⟩ → EReal := fun y => A.col (y 0) (4120 + (y 1).val) (by have : (y 1).val < 512 := (y 1).isLt; omega)

end Args

end Cert.Conv

end
-- ==== Proof.Conv.Block.lean ====
/- What the stores of a block of `_proj_conv_fwd` leave at an entry, over the extended reals: sums of products, the causal
   convolution's four taps, the activation and its derivative. -/
module

public import proofs.«01_k».proof.Proof.Conv.Lists
public import proofs.«01_k».proof.Proof.Mlp.Layout
public import proofs.«01_k».proof.Proof.Conv.Row

@[expose] public section

set_option maxRecDepth 16384

noncomputable section

namespace Cert.Conv

open Idealize.ShloMosaic Idealize.ShloMosaic.ValueIdx Idealize.ShloMosaic.TcCoe
open Cert.ProjConvIdeal Cert.ProjConvIdeal.Gen Cert.Mlp
open scoped BigOperators

variable (I : In Ideal)

/-- A modulated entry. -/
def In.uAt (i : Fin 256) (k : Fin 1024) : EReal := I.x (ix2 i k) * (one + I.mod (ix3 0 1 k)) + I.mod (ix3 0 0 k)

/-- An entry of the projection. -/
def In.proj (i : Fin 256) (r : Fin 4736) : EReal := ∑ k, I.uAt i k * I.w (ix2 r k)

/-- The rows the convolution reads: eight in front of the block, then the block's. -/
def In.win (q : Fin 264) (k : Fin 2560) : EReal :=
  if h : q.val < 8 then I.head (ix2 ⟨q.val, h⟩ k) else I.proj ⟨q.val - 8, by omega⟩ ⟨1536 + k.val, by omega⟩

/-- The convolution. -/
def In.conv (i : Fin 256) (k : Fin 2560) : EReal :=
  I.taps (ix2 3 k) * I.win ⟨8 + i.val, by omega⟩ k + I.taps (ix2 2 k) * I.win ⟨7 + i.val, by omega⟩ k
    + I.taps (ix2 1 k) * I.win ⟨6 + i.val, by omega⟩ k + I.taps (ix2 0 k) * I.win ⟨5 + i.val, by omega⟩ k + I.bias (ix2 0 k)

theorem u_apply (i : Fin 256) (k : Fin 1024) : I.u (ix2 i k) = I.uAt i k := by
  show k0_pay7 _ _ (ix2 i k) = _
  rw [View.ld_unit_zero (S := S1x6x1024) zero3, View.ld_unit_zero (S := S256x1024) zero2]
  unfold k0_pay7
  exact congrArg₂ (fun a b : EReal => a + b)
    (congrArg₂ (fun a b : EReal => a * b) (congrFun (shapeCast_self I.x _) (ix2 i k))
      ((one_add i _ _ (by omega) k).trans (congrArg (one + ·) (mod_row I.mod _ 1 1 rfl _ k))))
    ((row_bcast _ _ (by omega) i k).trans (mod_row I.mod _ 0 0 rfl _ k))

/-- A product with a block of the weights' rows. -/
theorem product {n : ℕ} (p : ℕ) (hp : p + n ≤ 4736)
    (inb : ∀ d, (![p, 0] : Fin 2 → ℕ) d + (![n, 1024] : Fin 2 → ℕ) d ≤ S4736x1024.size d) (i : Fin 256) (j : Fin n) :
    FloatOps.matmul (φ₁ := .bf16) (φ₂ := .bf16) (DotDims.transposedRhs 256 1024 n) none I.u
        (View.ld I.w (Rect.unit (s := S4736x1024) ![p, 0] ![n, 1024] inb) : FVec Ideal ⟨2, ![n, 1024]⟩ .bf16)
        (constant ⟨2, ![256, n]⟩ .f32 0x00000000#32) (ix2 i j)
      = I.proj i ⟨p + j.val, by omega⟩ := by
  refine (Ideal.matmul_transposedRhs_apply (M := 256) (K := 1024) (N := n) none _ _ _ i j).trans ?_
  rw [zero_acc, zero_add]
  refine Finset.sum_congr rfl fun k _ => congrArg₂ (fun a b : EReal => a * b) (u_apply I i k) (congrArg I.w (funext fun d => Fin.ext ?_))
  match d with
  | ⟨0, _⟩ => show p + 1 * j.val = p + j.val; omega
  | ⟨1, _⟩ => show 0 + 1 * k.val = k.val; omega

/-! ## The projection's stores -/

def In.zOf : Vec Ideal S256x1536 .f32 := fun y => I.proj (y 0) ⟨(y 1).val, by have : (y 1).val < 1536 := (y 1).isLt; omega⟩
def In.preOf : Vec Ideal S256x2560 .f32 := fun y => I.proj (y 0) ⟨1536 + (y 1).val, by have : (y 1).val < 2560 := (y 1).isLt; omega⟩
def In.dtOf : Vec Ideal S256x128 .f32 := fun y => I.proj (y 0) ⟨4096 + (y 1).val, by have : (y 1).val < 128 := (y 1).isLt; omega⟩
def In.u5Of : Vec Ideal S256x512 .f32 := fun y => I.proj (y 0) ⟨4224 + (y 1).val, by have : (y 1).val < 512 := (y 1).isLt; omega⟩

theorem zs_eq : View.canon (zs I) = I.zOf := by
  unfold zs
  rw [View.canon_cons_unit_zero zero2]
  exact ext_rows fun i j => (product I 0 (by omega) _ i j).trans (congrArg (I.proj i) (Fin.ext (Nat.zero_add _)))

theorem dts_eq : View.canon (dts I) = I.dtOf := by
  unfold dts
  rw [View.canon_cons_unit_zero zero2]
  exact ext_rows fun i j => product I 4096 (by omega) _ i j

theorem us_eq : View.canon (us I) = I.u5Of := by
  unfold us
  rw [View.canon_cons_unit_zero zero2]
  exact ext_rows fun i j => product I 4224 (by omega) _ i j

/-- A block of columns stored is that block of the projection. -/
theorem pre_piece (o p : ℕ) (hp : p = 1536 + o) (ho : o + 512 ≤ 2560) (inb inb') :
    ∀ x, (I.pre o p inb inb').2 x = I.preOf ((I.pre o p inb inb').1.emb x) := fun x => by
  subst hp
  have ex : x = ix2 (x 0) (x 1) := pair _ _ rfl rfl
  have hx : (x 1).val < 512 := (x 1).isLt
  refine (congrArg (I.pre o (1536 + o) inb inb').2 ex).trans ((product I (1536 + o) (by omega) inb' (x 0) (x 1)).trans ?_)
  refine congrArg₂ I.proj (Fin.ext ?_) (Fin.ext ?_)
  · show (x 0).val = 0 + 1 * (x 0).val; omega
  · show 1536 + o + (x 1).val = 1536 + (o + 1 * (x 1).val); omega

theorem pres_eq : View.canon (pres I) = I.preOf := by
  have h : View.PiecesOf I.preOf (pres I) := ⟨pre_piece I 2048 3584 rfl (by omega) _ _, pre_piece I 1536 3072 rfl (by omega) _ _,
    pre_piece I 1024 2560 rfl (by omega) _ _, pre_piece I 512 2048 rfl (by omega) _ _, pre_piece I 0 1536 rfl (by omega) _ _, trivial⟩
  exact funext fun y => View.canon_apply_of_pieces _ _ h.mem y (View.cover_of_tiledL _ ![256, 512] rfl y)

/-! ## The rows the convolution reads -/

def In.winOf : Vec Ideal S264x2560 .f32 := fun y => I.win (y 0) (y 1)

theorem kept_piece (o p : ℕ) (hp : p = 1536 + o) (ho : o + 512 ≤ 2560) (inb inb') :
    ∀ x, (I.kept o p inb inb').2 x = I.winOf ((I.kept o p inb inb').1.emb x) := fun x => by
  subst hp
  have ex : x = ix2 (x 0) (x 1) := pair _ _ rfl rfl
  have hx : (x 1).val < 512 := (x 1).isLt
  refine (congrArg (I.kept o (1536 + o) inb inb').2 ex).trans ?_
  refine ((congrFun (shapeCast_self _ _) (ix2 (x 0) (x 1))).trans (product I (1536 + o) (by omega) inb' (x 0) (x 1))).trans ?_
  unfold In.winOf In.win
  rw [dif_neg (by show ¬ 8 + 1 * (x 0).val < 8; omega)]
  refine congrArg₂ I.proj (Fin.ext ?_) (Fin.ext ?_)
  · show (x 0).val = 8 + 1 * (x 0).val - 8; omega
  · show 1536 + o + (x 1).val = 1536 + (o + 1 * (x 1).val); omega

/-- The piece of the eight rows in front. -/
abbrev In.front : View.Piece (Elt Ideal) S264x2560 .f32 := ⟨Rect.unit ![0, 0] S8x2560.size inb_S264x2560_S8x2560_0_0, I.head⟩

theorem front_piece : ∀ x, I.front.2 x = I.winOf (I.front.1.emb x) := fun x => by
  have hx : (x 0).val < 8 := (x 0).isLt
  have ex : x = ix2 (x 0) (x 1) := pair _ _ rfl rfl
  unfold In.winOf In.win
  rw [dif_pos (by show 0 + 1 * (x 0).val < 8; omega)]
  refine (congrArg I.head ex).trans (congrArg I.head ?_)
  funext d
  refine Fin.ext ?_
  match d with
  | ⟨0, _⟩ => show (x 0).val = 0 + 1 * (x 0).val; omega
  | ⟨1, _⟩ => show (x 1).val = 0 + 1 * (x 1).val; omega

theorem rows0_of : View.PiecesOf I.winOf I.rows0 := ⟨front_piece I, trivial⟩
theorem rows1_of : View.PiecesOf I.winOf I.rows1 := ⟨kept_piece I 0 1536 rfl (by omega) _ _, rows0_of I⟩
theorem rows2_of : View.PiecesOf I.winOf I.rows2 := ⟨kept_piece I 512 2048 rfl (by omega) _ _, rows1_of I⟩
theorem rows3_of : View.PiecesOf I.winOf I.rows3 := ⟨kept_piece I 1024 2560 rfl (by omega) _ _, rows2_of I⟩
theorem rows4_of : View.PiecesOf I.winOf I.rows4 := ⟨kept_piece I 1536 3072 rfl (by omega) _ _, rows3_of I⟩
theorem rows5_of : View.PiecesOf I.winOf I.rows5 := ⟨kept_piece I 2048 3584 rfl (by omega) _ _, rows4_of I⟩

theorem rows5_eq : View.canon I.rows5 = I.winOf :=
  funext fun y => View.canon_apply_of_pieces _ _ (rows5_of I).mem y (View.cover_of_tiledBy I.rows5 ![8, 512] (by sl_kernel_rfl) y)

/-- Rows read from row `q`, where the block's columns are there. -/
theorem shift_apply (L : List (View.Piece (Elt Ideal) S264x2560 .f32)) (hL : View.PiecesOf I.winOf L) (o p : ℕ) (ho : o + 512 ≤ 2560) (inb inb')
    (hk : I.kept o p inb inb' ∈ L) (h0 : I.front ∈ L) (q : ℕ) (hq : q ≤ 8) (inb'') (i : Fin 256) (j : Fin 512) :
    In.shift L q o inb'' (ix2 i j) = I.win ⟨q + i.val, by omega⟩ ⟨o + j.val, by omega⟩ := by
  have hi : i.val < 256 := i.isLt
  have hj : j.val < 512 := j.isLt
  refine (View.canon_apply_of_pieces I.winOf L hL.mem _ ?_).trans (congrArg₂ I.win (Fin.ext ?_) (Fin.ext ?_))
  · by_cases h : q + i.val < 8
    · refine ⟨I.front, h0, (Rect.mem_set_unit (s := S264x2560) (inb := inb_S264x2560_S8x2560_0_0)).mpr fun a => ?_⟩
      match a with
      | ⟨0, _⟩ => show 0 ≤ q + 1 * i.val ∧ q + 1 * i.val < 0 + 8; omega
      | ⟨1, _⟩ => show 0 ≤ o + 1 * j.val ∧ o + 1 * j.val < 0 + 2560; omega
    · refine ⟨I.kept o p inb inb', hk, (Rect.mem_set_unit (s := S264x2560) (inb := inb)).mpr fun a => ?_⟩
      match a with
      | ⟨0, _⟩ => show 8 ≤ q + 1 * i.val ∧ q + 1 * i.val < 8 + 256; omega
      | ⟨1, _⟩ => show o ≤ o + 1 * j.val ∧ o + 1 * j.val < o + 512; omega
  · show q + 1 * i.val = q + i.val; omega
  · show o + 1 * j.val = o + j.val; omega

/-! ## The convolution's stores -/

/-- A tap laid over the rows. -/
theorem tap_apply (o : ℕ) (ho : o + 512 ≤ 2560) (it) (q : ℕ) (p : Fin 4) (hp : p.val = q) (h : S4x512.Slices ![q, 0] S1x512) (hb) (i : Fin 256)
    (j : Fin 512) :
    broadcastTo S256x512 (extractStridedSlice S1x512 ![q, 0] (I.tap o it) h) hb (ix2 i j) = I.taps (ix2 p ⟨o + j.val, by omega⟩) := by
  refine (row_bcast _ hb (by omega) i j).trans ((extractStridedSlice_apply ![q, 0] _ h (ix2 0 j) (ix2 p j) fun a => ?_).trans
    (congrArg I.taps (funext fun d => Fin.ext ?_)))
  · match a with
    | ⟨0, _⟩ => exact hp
    | ⟨1, _⟩ => exact (Nat.zero_add _).symm
  · match d with
    | ⟨0, _⟩ => show 0 + 1 * p.val = p.val; omega
    | ⟨1, _⟩ => show o + 1 * j.val = o + j.val; omega

section

variable (L : List (View.Piece (Elt Ideal) S264x2560 .f32)) (hL : View.PiecesOf I.winOf L) (o p : ℕ) (ho : o + 512 ≤ 2560) (inb inb')
  (hk : I.kept o p inb inb' ∈ L) (h0 : I.front ∈ L) (i8 i7 i6 i5 it ib io)

include hL ho hk h0

theorem conv_apply (i : Fin 256) (j : Fin 512) :
    k0_pay1 (I.tap o it) (In.shift L 8 o i8) (In.shift L 7 o i7) (In.shift L 6 o i6) (In.shift L 5 o i5) (k0_pay40 (I.tap o it))
        (View.ld I.bias (Rect.unit ![0, o] S1x512.size ib)) (ix2 i j)
      = I.conv i ⟨o + j.val, by omega⟩ := by
  unfold k0_pay1 k0_pay40
  refine congrArg₂ (fun a b : EReal => a + b) (congrArg₂ (fun a b : EReal => a + b) (congrArg₂ (fun a b : EReal => a + b)
    (congrArg₂ (fun a b : EReal => a + b)
      (congrArg₂ (fun a b : EReal => a * b) (tap_apply I o ho it 3 3 rfl _ _ i j) (shift_apply I L hL o p ho inb inb' hk h0 8 (by omega) i8 i j))
      (congrArg₂ (fun a b : EReal => a * b) (tap_apply I o ho it 2 2 rfl _ _ i j) (shift_apply I L hL o p ho inb inb' hk h0 7 (by omega) i7 i j)))
      (congrArg₂ (fun a b : EReal => a * b) (tap_apply I o ho it 1 1 rfl _ _ i j) (shift_apply I L hL o p ho inb inb' hk h0 6 (by omega) i6 i j)))
      (congrArg₂ (fun a b : EReal => a * b) (tap_apply I o ho it 0 0 rfl _ _ i j) (shift_apply I L hL o p ho inb inb' hk h0 5 (by omega) i5 i j)))
    ((row_bcast _ _ (by omega) i j).trans (congrArg I.bias (funext fun d => Fin.ext ?_)))
  match d with
  | ⟨0, _⟩ => show 0 + 1 * 0 = 0; omega
  | ⟨1, _⟩ => show o + 1 * j.val = o + j.val; omega

theorem sig_apply (i : Fin 256) (j : Fin 512) :
    k0_pay2 (I.tap o it) (In.shift L 8 o i8) (In.shift L 7 o i7) (In.shift L 6 o i6) (In.shift L 5 o i5) (k0_pay40 (I.tap o it))
        (View.ld I.bias (Rect.unit ![0, o] S1x512.size ib)) (ix2 i j)
      = sgm (I.conv i ⟨o + j.val, by omega⟩) := by
  unfold k0_pay2
  exact congrArg (fun a : EReal => half * (Ideal.tanh (half * a) + one)) (conv_apply I L hL o p ho inb inb' hk h0 i8 i7 i6 i5 it ib i j)

theorem xbc_piece : ∀ x, (I.xbc L o i8 i7 i6 i5 it ib io).2 x
    = (fun y : S256x2560.Idx => silu (I.conv (y 0) (y 1))) ((I.xbc L o i8 i7 i6 i5 it ib io).1.emb x) := fun x => by
  have ex : x = ix2 (x 0) (x 1) := pair _ _ rfl rfl
  refine (congrArg (I.xbc L o i8 i7 i6 i5 it ib io).2 ex).trans ?_
  refine (congrArg₂ (fun a b : EReal => a * b) (conv_apply I L hL o p ho inb inb' hk h0 i8 i7 i6 i5 it ib (x 0) (x 1))
    (sig_apply I L hL o p ho inb inb' hk h0 i8 i7 i6 i5 it ib (x 0) (x 1))).trans ?_
  refine congrArg silu (congrArg₂ I.conv (Fin.ext ?_) (Fin.ext ?_))
  · show (x 0).val = 0 + 1 * (x 0).val; omega
  · show o + (x 1).val = o + 1 * (x 1).val; omega

theorem dsilu_piece : ∀ x, (I.dsilu L o i8 i7 i6 i5 it ib io).2 x
    = (fun y : S256x2560.Idx => slope (I.conv (y 0) (y 1))) ((I.dsilu L o i8 i7 i6 i5 it ib io).1.emb x) := fun x => by
  have ex : x = ix2 (x 0) (x 1) := pair _ _ rfl rfl
  refine (congrArg (I.dsilu L o i8 i7 i6 i5 it ib io).2 ex).trans ?_
  refine (congrArg₂ (fun a b : EReal => b * (one + a * (one - b))) (conv_apply I L hL o p ho inb inb' hk h0 i8 i7 i6 i5 it ib (x 0) (x 1))
    (sig_apply I L hL o p ho inb inb' hk h0 i8 i7 i6 i5 it ib (x 0) (x 1))).trans ?_
  refine congrArg slope (congrArg₂ I.conv (Fin.ext ?_) (Fin.ext ?_))
  · show (x 0).val = 0 + 1 * (x 0).val; omega
  · show o + (x 1).val = o + 1 * (x 1).val; omega

end

theorem front0 : I.front ∈ I.rows0 := List.mem_cons_self
theorem front1 : I.front ∈ I.rows1 := List.mem_cons_of_mem _ (front0 I)
theorem front2 : I.front ∈ I.rows2 := List.mem_cons_of_mem _ (front1 I)
theorem front3 : I.front ∈ I.rows3 := List.mem_cons_of_mem _ (front2 I)
theorem front4 : I.front ∈ I.rows4 := List.mem_cons_of_mem _ (front3 I)
theorem front5 : I.front ∈ I.rows5 := List.mem_cons_of_mem _ (front4 I)

theorem xbcs_eq : View.canon (xbcs I) = fun y => silu (I.conv (y 0) (y 1)) := by
  have h : View.PiecesOf (fun y : S256x2560.Idx => silu (I.conv (y 0) (y 1))) (xbcs I) :=
    ⟨xbc_piece I _ (rows5_of I) 2048 3584 (by omega) _ _ List.mem_cons_self (front5 I) _ _ _ _ _ _ _,
      xbc_piece I _ (rows4_of I) 1536 3072 (by omega) _ _ List.mem_cons_self (front4 I) _ _ _ _ _ _ _,
      xbc_piece I _ (rows3_of I) 1024 2560 (by omega) _ _ List.mem_cons_self (front3 I) _ _ _ _ _ _ _,
      xbc_piece I _ (rows2_of I) 512 2048 (by omega) _ _ List.mem_cons_self (front2 I) _ _ _ _ _ _ _,
      xbc_piece I _ (rows1_of I) 0 1536 (by omega) _ _ List.mem_cons_self (front1 I) _ _ _ _ _ _ _, trivial⟩
  exact funext fun y => View.canon_apply_of_pieces (fun y : S256x2560.Idx => silu (I.conv (y 0) (y 1))) (xbcs I) h.mem y
    (View.cover_of_tiledL (xbcs I) ![256, 512] rfl y)

theorem dsilus_eq : View.canon (dsilus I) = fun y => slope (I.conv (y 0) (y 1)) := by
  have h : View.PiecesOf (fun y : S256x2560.Idx => slope (I.conv (y 0) (y 1))) (dsilus I) :=
    ⟨dsilu_piece I _ (rows5_of I) 2048 3584 (by omega) _ _ List.mem_cons_self (front5 I) _ _ _ _ _ _ _,
      dsilu_piece I _ (rows4_of I) 1536 3072 (by omega) _ _ List.mem_cons_self (front4 I) _ _ _ _ _ _ _,
      dsilu_piece I _ (rows3_of I) 1024 2560 (by omega) _ _ List.mem_cons_self (front3 I) _ _ _ _ _ _ _,
      dsilu_piece I _ (rows2_of I) 512 2048 (by omega) _ _ List.mem_cons_self (front2 I) _ _ _ _ _ _ _,
      dsilu_piece I _ (rows1_of I) 0 1536 (by omega) _ _ List.mem_cons_self (front1 I) _ _ _ _ _ _ _, trivial⟩
  exact funext fun y => View.canon_apply_of_pieces (fun y : S256x2560.Idx => slope (I.conv (y 0) (y 1))) (dsilus I) h.mem y
    (View.cover_of_tiledL (dsilus I) ![256, 512] rfl y)

end Cert.Conv

end
-- ==== Proof.Conv.Contents.lean ====
/- What the points of `_proj_conv_fwd`'s grid hold: the same lists of stores at each, the rows in front being zeros at the first
   block of a sequence and the last rows of the block before at any other. -/
module

public import proofs.«01_k».proof.Proof.Conv.Block
public import proofs.«01_k».proof.Proof.Gen.ProjConvIdeal.Value

@[expose] public section

set_option maxRecDepth 16384

noncomputable section

namespace Cert.Conv

open Idealize.ShloMosaic Idealize.ShloMosaic.ValueIdx Idealize.ShloMosaic.TcCoe
open Cert.ProjConvIdeal Cert.ProjConvIdeal.Gen Cert.Mlp

variable {F : FTy → Type} [FloatOps F] (m : (ℓ : Loc nD τ sig) → Buf (Elt F) ℓ) (c : Dev nD) (t : Fin cfg0.N)

/-- What the point before left. -/
def before := outsAt0 m c (t.val - 1) (Nat.lt_of_le_of_lt (Nat.sub_le _ _) t.isLt)

/-- The rows in front of a block. -/
def headAt : Vec F S8x2560 .f32 :=
  if t.val % 16 = 0 then k0_pay5 else k0_pay6 (View.ld (before m c t).2.2.2.2.2.2.2 (Rect.unit (s := S264x2560) ![256, 0] S8x2560.size inb_S264x2560_S8x2560_256_0))

/-- What a block reads. -/
def inAt : In F := ⟨iblk m c 0 t, iblk m c 1 t, iblk m c 2 t, iblk m c 3 t, V m c main_v6, headAt m c t⟩

/-- What a block leaves. -/
def left (I : In F) : Vec F S256x1536 .f32 × Vec F S256x2560 .f32 × Vec F S256x2560 .f32 × Vec F S256x2560 .f32 × Vec F S256x128 .f32
    × Vec F S256x512 .f32 × Vec F S4736x1024 .bf16 × Vec F S264x2560 .f32 :=
  (View.canon (zs I), View.canon (pres I), View.canon (xbcs I), View.canon (dsilus I), View.canon (dts I), View.canon (us I), I.w,
    View.canon I.rows5)

/-! ## A case's contents -/

section

variable (c : Dev nD) (i : grid0.Coords) (arg1 : Memref sig .tc .vmem S256x1024 .f32) (harg1 : arg1.IsWhole) (arg2 : Memref sig .tc .vmem
  S1x6x1024 .f32) (harg2 : arg2.IsWhole) (arg4 : Memref sig .tc .vmem S4x2560 .f32) (harg4 : arg4.IsWhole) (arg5 : Memref sig .tc
  .vmem S1x2560 .f32) (harg5 : arg5.IsWhole) (arg6 : Memref sig .tc .vmem S256x1536 .f32) (harg6 : arg6.IsWhole) (arg7 : Memref sig
  .tc .vmem S256x2560 .f32) (harg7 : arg7.IsWhole) (arg8 : Memref sig .tc .vmem S256x2560 .f32) (harg8 : arg8.IsWhole) (arg9 :
  Memref sig .tc .vmem S256x2560 .f32) (harg9 : arg9.IsWhole) (arg10 : Memref sig .tc .vmem S256x128 .f32) (harg10 : arg10.IsWhole)
  (arg11 : Memref sig .tc .vmem S256x512 .f32) (harg11 : arg11.IsWhole) (arg12 : Memref sig .tc .vmem S4736x1024 .bf16) (harg12 :
  arg12.IsWhole) (arg13 : Memref sig .tc .vmem S264x2560 .f32) (harg13 : arg13.IsWhole)
  (x0 : Vec F S256x1024 .f32) (x1 : Vec F S1x6x1024 .f32) (x2 : Vec F S4x2560 .f32) (x3 : Vec F S1x2560 .f32) (xs0 : Vec F S4736x1024 .bf16)
  (xs1 : Vec F S264x2560 .f32) (fh0 : HbBuf0 (F := F) c hbM0_0)

theorem out0_A_4_eq (hc0 : cond0_0 i) (hc1 : cond0_1 i) (hc2 : ¬cond0_2 i) :
    out0_A_4 c i arg1 harg1 arg2 harg2 arg4 harg4 arg5 harg5 arg6 harg6 arg7 harg7 arg8 harg8 arg9 harg9 arg10 harg10 arg11 harg11 arg12 harg12 arg13 harg13 hc0 hc1 hc2 x0 x1 x2 x3 fh0
      = View.canon (zs (⟨x0, x1, x2, x3, fh0,
        k0_pay5⟩ : In F)) := by
  unfold out0_A_4
  rw [View.read_writes_junk_eq_canon, (stores_A c i arg1 harg1 arg2 harg2 arg4 harg4 arg5 harg5 arg6 harg6 arg7 harg7 arg8 harg8 arg9 harg9 arg10 harg10 arg11 harg11 arg12 harg12 arg13 harg13
    x0 x1 x2 x3 fh0 hc0 hc1 hc2 _ rfl).1.1]

theorem out0_A_5_eq (hc0 : cond0_0 i) (hc1 : cond0_1 i) (hc2 : ¬cond0_2 i) :
    out0_A_5 c i arg1 harg1 arg2 harg2 arg4 harg4 arg5 harg5 arg6 harg6 arg7 harg7 arg8 harg8 arg9 harg9 arg10 harg10 arg11 harg11 arg12 harg12 arg13 harg13 hc0 hc1 hc2 x0 x1 x2 x3 fh0
      = View.canon (pres (⟨x0, x1, x2, x3, fh0,
        k0_pay5⟩ : In F)) := by
  unfold out0_A_5
  rw [View.read_writes_junk_eq_canon, (stores_A c i arg1 harg1 arg2 harg2 arg4 harg4 arg5 harg5 arg6 harg6 arg7 harg7 arg8 harg8 arg9 harg9 arg10 harg10 arg11 harg11 arg12 harg12 arg13 harg13
    x0 x1 x2 x3 fh0 hc0 hc1 hc2 _ rfl).1.2.1]

theorem out0_A_6_eq (hc0 : cond0_0 i) (hc1 : cond0_1 i) (hc2 : ¬cond0_2 i) :
    out0_A_6 c i arg1 harg1 arg2 harg2 arg4 harg4 arg5 harg5 arg6 harg6 arg7 harg7 arg8 harg8 arg9 harg9 arg10 harg10 arg11 harg11 arg12 harg12 arg13 harg13 hc0 hc1 hc2 x0 x1 x2 x3 fh0
      = View.canon (xbcs (⟨x0, x1, x2, x3, fh0,
        k0_pay5⟩ : In F)) := by
  unfold out0_A_6
  rw [View.read_writes_junk_eq_canon, (stores_A c i arg1 harg1 arg2 harg2 arg4 harg4 arg5 harg5 arg6 harg6 arg7 harg7 arg8 harg8 arg9 harg9 arg10 harg10 arg11 harg11 arg12 harg12 arg13 harg13
    x0 x1 x2 x3 fh0 hc0 hc1 hc2 _ rfl).1.2.2.1]

theorem out0_A_7_eq (hc0 : cond0_0 i) (hc1 : cond0_1 i) (hc2 : ¬cond0_2 i) :
    out0_A_7 c i arg1 harg1 arg2 harg2 arg4 harg4 arg5 harg5 arg6 harg6 arg7 harg7 arg8 harg8 arg9 harg9 arg10 harg10 arg11 harg11 arg12 harg12 arg13 harg13 hc0 hc1 hc2 x0 x1 x2 x3 fh0
      = View.canon (dsilus (⟨x0, x1, x2, x3, fh0,
        k0_pay5⟩ : In F)) := by
  unfold out0_A_7
  rw [View.read_writes_junk_eq_canon, (stores_A c i arg1 harg1 arg2 harg2 arg4 harg4 arg5 harg5 arg6 harg6 arg7 harg7 arg8 harg8 arg9 harg9 arg10 harg10 arg11 harg11 arg12 harg12 arg13 harg13
    x0 x1 x2 x3 fh0 hc0 hc1 hc2 _ rfl).1.2.2.2.1]

theorem out0_A_8_eq (hc0 : cond0_0 i) (hc1 : cond0_1 i) (hc2 : ¬cond0_2 i) :
    out0_A_8 c i arg1 harg1 arg2 harg2 arg4 harg4 arg5 harg5 arg6 harg6 arg7 harg7 arg8 harg8 arg9 harg9 arg10 harg10 arg11 harg11 arg12 harg12 arg13 harg13 hc0 hc1 hc2 x0 x1 x2 x3 fh0
      = View.canon (dts (⟨x0, x1, x2, x3, fh0,
        k0_pay5⟩ : In F)) := by
  unfold out0_A_8
  rw [View.read_writes_junk_eq_canon, (stores_A c i arg1 harg1 arg2 harg2 arg4 harg4 arg5 harg5 arg6 harg6 arg7 harg7 arg8 harg8 arg9 harg9 arg10 harg10 arg11 harg11 arg12 harg12 arg13 harg13
    x0 x1 x2 x3 fh0 hc0 hc1 hc2 _ rfl).1.2.2.2.2.1]

theorem out0_A_9_eq (hc0 : cond0_0 i) (hc1 : cond0_1 i) (hc2 : ¬cond0_2 i) :
    out0_A_9 c i arg1 harg1 arg2 harg2 arg4 harg4 arg5 harg5 arg6 harg6 arg7 harg7 arg8 harg8 arg9 harg9 arg10 harg10 arg11 harg11 arg12 harg12 arg13 harg13 hc0 hc1 hc2 x0 x1 x2 x3 fh0
      = View.canon (us (⟨x0, x1, x2, x3, fh0,
        k0_pay5⟩ : In F)) := by
  unfold out0_A_9
  rw [View.read_writes_junk_eq_canon, (stores_A c i arg1 harg1 arg2 harg2 arg4 harg4 arg5 harg5 arg6 harg6 arg7 harg7 arg8 harg8 arg9 harg9 arg10 harg10 arg11 harg11 arg12 harg12 arg13 harg13
    x0 x1 x2 x3 fh0 hc0 hc1 hc2 _ rfl).1.2.2.2.2.2.1]

theorem sout0_A_1_eq (hc0 : cond0_0 i) (hc1 : cond0_1 i) (hc2 : ¬cond0_2 i) :
    sout0_A_1 c i arg1 harg1 arg2 harg2 arg4 harg4 arg5 harg5 arg6 harg6 arg7 harg7 arg8 harg8 arg9 harg9 arg10 harg10 arg11 harg11 arg12 harg12 arg13 harg13 hc0 hc1 hc2 x0 x1 x2 x3 fh0
      = View.canon (In.rows5 (⟨x0, x1, x2, x3, fh0,
        k0_pay5⟩ : In F)) := by
  unfold sout0_A_1
  rw [View.read_writes_junk_eq_canon, (stores_A c i arg1 harg1 arg2 harg2 arg4 harg4 arg5 harg5 arg6 harg6 arg7 harg7 arg8 harg8 arg9 harg9 arg10 harg10 arg11 harg11 arg12 harg12 arg13 harg13
    x0 x1 x2 x3 fh0 hc0 hc1 hc2 _ rfl).1.2.2.2.2.2.2]

theorem sout0_A_0_eq (hc0 : cond0_0 i) (hc1 : cond0_1 i) (hc2 : ¬cond0_2 i) :
    sout0_A_0 c i arg1 harg1 arg2 harg2 arg4 harg4 arg5 harg5 arg6 harg6 arg7 harg7 arg8 harg8 arg9 harg9 arg10 harg10 arg11 harg11 arg12 harg12 arg13 harg13 hc0 hc1 hc2 x0 x1 x2 x3 fh0
      = fh0 := by
  unfold sout0_A_0
  rw [View.read_writes_junk_eq_canon, (stores_A c i arg1 harg1 arg2 harg2 arg4 harg4 arg5 harg5 arg6 harg6 arg7 harg7 arg8 harg8 arg9 harg9 arg10 harg10 arg11 harg11 arg12 harg12 arg13 harg13
    x0 x1 x2 x3 fh0 hc0 hc1 hc2 _ rfl).2, canon_weights]

theorem out0_C_4_eq (hc0 : ¬cond0_0 i) (hc1 : cond0_1 i) (hc2 : ¬cond0_2 i) :
    out0_C_4 c i arg1 harg1 arg2 harg2 arg4 harg4 arg5 harg5 arg6 harg6 arg7 harg7 arg8 harg8 arg9 harg9 arg10 harg10 arg11 harg11 arg12 harg12 arg13 harg13 hc0 hc1 hc2 x0 x1 x2 x3 xs0 fh0
      = View.canon (zs (⟨x0, x1, x2, x3, xs0,
        k0_pay5⟩ : In F)) := by
  unfold out0_C_4
  rw [View.read_writes_junk_eq_canon, (stores_C c i arg1 harg1 arg2 harg2 arg4 harg4 arg5 harg5 arg6 harg6 arg7 harg7 arg8 harg8 arg9 harg9 arg10 harg10 arg11 harg11 arg12 harg12 arg13 harg13
    x0 x1 x2 x3 xs0 fh0 hc0 hc1 hc2 _ rfl).1]

theorem out0_C_5_eq (hc0 : ¬cond0_0 i) (hc1 : cond0_1 i) (hc2 : ¬cond0_2 i) :
    out0_C_5 c i arg1 harg1 arg2 harg2 arg4 harg4 arg5 harg5 arg6 harg6 arg7 harg7 arg8 harg8 arg9 harg9 arg10 harg10 arg11 harg11 arg12 harg12 arg13 harg13 hc0 hc1 hc2 x0 x1 x2 x3 xs0 fh0
      = View.canon (pres (⟨x0, x1, x2, x3, xs0,
        k0_pay5⟩ : In F)) := by
  unfold out0_C_5
  rw [View.read_writes_junk_eq_canon, (stores_C c i arg1 harg1 arg2 harg2 arg4 harg4 arg5 harg5 arg6 harg6 arg7 harg7 arg8 harg8 arg9 harg9 arg10 harg10 arg11 harg11 arg12 harg12 arg13 harg13
    x0 x1 x2 x3 xs0 fh0 hc0 hc1 hc2 _ rfl).2.1]

theorem out0_C_6_eq (hc0 : ¬cond0_0 i) (hc1 : cond0_1 i) (hc2 : ¬cond0_2 i) :
    out0_C_6 c i arg1 harg1 arg2 harg2 arg4 harg4 arg5 harg5 arg6 harg6 arg7 harg7 arg8 harg8 arg9 harg9 arg10 harg10 arg11 harg11 arg12 harg12 arg13 harg13 hc0 hc1 hc2 x0 x1 x2 x3 xs0 fh0
      = View.canon (xbcs (⟨x0, x1, x2, x3, xs0,
        k0_pay5⟩ : In F)) := by
  unfold out0_C_6
  rw [View.read_writes_junk_eq_canon, (stores_C c i arg1 harg1 arg2 harg2 arg4 harg4 arg5 harg5 arg6 harg6 arg7 harg7 arg8 harg8 arg9 harg9 arg10 harg10 arg11 harg11 arg12 harg12 arg13 harg13
    x0 x1 x2 x3 xs0 fh0 hc0 hc1 hc2 _ rfl).2.2.1]

theorem out0_C_7_eq (hc0 : ¬cond0_0 i) (hc1 : cond0_1 i) (hc2 : ¬cond0_2 i) :
    out0_C_7 c i arg1 harg1 arg2 harg2 arg4 harg4 arg5 harg5 arg6 harg6 arg7 harg7 arg8 harg8 arg9 harg9 arg10 harg10 arg11 harg11 arg12 harg12 arg13 harg13 hc0 hc1 hc2 x0 x1 x2 x3 xs0 fh0
      = View.canon (dsilus (⟨x0, x1, x2, x3, xs0,
        k0_pay5⟩ : In F)) := by
  unfold out0_C_7
  rw [View.read_writes_junk_eq_canon, (stores_C c i arg1 harg1 arg2 harg2 arg4 harg4 arg5 harg5 arg6 harg6 arg7 harg7 arg8 harg8 arg9 harg9 arg10 harg10 arg11 harg11 arg12 harg12 arg13 harg13
    x0 x1 x2 x3 xs0 fh0 hc0 hc1 hc2 _ rfl).2.2.2.1]

theorem out0_C_8_eq (hc0 : ¬cond0_0 i) (hc1 : cond0_1 i) (hc2 : ¬cond0_2 i) :
    out0_C_8 c i arg1 harg1 arg2 harg2 arg4 harg4 arg5 harg5 arg6 harg6 arg7 harg7 arg8 harg8 arg9 harg9 arg10 harg10 arg11 harg11 arg12 harg12 arg13 harg13 hc0 hc1 hc2 x0 x1 x2 x3 xs0 fh0
      = View.canon (dts (⟨x0, x1, x2, x3, xs0,
        k0_pay5⟩ : In F)) := by
  unfold out0_C_8
  rw [View.read_writes_junk_eq_canon, (stores_C c i arg1 harg1 arg2 harg2 arg4 harg4 arg5 harg5 arg6 harg6 arg7 harg7 arg8 harg8 arg9 harg9 arg10 harg10 arg11 harg11 arg12 harg12 arg13 harg13
    x0 x1 x2 x3 xs0 fh0 hc0 hc1 hc2 _ rfl).2.2.2.2.1]

theorem out0_C_9_eq (hc0 : ¬cond0_0 i) (hc1 : cond0_1 i) (hc2 : ¬cond0_2 i) :
    out0_C_9 c i arg1 harg1 arg2 harg2 arg4 harg4 arg5 harg5 arg6 harg6 arg7 harg7 arg8 harg8 arg9 harg9 arg10 harg10 arg11 harg11 arg12 harg12 arg13 harg13 hc0 hc1 hc2 x0 x1 x2 x3 xs0 fh0
      = View.canon (us (⟨x0, x1, x2, x3, xs0,
        k0_pay5⟩ : In F)) := by
  unfold out0_C_9
  rw [View.read_writes_junk_eq_canon, (stores_C c i arg1 harg1 arg2 harg2 arg4 harg4 arg5 harg5 arg6 harg6 arg7 harg7 arg8 harg8 arg9 harg9 arg10 harg10 arg11 harg11 arg12 harg12 arg13 harg13
    x0 x1 x2 x3 xs0 fh0 hc0 hc1 hc2 _ rfl).2.2.2.2.2.1]

theorem sout0_C_1_eq (hc0 : ¬cond0_0 i) (hc1 : cond0_1 i) (hc2 : ¬cond0_2 i) :
    sout0_C_1 c i arg1 harg1 arg2 harg2 arg4 harg4 arg5 harg5 arg6 harg6 arg7 harg7 arg8 harg8 arg9 harg9 arg10 harg10 arg11 harg11 arg12 harg12 arg13 harg13 hc0 hc1 hc2 x0 x1 x2 x3 xs0 fh0
      = View.canon (In.rows5 (⟨x0, x1, x2, x3, xs0,
        k0_pay5⟩ : In F)) := by
  unfold sout0_C_1
  rw [View.read_writes_junk_eq_canon, (stores_C c i arg1 harg1 arg2 harg2 arg4 harg4 arg5 harg5 arg6 harg6 arg7 harg7 arg8 harg8 arg9 harg9 arg10 harg10 arg11 harg11 arg12 harg12 arg13 harg13
    x0 x1 x2 x3 xs0 fh0 hc0 hc1 hc2 _ rfl).2.2.2.2.2.2]

theorem out0_B_4_eq (hc0 : ¬cond0_0 i) (hc1 : ¬cond0_1 i) (hc2 : cond0_2 i) :
    out0_B_4 c i arg1 harg1 arg2 harg2 arg4 harg4 arg5 harg5 arg6 harg6 arg7 harg7 arg8 harg8 arg9 harg9 arg10 harg10 arg11 harg11 arg12 harg12 arg13 harg13 hc0 hc1 hc2 x0 x1 x2 x3 xs0 xs1 fh0
      = View.canon (zs (⟨x0, x1, x2, x3, xs0,
        k0_pay6 (View.ld xs1 (Rect.unit (s := S264x2560) ![256, 0] S8x2560.size inb_S264x2560_S8x2560_256_0))⟩ : In F)) := by
  unfold out0_B_4
  rw [View.read_writes_junk_eq_canon, (stores_B c i arg1 harg1 arg2 harg2 arg4 harg4 arg5 harg5 arg6 harg6 arg7 harg7 arg8 harg8 arg9 harg9 arg10 harg10 arg11 harg11 arg12 harg12 arg13 harg13
    x0 x1 x2 x3 xs0 xs1 fh0 hc0 hc1 hc2 _ rfl).1]

theorem out0_B_5_eq (hc0 : ¬cond0_0 i) (hc1 : ¬cond0_1 i) (hc2 : cond0_2 i) :
    out0_B_5 c i arg1 harg1 arg2 harg2 arg4 harg4 arg5 harg5 arg6 harg6 arg7 harg7 arg8 harg8 arg9 harg9 arg10 harg10 arg11 harg11 arg12 harg12 arg13 harg13 hc0 hc1 hc2 x0 x1 x2 x3 xs0 xs1 fh0
      = View.canon (pres (⟨x0, x1, x2, x3, xs0,
        k0_pay6 (View.ld xs1 (Rect.unit (s := S264x2560) ![256, 0] S8x2560.size inb_S264x2560_S8x2560_256_0))⟩ : In F)) := by
  unfold out0_B_5
  rw [View.read_writes_junk_eq_canon, (stores_B c i arg1 harg1 arg2 harg2 arg4 harg4 arg5 harg5 arg6 harg6 arg7 harg7 arg8 harg8 arg9 harg9 arg10 harg10 arg11 harg11 arg12 harg12 arg13 harg13
    x0 x1 x2 x3 xs0 xs1 fh0 hc0 hc1 hc2 _ rfl).2.1]

theorem out0_B_6_eq (hc0 : ¬cond0_0 i) (hc1 : ¬cond0_1 i) (hc2 : cond0_2 i) :
    out0_B_6 c i arg1 harg1 arg2 harg2 arg4 harg4 arg5 harg5 arg6 harg6 arg7 harg7 arg8 harg8 arg9 harg9 arg10 harg10 arg11 harg11 arg12 harg12 arg13 harg13 hc0 hc1 hc2 x0 x1 x2 x3 xs0 xs1 fh0
      = View.canon (xbcs (⟨x0, x1, x2, x3, xs0,
        k0_pay6 (View.ld xs1 (Rect.unit (s := S264x2560) ![256, 0] S8x2560.size inb_S264x2560_S8x2560_256_0))⟩ : In F)) := by
  unfold out0_B_6
  rw [View.read_writes_junk_eq_canon, (stores_B c i arg1 harg1 arg2 harg2 arg4 harg4 arg5 harg5 arg6 harg6 arg7 harg7 arg8 harg8 arg9 harg9 arg10 harg10 arg11 harg11 arg12 harg12 arg13 harg13
    x0 x1 x2 x3 xs0 xs1 fh0 hc0 hc1 hc2 _ rfl).2.2.1]

theorem out0_B_7_eq (hc0 : ¬cond0_0 i) (hc1 : ¬cond0_1 i) (hc2 : cond0_2 i) :
    out0_B_7 c i arg1 harg1 arg2 harg2 arg4 harg4 arg5 harg5 arg6 harg6 arg7 harg7 arg8 harg8 arg9 harg9 arg10 harg10 arg11 harg11 arg12 harg12 arg13 harg13 hc0 hc1 hc2 x0 x1 x2 x3 xs0 xs1 fh0
      = View.canon (dsilus (⟨x0, x1, x2, x3, xs0,
        k0_pay6 (View.ld xs1 (Rect.unit (s := S264x2560) ![256, 0] S8x2560.size inb_S264x2560_S8x2560_256_0))⟩ : In F)) := by
  unfold out0_B_7
  rw [View.read_writes_junk_eq_canon, (stores_B c i arg1 harg1 arg2 harg2 arg4 harg4 arg5 harg5 arg6 harg6 arg7 harg7 arg8 harg8 arg9 harg9 arg10 harg10 arg11 harg11 arg12 harg12 arg13 harg13
    x0 x1 x2 x3 xs0 xs1 fh0 hc0 hc1 hc2 _ rfl).2.2.2.1]

theorem out0_B_8_eq (hc0 : ¬cond0_0 i) (hc1 : ¬cond0_1 i) (hc2 : cond0_2 i) :
    out0_B_8 c i arg1 harg1 arg2 harg2 arg4 harg4 arg5 harg5 arg6 harg6 arg7 harg7 arg8 harg8 arg9 harg9 arg10 harg10 arg11 harg11 arg12 harg12 arg13 harg13 hc0 hc1 hc2 x0 x1 x2 x3 xs0 xs1 fh0
      = View.canon (dts (⟨x0, x1, x2, x3, xs0,
        k0_pay6 (View.ld xs1 (Rect.unit (s := S264x2560) ![256, 0] S8x2560.size inb_S264x2560_S8x2560_256_0))⟩ : In F)) := by
  unfold out0_B_8
  rw [View.read_writes_junk_eq_canon, (stores_B c i arg1 harg1 arg2 harg2 arg4 harg4 arg5 harg5 arg6 harg6 arg7 harg7 arg8 harg8 arg9 harg9 arg10 harg10 arg11 harg11 arg12 harg12 arg13 harg13
    x0 x1 x2 x3 xs0 xs1 fh0 hc0 hc1 hc2 _ rfl).2.2.2.2.1]

theorem out0_B_9_eq (hc0 : ¬cond0_0 i) (hc1 : ¬cond0_1 i) (hc2 : cond0_2 i) :
    out0_B_9 c i arg1 harg1 arg2 harg2 arg4 harg4 arg5 harg5 arg6 harg6 arg7 harg7 arg8 harg8 arg9 harg9 arg10 harg10 arg11 harg11 arg12 harg12 arg13 harg13 hc0 hc1 hc2 x0 x1 x2 x3 xs0 xs1 fh0
      = View.canon (us (⟨x0, x1, x2, x3, xs0,
        k0_pay6 (View.ld xs1 (Rect.unit (s := S264x2560) ![256, 0] S8x2560.size inb_S264x2560_S8x2560_256_0))⟩ : In F)) := by
  unfold out0_B_9
  rw [View.read_writes_junk_eq_canon, (stores_B c i arg1 harg1 arg2 harg2 arg4 harg4 arg5 harg5 arg6 harg6 arg7 harg7 arg8 harg8 arg9 harg9 arg10 harg10 arg11 harg11 arg12 harg12 arg13 harg13
    x0 x1 x2 x3 xs0 xs1 fh0 hc0 hc1 hc2 _ rfl).2.2.2.2.2.1]

theorem sout0_B_1_eq (hc0 : ¬cond0_0 i) (hc1 : ¬cond0_1 i) (hc2 : cond0_2 i) :
    sout0_B_1 c i arg1 harg1 arg2 harg2 arg4 harg4 arg5 harg5 arg6 harg6 arg7 harg7 arg8 harg8 arg9 harg9 arg10 harg10 arg11 harg11 arg12 harg12 arg13 harg13 hc0 hc1 hc2 x0 x1 x2 x3 xs0 xs1 fh0
      = View.canon (In.rows5 (⟨x0, x1, x2, x3, xs0,
        k0_pay6 (View.ld xs1 (Rect.unit (s := S264x2560) ![256, 0] S8x2560.size inb_S264x2560_S8x2560_256_0))⟩ : In F)) := by
  unfold sout0_B_1
  rw [View.read_writes_junk_eq_canon, (stores_B c i arg1 harg1 arg2 harg2 arg4 harg4 arg5 harg5 arg6 harg6 arg7 harg7 arg8 harg8 arg9 harg9 arg10 harg10 arg11 harg11 arg12 harg12 arg13 harg13
    x0 x1 x2 x3 xs0 xs1 fh0 hc0 hc1 hc2 _ rfl).2.2.2.2.2.2]

end

/-! ## A point's -/

theorem left_A (h0 : t.val % 32 = 0) (h1 : t.val % 16 = 0) (h2 : ¬¬(t.val % 16 = 0)) :
    outsAt0 m c t.val t.isLt = left (inAt m c t) := by
  have hh : headAt m c t = k0_pay5 := if_pos h1
  unfold inAt
  rw [hh]
  rw [outsAt0_A m c t h0 h1 h2, out0_A_4_eq, out0_A_5_eq, out0_A_6_eq, out0_A_7_eq, out0_A_8_eq, out0_A_9_eq, sout0_A_0_eq, sout0_A_1_eq]
  rfl

theorem left_C (h0 : ¬t.val % 32 = 0) (h1 : t.val % 16 = 0) (h2 : ¬¬(t.val % 16 = 0))
    (hw : (before m c t).2.2.2.2.2.2.1 = V m c main_v6) :
    outsAt0 m c t.val t.isLt = left (inAt m c t) := by
  have hh : headAt m c t = k0_pay5 := if_pos h1
  unfold inAt
  rw [hh, ← hw]
  rw [outsAt0_C m c t h0 h1 h2, out0_C_4_eq, out0_C_5_eq, out0_C_6_eq, out0_C_7_eq, out0_C_8_eq, out0_C_9_eq, sout0_C_1_eq]
  rfl

theorem left_B (h0 : ¬t.val % 32 = 0) (h1 : ¬t.val % 16 = 0) (h2 : ¬(t.val % 16 = 0))
    (hw : (before m c t).2.2.2.2.2.2.1 = V m c main_v6) :
    outsAt0 m c t.val t.isLt = left (inAt m c t) := by
  have hh : headAt m c t = k0_pay6 (View.ld (before m c t).2.2.2.2.2.2.2 (Rect.unit (s := S264x2560) ![256, 0] S8x2560.size
    inb_S264x2560_S8x2560_256_0)) := if_neg h1
  unfold inAt
  rw [hh, ← hw]
  rw [outsAt0_B m c t h0 h1 h2, out0_B_4_eq, out0_B_5_eq, out0_B_6_eq, out0_B_7_eq, out0_B_8_eq, out0_B_9_eq, sout0_B_1_eq]
  rfl

/-- The weights stay what the first block copied. -/
theorem weights : ∀ (n : ℕ) (hn : n < cfg0.N), (outsAt0 m c n hn).2.2.2.2.2.2.1 = V m c main_v6 := fun n => by
  induction n with
  | zero => exact fun hn => congrArg (fun l => l.2.2.2.2.2.2.1) (left_A m c ⟨0, hn⟩ rfl rfl (not_not.mpr rfl))
  | succ n ih =>
    intro hn
    by_cases h0 : (n + 1) % 32 = 0
    · exact congrArg (fun l => l.2.2.2.2.2.2.1) (left_A m c ⟨n + 1, hn⟩ h0 (by show (n + 1) % 16 = 0; omega) (by show ¬¬(n + 1) % 16 = 0; omega))
    · by_cases h1 : (n + 1) % 16 = 0
      · exact congrArg (fun l => l.2.2.2.2.2.2.1) (left_C m c ⟨n + 1, hn⟩ h0 h1 (not_not.mpr h1) (ih _))
      · exact congrArg (fun l => l.2.2.2.2.2.2.1) (left_B m c ⟨n + 1, hn⟩ h0 h1 h1 (ih _))

theorem left_eq : outsAt0 m c t.val t.isLt = left (inAt m c t) := by
  by_cases h0 : t.val % 32 = 0
  · exact left_A m c t h0 (by omega) (by omega)
  · by_cases h1 : t.val % 16 = 0
    · exact left_C m c t h0 h1 (not_not.mpr h1) (weights m c _ _)
    · exact left_B m c t h0 h1 h1 (weights m c _ _)

end Cert.Conv

end
-- ==== Proof.Conv.Forward.lean ====
/- The arrays of `_proj_conv_fwd`: at every row they hold the row mathematics of the arguments. -/
module

public import proofs.«01_k».proof.Proof.Conv.Contents
public import Idealize.ShloMosaic.Lib.StableHlo.Run

@[expose] public section

set_option maxRecDepth 16384

noncomputable section

namespace Cert.Conv.Forward

open Idealize.ShloMosaic Idealize.ShloMosaic.ValueIdx Idealize.ShloMosaic.TcCoe Idealize.SL.Sem
open Idealize.ShloMosaic.Pipeline (Dat)
open Cert.ProjConvIdeal Cert.ProjConvIdeal.Gen Cert.ProjConvIdeal.Value
open Cert.Mlp Cert.Conv
open scoped BigOperators

/-! ## A point's blocks are rows of the arguments -/

section

variable {F : FTy → Type} [FloatOps F] (m : (ℓ : Loc nD τ sig) → Buf (Elt F) ℓ) (c : Dev nD)

theorem V_x : V m c main_v7 = shapeCast S8192x1024 (m ((c : Thread nD τ).loc main_arg0) : FVec F S2x4096x1024 .f32) shapeCasts_S2x4096x1024_S8192x1024 := by
  show StableHlo.after hostOps0 _ (Proc.devRef .tc main_v7) = _
  after_results
  rfl

theorem V_mod : V m c main_v0 = shapeCast S2x6x1024 (m ((c : Thread nD τ).loc main_arg1) : FVec F S2x6144 .f32) shapeCasts_S2x6144_S2x6x1024 := by
  show StableHlo.after hostOps0 _ (Proc.devRef .tc main_v0) = _
  after_results
  rfl

/-- The weights, a row for a column. -/
abbrev turned (w : FVec F S1024x4632 .f32) : FVec F S4632x1024 .bf16 :=
  truncf .bf16 (transpose S4632x1024 [1, 0] w transposes_S1024x4632_S4632x1024_1_0) bitsLt_bf16_f32

theorem V_w : V m c main_v6 = concatenate S4736x1024 0
    [⟨S4120x1024, extractStridedSlice S4120x1024 ![0, 0] (turned (m ((c : Thread nD τ).loc main_arg2) : FVec F S1024x4632 .f32)) slices_S4632x1024_S4120x1024_0_0⟩,
      ⟨S104x1024, broadcastInDim S104x1024 ![] bcast_S_S104x1024 (constant S_ .bf16 0x0000#16 : FVec F S_ .bf16)⟩,
      ⟨S512x1024, extractStridedSlice S512x1024 ![4120, 0] (turned (m ((c : Thread nD τ).loc main_arg2) : FVec F S1024x4632 .f32)) slices_S4632x1024_S512x1024_4120_0⟩]
    concatenates_S4120x1024_S104x1024_S512x1024_S4736x1024_d0 := by
  show StableHlo.after hostOps0 _ (Proc.devRef .tc main_v6) = _
  after_results
  rfl

end

variable (m : (ℓ : Loc nD τ sig) → Buf (Elt Ideal) ℓ) (c : Dev nD)

/-- The device's arguments. -/
def args : Args where
  x := m ((c : Thread nD τ).loc main_arg0)
  mod := m ((c : Thread nD τ).loc main_arg1)
  w := m ((c : Thread nD τ).loc main_arg2)
  taps := m ((c : Thread nD τ).loc main_arg3)
  bias := m ((c : Thread nD τ).loc main_arg4)

theorem index_facts : ∀ t : Fin cfg0.N, (win0_0.index t (0 : Fin 2) = t.val ∧ win0_0.index t (1 : Fin 2) = 0)
    ∧ (win0_1.index t (0 : Fin 3) = t.val / 16 ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

theorem turned_apply (q : Fin 4632) (k : Fin 1024) : turned (args m c).w (ix2 q k) = (args m c).w (ix2 k q) :=
  transpose_apply _ _ _ _ (ix2 k q) fun d => by
    match d with
    | ⟨0, _⟩ => rfl
    | ⟨1, _⟩ => rfl

theorem w_apply (r : Fin 4736) (k : Fin 1024) : (V m c main_v6 : FVec Ideal S4736x1024 .bf16) (ix2 r k) = (args m c).padded k r := by
  rw [V_w]
  unfold Args.padded
  split
  · rename_i h
    refine (concatenate_apply_piece (t := S4736x1024) 0 _ _ (ix2 r k) 0 (by show 0 < 3; decide) S4120x1024 _ rfl rfl 0 rfl
      (ix2 (⟨r.val, h⟩ : Fin 4120) k) (fun d hd => ?_) (by show 0 + r.val = r.val; omega)).trans
      ((extractStridedSlice_apply _ _ _ _ (ix2 (⟨r.val, by omega⟩ : Fin 4632) k) fun a => ?_).trans (turned_apply m c _ k))
    · match d with
      | ⟨0, _⟩ => exact absurd rfl hd
      | ⟨1, _⟩ => rfl
    · match a with
      | ⟨0, _⟩ => show r.val = 0 + r.val; omega
      | ⟨1, _⟩ => show k.val = 0 + k.val; omega
  · rename_i h
    split
    · rename_i h'
      refine (concatenate_apply_piece (t := S4736x1024) 0 _ _ (ix2 r k) 1 (by show 1 < 3; decide) S104x1024 _ rfl rfl 4120 rfl
        (ix2 (⟨r.val - 4120, by omega⟩ : Fin 104) k) (fun d hd => ?_) (by show 4120 + (r.val - 4120) = r.val; omega)).trans
        ((broadcastInDim_apply _ _ _ _ (Shape.Idx.first (by decide)) fun a => a.elim0).trans Ideal.ofBits_zero_bf16)
      match d with
      | ⟨0, _⟩ => exact absurd rfl hd
      | ⟨1, _⟩ => rfl
    · rename_i h'
      refine (concatenate_apply_piece (t := S4736x1024) 0 _ _ (ix2 r k) 2 (by show 2 < 3; decide) S512x1024 _ rfl rfl 4224 rfl
        (ix2 (⟨r.val - 4224, by omega⟩ : Fin 512) k) (fun d hd => ?_) (by show 4224 + (r.val - 4224) = r.val; omega)).trans
        ((extractStridedSlice_apply _ _ _ _ (ix2 (⟨r.val - 104, by omega⟩ : Fin 4632) k) fun a => ?_).trans (turned_apply m c _ k))
      · match d with
        | ⟨0, _⟩ => exact absurd rfl hd
        | ⟨1, _⟩ => rfl
      · match a with
        | ⟨0, _⟩ => show r.val - 104 = 4120 + (r.val - 4224); omega
        | ⟨1, _⟩ => show k.val = 0 + k.val; omega

variable (t : Fin cfg0.N)

/-- The row of the whole that is row `i` of block `t`. -/
def rowIn (i : Fin 256) : Fin 8192 := ⟨256 * t.val + i.val, by have : t.val < 32 := lt_of_lt_of_eq t.isLt (show cfg0.N = 32 from N_0); omega⟩

theorem x_apply (i : Fin 256) (k : Fin 1024) : iblk m c 0 t (ix2 i k) = (args m c).x (ix3 (seq (rowIn t i)) (pos (rowIn t i)) k) := by
  obtain ⟨⟨e0, e1⟩, -⟩ := index_facts t
  show V m c main_v7 (((cfg0.win 0).blk t).view.emb (ix2 i k)) = _
  rw [V_x, show ((cfg0.win 0).blk t).view.emb (ix2 i k) = ix2 (rowIn t i) k from funext fun d => Fin.ext (match d with
    | ⟨0, _⟩ => by show win0_0.index t (0 : Fin 2) * 256 + 1 * i.val = 256 * t.val + i.val; omega
    | ⟨1, _⟩ => by show win0_0.index t (1 : Fin 2) * 1024 + 1 * k.val = k.val; omega)]
  exact rows_apply (args m c).x _ (rowIn t i) k

theorem mod_apply (q : Fin 6) (i : Fin 256) (k : Fin 1024) :
    iblk m c 1 t (ix3 0 q k) = (args m c).mod (ix2 (seq (rowIn t i)) ⟨q.val * 1024 + k.val, by omega⟩) := by
  have hN : t.val < 32 := lt_of_lt_of_eq t.isLt (show cfg0.N = 32 from N_0)
  obtain ⟨-, ⟨e0, e1, e2⟩, -⟩ := index_facts t
  show V m c main_v0 (((cfg0.win 1).blk t).view.emb (ix3 0 q k)) = _
  rw [V_mod, show ((cfg0.win 1).blk t).view.emb (ix3 0 q k) = ix3 (seq (rowIn t i)) q k from funext fun d => Fin.ext (match d with
    | ⟨0, _⟩ => by show win0_1.index t (0 : Fin 3) * 1 + 1 * 0 = (256 * t.val + i.val) / 4096; omega
    | ⟨1, _⟩ => by show win0_1.index t (1 : Fin 3) * 6 + 1 * q.val = q.val; omega
    | ⟨2, _⟩ => by show win0_1.index t (2 : Fin 3) * 1024 + 1 * k.val = k.val; omega)]
  exact shapeCast_apply (args m c).mod _ _ _ (by
    rw [Shape.rowMajor_val_three, Shape.rowMajor_val_two]
    show (seq (rowIn t i)).val * 6144 + (q.val * 1024 + k.val) = ((seq (rowIn t i)).val * 6 + q.val) * 1024 + k.val
    omega)

theorem taps_apply (q : Fin 4) (k : Fin 2560) : iblk m c 2 t (ix2 q k) = (args m c).taps (ix2 q k) := by
  obtain ⟨-, -, ⟨e0, e1⟩, -⟩ := index_facts t
  show V m c main_arg3 (((cfg0.win 2).blk t).view.emb (ix2 q k)) = _
  rw [V_main_arg3, show ((cfg0.win 2).blk t).view.emb (ix2 q k) = ix2 q k from funext fun d => Fin.ext (match d with
    | ⟨0, _⟩ => by show win0_2.index t (0 : Fin 2) * 4 + 1 * q.val = q.val; omega
    | ⟨1, _⟩ => by show win0_2.index t (1 : Fin 2) * 2560 + 1 * k.val = k.val; omega)]
  rfl

theorem bias_apply (k : Fin 2560) : iblk m c 3 t (ix2 0 k) = (args m c).bias (ix2 0 k) := by
  obtain ⟨-, -, -, ⟨e0, e1⟩, -⟩ := index_facts t
  show V m c main_arg4 (((cfg0.win 3).blk t).view.emb (ix2 0 k)) = _
  rw [V_main_arg4, show ((cfg0.win 3).blk t).view.emb (ix2 0 k) = ix2 0 k from funext fun d => Fin.ext (match d with
    | ⟨0, _⟩ => by show win0_3.index t (0 : Fin 2) * 1 + 1 * 0 = 0; omega
    | ⟨1, _⟩ => by show win0_3.index t (1 : Fin 2) * 2560 + 1 * k.val = k.val; omega)]
  rfl

theorem u_eq (i : Fin 256) (k : Fin 1024) : (inAt m c t).uAt i k = (args m c).u (rowIn t i) k :=
  congrArg₂ (fun a b : EReal => a + b) (congrArg₂ (fun a b : EReal => a * b) (x_apply m c t i k)
    (congrArg (one + ·) ((mod_apply m c t 1 i k).trans (congrArg (fun q => (args m c).mod (ix2 _ q)) (Fin.ext (by show 1 * 1024 + k.val = 1024 + k.val; omega))))))
    ((mod_apply m c t 0 i k).trans (congrArg (fun q => (args m c).mod (ix2 _ q)) (Fin.ext (by show 0 * 1024 + k.val = k.val; omega))))

theorem proj_eq (i : Fin 256) (r : Fin 4736) : (inAt m c t).proj i r = (args m c).proj (rowIn t i) r :=
  Finset.sum_congr rfl fun k _ => congrArg₂ (fun a b : EReal => a * b) (u_eq m c t i k) (w_apply m c r k)

/-- A row of the projection the convolution reads. -/
theorem pre_eq (i : Fin 256) (k : Fin 2560) (R : Fin 8192) (hR : rowIn t i = R) :
    (inAt m c t).proj i ⟨1536 + k.val, by omega⟩ = (args m c).col R (1536 + k.val) (by omega) := by
  subst hR
  exact (proj_eq m c t i _).trans ((args m c).proj_first _ (1536 + k.val) (by omega))

/-- The row `j` back, in the block or in front of it. -/
theorem win_eq (i : Fin 256) (j : ℕ) (hj : j ≤ 3) (q : Fin 264) (hq : q.val + j = 8 + i.val) (k : Fin 2560) :
    (inAt m c t).win q k = (args m c).back (rowIn t i) j k := by
  have hN : t.val < 32 := lt_of_lt_of_eq t.isLt (show cfg0.N = 32 from N_0)
  have hp : (pos (rowIn t i)).val = (256 * t.val + i.val) % 4096 := rfl
  unfold In.win Args.back
  by_cases h8 : q.val < 8
  · rw [dif_pos h8]
    show headAt m c t (ix2 ⟨q.val, h8⟩ k) = _
    unfold headAt
    by_cases h0 : t.val % 16 = 0
    · rw [if_pos h0, if_pos (by omega)]
      unfold k0_pay5
      exact (congrFun (shapeCast_self _ _) _).trans Ideal.ofBits_zero_f32
    · rw [if_neg h0, if_neg (by omega)]
      unfold k0_pay6 before
      have ht : t.val - 1 < cfg0.N := Nat.lt_of_le_of_lt (Nat.sub_le _ _) t.isLt
      rw [shapeCast_self, show outsAt0 m c (t.val - 1) ht = left (inAt m c ⟨t.val - 1, ht⟩) from left_eq m c ⟨t.val - 1, ht⟩]
      unfold left
      dsimp only
      rw [rows5_eq]
      show (inAt m c ⟨t.val - 1, ht⟩).win _ _ = _
      unfold In.win
      rw [dif_neg (by show ¬ 256 + 1 * q.val < 8; omega)]
      refine (congrArg₂ (inAt m c ⟨t.val - 1, ht⟩).proj (Fin.ext ?_) (Fin.ext ?_)).trans
        (pre_eq m c ⟨t.val - 1, ht⟩ (⟨248 + q.val, by omega⟩ : Fin 256) k _ (Fin.ext ?_))
      · show 256 + 1 * q.val - 8 = 248 + q.val; omega
      · show 1536 + (0 + 1 * k.val) = 1536 + k.val; omega
      · show 256 * (t.val - 1) + (248 + q.val) = 256 * t.val + i.val - j; omega
  · rw [dif_neg h8, if_neg (by omega)]
    exact pre_eq m c t (⟨q.val - 8, by omega⟩ : Fin 256) k _ (Fin.ext (by show 256 * t.val + (q.val - 8) = 256 * t.val + i.val - j; omega))

theorem conv_eq (i : Fin 256) (k : Fin 2560) : (inAt m c t).conv i k = (args m c).conv (rowIn t i) k := by
  have tap : ∀ (q : Fin 4) (j : ℕ) (hj : j ≤ 3) (n : Fin 264), n.val + j = 8 + i.val →
      (inAt m c t).taps (ix2 q k) * (inAt m c t).win n k = (args m c).taps (ix2 q k) * (args m c).back (rowIn t i) j k :=
    fun q j hj n hn => congrArg₂ (fun a b : EReal => a * b) (taps_apply m c t q k) (win_eq m c t i j hj n hn k)
  unfold In.conv Args.conv
  rw [tap 3 0 (by omega) ⟨8 + i.val, by omega⟩ (by show 8 + i.val + 0 = 8 + i.val; omega),
    tap 2 1 (by omega) ⟨7 + i.val, by omega⟩ (by show 7 + i.val + 1 = 8 + i.val; omega),
    tap 1 2 (by omega) ⟨6 + i.val, by omega⟩ (by show 6 + i.val + 2 = 8 + i.val; omega),
    tap 0 3 (by omega) ⟨5 + i.val, by omega⟩ (by show 5 + i.val + 3 = 8 + i.val; omega)]
  exact congrArg (_ + ·) (bias_apply m c t k)

/-! ## The whole arrays -/

/-- A block of rows at an entry is the array's block there. -/
theorem block_rows {n : ℕ} (B : Shape.Idx ⟨2, ![256, n]⟩ → EReal) (G : Shape.Idx ⟨2, ![8192, n]⟩ → EReal)
    (hB : ∀ i j, B (ix2 i j) = G (ix2 (rowIn t i) j)) (z : Shape.Idx ⟨2, ![256, n]⟩) (y : Shape.Idx ⟨2, ![8192, n]⟩)
    (h0 : (y 0).val = 256 * t.val + (z 0).val) (h1 : (y 1).val = (z 1).val) : B z = G y := by
  have ez : z = ix2 (z 0) (z 1) := pair _ _ rfl rfl
  have ey : y = ix2 (rowIn t (z 0)) (z 1) := pair _ _ (Fin.ext h0) (Fin.ext h1)
  exact (congrArg B ez).trans ((hB (z 0) (z 1)).trans (congrArg G ey.symm))

theorem final_z : (dats m 0 c).arrAt 4 cfg0.N = (args m c).z := by
  refine (dats m 0 c).arrAt_eq_of_covers 4 _ (by decide +kernel) fun t hf y => ?_
  obtain ⟨-, -, -, -, ⟨e0, e1⟩, -⟩ := index_facts t
  blk_simp
  rw [after0_4, left_eq]
  unfold left
  dsimp only
  rw [zs_eq]
  exact block_rows t _ (args m c).z (fun i j => (proj_eq m c t i _).trans ((args m c).proj_first (rowIn t i) j.val (by omega))) y _
    (by show win0_4.index t (0 : Fin 2) * 256 + 1 * (y 0).val = 256 * t.val + (y 0).val; omega)
    (by show win0_4.index t (1 : Fin 2) * 1536 + 1 * (y 1).val = (y 1).val; omega)

theorem final_pre : (dats m 0 c).arrAt 5 cfg0.N = (args m c).pre := by
  refine (dats m 0 c).arrAt_eq_of_covers 5 _ (by decide +kernel) fun t hf y => ?_
  obtain ⟨-, -, -, -, -, ⟨e0, e1⟩, -⟩ := index_facts t
  blk_simp
  rw [after0_5, left_eq]
  unfold left
  dsimp only
  rw [pres_eq]
  exact block_rows t _ (args m c).pre (fun i j => pre_eq m c t i j _ rfl) y _
    (by show win0_5.index t (0 : Fin 2) * 256 + 1 * (y 0).val = 256 * t.val + (y 0).val; omega)
    (by show win0_5.index t (1 : Fin 2) * 2560 + 1 * (y 1).val = (y 1).val; omega)

theorem final_xbc : (dats m 0 c).arrAt 6 cfg0.N = (args m c).xbc := by
  refine (dats m 0 c).arrAt_eq_of_covers 6 _ (by decide +kernel) fun t hf y => ?_
  obtain ⟨-, -, -, -, -, -, ⟨e0, e1⟩, -⟩ := index_facts t
  blk_simp
  rw [after0_6, left_eq]
  unfold left
  dsimp only
  rw [xbcs_eq]
  exact block_rows t (fun z : S256x2560.Idx => silu ((inAt m c t).conv (z 0) (z 1))) (args m c).xbc (fun i j => congrArg silu (conv_eq m c t i j)) y _
    (by show win0_6.index t (0 : Fin 2) * 256 + 1 * (y 0).val = 256 * t.val + (y 0).val; omega)
    (by show win0_6.index t (1 : Fin 2) * 2560 + 1 * (y 1).val = (y 1).val; omega)

theorem final_dsilu : (dats m 0 c).arrAt 7 cfg0.N = (args m c).dsilu := by
  refine (dats m 0 c).arrAt_eq_of_covers 7 _ (by decide +kernel) fun t hf y => ?_
  obtain ⟨-, -, -, -, -, -, -, ⟨e0, e1⟩, -⟩ := index_facts t
  blk_simp
  rw [after0_7, left_eq]
  unfold left
  dsimp only
  rw [dsilus_eq]
  exact block_rows t (fun z : S256x2560.Idx => slope ((inAt m c t).conv (z 0) (z 1))) (args m c).dsilu (fun i j => congrArg slope (conv_eq m c t i j)) y _
    (by show win0_7.index t (0 : Fin 2) * 256 + 1 * (y 0).val = 256 * t.val + (y 0).val; omega)
    (by show win0_7.index t (1 : Fin 2) * 2560 + 1 * (y 1).val = (y 1).val; omega)

theorem dt_eq (i : Fin 256) (j : Fin 128) : (inAt m c t).dtOf (ix2 i j) = (args m c).dt (ix2 (rowIn t i) j) := by
  refine (proj_eq m c t i _).trans ?_
  show (args m c).proj (rowIn t i) ⟨4096 + j.val, _⟩ = dite (j.val < 24) _ _
  split
  · rename_i h
    exact (args m c).proj_first (rowIn t i) (4096 + j.val) (by omega)
  · rename_i h
    exact (args m c).proj_pad (rowIn t i) (4096 + j.val) (by omega) (by omega)

theorem final_dt : (dats m 0 c).arrAt 8 cfg0.N = (args m c).dt := by
  refine (dats m 0 c).arrAt_eq_of_covers 8 _ (by decide +kernel) fun t hf y => ?_
  obtain ⟨-, -, -, -, -, -, -, -, ⟨e0, e1⟩, -⟩ := index_facts t
  blk_simp
  rw [after0_8, left_eq]
  unfold left
  dsimp only
  rw [dts_eq]
  exact block_rows t _ (args m c).dt (dt_eq m c t) y _
    (by show win0_8.index t (0 : Fin 2) * 256 + 1 * (y 0).val = 256 * t.val + (y 0).val; omega)
    (by show win0_8.index t (1 : Fin 2) * 128 + 1 * (y 1).val = (y 1).val; omega)

theorem u5_eq (i : Fin 256) (j : Fin 512) : (inAt m c t).u5Of (ix2 i j) = (args m c).u5 (ix2 (rowIn t i) j) :=
  (proj_eq m c t i _).trans ((congrArg ((args m c).proj (rowIn t i)) (Fin.ext (by show 4224 + j.val = 4120 + j.val + 104; omega))).trans
    ((args m c).proj_last (rowIn t i) (4120 + j.val) (by omega) (by omega)))

theorem final_u5 : (dats m 0 c).arrAt 9 cfg0.N = (args m c).u5 := by
  refine (dats m 0 c).arrAt_eq_of_covers 9 _ (by decide +kernel) fun t hf y => ?_
  obtain ⟨-, -, -, -, -, -, -, -, -, e0, e1⟩ := index_facts t
  blk_simp
  rw [after0_9, left_eq]
  unfold left
  dsimp only
  rw [us_eq]
  exact block_rows t _ (args m c).u5 (u5_eq m c t) y _
    (by show win0_9.index t (0 : Fin 2) * 256 + 1 * (y 0).val = 256 * t.val + (y 0).val; omega)
    (by show win0_9.index t (1 : Fin 2) * 512 + 1 * (y 1).val = (y 1).val; omega)

/-- The kernel's results, and its arguments unchanged. -/
theorem kernel_run (ρ : Dev nD → PrngReg) : θ_run (defs (F := Ideal)) (onTc (τ := τ) (main (F := Ideal))) ⟨m, fun _ => 0, ρ⟩ (fun r => ∀ c : Dev nD,
      r.2.mem ((c.tc : Thread nD τ).loc main_v8_0) = (args m c).z
      ∧ r.2.mem ((c.tc : Thread nD τ).loc main_v8_1) = (args m c).pre
      ∧ r.2.mem ((c.tc : Thread nD τ).loc main_v8_2) = (args m c).xbc
      ∧ r.2.mem ((c.tc : Thread nD τ).loc main_v8_3) = (args m c).dsilu
      ∧ r.2.mem ((c.tc : Thread nD τ).loc main_v8_4) = (args m c).dt
      ∧ r.2.mem ((c.tc : Thread nD τ).loc main_v8_5) = (args m c).u5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (final_z m c), (h c).2.1.trans (final_pre m c), (h c).2.2.1.trans (final_xbc m c),
    (h c).2.2.2.1.trans (final_dsilu m c), (h c).2.2.2.2.1.trans (final_dt m c), (h c).2.2.2.2.2.1.trans (final_u5 m c), (h c).2.2.2.2.2.2⟩)
    (run_blocks m ρ)

end Cert.Conv.Forward

end
-- ==== Proof.Conv.ForwardRef.lean ====
/- The reference of `_proj_conv_fwd` at the entries of a row: the row mathematics of the arguments. -/
module

public import proofs.«01_k».proof.Proof.Gen.ProjConvRefIdeal.Read
public import proofs.«01_k».proof.Proof.Conv.Row
public import Idealize.ShloMosaic.Lib.KernelVsHost

@[expose] public section

set_option maxRecDepth 16384

noncomputable section

namespace Cert.Conv.ForwardRef

open Idealize.ShloMosaic Idealize.ShloMosaic.ValueIdx Idealize.ShloMosaic.TcCoe Idealize.SL.Sem
open Cert.ProjConvRefIdeal Cert.ProjConvRefIdeal.Gen Cert.ProjConvRefIdeal.Read
open Cert.Mlp Cert.Conv
open scoped BigOperators

variable (A : Args) (R : Fin 8192)

abbrev pre := val_main_v15 (F := Ideal) A.x A.mod A.w
abbrev conv := val_main_v50 (F := Ideal) A.x A.mod A.w A.taps A.bias

theorem u_apply (k : Fin 1024) : val_main_v12 (F := Ideal) A.x A.mod (ix3 (seq R) (pos R) k) = A.u R k := by
  rw [val_main_v12_apply, val_main_v10_apply, val_main_v9_apply, val_main_v8_apply, val_main_v2_apply, val_main_v11_apply, val_main_v1_apply,
    val_main_v0_apply, val_main_v0_apply]
  exact congrArg₂ (fun a b : EReal => a + b)
    (congrArg (fun a : EReal => A.x (ix3 (seq R) (pos R) k) * (one + a)) (congrArg A.mod (pair _ _ rfl rfl)))
    (congrArg A.mod (pair _ _ rfl rfl))

theorem col_apply (r : Fin 4632) : val_main_v13 (F := Ideal) A.x A.mod A.w (ix3 (seq R) (pos R) r) = A.col R r.val r.isLt := by
  rw [val_main_v13_apply]
  exact Finset.sum_congr rfl fun k _ => congrArg₂ (fun a b : EReal => a * b)
    ((congrArg (val_main_v12 (F := Ideal) A.x A.mod) (triple (seq R) (pos R) k rfl rfl rfl)).trans (u_apply A R k))
    (congrArg A.w (pair k r rfl rfl))

theorem z_apply (j : Fin 1536) : val_main_v14 (F := Ideal) A.x A.mod A.w (ix3 (seq R) (pos R) j) = A.col R j.val (by omega) := by
  rw [val_main_v14_apply]
  exact (congrArg (val_main_v13 (F := Ideal) A.x A.mod A.w) (triple (seq R) (pos R) ⟨j.val, by omega⟩ rfl rfl rfl)).trans (col_apply A R _)

theorem pre_apply (k : Fin 2560) : pre A (ix3 (seq R) (pos R) k) = A.col R (1536 + k.val) (by omega) := by
  rw [pre, val_main_v15_apply]
  exact (congrArg (val_main_v13 (F := Ideal) A.x A.mod A.w) (triple (seq R) (pos R) ⟨1536 + k.val, by omega⟩ rfl rfl rfl)).trans (col_apply A R _)

theorem u5_apply (j : Fin 512) : val_main_v17 (F := Ideal) A.x A.mod A.w (ix3 (seq R) (pos R) j) = A.col R (4120 + j.val) (by omega) := by
  rw [val_main_v17_apply]
  exact (congrArg (val_main_v13 (F := Ideal) A.x A.mod A.w) (triple (seq R) (pos R) ⟨4120 + j.val, by omega⟩ rfl rfl rfl)).trans (col_apply A R _)

/-! ## The padded arrays -/

theorem none0 (i) : val_main_call0_v0 (F := Ideal) i = 0 := by
  rw [val_main_call0_v0_apply]
  exact (congrArg (fun z : ℤ => ((z : ℝ) : EReal)) (show (0#32 : BitVec 32).toInt = 0 from rfl)).trans (by norm_num)

theorem none3 (i) : val_main_call3_v0 (F := Ideal) i = 0 := by
  rw [val_main_call3_v0_apply]
  exact (congrArg (fun z : ℤ => ((z : ℝ) : EReal)) (show (0#32 : BitVec 32).toInt = 0 from rfl)).trans (by norm_num)

/-- The entry `j` rows back of the projection with three rows of zeros in front. -/
theorem back_apply (j : ℕ) (hj : j ≤ 3) (P : Fin 4099) (hP : P.val + j = 3 + (pos R).val) (k : Fin 2560) :
    val_main_v18 (F := Ideal) A.x A.mod A.w (ix3 (seq R) P k) = A.back R j k := by
  have hp : (pos R).val = R.val % 4096 := rfl
  unfold val_main_v18 Args.back
  split
  · rename_i h
    exact (pad_apply_of_not_inside _ _ _ _ _ _ _ _ (1 : Fin 3) (fun hh => by
      have h3 : 3 ≤ P.val := hh.1
      omega)).trans (none0 _)
  · rename_i h
    refine (pad_apply_of_inside _ _ _ _ _ _ _ _ (ix3 (seq R) (⟨P.val - 3, by omega⟩ : Fin 4096) k) fun a => ?_).trans
      ((congrArg (pre A) (triple _ _ k (Fin.ext ?_) (Fin.ext ?_) rfl)).trans (pre_apply A ⟨R.val - j, by omega⟩ k))
    · match a with
      | ⟨0, _⟩ => show (seq R).val = 0 + (seq R).val * (0 + 1); omega
      | ⟨1, _⟩ => show P.val = 3 + (P.val - 3) * (0 + 1); omega
      | ⟨2, _⟩ => show k.val = 0 + k.val * (0 + 1); omega
    · show R.val / 4096 = (R.val - j) / 4096; omega
    · show P.val - 3 = (R.val - j) % 4096; omega

theorem dt_apply (j : Fin 128) : val_main_v54 (F := Ideal) A.x A.mod A.w (ix3 (seq R) (pos R) j) = A.dt (ix2 R j) := by
  show _ = dite (j.val < 24) _ _
  unfold val_main_v54
  split
  · rename_i h
    refine (pad_apply_of_inside _ _ _ _ _ _ _ _ (ix3 (seq R) (pos R) (⟨j.val, h⟩ : Fin 24)) fun a => ?_).trans ?_
    · match a with
      | ⟨0, _⟩ => show (seq R).val = 0 + (seq R).val * (0 + 1); omega
      | ⟨1, _⟩ => show (pos R).val = 0 + (pos R).val * (0 + 1); omega
      | ⟨2, _⟩ => show j.val = 0 + j.val * (0 + 1); omega
    · rw [val_main_v16_apply]
      exact (congrArg (val_main_v13 (F := Ideal) A.x A.mod A.w) (triple (seq R) (pos R) ⟨4096 + j.val, by omega⟩ rfl rfl rfl)).trans (col_apply A R _)
  · rename_i h
    exact (pad_apply_of_not_inside _ _ _ _ _ _ _ _ (2 : Fin 3) (fun hh => by
      have h3 : (j.val - 0) / (0 + 1) < 24 := hh.2.2
      omega)).trans (none3 _)

/-! ## The convolution and the activation -/

theorem term0 (k : Fin 2560) : val_main_v24 (F := Ideal) A.x A.mod A.w A.taps (ix3 (seq R) (pos R) k) = A.taps (ix2 0 k) * A.back R 3 k := by
  rw [val_main_v24_apply, val_main_v23_apply, val_main_v22_apply, val_main_v20_apply, val_main_v19_apply, val_main_v21_apply]
  exact congrArg₂ (fun a b : EReal => a * b) (congrArg A.taps (pair 0 k rfl (Fin.ext (Nat.mod_eq_of_lt k.isLt))))
    ((congrArg (val_main_v18 (F := Ideal) A.x A.mod A.w) (triple (seq R) ⟨(pos R).val, by omega⟩ k rfl (Fin.ext (by show (pos R).val = (pos R).val; rfl)) rfl)).trans
      (back_apply A R 3 (by omega) _ (by show (pos R).val + 3 = 3 + (pos R).val; omega) k))

theorem term1 (k : Fin 2560) : val_main_v32 (F := Ideal) A.x A.mod A.w A.taps (ix3 (seq R) (pos R) k) = A.taps (ix2 1 k) * A.back R 2 k := by
  rw [val_main_v32_apply, val_main_v31_apply, val_main_v30_apply, val_main_v28_apply, val_main_v27_apply, val_main_v29_apply]
  exact congrArg₂ (fun a b : EReal => a * b) (congrArg A.taps (pair 1 k rfl (Fin.ext (Nat.mod_eq_of_lt k.isLt))))
    ((congrArg (val_main_v18 (F := Ideal) A.x A.mod A.w) (triple (seq R) ⟨1 + (pos R).val, by omega⟩ k rfl rfl rfl)).trans
      (back_apply A R 2 (by omega) _ (by show 1 + (pos R).val + 2 = 3 + (pos R).val; omega) k))

theorem term2 (k : Fin 2560) : val_main_v39 (F := Ideal) A.x A.mod A.w A.taps (ix3 (seq R) (pos R) k) = A.taps (ix2 2 k) * A.back R 1 k := by
  rw [val_main_v39_apply, val_main_v38_apply, val_main_v37_apply, val_main_v35_apply, val_main_v34_apply, val_main_v36_apply]
  exact congrArg₂ (fun a b : EReal => a * b) (congrArg A.taps (pair 2 k rfl (Fin.ext (Nat.mod_eq_of_lt k.isLt))))
    ((congrArg (val_main_v18 (F := Ideal) A.x A.mod A.w) (triple (seq R) ⟨2 + (pos R).val, by omega⟩ k rfl rfl rfl)).trans
      (back_apply A R 1 (by omega) _ (by show 2 + (pos R).val + 1 = 3 + (pos R).val; omega) k))

theorem term3 (k : Fin 2560) : val_main_v46 (F := Ideal) A.x A.mod A.w A.taps (ix3 (seq R) (pos R) k) = A.taps (ix2 3 k) * A.back R 0 k := by
  rw [val_main_v46_apply, val_main_v45_apply, val_main_v44_apply, val_main_v42_apply, val_main_v41_apply, val_main_v43_apply]
  exact congrArg₂ (fun a b : EReal => a * b) (congrArg A.taps (pair 3 k rfl (Fin.ext (Nat.mod_eq_of_lt k.isLt))))
    ((congrArg (val_main_v18 (F := Ideal) A.x A.mod A.w) (triple (seq R) ⟨3 + (pos R).val, by omega⟩ k rfl rfl rfl)).trans
      (back_apply A R 0 (by omega) _ (by show 3 + (pos R).val + 0 = 3 + (pos R).val; omega) k))

theorem bias_apply (k : Fin 2560) : val_main_v49 (F := Ideal) A.bias (ix3 (seq R) (pos R) k) = A.bias (ix2 0 k) := by
  rw [val_main_v49_apply, val_main_v48_apply]
  exact congrArg A.bias (pair 0 k rfl rfl)

theorem conv_apply (k : Fin 2560) : conv A (ix3 (seq R) (pos R) k) = A.conv R k := by
  rw [conv, val_main_v50_apply, val_main_v47_apply, val_main_v40_apply, val_main_v33_apply, val_main_v26_apply, term0, term1, term2, term3, bias_apply]
  exact A.convR_eq R _ Ideal.ofBits_zero_f32 k

theorem sig_apply (k : Fin 2560) :
    val_main_v51_2 (F := Ideal) A.x A.mod A.w A.taps A.bias (ix3 (seq R) (pos R) k) = sigR (A.conv R k) := by
  rw [val_main_v51_2_apply, val_main_call1_v3_apply, val_main_call1_v1_apply, val_main_call1_v0_apply]
  exact congrArg sigR (conv_apply A R k)

theorem xbc_apply (k : Fin 2560) :
    val_main_v51_0 (F := Ideal) A.x A.mod A.w A.taps A.bias (ix3 (seq R) (pos R) k) = silu (A.conv R k) := by
  rw [val_main_v51_0_apply]
  exact congrArg₂ (fun a b : EReal => a * b) (conv_apply A R k) ((sig_apply A R k).trans ((sigR_eq _).trans (sgm_eq _).symm))

theorem dsilu_apply (k : Fin 2560) :
    val_main_v53 (F := Ideal) A.x A.mod A.w A.taps A.bias (ix3 (seq R) (pos R) k) = slope (A.conv R k) := by
  rw [val_main_v53_apply, val_main_call2_v1_apply, val_main_call2_v2_apply, val_main_call2_v0_apply, val_main_v51_1_apply, val_main_call1_v7_apply]
  exact (congrArg₂ (fun x s : EReal => one * s + x * one * (s * (one - s))) (conv_apply A R k) (sig_apply A R k)).trans (slope_eq _)

/-! ## The six results -/

theorem z_eq : val_main_v55 (F := Ideal) A.x A.mod A.w = A.z :=
  ext_rows fun R k => (rows_apply _ _ R k).trans (z_apply A R k)

theorem pre_eq : val_main_v56 (F := Ideal) A.x A.mod A.w = A.pre :=
  ext_rows fun R k => (rows_apply _ _ R k).trans (pre_apply A R k)

theorem xbc_eq : val_main_v57 (F := Ideal) A.x A.mod A.w A.taps A.bias = A.xbc :=
  ext_rows fun R k => (rows_apply _ _ R k).trans (xbc_apply A R k)

theorem dsilu_eq : val_main_v58 (F := Ideal) A.x A.mod A.w A.taps A.bias = A.dsilu :=
  ext_rows fun R k => (rows_apply _ _ R k).trans (dsilu_apply A R k)

theorem dt_eq : val_main_v59 (F := Ideal) A.x A.mod A.w = A.dt :=
  ext_rows fun R k => (rows_apply _ _ R k).trans (dt_apply A R k)

theorem u5_eq : val_main_v60 (F := Ideal) A.x A.mod A.w = A.u5 :=
  ext_rows fun R k => (rows_apply _ _ R k).trans (u5_apply A R k)

variable (m : (ℓ : Loc nD τ sig) → Buf (Elt Ideal) ℓ)

/-- The reference's arguments. -/
def args (c : Dev nD) : Args where
  x := m ((c.tc : Thread nD τ).loc main_arg0)
  mod := m ((c.tc : Thread nD τ).loc main_arg1)
  w := m ((c.tc : Thread nD τ).loc main_arg2)
  taps := m ((c.tc : Thread nD τ).loc main_arg3)
  bias := m ((c.tc : Thread nD τ).loc main_arg4)

/-- The reference's results, and its arguments unchanged. -/
theorem reference_run (ρ : Dev nD → PrngReg) : θ_run (defs (F := Ideal)) (onTc (τ := τ) (main (F := Ideal))) ⟨m, fun _ => 0, ρ⟩ (fun r => ∀ c : Dev nD,
      r.2.mem ((c.tc : Thread nD τ).loc main_v55) = (args m c).z
      ∧ r.2.mem ((c.tc : Thread nD τ).loc main_v56) = (args m c).pre
      ∧ r.2.mem ((c.tc : Thread nD τ).loc main_v57) = (args m c).xbc
      ∧ r.2.mem ((c.tc : Thread nD τ).loc main_v58) = (args m c).dsilu
      ∧ r.2.mem ((c.tc : Thread nD τ).loc main_v59) = (args m c).dt
      ∧ r.2.mem ((c.tc : Thread nD τ).loc main_v60) = (args m c).u5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1.trans (val_main_v55_eq _ _ _)).trans (z_eq (args m c)),
      ((h c).2.1.trans (val_main_v56_eq _ _ _)).trans (pre_eq (args m c)),
      ((h c).2.2.1.trans (val_main_v57_eq m c)).trans (xbc_eq (args m c)),
      ((h c).2.2.2.1.trans (val_main_v58_eq m c)).trans (dsilu_eq (args m c)),
      ((h c).2.2.2.2.1.trans (val_main_v59_eq _ _ _)).trans (dt_eq (args m c)),
      ((h c).2.2.2.2.2.1.trans (val_main_v60_eq _ _ _)).trans (u5_eq (args m c)), (h c).2.2.2.2.2.2⟩)
    (Cert.ProjConvRefIdeal.Value.run (F := Ideal) m ρ)

end Cert.Conv.ForwardRef

end
-- ==== Proof.lean ====
/- The certificate: each product's frame from its run, and its value from the module of its name, where the kernel's
   array is shown to be the reference's. -/
module

public import proofs.«01_k».proof.Defs
public import proofs.«01_k».proof.Proof.Gen.MlpBlock
public import proofs.«01_k».proof.Proof.Gen.MlpBlockIdeal
public import proofs.«01_k».proof.Proof.Gen.MlpBlockRefIdeal
public import proofs.«01_k».proof.Proof.Gen.MlpBlockRefIdeal.Run
public import proofs.«01_k».proof.Proof.Gen.Pre_finite
public import proofs.«01_k».proof.Proof.Gen.GradDt.Frame
public import proofs.«01_k».proof.Proof.Gen.GradS5.Frame
public import proofs.«01_k».proof.Proof.Gen.GradW1.Frame
public import proofs.«01_k».proof.Proof.Gen.GradW2.Frame
public import proofs.«01_k».proof.Proof.Gen.GradWOut.Frame
public import proofs.«01_k».proof.Proof.Gen.GradXbc.Frame
public import proofs.«01_k».proof.Proof.Gen.GradZ.Frame
public import proofs.«01_k».proof.Proof.Gen.OutNorm.Frame
public import proofs.«01_k».proof.Proof.Gen.NormGrad.Frame
public import proofs.«01_k».proof.Proof.Gen.ProjConv.Frame
public import proofs.«01_k».proof.Proof.Mlp.KernelRun
public import proofs.«01_k».proof.Proof.Mlp.RefRun
public import proofs.«01_k».proof.Proof.Mlp.Finite
public import proofs.«01_k».proof.Proof.Mlp.Same
public import proofs.«01_k».proof.Proof.W2
public import proofs.«01_k».proof.Proof.W1
public import proofs.«01_k».proof.Proof.WOut
public import proofs.«01_k».proof.Proof.Z
public import proofs.«01_k».proof.Proof.Xbc
public import proofs.«01_k».proof.Proof.Dt
public import proofs.«01_k».proof.Proof.S5
public import proofs.«01_k».proof.Proof.Out.Forward
public import proofs.«01_k».proof.Proof.Out.ForwardRef
public import proofs.«01_k».proof.Proof.Out.BackRun
public import proofs.«01_k».proof.Proof.Out.BackRef
public import proofs.«01_k».proof.Proof.Out.Finite
public import proofs.«01_k».proof.Proof.Conv.Forward
public import proofs.«01_k».proof.Proof.Conv.ForwardRef
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem

theorem quiescent_MlpBlock : quiescent_MlpBlock := by
  intro m ρ _
  rw [Cert.Mlp.defs_same]
  exact Cert.Mlp.frame (F := Bits) m ρ

theorem quiescent_MlpBlockRefIdeal : quiescent_MlpBlockRefIdeal := fun m ρ _ =>
  (θ_run Cert.MlpBlockRefIdeal.defs _ _).mono
    (fun r h => ⟨fun c => (h c).2.2.2.2.2.2.2.2, sem_eq_zero_of_no_sems (by decide) r.2⟩)
    (Cert.MlpBlockRefIdeal.Value.run (F := Ideal) m ρ)

theorem algebraic_MlpBlockIdeal_MlpBlockRefIdeal_pre_finite : algebraic_MlpBlockIdeal_MlpBlockRefIdeal_pre_finite := by
  intro m ρ m' ρ' hpre hagree
  have e : ∀ c, Cert.Mlp.refArgs m' c = Cert.Mlp.args m c := fun c => by
    unfold Cert.Mlp.refArgs Cert.Mlp.args; rw [Cert.Mlp.Args.mk.injEq]; exact hagree c
  refine ⟨_, _, _, _, _, _, _, _, Cert.Mlp.kernel_run m ρ, ?_⟩
  have h := Cert.Mlp.reference_run m' ρ' (fun c R => by rw [e c]; exact (Cert.Mlp.args m c).finite (hpre c) R)
  simp only [e] at h
  exact h

theorem quiescent_GradW2RefIdeal : quiescent_GradW2RefIdeal := fun m ρ _ =>
  (θ_run Cert.GradW2RefIdeal.defs _ _).mono (fun r h => ⟨fun c => (h c).2, sem_eq_zero_of_no_sems (by decide) r.2⟩)
    (Cert.GradW2RefIdeal.Value.run (F := Ideal) m ρ)

theorem quiescent_GradW1RefIdeal : quiescent_GradW1RefIdeal := fun m ρ _ =>
  (θ_run Cert.GradW1RefIdeal.defs _ _).mono (fun r h => ⟨fun c => (h c).2, sem_eq_zero_of_no_sems (by decide) r.2⟩)
    (Cert.GradW1RefIdeal.Value.run (F := Ideal) m ρ)

theorem quiescent_GradWOutRefIdeal : quiescent_GradWOutRefIdeal := fun m ρ _ =>
  (θ_run Cert.GradWOutRefIdeal.defs _ _).mono (fun r h => ⟨fun c => (h c).2, sem_eq_zero_of_no_sems (by decide) r.2⟩)
    (Cert.GradWOutRefIdeal.Value.run (F := Ideal) m ρ)

theorem quiescent_GradZRefIdeal : quiescent_GradZRefIdeal := fun m ρ _ =>
  (θ_run Cert.GradZRefIdeal.defs _ _).mono (fun r h => ⟨fun c => (h c).2, sem_eq_zero_of_no_sems (by decide) r.2⟩)
    (Cert.GradZRefIdeal.Value.run (F := Ideal) m ρ)

theorem quiescent_GradXbcRefIdeal : quiescent_GradXbcRefIdeal := fun m ρ _ =>
  (θ_run Cert.GradXbcRefIdeal.defs _ _).mono (fun r h => ⟨fun c => (h c).2, sem_eq_zero_of_no_sems (by decide) r.2⟩)
    (Cert.GradXbcRefIdeal.Value.run (F := Ideal) m ρ)

theorem quiescent_GradDtRefIdeal : quiescent_GradDtRefIdeal := fun m ρ _ =>
  (θ_run Cert.GradDtRefIdeal.defs _ _).mono (fun r h => ⟨fun c => (h c).2, sem_eq_zero_of_no_sems (by decide) r.2⟩)
    (Cert.GradDtRefIdeal.Value.run (F := Ideal) m ρ)

theorem quiescent_GradS5RefIdeal : quiescent_GradS5RefIdeal := fun m ρ _ =>
  (θ_run Cert.GradS5RefIdeal.defs _ _).mono (fun r h => ⟨fun c => (h c).2, sem_eq_zero_of_no_sems (by decide) r.2⟩)
    (Cert.GradS5RefIdeal.Value.run (F := Ideal) m ρ)

theorem algebraic_GradW2Ideal_GradW2RefIdeal : algebraic_GradW2Ideal_GradW2RefIdeal := by
  intro m ρ m' ρ' _ hagree
  refine ⟨_, Cert.GradW2Ideal.Value.run (F := Ideal) m ρ, ?_⟩
  refine (θ_run Cert.GradW2RefIdeal.defs _ _).mono (fun _ h c => ⟨?_, (h c).2⟩) (Cert.GradW2RefIdeal.Value.run (F := Ideal) m' ρ')
  rw [(h c).1]
  simp only [hagree c]
  exact (Cert.W2.value m c _ _ rfl rfl).symm

theorem algebraic_GradW1Ideal_GradW1RefIdeal : algebraic_GradW1Ideal_GradW1RefIdeal := by
  intro m ρ m' ρ' _ hagree
  refine ⟨_, Cert.GradW1Ideal.Value.run (F := Ideal) m ρ, ?_⟩
  refine (θ_run Cert.GradW1RefIdeal.defs _ _).mono (fun _ h c => ⟨?_, (h c).2⟩) (Cert.GradW1RefIdeal.Value.run (F := Ideal) m' ρ')
  rw [(h c).1]
  simp only [hagree c]
  exact (Cert.W1.value m c _ _ rfl rfl).symm

theorem algebraic_GradWOutIdeal_GradWOutRefIdeal : algebraic_GradWOutIdeal_GradWOutRefIdeal := by
  intro m ρ m' ρ' _ hagree
  refine ⟨_, Cert.GradWOutIdeal.Value.run (F := Ideal) m ρ, ?_⟩
  refine (θ_run Cert.GradWOutRefIdeal.defs _ _).mono (fun _ h c => ⟨?_, (h c).2⟩) (Cert.GradWOutRefIdeal.Value.run (F := Ideal) m' ρ')
  rw [(h c).1]
  simp only [hagree c]
  exact (Cert.WOut.value m c _ _ rfl rfl).symm

theorem algebraic_GradZIdeal_GradZRefIdeal : algebraic_GradZIdeal_GradZRefIdeal := by
  intro m ρ m' ρ' _ hagree
  refine ⟨_, Cert.GradZIdeal.Value.run (F := Ideal) m ρ, ?_⟩
  refine (θ_run Cert.GradZRefIdeal.defs _ _).mono (fun _ h c => ⟨?_, (h c).2⟩) (Cert.GradZRefIdeal.Value.run (F := Ideal) m' ρ')
  rw [(h c).1]
  simp only [hagree c]
  exact (Cert.Z.value m c _ _ rfl rfl).symm

theorem algebraic_GradXbcIdeal_GradXbcRefIdeal : algebraic_GradXbcIdeal_GradXbcRefIdeal := by
  intro m ρ m' ρ' _ hagree
  refine ⟨_, Cert.GradXbcIdeal.Value.run (F := Ideal) m ρ, ?_⟩
  refine (θ_run Cert.GradXbcRefIdeal.defs _ _).mono (fun _ h c => ⟨?_, (h c).2⟩) (Cert.GradXbcRefIdeal.Value.run (F := Ideal) m' ρ')
  rw [(h c).1]
  simp only [hagree c]
  exact (Cert.Xbc.value m c _ _ rfl rfl).symm

theorem algebraic_GradDtIdeal_GradDtRefIdeal : algebraic_GradDtIdeal_GradDtRefIdeal := by
  intro m ρ m' ρ' _ hagree
  refine ⟨_, Cert.GradDtIdeal.Value.run (F := Ideal) m ρ, ?_⟩
  refine (θ_run Cert.GradDtRefIdeal.defs _ _).mono (fun _ h c => ⟨?_, (h c).2⟩) (Cert.GradDtRefIdeal.Value.run (F := Ideal) m' ρ')
  rw [(h c).1]
  simp only [hagree c]
  exact (Cert.Dt.value m c _ _ rfl rfl).symm

theorem algebraic_GradS5Ideal_GradS5RefIdeal : algebraic_GradS5Ideal_GradS5RefIdeal := by
  intro m ρ m' ρ' _ hagree
  refine ⟨_, Cert.GradS5Ideal.Value.run (F := Ideal) m ρ, ?_⟩
  refine (θ_run Cert.GradS5RefIdeal.defs _ _).mono (fun _ h c => ⟨?_, (h c).2⟩) (Cert.GradS5RefIdeal.Value.run (F := Ideal) m' ρ')
  rw [(h c).1]
  simp only [hagree c]
  exact (Cert.S5.value m c _ _ rfl rfl).symm

theorem quiescent_OutNormRefIdeal : quiescent_OutNormRefIdeal := fun m ρ _ =>
  (θ_run Cert.OutNormRefIdeal.defs _ _).mono (fun r h => ⟨fun c => (h c).2.2, sem_eq_zero_of_no_sems (by decide) r.2⟩)
    (Cert.OutNormRefIdeal.Value.run (F := Ideal) m ρ)

theorem quiescent_NormGradRefIdeal : quiescent_NormGradRefIdeal := fun m ρ _ =>
  (θ_run Cert.NormGradRefIdeal.defs _ _).mono (fun r h => ⟨fun c => (h c).2.2.2.2.2.2, sem_eq_zero_of_no_sems (by decide) r.2⟩)
    (Cert.NormGradRefIdeal.Value.run (F := Ideal) m ρ)

theorem algebraic_OutNormIdeal_OutNormRefIdeal : algebraic_OutNormIdeal_OutNormRefIdeal := by
  intro m ρ m' ρ' _ hagree
  have e : ∀ c, Cert.Out.ForwardRef.args m' c = Cert.Out.Forward.args m c := fun c => by
    unfold Cert.Out.ForwardRef.args Cert.Out.Forward.args; rw [Cert.Out.Args.mk.injEq]; exact hagree c
  refine ⟨_, _, Cert.Out.Forward.kernel_run m ρ, ?_⟩
  have h := Cert.Out.ForwardRef.reference_run m' ρ'
  simp only [e] at h
  exact h

theorem algebraic_NormGradIdeal_NormGradRefIdeal_pre_norm_finite : algebraic_NormGradIdeal_NormGradRefIdeal_pre_norm_finite := by
  intro m ρ m' ρ' hpre hagree
  have e : ∀ c, Cert.Out.BackRef.args m' c = Cert.Out.Back.args m c := fun c => by
    obtain ⟨h0, h1, h2, h3, h4, h5, -⟩ := hagree c
    unfold Cert.Out.BackRef.args Cert.Out.Back.args; rw [Cert.Out.Args.mk.injEq]; exact ⟨h0, h1, h2, h3, h4, h5⟩
  have eg : ∀ c, Cert.Out.BackRef.gradOf m' c = Cert.Out.Back.grad m c := fun c => (hagree c).2.2.2.2.2.2
  have er : ∀ c, (Cert.Out.Back.args m c).residSum (Cert.Out.Back.grad m c) = (Cert.Out.Back.args m c).resid (Cert.Out.Back.grad m c) := fun c =>
    Cert.Out.Args.resid_eq _ _ fun R => (Cert.Out.Back.args m c).finite (Cert.Out.Back.grad m c) (hpre c) R
  refine ⟨_, _, _, _, _, _, Cert.Out.Back.kernel_run m ρ, ?_⟩
  have h := Cert.Out.BackRef.reference_run m' ρ'
  simp only [e, eg, er] at h
  exact h

theorem quiescent_ProjConvRefIdeal : quiescent_ProjConvRefIdeal := fun m ρ _ =>
  (θ_run Cert.ProjConvRefIdeal.defs _ _).mono (fun r h => ⟨fun c => (h c).2.2.2.2.2.2, sem_eq_zero_of_no_sems (by decide) r.2⟩)
    (Cert.ProjConvRefIdeal.Value.run (F := Ideal) m ρ)

theorem algebraic_ProjConvIdeal_ProjConvRefIdeal : algebraic_ProjConvIdeal_ProjConvRefIdeal := by
  intro m ρ m' ρ' _ hagree
  have e : ∀ c, Cert.Conv.ForwardRef.args m' c = Cert.Conv.Forward.args m c := fun c => by
    unfold Cert.Conv.ForwardRef.args Cert.Conv.Forward.args; rw [Cert.Conv.Args.mk.injEq]; exact hagree c
  refine ⟨_, _, _, _, _, _, Cert.Conv.Forward.kernel_run m ρ, ?_⟩
  have h := Cert.Conv.ForwardRef.reference_run m' ρ'
  simp only [e] at h
  exact h

theorem claim : Cert.Claim := ⟨Cert.MlpBlock.Gen.facts, Cert.MlpBlockIdeal.Gen.facts, Cert.MlpBlockRefIdeal.Gen.facts, Cert.GradW2.Gen.facts, Cert.GradW2Ideal.Gen.facts, Cert.GradW2RefIdeal.Gen.facts, Cert.GradW1.Gen.facts, Cert.GradW1Ideal.Gen.facts, Cert.GradW1RefIdeal.Gen.facts, Cert.GradWOut.Gen.facts, Cert.GradWOutIdeal.Gen.facts, Cert.GradWOutRefIdeal.Gen.facts, Cert.GradZ.Gen.facts, Cert.GradZIdeal.Gen.facts, Cert.GradZRefIdeal.Gen.facts, Cert.GradXbc.Gen.facts, Cert.GradXbcIdeal.Gen.facts, Cert.GradXbcRefIdeal.Gen.facts, Cert.GradDt.Gen.facts, Cert.GradDtIdeal.Gen.facts, Cert.GradDtRefIdeal.Gen.facts, Cert.GradS5.Gen.facts, Cert.GradS5Ideal.Gen.facts, Cert.GradS5RefIdeal.Gen.facts, Cert.OutNorm.Gen.facts, Cert.OutNormIdeal.Gen.facts, Cert.OutNormRefIdeal.Gen.facts, Cert.NormGrad.Gen.facts, Cert.NormGradIdeal.Gen.facts, Cert.NormGradRefIdeal.Gen.facts, Cert.ProjConv.Gen.facts, Cert.ProjConvIdeal.Gen.facts, Cert.ProjConvRefIdeal.Gen.facts, Cert.Pre_finite.Gen.facts, Cert.Pre_norm_finite.Gen.facts,
  quiescent_MlpBlock, fun m ρ _ => Cert.Mlp.frame (F := Ideal) m ρ, fun m ρ _ => Cert.Mlp.frame (F := Ideal) m ρ, quiescent_MlpBlockRefIdeal, fun m ρ _ => quiescent_MlpBlockRefIdeal m ρ trivial, fun m ρ _ => Cert.GradW2.Gen.frame m ρ, fun m ρ _ => Cert.GradW2Ideal.Gen.frame m ρ, quiescent_GradW2RefIdeal, fun m ρ _ => Cert.GradW1.Gen.frame m ρ, fun m ρ _ => Cert.GradW1Ideal.Gen.frame m ρ, quiescent_GradW1RefIdeal, fun m ρ _ => Cert.GradWOut.Gen.frame m ρ, fun m ρ _ => Cert.GradWOutIdeal.Gen.frame m ρ, quiescent_GradWOutRefIdeal, fun m ρ _ => Cert.GradZ.Gen.frame m ρ, fun m ρ _ => Cert.GradZIdeal.Gen.frame m ρ, quiescent_GradZRefIdeal, fun m ρ _ => Cert.GradXbc.Gen.frame m ρ, fun m ρ _ => Cert.GradXbcIdeal.Gen.frame m ρ, quiescent_GradXbcRefIdeal, fun m ρ _ => Cert.GradDt.Gen.frame m ρ, fun m ρ _ => Cert.GradDtIdeal.Gen.frame m ρ, quiescent_GradDtRefIdeal, fun m ρ _ => Cert.GradS5.Gen.frame m ρ, fun m ρ _ => Cert.GradS5Ideal.Gen.frame m ρ, quiescent_GradS5RefIdeal,
  fun m ρ _ => Cert.OutNorm.Gen.frame m ρ, fun m ρ _ => Cert.OutNormIdeal.Gen.frame m ρ, quiescent_OutNormRefIdeal, fun m ρ _ => Cert.NormGrad.Gen.frame m ρ, fun m ρ _ => Cert.NormGradIdeal.Gen.frame m ρ, fun m ρ _ => Cert.NormGradIdeal.Gen.frame m ρ, quiescent_NormGradRefIdeal, fun m ρ _ => quiescent_NormGradRefIdeal m ρ trivial,
  fun m ρ _ => Cert.ProjConv.Gen.frame m ρ, fun m ρ _ => Cert.ProjConvIdeal.Gen.frame m ρ, quiescent_ProjConvRefIdeal,
  (trivial : preserves_MlpBlock_MlpBlockIdeal), algebraic_MlpBlockIdeal_MlpBlockRefIdeal_pre_finite, (trivial : preserves_GradW2_GradW2Ideal), algebraic_GradW2Ideal_GradW2RefIdeal, (trivial : preserves_GradW1_GradW1Ideal), algebraic_GradW1Ideal_GradW1RefIdeal, (trivial : preserves_GradWOut_GradWOutIdeal), algebraic_GradWOutIdeal_GradWOutRefIdeal, (trivial : preserves_GradZ_GradZIdeal), algebraic_GradZIdeal_GradZRefIdeal, (trivial : preserves_GradXbc_GradXbcIdeal), algebraic_GradXbcIdeal_GradXbcRefIdeal, (trivial : preserves_GradDt_GradDtIdeal), algebraic_GradDtIdeal_GradDtRefIdeal, (trivial : preserves_GradS5_GradS5Ideal), algebraic_GradS5Ideal_GradS5RefIdeal, (trivial : preserves_OutNorm_OutNormIdeal), algebraic_OutNormIdeal_OutNormRefIdeal, (trivial : preserves_NormGrad_NormGradIdeal), algebraic_NormGradIdeal_NormGradRefIdeal_pre_norm_finite, (trivial : preserves_ProjConv_ProjConvIdeal), algebraic_ProjConvIdeal_ProjConvRefIdeal⟩

end Cert.Proof

end
